-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDx1 (m : (ℓ : Loc Cert.KernelDx1.nD Cert.KernelDx1.τ Cert.KernelDx1.sig) → Buf (Elt Bits) ℓ) : Prop :=
  True

def Pre_KernelDx1Ideal (m : (ℓ : Loc Cert.KernelDx1Ideal.nD Cert.KernelDx1Ideal.τ Cert.KernelDx1Ideal.sig) → Buf (Elt Ideal) ℓ) : Prop :=
  True

def Pre_ReferenceDx1Ideal (m : (ℓ : Loc Cert.ReferenceDx1Ideal.nD Cert.ReferenceDx1Ideal.τ Cert.ReferenceDx1Ideal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDcat (m : (ℓ : Loc Cert.KernelDcat.nD Cert.KernelDcat.τ Cert.KernelDcat.sig) → Buf (Elt Bits) ℓ) : Prop :=
  True

def Pre_KernelDcatIdeal (m : (ℓ : Loc Cert.KernelDcatIdeal.nD Cert.KernelDcatIdeal.τ Cert.KernelDcatIdeal.sig) → Buf (Elt Ideal) ℓ) : Prop :=
  True

def Pre_ReferenceDcatIdeal (m : (ℓ : Loc Cert.ReferenceDcatIdeal.nD Cert.ReferenceDcatIdeal.τ Cert.ReferenceDcatIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDx0 (m : (ℓ : Loc Cert.KernelDx0.nD Cert.KernelDx0.τ Cert.KernelDx0.sig) → Buf (Elt Bits) ℓ) : Prop :=
  True

def Pre_KernelDx0Ideal (m : (ℓ : Loc Cert.KernelDx0Ideal.nD Cert.KernelDx0Ideal.τ Cert.KernelDx0Ideal.sig) → Buf (Elt Ideal) ℓ) : Prop :=
  True

def Pre_ReferenceDx0Ideal (m : (ℓ : Loc Cert.ReferenceDx0Ideal.nD Cert.ReferenceDx0Ideal.τ Cert.ReferenceDx0Ideal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelMmIn (m : (ℓ : Loc Cert.KernelMmIn.nD Cert.KernelMmIn.τ Cert.KernelMmIn.sig) → Buf (Elt Bits) ℓ) : Prop :=
  True

def Pre_KernelMmInIdeal (m : (ℓ : Loc Cert.KernelMmInIdeal.nD Cert.KernelMmInIdeal.τ Cert.KernelMmInIdeal.sig) → Buf (Elt Ideal) ℓ) : Prop :=
  True

def Pre_ReferenceMmInIdeal (m : (ℓ : Loc Cert.ReferenceMmInIdeal.nD Cert.ReferenceMmInIdeal.τ Cert.ReferenceMmInIdeal.sig) → Buf (Elt Ideal) ℓ) : Prop :=
  True

def Pre_KernelMmOut (m : (ℓ : Loc Cert.KernelMmOut.nD Cert.KernelMmOut.τ Cert.KernelMmOut.sig) → Buf (Elt Bits) ℓ) : Prop :=
  True

def Pre_KernelMmOutIdeal (m : (ℓ : Loc Cert.KernelMmOutIdeal.nD Cert.KernelMmOutIdeal.τ Cert.KernelMmOutIdeal.sig) → Buf (Elt Ideal) ℓ) : Prop :=
  True

def Pre_ReferenceMmOutIdeal (m : (ℓ : Loc Cert.ReferenceMmOutIdeal.nD Cert.ReferenceMmOutIdeal.τ Cert.ReferenceMmOutIdeal.sig) → Buf (Elt Ideal) ℓ) : Prop :=
  True

def Pre_KernelMmUp (m : (ℓ : Loc Cert.KernelMmUp.nD Cert.KernelMmUp.τ Cert.KernelMmUp.sig) → Buf (Elt Bits) ℓ) : Prop :=
  True

def Pre_KernelMmUpIdeal (m : (ℓ : Loc Cert.KernelMmUpIdeal.nD Cert.KernelMmUpIdeal.τ Cert.KernelMmUpIdeal.sig) → Buf (Elt Ideal) ℓ) : Prop :=
  True

def Pre_ReferenceMmUpIdeal (m : (ℓ : Loc Cert.ReferenceMmUpIdeal.nD Cert.ReferenceMmUpIdeal.τ Cert.ReferenceMmUpIdeal.sig) → Buf (Elt Ideal) ℓ) : Prop :=
  True

def Pre_KernelMmDown (m : (ℓ : Loc Cert.KernelMmDown.nD Cert.KernelMmDown.τ Cert.KernelMmDown.sig) → Buf (Elt Bits) ℓ) : Prop :=
  True

def Pre_KernelMmDownIdeal (m : (ℓ : Loc Cert.KernelMmDownIdeal.nD Cert.KernelMmDownIdeal.τ Cert.KernelMmDownIdeal.sig) → Buf (Elt Ideal) ℓ) : Prop :=
  True

def Pre_ReferenceMmDownIdeal (m : (ℓ : Loc Cert.ReferenceMmDownIdeal.nD Cert.ReferenceMmDownIdeal.τ Cert.ReferenceMmDownIdeal.sig) → Buf (Elt Ideal) ℓ) : Prop :=
  True

def Pre_KernelLnFwd (m : (ℓ : Loc Cert.KernelLnFwd.nD Cert.KernelLnFwd.τ Cert.KernelLnFwd.sig) → Buf (Elt Bits) ℓ) : Prop :=
  True

def Pre_KernelLnFwdIdeal (m : (ℓ : Loc Cert.KernelLnFwdIdeal.nD Cert.KernelLnFwdIdeal.τ Cert.KernelLnFwdIdeal.sig) → Buf (Elt Ideal) ℓ) : Prop :=
  True

def Pre_ReferenceLnFwdIdeal (m : (ℓ : Loc Cert.ReferenceLnFwdIdeal.nD Cert.ReferenceLnFwdIdeal.τ Cert.ReferenceLnFwdIdeal.sig) → Buf (Elt Ideal) ℓ) : Prop :=
  True

def Pre_KernelLnBwd (m : (ℓ : Loc Cert.KernelLnBwd.nD Cert.KernelLnBwd.τ Cert.KernelLnBwd.sig) → Buf (Elt Bits) ℓ) : Prop :=
  True

def Pre_KernelLnBwdIdeal (m : (ℓ : Loc Cert.KernelLnBwdIdeal.nD Cert.KernelLnBwdIdeal.τ Cert.KernelLnBwdIdeal.sig) → Buf (Elt Ideal) ℓ) : Prop :=
  True

def Pre_KernelLnBwdIdeal_finite_ln [hPre_finite_ln : Cert.Pre_finite_ln.Facts] (m : (ℓ : Loc Cert.KernelLnBwdIdeal.nD Cert.KernelLnBwdIdeal.τ Cert.KernelLnBwdIdeal.sig) → Buf (Elt Ideal) ℓ) : Prop :=
  ∀ c : Dev Cert.KernelLnBwdIdeal.nD,
    (Cert.Pre_finite_ln.fn (F := Ideal) (m ((c.tc : Thread Cert.KernelLnBwdIdeal.nD Cert.KernelLnBwdIdeal.τ).loc Cert.KernelLnBwdIdeal.main_arg0)) (m ((c.tc : Thread Cert.KernelLnBwdIdeal.nD Cert.KernelLnBwdIdeal.τ).loc Cert.KernelLnBwdIdeal.main_arg1)) (m ((c.tc : Thread Cert.KernelLnBwdIdeal.nD Cert.KernelLnBwdIdeal.τ).loc Cert.KernelLnBwdIdeal.main_arg2))) = (fun _ => 1#1)

def Pre_ReferenceLnBwdIdeal (m : (ℓ : Loc Cert.ReferenceLnBwdIdeal.nD Cert.ReferenceLnBwdIdeal.τ Cert.ReferenceLnBwdIdeal.sig) → Buf (Elt Ideal) ℓ) : Prop :=
  True

def Pre_ReferenceLnBwdIdeal_finite_ln [hPre_finite_ln : Cert.Pre_finite_ln.Facts] (m : (ℓ : Loc Cert.ReferenceLnBwdIdeal.nD Cert.ReferenceLnBwdIdeal.τ Cert.ReferenceLnBwdIdeal.sig) → Buf (Elt Ideal) ℓ) : Prop :=
  ∀ c : Dev Cert.ReferenceLnBwdIdeal.nD,
    (Cert.Pre_finite_ln.fn (F := Ideal) (m ((c.tc : Thread Cert.ReferenceLnBwdIdeal.nD Cert.ReferenceLnBwdIdeal.τ).loc Cert.ReferenceLnBwdIdeal.main_arg0)) (m ((c.tc : Thread Cert.ReferenceLnBwdIdeal.nD Cert.ReferenceLnBwdIdeal.τ).loc Cert.ReferenceLnBwdIdeal.main_arg1)) (m ((c.tc : Thread Cert.ReferenceLnBwdIdeal.nD Cert.ReferenceLnBwdIdeal.τ).loc Cert.ReferenceLnBwdIdeal.main_arg2))) = (fun _ => 1#1)

def Pre_KernelLossHead (m : (ℓ : Loc Cert.KernelLossHead.nD Cert.KernelLossHead.τ Cert.KernelLossHead.sig) → Buf (Elt Bits) ℓ) : Prop :=
  True

def Pre_KernelLossHeadIdeal (m : (ℓ : Loc Cert.KernelLossHeadIdeal.nD Cert.KernelLossHeadIdeal.τ Cert.KernelLossHeadIdeal.sig) → Buf (Elt Ideal) ℓ) : Prop :=
  True

def Pre_ReferenceLossHeadIdeal (m : (ℓ : Loc Cert.ReferenceLossHeadIdeal.nD Cert.ReferenceLossHeadIdeal.τ Cert.ReferenceLossHeadIdeal.sig) → Buf (Elt Ideal) ℓ) : Prop :=
  True

def Pre_KernelSumDevices (m : (ℓ : Loc Cert.KernelSumDevices.nD Cert.KernelSumDevices.τ Cert.KernelSumDevices.sig) → Buf (Elt Bits) ℓ) : Prop :=
  True

def Pre_KernelSumDevicesIdeal (m : (ℓ : Loc Cert.KernelSumDevicesIdeal.nD Cert.KernelSumDevicesIdeal.τ Cert.KernelSumDevicesIdeal.sig) → Buf (Elt Ideal) ℓ) : Prop :=
  True

def Pre_ReferenceSumDevicesIdeal (m : (ℓ : Loc Cert.ReferenceSumDevicesIdeal.nD Cert.ReferenceSumDevicesIdeal.τ Cert.ReferenceSumDevicesIdeal.sig) → Buf (Elt Ideal) ℓ) : Prop :=
  True

def Pre_KernelAdamwDown (m : (ℓ : Loc Cert.KernelAdamwDown.nD Cert.KernelAdamwDown.τ Cert.KernelAdamwDown.sig) → Buf (Elt Bits) ℓ) : Prop :=
  True

def Pre_KernelAdamwDownIdeal (m : (ℓ : Loc Cert.KernelAdamwDownIdeal.nD Cert.KernelAdamwDownIdeal.τ Cert.KernelAdamwDownIdeal.sig) → Buf (Elt Ideal) ℓ) : Prop :=
  True

def Pre_ReferenceAdamwDownIdeal (m : (ℓ : Loc Cert.ReferenceAdamwDownIdeal.nD Cert.ReferenceAdamwDownIdeal.τ Cert.ReferenceAdamwDownIdeal.sig) → Buf (Elt Ideal) ℓ) : Prop :=
  True

def Pre_KernelAdamwDownLate (m : (ℓ : Loc Cert.KernelAdamwDownLate.nD Cert.KernelAdamwDownLate.τ Cert.KernelAdamwDownLate.sig) → Buf (Elt Bits) ℓ) : Prop :=
  True

def Pre_KernelAdamwDownLateIdeal (m : (ℓ : Loc Cert.KernelAdamwDownLateIdeal.nD Cert.KernelAdamwDownLateIdeal.τ Cert.KernelAdamwDownLateIdeal.sig) → Buf (Elt Ideal) ℓ) : Prop :=
  True

def Pre_ReferenceAdamwDownLateIdeal (m : (ℓ : Loc Cert.ReferenceAdamwDownLateIdeal.nD Cert.ReferenceAdamwDownLateIdeal.τ Cert.ReferenceAdamwDownLateIdeal.sig) → Buf (Elt Ideal) ℓ) : Prop :=
  True

def Pre_KernelAdamwUp (m : (ℓ : Loc Cert.KernelAdamwUp.nD Cert.KernelAdamwUp.τ Cert.KernelAdamwUp.sig) → Buf (Elt Bits) ℓ) : Prop :=
  True

def Pre_KernelAdamwUpIdeal (m : (ℓ : Loc Cert.KernelAdamwUpIdeal.nD Cert.KernelAdamwUpIdeal.τ Cert.KernelAdamwUpIdeal.sig) → Buf (Elt Ideal) ℓ) : Prop :=
  True

def Pre_ReferenceAdamwUpIdeal (m : (ℓ : Loc Cert.ReferenceAdamwUpIdeal.nD Cert.ReferenceAdamwUpIdeal.τ Cert.ReferenceAdamwUpIdeal.sig) → Buf (Elt Ideal) ℓ) : Prop :=
  True

def Pre_KernelAdamwUpLate (m : (ℓ : Loc Cert.KernelAdamwUpLate.nD Cert.KernelAdamwUpLate.τ Cert.KernelAdamwUpLate.sig) → Buf (Elt Bits) ℓ) : Prop :=
  True

def Pre_KernelAdamwUpLateIdeal (m : (ℓ : Loc Cert.KernelAdamwUpLateIdeal.nD Cert.KernelAdamwUpLateIdeal.τ Cert.KernelAdamwUpLateIdeal.sig) → Buf (Elt Ideal) ℓ) : Prop :=
  True

def Pre_ReferenceAdamwUpLateIdeal (m : (ℓ : Loc Cert.ReferenceAdamwUpLateIdeal.nD Cert.ReferenceAdamwUpLateIdeal.τ Cert.ReferenceAdamwUpLateIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDx1 [hKernelDx1 : Cert.KernelDx1.Facts] : Prop :=
  ∀ (m : (ℓ : Loc Cert.KernelDx1.nD Cert.KernelDx1.τ Cert.KernelDx1.sig) → Buf (Elt Bits) ℓ) (g : Dev Cert.KernelDx1.nD → PrngReg), Pre_KernelDx1 m →
    θ_run (Cert.KernelDx1.defs (F := Bits)) (onTc (τ := Cert.KernelDx1.τ) (Cert.KernelDx1.main (F := Bits))) ⟨m, fun _ => 0, g⟩ (fun r => (∀ c : Dev Cert.KernelDx1.nD,
      r.2.mem ((c.tc : Thread Cert.KernelDx1.nD Cert.KernelDx1.τ).loc Cert.KernelDx1.main_arg0) = m ((c.tc : Thread Cert.KernelDx1.nD Cert.KernelDx1.τ).loc Cert.KernelDx1.main_arg0)
      ∧ r.2.mem ((c.tc : Thread Cert.KernelDx1.nD Cert.KernelDx1.τ).loc Cert.KernelDx1.main_arg1) = m ((c.tc : Thread Cert.KernelDx1.nD Cert.KernelDx1.τ).loc Cert.KernelDx1.main_arg1)
      ∧ r.2.mem ((c.tc : Thread Cert.KernelDx1.nD Cert.KernelDx1.τ).loc Cert.KernelDx1.main_arg2) = m ((c.tc : Thread Cert.KernelDx1.nD Cert.KernelDx1.τ).loc Cert.KernelDx1.main_arg2))
      ∧ r.2.sem = fun _ => 0)

def quiescent_KernelDx1Ideal [hKernelDx1Ideal : Cert.KernelDx1Ideal.Facts] : Prop :=
  ∀ (m : (ℓ : Loc Cert.KernelDx1Ideal.nD Cert.KernelDx1Ideal.τ Cert.KernelDx1Ideal.sig) → Buf (Elt Ideal) ℓ) (g : Dev Cert.KernelDx1Ideal.nD → PrngReg), Pre_KernelDx1Ideal m →
    θ_run (Cert.KernelDx1Ideal.defs (F := Ideal)) (onTc (τ := Cert.KernelDx1Ideal.τ) (Cert.KernelDx1Ideal.main (F := Ideal))) ⟨m, fun _ => 0, g⟩ (fun r => (∀ c : Dev Cert.KernelDx1Ideal.nD,
      r.2.mem ((c.tc : Thread Cert.KernelDx1Ideal.nD Cert.KernelDx1Ideal.τ).loc Cert.KernelDx1Ideal.main_arg0) = m ((c.tc : Thread Cert.KernelDx1Ideal.nD Cert.KernelDx1Ideal.τ).loc Cert.KernelDx1Ideal.main_arg0)
      ∧ r.2.mem ((c.tc : Thread Cert.KernelDx1Ideal.nD Cert.KernelDx1Ideal.τ).loc Cert.KernelDx1Ideal.main_arg1) = m ((c.tc : Thread Cert.KernelDx1Ideal.nD Cert.KernelDx1Ideal.τ).loc Cert.KernelDx1Ideal.main_arg1)
      ∧ r.2.mem ((c.tc : Thread Cert.KernelDx1Ideal.nD Cert.KernelDx1Ideal.τ).loc Cert.KernelDx1Ideal.main_arg2) = m ((c.tc : Thread Cert.KernelDx1Ideal.nD Cert.KernelDx1Ideal.τ).loc Cert.KernelDx1Ideal.main_arg2))
      ∧ r.2.sem = fun _ => 0)

def quiescent_ReferenceDx1Ideal [hReferenceDx1Ideal : Cert.ReferenceDx1Ideal.Facts] : Prop :=
  ∀ (m : (ℓ : Loc Cert.ReferenceDx1Ideal.nD Cert.ReferenceDx1Ideal.τ Cert.ReferenceDx1Ideal.sig) → Buf (Elt Ideal) ℓ) (g : Dev Cert.ReferenceDx1Ideal.nD → PrngReg), Pre_ReferenceDx1Ideal m →
    θ_run (Cert.ReferenceDx1Ideal.defs (F := Ideal)) (onTc (τ := Cert.ReferenceDx1Ideal.τ) (Cert.ReferenceDx1Ideal.main (F := Ideal))) ⟨m, fun _ => 0, g⟩ (fun r => (∀ c : Dev Cert.ReferenceDx1Ideal.nD,
      r.2.mem ((c.tc : Thread Cert.ReferenceDx1Ideal.nD Cert.ReferenceDx1Ideal.τ).loc Cert.ReferenceDx1Ideal.main_arg0) = m ((c.tc : Thread Cert.ReferenceDx1Ideal.nD Cert.ReferenceDx1Ideal.τ).loc Cert.ReferenceDx1Ideal.main_arg0)
      ∧ r.2.mem ((c.tc : Thread Cert.ReferenceDx1Ideal.nD Cert.ReferenceDx1Ideal.τ).loc Cert.ReferenceDx1Ideal.main_arg1) = m ((c.tc : Thread Cert.ReferenceDx1Ideal.nD Cert.ReferenceDx1Ideal.τ).loc Cert.ReferenceDx1Ideal.main_arg1)
      ∧ r.2.mem ((c.tc : Thread Cert.ReferenceDx1Ideal.nD Cert.ReferenceDx1Ideal.τ).loc Cert.ReferenceDx1Ideal.main_arg2) = m ((c.tc : Thread Cert.ReferenceDx1Ideal.nD Cert.ReferenceDx1Ideal.τ).loc Cert.ReferenceDx1Ideal.main_arg2))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelDcat [hKernelDcat : Cert.KernelDcat.Facts] : Prop :=
  ∀ (m : (ℓ : Loc Cert.KernelDcat.nD Cert.KernelDcat.τ Cert.KernelDcat.sig) → Buf (Elt Bits) ℓ) (g : Dev Cert.KernelDcat.nD → PrngReg), Pre_KernelDcat m →
    θ_run (Cert.KernelDcat.defs (F := Bits)) (onTc (τ := Cert.KernelDcat.τ) (Cert.KernelDcat.main (F := Bits))) ⟨m, fun _ => 0, g⟩ (fun r => (∀ c : Dev Cert.KernelDcat.nD,
      r.2.mem ((c.tc : Thread Cert.KernelDcat.nD Cert.KernelDcat.τ).loc Cert.KernelDcat.main_arg0) = m ((c.tc : Thread Cert.KernelDcat.nD Cert.KernelDcat.τ).loc Cert.KernelDcat.main_arg0)
      ∧ r.2.mem ((c.tc : Thread Cert.KernelDcat.nD Cert.KernelDcat.τ).loc Cert.KernelDcat.main_arg1) = m ((c.tc : Thread Cert.KernelDcat.nD Cert.KernelDcat.τ).loc Cert.KernelDcat.main_arg1))
      ∧ r.2.sem = fun _ => 0)

def quiescent_KernelDcatIdeal [hKernelDcatIdeal : Cert.KernelDcatIdeal.Facts] : Prop :=
  ∀ (m : (ℓ : Loc Cert.KernelDcatIdeal.nD Cert.KernelDcatIdeal.τ Cert.KernelDcatIdeal.sig) → Buf (Elt Ideal) ℓ) (g : Dev Cert.KernelDcatIdeal.nD → PrngReg), Pre_KernelDcatIdeal m →
    θ_run (Cert.KernelDcatIdeal.defs (F := Ideal)) (onTc (τ := Cert.KernelDcatIdeal.τ) (Cert.KernelDcatIdeal.main (F := Ideal))) ⟨m, fun _ => 0, g⟩ (fun r => (∀ c : Dev Cert.KernelDcatIdeal.nD,
      r.2.mem ((c.tc : Thread Cert.KernelDcatIdeal.nD Cert.KernelDcatIdeal.τ).loc Cert.KernelDcatIdeal.main_arg0) = m ((c.tc : Thread Cert.KernelDcatIdeal.nD Cert.KernelDcatIdeal.τ).loc Cert.KernelDcatIdeal.main_arg0)
      ∧ r.2.mem ((c.tc : Thread Cert.KernelDcatIdeal.nD Cert.KernelDcatIdeal.τ).loc Cert.KernelDcatIdeal.main_arg1) = m ((c.tc : Thread Cert.KernelDcatIdeal.nD Cert.KernelDcatIdeal.τ).loc Cert.KernelDcatIdeal.main_arg1))
      ∧ r.2.sem = fun _ => 0)

def quiescent_ReferenceDcatIdeal [hReferenceDcatIdeal : Cert.ReferenceDcatIdeal.Facts] : Prop :=
  ∀ (m : (ℓ : Loc Cert.ReferenceDcatIdeal.nD Cert.ReferenceDcatIdeal.τ Cert.ReferenceDcatIdeal.sig) → Buf (Elt Ideal) ℓ) (g : Dev Cert.ReferenceDcatIdeal.nD → PrngReg), Pre_ReferenceDcatIdeal m →
    θ_run (Cert.ReferenceDcatIdeal.defs (F := Ideal)) (onTc (τ := Cert.ReferenceDcatIdeal.τ) (Cert.ReferenceDcatIdeal.main (F := Ideal))) ⟨m, fun _ => 0, g⟩ (fun r => (∀ c : Dev Cert.ReferenceDcatIdeal.nD,
      r.2.mem ((c.tc : Thread Cert.ReferenceDcatIdeal.nD Cert.ReferenceDcatIdeal.τ).loc Cert.ReferenceDcatIdeal.main_arg0) = m ((c.tc : Thread Cert.ReferenceDcatIdeal.nD Cert.ReferenceDcatIdeal.τ).loc Cert.ReferenceDcatIdeal.main_arg0)
      ∧ r.2.mem ((c.tc : Thread Cert.ReferenceDcatIdeal.nD Cert.ReferenceDcatIdeal.τ).loc Cert.ReferenceDcatIdeal.main_arg1) = m ((c.tc : Thread Cert.ReferenceDcatIdeal.nD Cert.ReferenceDcatIdeal.τ).loc Cert.ReferenceDcatIdeal.main_arg1))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDx0 [hKernelDx0 : Cert.KernelDx0.Facts] : Prop :=
  ∀ (m : (ℓ : Loc Cert.KernelDx0.nD Cert.KernelDx0.τ Cert.KernelDx0.sig) → Buf (Elt Bits) ℓ) (g : Dev Cert.KernelDx0.nD → PrngReg), Pre_KernelDx0 m →
    θ_run (Cert.KernelDx0.defs (F := Bits)) (onTc (τ := Cert.KernelDx0.τ) (Cert.KernelDx0.main (F := Bits))) ⟨m, fun _ => 0, g⟩ (fun r => (∀ c : Dev Cert.KernelDx0.nD,
      r.2.mem ((c.tc : Thread Cert.KernelDx0.nD Cert.KernelDx0.τ).loc Cert.KernelDx0.main_arg0) = m ((c.tc : Thread Cert.KernelDx0.nD Cert.KernelDx0.τ).loc Cert.KernelDx0.main_arg0)
      ∧ r.2.mem ((c.tc : Thread Cert.KernelDx0.nD Cert.KernelDx0.τ).loc Cert.KernelDx0.main_arg1) = m ((c.tc : Thread Cert.KernelDx0.nD Cert.KernelDx0.τ).loc Cert.KernelDx0.main_arg1)
      ∧ r.2.mem ((c.tc : Thread Cert.KernelDx0.nD Cert.KernelDx0.τ).loc Cert.KernelDx0.main_arg2) = m ((c.tc : Thread Cert.KernelDx0.nD Cert.KernelDx0.τ).loc Cert.KernelDx0.main_arg2))
      ∧ r.2.sem = fun _ => 0)

def quiescent_KernelDx0Ideal [hKernelDx0Ideal : Cert.KernelDx0Ideal.Facts] : Prop :=
  ∀ (m : (ℓ : Loc Cert.KernelDx0Ideal.nD Cert.KernelDx0Ideal.τ Cert.KernelDx0Ideal.sig) → Buf (Elt Ideal) ℓ) (g : Dev Cert.KernelDx0Ideal.nD → PrngReg), Pre_KernelDx0Ideal m →
    θ_run (Cert.KernelDx0Ideal.defs (F := Ideal)) (onTc (τ := Cert.KernelDx0Ideal.τ) (Cert.KernelDx0Ideal.main (F := Ideal))) ⟨m, fun _ => 0, g⟩ (fun r => (∀ c : Dev Cert.KernelDx0Ideal.nD,
      r.2.mem ((c.tc : Thread Cert.KernelDx0Ideal.nD Cert.KernelDx0Ideal.τ).loc Cert.KernelDx0Ideal.main_arg0) = m ((c.tc : Thread Cert.KernelDx0Ideal.nD Cert.KernelDx0Ideal.τ).loc Cert.KernelDx0Ideal.main_arg0)
      ∧ r.2.mem ((c.tc : Thread Cert.KernelDx0Ideal.nD Cert.KernelDx0Ideal.τ).loc Cert.KernelDx0Ideal.main_arg1) = m ((c.tc : Thread Cert.KernelDx0Ideal.nD Cert.KernelDx0Ideal.τ).loc Cert.KernelDx0Ideal.main_arg1)
      ∧ r.2.mem ((c.tc : Thread Cert.KernelDx0Ideal.nD Cert.KernelDx0Ideal.τ).loc Cert.KernelDx0Ideal.main_arg2) = m ((c.tc : Thread Cert.KernelDx0Ideal.nD Cert.KernelDx0Ideal.τ).loc Cert.KernelDx0Ideal.main_arg2))
      ∧ r.2.sem = fun _ => 0)

def quiescent_ReferenceDx0Ideal [hReferenceDx0Ideal : Cert.ReferenceDx0Ideal.Facts] : Prop :=
  ∀ (m : (ℓ : Loc Cert.ReferenceDx0Ideal.nD Cert.ReferenceDx0Ideal.τ Cert.ReferenceDx0Ideal.sig) → Buf (Elt Ideal) ℓ) (g : Dev Cert.ReferenceDx0Ideal.nD → PrngReg), Pre_ReferenceDx0Ideal m →
    θ_run (Cert.ReferenceDx0Ideal.defs (F := Ideal)) (onTc (τ := Cert.ReferenceDx0Ideal.τ) (Cert.ReferenceDx0Ideal.main (F := Ideal))) ⟨m, fun _ => 0, g⟩ (fun r => (∀ c : Dev Cert.ReferenceDx0Ideal.nD,
      r.2.mem ((c.tc : Thread Cert.ReferenceDx0Ideal.nD Cert.ReferenceDx0Ideal.τ).loc Cert.ReferenceDx0Ideal.main_arg0) = m ((c.tc : Thread Cert.ReferenceDx0Ideal.nD Cert.ReferenceDx0Ideal.τ).loc Cert.ReferenceDx0Ideal.main_arg0)
      ∧ r.2.mem ((c.tc : Thread Cert.ReferenceDx0Ideal.nD Cert.ReferenceDx0Ideal.τ).loc Cert.ReferenceDx0Ideal.main_arg1) = m ((c.tc : Thread Cert.ReferenceDx0Ideal.nD Cert.ReferenceDx0Ideal.τ).loc Cert.ReferenceDx0Ideal.main_arg1)
      ∧ r.2.mem ((c.tc : Thread Cert.ReferenceDx0Ideal.nD Cert.ReferenceDx0Ideal.τ).loc Cert.ReferenceDx0Ideal.main_arg2) = m ((c.tc : Thread Cert.ReferenceDx0Ideal.nD Cert.ReferenceDx0Ideal.τ).loc Cert.ReferenceDx0Ideal.main_arg2))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelMmIn [hKernelMmIn : Cert.KernelMmIn.Facts] : Prop :=
  ∀ (m : (ℓ : Loc Cert.KernelMmIn.nD Cert.KernelMmIn.τ Cert.KernelMmIn.sig) → Buf (Elt Bits) ℓ) (g : Dev Cert.KernelMmIn.nD → PrngReg), Pre_KernelMmIn m →
    θ_run (Cert.KernelMmIn.defs (F := Bits)) (onTc (τ := Cert.KernelMmIn.τ) (Cert.KernelMmIn.main (F := Bits))) ⟨m, fun _ => 0, g⟩ (fun r => (∀ c : Dev Cert.KernelMmIn.nD,
      r.2.mem ((c.tc : Thread Cert.KernelMmIn.nD Cert.KernelMmIn.τ).loc Cert.KernelMmIn.main_arg0) = m ((c.tc : Thread Cert.KernelMmIn.nD Cert.KernelMmIn.τ).loc Cert.KernelMmIn.main_arg0)
      ∧ r.2.mem ((c.tc : Thread Cert.KernelMmIn.nD Cert.KernelMmIn.τ).loc Cert.KernelMmIn.main_arg1) = m ((c.tc : Thread Cert.KernelMmIn.nD Cert.KernelMmIn.τ).loc Cert.KernelMmIn.main_arg1))
      ∧ r.2.sem = fun _ => 0)

def quiescent_KernelMmInIdeal [hKernelMmInIdeal : Cert.KernelMmInIdeal.Facts] : Prop :=
  ∀ (m : (ℓ : Loc Cert.KernelMmInIdeal.nD Cert.KernelMmInIdeal.τ Cert.KernelMmInIdeal.sig) → Buf (Elt Ideal) ℓ) (g : Dev Cert.KernelMmInIdeal.nD → PrngReg), Pre_KernelMmInIdeal m →
    θ_run (Cert.KernelMmInIdeal.defs (F := Ideal)) (onTc (τ := Cert.KernelMmInIdeal.τ) (Cert.KernelMmInIdeal.main (F := Ideal))) ⟨m, fun _ => 0, g⟩ (fun r => (∀ c : Dev Cert.KernelMmInIdeal.nD,
      r.2.mem ((c.tc : Thread Cert.KernelMmInIdeal.nD Cert.KernelMmInIdeal.τ).loc Cert.KernelMmInIdeal.main_arg0) = m ((c.tc : Thread Cert.KernelMmInIdeal.nD Cert.KernelMmInIdeal.τ).loc Cert.KernelMmInIdeal.main_arg0)
      ∧ r.2.mem ((c.tc : Thread Cert.KernelMmInIdeal.nD Cert.KernelMmInIdeal.τ).loc Cert.KernelMmInIdeal.main_arg1) = m ((c.tc : Thread Cert.KernelMmInIdeal.nD Cert.KernelMmInIdeal.τ).loc Cert.KernelMmInIdeal.main_arg1))
      ∧ r.2.sem = fun _ => 0)

def quiescent_ReferenceMmInIdeal [hReferenceMmInIdeal : Cert.ReferenceMmInIdeal.Facts] : Prop :=
  ∀ (m : (ℓ : Loc Cert.ReferenceMmInIdeal.nD Cert.ReferenceMmInIdeal.τ Cert.ReferenceMmInIdeal.sig) → Buf (Elt Ideal) ℓ) (g : Dev Cert.ReferenceMmInIdeal.nD → PrngReg), Pre_ReferenceMmInIdeal m →
    θ_run (Cert.ReferenceMmInIdeal.defs (F := Ideal)) (onTc (τ := Cert.ReferenceMmInIdeal.τ) (Cert.ReferenceMmInIdeal.main (F := Ideal))) ⟨m, fun _ => 0, g⟩ (fun r => (∀ c : Dev Cert.ReferenceMmInIdeal.nD,
      r.2.mem ((c.tc : Thread Cert.ReferenceMmInIdeal.nD Cert.ReferenceMmInIdeal.τ).loc Cert.ReferenceMmInIdeal.main_arg0) = m ((c.tc : Thread Cert.ReferenceMmInIdeal.nD Cert.ReferenceMmInIdeal.τ).loc Cert.ReferenceMmInIdeal.main_arg0)
      ∧ r.2.mem ((c.tc : Thread Cert.ReferenceMmInIdeal.nD Cert.ReferenceMmInIdeal.τ).loc Cert.ReferenceMmInIdeal.main_arg1) = m ((c.tc : Thread Cert.ReferenceMmInIdeal.nD Cert.ReferenceMmInIdeal.τ).loc Cert.ReferenceMmInIdeal.main_arg1))
      ∧ r.2.sem = fun _ => 0)

def quiescent_KernelMmOut [hKernelMmOut : Cert.KernelMmOut.Facts] : Prop :=
  ∀ (m : (ℓ : Loc Cert.KernelMmOut.nD Cert.KernelMmOut.τ Cert.KernelMmOut.sig) → Buf (Elt Bits) ℓ) (g : Dev Cert.KernelMmOut.nD → PrngReg), Pre_KernelMmOut m →
    θ_run (Cert.KernelMmOut.defs (F := Bits)) (onTc (τ := Cert.KernelMmOut.τ) (Cert.KernelMmOut.main (F := Bits))) ⟨m, fun _ => 0, g⟩ (fun r => (∀ c : Dev Cert.KernelMmOut.nD,
      r.2.mem ((c.tc : Thread Cert.KernelMmOut.nD Cert.KernelMmOut.τ).loc Cert.KernelMmOut.main_arg0) = m ((c.tc : Thread Cert.KernelMmOut.nD Cert.KernelMmOut.τ).loc Cert.KernelMmOut.main_arg0)
      ∧ r.2.mem ((c.tc : Thread Cert.KernelMmOut.nD Cert.KernelMmOut.τ).loc Cert.KernelMmOut.main_arg1) = m ((c.tc : Thread Cert.KernelMmOut.nD Cert.KernelMmOut.τ).loc Cert.KernelMmOut.main_arg1))
      ∧ r.2.sem = fun _ => 0)

def quiescent_KernelMmOutIdeal [hKernelMmOutIdeal : Cert.KernelMmOutIdeal.Facts] : Prop :=
  ∀ (m : (ℓ : Loc Cert.KernelMmOutIdeal.nD Cert.KernelMmOutIdeal.τ Cert.KernelMmOutIdeal.sig) → Buf (Elt Ideal) ℓ) (g : Dev Cert.KernelMmOutIdeal.nD → PrngReg), Pre_KernelMmOutIdeal m →
    θ_run (Cert.KernelMmOutIdeal.defs (F := Ideal)) (onTc (τ := Cert.KernelMmOutIdeal.τ) (Cert.KernelMmOutIdeal.main (F := Ideal))) ⟨m, fun _ => 0, g⟩ (fun r => (∀ c : Dev Cert.KernelMmOutIdeal.nD,
      r.2.mem ((c.tc : Thread Cert.KernelMmOutIdeal.nD Cert.KernelMmOutIdeal.τ).loc Cert.KernelMmOutIdeal.main_arg0) = m ((c.tc : Thread Cert.KernelMmOutIdeal.nD Cert.KernelMmOutIdeal.τ).loc Cert.KernelMmOutIdeal.main_arg0)
      ∧ r.2.mem ((c.tc : Thread Cert.KernelMmOutIdeal.nD Cert.KernelMmOutIdeal.τ).loc Cert.KernelMmOutIdeal.main_arg1) = m ((c.tc : Thread Cert.KernelMmOutIdeal.nD Cert.KernelMmOutIdeal.τ).loc Cert.KernelMmOutIdeal.main_arg1))
      ∧ r.2.sem = fun _ => 0)

def quiescent_ReferenceMmOutIdeal [hReferenceMmOutIdeal : Cert.ReferenceMmOutIdeal.Facts] : Prop :=
  ∀ (m : (ℓ : Loc Cert.ReferenceMmOutIdeal.nD Cert.ReferenceMmOutIdeal.τ Cert.ReferenceMmOutIdeal.sig) → Buf (Elt Ideal) ℓ) (g : Dev Cert.ReferenceMmOutIdeal.nD → PrngReg), Pre_ReferenceMmOutIdeal m →
    θ_run (Cert.ReferenceMmOutIdeal.defs (F := Ideal)) (onTc (τ := Cert.ReferenceMmOutIdeal.τ) (Cert.ReferenceMmOutIdeal.main (F := Ideal))) ⟨m, fun _ => 0, g⟩ (fun r => (∀ c : Dev Cert.ReferenceMmOutIdeal.nD,
      r.2.mem ((c.tc : Thread Cert.ReferenceMmOutIdeal.nD Cert.ReferenceMmOutIdeal.τ).loc Cert.ReferenceMmOutIdeal.main_arg0) = m ((c.tc : Thread Cert.ReferenceMmOutIdeal.nD Cert.ReferenceMmOutIdeal.τ).loc Cert.ReferenceMmOutIdeal.main_arg0)
      ∧ r.2.mem ((c.tc : Thread Cert.ReferenceMmOutIdeal.nD Cert.ReferenceMmOutIdeal.τ).loc Cert.ReferenceMmOutIdeal.main_arg1) = m ((c.tc : Thread Cert.ReferenceMmOutIdeal.nD Cert.ReferenceMmOutIdeal.τ).loc Cert.ReferenceMmOutIdeal.main_arg1))
      ∧ r.2.sem = fun _ => 0)

def quiescent_KernelMmUp [hKernelMmUp : Cert.KernelMmUp.Facts] : Prop :=
  ∀ (m : (ℓ : Loc Cert.KernelMmUp.nD Cert.KernelMmUp.τ Cert.KernelMmUp.sig) → Buf (Elt Bits) ℓ) (g : Dev Cert.KernelMmUp.nD → PrngReg), Pre_KernelMmUp m →
    θ_run (Cert.KernelMmUp.defs (F := Bits)) (onTc (τ := Cert.KernelMmUp.τ) (Cert.KernelMmUp.main (F := Bits))) ⟨m, fun _ => 0, g⟩ (fun r => (∀ c : Dev Cert.KernelMmUp.nD,
      r.2.mem ((c.tc : Thread Cert.KernelMmUp.nD Cert.KernelMmUp.τ).loc Cert.KernelMmUp.main_arg0) = m ((c.tc : Thread Cert.KernelMmUp.nD Cert.KernelMmUp.τ).loc Cert.KernelMmUp.main_arg0)
      ∧ r.2.mem ((c.tc : Thread Cert.KernelMmUp.nD Cert.KernelMmUp.τ).loc Cert.KernelMmUp.main_arg1) = m ((c.tc : Thread Cert.KernelMmUp.nD Cert.KernelMmUp.τ).loc Cert.KernelMmUp.main_arg1))
      ∧ r.2.sem = fun _ => 0)

def quiescent_KernelMmUpIdeal [hKernelMmUpIdeal : Cert.KernelMmUpIdeal.Facts] : Prop :=
  ∀ (m : (ℓ : Loc Cert.KernelMmUpIdeal.nD Cert.KernelMmUpIdeal.τ Cert.KernelMmUpIdeal.sig) → Buf (Elt Ideal) ℓ) (g : Dev Cert.KernelMmUpIdeal.nD → PrngReg), Pre_KernelMmUpIdeal m →
    θ_run (Cert.KernelMmUpIdeal.defs (F := Ideal)) (onTc (τ := Cert.KernelMmUpIdeal.τ) (Cert.KernelMmUpIdeal.main (F := Ideal))) ⟨m, fun _ => 0, g⟩ (fun r => (∀ c : Dev Cert.KernelMmUpIdeal.nD,
      r.2.mem ((c.tc : Thread Cert.KernelMmUpIdeal.nD Cert.KernelMmUpIdeal.τ).loc Cert.KernelMmUpIdeal.main_arg0) = m ((c.tc : Thread Cert.KernelMmUpIdeal.nD Cert.KernelMmUpIdeal.τ).loc Cert.KernelMmUpIdeal.main_arg0)
      ∧ r.2.mem ((c.tc : Thread Cert.KernelMmUpIdeal.nD Cert.KernelMmUpIdeal.τ).loc Cert.KernelMmUpIdeal.main_arg1) = m ((c.tc : Thread Cert.KernelMmUpIdeal.nD Cert.KernelMmUpIdeal.τ).loc Cert.KernelMmUpIdeal.main_arg1))
      ∧ r.2.sem = fun _ => 0)

def quiescent_ReferenceMmUpIdeal [hReferenceMmUpIdeal : Cert.ReferenceMmUpIdeal.Facts] : Prop :=
  ∀ (m : (ℓ : Loc Cert.ReferenceMmUpIdeal.nD Cert.ReferenceMmUpIdeal.τ Cert.ReferenceMmUpIdeal.sig) → Buf (Elt Ideal) ℓ) (g : Dev Cert.ReferenceMmUpIdeal.nD → PrngReg), Pre_ReferenceMmUpIdeal m →
    θ_run (Cert.ReferenceMmUpIdeal.defs (F := Ideal)) (onTc (τ := Cert.ReferenceMmUpIdeal.τ) (Cert.ReferenceMmUpIdeal.main (F := Ideal))) ⟨m, fun _ => 0, g⟩ (fun r => (∀ c : Dev Cert.ReferenceMmUpIdeal.nD,
      r.2.mem ((c.tc : Thread Cert.ReferenceMmUpIdeal.nD Cert.ReferenceMmUpIdeal.τ).loc Cert.ReferenceMmUpIdeal.main_arg0) = m ((c.tc : Thread Cert.ReferenceMmUpIdeal.nD Cert.ReferenceMmUpIdeal.τ).loc Cert.ReferenceMmUpIdeal.main_arg0)
      ∧ r.2.mem ((c.tc : Thread Cert.ReferenceMmUpIdeal.nD Cert.ReferenceMmUpIdeal.τ).loc Cert.ReferenceMmUpIdeal.main_arg1) = m ((c.tc : Thread Cert.ReferenceMmUpIdeal.nD Cert.ReferenceMmUpIdeal.τ).loc Cert.ReferenceMmUpIdeal.main_arg1))
      ∧ r.2.sem = fun _ => 0)

def quiescent_KernelMmDown [hKernelMmDown : Cert.KernelMmDown.Facts] : Prop :=
  ∀ (m : (ℓ : Loc Cert.KernelMmDown.nD Cert.KernelMmDown.τ Cert.KernelMmDown.sig) → Buf (Elt Bits) ℓ) (g : Dev Cert.KernelMmDown.nD → PrngReg), Pre_KernelMmDown m →
    θ_run (Cert.KernelMmDown.defs (F := Bits)) (onTc (τ := Cert.KernelMmDown.τ) (Cert.KernelMmDown.main (F := Bits))) ⟨m, fun _ => 0, g⟩ (fun r => (∀ c : Dev Cert.KernelMmDown.nD,
      r.2.mem ((c.tc : Thread Cert.KernelMmDown.nD Cert.KernelMmDown.τ).loc Cert.KernelMmDown.main_arg0) = m ((c.tc : Thread Cert.KernelMmDown.nD Cert.KernelMmDown.τ).loc Cert.KernelMmDown.main_arg0)
      ∧ r.2.mem ((c.tc : Thread Cert.KernelMmDown.nD Cert.KernelMmDown.τ).loc Cert.KernelMmDown.main_arg1) = m ((c.tc : Thread Cert.KernelMmDown.nD Cert.KernelMmDown.τ).loc Cert.KernelMmDown.main_arg1))
      ∧ r.2.sem = fun _ => 0)

def quiescent_KernelMmDownIdeal [hKernelMmDownIdeal : Cert.KernelMmDownIdeal.Facts] : Prop :=
  ∀ (m : (ℓ : Loc Cert.KernelMmDownIdeal.nD Cert.KernelMmDownIdeal.τ Cert.KernelMmDownIdeal.sig) → Buf (Elt Ideal) ℓ) (g : Dev Cert.KernelMmDownIdeal.nD → PrngReg), Pre_KernelMmDownIdeal m →
    θ_run (Cert.KernelMmDownIdeal.defs (F := Ideal)) (onTc (τ := Cert.KernelMmDownIdeal.τ) (Cert.KernelMmDownIdeal.main (F := Ideal))) ⟨m, fun _ => 0, g⟩ (fun r => (∀ c : Dev Cert.KernelMmDownIdeal.nD,
      r.2.mem ((c.tc : Thread Cert.KernelMmDownIdeal.nD Cert.KernelMmDownIdeal.τ).loc Cert.KernelMmDownIdeal.main_arg0) = m ((c.tc : Thread Cert.KernelMmDownIdeal.nD Cert.KernelMmDownIdeal.τ).loc Cert.KernelMmDownIdeal.main_arg0)
      ∧ r.2.mem ((c.tc : Thread Cert.KernelMmDownIdeal.nD Cert.KernelMmDownIdeal.τ).loc Cert.KernelMmDownIdeal.main_arg1) = m ((c.tc : Thread Cert.KernelMmDownIdeal.nD Cert.KernelMmDownIdeal.τ).loc Cert.KernelMmDownIdeal.main_arg1))
      ∧ r.2.sem = fun _ => 0)

def quiescent_ReferenceMmDownIdeal [hReferenceMmDownIdeal : Cert.ReferenceMmDownIdeal.Facts] : Prop :=
  ∀ (m : (ℓ : Loc Cert.ReferenceMmDownIdeal.nD Cert.ReferenceMmDownIdeal.τ Cert.ReferenceMmDownIdeal.sig) → Buf (Elt Ideal) ℓ) (g : Dev Cert.ReferenceMmDownIdeal.nD → PrngReg), Pre_ReferenceMmDownIdeal m →
    θ_run (Cert.ReferenceMmDownIdeal.defs (F := Ideal)) (onTc (τ := Cert.ReferenceMmDownIdeal.τ) (Cert.ReferenceMmDownIdeal.main (F := Ideal))) ⟨m, fun _ => 0, g⟩ (fun r => (∀ c : Dev Cert.ReferenceMmDownIdeal.nD,
      r.2.mem ((c.tc : Thread Cert.ReferenceMmDownIdeal.nD Cert.ReferenceMmDownIdeal.τ).loc Cert.ReferenceMmDownIdeal.main_arg0) = m ((c.tc : Thread Cert.ReferenceMmDownIdeal.nD Cert.ReferenceMmDownIdeal.τ).loc Cert.ReferenceMmDownIdeal.main_arg0)
      ∧ r.2.mem ((c.tc : Thread Cert.ReferenceMmDownIdeal.nD Cert.ReferenceMmDownIdeal.τ).loc Cert.ReferenceMmDownIdeal.main_arg1) = m ((c.tc : Thread Cert.ReferenceMmDownIdeal.nD Cert.ReferenceMmDownIdeal.τ).loc Cert.ReferenceMmDownIdeal.main_arg1))
      ∧ r.2.sem = fun _ => 0)

def quiescent_KernelLnFwd [hKernelLnFwd : Cert.KernelLnFwd.Facts] : Prop :=
  ∀ (m : (ℓ : Loc Cert.KernelLnFwd.nD Cert.KernelLnFwd.τ Cert.KernelLnFwd.sig) → Buf (Elt Bits) ℓ) (g : Dev Cert.KernelLnFwd.nD → PrngReg), Pre_KernelLnFwd m →
    θ_run (Cert.KernelLnFwd.defs (F := Bits)) (onTc (τ := Cert.KernelLnFwd.τ) (Cert.KernelLnFwd.main (F := Bits))) ⟨m, fun _ => 0, g⟩ (fun r => (∀ c : Dev Cert.KernelLnFwd.nD,
      r.2.mem ((c.tc : Thread Cert.KernelLnFwd.nD Cert.KernelLnFwd.τ).loc Cert.KernelLnFwd.main_arg0) = m ((c.tc : Thread Cert.KernelLnFwd.nD Cert.KernelLnFwd.τ).loc Cert.KernelLnFwd.main_arg0)
      ∧ r.2.mem ((c.tc : Thread Cert.KernelLnFwd.nD Cert.KernelLnFwd.τ).loc Cert.KernelLnFwd.main_arg1) = m ((c.tc : Thread Cert.KernelLnFwd.nD Cert.KernelLnFwd.τ).loc Cert.KernelLnFwd.main_arg1)
      ∧ r.2.mem ((c.tc : Thread Cert.KernelLnFwd.nD Cert.KernelLnFwd.τ).loc Cert.KernelLnFwd.main_arg2) = m ((c.tc : Thread Cert.KernelLnFwd.nD Cert.KernelLnFwd.τ).loc Cert.KernelLnFwd.main_arg2)
      ∧ r.2.mem ((c.tc : Thread Cert.KernelLnFwd.nD Cert.KernelLnFwd.τ).loc Cert.KernelLnFwd.main_arg3) = m ((c.tc : Thread Cert.KernelLnFwd.nD Cert.KernelLnFwd.τ).loc Cert.KernelLnFwd.main_arg3))
      ∧ r.2.sem = fun _ => 0)

def quiescent_KernelLnFwdIdeal [hKernelLnFwdIdeal : Cert.KernelLnFwdIdeal.Facts] : Prop :=
  ∀ (m : (ℓ : Loc Cert.KernelLnFwdIdeal.nD Cert.KernelLnFwdIdeal.τ Cert.KernelLnFwdIdeal.sig) → Buf (Elt Ideal) ℓ) (g : Dev Cert.KernelLnFwdIdeal.nD → PrngReg), Pre_KernelLnFwdIdeal m →
    θ_run (Cert.KernelLnFwdIdeal.defs (F := Ideal)) (onTc (τ := Cert.KernelLnFwdIdeal.τ) (Cert.KernelLnFwdIdeal.main (F := Ideal))) ⟨m, fun _ => 0, g⟩ (fun r => (∀ c : Dev Cert.KernelLnFwdIdeal.nD,
      r.2.mem ((c.tc : Thread Cert.KernelLnFwdIdeal.nD Cert.KernelLnFwdIdeal.τ).loc Cert.KernelLnFwdIdeal.main_arg0) = m ((c.tc : Thread Cert.KernelLnFwdIdeal.nD Cert.KernelLnFwdIdeal.τ).loc Cert.KernelLnFwdIdeal.main_arg0)
      ∧ r.2.mem ((c.tc : Thread Cert.KernelLnFwdIdeal.nD Cert.KernelLnFwdIdeal.τ).loc Cert.KernelLnFwdIdeal.main_arg1) = m ((c.tc : Thread Cert.KernelLnFwdIdeal.nD Cert.KernelLnFwdIdeal.τ).loc Cert.KernelLnFwdIdeal.main_arg1)
      ∧ r.2.mem ((c.tc : Thread Cert.KernelLnFwdIdeal.nD Cert.KernelLnFwdIdeal.τ).loc Cert.KernelLnFwdIdeal.main_arg2) = m ((c.tc : Thread Cert.KernelLnFwdIdeal.nD Cert.KernelLnFwdIdeal.τ).loc Cert.KernelLnFwdIdeal.main_arg2)
      ∧ r.2.mem ((c.tc : Thread Cert.KernelLnFwdIdeal.nD Cert.KernelLnFwdIdeal.τ).loc Cert.KernelLnFwdIdeal.main_arg3) = m ((c.tc : Thread Cert.KernelLnFwdIdeal.nD Cert.KernelLnFwdIdeal.τ).loc Cert.KernelLnFwdIdeal.main_arg3))
      ∧ r.2.sem = fun _ => 0)

def quiescent_ReferenceLnFwdIdeal [hReferenceLnFwdIdeal : Cert.ReferenceLnFwdIdeal.Facts] : Prop :=
  ∀ (m : (ℓ : Loc Cert.ReferenceLnFwdIdeal.nD Cert.ReferenceLnFwdIdeal.τ Cert.ReferenceLnFwdIdeal.sig) → Buf (Elt Ideal) ℓ) (g : Dev Cert.ReferenceLnFwdIdeal.nD → PrngReg), Pre_ReferenceLnFwdIdeal m →
    θ_run (Cert.ReferenceLnFwdIdeal.defs (F := Ideal)) (onTc (τ := Cert.ReferenceLnFwdIdeal.τ) (Cert.ReferenceLnFwdIdeal.main (F := Ideal))) ⟨m, fun _ => 0, g⟩ (fun r => (∀ c : Dev Cert.ReferenceLnFwdIdeal.nD,
      r.2.mem ((c.tc : Thread Cert.ReferenceLnFwdIdeal.nD Cert.ReferenceLnFwdIdeal.τ).loc Cert.ReferenceLnFwdIdeal.main_arg0) = m ((c.tc : Thread Cert.ReferenceLnFwdIdeal.nD Cert.ReferenceLnFwdIdeal.τ).loc Cert.ReferenceLnFwdIdeal.main_arg0)
      ∧ r.2.mem ((c.tc : Thread Cert.ReferenceLnFwdIdeal.nD Cert.ReferenceLnFwdIdeal.τ).loc Cert.ReferenceLnFwdIdeal.main_arg1) = m ((c.tc : Thread Cert.ReferenceLnFwdIdeal.nD Cert.ReferenceLnFwdIdeal.τ).loc Cert.ReferenceLnFwdIdeal.main_arg1)
      ∧ r.2.mem ((c.tc : Thread Cert.ReferenceLnFwdIdeal.nD Cert.ReferenceLnFwdIdeal.τ).loc Cert.ReferenceLnFwdIdeal.main_arg2) = m ((c.tc : Thread Cert.ReferenceLnFwdIdeal.nD Cert.ReferenceLnFwdIdeal.τ).loc Cert.ReferenceLnFwdIdeal.main_arg2)
      ∧ r.2.mem ((c.tc : Thread Cert.ReferenceLnFwdIdeal.nD Cert.ReferenceLnFwdIdeal.τ).loc Cert.ReferenceLnFwdIdeal.main_arg3) = m ((c.tc : Thread Cert.ReferenceLnFwdIdeal.nD Cert.ReferenceLnFwdIdeal.τ).loc Cert.ReferenceLnFwdIdeal.main_arg3))
      ∧ r.2.sem = fun _ => 0)

def quiescent_KernelLnBwd [hKernelLnBwd : Cert.KernelLnBwd.Facts] : Prop :=
  ∀ (m : (ℓ : Loc Cert.KernelLnBwd.nD Cert.KernelLnBwd.τ Cert.KernelLnBwd.sig) → Buf (Elt Bits) ℓ) (g : Dev Cert.KernelLnBwd.nD → PrngReg), Pre_KernelLnBwd m →
    θ_run (Cert.KernelLnBwd.defs (F := Bits)) (onTc (τ := Cert.KernelLnBwd.τ) (Cert.KernelLnBwd.main (F := Bits))) ⟨m, fun _ => 0, g⟩ (fun r => (∀ c : Dev Cert.KernelLnBwd.nD,
      r.2.mem ((c.tc : Thread Cert.KernelLnBwd.nD Cert.KernelLnBwd.τ).loc Cert.KernelLnBwd.main_arg0) = m ((c.tc : Thread Cert.KernelLnBwd.nD Cert.KernelLnBwd.τ).loc Cert.KernelLnBwd.main_arg0)
      ∧ r.2.mem ((c.tc : Thread Cert.KernelLnBwd.nD Cert.KernelLnBwd.τ).loc Cert.KernelLnBwd.main_arg1) = m ((c.tc : Thread Cert.KernelLnBwd.nD Cert.KernelLnBwd.τ).loc Cert.KernelLnBwd.main_arg1)
      ∧ r.2.mem ((c.tc : Thread Cert.KernelLnBwd.nD Cert.KernelLnBwd.τ).loc Cert.KernelLnBwd.main_arg2) = m ((c.tc : Thread Cert.KernelLnBwd.nD Cert.KernelLnBwd.τ).loc Cert.KernelLnBwd.main_arg2))
      ∧ r.2.sem = fun _ => 0)

def quiescent_KernelLnBwdIdeal [hKernelLnBwdIdeal : Cert.KernelLnBwdIdeal.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg), Pre_KernelLnBwdIdeal m →
    θ_run (Cert.KernelLnBwdIdeal.defs (F := Ideal)) (onTc (τ := Cert.KernelLnBwdIdeal.τ) (Cert.KernelLnBwdIdeal.main (F := Ideal))) ⟨m, fun _ => 0, g⟩ (fun r => (∀ c : Dev Cert.KernelLnBwdIdeal.nD,
      r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
      ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
      ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2))
      ∧ r.2.sem = fun _ => 0)

def quiescent_KernelLnBwdIdeal_pre_finite_ln [hKernelLnBwdIdeal : Cert.KernelLnBwdIdeal.Facts] [hPre_finite_ln : Cert.Pre_finite_ln.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg), Pre_KernelLnBwdIdeal_finite_ln m →
    θ_run (Cert.KernelLnBwdIdeal.defs (F := Ideal)) (onTc (τ := Cert.KernelLnBwdIdeal.τ) (Cert.KernelLnBwdIdeal.main (F := Ideal))) ⟨m, fun _ => 0, g⟩ (fun r => (∀ c : Dev Cert.KernelLnBwdIdeal.nD,
      r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
      ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
      ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2))
      ∧ r.2.sem = fun _ => 0)

def quiescent_ReferenceLnBwdIdeal [hReferenceLnBwdIdeal : Cert.ReferenceLnBwdIdeal.Facts] : Prop :=
  ∀ (m : (ℓ : Loc Cert.ReferenceLnBwdIdeal.nD Cert.ReferenceLnBwdIdeal.τ Cert.ReferenceLnBwdIdeal.sig) → Buf (Elt Ideal) ℓ) (g : Dev Cert.ReferenceLnBwdIdeal.nD → PrngReg), Pre_ReferenceLnBwdIdeal m →
    θ_run (Cert.ReferenceLnBwdIdeal.defs (F := Ideal)) (onTc (τ := Cert.ReferenceLnBwdIdeal.τ) (Cert.ReferenceLnBwdIdeal.main (F := Ideal))) ⟨m, fun _ => 0, g⟩ (fun r => (∀ c : Dev Cert.ReferenceLnBwdIdeal.nD,
      r.2.mem ((c.tc : Thread Cert.ReferenceLnBwdIdeal.nD Cert.ReferenceLnBwdIdeal.τ).loc Cert.ReferenceLnBwdIdeal.main_arg0) = m ((c.tc : Thread Cert.ReferenceLnBwdIdeal.nD Cert.ReferenceLnBwdIdeal.τ).loc Cert.ReferenceLnBwdIdeal.main_arg0)
      ∧ r.2.mem ((c.tc : Thread Cert.ReferenceLnBwdIdeal.nD Cert.ReferenceLnBwdIdeal.τ).loc Cert.ReferenceLnBwdIdeal.main_arg1) = m ((c.tc : Thread Cert.ReferenceLnBwdIdeal.nD Cert.ReferenceLnBwdIdeal.τ).loc Cert.ReferenceLnBwdIdeal.main_arg1)
      ∧ r.2.mem ((c.tc : Thread Cert.ReferenceLnBwdIdeal.nD Cert.ReferenceLnBwdIdeal.τ).loc Cert.ReferenceLnBwdIdeal.main_arg2) = m ((c.tc : Thread Cert.ReferenceLnBwdIdeal.nD Cert.ReferenceLnBwdIdeal.τ).loc Cert.ReferenceLnBwdIdeal.main_arg2))
      ∧ r.2.sem = fun _ => 0)

def quiescent_ReferenceLnBwdIdeal_pre_finite_ln [hReferenceLnBwdIdeal : Cert.ReferenceLnBwdIdeal.Facts] [hPre_finite_ln : Cert.Pre_finite_ln.Facts] : Prop :=
  ∀ (m : (ℓ : Loc Cert.ReferenceLnBwdIdeal.nD Cert.ReferenceLnBwdIdeal.τ Cert.ReferenceLnBwdIdeal.sig) → Buf (Elt Ideal) ℓ) (g : Dev Cert.ReferenceLnBwdIdeal.nD → PrngReg), Pre_ReferenceLnBwdIdeal_finite_ln m →
    θ_run (Cert.ReferenceLnBwdIdeal.defs (F := Ideal)) (onTc (τ := Cert.ReferenceLnBwdIdeal.τ) (Cert.ReferenceLnBwdIdeal.main (F := Ideal))) ⟨m, fun _ => 0, g⟩ (fun r => (∀ c : Dev Cert.ReferenceLnBwdIdeal.nD,
      r.2.mem ((c.tc : Thread Cert.ReferenceLnBwdIdeal.nD Cert.ReferenceLnBwdIdeal.τ).loc Cert.ReferenceLnBwdIdeal.main_arg0) = m ((c.tc : Thread Cert.ReferenceLnBwdIdeal.nD Cert.ReferenceLnBwdIdeal.τ).loc Cert.ReferenceLnBwdIdeal.main_arg0)
      ∧ r.2.mem ((c.tc : Thread Cert.ReferenceLnBwdIdeal.nD Cert.ReferenceLnBwdIdeal.τ).loc Cert.ReferenceLnBwdIdeal.main_arg1) = m ((c.tc : Thread Cert.ReferenceLnBwdIdeal.nD Cert.ReferenceLnBwdIdeal.τ).loc Cert.ReferenceLnBwdIdeal.main_arg1)
      ∧ r.2.mem ((c.tc : Thread Cert.ReferenceLnBwdIdeal.nD Cert.ReferenceLnBwdIdeal.τ).loc Cert.ReferenceLnBwdIdeal.main_arg2) = m ((c.tc : Thread Cert.ReferenceLnBwdIdeal.nD Cert.ReferenceLnBwdIdeal.τ).loc Cert.ReferenceLnBwdIdeal.main_arg2))
      ∧ r.2.sem = fun _ => 0)

def quiescent_KernelLossHead [hKernelLossHead : Cert.KernelLossHead.Facts] : Prop :=
  ∀ (m : (ℓ : Loc Cert.KernelLossHead.nD Cert.KernelLossHead.τ Cert.KernelLossHead.sig) → Buf (Elt Bits) ℓ) (g : Dev Cert.KernelLossHead.nD → PrngReg), Pre_KernelLossHead m →
    θ_run (Cert.KernelLossHead.defs (F := Bits)) (onTc (τ := Cert.KernelLossHead.τ) (Cert.KernelLossHead.main (F := Bits))) ⟨m, fun _ => 0, g⟩ (fun r => (∀ c : Dev Cert.KernelLossHead.nD,
      r.2.mem ((c.tc : Thread Cert.KernelLossHead.nD Cert.KernelLossHead.τ).loc Cert.KernelLossHead.main_arg0) = m ((c.tc : Thread Cert.KernelLossHead.nD Cert.KernelLossHead.τ).loc Cert.KernelLossHead.main_arg0)
      ∧ r.2.mem ((c.tc : Thread Cert.KernelLossHead.nD Cert.KernelLossHead.τ).loc Cert.KernelLossHead.main_arg1) = m ((c.tc : Thread Cert.KernelLossHead.nD Cert.KernelLossHead.τ).loc Cert.KernelLossHead.main_arg1))
      ∧ r.2.sem = fun _ => 0)

def quiescent_KernelLossHeadIdeal [hKernelLossHeadIdeal : Cert.KernelLossHeadIdeal.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg), Pre_KernelLossHeadIdeal m →
    θ_run (Cert.KernelLossHeadIdeal.defs (F := Ideal)) (onTc (τ := Cert.KernelLossHeadIdeal.τ) (Cert.KernelLossHeadIdeal.main (F := Ideal))) ⟨m, fun _ => 0, g⟩ (fun r => (∀ c : Dev Cert.KernelLossHeadIdeal.nD,
      r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
      ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1))
      ∧ r.2.sem = fun _ => 0)

def quiescent_ReferenceLossHeadIdeal [hReferenceLossHeadIdeal : Cert.ReferenceLossHeadIdeal.Facts] : Prop :=
  ∀ (m : (ℓ : Loc Cert.ReferenceLossHeadIdeal.nD Cert.ReferenceLossHeadIdeal.τ Cert.ReferenceLossHeadIdeal.sig) → Buf (Elt Ideal) ℓ) (g : Dev Cert.ReferenceLossHeadIdeal.nD → PrngReg), Pre_ReferenceLossHeadIdeal m →
    θ_run (Cert.ReferenceLossHeadIdeal.defs (F := Ideal)) (onTc (τ := Cert.ReferenceLossHeadIdeal.τ) (Cert.ReferenceLossHeadIdeal.main (F := Ideal))) ⟨m, fun _ => 0, g⟩ (fun r => (∀ c : Dev Cert.ReferenceLossHeadIdeal.nD,
      r.2.mem ((c.tc : Thread Cert.ReferenceLossHeadIdeal.nD Cert.ReferenceLossHeadIdeal.τ).loc Cert.ReferenceLossHeadIdeal.main_arg0) = m ((c.tc : Thread Cert.ReferenceLossHeadIdeal.nD Cert.ReferenceLossHeadIdeal.τ).loc Cert.ReferenceLossHeadIdeal.main_arg0)
      ∧ r.2.mem ((c.tc : Thread Cert.ReferenceLossHeadIdeal.nD Cert.ReferenceLossHeadIdeal.τ).loc Cert.ReferenceLossHeadIdeal.main_arg1) = m ((c.tc : Thread Cert.ReferenceLossHeadIdeal.nD Cert.ReferenceLossHeadIdeal.τ).loc Cert.ReferenceLossHeadIdeal.main_arg1))
      ∧ r.2.sem = fun _ => 0)

def quiescent_KernelSumDevices [hKernelSumDevices : Cert.KernelSumDevices.Facts] : Prop :=
  ∀ (m : (ℓ : Loc Cert.KernelSumDevices.nD Cert.KernelSumDevices.τ Cert.KernelSumDevices.sig) → Buf (Elt Bits) ℓ) (g : Dev Cert.KernelSumDevices.nD → PrngReg), Pre_KernelSumDevices m →
    θ_run (Cert.KernelSumDevices.defs (F := Bits)) (onTc (τ := Cert.KernelSumDevices.τ) (Cert.KernelSumDevices.main (F := Bits))) ⟨m, fun _ => 0, g⟩ (fun r => (∀ c : Dev Cert.KernelSumDevices.nD,
      r.2.mem ((c.tc : Thread Cert.KernelSumDevices.nD Cert.KernelSumDevices.τ).loc Cert.KernelSumDevices.main_arg0) = m ((c.tc : Thread Cert.KernelSumDevices.nD Cert.KernelSumDevices.τ).loc Cert.KernelSumDevices.main_arg0))
      ∧ r.2.sem = fun _ => 0)

def quiescent_KernelSumDevicesIdeal [hKernelSumDevicesIdeal : Cert.KernelSumDevicesIdeal.Facts] : Prop :=
  ∀ (m : (ℓ : Loc Cert.KernelSumDevicesIdeal.nD Cert.KernelSumDevicesIdeal.τ Cert.KernelSumDevicesIdeal.sig) → Buf (Elt Ideal) ℓ) (g : Dev Cert.KernelSumDevicesIdeal.nD → PrngReg), Pre_KernelSumDevicesIdeal m →
    θ_run (Cert.KernelSumDevicesIdeal.defs (F := Ideal)) (onTc (τ := Cert.KernelSumDevicesIdeal.τ) (Cert.KernelSumDevicesIdeal.main (F := Ideal))) ⟨m, fun _ => 0, g⟩ (fun r => (∀ c : Dev Cert.KernelSumDevicesIdeal.nD,
      r.2.mem ((c.tc : Thread Cert.KernelSumDevicesIdeal.nD Cert.KernelSumDevicesIdeal.τ).loc Cert.KernelSumDevicesIdeal.main_arg0) = m ((c.tc : Thread Cert.KernelSumDevicesIdeal.nD Cert.KernelSumDevicesIdeal.τ).loc Cert.KernelSumDevicesIdeal.main_arg0))
      ∧ r.2.sem = fun _ => 0)

def quiescent_ReferenceSumDevicesIdeal [hReferenceSumDevicesIdeal : Cert.ReferenceSumDevicesIdeal.Facts] : Prop :=
  ∀ (m : (ℓ : Loc Cert.ReferenceSumDevicesIdeal.nD Cert.ReferenceSumDevicesIdeal.τ Cert.ReferenceSumDevicesIdeal.sig) → Buf (Elt Ideal) ℓ) (g : Dev Cert.ReferenceSumDevicesIdeal.nD → PrngReg), Pre_ReferenceSumDevicesIdeal m →
    θ_run (Cert.ReferenceSumDevicesIdeal.defs (F := Ideal)) (onTc (τ := Cert.ReferenceSumDevicesIdeal.τ) (Cert.ReferenceSumDevicesIdeal.main (F := Ideal))) ⟨m, fun _ => 0, g⟩ (fun r => (∀ c : Dev Cert.ReferenceSumDevicesIdeal.nD,
      r.2.mem ((c.tc : Thread Cert.ReferenceSumDevicesIdeal.nD Cert.ReferenceSumDevicesIdeal.τ).loc Cert.ReferenceSumDevicesIdeal.main_arg0) = m ((c.tc : Thread Cert.ReferenceSumDevicesIdeal.nD Cert.ReferenceSumDevicesIdeal.τ).loc Cert.ReferenceSumDevicesIdeal.main_arg0))
      ∧ r.2.sem = fun _ => 0)

def quiescent_KernelAdamwDown [hKernelAdamwDown : Cert.KernelAdamwDown.Facts] : Prop :=
  ∀ (m : (ℓ : Loc Cert.KernelAdamwDown.nD Cert.KernelAdamwDown.τ Cert.KernelAdamwDown.sig) → Buf (Elt Bits) ℓ) (g : Dev Cert.KernelAdamwDown.nD → PrngReg), Pre_KernelAdamwDown m →
    θ_run (Cert.KernelAdamwDown.defs (F := Bits)) (onTc (τ := Cert.KernelAdamwDown.τ) (Cert.KernelAdamwDown.main (F := Bits))) ⟨m, fun _ => 0, g⟩ (fun r => (∀ c : Dev Cert.KernelAdamwDown.nD,
      r.2.mem ((c.tc : Thread Cert.KernelAdamwDown.nD Cert.KernelAdamwDown.τ).loc Cert.KernelAdamwDown.main_arg0) = m ((c.tc : Thread Cert.KernelAdamwDown.nD Cert.KernelAdamwDown.τ).loc Cert.KernelAdamwDown.main_arg0)
      ∧ r.2.mem ((c.tc : Thread Cert.KernelAdamwDown.nD Cert.KernelAdamwDown.τ).loc Cert.KernelAdamwDown.main_arg1) = m ((c.tc : Thread Cert.KernelAdamwDown.nD Cert.KernelAdamwDown.τ).loc Cert.KernelAdamwDown.main_arg1)
      ∧ r.2.mem ((c.tc : Thread Cert.KernelAdamwDown.nD Cert.KernelAdamwDown.τ).loc Cert.KernelAdamwDown.main_arg2) = m ((c.tc : Thread Cert.KernelAdamwDown.nD Cert.KernelAdamwDown.τ).loc Cert.KernelAdamwDown.main_arg2)
      ∧ r.2.mem ((c.tc : Thread Cert.KernelAdamwDown.nD Cert.KernelAdamwDown.τ).loc Cert.KernelAdamwDown.main_arg3) = m ((c.tc : Thread Cert.KernelAdamwDown.nD Cert.KernelAdamwDown.τ).loc Cert.KernelAdamwDown.main_arg3)
      ∧ r.2.mem ((c.tc : Thread Cert.KernelAdamwDown.nD Cert.KernelAdamwDown.τ).loc Cert.KernelAdamwDown.main_arg4) = m ((c.tc : Thread Cert.KernelAdamwDown.nD Cert.KernelAdamwDown.τ).loc Cert.KernelAdamwDown.main_arg4)
      ∧ r.2.mem ((c.tc : Thread Cert.KernelAdamwDown.nD Cert.KernelAdamwDown.τ).loc Cert.KernelAdamwDown.main_arg5) = m ((c.tc : Thread Cert.KernelAdamwDown.nD Cert.KernelAdamwDown.τ).loc Cert.KernelAdamwDown.main_arg5)
      ∧ r.2.mem ((c.tc : Thread Cert.KernelAdamwDown.nD Cert.KernelAdamwDown.τ).loc Cert.KernelAdamwDown.main_arg6) = m ((c.tc : Thread Cert.KernelAdamwDown.nD Cert.KernelAdamwDown.τ).loc Cert.KernelAdamwDown.main_arg6))
      ∧ r.2.sem = fun _ => 0)

def quiescent_KernelAdamwDownIdeal [hKernelAdamwDownIdeal : Cert.KernelAdamwDownIdeal.Facts] : Prop :=
  ∀ (m : (ℓ : Loc Cert.KernelAdamwDownIdeal.nD Cert.KernelAdamwDownIdeal.τ Cert.KernelAdamwDownIdeal.sig) → Buf (Elt Ideal) ℓ) (g : Dev Cert.KernelAdamwDownIdeal.nD → PrngReg), Pre_KernelAdamwDownIdeal m →
    θ_run (Cert.KernelAdamwDownIdeal.defs (F := Ideal)) (onTc (τ := Cert.KernelAdamwDownIdeal.τ) (Cert.KernelAdamwDownIdeal.main (F := Ideal))) ⟨m, fun _ => 0, g⟩ (fun r => (∀ c : Dev Cert.KernelAdamwDownIdeal.nD,
      r.2.mem ((c.tc : Thread Cert.KernelAdamwDownIdeal.nD Cert.KernelAdamwDownIdeal.τ).loc Cert.KernelAdamwDownIdeal.main_arg0) = m ((c.tc : Thread Cert.KernelAdamwDownIdeal.nD Cert.KernelAdamwDownIdeal.τ).loc Cert.KernelAdamwDownIdeal.main_arg0)
      ∧ r.2.mem ((c.tc : Thread Cert.KernelAdamwDownIdeal.nD Cert.KernelAdamwDownIdeal.τ).loc Cert.KernelAdamwDownIdeal.main_arg1) = m ((c.tc : Thread Cert.KernelAdamwDownIdeal.nD Cert.KernelAdamwDownIdeal.τ).loc Cert.KernelAdamwDownIdeal.main_arg1)
      ∧ r.2.mem ((c.tc : Thread Cert.KernelAdamwDownIdeal.nD Cert.KernelAdamwDownIdeal.τ).loc Cert.KernelAdamwDownIdeal.main_arg2) = m ((c.tc : Thread Cert.KernelAdamwDownIdeal.nD Cert.KernelAdamwDownIdeal.τ).loc Cert.KernelAdamwDownIdeal.main_arg2)
      ∧ r.2.mem ((c.tc : Thread Cert.KernelAdamwDownIdeal.nD Cert.KernelAdamwDownIdeal.τ).loc Cert.KernelAdamwDownIdeal.main_arg3) = m ((c.tc : Thread Cert.KernelAdamwDownIdeal.nD Cert.KernelAdamwDownIdeal.τ).loc Cert.KernelAdamwDownIdeal.main_arg3)
      ∧ r.2.mem ((c.tc : Thread Cert.KernelAdamwDownIdeal.nD Cert.KernelAdamwDownIdeal.τ).loc Cert.KernelAdamwDownIdeal.main_arg4) = m ((c.tc : Thread Cert.KernelAdamwDownIdeal.nD Cert.KernelAdamwDownIdeal.τ).loc Cert.KernelAdamwDownIdeal.main_arg4)
      ∧ r.2.mem ((c.tc : Thread Cert.KernelAdamwDownIdeal.nD Cert.KernelAdamwDownIdeal.τ).loc Cert.KernelAdamwDownIdeal.main_arg5) = m ((c.tc : Thread Cert.KernelAdamwDownIdeal.nD Cert.KernelAdamwDownIdeal.τ).loc Cert.KernelAdamwDownIdeal.main_arg5)
      ∧ r.2.mem ((c.tc : Thread Cert.KernelAdamwDownIdeal.nD Cert.KernelAdamwDownIdeal.τ).loc Cert.KernelAdamwDownIdeal.main_arg6) = m ((c.tc : Thread Cert.KernelAdamwDownIdeal.nD Cert.KernelAdamwDownIdeal.τ).loc Cert.KernelAdamwDownIdeal.main_arg6))
      ∧ r.2.sem = fun _ => 0)

def quiescent_ReferenceAdamwDownIdeal [hReferenceAdamwDownIdeal : Cert.ReferenceAdamwDownIdeal.Facts] : Prop :=
  ∀ (m : (ℓ : Loc Cert.ReferenceAdamwDownIdeal.nD Cert.ReferenceAdamwDownIdeal.τ Cert.ReferenceAdamwDownIdeal.sig) → Buf (Elt Ideal) ℓ) (g : Dev Cert.ReferenceAdamwDownIdeal.nD → PrngReg), Pre_ReferenceAdamwDownIdeal m →
    θ_run (Cert.ReferenceAdamwDownIdeal.defs (F := Ideal)) (onTc (τ := Cert.ReferenceAdamwDownIdeal.τ) (Cert.ReferenceAdamwDownIdeal.main (F := Ideal))) ⟨m, fun _ => 0, g⟩ (fun r => (∀ c : Dev Cert.ReferenceAdamwDownIdeal.nD,
      r.2.mem ((c.tc : Thread Cert.ReferenceAdamwDownIdeal.nD Cert.ReferenceAdamwDownIdeal.τ).loc Cert.ReferenceAdamwDownIdeal.main_arg0) = m ((c.tc : Thread Cert.ReferenceAdamwDownIdeal.nD Cert.ReferenceAdamwDownIdeal.τ).loc Cert.ReferenceAdamwDownIdeal.main_arg0)
      ∧ r.2.mem ((c.tc : Thread Cert.ReferenceAdamwDownIdeal.nD Cert.ReferenceAdamwDownIdeal.τ).loc Cert.ReferenceAdamwDownIdeal.main_arg1) = m ((c.tc : Thread Cert.ReferenceAdamwDownIdeal.nD Cert.ReferenceAdamwDownIdeal.τ).loc Cert.ReferenceAdamwDownIdeal.main_arg1)
      ∧ r.2.mem ((c.tc : Thread Cert.ReferenceAdamwDownIdeal.nD Cert.ReferenceAdamwDownIdeal.τ).loc Cert.ReferenceAdamwDownIdeal.main_arg2) = m ((c.tc : Thread Cert.ReferenceAdamwDownIdeal.nD Cert.ReferenceAdamwDownIdeal.τ).loc Cert.ReferenceAdamwDownIdeal.main_arg2)
      ∧ r.2.mem ((c.tc : Thread Cert.ReferenceAdamwDownIdeal.nD Cert.ReferenceAdamwDownIdeal.τ).loc Cert.ReferenceAdamwDownIdeal.main_arg3) = m ((c.tc : Thread Cert.ReferenceAdamwDownIdeal.nD Cert.ReferenceAdamwDownIdeal.τ).loc Cert.ReferenceAdamwDownIdeal.main_arg3)
      ∧ r.2.mem ((c.tc : Thread Cert.ReferenceAdamwDownIdeal.nD Cert.ReferenceAdamwDownIdeal.τ).loc Cert.ReferenceAdamwDownIdeal.main_arg4) = m ((c.tc : Thread Cert.ReferenceAdamwDownIdeal.nD Cert.ReferenceAdamwDownIdeal.τ).loc Cert.ReferenceAdamwDownIdeal.main_arg4)
      ∧ r.2.mem ((c.tc : Thread Cert.ReferenceAdamwDownIdeal.nD Cert.ReferenceAdamwDownIdeal.τ).loc Cert.ReferenceAdamwDownIdeal.main_arg5) = m ((c.tc : Thread Cert.ReferenceAdamwDownIdeal.nD Cert.ReferenceAdamwDownIdeal.τ).loc Cert.ReferenceAdamwDownIdeal.main_arg5)
      ∧ r.2.mem ((c.tc : Thread Cert.ReferenceAdamwDownIdeal.nD Cert.ReferenceAdamwDownIdeal.τ).loc Cert.ReferenceAdamwDownIdeal.main_arg6) = m ((c.tc : Thread Cert.ReferenceAdamwDownIdeal.nD Cert.ReferenceAdamwDownIdeal.τ).loc Cert.ReferenceAdamwDownIdeal.main_arg6))
      ∧ r.2.sem = fun _ => 0)

def quiescent_KernelAdamwDownLate [hKernelAdamwDownLate : Cert.KernelAdamwDownLate.Facts] : Prop :=
  ∀ (m : (ℓ : Loc Cert.KernelAdamwDownLate.nD Cert.KernelAdamwDownLate.τ Cert.KernelAdamwDownLate.sig) → Buf (Elt Bits) ℓ) (g : Dev Cert.KernelAdamwDownLate.nD → PrngReg), Pre_KernelAdamwDownLate m →
    θ_run (Cert.KernelAdamwDownLate.defs (F := Bits)) (onTc (τ := Cert.KernelAdamwDownLate.τ) (Cert.KernelAdamwDownLate.main (F := Bits))) ⟨m, fun _ => 0, g⟩ (fun r => (∀ c : Dev Cert.KernelAdamwDownLate.nD,
      r.2.mem ((c.tc : Thread Cert.KernelAdamwDownLate.nD Cert.KernelAdamwDownLate.τ).loc Cert.KernelAdamwDownLate.main_arg0) = m ((c.tc : Thread Cert.KernelAdamwDownLate.nD Cert.KernelAdamwDownLate.τ).loc Cert.KernelAdamwDownLate.main_arg0)
      ∧ r.2.mem ((c.tc : Thread Cert.KernelAdamwDownLate.nD Cert.KernelAdamwDownLate.τ).loc Cert.KernelAdamwDownLate.main_arg1) = m ((c.tc : Thread Cert.KernelAdamwDownLate.nD Cert.KernelAdamwDownLate.τ).loc Cert.KernelAdamwDownLate.main_arg1)
      ∧ r.2.mem ((c.tc : Thread Cert.KernelAdamwDownLate.nD Cert.KernelAdamwDownLate.τ).loc Cert.KernelAdamwDownLate.main_arg2) = m ((c.tc : Thread Cert.KernelAdamwDownLate.nD Cert.KernelAdamwDownLate.τ).loc Cert.KernelAdamwDownLate.main_arg2)
      ∧ r.2.mem ((c.tc : Thread Cert.KernelAdamwDownLate.nD Cert.KernelAdamwDownLate.τ).loc Cert.KernelAdamwDownLate.main_arg3) = m ((c.tc : Thread Cert.KernelAdamwDownLate.nD Cert.KernelAdamwDownLate.τ).loc Cert.KernelAdamwDownLate.main_arg3))
      ∧ r.2.sem = fun _ => 0)

def quiescent_KernelAdamwDownLateIdeal [hKernelAdamwDownLateIdeal : Cert.KernelAdamwDownLateIdeal.Facts] : Prop :=
  ∀ (m : (ℓ : Loc Cert.KernelAdamwDownLateIdeal.nD Cert.KernelAdamwDownLateIdeal.τ Cert.KernelAdamwDownLateIdeal.sig) → Buf (Elt Ideal) ℓ) (g : Dev Cert.KernelAdamwDownLateIdeal.nD → PrngReg), Pre_KernelAdamwDownLateIdeal m →
    θ_run (Cert.KernelAdamwDownLateIdeal.defs (F := Ideal)) (onTc (τ := Cert.KernelAdamwDownLateIdeal.τ) (Cert.KernelAdamwDownLateIdeal.main (F := Ideal))) ⟨m, fun _ => 0, g⟩ (fun r => (∀ c : Dev Cert.KernelAdamwDownLateIdeal.nD,
      r.2.mem ((c.tc : Thread Cert.KernelAdamwDownLateIdeal.nD Cert.KernelAdamwDownLateIdeal.τ).loc Cert.KernelAdamwDownLateIdeal.main_arg0) = m ((c.tc : Thread Cert.KernelAdamwDownLateIdeal.nD Cert.KernelAdamwDownLateIdeal.τ).loc Cert.KernelAdamwDownLateIdeal.main_arg0)
      ∧ r.2.mem ((c.tc : Thread Cert.KernelAdamwDownLateIdeal.nD Cert.KernelAdamwDownLateIdeal.τ).loc Cert.KernelAdamwDownLateIdeal.main_arg1) = m ((c.tc : Thread Cert.KernelAdamwDownLateIdeal.nD Cert.KernelAdamwDownLateIdeal.τ).loc Cert.KernelAdamwDownLateIdeal.main_arg1)
      ∧ r.2.mem ((c.tc : Thread Cert.KernelAdamwDownLateIdeal.nD Cert.KernelAdamwDownLateIdeal.τ).loc Cert.KernelAdamwDownLateIdeal.main_arg2) = m ((c.tc : Thread Cert.KernelAdamwDownLateIdeal.nD Cert.KernelAdamwDownLateIdeal.τ).loc Cert.KernelAdamwDownLateIdeal.main_arg2)
      ∧ r.2.mem ((c.tc : Thread Cert.KernelAdamwDownLateIdeal.nD Cert.KernelAdamwDownLateIdeal.τ).loc Cert.KernelAdamwDownLateIdeal.main_arg3) = m ((c.tc : Thread Cert.KernelAdamwDownLateIdeal.nD Cert.KernelAdamwDownLateIdeal.τ).loc Cert.KernelAdamwDownLateIdeal.main_arg3))
      ∧ r.2.sem = fun _ => 0)

def quiescent_ReferenceAdamwDownLateIdeal [hReferenceAdamwDownLateIdeal : Cert.ReferenceAdamwDownLateIdeal.Facts] : Prop :=
  ∀ (m : (ℓ : Loc Cert.ReferenceAdamwDownLateIdeal.nD Cert.ReferenceAdamwDownLateIdeal.τ Cert.ReferenceAdamwDownLateIdeal.sig) → Buf (Elt Ideal) ℓ) (g : Dev Cert.ReferenceAdamwDownLateIdeal.nD → PrngReg), Pre_ReferenceAdamwDownLateIdeal m →
    θ_run (Cert.ReferenceAdamwDownLateIdeal.defs (F := Ideal)) (onTc (τ := Cert.ReferenceAdamwDownLateIdeal.τ) (Cert.ReferenceAdamwDownLateIdeal.main (F := Ideal))) ⟨m, fun _ => 0, g⟩ (fun r => (∀ c : Dev Cert.ReferenceAdamwDownLateIdeal.nD,
      r.2.mem ((c.tc : Thread Cert.ReferenceAdamwDownLateIdeal.nD Cert.ReferenceAdamwDownLateIdeal.τ).loc Cert.ReferenceAdamwDownLateIdeal.main_arg0) = m ((c.tc : Thread Cert.ReferenceAdamwDownLateIdeal.nD Cert.ReferenceAdamwDownLateIdeal.τ).loc Cert.ReferenceAdamwDownLateIdeal.main_arg0)
      ∧ r.2.mem ((c.tc : Thread Cert.ReferenceAdamwDownLateIdeal.nD Cert.ReferenceAdamwDownLateIdeal.τ).loc Cert.ReferenceAdamwDownLateIdeal.main_arg1) = m ((c.tc : Thread Cert.ReferenceAdamwDownLateIdeal.nD Cert.ReferenceAdamwDownLateIdeal.τ).loc Cert.ReferenceAdamwDownLateIdeal.main_arg1)
      ∧ r.2.mem ((c.tc : Thread Cert.ReferenceAdamwDownLateIdeal.nD Cert.ReferenceAdamwDownLateIdeal.τ).loc Cert.ReferenceAdamwDownLateIdeal.main_arg2) = m ((c.tc : Thread Cert.ReferenceAdamwDownLateIdeal.nD Cert.ReferenceAdamwDownLateIdeal.τ).loc Cert.ReferenceAdamwDownLateIdeal.main_arg2)
      ∧ r.2.mem ((c.tc : Thread Cert.ReferenceAdamwDownLateIdeal.nD Cert.ReferenceAdamwDownLateIdeal.τ).loc Cert.ReferenceAdamwDownLateIdeal.main_arg3) = m ((c.tc : Thread Cert.ReferenceAdamwDownLateIdeal.nD Cert.ReferenceAdamwDownLateIdeal.τ).loc Cert.ReferenceAdamwDownLateIdeal.main_arg3))
      ∧ r.2.sem = fun _ => 0)

def quiescent_KernelAdamwUp [hKernelAdamwUp : Cert.KernelAdamwUp.Facts] : Prop :=
  ∀ (m : (ℓ : Loc Cert.KernelAdamwUp.nD Cert.KernelAdamwUp.τ Cert.KernelAdamwUp.sig) → Buf (Elt Bits) ℓ) (g : Dev Cert.KernelAdamwUp.nD → PrngReg), Pre_KernelAdamwUp m →
    θ_run (Cert.KernelAdamwUp.defs (F := Bits)) (onTc (τ := Cert.KernelAdamwUp.τ) (Cert.KernelAdamwUp.main (F := Bits))) ⟨m, fun _ => 0, g⟩ (fun r => (∀ c : Dev Cert.KernelAdamwUp.nD,
      r.2.mem ((c.tc : Thread Cert.KernelAdamwUp.nD Cert.KernelAdamwUp.τ).loc Cert.KernelAdamwUp.main_arg0) = m ((c.tc : Thread Cert.KernelAdamwUp.nD Cert.KernelAdamwUp.τ).loc Cert.KernelAdamwUp.main_arg0)
      ∧ r.2.mem ((c.tc : Thread Cert.KernelAdamwUp.nD Cert.KernelAdamwUp.τ).loc Cert.KernelAdamwUp.main_arg1) = m ((c.tc : Thread Cert.KernelAdamwUp.nD Cert.KernelAdamwUp.τ).loc Cert.KernelAdamwUp.main_arg1)
      ∧ r.2.mem ((c.tc : Thread Cert.KernelAdamwUp.nD Cert.KernelAdamwUp.τ).loc Cert.KernelAdamwUp.main_arg2) = m ((c.tc : Thread Cert.KernelAdamwUp.nD Cert.KernelAdamwUp.τ).loc Cert.KernelAdamwUp.main_arg2)
      ∧ r.2.mem ((c.tc : Thread Cert.KernelAdamwUp.nD Cert.KernelAdamwUp.τ).loc Cert.KernelAdamwUp.main_arg3) = m ((c.tc : Thread Cert.KernelAdamwUp.nD Cert.KernelAdamwUp.τ).loc Cert.KernelAdamwUp.main_arg3)
      ∧ r.2.mem ((c.tc : Thread Cert.KernelAdamwUp.nD Cert.KernelAdamwUp.τ).loc Cert.KernelAdamwUp.main_arg4) = m ((c.tc : Thread Cert.KernelAdamwUp.nD Cert.KernelAdamwUp.τ).loc Cert.KernelAdamwUp.main_arg4)
      ∧ r.2.mem ((c.tc : Thread Cert.KernelAdamwUp.nD Cert.KernelAdamwUp.τ).loc Cert.KernelAdamwUp.main_arg5) = m ((c.tc : Thread Cert.KernelAdamwUp.nD Cert.KernelAdamwUp.τ).loc Cert.KernelAdamwUp.main_arg5)
      ∧ r.2.mem ((c.tc : Thread Cert.KernelAdamwUp.nD Cert.KernelAdamwUp.τ).loc Cert.KernelAdamwUp.main_arg6) = m ((c.tc : Thread Cert.KernelAdamwUp.nD Cert.KernelAdamwUp.τ).loc Cert.KernelAdamwUp.main_arg6))
      ∧ r.2.sem = fun _ => 0)

def quiescent_KernelAdamwUpIdeal [hKernelAdamwUpIdeal : Cert.KernelAdamwUpIdeal.Facts] : Prop :=
  ∀ (m : (ℓ : Loc Cert.KernelAdamwUpIdeal.nD Cert.KernelAdamwUpIdeal.τ Cert.KernelAdamwUpIdeal.sig) → Buf (Elt Ideal) ℓ) (g : Dev Cert.KernelAdamwUpIdeal.nD → PrngReg), Pre_KernelAdamwUpIdeal m →
    θ_run (Cert.KernelAdamwUpIdeal.defs (F := Ideal)) (onTc (τ := Cert.KernelAdamwUpIdeal.τ) (Cert.KernelAdamwUpIdeal.main (F := Ideal))) ⟨m, fun _ => 0, g⟩ (fun r => (∀ c : Dev Cert.KernelAdamwUpIdeal.nD,
      r.2.mem ((c.tc : Thread Cert.KernelAdamwUpIdeal.nD Cert.KernelAdamwUpIdeal.τ).loc Cert.KernelAdamwUpIdeal.main_arg0) = m ((c.tc : Thread Cert.KernelAdamwUpIdeal.nD Cert.KernelAdamwUpIdeal.τ).loc Cert.KernelAdamwUpIdeal.main_arg0)
      ∧ r.2.mem ((c.tc : Thread Cert.KernelAdamwUpIdeal.nD Cert.KernelAdamwUpIdeal.τ).loc Cert.KernelAdamwUpIdeal.main_arg1) = m ((c.tc : Thread Cert.KernelAdamwUpIdeal.nD Cert.KernelAdamwUpIdeal.τ).loc Cert.KernelAdamwUpIdeal.main_arg1)
      ∧ r.2.mem ((c.tc : Thread Cert.KernelAdamwUpIdeal.nD Cert.KernelAdamwUpIdeal.τ).loc Cert.KernelAdamwUpIdeal.main_arg2) = m ((c.tc : Thread Cert.KernelAdamwUpIdeal.nD Cert.KernelAdamwUpIdeal.τ).loc Cert.KernelAdamwUpIdeal.main_arg2)
      ∧ r.2.mem ((c.tc : Thread Cert.KernelAdamwUpIdeal.nD Cert.KernelAdamwUpIdeal.τ).loc Cert.KernelAdamwUpIdeal.main_arg3) = m ((c.tc : Thread Cert.KernelAdamwUpIdeal.nD Cert.KernelAdamwUpIdeal.τ).loc Cert.KernelAdamwUpIdeal.main_arg3)
      ∧ r.2.mem ((c.tc : Thread Cert.KernelAdamwUpIdeal.nD Cert.KernelAdamwUpIdeal.τ).loc Cert.KernelAdamwUpIdeal.main_arg4) = m ((c.tc : Thread Cert.KernelAdamwUpIdeal.nD Cert.KernelAdamwUpIdeal.τ).loc Cert.KernelAdamwUpIdeal.main_arg4)
      ∧ r.2.mem ((c.tc : Thread Cert.KernelAdamwUpIdeal.nD Cert.KernelAdamwUpIdeal.τ).loc Cert.KernelAdamwUpIdeal.main_arg5) = m ((c.tc : Thread Cert.KernelAdamwUpIdeal.nD Cert.KernelAdamwUpIdeal.τ).loc Cert.KernelAdamwUpIdeal.main_arg5)
      ∧ r.2.mem ((c.tc : Thread Cert.KernelAdamwUpIdeal.nD Cert.KernelAdamwUpIdeal.τ).loc Cert.KernelAdamwUpIdeal.main_arg6) = m ((c.tc : Thread Cert.KernelAdamwUpIdeal.nD Cert.KernelAdamwUpIdeal.τ).loc Cert.KernelAdamwUpIdeal.main_arg6))
      ∧ r.2.sem = fun _ => 0)

def quiescent_ReferenceAdamwUpIdeal [hReferenceAdamwUpIdeal : Cert.ReferenceAdamwUpIdeal.Facts] : Prop :=
  ∀ (m : (ℓ : Loc Cert.ReferenceAdamwUpIdeal.nD Cert.ReferenceAdamwUpIdeal.τ Cert.ReferenceAdamwUpIdeal.sig) → Buf (Elt Ideal) ℓ) (g : Dev Cert.ReferenceAdamwUpIdeal.nD → PrngReg), Pre_ReferenceAdamwUpIdeal m →
    θ_run (Cert.ReferenceAdamwUpIdeal.defs (F := Ideal)) (onTc (τ := Cert.ReferenceAdamwUpIdeal.τ) (Cert.ReferenceAdamwUpIdeal.main (F := Ideal))) ⟨m, fun _ => 0, g⟩ (fun r => (∀ c : Dev Cert.ReferenceAdamwUpIdeal.nD,
      r.2.mem ((c.tc : Thread Cert.ReferenceAdamwUpIdeal.nD Cert.ReferenceAdamwUpIdeal.τ).loc Cert.ReferenceAdamwUpIdeal.main_arg0) = m ((c.tc : Thread Cert.ReferenceAdamwUpIdeal.nD Cert.ReferenceAdamwUpIdeal.τ).loc Cert.ReferenceAdamwUpIdeal.main_arg0)
      ∧ r.2.mem ((c.tc : Thread Cert.ReferenceAdamwUpIdeal.nD Cert.ReferenceAdamwUpIdeal.τ).loc Cert.ReferenceAdamwUpIdeal.main_arg1) = m ((c.tc : Thread Cert.ReferenceAdamwUpIdeal.nD Cert.ReferenceAdamwUpIdeal.τ).loc Cert.ReferenceAdamwUpIdeal.main_arg1)
      ∧ r.2.mem ((c.tc : Thread Cert.ReferenceAdamwUpIdeal.nD Cert.ReferenceAdamwUpIdeal.τ).loc Cert.ReferenceAdamwUpIdeal.main_arg2) = m ((c.tc : Thread Cert.ReferenceAdamwUpIdeal.nD Cert.ReferenceAdamwUpIdeal.τ).loc Cert.ReferenceAdamwUpIdeal.main_arg2)
      ∧ r.2.mem ((c.tc : Thread Cert.ReferenceAdamwUpIdeal.nD Cert.ReferenceAdamwUpIdeal.τ).loc Cert.ReferenceAdamwUpIdeal.main_arg3) = m ((c.tc : Thread Cert.ReferenceAdamwUpIdeal.nD Cert.ReferenceAdamwUpIdeal.τ).loc Cert.ReferenceAdamwUpIdeal.main_arg3)
      ∧ r.2.mem ((c.tc : Thread Cert.ReferenceAdamwUpIdeal.nD Cert.ReferenceAdamwUpIdeal.τ).loc Cert.ReferenceAdamwUpIdeal.main_arg4) = m ((c.tc : Thread Cert.ReferenceAdamwUpIdeal.nD Cert.ReferenceAdamwUpIdeal.τ).loc Cert.ReferenceAdamwUpIdeal.main_arg4)
      ∧ r.2.mem ((c.tc : Thread Cert.ReferenceAdamwUpIdeal.nD Cert.ReferenceAdamwUpIdeal.τ).loc Cert.ReferenceAdamwUpIdeal.main_arg5) = m ((c.tc : Thread Cert.ReferenceAdamwUpIdeal.nD Cert.ReferenceAdamwUpIdeal.τ).loc Cert.ReferenceAdamwUpIdeal.main_arg5)
      ∧ r.2.mem ((c.tc : Thread Cert.ReferenceAdamwUpIdeal.nD Cert.ReferenceAdamwUpIdeal.τ).loc Cert.ReferenceAdamwUpIdeal.main_arg6) = m ((c.tc : Thread Cert.ReferenceAdamwUpIdeal.nD Cert.ReferenceAdamwUpIdeal.τ).loc Cert.ReferenceAdamwUpIdeal.main_arg6))
      ∧ r.2.sem = fun _ => 0)

def quiescent_KernelAdamwUpLate [hKernelAdamwUpLate : Cert.KernelAdamwUpLate.Facts] : Prop :=
  ∀ (m : (ℓ : Loc Cert.KernelAdamwUpLate.nD Cert.KernelAdamwUpLate.τ Cert.KernelAdamwUpLate.sig) → Buf (Elt Bits) ℓ) (g : Dev Cert.KernelAdamwUpLate.nD → PrngReg), Pre_KernelAdamwUpLate m →
    θ_run (Cert.KernelAdamwUpLate.defs (F := Bits)) (onTc (τ := Cert.KernelAdamwUpLate.τ) (Cert.KernelAdamwUpLate.main (F := Bits))) ⟨m, fun _ => 0, g⟩ (fun r => (∀ c : Dev Cert.KernelAdamwUpLate.nD,
      r.2.mem ((c.tc : Thread Cert.KernelAdamwUpLate.nD Cert.KernelAdamwUpLate.τ).loc Cert.KernelAdamwUpLate.main_arg0) = m ((c.tc : Thread Cert.KernelAdamwUpLate.nD Cert.KernelAdamwUpLate.τ).loc Cert.KernelAdamwUpLate.main_arg0)
      ∧ r.2.mem ((c.tc : Thread Cert.KernelAdamwUpLate.nD Cert.KernelAdamwUpLate.τ).loc Cert.KernelAdamwUpLate.main_arg1) = m ((c.tc : Thread Cert.KernelAdamwUpLate.nD Cert.KernelAdamwUpLate.τ).loc Cert.KernelAdamwUpLate.main_arg1)
      ∧ r.2.mem ((c.tc : Thread Cert.KernelAdamwUpLate.nD Cert.KernelAdamwUpLate.τ).loc Cert.KernelAdamwUpLate.main_arg2) = m ((c.tc : Thread Cert.KernelAdamwUpLate.nD Cert.KernelAdamwUpLate.τ).loc Cert.KernelAdamwUpLate.main_arg2)
      ∧ r.2.mem ((c.tc : Thread Cert.KernelAdamwUpLate.nD Cert.KernelAdamwUpLate.τ).loc Cert.KernelAdamwUpLate.main_arg3) = m ((c.tc : Thread Cert.KernelAdamwUpLate.nD Cert.KernelAdamwUpLate.τ).loc Cert.KernelAdamwUpLate.main_arg3))
      ∧ r.2.sem = fun _ => 0)

def quiescent_KernelAdamwUpLateIdeal [hKernelAdamwUpLateIdeal : Cert.KernelAdamwUpLateIdeal.Facts] : Prop :=
  ∀ (m : (ℓ : Loc Cert.KernelAdamwUpLateIdeal.nD Cert.KernelAdamwUpLateIdeal.τ Cert.KernelAdamwUpLateIdeal.sig) → Buf (Elt Ideal) ℓ) (g : Dev Cert.KernelAdamwUpLateIdeal.nD → PrngReg), Pre_KernelAdamwUpLateIdeal m →
    θ_run (Cert.KernelAdamwUpLateIdeal.defs (F := Ideal)) (onTc (τ := Cert.KernelAdamwUpLateIdeal.τ) (Cert.KernelAdamwUpLateIdeal.main (F := Ideal))) ⟨m, fun _ => 0, g⟩ (fun r => (∀ c : Dev Cert.KernelAdamwUpLateIdeal.nD,
      r.2.mem ((c.tc : Thread Cert.KernelAdamwUpLateIdeal.nD Cert.KernelAdamwUpLateIdeal.τ).loc Cert.KernelAdamwUpLateIdeal.main_arg0) = m ((c.tc : Thread Cert.KernelAdamwUpLateIdeal.nD Cert.KernelAdamwUpLateIdeal.τ).loc Cert.KernelAdamwUpLateIdeal.main_arg0)
      ∧ r.2.mem ((c.tc : Thread Cert.KernelAdamwUpLateIdeal.nD Cert.KernelAdamwUpLateIdeal.τ).loc Cert.KernelAdamwUpLateIdeal.main_arg1) = m ((c.tc : Thread Cert.KernelAdamwUpLateIdeal.nD Cert.KernelAdamwUpLateIdeal.τ).loc Cert.KernelAdamwUpLateIdeal.main_arg1)
      ∧ r.2.mem ((c.tc : Thread Cert.KernelAdamwUpLateIdeal.nD Cert.KernelAdamwUpLateIdeal.τ).loc Cert.KernelAdamwUpLateIdeal.main_arg2) = m ((c.tc : Thread Cert.KernelAdamwUpLateIdeal.nD Cert.KernelAdamwUpLateIdeal.τ).loc Cert.KernelAdamwUpLateIdeal.main_arg2)
      ∧ r.2.mem ((c.tc : Thread Cert.KernelAdamwUpLateIdeal.nD Cert.KernelAdamwUpLateIdeal.τ).loc Cert.KernelAdamwUpLateIdeal.main_arg3) = m ((c.tc : Thread Cert.KernelAdamwUpLateIdeal.nD Cert.KernelAdamwUpLateIdeal.τ).loc Cert.KernelAdamwUpLateIdeal.main_arg3))
      ∧ r.2.sem = fun _ => 0)

def quiescent_ReferenceAdamwUpLateIdeal [hReferenceAdamwUpLateIdeal : Cert.ReferenceAdamwUpLateIdeal.Facts] : Prop :=
  ∀ (m : (ℓ : Loc Cert.ReferenceAdamwUpLateIdeal.nD Cert.ReferenceAdamwUpLateIdeal.τ Cert.ReferenceAdamwUpLateIdeal.sig) → Buf (Elt Ideal) ℓ) (g : Dev Cert.ReferenceAdamwUpLateIdeal.nD → PrngReg), Pre_ReferenceAdamwUpLateIdeal m →
    θ_run (Cert.ReferenceAdamwUpLateIdeal.defs (F := Ideal)) (onTc (τ := Cert.ReferenceAdamwUpLateIdeal.τ) (Cert.ReferenceAdamwUpLateIdeal.main (F := Ideal))) ⟨m, fun _ => 0, g⟩ (fun r => (∀ c : Dev Cert.ReferenceAdamwUpLateIdeal.nD,
      r.2.mem ((c.tc : Thread Cert.ReferenceAdamwUpLateIdeal.nD Cert.ReferenceAdamwUpLateIdeal.τ).loc Cert.ReferenceAdamwUpLateIdeal.main_arg0) = m ((c.tc : Thread Cert.ReferenceAdamwUpLateIdeal.nD Cert.ReferenceAdamwUpLateIdeal.τ).loc Cert.ReferenceAdamwUpLateIdeal.main_arg0)
      ∧ r.2.mem ((c.tc : Thread Cert.ReferenceAdamwUpLateIdeal.nD Cert.ReferenceAdamwUpLateIdeal.τ).loc Cert.ReferenceAdamwUpLateIdeal.main_arg1) = m ((c.tc : Thread Cert.ReferenceAdamwUpLateIdeal.nD Cert.ReferenceAdamwUpLateIdeal.τ).loc Cert.ReferenceAdamwUpLateIdeal.main_arg1)
      ∧ r.2.mem ((c.tc : Thread Cert.ReferenceAdamwUpLateIdeal.nD Cert.ReferenceAdamwUpLateIdeal.τ).loc Cert.ReferenceAdamwUpLateIdeal.main_arg2) = m ((c.tc : Thread Cert.ReferenceAdamwUpLateIdeal.nD Cert.ReferenceAdamwUpLateIdeal.τ).loc Cert.ReferenceAdamwUpLateIdeal.main_arg2)
      ∧ r.2.mem ((c.tc : Thread Cert.ReferenceAdamwUpLateIdeal.nD Cert.ReferenceAdamwUpLateIdeal.τ).loc Cert.ReferenceAdamwUpLateIdeal.main_arg3) = m ((c.tc : Thread Cert.ReferenceAdamwUpLateIdeal.nD Cert.ReferenceAdamwUpLateIdeal.τ).loc Cert.ReferenceAdamwUpLateIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v199) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v201) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDx1_KernelDx1Ideal : Prop :=
  True

def algebraic_KernelDx1Ideal_ReferenceDx1Ideal [hKernelDx1Ideal : Cert.KernelDx1Ideal.Facts] [hReferenceDx1Ideal : Cert.ReferenceDx1Ideal.Facts] : Prop :=
  ∀ (m : (ℓ : Loc Cert.KernelDx1Ideal.nD Cert.KernelDx1Ideal.τ Cert.KernelDx1Ideal.sig) → Buf (Elt Ideal) ℓ) (g : Dev Cert.KernelDx1Ideal.nD → PrngReg)
    (m' : (ℓ : Loc Cert.ReferenceDx1Ideal.nD Cert.ReferenceDx1Ideal.τ Cert.ReferenceDx1Ideal.sig) → Buf (Elt Ideal) ℓ) (g' : Dev Cert.ReferenceDx1Ideal.nD → PrngReg), Pre_KernelDx1Ideal m →
    (∀ c : Dev Cert.KernelDx1Ideal.nD,
      m' ((c.tc : Thread Cert.ReferenceDx1Ideal.nD Cert.ReferenceDx1Ideal.τ).loc Cert.ReferenceDx1Ideal.main_arg0) = m ((c.tc : Thread Cert.KernelDx1Ideal.nD Cert.KernelDx1Ideal.τ).loc Cert.KernelDx1Ideal.main_arg0)
      ∧ m' ((c.tc : Thread Cert.ReferenceDx1Ideal.nD Cert.ReferenceDx1Ideal.τ).loc Cert.ReferenceDx1Ideal.main_arg1) = m ((c.tc : Thread Cert.KernelDx1Ideal.nD Cert.KernelDx1Ideal.τ).loc Cert.KernelDx1Ideal.main_arg1)
      ∧ m' ((c.tc : Thread Cert.ReferenceDx1Ideal.nD Cert.ReferenceDx1Ideal.τ).loc Cert.ReferenceDx1Ideal.main_arg2) = m ((c.tc : Thread Cert.KernelDx1Ideal.nD Cert.KernelDx1Ideal.τ).loc Cert.KernelDx1Ideal.main_arg2)) →
    ∃ (v0 : (c : Dev Cert.KernelDx1Ideal.nD) → Buf (Elt Ideal) ((c.tc : Thread Cert.KernelDx1Ideal.nD Cert.KernelDx1Ideal.τ).loc Cert.KernelDx1Ideal.main_v10)),
      θ_run (Cert.KernelDx1Ideal.defs (F := Ideal)) (onTc (τ := Cert.KernelDx1Ideal.τ) (Cert.KernelDx1Ideal.main (F := Ideal))) ⟨m, fun _ => 0, g⟩ (fun r => ∀ c : Dev Cert.KernelDx1Ideal.nD,
          r.2.mem ((c.tc : Thread Cert.KernelDx1Ideal.nD Cert.KernelDx1Ideal.τ).loc Cert.KernelDx1Ideal.main_v10) = v0 c
          ∧ r.2.mem ((c.tc : Thread Cert.KernelDx1Ideal.nD Cert.KernelDx1Ideal.τ).loc Cert.KernelDx1Ideal.main_arg0) = m ((c.tc : Thread Cert.KernelDx1Ideal.nD Cert.KernelDx1Ideal.τ).loc Cert.KernelDx1Ideal.main_arg0)
          ∧ r.2.mem ((c.tc : Thread Cert.KernelDx1Ideal.nD Cert.KernelDx1Ideal.τ).loc Cert.KernelDx1Ideal.main_arg1) = m ((c.tc : Thread Cert.KernelDx1Ideal.nD Cert.KernelDx1Ideal.τ).loc Cert.KernelDx1Ideal.main_arg1)
          ∧ r.2.mem ((c.tc : Thread Cert.KernelDx1Ideal.nD Cert.KernelDx1Ideal.τ).loc Cert.KernelDx1Ideal.main_arg2) = m ((c.tc : Thread Cert.KernelDx1Ideal.nD Cert.KernelDx1Ideal.τ).loc Cert.KernelDx1Ideal.main_arg2))
      ∧ θ_run (Cert.ReferenceDx1Ideal.defs (F := Ideal)) (onTc (τ := Cert.ReferenceDx1Ideal.τ) (Cert.ReferenceDx1Ideal.main (F := Ideal))) ⟨m', fun _ => 0, g'⟩ (fun r => ∀ c : Dev Cert.ReferenceDx1Ideal.nD,
          r.2.mem ((c.tc : Thread Cert.ReferenceDx1Ideal.nD Cert.ReferenceDx1Ideal.τ).loc Cert.ReferenceDx1Ideal.main_v5) = v0 c
          ∧ r.2.mem ((c.tc : Thread Cert.ReferenceDx1Ideal.nD Cert.ReferenceDx1Ideal.τ).loc Cert.ReferenceDx1Ideal.main_arg0) = m' ((c.tc : Thread Cert.ReferenceDx1Ideal.nD Cert.ReferenceDx1Ideal.τ).loc Cert.ReferenceDx1Ideal.main_arg0)
          ∧ r.2.mem ((c.tc : Thread Cert.ReferenceDx1Ideal.nD Cert.ReferenceDx1Ideal.τ).loc Cert.ReferenceDx1Ideal.main_arg1) = m' ((c.tc : Thread Cert.ReferenceDx1Ideal.nD Cert.ReferenceDx1Ideal.τ).loc Cert.ReferenceDx1Ideal.main_arg1)
          ∧ r.2.mem ((c.tc : Thread Cert.ReferenceDx1Ideal.nD Cert.ReferenceDx1Ideal.τ).loc Cert.ReferenceDx1Ideal.main_arg2) = m' ((c.tc : Thread Cert.ReferenceDx1Ideal.nD Cert.ReferenceDx1Ideal.τ).loc Cert.ReferenceDx1Ideal.main_arg2))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)) →
    ∃ (v0 : (c : Dev Cert.KernelDwUpIdeal.nD) → Buf (Elt Ideal) ((c.tc : Thread Cert.KernelDwUpIdeal.nD Cert.KernelDwUpIdeal.τ).loc Cert.KernelDwUpIdeal.main_v6)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v6) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v7) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)) →
    ∃ (v0 : (c : Dev Cert.KernelDaIdeal.nD) → Buf (Elt Ideal) ((c.tc : Thread Cert.KernelDaIdeal.nD Cert.KernelDaIdeal.τ).loc Cert.KernelDaIdeal.main_v6)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v6) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v5) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v6)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v6) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v6) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelDcat_KernelDcatIdeal : Prop :=
  True

def algebraic_KernelDcatIdeal_ReferenceDcatIdeal [hKernelDcatIdeal : Cert.KernelDcatIdeal.Facts] [hReferenceDcatIdeal : Cert.ReferenceDcatIdeal.Facts] : Prop :=
  ∀ (m : (ℓ : Loc Cert.KernelDcatIdeal.nD Cert.KernelDcatIdeal.τ Cert.KernelDcatIdeal.sig) → Buf (Elt Ideal) ℓ) (g : Dev Cert.KernelDcatIdeal.nD → PrngReg)
    (m' : (ℓ : Loc Cert.ReferenceDcatIdeal.nD Cert.ReferenceDcatIdeal.τ Cert.ReferenceDcatIdeal.sig) → Buf (Elt Ideal) ℓ) (g' : Dev Cert.ReferenceDcatIdeal.nD → PrngReg), Pre_KernelDcatIdeal m →
    (∀ c : Dev Cert.KernelDcatIdeal.nD,
      m' ((c.tc : Thread Cert.ReferenceDcatIdeal.nD Cert.ReferenceDcatIdeal.τ).loc Cert.ReferenceDcatIdeal.main_arg0) = m ((c.tc : Thread Cert.KernelDcatIdeal.nD Cert.KernelDcatIdeal.τ).loc Cert.KernelDcatIdeal.main_arg0)
      ∧ m' ((c.tc : Thread Cert.ReferenceDcatIdeal.nD Cert.ReferenceDcatIdeal.τ).loc Cert.ReferenceDcatIdeal.main_arg1) = m ((c.tc : Thread Cert.KernelDcatIdeal.nD Cert.KernelDcatIdeal.τ).loc Cert.KernelDcatIdeal.main_arg1)) →
    ∃ (v0 : (c : Dev Cert.KernelDcatIdeal.nD) → Buf (Elt Ideal) ((c.tc : Thread Cert.KernelDcatIdeal.nD Cert.KernelDcatIdeal.τ).loc Cert.KernelDcatIdeal.main_v4)),
      θ_run (Cert.KernelDcatIdeal.defs (F := Ideal)) (onTc (τ := Cert.KernelDcatIdeal.τ) (Cert.KernelDcatIdeal.main (F := Ideal))) ⟨m, fun _ => 0, g⟩ (fun r => ∀ c : Dev Cert.KernelDcatIdeal.nD,
          r.2.mem ((c.tc : Thread Cert.KernelDcatIdeal.nD Cert.KernelDcatIdeal.τ).loc Cert.KernelDcatIdeal.main_v4) = v0 c
          ∧ r.2.mem ((c.tc : Thread Cert.KernelDcatIdeal.nD Cert.KernelDcatIdeal.τ).loc Cert.KernelDcatIdeal.main_arg0) = m ((c.tc : Thread Cert.KernelDcatIdeal.nD Cert.KernelDcatIdeal.τ).loc Cert.KernelDcatIdeal.main_arg0)
          ∧ r.2.mem ((c.tc : Thread Cert.KernelDcatIdeal.nD Cert.KernelDcatIdeal.τ).loc Cert.KernelDcatIdeal.main_arg1) = m ((c.tc : Thread Cert.KernelDcatIdeal.nD Cert.KernelDcatIdeal.τ).loc Cert.KernelDcatIdeal.main_arg1))
      ∧ θ_run (Cert.ReferenceDcatIdeal.defs (F := Ideal)) (onTc (τ := Cert.ReferenceDcatIdeal.τ) (Cert.ReferenceDcatIdeal.main (F := Ideal))) ⟨m', fun _ => 0, g'⟩ (fun r => ∀ c : Dev Cert.ReferenceDcatIdeal.nD,
          r.2.mem ((c.tc : Thread Cert.ReferenceDcatIdeal.nD Cert.ReferenceDcatIdeal.τ).loc Cert.ReferenceDcatIdeal.main_v2) = v0 c
          ∧ r.2.mem ((c.tc : Thread Cert.ReferenceDcatIdeal.nD Cert.ReferenceDcatIdeal.τ).loc Cert.ReferenceDcatIdeal.main_arg0) = m' ((c.tc : Thread Cert.ReferenceDcatIdeal.nD Cert.ReferenceDcatIdeal.τ).loc Cert.ReferenceDcatIdeal.main_arg0)
          ∧ r.2.mem ((c.tc : Thread Cert.ReferenceDcatIdeal.nD Cert.ReferenceDcatIdeal.τ).loc Cert.ReferenceDcatIdeal.main_arg1) = m' ((c.tc : Thread Cert.ReferenceDcatIdeal.nD Cert.ReferenceDcatIdeal.τ).loc Cert.ReferenceDcatIdeal.main_arg1))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v3)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v3) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v4) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDx0_KernelDx0Ideal : Prop :=
  True

def algebraic_KernelDx0Ideal_ReferenceDx0Ideal [hKernelDx0Ideal : Cert.KernelDx0Ideal.Facts] [hReferenceDx0Ideal : Cert.ReferenceDx0Ideal.Facts] : Prop :=
  ∀ (m : (ℓ : Loc Cert.KernelDx0Ideal.nD Cert.KernelDx0Ideal.τ Cert.KernelDx0Ideal.sig) → Buf (Elt Ideal) ℓ) (g : Dev Cert.KernelDx0Ideal.nD → PrngReg)
    (m' : (ℓ : Loc Cert.ReferenceDx0Ideal.nD Cert.ReferenceDx0Ideal.τ Cert.ReferenceDx0Ideal.sig) → Buf (Elt Ideal) ℓ) (g' : Dev Cert.ReferenceDx0Ideal.nD → PrngReg), Pre_KernelDx0Ideal m →
    (∀ c : Dev Cert.KernelDx0Ideal.nD,
      m' ((c.tc : Thread Cert.ReferenceDx0Ideal.nD Cert.ReferenceDx0Ideal.τ).loc Cert.ReferenceDx0Ideal.main_arg0) = m ((c.tc : Thread Cert.KernelDx0Ideal.nD Cert.KernelDx0Ideal.τ).loc Cert.KernelDx0Ideal.main_arg0)
      ∧ m' ((c.tc : Thread Cert.ReferenceDx0Ideal.nD Cert.ReferenceDx0Ideal.τ).loc Cert.ReferenceDx0Ideal.main_arg1) = m ((c.tc : Thread Cert.KernelDx0Ideal.nD Cert.KernelDx0Ideal.τ).loc Cert.KernelDx0Ideal.main_arg1)
      ∧ m' ((c.tc : Thread Cert.ReferenceDx0Ideal.nD Cert.ReferenceDx0Ideal.τ).loc Cert.ReferenceDx0Ideal.main_arg2) = m ((c.tc : Thread Cert.KernelDx0Ideal.nD Cert.KernelDx0Ideal.τ).loc Cert.KernelDx0Ideal.main_arg2)) →
    ∃ (v0 : (c : Dev Cert.KernelDx0Ideal.nD) → Buf (Elt Ideal) ((c.tc : Thread Cert.KernelDx0Ideal.nD Cert.KernelDx0Ideal.τ).loc Cert.KernelDx0Ideal.main_v5)),
      θ_run (Cert.KernelDx0Ideal.defs (F := Ideal)) (onTc (τ := Cert.KernelDx0Ideal.τ) (Cert.KernelDx0Ideal.main (F := Ideal))) ⟨m, fun _ => 0, g⟩ (fun r => ∀ c : Dev Cert.KernelDx0Ideal.nD,
          r.2.mem ((c.tc : Thread Cert.KernelDx0Ideal.nD Cert.KernelDx0Ideal.τ).loc Cert.KernelDx0Ideal.main_v5) = v0 c
          ∧ r.2.mem ((c.tc : Thread Cert.KernelDx0Ideal.nD Cert.KernelDx0Ideal.τ).loc Cert.KernelDx0Ideal.main_arg0) = m ((c.tc : Thread Cert.KernelDx0Ideal.nD Cert.KernelDx0Ideal.τ).loc Cert.KernelDx0Ideal.main_arg0)
          ∧ r.2.mem ((c.tc : Thread Cert.KernelDx0Ideal.nD Cert.KernelDx0Ideal.τ).loc Cert.KernelDx0Ideal.main_arg1) = m ((c.tc : Thread Cert.KernelDx0Ideal.nD Cert.KernelDx0Ideal.τ).loc Cert.KernelDx0Ideal.main_arg1)
          ∧ r.2.mem ((c.tc : Thread Cert.KernelDx0Ideal.nD Cert.KernelDx0Ideal.τ).loc Cert.KernelDx0Ideal.main_arg2) = m ((c.tc : Thread Cert.KernelDx0Ideal.nD Cert.KernelDx0Ideal.τ).loc Cert.KernelDx0Ideal.main_arg2))
      ∧ θ_run (Cert.ReferenceDx0Ideal.defs (F := Ideal)) (onTc (τ := Cert.ReferenceDx0Ideal.τ) (Cert.ReferenceDx0Ideal.main (F := Ideal))) ⟨m', fun _ => 0, g'⟩ (fun r => ∀ c : Dev Cert.ReferenceDx0Ideal.nD,
          r.2.mem ((c.tc : Thread Cert.ReferenceDx0Ideal.nD Cert.ReferenceDx0Ideal.τ).loc Cert.ReferenceDx0Ideal.main_v5) = v0 c
          ∧ r.2.mem ((c.tc : Thread Cert.ReferenceDx0Ideal.nD Cert.ReferenceDx0Ideal.τ).loc Cert.ReferenceDx0Ideal.main_arg0) = m' ((c.tc : Thread Cert.ReferenceDx0Ideal.nD Cert.ReferenceDx0Ideal.τ).loc Cert.ReferenceDx0Ideal.main_arg0)
          ∧ r.2.mem ((c.tc : Thread Cert.ReferenceDx0Ideal.nD Cert.ReferenceDx0Ideal.τ).loc Cert.ReferenceDx0Ideal.main_arg1) = m' ((c.tc : Thread Cert.ReferenceDx0Ideal.nD Cert.ReferenceDx0Ideal.τ).loc Cert.ReferenceDx0Ideal.main_arg1)
          ∧ r.2.mem ((c.tc : Thread Cert.ReferenceDx0Ideal.nD Cert.ReferenceDx0Ideal.τ).loc Cert.ReferenceDx0Ideal.main_arg2) = m' ((c.tc : Thread Cert.ReferenceDx0Ideal.nD Cert.ReferenceDx0Ideal.τ).loc Cert.ReferenceDx0Ideal.main_arg2))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v3)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v3) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v5) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelMmIn_KernelMmInIdeal : Prop :=
  True

def algebraic_KernelMmInIdeal_ReferenceMmInIdeal [hKernelMmInIdeal : Cert.KernelMmInIdeal.Facts] [hReferenceMmInIdeal : Cert.ReferenceMmInIdeal.Facts] : Prop :=
  ∀ (m : (ℓ : Loc Cert.KernelMmInIdeal.nD Cert.KernelMmInIdeal.τ Cert.KernelMmInIdeal.sig) → Buf (Elt Ideal) ℓ) (g : Dev Cert.KernelMmInIdeal.nD → PrngReg)
    (m' : (ℓ : Loc Cert.ReferenceMmInIdeal.nD Cert.ReferenceMmInIdeal.τ Cert.ReferenceMmInIdeal.sig) → Buf (Elt Ideal) ℓ) (g' : Dev Cert.ReferenceMmInIdeal.nD → PrngReg), Pre_KernelMmInIdeal m →
    (∀ c : Dev Cert.KernelMmInIdeal.nD,
      m' ((c.tc : Thread Cert.ReferenceMmInIdeal.nD Cert.ReferenceMmInIdeal.τ).loc Cert.ReferenceMmInIdeal.main_arg0) = m ((c.tc : Thread Cert.KernelMmInIdeal.nD Cert.KernelMmInIdeal.τ).loc Cert.KernelMmInIdeal.main_arg0)
      ∧ m' ((c.tc : Thread Cert.ReferenceMmInIdeal.nD Cert.ReferenceMmInIdeal.τ).loc Cert.ReferenceMmInIdeal.main_arg1) = m ((c.tc : Thread Cert.KernelMmInIdeal.nD Cert.KernelMmInIdeal.τ).loc Cert.KernelMmInIdeal.main_arg1)) →
    ∃ (v0 : (c : Dev Cert.KernelMmInIdeal.nD) → Buf (Elt Ideal) ((c.tc : Thread Cert.KernelMmInIdeal.nD Cert.KernelMmInIdeal.τ).loc Cert.KernelMmInIdeal.main_v4)),
      θ_run (Cert.KernelMmInIdeal.defs (F := Ideal)) (onTc (τ := Cert.KernelMmInIdeal.τ) (Cert.KernelMmInIdeal.main (F := Ideal))) ⟨m, fun _ => 0, g⟩ (fun r => ∀ c : Dev Cert.KernelMmInIdeal.nD,
          r.2.mem ((c.tc : Thread Cert.KernelMmInIdeal.nD Cert.KernelMmInIdeal.τ).loc Cert.KernelMmInIdeal.main_v4) = v0 c
          ∧ r.2.mem ((c.tc : Thread Cert.KernelMmInIdeal.nD Cert.KernelMmInIdeal.τ).loc Cert.KernelMmInIdeal.main_arg0) = m ((c.tc : Thread Cert.KernelMmInIdeal.nD Cert.KernelMmInIdeal.τ).loc Cert.KernelMmInIdeal.main_arg0)
          ∧ r.2.mem ((c.tc : Thread Cert.KernelMmInIdeal.nD Cert.KernelMmInIdeal.τ).loc Cert.KernelMmInIdeal.main_arg1) = m ((c.tc : Thread Cert.KernelMmInIdeal.nD Cert.KernelMmInIdeal.τ).loc Cert.KernelMmInIdeal.main_arg1))
      ∧ θ_run (Cert.ReferenceMmInIdeal.defs (F := Ideal)) (onTc (τ := Cert.ReferenceMmInIdeal.τ) (Cert.ReferenceMmInIdeal.main (F := Ideal))) ⟨m', fun _ => 0, g'⟩ (fun r => ∀ c : Dev Cert.ReferenceMmInIdeal.nD,
          r.2.mem ((c.tc : Thread Cert.ReferenceMmInIdeal.nD Cert.ReferenceMmInIdeal.τ).loc Cert.ReferenceMmInIdeal.main_v1) = v0 c
          ∧ r.2.mem ((c.tc : Thread Cert.ReferenceMmInIdeal.nD Cert.ReferenceMmInIdeal.τ).loc Cert.ReferenceMmInIdeal.main_arg0) = m' ((c.tc : Thread Cert.ReferenceMmInIdeal.nD Cert.ReferenceMmInIdeal.τ).loc Cert.ReferenceMmInIdeal.main_arg0)
          ∧ r.2.mem ((c.tc : Thread Cert.ReferenceMmInIdeal.nD Cert.ReferenceMmInIdeal.τ).loc Cert.ReferenceMmInIdeal.main_arg1) = m' ((c.tc : Thread Cert.ReferenceMmInIdeal.nD Cert.ReferenceMmInIdeal.τ).loc Cert.ReferenceMmInIdeal.main_arg1))

def preserves_KernelMmOut_KernelMmOutIdeal : Prop :=
  True

def algebraic_KernelMmOutIdeal_ReferenceMmOutIdeal [hKernelMmOutIdeal : Cert.KernelMmOutIdeal.Facts] [hReferenceMmOutIdeal : Cert.ReferenceMmOutIdeal.Facts] : Prop :=
  ∀ (m : (ℓ : Loc Cert.KernelMmOutIdeal.nD Cert.KernelMmOutIdeal.τ Cert.KernelMmOutIdeal.sig) → Buf (Elt Ideal) ℓ) (g : Dev Cert.KernelMmOutIdeal.nD → PrngReg)
    (m' : (ℓ : Loc Cert.ReferenceMmOutIdeal.nD Cert.ReferenceMmOutIdeal.τ Cert.ReferenceMmOutIdeal.sig) → Buf (Elt Ideal) ℓ) (g' : Dev Cert.ReferenceMmOutIdeal.nD → PrngReg), Pre_KernelMmOutIdeal m →
    (∀ c : Dev Cert.KernelMmOutIdeal.nD,
      m' ((c.tc : Thread Cert.ReferenceMmOutIdeal.nD Cert.ReferenceMmOutIdeal.τ).loc Cert.ReferenceMmOutIdeal.main_arg0) = m ((c.tc : Thread Cert.KernelMmOutIdeal.nD Cert.KernelMmOutIdeal.τ).loc Cert.KernelMmOutIdeal.main_arg0)
      ∧ m' ((c.tc : Thread Cert.ReferenceMmOutIdeal.nD Cert.ReferenceMmOutIdeal.τ).loc Cert.ReferenceMmOutIdeal.main_arg1) = m ((c.tc : Thread Cert.KernelMmOutIdeal.nD Cert.KernelMmOutIdeal.τ).loc Cert.KernelMmOutIdeal.main_arg1)) →
    ∃ (v0 : (c : Dev Cert.KernelMmOutIdeal.nD) → Buf (Elt Ideal) ((c.tc : Thread Cert.KernelMmOutIdeal.nD Cert.KernelMmOutIdeal.τ).loc Cert.KernelMmOutIdeal.main_v3)),
      θ_run (Cert.KernelMmOutIdeal.defs (F := Ideal)) (onTc (τ := Cert.KernelMmOutIdeal.τ) (Cert.KernelMmOutIdeal.main (F := Ideal))) ⟨m, fun _ => 0, g⟩ (fun r => ∀ c : Dev Cert.KernelMmOutIdeal.nD,
          r.2.mem ((c.tc : Thread Cert.KernelMmOutIdeal.nD Cert.KernelMmOutIdeal.τ).loc Cert.KernelMmOutIdeal.main_v3) = v0 c
          ∧ r.2.mem ((c.tc : Thread Cert.KernelMmOutIdeal.nD Cert.KernelMmOutIdeal.τ).loc Cert.KernelMmOutIdeal.main_arg0) = m ((c.tc : Thread Cert.KernelMmOutIdeal.nD Cert.KernelMmOutIdeal.τ).loc Cert.KernelMmOutIdeal.main_arg0)
          ∧ r.2.mem ((c.tc : Thread Cert.KernelMmOutIdeal.nD Cert.KernelMmOutIdeal.τ).loc Cert.KernelMmOutIdeal.main_arg1) = m ((c.tc : Thread Cert.KernelMmOutIdeal.nD Cert.KernelMmOutIdeal.τ).loc Cert.KernelMmOutIdeal.main_arg1))
      ∧ θ_run (Cert.ReferenceMmOutIdeal.defs (F := Ideal)) (onTc (τ := Cert.ReferenceMmOutIdeal.τ) (Cert.ReferenceMmOutIdeal.main (F := Ideal))) ⟨m', fun _ => 0, g'⟩ (fun r => ∀ c : Dev Cert.ReferenceMmOutIdeal.nD,
          r.2.mem ((c.tc : Thread Cert.ReferenceMmOutIdeal.nD Cert.ReferenceMmOutIdeal.τ).loc Cert.ReferenceMmOutIdeal.main_v1) = v0 c
          ∧ r.2.mem ((c.tc : Thread Cert.ReferenceMmOutIdeal.nD Cert.ReferenceMmOutIdeal.τ).loc Cert.ReferenceMmOutIdeal.main_arg0) = m' ((c.tc : Thread Cert.ReferenceMmOutIdeal.nD Cert.ReferenceMmOutIdeal.τ).loc Cert.ReferenceMmOutIdeal.main_arg0)
          ∧ r.2.mem ((c.tc : Thread Cert.ReferenceMmOutIdeal.nD Cert.ReferenceMmOutIdeal.τ).loc Cert.ReferenceMmOutIdeal.main_arg1) = m' ((c.tc : Thread Cert.ReferenceMmOutIdeal.nD Cert.ReferenceMmOutIdeal.τ).loc Cert.ReferenceMmOutIdeal.main_arg1))

def preserves_KernelMmUp_KernelMmUpIdeal : Prop :=
  True

def algebraic_KernelMmUpIdeal_ReferenceMmUpIdeal [hKernelMmUpIdeal : Cert.KernelMmUpIdeal.Facts] [hReferenceMmUpIdeal : Cert.ReferenceMmUpIdeal.Facts] : Prop :=
  ∀ (m : (ℓ : Loc Cert.KernelMmUpIdeal.nD Cert.KernelMmUpIdeal.τ Cert.KernelMmUpIdeal.sig) → Buf (Elt Ideal) ℓ) (g : Dev Cert.KernelMmUpIdeal.nD → PrngReg)
    (m' : (ℓ : Loc Cert.ReferenceMmUpIdeal.nD Cert.ReferenceMmUpIdeal.τ Cert.ReferenceMmUpIdeal.sig) → Buf (Elt Ideal) ℓ) (g' : Dev Cert.ReferenceMmUpIdeal.nD → PrngReg), Pre_KernelMmUpIdeal m →
    (∀ c : Dev Cert.KernelMmUpIdeal.nD,
      m' ((c.tc : Thread Cert.ReferenceMmUpIdeal.nD Cert.ReferenceMmUpIdeal.τ).loc Cert.ReferenceMmUpIdeal.main_arg0) = m ((c.tc : Thread Cert.KernelMmUpIdeal.nD Cert.KernelMmUpIdeal.τ).loc Cert.KernelMmUpIdeal.main_arg0)
      ∧ m' ((c.tc : Thread Cert.ReferenceMmUpIdeal.nD Cert.ReferenceMmUpIdeal.τ).loc Cert.ReferenceMmUpIdeal.main_arg1) = m ((c.tc : Thread Cert.KernelMmUpIdeal.nD Cert.KernelMmUpIdeal.τ).loc Cert.KernelMmUpIdeal.main_arg1)) →
    ∃ (v0 : (c : Dev Cert.KernelMmUpIdeal.nD) → Buf (Elt Ideal) ((c.tc : Thread Cert.KernelMmUpIdeal.nD Cert.KernelMmUpIdeal.τ).loc Cert.KernelMmUpIdeal.main_v6)),
      θ_run (Cert.KernelMmUpIdeal.defs (F := Ideal)) (onTc (τ := Cert.KernelMmUpIdeal.τ) (Cert.KernelMmUpIdeal.main (F := Ideal))) ⟨m, fun _ => 0, g⟩ (fun r => ∀ c : Dev Cert.KernelMmUpIdeal.nD,
          r.2.mem ((c.tc : Thread Cert.KernelMmUpIdeal.nD Cert.KernelMmUpIdeal.τ).loc Cert.KernelMmUpIdeal.main_v6) = v0 c
          ∧ r.2.mem ((c.tc : Thread Cert.KernelMmUpIdeal.nD Cert.KernelMmUpIdeal.τ).loc Cert.KernelMmUpIdeal.main_arg0) = m ((c.tc : Thread Cert.KernelMmUpIdeal.nD Cert.KernelMmUpIdeal.τ).loc Cert.KernelMmUpIdeal.main_arg0)
          ∧ r.2.mem ((c.tc : Thread Cert.KernelMmUpIdeal.nD Cert.KernelMmUpIdeal.τ).loc Cert.KernelMmUpIdeal.main_arg1) = m ((c.tc : Thread Cert.KernelMmUpIdeal.nD Cert.KernelMmUpIdeal.τ).loc Cert.KernelMmUpIdeal.main_arg1))
      ∧ θ_run (Cert.ReferenceMmUpIdeal.defs (F := Ideal)) (onTc (τ := Cert.ReferenceMmUpIdeal.τ) (Cert.ReferenceMmUpIdeal.main (F := Ideal))) ⟨m', fun _ => 0, g'⟩ (fun r => ∀ c : Dev Cert.ReferenceMmUpIdeal.nD,
          r.2.mem ((c.tc : Thread Cert.ReferenceMmUpIdeal.nD Cert.ReferenceMmUpIdeal.τ).loc Cert.ReferenceMmUpIdeal.main_v4) = v0 c
          ∧ r.2.mem ((c.tc : Thread Cert.ReferenceMmUpIdeal.nD Cert.ReferenceMmUpIdeal.τ).loc Cert.ReferenceMmUpIdeal.main_arg0) = m' ((c.tc : Thread Cert.ReferenceMmUpIdeal.nD Cert.ReferenceMmUpIdeal.τ).loc Cert.ReferenceMmUpIdeal.main_arg0)
          ∧ r.2.mem ((c.tc : Thread Cert.ReferenceMmUpIdeal.nD Cert.ReferenceMmUpIdeal.τ).loc Cert.ReferenceMmUpIdeal.main_arg1) = m' ((c.tc : Thread Cert.ReferenceMmUpIdeal.nD Cert.ReferenceMmUpIdeal.τ).loc Cert.ReferenceMmUpIdeal.main_arg1))

def preserves_KernelMmDown_KernelMmDownIdeal : Prop :=
  True

def algebraic_KernelMmDownIdeal_ReferenceMmDownIdeal [hKernelMmDownIdeal : Cert.KernelMmDownIdeal.Facts] [hReferenceMmDownIdeal : Cert.ReferenceMmDownIdeal.Facts] : Prop :=
  ∀ (m : (ℓ : Loc Cert.KernelMmDownIdeal.nD Cert.KernelMmDownIdeal.τ Cert.KernelMmDownIdeal.sig) → Buf (Elt Ideal) ℓ) (g : Dev Cert.KernelMmDownIdeal.nD → PrngReg)
    (m' : (ℓ : Loc Cert.ReferenceMmDownIdeal.nD Cert.ReferenceMmDownIdeal.τ Cert.ReferenceMmDownIdeal.sig) → Buf (Elt Ideal) ℓ) (g' : Dev Cert.ReferenceMmDownIdeal.nD → PrngReg), Pre_KernelMmDownIdeal m →
    (∀ c : Dev Cert.KernelMmDownIdeal.nD,
      m' ((c.tc : Thread Cert.ReferenceMmDownIdeal.nD Cert.ReferenceMmDownIdeal.τ).loc Cert.ReferenceMmDownIdeal.main_arg0) = m ((c.tc : Thread Cert.KernelMmDownIdeal.nD Cert.KernelMmDownIdeal.τ).loc Cert.KernelMmDownIdeal.main_arg0)
      ∧ m' ((c.tc : Thread Cert.ReferenceMmDownIdeal.nD Cert.ReferenceMmDownIdeal.τ).loc Cert.ReferenceMmDownIdeal.main_arg1) = m ((c.tc : Thread Cert.KernelMmDownIdeal.nD Cert.KernelMmDownIdeal.τ).loc Cert.KernelMmDownIdeal.main_arg1)) →
    ∃ (v0 : (c : Dev Cert.KernelMmDownIdeal.nD) → Buf (Elt Ideal) ((c.tc : Thread Cert.KernelMmDownIdeal.nD Cert.KernelMmDownIdeal.τ).loc Cert.KernelMmDownIdeal.main_v8)),
      θ_run (Cert.KernelMmDownIdeal.defs (F := Ideal)) (onTc (τ := Cert.KernelMmDownIdeal.τ) (Cert.KernelMmDownIdeal.main (F := Ideal))) ⟨m, fun _ => 0, g⟩ (fun r => ∀ c : Dev Cert.KernelMmDownIdeal.nD,
          r.2.mem ((c.tc : Thread Cert.KernelMmDownIdeal.nD Cert.KernelMmDownIdeal.τ).loc Cert.KernelMmDownIdeal.main_v8) = v0 c
          ∧ r.2.mem ((c.tc : Thread Cert.KernelMmDownIdeal.nD Cert.KernelMmDownIdeal.τ).loc Cert.KernelMmDownIdeal.main_arg0) = m ((c.tc : Thread Cert.KernelMmDownIdeal.nD Cert.KernelMmDownIdeal.τ).loc Cert.KernelMmDownIdeal.main_arg0)
          ∧ r.2.mem ((c.tc : Thread Cert.KernelMmDownIdeal.nD Cert.KernelMmDownIdeal.τ).loc Cert.KernelMmDownIdeal.main_arg1) = m ((c.tc : Thread Cert.KernelMmDownIdeal.nD Cert.KernelMmDownIdeal.τ).loc Cert.KernelMmDownIdeal.main_arg1))
      ∧ θ_run (Cert.ReferenceMmDownIdeal.defs (F := Ideal)) (onTc (τ := Cert.ReferenceMmDownIdeal.τ) (Cert.ReferenceMmDownIdeal.main (F := Ideal))) ⟨m', fun _ => 0, g'⟩ (fun r => ∀ c : Dev Cert.ReferenceMmDownIdeal.nD,
          r.2.mem ((c.tc : Thread Cert.ReferenceMmDownIdeal.nD Cert.ReferenceMmDownIdeal.τ).loc Cert.ReferenceMmDownIdeal.main_v1) = v0 c
          ∧ r.2.mem ((c.tc : Thread Cert.ReferenceMmDownIdeal.nD Cert.ReferenceMmDownIdeal.τ).loc Cert.ReferenceMmDownIdeal.main_arg0) = m' ((c.tc : Thread Cert.ReferenceMmDownIdeal.nD Cert.ReferenceMmDownIdeal.τ).loc Cert.ReferenceMmDownIdeal.main_arg0)
          ∧ r.2.mem ((c.tc : Thread Cert.ReferenceMmDownIdeal.nD Cert.ReferenceMmDownIdeal.τ).loc Cert.ReferenceMmDownIdeal.main_arg1) = m' ((c.tc : Thread Cert.ReferenceMmDownIdeal.nD Cert.ReferenceMmDownIdeal.τ).loc Cert.ReferenceMmDownIdeal.main_arg1))

def preserves_KernelLnFwd_KernelLnFwdIdeal : Prop :=
  True

def algebraic_KernelLnFwdIdeal_ReferenceLnFwdIdeal [hKernelLnFwdIdeal : Cert.KernelLnFwdIdeal.Facts] [hReferenceLnFwdIdeal : Cert.ReferenceLnFwdIdeal.Facts] : Prop :=
  ∀ (m : (ℓ : Loc Cert.KernelLnFwdIdeal.nD Cert.KernelLnFwdIdeal.τ Cert.KernelLnFwdIdeal.sig) → Buf (Elt Ideal) ℓ) (g : Dev Cert.KernelLnFwdIdeal.nD → PrngReg)
    (m' : (ℓ : Loc Cert.ReferenceLnFwdIdeal.nD Cert.ReferenceLnFwdIdeal.τ Cert.ReferenceLnFwdIdeal.sig) → Buf (Elt Ideal) ℓ) (g' : Dev Cert.ReferenceLnFwdIdeal.nD → PrngReg), Pre_KernelLnFwdIdeal m →
    (∀ c : Dev Cert.KernelLnFwdIdeal.nD,
      m' ((c.tc : Thread Cert.ReferenceLnFwdIdeal.nD Cert.ReferenceLnFwdIdeal.τ).loc Cert.ReferenceLnFwdIdeal.main_arg0) = m ((c.tc : Thread Cert.KernelLnFwdIdeal.nD Cert.KernelLnFwdIdeal.τ).loc Cert.KernelLnFwdIdeal.main_arg0)
      ∧ m' ((c.tc : Thread Cert.ReferenceLnFwdIdeal.nD Cert.ReferenceLnFwdIdeal.τ).loc Cert.ReferenceLnFwdIdeal.main_arg1) = m ((c.tc : Thread Cert.KernelLnFwdIdeal.nD Cert.KernelLnFwdIdeal.τ).loc Cert.KernelLnFwdIdeal.main_arg1)
      ∧ m' ((c.tc : Thread Cert.ReferenceLnFwdIdeal.nD Cert.ReferenceLnFwdIdeal.τ).loc Cert.ReferenceLnFwdIdeal.main_arg2) = m ((c.tc : Thread Cert.KernelLnFwdIdeal.nD Cert.KernelLnFwdIdeal.τ).loc Cert.KernelLnFwdIdeal.main_arg2)
      ∧ m' ((c.tc : Thread Cert.ReferenceLnFwdIdeal.nD Cert.ReferenceLnFwdIdeal.τ).loc Cert.ReferenceLnFwdIdeal.main_arg3) = m ((c.tc : Thread Cert.KernelLnFwdIdeal.nD Cert.KernelLnFwdIdeal.τ).loc Cert.KernelLnFwdIdeal.main_arg3)) →
    ∃ (v0 : (c : Dev Cert.KernelLnFwdIdeal.nD) → Buf (Elt Ideal) ((c.tc : Thread Cert.KernelLnFwdIdeal.nD Cert.KernelLnFwdIdeal.τ).loc Cert.KernelLnFwdIdeal.main_v2_0)) (v1 : (c : Dev Cert.KernelLnFwdIdeal.nD) → Buf (Elt Ideal) ((c.tc : Thread Cert.KernelLnFwdIdeal.nD Cert.KernelLnFwdIdeal.τ).loc Cert.KernelLnFwdIdeal.main_v2_1)) (v2 : (c : Dev Cert.KernelLnFwdIdeal.nD) → Buf (Elt Ideal) ((c.tc : Thread Cert.KernelLnFwdIdeal.nD Cert.KernelLnFwdIdeal.τ).loc Cert.KernelLnFwdIdeal.main_v2_2)),
      θ_run (Cert.KernelLnFwdIdeal.defs (F := Ideal)) (onTc (τ := Cert.KernelLnFwdIdeal.τ) (Cert.KernelLnFwdIdeal.main (F := Ideal))) ⟨m, fun _ => 0, g⟩ (fun r => ∀ c : Dev Cert.KernelLnFwdIdeal.nD,
          r.2.mem ((c.tc : Thread Cert.KernelLnFwdIdeal.nD Cert.KernelLnFwdIdeal.τ).loc Cert.KernelLnFwdIdeal.main_v2_0) = v0 c
          ∧ r.2.mem ((c.tc : Thread Cert.KernelLnFwdIdeal.nD Cert.KernelLnFwdIdeal.τ).loc Cert.KernelLnFwdIdeal.main_v2_1) = v1 c
          ∧ r.2.mem ((c.tc : Thread Cert.KernelLnFwdIdeal.nD Cert.KernelLnFwdIdeal.τ).loc Cert.KernelLnFwdIdeal.main_v2_2) = v2 c
          ∧ r.2.mem ((c.tc : Thread Cert.KernelLnFwdIdeal.nD Cert.KernelLnFwdIdeal.τ).loc Cert.KernelLnFwdIdeal.main_arg0) = m ((c.tc : Thread Cert.KernelLnFwdIdeal.nD Cert.KernelLnFwdIdeal.τ).loc Cert.KernelLnFwdIdeal.main_arg0)
          ∧ r.2.mem ((c.tc : Thread Cert.KernelLnFwdIdeal.nD Cert.KernelLnFwdIdeal.τ).loc Cert.KernelLnFwdIdeal.main_arg1) = m ((c.tc : Thread Cert.KernelLnFwdIdeal.nD Cert.KernelLnFwdIdeal.τ).loc Cert.KernelLnFwdIdeal.main_arg1)
          ∧ r.2.mem ((c.tc : Thread Cert.KernelLnFwdIdeal.nD Cert.KernelLnFwdIdeal.τ).loc Cert.KernelLnFwdIdeal.main_arg2) = m ((c.tc : Thread Cert.KernelLnFwdIdeal.nD Cert.KernelLnFwdIdeal.τ).loc Cert.KernelLnFwdIdeal.main_arg2)
          ∧ r.2.mem ((c.tc : Thread Cert.KernelLnFwdIdeal.nD Cert.KernelLnFwdIdeal.τ).loc Cert.KernelLnFwdIdeal.main_arg3) = m ((c.tc : Thread Cert.KernelLnFwdIdeal.nD Cert.KernelLnFwdIdeal.τ).loc Cert.KernelLnFwdIdeal.main_arg3))
      ∧ θ_run (Cert.ReferenceLnFwdIdeal.defs (F := Ideal)) (onTc (τ := Cert.ReferenceLnFwdIdeal.τ) (Cert.ReferenceLnFwdIdeal.main (F := Ideal))) ⟨m', fun _ => 0, g'⟩ (fun r => ∀ c : Dev Cert.ReferenceLnFwdIdeal.nD,
          r.2.mem ((c.tc : Thread Cert.ReferenceLnFwdIdeal.nD Cert.ReferenceLnFwdIdeal.τ).loc Cert.ReferenceLnFwdIdeal.main_v26) = v0 c
          ∧ r.2.mem ((c.tc : Thread Cert.ReferenceLnFwdIdeal.nD Cert.ReferenceLnFwdIdeal.τ).loc Cert.ReferenceLnFwdIdeal.main_v27) = v1 c
          ∧ r.2.mem ((c.tc : Thread Cert.ReferenceLnFwdIdeal.nD Cert.ReferenceLnFwdIdeal.τ).loc Cert.ReferenceLnFwdIdeal.main_v2) = v2 c
          ∧ r.2.mem ((c.tc : Thread Cert.ReferenceLnFwdIdeal.nD Cert.ReferenceLnFwdIdeal.τ).loc Cert.ReferenceLnFwdIdeal.main_arg0) = m' ((c.tc : Thread Cert.ReferenceLnFwdIdeal.nD Cert.ReferenceLnFwdIdeal.τ).loc Cert.ReferenceLnFwdIdeal.main_arg0)
          ∧ r.2.mem ((c.tc : Thread Cert.ReferenceLnFwdIdeal.nD Cert.ReferenceLnFwdIdeal.τ).loc Cert.ReferenceLnFwdIdeal.main_arg1) = m' ((c.tc : Thread Cert.ReferenceLnFwdIdeal.nD Cert.ReferenceLnFwdIdeal.τ).loc Cert.ReferenceLnFwdIdeal.main_arg1)
          ∧ r.2.mem ((c.tc : Thread Cert.ReferenceLnFwdIdeal.nD Cert.ReferenceLnFwdIdeal.τ).loc Cert.ReferenceLnFwdIdeal.main_arg2) = m' ((c.tc : Thread Cert.ReferenceLnFwdIdeal.nD Cert.ReferenceLnFwdIdeal.τ).loc Cert.ReferenceLnFwdIdeal.main_arg2)
          ∧ r.2.mem ((c.tc : Thread Cert.ReferenceLnFwdIdeal.nD Cert.ReferenceLnFwdIdeal.τ).loc Cert.ReferenceLnFwdIdeal.main_arg3) = m' ((c.tc : Thread Cert.ReferenceLnFwdIdeal.nD Cert.ReferenceLnFwdIdeal.τ).loc Cert.ReferenceLnFwdIdeal.main_arg3))

def preserves_KernelLnBwd_KernelLnBwdIdeal : Prop :=
  True

def algebraic_KernelLnBwdIdeal_ReferenceLnBwdIdeal_pre_finite_ln [hKernelLnBwdIdeal : Cert.KernelLnBwdIdeal.Facts] [hReferenceLnBwdIdeal : Cert.ReferenceLnBwdIdeal.Facts] [hPre_finite_ln : Cert.Pre_finite_ln.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg)
    (m' : (ℓ : Loc Cert.ReferenceLnBwdIdeal.nD Cert.ReferenceLnBwdIdeal.τ Cert.ReferenceLnBwdIdeal.sig) → Buf (Elt Ideal) ℓ) (g' : Dev Cert.ReferenceLnBwdIdeal.nD → PrngReg), Pre_KernelLnBwdIdeal_finite_ln m →
    (∀ c : Dev Cert.KernelLnBwdIdeal.nD,
      m' ((c.tc : Thread Cert.ReferenceLnBwdIdeal.nD Cert.ReferenceLnBwdIdeal.τ).loc Cert.ReferenceLnBwdIdeal.main_arg0) = m ((c.tc : Thread Cert.KernelLnBwdIdeal.nD Cert.KernelLnBwdIdeal.τ).loc Cert.KernelLnBwdIdeal.main_arg0)
      ∧ m' ((c.tc : Thread Cert.ReferenceLnBwdIdeal.nD Cert.ReferenceLnBwdIdeal.τ).loc Cert.ReferenceLnBwdIdeal.main_arg1) = m ((c.tc : Thread Cert.KernelLnBwdIdeal.nD Cert.KernelLnBwdIdeal.τ).loc Cert.KernelLnBwdIdeal.main_arg1)
      ∧ m' ((c.tc : Thread Cert.ReferenceLnBwdIdeal.nD Cert.ReferenceLnBwdIdeal.τ).loc Cert.ReferenceLnBwdIdeal.main_arg2) = m ((c.tc : Thread Cert.KernelLnBwdIdeal.nD Cert.KernelLnBwdIdeal.τ).loc Cert.KernelLnBwdIdeal.main_arg2)) →
    ∃ (v0 : (c : Dev Cert.KernelLnBwdIdeal.nD) → Buf (Elt Ideal) ((c.tc : Thread Cert.KernelLnBwdIdeal.nD Cert.KernelLnBwdIdeal.τ).loc Cert.KernelLnBwdIdeal.main_v1_0)) (v1 : (c : Dev Cert.KernelLnBwdIdeal.nD) → Buf (Elt Ideal) ((c.tc : Thread Cert.KernelLnBwdIdeal.nD Cert.KernelLnBwdIdeal.τ).loc Cert.KernelLnBwdIdeal.main_v1_1)) (v2 : (c : Dev Cert.KernelLnBwdIdeal.nD) → Buf (Elt Ideal) ((c.tc : Thread Cert.KernelLnBwdIdeal.nD Cert.KernelLnBwdIdeal.τ).loc Cert.KernelLnBwdIdeal.main_v1_2)) (v3 : (c : Dev Cert.KernelLnBwdIdeal.nD) → Buf (Elt Ideal) ((c.tc : Thread Cert.KernelLnBwdIdeal.nD Cert.KernelLnBwdIdeal.τ).loc Cert.KernelLnBwdIdeal.main_v1_3)),
      θ_run (Cert.KernelLnBwdIdeal.defs (F := Ideal)) (onTc (τ := Cert.KernelLnBwdIdeal.τ) (Cert.KernelLnBwdIdeal.main (F := Ideal))) ⟨m, fun _ => 0, g⟩ (fun r => ∀ c : Dev Cert.KernelLnBwdIdeal.nD,
          r.2.mem ((c.tc : Thread Cert.KernelLnBwdIdeal.nD Cert.KernelLnBwdIdeal.τ).loc Cert.KernelLnBwdIdeal.main_v1_0) = v0 c
          ∧ r.2.mem ((c.tc : Thread Cert.KernelLnBwdIdeal.nD Cert.KernelLnBwdIdeal.τ).loc Cert.KernelLnBwdIdeal.main_v1_1) = v1 c
          ∧ r.2.mem ((c.tc : Thread Cert.KernelLnBwdIdeal.nD Cert.KernelLnBwdIdeal.τ).loc Cert.KernelLnBwdIdeal.main_v1_2) = v2 c
          ∧ r.2.mem ((c.tc : Thread Cert.KernelLnBwdIdeal.nD Cert.KernelLnBwdIdeal.τ).loc Cert.KernelLnBwdIdeal.main_v1_3) = v3 c
          ∧ r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
          ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
          ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2))
      ∧ θ_run (Cert.ReferenceLnBwdIdeal.defs (F := Ideal)) (onTc (τ := Cert.ReferenceLnBwdIdeal.τ) (Cert.ReferenceLnBwdIdeal.main (F := Ideal))) ⟨m', fun _ => 0, g'⟩ (fun r => ∀ c : Dev Cert.ReferenceLnBwdIdeal.nD,
          r.2.mem ((c.tc : Thread Cert.ReferenceLnBwdIdeal.nD Cert.ReferenceLnBwdIdeal.τ).loc Cert.ReferenceLnBwdIdeal.main_v63) = v0 c
          ∧ r.2.mem ((c.tc : Thread Cert.ReferenceLnBwdIdeal.nD Cert.ReferenceLnBwdIdeal.τ).loc Cert.ReferenceLnBwdIdeal.main_v64) = v1 c
          ∧ r.2.mem ((c.tc : Thread Cert.ReferenceLnBwdIdeal.nD Cert.ReferenceLnBwdIdeal.τ).loc Cert.ReferenceLnBwdIdeal.main_v65) = v2 c
          ∧ r.2.mem ((c.tc : Thread Cert.ReferenceLnBwdIdeal.nD Cert.ReferenceLnBwdIdeal.τ).loc Cert.ReferenceLnBwdIdeal.main_v66) = v3 c
          ∧ r.2.mem ((c.tc : Thread Cert.ReferenceLnBwdIdeal.nD Cert.ReferenceLnBwdIdeal.τ).loc Cert.ReferenceLnBwdIdeal.main_arg0) = m' ((c.tc : Thread Cert.ReferenceLnBwdIdeal.nD Cert.ReferenceLnBwdIdeal.τ).loc Cert.ReferenceLnBwdIdeal.main_arg0)
          ∧ r.2.mem ((c.tc : Thread Cert.ReferenceLnBwdIdeal.nD Cert.ReferenceLnBwdIdeal.τ).loc Cert.ReferenceLnBwdIdeal.main_arg1) = m' ((c.tc : Thread Cert.ReferenceLnBwdIdeal.nD Cert.ReferenceLnBwdIdeal.τ).loc Cert.ReferenceLnBwdIdeal.main_arg1)
          ∧ r.2.mem ((c.tc : Thread Cert.ReferenceLnBwdIdeal.nD Cert.ReferenceLnBwdIdeal.τ).loc Cert.ReferenceLnBwdIdeal.main_arg2) = m' ((c.tc : Thread Cert.ReferenceLnBwdIdeal.nD Cert.ReferenceLnBwdIdeal.τ).loc Cert.ReferenceLnBwdIdeal.main_arg2))

def preserves_KernelLossHead_KernelLossHeadIdeal : Prop :=
  True

def algebraic_KernelLossHeadIdeal_ReferenceLossHeadIdeal [hKernelLossHeadIdeal : Cert.KernelLossHeadIdeal.Facts] [hReferenceLossHeadIdeal : Cert.ReferenceLossHeadIdeal.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg)
    (m' : (ℓ : Loc Cert.ReferenceLossHeadIdeal.nD Cert.ReferenceLossHeadIdeal.τ Cert.ReferenceLossHeadIdeal.sig) → Buf (Elt Ideal) ℓ) (g' : Dev Cert.ReferenceLossHeadIdeal.nD → PrngReg), Pre_KernelLossHeadIdeal m →
    (∀ c : Dev Cert.KernelLossHeadIdeal.nD,
      m' ((c.tc : Thread Cert.ReferenceLossHeadIdeal.nD Cert.ReferenceLossHeadIdeal.τ).loc Cert.ReferenceLossHeadIdeal.main_arg0) = m ((c.tc : Thread Cert.KernelLossHeadIdeal.nD Cert.KernelLossHeadIdeal.τ).loc Cert.KernelLossHeadIdeal.main_arg0)
      ∧ m' ((c.tc : Thread Cert.ReferenceLossHeadIdeal.nD Cert.ReferenceLossHeadIdeal.τ).loc Cert.ReferenceLossHeadIdeal.main_arg1) = m ((c.tc : Thread Cert.KernelLossHeadIdeal.nD Cert.KernelLossHeadIdeal.τ).loc Cert.KernelLossHeadIdeal.main_arg1)) →
    ∃ (v0 : (c : Dev Cert.KernelLossHeadIdeal.nD) → Buf (Elt Ideal) ((c.tc : Thread Cert.KernelLossHeadIdeal.nD Cert.KernelLossHeadIdeal.τ).loc Cert.KernelLossHeadIdeal.main_v0_0)) (v1 : (c : Dev Cert.KernelLossHeadIdeal.nD) → Buf (Elt Ideal) ((c.tc : Thread Cert.KernelLossHeadIdeal.nD Cert.KernelLossHeadIdeal.τ).loc Cert.KernelLossHeadIdeal.main_v0_1)),
      θ_run (Cert.KernelLossHeadIdeal.defs (F := Ideal)) (onTc (τ := Cert.KernelLossHeadIdeal.τ) (Cert.KernelLossHeadIdeal.main (F := Ideal))) ⟨m, fun _ => 0, g⟩ (fun r => ∀ c : Dev Cert.KernelLossHeadIdeal.nD,
          r.2.mem ((c.tc : Thread Cert.KernelLossHeadIdeal.nD Cert.KernelLossHeadIdeal.τ).loc Cert.KernelLossHeadIdeal.main_v0_0) = v0 c
          ∧ r.2.mem ((c.tc : Thread Cert.KernelLossHeadIdeal.nD Cert.KernelLossHeadIdeal.τ).loc Cert.KernelLossHeadIdeal.main_v0_1) = v1 c
          ∧ r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
          ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1))
      ∧ θ_run (Cert.ReferenceLossHeadIdeal.defs (F := Ideal)) (onTc (τ := Cert.ReferenceLossHeadIdeal.τ) (Cert.ReferenceLossHeadIdeal.main (F := Ideal))) ⟨m', fun _ => 0, g'⟩ (fun r => ∀ c : Dev Cert.ReferenceLossHeadIdeal.nD,
          r.2.mem ((c.tc : Thread Cert.ReferenceLossHeadIdeal.nD Cert.ReferenceLossHeadIdeal.τ).loc Cert.ReferenceLossHeadIdeal.main_v14) = v0 c
          ∧ r.2.mem ((c.tc : Thread Cert.ReferenceLossHeadIdeal.nD Cert.ReferenceLossHeadIdeal.τ).loc Cert.ReferenceLossHeadIdeal.main_v21) = v1 c
          ∧ r.2.mem ((c.tc : Thread Cert.ReferenceLossHeadIdeal.nD Cert.ReferenceLossHeadIdeal.τ).loc Cert.ReferenceLossHeadIdeal.main_arg0) = m' ((c.tc : Thread Cert.ReferenceLossHeadIdeal.nD Cert.ReferenceLossHeadIdeal.τ).loc Cert.ReferenceLossHeadIdeal.main_arg0)
          ∧ r.2.mem ((c.tc : Thread Cert.ReferenceLossHeadIdeal.nD Cert.ReferenceLossHeadIdeal.τ).loc Cert.ReferenceLossHeadIdeal.main_arg1) = m' ((c.tc : Thread Cert.ReferenceLossHeadIdeal.nD Cert.ReferenceLossHeadIdeal.τ).loc Cert.ReferenceLossHeadIdeal.main_arg1))

def preserves_KernelSumDevices_KernelSumDevicesIdeal : Prop :=
  True

def algebraic_KernelSumDevicesIdeal_ReferenceSumDevicesIdeal [hKernelSumDevicesIdeal : Cert.KernelSumDevicesIdeal.Facts] [hReferenceSumDevicesIdeal : Cert.ReferenceSumDevicesIdeal.Facts] : Prop :=
  ∀ (m : (ℓ : Loc Cert.KernelSumDevicesIdeal.nD Cert.KernelSumDevicesIdeal.τ Cert.KernelSumDevicesIdeal.sig) → Buf (Elt Ideal) ℓ) (g : Dev Cert.KernelSumDevicesIdeal.nD → PrngReg)
    (m' : (ℓ : Loc Cert.ReferenceSumDevicesIdeal.nD Cert.ReferenceSumDevicesIdeal.τ Cert.ReferenceSumDevicesIdeal.sig) → Buf (Elt Ideal) ℓ) (g' : Dev Cert.ReferenceSumDevicesIdeal.nD → PrngReg), Pre_KernelSumDevicesIdeal m →
    (∀ c : Dev Cert.KernelSumDevicesIdeal.nD,
      m' ((c.tc : Thread Cert.ReferenceSumDevicesIdeal.nD Cert.ReferenceSumDevicesIdeal.τ).loc Cert.ReferenceSumDevicesIdeal.main_arg0) = m ((c.tc : Thread Cert.KernelSumDevicesIdeal.nD Cert.KernelSumDevicesIdeal.τ).loc Cert.KernelSumDevicesIdeal.main_arg0)) →
    ∃ (v0 : (c : Dev Cert.KernelSumDevicesIdeal.nD) → Buf (Elt Ideal) ((c.tc : Thread Cert.KernelSumDevicesIdeal.nD Cert.KernelSumDevicesIdeal.τ).loc Cert.KernelSumDevicesIdeal.main_v0)),
      θ_run (Cert.KernelSumDevicesIdeal.defs (F := Ideal)) (onTc (τ := Cert.KernelSumDevicesIdeal.τ) (Cert.KernelSumDevicesIdeal.main (F := Ideal))) ⟨m, fun _ => 0, g⟩ (fun r => ∀ c : Dev Cert.KernelSumDevicesIdeal.nD,
          r.2.mem ((c.tc : Thread Cert.KernelSumDevicesIdeal.nD Cert.KernelSumDevicesIdeal.τ).loc Cert.KernelSumDevicesIdeal.main_v0) = v0 c
          ∧ r.2.mem ((c.tc : Thread Cert.KernelSumDevicesIdeal.nD Cert.KernelSumDevicesIdeal.τ).loc Cert.KernelSumDevicesIdeal.main_arg0) = m ((c.tc : Thread Cert.KernelSumDevicesIdeal.nD Cert.KernelSumDevicesIdeal.τ).loc Cert.KernelSumDevicesIdeal.main_arg0))
      ∧ θ_run (Cert.ReferenceSumDevicesIdeal.defs (F := Ideal)) (onTc (τ := Cert.ReferenceSumDevicesIdeal.τ) (Cert.ReferenceSumDevicesIdeal.main (F := Ideal))) ⟨m', fun _ => 0, g'⟩ (fun r => ∀ c : Dev Cert.ReferenceSumDevicesIdeal.nD,
          r.2.mem ((c.tc : Thread Cert.ReferenceSumDevicesIdeal.nD Cert.ReferenceSumDevicesIdeal.τ).loc Cert.ReferenceSumDevicesIdeal.main_v0) = v0 c
          ∧ r.2.mem ((c.tc : Thread Cert.ReferenceSumDevicesIdeal.nD Cert.ReferenceSumDevicesIdeal.τ).loc Cert.ReferenceSumDevicesIdeal.main_arg0) = m' ((c.tc : Thread Cert.ReferenceSumDevicesIdeal.nD Cert.ReferenceSumDevicesIdeal.τ).loc Cert.ReferenceSumDevicesIdeal.main_arg0))

def preserves_KernelAdamwDown_KernelAdamwDownIdeal : Prop :=
  True

def algebraic_KernelAdamwDownIdeal_ReferenceAdamwDownIdeal [hKernelAdamwDownIdeal : Cert.KernelAdamwDownIdeal.Facts] [hReferenceAdamwDownIdeal : Cert.ReferenceAdamwDownIdeal.Facts] : Prop :=
  ∀ (m : (ℓ : Loc Cert.KernelAdamwDownIdeal.nD Cert.KernelAdamwDownIdeal.τ Cert.KernelAdamwDownIdeal.sig) → Buf (Elt Ideal) ℓ) (g : Dev Cert.KernelAdamwDownIdeal.nD → PrngReg)
    (m' : (ℓ : Loc Cert.ReferenceAdamwDownIdeal.nD Cert.ReferenceAdamwDownIdeal.τ Cert.ReferenceAdamwDownIdeal.sig) → Buf (Elt Ideal) ℓ) (g' : Dev Cert.ReferenceAdamwDownIdeal.nD → PrngReg), Pre_KernelAdamwDownIdeal m →
    (∀ c : Dev Cert.KernelAdamwDownIdeal.nD,
      m' ((c.tc : Thread Cert.ReferenceAdamwDownIdeal.nD Cert.ReferenceAdamwDownIdeal.τ).loc Cert.ReferenceAdamwDownIdeal.main_arg0) = m ((c.tc : Thread Cert.KernelAdamwDownIdeal.nD Cert.KernelAdamwDownIdeal.τ).loc Cert.KernelAdamwDownIdeal.main_arg0)
      ∧ m' ((c.tc : Thread Cert.ReferenceAdamwDownIdeal.nD Cert.ReferenceAdamwDownIdeal.τ).loc Cert.ReferenceAdamwDownIdeal.main_arg1) = m ((c.tc : Thread Cert.KernelAdamwDownIdeal.nD Cert.KernelAdamwDownIdeal.τ).loc Cert.KernelAdamwDownIdeal.main_arg1)
      ∧ m' ((c.tc : Thread Cert.ReferenceAdamwDownIdeal.nD Cert.ReferenceAdamwDownIdeal.τ).loc Cert.ReferenceAdamwDownIdeal.main_arg2) = m ((c.tc : Thread Cert.KernelAdamwDownIdeal.nD Cert.KernelAdamwDownIdeal.τ).loc Cert.KernelAdamwDownIdeal.main_arg2)
      ∧ m' ((c.tc : Thread Cert.ReferenceAdamwDownIdeal.nD Cert.ReferenceAdamwDownIdeal.τ).loc Cert.ReferenceAdamwDownIdeal.main_arg3) = m ((c.tc : Thread Cert.KernelAdamwDownIdeal.nD Cert.KernelAdamwDownIdeal.τ).loc Cert.KernelAdamwDownIdeal.main_arg3)
      ∧ m' ((c.tc : Thread Cert.ReferenceAdamwDownIdeal.nD Cert.ReferenceAdamwDownIdeal.τ).loc Cert.ReferenceAdamwDownIdeal.main_arg4) = m ((c.tc : Thread Cert.KernelAdamwDownIdeal.nD Cert.KernelAdamwDownIdeal.τ).loc Cert.KernelAdamwDownIdeal.main_arg4)
      ∧ m' ((c.tc : Thread Cert.ReferenceAdamwDownIdeal.nD Cert.ReferenceAdamwDownIdeal.τ).loc Cert.ReferenceAdamwDownIdeal.main_arg5) = m ((c.tc : Thread Cert.KernelAdamwDownIdeal.nD Cert.KernelAdamwDownIdeal.τ).loc Cert.KernelAdamwDownIdeal.main_arg5)
      ∧ m' ((c.tc : Thread Cert.ReferenceAdamwDownIdeal.nD Cert.ReferenceAdamwDownIdeal.τ).loc Cert.ReferenceAdamwDownIdeal.main_arg6) = m ((c.tc : Thread Cert.KernelAdamwDownIdeal.nD Cert.KernelAdamwDownIdeal.τ).loc Cert.KernelAdamwDownIdeal.main_arg6)) →
    ∃ (v0 : (c : Dev Cert.KernelAdamwDownIdeal.nD) → Buf (Elt Ideal) ((c.tc : Thread Cert.KernelAdamwDownIdeal.nD Cert.KernelAdamwDownIdeal.τ).loc Cert.KernelAdamwDownIdeal.main_v0_0)) (v1 : (c : Dev Cert.KernelAdamwDownIdeal.nD) → Buf (Elt Ideal) ((c.tc : Thread Cert.KernelAdamwDownIdeal.nD Cert.KernelAdamwDownIdeal.τ).loc Cert.KernelAdamwDownIdeal.main_v0_1)) (v2 : (c : Dev Cert.KernelAdamwDownIdeal.nD) → Buf (Elt Ideal) ((c.tc : Thread Cert.KernelAdamwDownIdeal.nD Cert.KernelAdamwDownIdeal.τ).loc Cert.KernelAdamwDownIdeal.main_v0_2)),
      θ_run (Cert.KernelAdamwDownIdeal.defs (F := Ideal)) (onTc (τ := Cert.KernelAdamwDownIdeal.τ) (Cert.KernelAdamwDownIdeal.main (F := Ideal))) ⟨m, fun _ => 0, g⟩ (fun r => ∀ c : Dev Cert.KernelAdamwDownIdeal.nD,
          r.2.mem ((c.tc : Thread Cert.KernelAdamwDownIdeal.nD Cert.KernelAdamwDownIdeal.τ).loc Cert.KernelAdamwDownIdeal.main_v0_0) = v0 c
          ∧ r.2.mem ((c.tc : Thread Cert.KernelAdamwDownIdeal.nD Cert.KernelAdamwDownIdeal.τ).loc Cert.KernelAdamwDownIdeal.main_v0_1) = v1 c
          ∧ r.2.mem ((c.tc : Thread Cert.KernelAdamwDownIdeal.nD Cert.KernelAdamwDownIdeal.τ).loc Cert.KernelAdamwDownIdeal.main_v0_2) = v2 c
          ∧ r.2.mem ((c.tc : Thread Cert.KernelAdamwDownIdeal.nD Cert.KernelAdamwDownIdeal.τ).loc Cert.KernelAdamwDownIdeal.main_arg0) = m ((c.tc : Thread Cert.KernelAdamwDownIdeal.nD Cert.KernelAdamwDownIdeal.τ).loc Cert.KernelAdamwDownIdeal.main_arg0)
          ∧ r.2.mem ((c.tc : Thread Cert.KernelAdamwDownIdeal.nD Cert.KernelAdamwDownIdeal.τ).loc Cert.KernelAdamwDownIdeal.main_arg1) = m ((c.tc : Thread Cert.KernelAdamwDownIdeal.nD Cert.KernelAdamwDownIdeal.τ).loc Cert.KernelAdamwDownIdeal.main_arg1)
          ∧ r.2.mem ((c.tc : Thread Cert.KernelAdamwDownIdeal.nD Cert.KernelAdamwDownIdeal.τ).loc Cert.KernelAdamwDownIdeal.main_arg2) = m ((c.tc : Thread Cert.KernelAdamwDownIdeal.nD Cert.KernelAdamwDownIdeal.τ).loc Cert.KernelAdamwDownIdeal.main_arg2)
          ∧ r.2.mem ((c.tc : Thread Cert.KernelAdamwDownIdeal.nD Cert.KernelAdamwDownIdeal.τ).loc Cert.KernelAdamwDownIdeal.main_arg3) = m ((c.tc : Thread Cert.KernelAdamwDownIdeal.nD Cert.KernelAdamwDownIdeal.τ).loc Cert.KernelAdamwDownIdeal.main_arg3)
          ∧ r.2.mem ((c.tc : Thread Cert.KernelAdamwDownIdeal.nD Cert.KernelAdamwDownIdeal.τ).loc Cert.KernelAdamwDownIdeal.main_arg4) = m ((c.tc : Thread Cert.KernelAdamwDownIdeal.nD Cert.KernelAdamwDownIdeal.τ).loc Cert.KernelAdamwDownIdeal.main_arg4)
          ∧ r.2.mem ((c.tc : Thread Cert.KernelAdamwDownIdeal.nD Cert.KernelAdamwDownIdeal.τ).loc Cert.KernelAdamwDownIdeal.main_arg5) = m ((c.tc : Thread Cert.KernelAdamwDownIdeal.nD Cert.KernelAdamwDownIdeal.τ).loc Cert.KernelAdamwDownIdeal.main_arg5)
          ∧ r.2.mem ((c.tc : Thread Cert.KernelAdamwDownIdeal.nD Cert.KernelAdamwDownIdeal.τ).loc Cert.KernelAdamwDownIdeal.main_arg6) = m ((c.tc : Thread Cert.KernelAdamwDownIdeal.nD Cert.KernelAdamwDownIdeal.τ).loc Cert.KernelAdamwDownIdeal.main_arg6))
      ∧ θ_run (Cert.ReferenceAdamwDownIdeal.defs (F := Ideal)) (onTc (τ := Cert.ReferenceAdamwDownIdeal.τ) (Cert.ReferenceAdamwDownIdeal.main (F := Ideal))) ⟨m', fun _ => 0, g'⟩ (fun r => ∀ c : Dev Cert.ReferenceAdamwDownIdeal.nD,
          r.2.mem ((c.tc : Thread Cert.ReferenceAdamwDownIdeal.nD Cert.ReferenceAdamwDownIdeal.τ).loc Cert.ReferenceAdamwDownIdeal.main_v28) = v0 c
          ∧ r.2.mem ((c.tc : Thread Cert.ReferenceAdamwDownIdeal.nD Cert.ReferenceAdamwDownIdeal.τ).loc Cert.ReferenceAdamwDownIdeal.main_v30) = v1 c
          ∧ r.2.mem ((c.tc : Thread Cert.ReferenceAdamwDownIdeal.nD Cert.ReferenceAdamwDownIdeal.τ).loc Cert.ReferenceAdamwDownIdeal.main_v32) = v2 c
          ∧ r.2.mem ((c.tc : Thread Cert.ReferenceAdamwDownIdeal.nD Cert.ReferenceAdamwDownIdeal.τ).loc Cert.ReferenceAdamwDownIdeal.main_arg0) = m' ((c.tc : Thread Cert.ReferenceAdamwDownIdeal.nD Cert.ReferenceAdamwDownIdeal.τ).loc Cert.ReferenceAdamwDownIdeal.main_arg0)
          ∧ r.2.mem ((c.tc : Thread Cert.ReferenceAdamwDownIdeal.nD Cert.ReferenceAdamwDownIdeal.τ).loc Cert.ReferenceAdamwDownIdeal.main_arg1) = m' ((c.tc : Thread Cert.ReferenceAdamwDownIdeal.nD Cert.ReferenceAdamwDownIdeal.τ).loc Cert.ReferenceAdamwDownIdeal.main_arg1)
          ∧ r.2.mem ((c.tc : Thread Cert.ReferenceAdamwDownIdeal.nD Cert.ReferenceAdamwDownIdeal.τ).loc Cert.ReferenceAdamwDownIdeal.main_arg2) = m' ((c.tc : Thread Cert.ReferenceAdamwDownIdeal.nD Cert.ReferenceAdamwDownIdeal.τ).loc Cert.ReferenceAdamwDownIdeal.main_arg2)
          ∧ r.2.mem ((c.tc : Thread Cert.ReferenceAdamwDownIdeal.nD Cert.ReferenceAdamwDownIdeal.τ).loc Cert.ReferenceAdamwDownIdeal.main_arg3) = m' ((c.tc : Thread Cert.ReferenceAdamwDownIdeal.nD Cert.ReferenceAdamwDownIdeal.τ).loc Cert.ReferenceAdamwDownIdeal.main_arg3)
          ∧ r.2.mem ((c.tc : Thread Cert.ReferenceAdamwDownIdeal.nD Cert.ReferenceAdamwDownIdeal.τ).loc Cert.ReferenceAdamwDownIdeal.main_arg4) = m' ((c.tc : Thread Cert.ReferenceAdamwDownIdeal.nD Cert.ReferenceAdamwDownIdeal.τ).loc Cert.ReferenceAdamwDownIdeal.main_arg4)
          ∧ r.2.mem ((c.tc : Thread Cert.ReferenceAdamwDownIdeal.nD Cert.ReferenceAdamwDownIdeal.τ).loc Cert.ReferenceAdamwDownIdeal.main_arg5) = m' ((c.tc : Thread Cert.ReferenceAdamwDownIdeal.nD Cert.ReferenceAdamwDownIdeal.τ).loc Cert.ReferenceAdamwDownIdeal.main_arg5)
          ∧ r.2.mem ((c.tc : Thread Cert.ReferenceAdamwDownIdeal.nD Cert.ReferenceAdamwDownIdeal.τ).loc Cert.ReferenceAdamwDownIdeal.main_arg6) = m' ((c.tc : Thread Cert.ReferenceAdamwDownIdeal.nD Cert.ReferenceAdamwDownIdeal.τ).loc Cert.ReferenceAdamwDownIdeal.main_arg6))

def preserves_KernelAdamwDownLate_KernelAdamwDownLateIdeal : Prop :=
  True

def algebraic_KernelAdamwDownLateIdeal_ReferenceAdamwDownLateIdeal [hKernelAdamwDownLateIdeal : Cert.KernelAdamwDownLateIdeal.Facts] [hReferenceAdamwDownLateIdeal : Cert.ReferenceAdamwDownLateIdeal.Facts] : Prop :=
  ∀ (m : (ℓ : Loc Cert.KernelAdamwDownLateIdeal.nD Cert.KernelAdamwDownLateIdeal.τ Cert.KernelAdamwDownLateIdeal.sig) → Buf (Elt Ideal) ℓ) (g : Dev Cert.KernelAdamwDownLateIdeal.nD → PrngReg)
    (m' : (ℓ : Loc Cert.ReferenceAdamwDownLateIdeal.nD Cert.ReferenceAdamwDownLateIdeal.τ Cert.ReferenceAdamwDownLateIdeal.sig) → Buf (Elt Ideal) ℓ) (g' : Dev Cert.ReferenceAdamwDownLateIdeal.nD → PrngReg), Pre_KernelAdamwDownLateIdeal m →
    (∀ c : Dev Cert.KernelAdamwDownLateIdeal.nD,
      m' ((c.tc : Thread Cert.ReferenceAdamwDownLateIdeal.nD Cert.ReferenceAdamwDownLateIdeal.τ).loc Cert.ReferenceAdamwDownLateIdeal.main_arg0) = m ((c.tc : Thread Cert.KernelAdamwDownLateIdeal.nD Cert.KernelAdamwDownLateIdeal.τ).loc Cert.KernelAdamwDownLateIdeal.main_arg0)
      ∧ m' ((c.tc : Thread Cert.ReferenceAdamwDownLateIdeal.nD Cert.ReferenceAdamwDownLateIdeal.τ).loc Cert.ReferenceAdamwDownLateIdeal.main_arg1) = m ((c.tc : Thread Cert.KernelAdamwDownLateIdeal.nD Cert.KernelAdamwDownLateIdeal.τ).loc Cert.KernelAdamwDownLateIdeal.main_arg1)
      ∧ m' ((c.tc : Thread Cert.ReferenceAdamwDownLateIdeal.nD Cert.ReferenceAdamwDownLateIdeal.τ).loc Cert.ReferenceAdamwDownLateIdeal.main_arg2) = m ((c.tc : Thread Cert.KernelAdamwDownLateIdeal.nD Cert.KernelAdamwDownLateIdeal.τ).loc Cert.KernelAdamwDownLateIdeal.main_arg2)
      ∧ m' ((c.tc : Thread Cert.ReferenceAdamwDownLateIdeal.nD Cert.ReferenceAdamwDownLateIdeal.τ).loc Cert.ReferenceAdamwDownLateIdeal.main_arg3) = m ((c.tc : Thread Cert.KernelAdamwDownLateIdeal.nD Cert.KernelAdamwDownLateIdeal.τ).loc Cert.KernelAdamwDownLateIdeal.main_arg3)) →
    ∃ (v0 : (c : Dev Cert.KernelAdamwDownLateIdeal.nD) → Buf (Elt Ideal) ((c.tc : Thread Cert.KernelAdamwDownLateIdeal.nD Cert.KernelAdamwDownLateIdeal.τ).loc Cert.KernelAdamwDownLateIdeal.main_v1)) (v1 : (c : Dev Cert.KernelAdamwDownLateIdeal.nD) → Buf (Elt Ideal) ((c.tc : Thread Cert.KernelAdamwDownLateIdeal.nD Cert.KernelAdamwDownLateIdeal.τ).loc Cert.KernelAdamwDownLateIdeal.main_v2)) (v2 : (c : Dev Cert.KernelAdamwDownLateIdeal.nD) → Buf (Elt Ideal) ((c.tc : Thread Cert.KernelAdamwDownLateIdeal.nD Cert.KernelAdamwDownLateIdeal.τ).loc Cert.KernelAdamwDownLateIdeal.main_v3)),
      θ_run (Cert.KernelAdamwDownLateIdeal.defs (F := Ideal)) (onTc (τ := Cert.KernelAdamwDownLateIdeal.τ) (Cert.KernelAdamwDownLateIdeal.main (F := Ideal))) ⟨m, fun _ => 0, g⟩ (fun r => ∀ c : Dev Cert.KernelAdamwDownLateIdeal.nD,
          r.2.mem ((c.tc : Thread Cert.KernelAdamwDownLateIdeal.nD Cert.KernelAdamwDownLateIdeal.τ).loc Cert.KernelAdamwDownLateIdeal.main_v1) = v0 c
          ∧ r.2.mem ((c.tc : Thread Cert.KernelAdamwDownLateIdeal.nD Cert.KernelAdamwDownLateIdeal.τ).loc Cert.KernelAdamwDownLateIdeal.main_v2) = v1 c
          ∧ r.2.mem ((c.tc : Thread Cert.KernelAdamwDownLateIdeal.nD Cert.KernelAdamwDownLateIdeal.τ).loc Cert.KernelAdamwDownLateIdeal.main_v3) = v2 c
          ∧ r.2.mem ((c.tc : Thread Cert.KernelAdamwDownLateIdeal.nD Cert.KernelAdamwDownLateIdeal.τ).loc Cert.KernelAdamwDownLateIdeal.main_arg0) = m ((c.tc : Thread Cert.KernelAdamwDownLateIdeal.nD Cert.KernelAdamwDownLateIdeal.τ).loc Cert.KernelAdamwDownLateIdeal.main_arg0)
          ∧ r.2.mem ((c.tc : Thread Cert.KernelAdamwDownLateIdeal.nD Cert.KernelAdamwDownLateIdeal.τ).loc Cert.KernelAdamwDownLateIdeal.main_arg1) = m ((c.tc : Thread Cert.KernelAdamwDownLateIdeal.nD Cert.KernelAdamwDownLateIdeal.τ).loc Cert.KernelAdamwDownLateIdeal.main_arg1)
          ∧ r.2.mem ((c.tc : Thread Cert.KernelAdamwDownLateIdeal.nD Cert.KernelAdamwDownLateIdeal.τ).loc Cert.KernelAdamwDownLateIdeal.main_arg2) = m ((c.tc : Thread Cert.KernelAdamwDownLateIdeal.nD Cert.KernelAdamwDownLateIdeal.τ).loc Cert.KernelAdamwDownLateIdeal.main_arg2)
          ∧ r.2.mem ((c.tc : Thread Cert.KernelAdamwDownLateIdeal.nD Cert.KernelAdamwDownLateIdeal.τ).loc Cert.KernelAdamwDownLateIdeal.main_arg3) = m ((c.tc : Thread Cert.KernelAdamwDownLateIdeal.nD Cert.KernelAdamwDownLateIdeal.τ).loc Cert.KernelAdamwDownLateIdeal.main_arg3))
      ∧ θ_run (Cert.ReferenceAdamwDownLateIdeal.defs (F := Ideal)) (onTc (τ := Cert.ReferenceAdamwDownLateIdeal.τ) (Cert.ReferenceAdamwDownLateIdeal.main (F := Ideal))) ⟨m', fun _ => 0, g'⟩ (fun r => ∀ c : Dev Cert.ReferenceAdamwDownLateIdeal.nD,
          r.2.mem ((c.tc : Thread Cert.ReferenceAdamwDownLateIdeal.nD Cert.ReferenceAdamwDownLateIdeal.τ).loc Cert.ReferenceAdamwDownLateIdeal.main_v26) = v0 c
          ∧ r.2.mem ((c.tc : Thread Cert.ReferenceAdamwDownLateIdeal.nD Cert.ReferenceAdamwDownLateIdeal.τ).loc Cert.ReferenceAdamwDownLateIdeal.main_v7) = v1 c
          ∧ r.2.mem ((c.tc : Thread Cert.ReferenceAdamwDownLateIdeal.nD Cert.ReferenceAdamwDownLateIdeal.τ).loc Cert.ReferenceAdamwDownLateIdeal.main_v13) = v2 c
          ∧ r.2.mem ((c.tc : Thread Cert.ReferenceAdamwDownLateIdeal.nD Cert.ReferenceAdamwDownLateIdeal.τ).loc Cert.ReferenceAdamwDownLateIdeal.main_arg0) = m' ((c.tc : Thread Cert.ReferenceAdamwDownLateIdeal.nD Cert.ReferenceAdamwDownLateIdeal.τ).loc Cert.ReferenceAdamwDownLateIdeal.main_arg0)
          ∧ r.2.mem ((c.tc : Thread Cert.ReferenceAdamwDownLateIdeal.nD Cert.ReferenceAdamwDownLateIdeal.τ).loc Cert.ReferenceAdamwDownLateIdeal.main_arg1) = m' ((c.tc : Thread Cert.ReferenceAdamwDownLateIdeal.nD Cert.ReferenceAdamwDownLateIdeal.τ).loc Cert.ReferenceAdamwDownLateIdeal.main_arg1)
          ∧ r.2.mem ((c.tc : Thread Cert.ReferenceAdamwDownLateIdeal.nD Cert.ReferenceAdamwDownLateIdeal.τ).loc Cert.ReferenceAdamwDownLateIdeal.main_arg2) = m' ((c.tc : Thread Cert.ReferenceAdamwDownLateIdeal.nD Cert.ReferenceAdamwDownLateIdeal.τ).loc Cert.ReferenceAdamwDownLateIdeal.main_arg2)
          ∧ r.2.mem ((c.tc : Thread Cert.ReferenceAdamwDownLateIdeal.nD Cert.ReferenceAdamwDownLateIdeal.τ).loc Cert.ReferenceAdamwDownLateIdeal.main_arg3) = m' ((c.tc : Thread Cert.ReferenceAdamwDownLateIdeal.nD Cert.ReferenceAdamwDownLateIdeal.τ).loc Cert.ReferenceAdamwDownLateIdeal.main_arg3))

def preserves_KernelAdamwUp_KernelAdamwUpIdeal : Prop :=
  True

def algebraic_KernelAdamwUpIdeal_ReferenceAdamwUpIdeal [hKernelAdamwUpIdeal : Cert.KernelAdamwUpIdeal.Facts] [hReferenceAdamwUpIdeal : Cert.ReferenceAdamwUpIdeal.Facts] : Prop :=
  ∀ (m : (ℓ : Loc Cert.KernelAdamwUpIdeal.nD Cert.KernelAdamwUpIdeal.τ Cert.KernelAdamwUpIdeal.sig) → Buf (Elt Ideal) ℓ) (g : Dev Cert.KernelAdamwUpIdeal.nD → PrngReg)
    (m' : (ℓ : Loc Cert.ReferenceAdamwUpIdeal.nD Cert.ReferenceAdamwUpIdeal.τ Cert.ReferenceAdamwUpIdeal.sig) → Buf (Elt Ideal) ℓ) (g' : Dev Cert.ReferenceAdamwUpIdeal.nD → PrngReg), Pre_KernelAdamwUpIdeal m →
    (∀ c : Dev Cert.KernelAdamwUpIdeal.nD,
      m' ((c.tc : Thread Cert.ReferenceAdamwUpIdeal.nD Cert.ReferenceAdamwUpIdeal.τ).loc Cert.ReferenceAdamwUpIdeal.main_arg0) = m ((c.tc : Thread Cert.KernelAdamwUpIdeal.nD Cert.KernelAdamwUpIdeal.τ).loc Cert.KernelAdamwUpIdeal.main_arg0)
      ∧ m' ((c.tc : Thread Cert.ReferenceAdamwUpIdeal.nD Cert.ReferenceAdamwUpIdeal.τ).loc Cert.ReferenceAdamwUpIdeal.main_arg1) = m ((c.tc : Thread Cert.KernelAdamwUpIdeal.nD Cert.KernelAdamwUpIdeal.τ).loc Cert.KernelAdamwUpIdeal.main_arg1)
      ∧ m' ((c.tc : Thread Cert.ReferenceAdamwUpIdeal.nD Cert.ReferenceAdamwUpIdeal.τ).loc Cert.ReferenceAdamwUpIdeal.main_arg2) = m ((c.tc : Thread Cert.KernelAdamwUpIdeal.nD Cert.KernelAdamwUpIdeal.τ).loc Cert.KernelAdamwUpIdeal.main_arg2)
      ∧ m' ((c.tc : Thread Cert.ReferenceAdamwUpIdeal.nD Cert.ReferenceAdamwUpIdeal.τ).loc Cert.ReferenceAdamwUpIdeal.main_arg3) = m ((c.tc : Thread Cert.KernelAdamwUpIdeal.nD Cert.KernelAdamwUpIdeal.τ).loc Cert.KernelAdamwUpIdeal.main_arg3)
      ∧ m' ((c.tc : Thread Cert.ReferenceAdamwUpIdeal.nD Cert.ReferenceAdamwUpIdeal.τ).loc Cert.ReferenceAdamwUpIdeal.main_arg4) = m ((c.tc : Thread Cert.KernelAdamwUpIdeal.nD Cert.KernelAdamwUpIdeal.τ).loc Cert.KernelAdamwUpIdeal.main_arg4)
      ∧ m' ((c.tc : Thread Cert.ReferenceAdamwUpIdeal.nD Cert.ReferenceAdamwUpIdeal.τ).loc Cert.ReferenceAdamwUpIdeal.main_arg5) = m ((c.tc : Thread Cert.KernelAdamwUpIdeal.nD Cert.KernelAdamwUpIdeal.τ).loc Cert.KernelAdamwUpIdeal.main_arg5)
      ∧ m' ((c.tc : Thread Cert.ReferenceAdamwUpIdeal.nD Cert.ReferenceAdamwUpIdeal.τ).loc Cert.ReferenceAdamwUpIdeal.main_arg6) = m ((c.tc : Thread Cert.KernelAdamwUpIdeal.nD Cert.KernelAdamwUpIdeal.τ).loc Cert.KernelAdamwUpIdeal.main_arg6)) →
    ∃ (v0 : (c : Dev Cert.KernelAdamwUpIdeal.nD) → Buf (Elt Ideal) ((c.tc : Thread Cert.KernelAdamwUpIdeal.nD Cert.KernelAdamwUpIdeal.τ).loc Cert.KernelAdamwUpIdeal.main_v0_0)) (v1 : (c : Dev Cert.KernelAdamwUpIdeal.nD) → Buf (Elt Ideal) ((c.tc : Thread Cert.KernelAdamwUpIdeal.nD Cert.KernelAdamwUpIdeal.τ).loc Cert.KernelAdamwUpIdeal.main_v0_1)) (v2 : (c : Dev Cert.KernelAdamwUpIdeal.nD) → Buf (Elt Ideal) ((c.tc : Thread Cert.KernelAdamwUpIdeal.nD Cert.KernelAdamwUpIdeal.τ).loc Cert.KernelAdamwUpIdeal.main_v0_2)),
      θ_run (Cert.KernelAdamwUpIdeal.defs (F := Ideal)) (onTc (τ := Cert.KernelAdamwUpIdeal.τ) (Cert.KernelAdamwUpIdeal.main (F := Ideal))) ⟨m, fun _ => 0, g⟩ (fun r => ∀ c : Dev Cert.KernelAdamwUpIdeal.nD,
          r.2.mem ((c.tc : Thread Cert.KernelAdamwUpIdeal.nD Cert.KernelAdamwUpIdeal.τ).loc Cert.KernelAdamwUpIdeal.main_v0_0) = v0 c
          ∧ r.2.mem ((c.tc : Thread Cert.KernelAdamwUpIdeal.nD Cert.KernelAdamwUpIdeal.τ).loc Cert.KernelAdamwUpIdeal.main_v0_1) = v1 c
          ∧ r.2.mem ((c.tc : Thread Cert.KernelAdamwUpIdeal.nD Cert.KernelAdamwUpIdeal.τ).loc Cert.KernelAdamwUpIdeal.main_v0_2) = v2 c
          ∧ r.2.mem ((c.tc : Thread Cert.KernelAdamwUpIdeal.nD Cert.KernelAdamwUpIdeal.τ).loc Cert.KernelAdamwUpIdeal.main_arg0) = m ((c.tc : Thread Cert.KernelAdamwUpIdeal.nD Cert.KernelAdamwUpIdeal.τ).loc Cert.KernelAdamwUpIdeal.main_arg0)
          ∧ r.2.mem ((c.tc : Thread Cert.KernelAdamwUpIdeal.nD Cert.KernelAdamwUpIdeal.τ).loc Cert.KernelAdamwUpIdeal.main_arg1) = m ((c.tc : Thread Cert.KernelAdamwUpIdeal.nD Cert.KernelAdamwUpIdeal.τ).loc Cert.KernelAdamwUpIdeal.main_arg1)
          ∧ r.2.mem ((c.tc : Thread Cert.KernelAdamwUpIdeal.nD Cert.KernelAdamwUpIdeal.τ).loc Cert.KernelAdamwUpIdeal.main_arg2) = m ((c.tc : Thread Cert.KernelAdamwUpIdeal.nD Cert.KernelAdamwUpIdeal.τ).loc Cert.KernelAdamwUpIdeal.main_arg2)
          ∧ r.2.mem ((c.tc : Thread Cert.KernelAdamwUpIdeal.nD Cert.KernelAdamwUpIdeal.τ).loc Cert.KernelAdamwUpIdeal.main_arg3) = m ((c.tc : Thread Cert.KernelAdamwUpIdeal.nD Cert.KernelAdamwUpIdeal.τ).loc Cert.KernelAdamwUpIdeal.main_arg3)
          ∧ r.2.mem ((c.tc : Thread Cert.KernelAdamwUpIdeal.nD Cert.KernelAdamwUpIdeal.τ).loc Cert.KernelAdamwUpIdeal.main_arg4) = m ((c.tc : Thread Cert.KernelAdamwUpIdeal.nD Cert.KernelAdamwUpIdeal.τ).loc Cert.KernelAdamwUpIdeal.main_arg4)
          ∧ r.2.mem ((c.tc : Thread Cert.KernelAdamwUpIdeal.nD Cert.KernelAdamwUpIdeal.τ).loc Cert.KernelAdamwUpIdeal.main_arg5) = m ((c.tc : Thread Cert.KernelAdamwUpIdeal.nD Cert.KernelAdamwUpIdeal.τ).loc Cert.KernelAdamwUpIdeal.main_arg5)
          ∧ r.2.mem ((c.tc : Thread Cert.KernelAdamwUpIdeal.nD Cert.KernelAdamwUpIdeal.τ).loc Cert.KernelAdamwUpIdeal.main_arg6) = m ((c.tc : Thread Cert.KernelAdamwUpIdeal.nD Cert.KernelAdamwUpIdeal.τ).loc Cert.KernelAdamwUpIdeal.main_arg6))
      ∧ θ_run (Cert.ReferenceAdamwUpIdeal.defs (F := Ideal)) (onTc (τ := Cert.ReferenceAdamwUpIdeal.τ) (Cert.ReferenceAdamwUpIdeal.main (F := Ideal))) ⟨m', fun _ => 0, g'⟩ (fun r => ∀ c : Dev Cert.ReferenceAdamwUpIdeal.nD,
          r.2.mem ((c.tc : Thread Cert.ReferenceAdamwUpIdeal.nD Cert.ReferenceAdamwUpIdeal.τ).loc Cert.ReferenceAdamwUpIdeal.main_v28) = v0 c
          ∧ r.2.mem ((c.tc : Thread Cert.ReferenceAdamwUpIdeal.nD Cert.ReferenceAdamwUpIdeal.τ).loc Cert.ReferenceAdamwUpIdeal.main_v30) = v1 c
          ∧ r.2.mem ((c.tc : Thread Cert.ReferenceAdamwUpIdeal.nD Cert.ReferenceAdamwUpIdeal.τ).loc Cert.ReferenceAdamwUpIdeal.main_v32) = v2 c
          ∧ r.2.mem ((c.tc : Thread Cert.ReferenceAdamwUpIdeal.nD Cert.ReferenceAdamwUpIdeal.τ).loc Cert.ReferenceAdamwUpIdeal.main_arg0) = m' ((c.tc : Thread Cert.ReferenceAdamwUpIdeal.nD Cert.ReferenceAdamwUpIdeal.τ).loc Cert.ReferenceAdamwUpIdeal.main_arg0)
          ∧ r.2.mem ((c.tc : Thread Cert.ReferenceAdamwUpIdeal.nD Cert.ReferenceAdamwUpIdeal.τ).loc Cert.ReferenceAdamwUpIdeal.main_arg1) = m' ((c.tc : Thread Cert.ReferenceAdamwUpIdeal.nD Cert.ReferenceAdamwUpIdeal.τ).loc Cert.ReferenceAdamwUpIdeal.main_arg1)
          ∧ r.2.mem ((c.tc : Thread Cert.ReferenceAdamwUpIdeal.nD Cert.ReferenceAdamwUpIdeal.τ).loc Cert.ReferenceAdamwUpIdeal.main_arg2) = m' ((c.tc : Thread Cert.ReferenceAdamwUpIdeal.nD Cert.ReferenceAdamwUpIdeal.τ).loc Cert.ReferenceAdamwUpIdeal.main_arg2)
          ∧ r.2.mem ((c.tc : Thread Cert.ReferenceAdamwUpIdeal.nD Cert.ReferenceAdamwUpIdeal.τ).loc Cert.ReferenceAdamwUpIdeal.main_arg3) = m' ((c.tc : Thread Cert.ReferenceAdamwUpIdeal.nD Cert.ReferenceAdamwUpIdeal.τ).loc Cert.ReferenceAdamwUpIdeal.main_arg3)
          ∧ r.2.mem ((c.tc : Thread Cert.ReferenceAdamwUpIdeal.nD Cert.ReferenceAdamwUpIdeal.τ).loc Cert.ReferenceAdamwUpIdeal.main_arg4) = m' ((c.tc : Thread Cert.ReferenceAdamwUpIdeal.nD Cert.ReferenceAdamwUpIdeal.τ).loc Cert.ReferenceAdamwUpIdeal.main_arg4)
          ∧ r.2.mem ((c.tc : Thread Cert.ReferenceAdamwUpIdeal.nD Cert.ReferenceAdamwUpIdeal.τ).loc Cert.ReferenceAdamwUpIdeal.main_arg5) = m' ((c.tc : Thread Cert.ReferenceAdamwUpIdeal.nD Cert.ReferenceAdamwUpIdeal.τ).loc Cert.ReferenceAdamwUpIdeal.main_arg5)
          ∧ r.2.mem ((c.tc : Thread Cert.ReferenceAdamwUpIdeal.nD Cert.ReferenceAdamwUpIdeal.τ).loc Cert.ReferenceAdamwUpIdeal.main_arg6) = m' ((c.tc : Thread Cert.ReferenceAdamwUpIdeal.nD Cert.ReferenceAdamwUpIdeal.τ).loc Cert.ReferenceAdamwUpIdeal.main_arg6))

def preserves_KernelAdamwUpLate_KernelAdamwUpLateIdeal : Prop :=
  True

def algebraic_KernelAdamwUpLateIdeal_ReferenceAdamwUpLateIdeal [hKernelAdamwUpLateIdeal : Cert.KernelAdamwUpLateIdeal.Facts] [hReferenceAdamwUpLateIdeal : Cert.ReferenceAdamwUpLateIdeal.Facts] : Prop :=
  ∀ (m : (ℓ : Loc Cert.KernelAdamwUpLateIdeal.nD Cert.KernelAdamwUpLateIdeal.τ Cert.KernelAdamwUpLateIdeal.sig) → Buf (Elt Ideal) ℓ) (g : Dev Cert.KernelAdamwUpLateIdeal.nD → PrngReg)
    (m' : (ℓ : Loc Cert.ReferenceAdamwUpLateIdeal.nD Cert.ReferenceAdamwUpLateIdeal.τ Cert.ReferenceAdamwUpLateIdeal.sig) → Buf (Elt Ideal) ℓ) (g' : Dev Cert.ReferenceAdamwUpLateIdeal.nD → PrngReg), Pre_KernelAdamwUpLateIdeal m →
    (∀ c : Dev Cert.KernelAdamwUpLateIdeal.nD,
      m' ((c.tc : Thread Cert.ReferenceAdamwUpLateIdeal.nD Cert.ReferenceAdamwUpLateIdeal.τ).loc Cert.ReferenceAdamwUpLateIdeal.main_arg0) = m ((c.tc : Thread Cert.KernelAdamwUpLateIdeal.nD Cert.KernelAdamwUpLateIdeal.τ).loc Cert.KernelAdamwUpLateIdeal.main_arg0)
      ∧ m' ((c.tc : Thread Cert.ReferenceAdamwUpLateIdeal.nD Cert.ReferenceAdamwUpLateIdeal.τ).loc Cert.ReferenceAdamwUpLateIdeal.main_arg1) = m ((c.tc : Thread Cert.KernelAdamwUpLateIdeal.nD Cert.KernelAdamwUpLateIdeal.τ).loc Cert.KernelAdamwUpLateIdeal.main_arg1)
      ∧ m' ((c.tc : Thread Cert.ReferenceAdamwUpLateIdeal.nD Cert.ReferenceAdamwUpLateIdeal.τ).loc Cert.ReferenceAdamwUpLateIdeal.main_arg2) = m ((c.tc : Thread Cert.KernelAdamwUpLateIdeal.nD Cert.KernelAdamwUpLateIdeal.τ).loc Cert.KernelAdamwUpLateIdeal.main_arg2)
      ∧ m' ((c.tc : Thread Cert.ReferenceAdamwUpLateIdeal.nD Cert.ReferenceAdamwUpLateIdeal.τ).loc Cert.ReferenceAdamwUpLateIdeal.main_arg3) = m ((c.tc : Thread Cert.KernelAdamwUpLateIdeal.nD Cert.KernelAdamwUpLateIdeal.τ).loc Cert.KernelAdamwUpLateIdeal.main_arg3)) →
    ∃ (v0 : (c : Dev Cert.KernelAdamwUpLateIdeal.nD) → Buf (Elt Ideal) ((c.tc : Thread Cert.KernelAdamwUpLateIdeal.nD Cert.KernelAdamwUpLateIdeal.τ).loc Cert.KernelAdamwUpLateIdeal.main_v1)) (v1 : (c : Dev Cert.KernelAdamwUpLateIdeal.nD) → Buf (Elt Ideal) ((c.tc : Thread Cert.KernelAdamwUpLateIdeal.nD Cert.KernelAdamwUpLateIdeal.τ).loc Cert.KernelAdamwUpLateIdeal.main_v2)) (v2 : (c : Dev Cert.KernelAdamwUpLateIdeal.nD) → Buf (Elt Ideal) ((c.tc : Thread Cert.KernelAdamwUpLateIdeal.nD Cert.KernelAdamwUpLateIdeal.τ).loc Cert.KernelAdamwUpLateIdeal.main_v3)),
      θ_run (Cert.KernelAdamwUpLateIdeal.defs (F := Ideal)) (onTc (τ := Cert.KernelAdamwUpLateIdeal.τ) (Cert.KernelAdamwUpLateIdeal.main (F := Ideal))) ⟨m, fun _ => 0, g⟩ (fun r => ∀ c : Dev Cert.KernelAdamwUpLateIdeal.nD,
          r.2.mem ((c.tc : Thread Cert.KernelAdamwUpLateIdeal.nD Cert.KernelAdamwUpLateIdeal.τ).loc Cert.KernelAdamwUpLateIdeal.main_v1) = v0 c
          ∧ r.2.mem ((c.tc : Thread Cert.KernelAdamwUpLateIdeal.nD Cert.KernelAdamwUpLateIdeal.τ).loc Cert.KernelAdamwUpLateIdeal.main_v2) = v1 c
          ∧ r.2.mem ((c.tc : Thread Cert.KernelAdamwUpLateIdeal.nD Cert.KernelAdamwUpLateIdeal.τ).loc Cert.KernelAdamwUpLateIdeal.main_v3) = v2 c
          ∧ r.2.mem ((c.tc : Thread Cert.KernelAdamwUpLateIdeal.nD Cert.KernelAdamwUpLateIdeal.τ).loc Cert.KernelAdamwUpLateIdeal.main_arg0) = m ((c.tc : Thread Cert.KernelAdamwUpLateIdeal.nD Cert.KernelAdamwUpLateIdeal.τ).loc Cert.KernelAdamwUpLateIdeal.main_arg0)
          ∧ r.2.mem ((c.tc : Thread Cert.KernelAdamwUpLateIdeal.nD Cert.KernelAdamwUpLateIdeal.τ).loc Cert.KernelAdamwUpLateIdeal.main_arg1) = m ((c.tc : Thread Cert.KernelAdamwUpLateIdeal.nD Cert.KernelAdamwUpLateIdeal.τ).loc Cert.KernelAdamwUpLateIdeal.main_arg1)
          ∧ r.2.mem ((c.tc : Thread Cert.KernelAdamwUpLateIdeal.nD Cert.KernelAdamwUpLateIdeal.τ).loc Cert.KernelAdamwUpLateIdeal.main_arg2) = m ((c.tc : Thread Cert.KernelAdamwUpLateIdeal.nD Cert.KernelAdamwUpLateIdeal.τ).loc Cert.KernelAdamwUpLateIdeal.main_arg2)
          ∧ r.2.mem ((c.tc : Thread Cert.KernelAdamwUpLateIdeal.nD Cert.KernelAdamwUpLateIdeal.τ).loc Cert.KernelAdamwUpLateIdeal.main_arg3) = m ((c.tc : Thread Cert.KernelAdamwUpLateIdeal.nD Cert.KernelAdamwUpLateIdeal.τ).loc Cert.KernelAdamwUpLateIdeal.main_arg3))
      ∧ θ_run (Cert.ReferenceAdamwUpLateIdeal.defs (F := Ideal)) (onTc (τ := Cert.ReferenceAdamwUpLateIdeal.τ) (Cert.ReferenceAdamwUpLateIdeal.main (F := Ideal))) ⟨m', fun _ => 0, g'⟩ (fun r => ∀ c : Dev Cert.ReferenceAdamwUpLateIdeal.nD,
          r.2.mem ((c.tc : Thread Cert.ReferenceAdamwUpLateIdeal.nD Cert.ReferenceAdamwUpLateIdeal.τ).loc Cert.ReferenceAdamwUpLateIdeal.main_v26) = v0 c
          ∧ r.2.mem ((c.tc : Thread Cert.ReferenceAdamwUpLateIdeal.nD Cert.ReferenceAdamwUpLateIdeal.τ).loc Cert.ReferenceAdamwUpLateIdeal.main_v7) = v1 c
          ∧ r.2.mem ((c.tc : Thread Cert.ReferenceAdamwUpLateIdeal.nD Cert.ReferenceAdamwUpLateIdeal.τ).loc Cert.ReferenceAdamwUpLateIdeal.main_v13) = v2 c
          ∧ r.2.mem ((c.tc : Thread Cert.ReferenceAdamwUpLateIdeal.nD Cert.ReferenceAdamwUpLateIdeal.τ).loc Cert.ReferenceAdamwUpLateIdeal.main_arg0) = m' ((c.tc : Thread Cert.ReferenceAdamwUpLateIdeal.nD Cert.ReferenceAdamwUpLateIdeal.τ).loc Cert.ReferenceAdamwUpLateIdeal.main_arg0)
          ∧ r.2.mem ((c.tc : Thread Cert.ReferenceAdamwUpLateIdeal.nD Cert.ReferenceAdamwUpLateIdeal.τ).loc Cert.ReferenceAdamwUpLateIdeal.main_arg1) = m' ((c.tc : Thread Cert.ReferenceAdamwUpLateIdeal.nD Cert.ReferenceAdamwUpLateIdeal.τ).loc Cert.ReferenceAdamwUpLateIdeal.main_arg1)
          ∧ r.2.mem ((c.tc : Thread Cert.ReferenceAdamwUpLateIdeal.nD Cert.ReferenceAdamwUpLateIdeal.τ).loc Cert.ReferenceAdamwUpLateIdeal.main_arg2) = m' ((c.tc : Thread Cert.ReferenceAdamwUpLateIdeal.nD Cert.ReferenceAdamwUpLateIdeal.τ).loc Cert.ReferenceAdamwUpLateIdeal.main_arg2)
          ∧ r.2.mem ((c.tc : Thread Cert.ReferenceAdamwUpLateIdeal.nD Cert.ReferenceAdamwUpLateIdeal.τ).loc Cert.ReferenceAdamwUpLateIdeal.main_arg3) = m' ((c.tc : Thread Cert.ReferenceAdamwUpLateIdeal.nD Cert.ReferenceAdamwUpLateIdeal.τ).loc Cert.ReferenceAdamwUpLateIdeal.main_arg3))

def Claim : Prop :=
  ∃ (hKernel : Cert.Kernel.Facts) (hKernelIdeal : Cert.KernelIdeal.Facts) (hReferenceIdeal : Cert.ReferenceIdeal.Facts) (hKernelDx1 : Cert.KernelDx1.Facts) (hKernelDx1Ideal : Cert.KernelDx1Ideal.Facts) (hReferenceDx1Ideal : Cert.ReferenceDx1Ideal.Facts) (hKernelDwUp : Cert.KernelDwUp.Facts) (hKernelDwUpIdeal : Cert.KernelDwUpIdeal.Facts) (hReferenceDwUpIdeal : Cert.ReferenceDwUpIdeal.Facts) (hKernelDa : Cert.KernelDa.Facts) (hKernelDaIdeal : Cert.KernelDaIdeal.Facts) (hReferenceDaIdeal : Cert.ReferenceDaIdeal.Facts) (hKernelDwDown : Cert.KernelDwDown.Facts) (hKernelDwDownIdeal : Cert.KernelDwDownIdeal.Facts) (hReferenceDwDownIdeal : Cert.ReferenceDwDownIdeal.Facts) (hKernelDcat : Cert.KernelDcat.Facts) (hKernelDcatIdeal : Cert.KernelDcatIdeal.Facts) (hReferenceDcatIdeal : Cert.ReferenceDcatIdeal.Facts) (hKernelDwOut : Cert.KernelDwOut.Facts) (hKernelDwOutIdeal : Cert.KernelDwOutIdeal.Facts) (hReferenceDwOutIdeal : Cert.ReferenceDwOutIdeal.Facts) (hKernelDx0 : Cert.KernelDx0.Facts) (hKernelDx0Ideal : Cert.KernelDx0Ideal.Facts) (hReferenceDx0Ideal : Cert.ReferenceDx0Ideal.Facts) (hKernelDwIn : Cert.KernelDwIn.Facts) (hKernelDwInIdeal : Cert.KernelDwInIdeal.Facts) (hReferenceDwInIdeal : Cert.ReferenceDwInIdeal.Facts) (hKernelMmIn : Cert.KernelMmIn.Facts) (hKernelMmInIdeal : Cert.KernelMmInIdeal.Facts) (hReferenceMmInIdeal : Cert.ReferenceMmInIdeal.Facts) (hKernelMmOut : Cert.KernelMmOut.Facts) (hKernelMmOutIdeal : Cert.KernelMmOutIdeal.Facts) (hReferenceMmOutIdeal : Cert.ReferenceMmOutIdeal.Facts) (hKernelMmUp : Cert.KernelMmUp.Facts) (hKernelMmUpIdeal : Cert.KernelMmUpIdeal.Facts) (hReferenceMmUpIdeal : Cert.ReferenceMmUpIdeal.Facts) (hKernelMmDown : Cert.KernelMmDown.Facts) (hKernelMmDownIdeal : Cert.KernelMmDownIdeal.Facts) (hReferenceMmDownIdeal : Cert.ReferenceMmDownIdeal.Facts) (hKernelLnFwd : Cert.KernelLnFwd.Facts) (hKernelLnFwdIdeal : Cert.KernelLnFwdIdeal.Facts) (hReferenceLnFwdIdeal : Cert.ReferenceLnFwdIdeal.Facts) (hKernelLnBwd : Cert.KernelLnBwd.Facts) (hKernelLnBwdIdeal : Cert.KernelLnBwdIdeal.Facts) (hReferenceLnBwdIdeal : Cert.ReferenceLnBwdIdeal.Facts) (hKernelLossHead : Cert.KernelLossHead.Facts) (hKernelLossHeadIdeal : Cert.KernelLossHeadIdeal.Facts) (hReferenceLossHeadIdeal : Cert.ReferenceLossHeadIdeal.Facts) (hKernelSumDevices : Cert.KernelSumDevices.Facts) (hKernelSumDevicesIdeal : Cert.KernelSumDevicesIdeal.Facts) (hReferenceSumDevicesIdeal : Cert.ReferenceSumDevicesIdeal.Facts) (hKernelAdamwDown : Cert.KernelAdamwDown.Facts) (hKernelAdamwDownIdeal : Cert.KernelAdamwDownIdeal.Facts) (hReferenceAdamwDownIdeal : Cert.ReferenceAdamwDownIdeal.Facts) (hKernelAdamwDownLate : Cert.KernelAdamwDownLate.Facts) (hKernelAdamwDownLateIdeal : Cert.KernelAdamwDownLateIdeal.Facts) (hReferenceAdamwDownLateIdeal : Cert.ReferenceAdamwDownLateIdeal.Facts) (hKernelAdamwUp : Cert.KernelAdamwUp.Facts) (hKernelAdamwUpIdeal : Cert.KernelAdamwUpIdeal.Facts) (hReferenceAdamwUpIdeal : Cert.ReferenceAdamwUpIdeal.Facts) (hKernelAdamwUpLate : Cert.KernelAdamwUpLate.Facts) (hKernelAdamwUpLateIdeal : Cert.KernelAdamwUpLateIdeal.Facts) (hReferenceAdamwUpLateIdeal : Cert.ReferenceAdamwUpLateIdeal.Facts) (hPre_finite : Cert.Pre_finite.Facts) (hPre_finite_ln : Cert.Pre_finite_ln.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDx1 (hKernelDx1 := hKernelDx1)
    ∧ quiescent_KernelDx1Ideal (hKernelDx1Ideal := hKernelDx1Ideal)
    ∧ quiescent_ReferenceDx1Ideal (hReferenceDx1Ideal := hReferenceDx1Ideal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDcat (hKernelDcat := hKernelDcat)
    ∧ quiescent_KernelDcatIdeal (hKernelDcatIdeal := hKernelDcatIdeal)
    ∧ quiescent_ReferenceDcatIdeal (hReferenceDcatIdeal := hReferenceDcatIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDx0 (hKernelDx0 := hKernelDx0)
    ∧ quiescent_KernelDx0Ideal (hKernelDx0Ideal := hKernelDx0Ideal)
    ∧ quiescent_ReferenceDx0Ideal (hReferenceDx0Ideal := hReferenceDx0Ideal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelMmIn (hKernelMmIn := hKernelMmIn)
    ∧ quiescent_KernelMmInIdeal (hKernelMmInIdeal := hKernelMmInIdeal)
    ∧ quiescent_ReferenceMmInIdeal (hReferenceMmInIdeal := hReferenceMmInIdeal)
    ∧ quiescent_KernelMmOut (hKernelMmOut := hKernelMmOut)
    ∧ quiescent_KernelMmOutIdeal (hKernelMmOutIdeal := hKernelMmOutIdeal)
    ∧ quiescent_ReferenceMmOutIdeal (hReferenceMmOutIdeal := hReferenceMmOutIdeal)
    ∧ quiescent_KernelMmUp (hKernelMmUp := hKernelMmUp)
    ∧ quiescent_KernelMmUpIdeal (hKernelMmUpIdeal := hKernelMmUpIdeal)
    ∧ quiescent_ReferenceMmUpIdeal (hReferenceMmUpIdeal := hReferenceMmUpIdeal)
    ∧ quiescent_KernelMmDown (hKernelMmDown := hKernelMmDown)
    ∧ quiescent_KernelMmDownIdeal (hKernelMmDownIdeal := hKernelMmDownIdeal)
    ∧ quiescent_ReferenceMmDownIdeal (hReferenceMmDownIdeal := hReferenceMmDownIdeal)
    ∧ quiescent_KernelLnFwd (hKernelLnFwd := hKernelLnFwd)
    ∧ quiescent_KernelLnFwdIdeal (hKernelLnFwdIdeal := hKernelLnFwdIdeal)
    ∧ quiescent_ReferenceLnFwdIdeal (hReferenceLnFwdIdeal := hReferenceLnFwdIdeal)
    ∧ quiescent_KernelLnBwd (hKernelLnBwd := hKernelLnBwd)
    ∧ quiescent_KernelLnBwdIdeal (hKernelLnBwdIdeal := hKernelLnBwdIdeal)
    ∧ quiescent_KernelLnBwdIdeal_pre_finite_ln (hKernelLnBwdIdeal := hKernelLnBwdIdeal) (hPre_finite_ln := hPre_finite_ln)
    ∧ quiescent_ReferenceLnBwdIdeal (hReferenceLnBwdIdeal := hReferenceLnBwdIdeal)
    ∧ quiescent_ReferenceLnBwdIdeal_pre_finite_ln (hReferenceLnBwdIdeal := hReferenceLnBwdIdeal) (hPre_finite_ln := hPre_finite_ln)
    ∧ quiescent_KernelLossHead (hKernelLossHead := hKernelLossHead)
    ∧ quiescent_KernelLossHeadIdeal (hKernelLossHeadIdeal := hKernelLossHeadIdeal)
    ∧ quiescent_ReferenceLossHeadIdeal (hReferenceLossHeadIdeal := hReferenceLossHeadIdeal)
    ∧ quiescent_KernelSumDevices (hKernelSumDevices := hKernelSumDevices)
    ∧ quiescent_KernelSumDevicesIdeal (hKernelSumDevicesIdeal := hKernelSumDevicesIdeal)
    ∧ quiescent_ReferenceSumDevicesIdeal (hReferenceSumDevicesIdeal := hReferenceSumDevicesIdeal)
    ∧ quiescent_KernelAdamwDown (hKernelAdamwDown := hKernelAdamwDown)
    ∧ quiescent_KernelAdamwDownIdeal (hKernelAdamwDownIdeal := hKernelAdamwDownIdeal)
    ∧ quiescent_ReferenceAdamwDownIdeal (hReferenceAdamwDownIdeal := hReferenceAdamwDownIdeal)
    ∧ quiescent_KernelAdamwDownLate (hKernelAdamwDownLate := hKernelAdamwDownLate)
    ∧ quiescent_KernelAdamwDownLateIdeal (hKernelAdamwDownLateIdeal := hKernelAdamwDownLateIdeal)
    ∧ quiescent_ReferenceAdamwDownLateIdeal (hReferenceAdamwDownLateIdeal := hReferenceAdamwDownLateIdeal)
    ∧ quiescent_KernelAdamwUp (hKernelAdamwUp := hKernelAdamwUp)
    ∧ quiescent_KernelAdamwUpIdeal (hKernelAdamwUpIdeal := hKernelAdamwUpIdeal)
    ∧ quiescent_ReferenceAdamwUpIdeal (hReferenceAdamwUpIdeal := hReferenceAdamwUpIdeal)
    ∧ quiescent_KernelAdamwUpLate (hKernelAdamwUpLate := hKernelAdamwUpLate)
    ∧ quiescent_KernelAdamwUpLateIdeal (hKernelAdamwUpLateIdeal := hKernelAdamwUpLateIdeal)
    ∧ quiescent_ReferenceAdamwUpLateIdeal (hReferenceAdamwUpLateIdeal := hReferenceAdamwUpLateIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDx1_KernelDx1Ideal
    ∧ algebraic_KernelDx1Ideal_ReferenceDx1Ideal (hKernelDx1Ideal := hKernelDx1Ideal) (hReferenceDx1Ideal := hReferenceDx1Ideal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDa_KernelDaIdeal
    ∧ algebraic_KernelDaIdeal_ReferenceDaIdeal (hKernelDaIdeal := hKernelDaIdeal) (hReferenceDaIdeal := hReferenceDaIdeal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDcat_KernelDcatIdeal
    ∧ algebraic_KernelDcatIdeal_ReferenceDcatIdeal (hKernelDcatIdeal := hKernelDcatIdeal) (hReferenceDcatIdeal := hReferenceDcatIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDx0_KernelDx0Ideal
    ∧ algebraic_KernelDx0Ideal_ReferenceDx0Ideal (hKernelDx0Ideal := hKernelDx0Ideal) (hReferenceDx0Ideal := hReferenceDx0Ideal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelMmIn_KernelMmInIdeal
    ∧ algebraic_KernelMmInIdeal_ReferenceMmInIdeal (hKernelMmInIdeal := hKernelMmInIdeal) (hReferenceMmInIdeal := hReferenceMmInIdeal)
    ∧ preserves_KernelMmOut_KernelMmOutIdeal
    ∧ algebraic_KernelMmOutIdeal_ReferenceMmOutIdeal (hKernelMmOutIdeal := hKernelMmOutIdeal) (hReferenceMmOutIdeal := hReferenceMmOutIdeal)
    ∧ preserves_KernelMmUp_KernelMmUpIdeal
    ∧ algebraic_KernelMmUpIdeal_ReferenceMmUpIdeal (hKernelMmUpIdeal := hKernelMmUpIdeal) (hReferenceMmUpIdeal := hReferenceMmUpIdeal)
    ∧ preserves_KernelMmDown_KernelMmDownIdeal
    ∧ algebraic_KernelMmDownIdeal_ReferenceMmDownIdeal (hKernelMmDownIdeal := hKernelMmDownIdeal) (hReferenceMmDownIdeal := hReferenceMmDownIdeal)
    ∧ preserves_KernelLnFwd_KernelLnFwdIdeal
    ∧ algebraic_KernelLnFwdIdeal_ReferenceLnFwdIdeal (hKernelLnFwdIdeal := hKernelLnFwdIdeal) (hReferenceLnFwdIdeal := hReferenceLnFwdIdeal)
    ∧ preserves_KernelLnBwd_KernelLnBwdIdeal
    ∧ algebraic_KernelLnBwdIdeal_ReferenceLnBwdIdeal_pre_finite_ln (hKernelLnBwdIdeal := hKernelLnBwdIdeal) (hReferenceLnBwdIdeal := hReferenceLnBwdIdeal) (hPre_finite_ln := hPre_finite_ln)
    ∧ preserves_KernelLossHead_KernelLossHeadIdeal
    ∧ algebraic_KernelLossHeadIdeal_ReferenceLossHeadIdeal (hKernelLossHeadIdeal := hKernelLossHeadIdeal) (hReferenceLossHeadIdeal := hReferenceLossHeadIdeal)
    ∧ preserves_KernelSumDevices_KernelSumDevicesIdeal
    ∧ algebraic_KernelSumDevicesIdeal_ReferenceSumDevicesIdeal (hKernelSumDevicesIdeal := hKernelSumDevicesIdeal) (hReferenceSumDevicesIdeal := hReferenceSumDevicesIdeal)
    ∧ preserves_KernelAdamwDown_KernelAdamwDownIdeal
    ∧ algebraic_KernelAdamwDownIdeal_ReferenceAdamwDownIdeal (hKernelAdamwDownIdeal := hKernelAdamwDownIdeal) (hReferenceAdamwDownIdeal := hReferenceAdamwDownIdeal)
    ∧ preserves_KernelAdamwDownLate_KernelAdamwDownLateIdeal
    ∧ algebraic_KernelAdamwDownLateIdeal_ReferenceAdamwDownLateIdeal (hKernelAdamwDownLateIdeal := hKernelAdamwDownLateIdeal) (hReferenceAdamwDownLateIdeal := hReferenceAdamwDownLateIdeal)
    ∧ preserves_KernelAdamwUp_KernelAdamwUpIdeal
    ∧ algebraic_KernelAdamwUpIdeal_ReferenceAdamwUpIdeal (hKernelAdamwUpIdeal := hKernelAdamwUpIdeal) (hReferenceAdamwUpIdeal := hReferenceAdamwUpIdeal)
    ∧ preserves_KernelAdamwUpLate_KernelAdamwUpLateIdeal
    ∧ algebraic_KernelAdamwUpLateIdeal_ReferenceAdamwUpLateIdeal (hKernelAdamwUpLateIdeal := hKernelAdamwUpLateIdeal) (hReferenceAdamwUpLateIdeal := hReferenceAdamwUpLateIdeal)
-- ==== Pre_finite.lean ====
abbrev S4096x2560 : Shape := ⟨2, ![4096, 2560]⟩
abbrev S16 : Shape := ⟨1, ![16]⟩
abbrev S16x128x384 : Shape := ⟨3, ![16, 128, 384]⟩
abbrev S4096x2048 : Shape := ⟨2, ![4096, 2048]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S16 : S_.BroadcastsInDim S16 (![] : Fin 0 → Fin S16.rank)
  reducesTo_S16_S_d0 : S16.ReducesTo [0] S_
  bcast_S_S16x128x384 : S_.BroadcastsInDim S16x128x384 (![] : Fin 0 → Fin S16x128x384.rank)
  reducesTo_S16x128x384_S_d0_1_2 : S16x128x384.ReducesTo [0, 1, 2] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2560 .f32) (main_arg1 : FVec F S16 .f32) (main_arg2 : FVec F S16x128x384 .f32) (main_arg3 : FVec F S4096x2048 .f32) (main_arg4 : FVec F S16x128x384 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16x128x384 .f32 := Host.absf main_arg2
  let main_cst_2 : FVec F S_ .f32 := constant S_ .f32 0x7F800000#32
  let main_v10 : FVec F S16x128x384 .f32 := broadcastInDim S16x128x384 ![] bcast_S_S16x128x384 main_cst_2
  let main_v11 : IVec S16x128x384 1 := cmpf .olt main_v9 main_v10
  let main_c_3 : IVec S_ 1 := constantI S_ 1 1#1
  let main_v12 : IVec S_ 1 := (fun x v => Host.reduce IntOp.andi x v reducesTo_S16x128x384_S_d0_1_2 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_finite_ln.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4096x2560 : Shape := ⟨2, ![4096, 2560]⟩
abbrev S16 : Shape := ⟨1, ![16]⟩
abbrev S16x128x384 : Shape := ⟨3, ![16, 128, 384]⟩
abbrev S4096x2048 : Shape := ⟨2, ![4096, 2048]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S1x16 : Shape := ⟨2, ![1, 16]⟩
abbrev S4096x1024 : Shape := ⟨2, ![4096, 1024]⟩
abbrev S256x4352 : Shape := ⟨2, ![256, 4352]⟩
abbrev S128x1024 : Shape := ⟨2, ![128, 1024]⟩
abbrev S128x256 : Shape := ⟨2, ![128, 256]⟩
abbrev S1x1 : Shape := ⟨2, ![1, 1]⟩
abbrev S384x256 : Shape := ⟨2, ![384, 256]⟩
abbrev S128x64 : Shape := ⟨2, ![128, 64]⟩
abbrev S512x64 : Shape := ⟨2, ![512, 64]⟩
abbrev S384x64 : Shape := ⟨2, ![384, 64]⟩
abbrev S512x384 : Shape := ⟨2, ![512, 384]⟩
abbrev S4x128x384 : Shape := ⟨3, ![4, 128, 384]⟩
abbrev S512x1 : Shape := ⟨2, ![512, 1]⟩
abbrev S512 : Shape := ⟨1, ![512]⟩
abbrev S64x384 : Shape := ⟨2, ![64, 384]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 31
  | .vmem => 24
  | .smem => 1
  | _ => 0

abbrev bufTy : (tb : Table) → Fin (tcTables nBuf tb) → BufTy
  | .hbm, ⟨0, _⟩ => ⟨S4096x2560, .f32⟩
  | .hbm, ⟨1, _⟩ => ⟨S16, .f32⟩
  | .hbm, ⟨2, _⟩ => ⟨S16x128x384, .f32⟩
  | .hbm, ⟨3, _⟩ => ⟨S4096x2048, .f32⟩
  | .hbm, ⟨4, _⟩ => ⟨S16x128x384, .f32⟩
  | .hbm, ⟨5, _⟩ => ⟨S128, .i32⟩
  | .hbm, ⟨6, _⟩ => ⟨S128x1, .i32⟩
  | .hbm, ⟨7, _⟩ => ⟨S384, .i32⟩
  | .hbm, ⟨8, _⟩ => ⟨S1x384, .i32⟩
  | .hbm, ⟨9, _⟩ => ⟨S_, .i32⟩
  | .hbm, ⟨10, _⟩ => ⟨S1x384, .i32⟩
  | .hbm, ⟨11, _⟩ => ⟨S1x384, .i32⟩
  | .hbm, ⟨12, _⟩ => ⟨S128x384, .i32⟩
  | .hbm, ⟨13, _⟩ => ⟨S128x384, .i32⟩
  | .hbm, ⟨14, _⟩ => ⟨S128x384, .i32⟩
  | .hbm, ⟨15, _⟩ => ⟨S128x384, .i32⟩
  | .hbm, ⟨16, _⟩ => ⟨S_, .i32⟩
  | .hbm, ⟨17, _⟩ => ⟨S128x384, .i32⟩
  | .hbm, ⟨18, _⟩ => ⟨S128x384, .i1⟩
  | .hbm, ⟨19, _⟩ => ⟨S1x128x384, .i1⟩
  | .hbm, ⟨20, _⟩ => ⟨S_, .f32⟩
  | .hbm, ⟨21, _⟩ => ⟨S_, .f32⟩
  | .hbm, ⟨22, _⟩ => ⟨S16x128x384, .i1⟩
  | .hbm, ⟨23, _⟩ => ⟨S16x128x384, .f32⟩
  | .hbm, ⟨24, _⟩ => ⟨S16x128x384, .f32⟩
  | .hbm, ⟨25, _⟩ => ⟨S1x16, .f32⟩
  | .hbm, ⟨26, _⟩ => ⟨S4096x1024, .bf16⟩
  | .hbm, ⟨27, _⟩ => ⟨S256x4352, .f32⟩
  | .hbm, ⟨28, _⟩ => ⟨S256x4352, .f32⟩
  | .hbm, ⟨29, _⟩ => ⟨S16x128x384, .f32⟩
  | .hbm, ⟨30, _⟩ => ⟨S1x16, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x1024, .f32⟩
  | .local _ .vmem, ⟨15, _⟩ => ⟨S128x1024, .f32⟩
  | .local _ .vmem, ⟨16, _⟩ => ⟨S16x128x384, .f32⟩
  | .local _ .vmem, ⟨17, _⟩ => ⟨S1x16, .f32⟩
  | .local _ .vmem, ⟨18, _⟩ => ⟨S16x128x384, .f32⟩
  | .local _ .vmem, ⟨19, _⟩ => ⟨S128x1024, .bf16⟩
  | .local _ .vmem, ⟨20, _⟩ => ⟨S128x1024, .bf16⟩
  | .local _ .vmem, ⟨21, _⟩ => ⟨S256x4352, .f32⟩
  | .local _ .vmem, ⟨22, _⟩ => ⟨S256x4352, .f32⟩
  | .local _ .vmem, ⟨23, _⟩ => ⟨S16x128x384, .f32⟩
  | .local _ .smem, ⟨0, _⟩ => ⟨S1x16, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32_13 : BitVec 32 := 128#32
  let v23 : BitVec 32 := Scalar.muli arg0 c128_i32_13
  v23
def k0_off1 (i : grid0.Coords) : Fin 2 → Nat :=
  let c0_106 : Index := 0#32
  let arg0 : BitVec 32 := BitVec.ofNat 32 (i 0).val
  let c128_i32_13 : BitVec 32 := 128#32
  let v23 : BitVec 32 := Scalar.muli arg0 c128_i32_13
  let v24 : BitVec 32 := v23
  let v218 : Index := Scalar.indexCast v24
  ![0, v218.toNat]
def k0_off2 (i : grid0.Coords) : Fin 2 → Nat :=
  let c64_139 : Index := 64#32
  let arg0 : BitVec 32 := BitVec.ofNat 32 (i 0).val
  let c128_i32_13 : BitVec 32 := 128#32
  let v23 : BitVec 32 := Scalar.muli arg0 c128_i32_13
  let v24 : BitVec 32 := v23
  let v277 : Index := Scalar.indexCast v24
  ![64, v277.toNat]
def k0_off3 (i : grid0.Coords) : Fin 2 → Nat :=
  let c128_234 : Index := 128#32
  let arg0 : BitVec 32 := BitVec.ofNat 32 (i 0).val
  let c128_i32_13 : BitVec 32 := 128#32
  let v23 : BitVec 32 := Scalar.muli arg0 c128_i32_13
  let v24 : BitVec 32 := v23
  let v482 : Index := Scalar.indexCast v24
  ![128, v482.toNat]
def k0_off4 (i : grid0.Coords) : Fin 2 → Nat :=
  let c192_267 : Index := 192#32
  let arg0 : BitVec 32 := BitVec.ofNat 32 (i 0).val
  let c128_i32_13 : BitVec 32 := 128#32
  let v23 : BitVec 32 := Scalar.muli arg0 c128_i32_13
  let v24 : BitVec 32 := v23
  let v541 : Index := Scalar.indexCast v24
  ![192, v541.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x4352 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x4352 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x2560 : Shape := ⟨2, ![4096, 2560]⟩
abbrev S16 : Shape := ⟨1, ![16]⟩
abbrev S16x128x384 : Shape := ⟨3, ![16, 128, 384]⟩
abbrev S4096x2048 : Shape := ⟨2, ![4096, 2048]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S4096x1024 : Shape := ⟨2, ![4096, 1024]⟩
abbrev S1x4096x16x64 : Shape := ⟨4, ![1, 4096, 16, 64]⟩
abbrev S4096x256 : Shape := ⟨2, ![4096, 256]⟩
abbrev S1x4096x4x64 : Shape := ⟨4, ![1, 4096, 4, 64]⟩
abbrev S1x32x128x4x4x64 : Shape := ⟨6, ![1, 32, 128, 4, 4, 64]⟩
abbrev S1x128x4x64 : Shape := ⟨4, ![1, 128, 4, 64]⟩
abbrev S1x4352x4x64 : Shape := ⟨4, ![1, 4352, 4, 64]⟩
abbrev S1x34x128x4x64 : Shape := ⟨5, ![1, 34, 128, 4, 64]⟩
abbrev S1x32x128x4x64 : Shape := ⟨5, ![1, 32, 128, 4, 64]⟩
abbrev S1x32x384x4x64 : Shape := ⟨5, ![1, 32, 384, 4, 64]⟩
abbrev S1x32x4x384x128x4 : Shape := ⟨6, ![1, 32, 4, 384, 128, 4]⟩
abbrev S1x32x4x4x128x384 : Shape := ⟨6, ![1, 32, 4, 4, 128, 384]⟩
abbrev S4x4x128x384 : Shape := ⟨4, ![4, 4, 128, 384]⟩
abbrev S1x1x4x4x128x384 : Shape := ⟨6, ![1, 1, 4, 4, 128, 384]⟩
abbrev S1x32x1x1x128x384 : Shape := ⟨6, ![1, 32, 1, 1, 128, 384]⟩
abbrev S4x4 : Shape := ⟨2, ![4, 4]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S1x4096x1024 : Shape := ⟨3, ![1, 4096, 1024]⟩
abbrev S1x32x4x64x384 : Shape := ⟨5, ![1, 32, 4, 64, 384]⟩
abbrev S1x4x4x1 : Shape := ⟨4, ![1, 4, 4, 1]⟩
abbrev S32x4x4x128 : Shape := ⟨4, ![32, 4, 4, 128]⟩
abbrev S1x4x4x128x384 : Shape := ⟨5, ![1, 4, 4, 128, 384]⟩
abbrev S1x32x4x128x4x64 : Shape := ⟨6, ![1, 32, 4, 128, 4, 64]⟩
abbrev S1x32x4x384x64 : Shape := ⟨5, ![1, 32, 4, 384, 64]⟩
abbrev S256x4096 : Shape := ⟨2, ![256, 4096]⟩
abbrev S256x4352 : Shape := ⟨2, ![256, 4352]⟩
abbrev S1x16 : Shape := ⟨2, ![1, 16]⟩

abbrev nBuf : Space → Nat
  | .hbm => 258
  | .vmem => 0
  | .smem => 0
  | _ => 0

abbrev hbmTy0_0 (i : Nat) : BufTy := match i % 128 with
  | 0 => ⟨S4096x2560, .f32⟩
  | 1 => ⟨S16, .f32⟩
  | 2 => ⟨S16x128x384, .f32⟩
  | 3 => ⟨S4096x2048, .f32⟩
  | 4 => ⟨S16x128x384, .f32⟩
  | 5 => ⟨S384, .i32⟩
  | 6 => ⟨S1x384, .i32⟩
  | 7 => ⟨S_, .i32⟩
  | 8 => ⟨S1x384, .i32⟩
  | 9 => ⟨S1x384, .i32⟩
  | 10 => ⟨S128, .i32⟩
  | 11 => ⟨S128x1, .i32⟩
  | 12 => ⟨S128x384, .i32⟩
  | 13 => ⟨S128x384, .i32⟩
  | 14 => ⟨S128x384, .i32⟩
  | 15 => ⟨S32, .i32⟩
  | 16 => ⟨S32x1, .i32⟩
  | 17 => ⟨S_, .i32⟩
  | 18 => ⟨S32x1, .i32⟩
  | 19 => ⟨S32x1, .i32⟩
  | 20 => ⟨S384, .i32⟩
  | 21 => ⟨S1x384, .i32⟩
  | 22 => ⟨S_, .i32⟩
  | 23 => ⟨S1x384, .i32⟩
  | 24 => ⟨S1x384, .i32⟩
  | 25 => ⟨S32x384, .i32⟩
  | 26 => ⟨S32x384, .i32⟩
  | 27 => ⟨S32x384, .i32⟩
  | 28 => ⟨S128x384, .i32⟩
  | 29 => ⟨S_, .i32⟩
  | 30 => ⟨S128x384, .i32⟩
  | 31 => ⟨S128x384, .i1⟩
  | 32 => ⟨S1x128x384, .i1⟩
  | 33 => ⟨S_, .i32⟩
  | 34 => ⟨S32x384, .i32⟩
  | 35 => ⟨S32x384, .i1⟩
  | 36 => ⟨S_, .i32⟩
  | 37 => ⟨S32x384, .i32⟩
  | 38 => ⟨S32x384, .i1⟩
  | 39 => ⟨S32x384, .i1⟩
  | 40 => ⟨S32x1x384, .i1⟩
  | 41 => ⟨S32x128x384, .i1⟩
  | 42 => ⟨S32x128x384, .i1⟩
  | 43 => ⟨S32x128x384, .i1⟩
  | 44 => ⟨S4096x1024, .f32⟩
  | 45 => ⟨S1x4096x16x64, .f32⟩
  | 46 => ⟨S4096x256, .f32⟩
  | 47 => ⟨S1x4096x4x64, .f32⟩
  | 48 => ⟨S4096x256, .f32⟩
  | 49 => ⟨S1x4096x4x64, .f32⟩
  | 50 => ⟨S1x32x128x4x4x64, .f32⟩
  | 51 => ⟨S_, .f32⟩
  | 52 => ⟨S1x128x4x64, .f32⟩
  | 53 => ⟨S1x4352x4x64, .f32⟩
  | 54 => ⟨S_, .f32⟩
  | 55 => ⟨S1x128x4x64, .f32⟩
  | 56 => ⟨S_, .f32⟩
  | 57 => ⟨S1x128x4x64, .f32⟩
  | 58 => ⟨S1x34x128x4x64, .f32⟩
  | 59 => ⟨S1x32x128x4x64, .f32⟩
  | 60 => ⟨S1x32x128x4x64, .f32⟩
  | 61 => ⟨S1x32x128x4x64, .f32⟩
  | 62 => ⟨S1x32x384x4x64, .f32⟩
  | 63 => ⟨S_, .f32⟩
  | 64 => ⟨S1x128x4x64, .f32⟩
  | 65 => ⟨S1x4352x4x64, .f32⟩
  | 66 => ⟨S_, .f32⟩
  | 67 => ⟨S1x128x4x64, .f32⟩
  | 68 => ⟨S_, .f32⟩
  | 69 => ⟨S1x128x4x64, .f32⟩
  | 70 => ⟨S1x34x128x4x64, .f32⟩
  | 71 => ⟨S1x32x128x4x64, .f32⟩
  | 72 => ⟨S1x32x128x4x64, .f32⟩
  | 73 => ⟨S1x32x128x4x64, .f32⟩
  | 74 => ⟨S1x32x384x4x64, .f32⟩
  | 75 => ⟨S1x32x4x384x128x4, .f32⟩
  | 76 => ⟨S1x32x4x4x128x384, .f32⟩
  | 77 => ⟨S_, .f32⟩
  | 78 => ⟨S1x32x4x4x128x384, .f32⟩
  | 79 => ⟨S1x32x4x4x128x384, .f32⟩
  | 80 => ⟨S4x4x128x384, .f32⟩
  | 81 => ⟨S1x1x4x4x128x384, .f32⟩
  | 82 => ⟨S1x32x4x4x128x384, .f32⟩
  | 83 => ⟨S1x32x4x4x128x384, .f32⟩
  | 84 => ⟨S1x32x1x1x128x384, .i1⟩
  | 85 => ⟨S_, .f32⟩
  | 86 => ⟨S_, .f32⟩
  | 87 => ⟨S1x32x4x4x128x384, .i1⟩
  | 88 => ⟨S1x32x4x4x128x384, .f32⟩
  | 89 => ⟨S1x32x4x4x128x384, .f32⟩
  | 90 => ⟨S_, .f32⟩
  | 91 => ⟨S1x32x4x4x128x384, .f32⟩
  | 92 => ⟨S4x4, .f32⟩
  | 93 => ⟨S1x1x4x4x1x1, .f32⟩
  | 94 => ⟨S_, .f32⟩
  | 95 => ⟨S1x32x4x4x128, .f32⟩
  | 96 => ⟨S1x32x4x4x128x1, .f32⟩
  | 97 => ⟨S1x32x4x4x128x384, .f32⟩
  | 98 => ⟨S1x32x4x4x128x384, .i1⟩
  | 99 => ⟨S1x32x4x4x128x384, .f32⟩
  | 100 => ⟨S_, .f32⟩
  | 101 => ⟨S1x32x4x4x128, .f32⟩
  | 102 => ⟨S1x32x4x4x128x1, .f32⟩
  | 103 => ⟨S1x32x4x4x128x1, .f32⟩
  | 104 => ⟨S1x32x4x4x128x1, .f32⟩
  | 105 => ⟨S1x32x4x4x128x1, .f32⟩
  | 106 => ⟨S1x32x4x4x128x1, .i1⟩
  | 107 => ⟨S1x32x4x4x128x1, .f32⟩
  | 108 => ⟨S1x32x4x4x128x1, .i1⟩
  | 109 => ⟨S_, .f32⟩
  | 110 => ⟨S1x32x4x4x128x1, .f32⟩
  | 111 => ⟨S_, .f32⟩
  | 112 => ⟨S1x32x4x4x128x1, .f32⟩
  | 113 => ⟨S_, .f32⟩
  | 114 => ⟨S1x32x4x4x128x1, .f32⟩
  | 115 => ⟨S1x32x4x4x128x1, .f32⟩
  | 116 => ⟨S1x32x4x4x128x1, .f32⟩
  | 117 => ⟨S1x32x4x4x128x1, .f32⟩
  | 118 => ⟨S1x32x4x4x128x1, .i1⟩
  | 119 => ⟨S1x32x4x4x128x1, .f32⟩
  | 120 => ⟨S1x32x4x4x128x1, .i1⟩
  | 121 => ⟨S_, .f32⟩
  | 122 => ⟨S1x32x4x4x128x1, .f32⟩
  | 123 => ⟨S_, .f32⟩
  | 124 => ⟨S1x32x4x4x128x1, .f32⟩
  | 125 => ⟨S_, .f32⟩
  | 126 => ⟨S1x32x4x4x128x1, .f32⟩
  | 127 => ⟨S1x32x4x4x128x1, .f32⟩
  | _ => ⟨S4096x2560, .f32⟩

abbrev hbmTy0_1 (i : Nat) : BufTy := match i % 128 with
  | 0 => ⟨S1x32x4x4x128x1, .f32⟩
  | 1 => ⟨S1x32x4x4x128x384, .f32⟩
  | 2 => ⟨S1x32x4x4x128x384, .f32⟩
  | 3 => ⟨S1x32x4x4x128x384, .f32⟩
  | 4 => ⟨S_, .f32⟩
  | 5 => ⟨S1x32x4x4x128, .f32⟩
  | 6 => ⟨S1x32x4x4x128x1, .f32⟩
  | 7 => ⟨S1x32x4x4x128x1, .f32⟩
  | 8 => ⟨S1x32x4x4x128x1, .f32⟩
  | 9 => ⟨S1x32x4x4x128x1, .f32⟩
  | 10 => ⟨S1x32x4x4x128x1, .f32⟩
  | 11 => ⟨S1x32x4x4x128x384, .f32⟩
  | 12 => ⟨S1x32x4x4x128x384, .f32⟩
  | 13 => ⟨S1x32x4x4x128x1, .f32⟩
  | 14 => ⟨S_, .f32⟩
  | 15 => ⟨S1x32x4x4x128x1, .f32⟩
  | 16 => ⟨S1x32x4x4x128x1, .f32⟩
  | 17 => ⟨S1x32x4x64x4x128, .f32⟩
  | 18 => ⟨S1x32x128x4x4x64, .f32⟩
  | 19 => ⟨S1x4096x1024, .f32⟩
  | 20 => ⟨S4096x1024, .f32⟩
  | 21 => ⟨S1x4096x1024, .f32⟩
  | 22 => ⟨S1x32x128x4x4x64, .f32⟩
  | 23 => ⟨S1x32x4x64x4x128, .f32⟩
  | 24 => ⟨S1x32x4x4x128x384, .f32⟩
  | 25 => ⟨S1x32x4x64x384, .f32⟩
  | 26 => ⟨S1x32x384x4x64, .f32⟩
  | 27 => ⟨S1x32x4x4x128x384, .f32⟩
  | 28 => ⟨S1x32x4x4x128x384, .f32⟩
  | 29 => ⟨S1x32x4x4x128x384, .f32⟩
  | 30 => ⟨S_, .f32⟩
  | 31 => ⟨S1x32x4x4x128, .f32⟩
  | 32 => ⟨S1x32x4x4x128x1, .f32⟩
  | 33 => ⟨S1x32x4x4x128x1, .f32⟩
  | 34 => ⟨S1x32x4x4x128x384, .f32⟩
  | 35 => ⟨S1x32x4x4x128x384, .f32⟩
  | 36 => ⟨S1x32x4x4x128x1, .f32⟩
  | 37 => ⟨S_, .f32⟩
  | 38 => ⟨S1x4x4x1, .f32⟩
  | 39 => ⟨S1x1x4x4x1x1, .f32⟩
  | 40 => ⟨S1x32x4x4x128x1, .f32⟩
  | 41 => ⟨S_, .f32⟩
  | 42 => ⟨S32x4x4x128, .f32⟩
  | 43 => ⟨S1x32x4x4x128, .f32⟩
  | 44 => ⟨S1x32x4x4x128x384, .f32⟩
  | 45 => ⟨S1x32x4x4x128x384, .f32⟩
  | 46 => ⟨S1x32x4x4x128x384, .f32⟩
  | 47 => ⟨S1x32x4x4x128x384, .f32⟩
  | 48 => ⟨S_, .f32⟩
  | 49 => ⟨S1x32x4x4x128, .f32⟩
  | 50 => ⟨S1x32x4x4x128x1, .f32⟩
  | 51 => ⟨S1x32x4x4x128x1, .f32⟩
  | 52 => ⟨S1x32x4x4x128x1, .f32⟩
  | 53 => ⟨S_, .f32⟩
  | 54 => ⟨S1x4x4x1, .f32⟩
  | 55 => ⟨S1x1x4x4x1x1, .f32⟩
  | 56 => ⟨S1x1x4x4x1x1, .f32⟩
  | 57 => ⟨S1x32x4x4x128x1, .f32⟩
  | 58 => ⟨S_, .f32⟩
  | 59 => ⟨S32x4x4x128, .f32⟩
  | 60 => ⟨S1x32x4x4x128, .f32⟩
  | 61 => ⟨S1x32x4x4x128, .f32⟩
  | 62 => ⟨S1x32x4x4x128x384, .f32⟩
  | 63 => ⟨S1x32x4x4x128x384, .f32⟩
  | 64 => ⟨S1x32x4x4x128x384, .f32⟩
  | 65 => ⟨S_, .f32⟩
  | 66 => ⟨S4x4, .f32⟩
  | 67 => ⟨S16, .f32⟩
  | 68 => ⟨S_, .f32⟩
  | 69 => ⟨S1x32x4x4x128x384, .f32⟩
  | 70 => ⟨S1x32x4x4x128x384, .f32⟩
  | 71 => ⟨S_, .f32⟩
  | 72 => ⟨S1x4x4x128x384, .f32⟩
  | 73 => ⟨S1x1x4x4x128x384, .f32⟩
  | 74 => ⟨S_, .f32⟩
  | 75 => ⟨S4x4x128x384, .f32⟩
  | 76 => ⟨S16x128x384, .f32⟩
  | 77 => ⟨S_, .f32⟩
  | 78 => ⟨S1x32x4x4x128x384, .f32⟩
  | 79 => ⟨S1x32x4x4x128x384, .f32⟩
  | 80 => ⟨S1x32x4x384x128x4, .f32⟩
  | 81 => ⟨S1x32x4x128x4x64, .f32⟩
  | 82 => ⟨S1x32x128x4x4x64, .f32⟩
  | 83 => ⟨S1x32x4x384x64, .f32⟩
  | 84 => ⟨S1x32x384x4x64, .f32⟩
  | 85 => ⟨S1x32x128x4x64, .f32⟩
  | 86 => ⟨S1x32x128x4x64, .f32⟩
  | 87 => ⟨S1x32x128x4x64, .f32⟩
  | 88 => ⟨S_, .f32⟩
  | 89 => ⟨S1x34x128x4x64, .f32⟩
  | 90 => ⟨S_, .f32⟩
  | 91 => ⟨S1x34x128x4x64, .f32⟩
  | 92 => ⟨S1x34x128x4x64, .f32⟩
  | 93 => ⟨S_, .f32⟩
  | 94 => ⟨S1x34x128x4x64, .f32⟩
  | 95 => ⟨S1x34x128x4x64, .f32⟩
  | 96 => ⟨S1x4352x4x64, .f32⟩
  | 97 => ⟨S1x128x4x64, .f32⟩
  | 98 => ⟨S1x4096x4x64, .f32⟩
  | 99 => ⟨S1x128x4x64, .f32⟩
  | 100 => ⟨S1x32x128x4x64, .f32⟩
  | 101 => ⟨S1x32x128x4x64, .f32⟩
  | 102 => ⟨S1x32x128x4x64, .f32⟩
  | 103 => ⟨S_, .f32⟩
  | 104 => ⟨S1x34x128x4x64, .f32⟩
  | 105 => ⟨S_, .f32⟩
  | 106 => ⟨S1x34x128x4x64, .f32⟩
  | 107 => ⟨S1x34x128x4x64, .f32⟩
  | 108 => ⟨S_, .f32⟩
  | 109 => ⟨S1x34x128x4x64, .f32⟩
  | 110 => ⟨S1x34x128x4x64, .f32⟩
  | 111 => ⟨S1x4352x4x64, .f32⟩
  | 112 => ⟨S1x128x4x64, .f32⟩
  | 113 => ⟨S1x4096x4x64, .f32⟩
  | 114 => ⟨S1x128x4x64, .f32⟩
  | 115 => ⟨S1x4096x16x64, .f32⟩
  | 116 => ⟨S4096x1024, .f32⟩
  | 117 => ⟨S4096x1024, .bf16⟩
  | 118 => ⟨S4096x256, .f32⟩
  | 119 => ⟨S256x4096, .f32⟩
  | 120 => ⟨S_, .i32⟩
  | 121 => ⟨S_, .f32⟩
  | 122 => ⟨S256x4352, .f32⟩
  | 123 => ⟨S4096x256, .f32⟩
  | 124 => ⟨S256x4096, .f32⟩
  | 125 => ⟨S_, .i32⟩
  | 126 => ⟨S_, .f32⟩
  | 127 => ⟨S256x4352, .f32⟩
  | _ => ⟨S4096x2560, .f32⟩

abbrev hbmTy0_2 (i : Nat) : BufTy := match i % 128 with
  | 0 => ⟨S16x128x384, .f32⟩
  | 1 => ⟨S1x16, .f32⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_call0_v0 : Ref sig .tc := ⟨.hbm, 86, rfl⟩
abbrev main_v67_1 : Ref sig .tc := ⟨.hbm, 87, rfl⟩
abbrev main_call0_v2 : Ref sig .tc := ⟨.hbm, 88, rfl⟩
abbrev main_v67_0 : Ref sig .tc := ⟨.hbm, 89, rfl⟩
abbrev main_call0_cst : Ref sig .tc := ⟨.hbm, 90, rfl⟩
abbrev main_v67_2 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_21 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_22 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_23 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_24 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_25 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_27 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_28 : Ref sig .tc := ⟨.hbm, 193, rfl⟩
abbrev main_v153 : Ref sig .tc := ⟨.hbm, 194, rfl⟩
abbrev main_v154 : Ref sig .tc := ⟨.hbm, 195, rfl⟩
abbrev main_call1_cst : Ref sig .tc := ⟨.hbm, 196, rfl⟩
abbrev main_call1_v0 : Ref sig .tc := ⟨.hbm, 197, rfl⟩
abbrev main_v155 : Ref sig .tc := ⟨.hbm, 198, rfl⟩
abbrev main_cst_29 : Ref sig .tc := ⟨.hbm, 199, rfl⟩
abbrev main_v156 : Ref sig .tc := ⟨.hbm, 200, rfl⟩
abbrev main_v157 : Ref sig .tc := ⟨.hbm, 201, rfl⟩
abbrev main_cst_30 : Ref sig .tc := ⟨.hbm, 202, rfl⟩
abbrev main_v158 : Ref sig .tc := ⟨.hbm, 203, rfl⟩
abbrev main_v159 : Ref sig .tc := ⟨.hbm, 204, rfl⟩
abbrev main_cst_31 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_32 : Ref sig .tc := ⟨.hbm, 216, rfl⟩
abbrev main_v170 : Ref sig .tc := ⟨.hbm, 217, rfl⟩
abbrev main_cst_33 : Ref sig .tc := ⟨.hbm, 218, rfl⟩
abbrev main_v171 : Ref sig .tc := ⟨.hbm, 219, rfl⟩
abbrev main_v172 : Ref sig .tc := ⟨.hbm, 220, rfl⟩
abbrev main_cst_34 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_35 : Ref sig .tc := ⟨.hbm, 231, rfl⟩
abbrev main_v182 : Ref sig .tc := ⟨.hbm, 232, rfl⟩
abbrev main_cst_36 : Ref sig .tc := ⟨.hbm, 233, rfl⟩
abbrev main_v183 : Ref sig .tc := ⟨.hbm, 234, rfl⟩
abbrev main_v184 : Ref sig .tc := ⟨.hbm, 235, rfl⟩
abbrev main_cst_37 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_c_38 : Ref sig .tc := ⟨.hbm, 248, rfl⟩
abbrev main_call2_v0 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_c_39 : Ref sig .tc := ⟨.hbm, 253, rfl⟩
abbrev main_call3_v0 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩

abbrev nD : Nat := 1
abbrev τ : Topo := Topo.v7x

variable {F : FTy → Type} [FloatOps F]

def κ : String → Option EReal := fun
  | "mask" => some ⊥
  | _ => none
-- ==== KernelDx1.lean ====
abbrev S4096x11008 : Shape := ⟨2, ![4096, 11008]⟩
abbrev S2048x11008 : Shape := ⟨2, ![2048, 11008]⟩
abbrev S4096x2048 : Shape := ⟨2, ![4096, 2048]⟩
abbrev S4096x8x1376 : Shape := ⟨3, ![4096, 8, 1376]⟩
abbrev S_ : Shape := ⟨0, ![]⟩
abbrev S4096x8x1408 : Shape := ⟨3, ![4096, 8, 1408]⟩
abbrev S4096x2x5632 : Shape := ⟨3, ![4096, 2, 5632]⟩
abbrev S2x4096x5632 : Shape := ⟨3, ![2, 4096, 5632]⟩
abbrev S2048x8x1376 : Shape := ⟨3, ![2048, 8, 1376]⟩
abbrev S2048x8x1408 : Shape := ⟨3, ![2048, 8, 1408]⟩
abbrev S2048x4x2816 : Shape := ⟨3, ![2048, 4, 2816]⟩
abbrev S4x2048x2816 : Shape := ⟨3, ![4, 2048, 2816]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 18
  | .vmem => 8
  | .smem => 0
  | _ => 0

abbrev bufTy : (tb : Table) → Fin (tcTables nBuf tb) → BufTy
  | .hbm, ⟨0, _⟩ => ⟨S4096x11008, .f32⟩
  | .hbm, ⟨1, _⟩ => ⟨S2048x11008, .f32⟩
  | .hbm, ⟨2, _⟩ => ⟨S4096x2048, .f32⟩
  | .hbm, ⟨3, _⟩ => ⟨S4096x8x1376, .f32⟩
  | .hbm, ⟨4, _⟩ => ⟨S_, .i32⟩
  | .hbm, ⟨5, _⟩ => ⟨S_, .f32⟩
  | .hbm, ⟨6, _⟩ => ⟨S4096x8x1408, .f32⟩
  | .hbm, ⟨7, _⟩ => ⟨S4096x8x1408, .bf16⟩
  | .hbm, ⟨8, _⟩ => ⟨S4096x2x5632, .bf16⟩
  | .hbm, ⟨9, _⟩ => ⟨S2x4096x5632, .bf16⟩
  | .hbm, ⟨10, _⟩ => ⟨S2048x8x1376, .f32⟩
  | .hbm, ⟨11, _⟩ => ⟨S_, .i32⟩
  | .hbm, ⟨12, _⟩ => ⟨S_, .f32⟩
  | .hbm, ⟨13, _⟩ => ⟨S2048x8x1408, .f32⟩
  | .hbm, ⟨14, _⟩ => ⟨S2048x8x1408, .bf16⟩
  | .hbm, ⟨15, _⟩ => ⟨S2048x4x2816, .bf16⟩
  | .hbm, ⟨16, _⟩ => ⟨S4x2048x2816, .bf16⟩
  | .hbm, ⟨17, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDx1Ideal.lean ====
abbrev S4096x11008 : Shape := ⟨2, ![4096, 11008]⟩
abbrev S2048x11008 : Shape := ⟨2, ![2048, 11008]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S2048x11008, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x11008, .f32⟩
  | .hbm, ⟨9, _⟩ => ⟨S4096x2048, .f32⟩
  | .hbm, ⟨10, _⟩ => ⟨S4096x2048, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelDwUp.lean ====
abbrev S4096x11008 : Shape := ⟨2, ![4096, 11008]⟩
abbrev S4096x2048 : Shape := ⟨2, ![4096, 2048]⟩
abbrev S4096x8x1376 : Shape := ⟨3, ![4096, 8, 1376]⟩
abbrev S_ : Shape := ⟨0, ![]⟩
abbrev S4096x8x1408 : Shape := ⟨3, ![4096, 8, 1408]⟩
abbrev S4096x2x5632 : Shape := ⟨3, ![4096, 2, 5632]⟩
abbrev S2x4096x5632 : Shape := ⟨3, ![2, 4096, 5632]⟩
abbrev S4x2816x2048 : Shape := ⟨3, ![4, 2816, 2048]⟩
abbrev S1x4096x256 : Shape := ⟨3, ![1, 4096, 256]⟩
abbrev S1x256x2048 : Shape := ⟨3, ![1, 256, 2048]⟩
abbrev S4096x256 : Shape := ⟨2, ![4096, 256]⟩
abbrev S256x2048 : Shape := ⟨2, ![256, 2048]⟩

abbrev nBuf : Space → Nat
  | .hbm => 11
  | .vmem => 5
  | .smem => 0
  | _ => 0

abbrev bufTy : (tb : Table) → Fin (tcTables nBuf tb) → BufTy
  | .hbm, ⟨0, _⟩ => ⟨S4096x11008, .f32⟩
  | .hbm, ⟨1, _⟩ => ⟨S4096x2048, .f32⟩
  | .hbm, ⟨2, _⟩ => ⟨S4096x8x1376, .f32⟩
  | .hbm, ⟨3, _⟩ => ⟨S_, .i32⟩
  | .hbm, ⟨4, _⟩ => ⟨S_, .f32⟩
  | .hbm, ⟨5, _⟩ => ⟨S4096x8x1408, .f32⟩
  | .hbm, ⟨6, _⟩ => ⟨S4096x8x1408, .bf16⟩
  | .hbm, ⟨7, _⟩ => ⟨S4096x2x5632, .bf16⟩
  | .hbm, ⟨8, _⟩ => ⟨S2x4096x5632, .bf16⟩
  | .hbm, ⟨9, _⟩ => ⟨S4096x2048, .bf16⟩
  | .hbm, ⟨10, _⟩ => ⟨S4x2816x2048, .f32⟩
  | .local _ .vmem, ⟨0, _⟩ => ⟨S1x4096x256, .bf16⟩
  | .local _ .vmem, ⟨1, _⟩ => ⟨S1x4096x256, .bf16⟩
  | .local _ .vmem, ⟨2, _⟩ => ⟨S4096x2048, .bf16⟩
  | .local _ .vmem, ⟨3, _⟩ => ⟨S1x256x2048, .f32⟩
  | .local _ .vmem, ⟨4, _⟩ => ⟨S1x256x2048, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![44, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg0 c22_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg0 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUpIdeal.lean ====
abbrev S4096x11008 : Shape := ⟨2, ![4096, 11008]⟩
abbrev S4096x2048 : Shape := ⟨2, ![4096, 2048]⟩
abbrev S_ : Shape := ⟨0, ![]⟩
abbrev S2048x11008 : Shape := ⟨2, ![2048, 11008]⟩
abbrev S11008x2048 : Shape := ⟨2, ![11008, 2048]⟩
abbrev S8x1376x2048 : Shape := ⟨3, ![8, 1376, 2048]⟩
abbrev S8x1408x2048 : Shape := ⟨3, ![8, 1408, 2048]⟩
abbrev S4x2816x2048 : Shape := ⟨3, ![4, 2816, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S4096x2048, .f32⟩
  | .hbm, ⟨2, _⟩ => ⟨S_, .f32⟩
  | .hbm, ⟨3, _⟩ => ⟨S2048x11008, .f32⟩
  | .hbm, ⟨4, _⟩ => ⟨S4096x11008, .f32⟩
  | .hbm, ⟨5, _⟩ => ⟨S11008x2048, .f32⟩
  | .hbm, ⟨6, _⟩ => ⟨S2048x11008, .f32⟩
  | .hbm, ⟨7, _⟩ => ⟨S11008x2048, .f32⟩
  | .hbm, ⟨8, _⟩ => ⟨S8x1376x2048, .f32⟩
  | .hbm, ⟨9, _⟩ => ⟨S_, .i32⟩
  | .hbm, ⟨10, _⟩ => ⟨S_, .f32⟩
  | .hbm, ⟨11, _⟩ => ⟨S8x1408x2048, .f32⟩
  | .hbm, ⟨12, _⟩ => ⟨S4x2816x2048, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDa.lean ====
abbrev S4096x2048 : Shape := ⟨2, ![4096, 2048]⟩
abbrev S5504x2048 : Shape := ⟨2, ![5504, 2048]⟩
abbrev S4x1376x2048 : Shape := ⟨3, ![4, 1376, 2048]⟩
abbrev S_ : Shape := ⟨0, ![]⟩
abbrev S4x1408x2048 : Shape := ⟨3, ![4, 1408, 2048]⟩
abbrev S1x5632x2048 : Shape := ⟨3, ![1, 5632, 2048]⟩
abbrev S1x4096x2048 : Shape := ⟨3, ![1, 4096, 2048]⟩
abbrev S4096x5632 : Shape := ⟨2, ![4096, 5632]⟩
abbrev S1x1024x2048 : Shape := ⟨3, ![1, 1024, 2048]⟩
abbrev S1x1408x2048 : Shape := ⟨3, ![1, 1408, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5504x2048, .f32⟩
  | .hbm, ⟨2, _⟩ => ⟨S4x1376x2048, .f32⟩
  | .hbm, ⟨3, _⟩ => ⟨S_, .i32⟩
  | .hbm, ⟨4, _⟩ => ⟨S_, .f32⟩
  | .hbm, ⟨5, _⟩ => ⟨S4x1408x2048, .f32⟩
  | .hbm, ⟨6, _⟩ => ⟨S4x1408x2048, .bf16⟩
  | .hbm, ⟨7, _⟩ => ⟨S1x5632x2048, .bf16⟩
  | .hbm, ⟨8, _⟩ => ⟨S4096x2048, .bf16⟩
  | .hbm, ⟨9, _⟩ => ⟨S1x4096x2048, .bf16⟩
  | .hbm, ⟨10, _⟩ => ⟨S4096x5632, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDaIdeal.lean ====
abbrev S4096x2048 : Shape := ⟨2, ![4096, 2048]⟩
abbrev S5504x2048 : Shape := ⟨2, ![5504, 2048]⟩
abbrev S_ : Shape := ⟨0, ![]⟩
abbrev S4096x5504 : Shape := ⟨2, ![4096, 5504]⟩
abbrev S4096x4x1376 : Shape := ⟨3, ![4096, 4, 1376]⟩
abbrev S4096x4x1408 : Shape := ⟨3, ![4096, 4, 1408]⟩
abbrev S4096x5632 : Shape := ⟨2, ![4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5504x2048, .f32⟩
  | .hbm, ⟨2, _⟩ => ⟨S_, .f32⟩
  | .hbm, ⟨3, _⟩ => ⟨S4096x5504, .f32⟩
  | .hbm, ⟨4, _⟩ => ⟨S4096x2048, .f32⟩
  | .hbm, ⟨5, _⟩ => ⟨S4096x5504, .f32⟩
  | .hbm, ⟨6, _⟩ => ⟨S4096x4x1376, .f32⟩
  | .hbm, ⟨7, _⟩ => ⟨S_, .i32⟩
  | .hbm, ⟨8, _⟩ => ⟨S_, .f32⟩
  | .hbm, ⟨9, _⟩ => ⟨S4096x4x1408, .f32⟩
  | .hbm, ⟨10, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelDwDown.lean ====
abbrev S4096x5504 : Shape := ⟨2, ![4096, 5504]⟩
abbrev S4096x2048 : Shape := ⟨2, ![4096, 2048]⟩
abbrev S4096x4x1376 : Shape := ⟨3, ![4096, 4, 1376]⟩
abbrev S_ : Shape := ⟨0, ![]⟩
abbrev S4096x4x1408 : Shape := ⟨3, ![4096, 4, 1408]⟩
abbrev S4096x5632 : Shape := ⟨2, ![4096, 5632]⟩
abbrev S1x4096x2048 : Shape := ⟨3, ![1, 4096, 2048]⟩
abbrev S1x5632x2048 : Shape := ⟨3, ![1, 5632, 2048]⟩
abbrev S4096x512 : Shape := ⟨2, ![4096, 512]⟩
abbrev S1x4096x1024 : Shape := ⟨3, ![1, 4096, 1024]⟩
abbrev S1x512x1024 : Shape := ⟨3, ![1, 512, 1024]⟩
abbrev S4096x1024 : Shape := ⟨2, ![4096, 1024]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4096x5504, .f32⟩
  | .hbm, ⟨1, _⟩ => ⟨S4096x2048, .f32⟩
  | .hbm, ⟨2, _⟩ => ⟨S4096x4x1376, .f32⟩
  | .hbm, ⟨3, _⟩ => ⟨S_, .i32⟩
  | .hbm, ⟨4, _⟩ => ⟨S_, .f32⟩
  | .hbm, ⟨5, _⟩ => ⟨S4096x4x1408, .f32⟩
  | .hbm, ⟨6, _⟩ => ⟨S4096x4x1408, .bf16⟩
  | .hbm, ⟨7, _⟩ => ⟨S4096x5632, .bf16⟩
  | .hbm, ⟨8, _⟩ => ⟨S4096x2048, .bf16⟩
  | .hbm, ⟨9, _⟩ => ⟨S1x4096x2048, .bf16⟩
  | .hbm, ⟨10, _⟩ => ⟨S1x5632x2048, .f32⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x1024, .f32⟩
  | .local _ .vmem, ⟨5, _⟩ => ⟨S1x512x1024, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S4096x5504 : Shape := ⟨2, ![4096, 5504]⟩
abbrev S4096x2048 : Shape := ⟨2, ![4096, 2048]⟩
abbrev S_ : Shape := ⟨0, ![]⟩
abbrev S5504x2048 : Shape := ⟨2, ![5504, 2048]⟩
abbrev S2048x5504 : Shape := ⟨2, ![2048, 5504]⟩
abbrev S4x1376x2048 : Shape := ⟨3, ![4, 1376, 2048]⟩
abbrev S4x1408x2048 : Shape := ⟨3, ![4, 1408, 2048]⟩
abbrev S1x5632x2048 : Shape := ⟨3, ![1, 5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S4096x2048, .f32⟩
  | .hbm, ⟨2, _⟩ => ⟨S_, .f32⟩
  | .hbm, ⟨3, _⟩ => ⟨S5504x2048, .f32⟩
  | .hbm, ⟨4, _⟩ => ⟨S4096x2048, .f32⟩
  | .hbm, ⟨5, _⟩ => ⟨S2048x5504, .f32⟩
  | .hbm, ⟨6, _⟩ => ⟨S5504x2048, .f32⟩
  | .hbm, ⟨7, _⟩ => ⟨S4x1376x2048, .f32⟩
  | .hbm, ⟨8, _⟩ => ⟨S_, .i32⟩
  | .hbm, ⟨9, _⟩ => ⟨S_, .f32⟩
  | .hbm, ⟨10, _⟩ => ⟨S4x1408x2048, .f32⟩
  | .hbm, ⟨11, _⟩ => ⟨S1x5632x2048, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KernelDcat.lean ====
abbrev S4096x2048 : Shape := ⟨2, ![4096, 2048]⟩
abbrev S2048x2048 : Shape := ⟨2, ![2048, 2048]⟩
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S1x4096x2048, .bf16⟩
  | .hbm, ⟨4, _⟩ => ⟨S2048x2048, .bf16⟩
  | .hbm, ⟨5, _⟩ => ⟨S1x2048x2048, .bf16⟩
  | .hbm, ⟨6, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDcatIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDwOut.lean ====
abbrev S4096x2048 : Shape := ⟨2, ![4096, 2048]⟩
abbrev S1x4096x2048 : Shape := ⟨3, ![1, 4096, 2048]⟩
abbrev S1x2048x2048 : Shape := ⟨3, ![1, 2048, 2048]⟩
abbrev S4096x512 : Shape := ⟨2, ![4096, 512]⟩
abbrev S1x4096x1024 : Shape := ⟨3, ![1, 4096, 1024]⟩
abbrev S1x512x1024 : Shape := ⟨3, ![1, 512, 1024]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S1x4096x2048, .bf16⟩
  | .hbm, ⟨5, _⟩ => ⟨S1x2048x2048, .f32⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x1024, .f32⟩
  | .local _ .vmem, ⟨5, _⟩ => ⟨S1x512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOutIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDx0.lean ====
abbrev S4096x2560 : Shape := ⟨2, ![4096, 2560]⟩
abbrev S2048x2560 : Shape := ⟨2, ![2048, 2560]⟩
abbrev S4096x2048 : Shape := ⟨2, ![4096, 2048]⟩
abbrev S1x4096x2560 : Shape := ⟨3, ![1, 4096, 2560]⟩
abbrev S2048x4x640 : Shape := ⟨3, ![2048, 4, 640]⟩
abbrev S4x2048x640 : Shape := ⟨3, ![4, 2048, 640]⟩
abbrev S1x1024x2560 : Shape := ⟨3, ![1, 1024, 2560]⟩
abbrev S4x1024x640 : Shape := ⟨3, ![4, 1024, 640]⟩
abbrev S1024x1024 : Shape := ⟨2, ![1024, 1024]⟩
abbrev S1x1024x640 : Shape := ⟨3, ![1, 1024, 640]⟩
abbrev S1024x640 : Shape := ⟨2, ![1024, 640]⟩

abbrev nBuf : Space → Nat
  | .hbm => 9
  | .vmem => 8
  | .smem => 0
  | _ => 0

abbrev bufTy : (tb : Table) → Fin (tcTables nBuf tb) → BufTy
  | .hbm, ⟨0, _⟩ => ⟨S4096x2560, .f32⟩
  | .hbm, ⟨1, _⟩ => ⟨S2048x2560, .f32⟩
  | .hbm, ⟨2, _⟩ => ⟨S4096x2048, .f32⟩
  | .hbm, ⟨3, _⟩ => ⟨S4096x2560, .bf16⟩
  | .hbm, ⟨4, _⟩ => ⟨S1x4096x2560, .bf16⟩
  | .hbm, ⟨5, _⟩ => ⟨S2048x2560, .bf16⟩
  | .hbm, ⟨6, _⟩ => ⟨S2048x4x640, .bf16⟩
  | .hbm, ⟨7, _⟩ => ⟨S4x2048x640, .bf16⟩
  | .hbm, ⟨8, _⟩ => ⟨S4096x2048, .f32⟩
  | .local _ .vmem, ⟨0, _⟩ => ⟨S1x1024x2560, .bf16⟩
  | .local _ .vmem, ⟨1, _⟩ => ⟨S1x1024x2560, .bf16⟩
  | .local _ .vmem, ⟨2, _⟩ => ⟨S4x1024x640, .bf16⟩
  | .local _ .vmem, ⟨3, _⟩ => ⟨S4x1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_20 : BitVec 32 := 0#32
  let v25 : BitVec 1 := Scalar.cmpi .ne v24 c0_i32_20
  v25

def k0_cond2 (i : grid0.Coords) : BitVec 1 :=
  let arg2 : BitVec 32 := BitVec.ofNat 32 (i 2).val
  let c0_i32_21 : BitVec 32 := 0#32
  let v26 : BitVec 1 := Scalar.cmpi .sgt arg2 c0_i32_21
  let v27 : BitVec 32 := Scalar.extui v26
  let c0_i32_22 : BitVec 32 := 0#32
  let v28 : BitVec 1 := Scalar.cmpi .ne v27 c0_i32_22
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDx0Ideal.lean ====
abbrev S4096x2560 : Shape := ⟨2, ![4096, 2560]⟩
abbrev S2048x2560 : Shape := ⟨2, ![2048, 2560]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S2048x2560, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2560, .f32⟩
  | .hbm, ⟨9, _⟩ => ⟨S4096x2048, .f32⟩
  | .hbm, ⟨10, _⟩ => ⟨S4096x2048, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelDwIn.lean ====
abbrev S4096x2048 : Shape := ⟨2, ![4096, 2048]⟩
abbrev S4096x2560 : Shape := ⟨2, ![4096, 2560]⟩
abbrev S1x4096x2560 : Shape := ⟨3, ![1, 4096, 2560]⟩
abbrev S4x2048x640 : Shape := ⟨3, ![4, 2048, 640]⟩
abbrev S4096x1024 : Shape := ⟨2, ![4096, 1024]⟩
abbrev S1x4096x640 : Shape := ⟨3, ![1, 4096, 640]⟩
abbrev S1x1024x640 : Shape := ⟨3, ![1, 1024, 640]⟩
abbrev S4096x640 : Shape := ⟨2, ![4096, 640]⟩
abbrev S1024x640 : Shape := ⟨2, ![1024, 640]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2560, .f32⟩
  | .hbm, ⟨2, _⟩ => ⟨S4096x2048, .bf16⟩
  | .hbm, ⟨3, _⟩ => ⟨S4096x2560, .bf16⟩
  | .hbm, ⟨4, _⟩ => ⟨S1x4096x2560, .bf16⟩
  | .hbm, ⟨5, _⟩ => ⟨S4x2048x640, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x640, .bf16⟩
  | .local _ .vmem, ⟨3, _⟩ => ⟨S1x4096x640, .bf16⟩
  | .local _ .vmem, ⟨4, _⟩ => ⟨S1x1024x640, .f32⟩
  | .local _ .vmem, ⟨5, _⟩ => ⟨S1x1024x640, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S4096x2048 : Shape := ⟨2, ![4096, 2048]⟩
abbrev S4096x2560 : Shape := ⟨2, ![4096, 2560]⟩
abbrev S_ : Shape := ⟨0, ![]⟩
abbrev S2048x2560 : Shape := ⟨2, ![2048, 2560]⟩
abbrev S2560x2048 : Shape := ⟨2, ![2560, 2048]⟩
abbrev S2048x4x640 : Shape := ⟨3, ![2048, 4, 640]⟩
abbrev S4x2048x640 : Shape := ⟨3, ![4, 2048, 640]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2560, .f32⟩
  | .hbm, ⟨2, _⟩ => ⟨S_, .f32⟩
  | .hbm, ⟨3, _⟩ => ⟨S2048x2560, .f32⟩
  | .hbm, ⟨4, _⟩ => ⟨S4096x2560, .f32⟩
  | .hbm, ⟨5, _⟩ => ⟨S2560x2048, .f32⟩
  | .hbm, ⟨6, _⟩ => ⟨S2048x2560, .f32⟩
  | .hbm, ⟨7, _⟩ => ⟨S2048x4x640, .f32⟩
  | .hbm, ⟨8, _⟩ => ⟨S4x2048x640, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMmIn.lean ====
abbrev S4096x2048 : Shape := ⟨2, ![4096, 2048]⟩
abbrev S2048x2560 : Shape := ⟨2, ![2048, 2560]⟩
abbrev S2048x4x640 : Shape := ⟨3, ![2048, 4, 640]⟩
abbrev S4x2048x640 : Shape := ⟨3, ![4, 2048, 640]⟩
abbrev S1x4096x2560 : Shape := ⟨3, ![1, 4096, 2560]⟩
abbrev S1024x2048 : Shape := ⟨2, ![1024, 2048]⟩
abbrev S1x2048x640 : Shape := ⟨3, ![1, 2048, 640]⟩
abbrev S1x1024x640 : Shape := ⟨3, ![1, 1024, 640]⟩
abbrev S2048x640 : Shape := ⟨2, ![2048, 640]⟩
abbrev S1024x640 : Shape := ⟨2, ![1024, 640]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2560, .f32⟩
  | .hbm, ⟨2, _⟩ => ⟨S4096x2048, .bf16⟩
  | .hbm, ⟨3, _⟩ => ⟨S2048x2560, .bf16⟩
  | .hbm, ⟨4, _⟩ => ⟨S2048x4x640, .bf16⟩
  | .hbm, ⟨5, _⟩ => ⟨S4x2048x640, .bf16⟩
  | .hbm, ⟨6, _⟩ => ⟨S1x4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1x1024x640, .f32⟩
  | .local _ .vmem, ⟨5, _⟩ => ⟨S1x1024x640, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmInIdeal.lean ====
abbrev S4096x2048 : Shape := ⟨2, ![4096, 2048]⟩
abbrev S2048x2560 : Shape := ⟨2, ![2048, 2560]⟩
abbrev S4096x2560 : Shape := ⟨2, ![4096, 2560]⟩
abbrev S1x4096x2560 : Shape := ⟨3, ![1, 4096, 2560]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2560, .f32⟩
  | .hbm, ⟨2, _⟩ => ⟨S4096x2560, .f32⟩
  | .hbm, ⟨3, _⟩ => ⟨S1x4096x2560, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMmOut.lean ====
abbrev S4096x2048 : Shape := ⟨2, ![4096, 2048]⟩
abbrev S2048x2048 : Shape := ⟨2, ![2048, 2048]⟩
abbrev S1x2048x2048 : Shape := ⟨3, ![1, 2048, 2048]⟩
abbrev S1x4096x2048 : Shape := ⟨3, ![1, 4096, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S1x2048x2048, .bf16⟩
  | .hbm, ⟨5, _⟩ => ⟨S1x4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmOutIdeal.lean ====
abbrev S4096x2048 : Shape := ⟨2, ![4096, 2048]⟩
abbrev S2048x2048 : Shape := ⟨2, ![2048, 2048]⟩
abbrev S1x4096x2048 : Shape := ⟨3, ![1, 4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMmUp.lean ====
abbrev S4096x2048 : Shape := ⟨2, ![4096, 2048]⟩
abbrev S2048x11008 : Shape := ⟨2, ![2048, 11008]⟩
abbrev S2048x8x1376 : Shape := ⟨3, ![2048, 8, 1376]⟩
abbrev S_ : Shape := ⟨0, ![]⟩
abbrev S2048x8x1408 : Shape := ⟨3, ![2048, 8, 1408]⟩
abbrev S2048x4x2816 : Shape := ⟨3, ![2048, 4, 2816]⟩
abbrev S4x2048x2816 : Shape := ⟨3, ![4, 2048, 2816]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S2048x8x1376, .f32⟩
  | .hbm, ⟨3, _⟩ => ⟨S_, .i32⟩
  | .hbm, ⟨4, _⟩ => ⟨S_, .f32⟩
  | .hbm, ⟨5, _⟩ => ⟨S2048x8x1408, .f32⟩
  | .hbm, ⟨6, _⟩ => ⟨S2048x8x1408, .bf16⟩
  | .hbm, ⟨7, _⟩ => ⟨S2048x4x2816, .bf16⟩
  | .hbm, ⟨8, _⟩ => ⟨S4x2048x2816, .bf16⟩
  | .hbm, ⟨9, _⟩ => ⟨S4096x2048, .bf16⟩
  | .hbm, ⟨10, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmUpIdeal.lean ====
abbrev S4096x2048 : Shape := ⟨2, ![4096, 2048]⟩
abbrev S2048x11008 : Shape := ⟨2, ![2048, 11008]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x2x5632 : Shape := ⟨3, ![4096, 2, 5632]⟩
abbrev S2x4096x5632 : Shape := ⟨3, ![2, 4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x8x1376, .f32⟩
  | .hbm, ⟨4, _⟩ => ⟨S_, .i32⟩
  | .hbm, ⟨5, _⟩ => ⟨S_, .f32⟩
  | .hbm, ⟨6, _⟩ => ⟨S4096x8x1408, .f32⟩
  | .hbm, ⟨7, _⟩ => ⟨S4096x2x5632, .f32⟩
  | .hbm, ⟨8, _⟩ => ⟨S2x4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelMmDown.lean ====
abbrev S4096x5504 : Shape := ⟨2, ![4096, 5504]⟩
abbrev S5504x2048 : Shape := ⟨2, ![5504, 2048]⟩
abbrev S4096x4x1376 : Shape := ⟨3, ![4096, 4, 1376]⟩
abbrev S_ : Shape := ⟨0, ![]⟩
abbrev S4096x4x1408 : Shape := ⟨3, ![4096, 4, 1408]⟩
abbrev S4096x5632 : Shape := ⟨2, ![4096, 5632]⟩
abbrev S4x1376x2048 : Shape := ⟨3, ![4, 1376, 2048]⟩
abbrev S4x1408x2048 : Shape := ⟨3, ![4, 1408, 2048]⟩
abbrev S1x5632x2048 : Shape := ⟨3, ![1, 5632, 2048]⟩
abbrev S1x4096x2048 : Shape := ⟨3, ![1, 4096, 2048]⟩
abbrev S512x5632 : Shape := ⟨2, ![512, 5632]⟩
abbrev S1x5632x1024 : Shape := ⟨3, ![1, 5632, 1024]⟩
abbrev S1x512x1024 : Shape := ⟨3, ![1, 512, 1024]⟩
abbrev S5632x1024 : Shape := ⟨2, ![5632, 1024]⟩
abbrev S512x1024 : Shape := ⟨2, ![512, 1024]⟩

abbrev nBuf : Space → Nat
  | .hbm => 15
  | .vmem => 6
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x4x1376, .f32⟩
  | .hbm, ⟨3, _⟩ => ⟨S_, .i32⟩
  | .hbm, ⟨4, _⟩ => ⟨S_, .f32⟩
  | .hbm, ⟨5, _⟩ => ⟨S4096x4x1408, .f32⟩
  | .hbm, ⟨6, _⟩ => ⟨S4096x4x1408, .bf16⟩
  | .hbm, ⟨7, _⟩ => ⟨S4096x5632, .bf16⟩
  | .hbm, ⟨8, _⟩ => ⟨S4x1376x2048, .f32⟩
  | .hbm, ⟨9, _⟩ => ⟨S_, .i32⟩
  | .hbm, ⟨10, _⟩ => ⟨S_, .f32⟩
  | .hbm, ⟨11, _⟩ => ⟨S4x1408x2048, .f32⟩
  | .hbm, ⟨12, _⟩ => ⟨S4x1408x2048, .bf16⟩
  | .hbm, ⟨13, _⟩ => ⟨S1x5632x2048, .bf16⟩
  | .hbm, ⟨14, _⟩ => ⟨S1x4096x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S1x512x1024, .f32⟩
  | .local _ .vmem, ⟨5, _⟩ => ⟨S1x512x1024, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmDownIdeal.lean ====
abbrev S4096x5504 : Shape := ⟨2, ![4096, 5504]⟩
abbrev S5504x2048 : Shape := ⟨2, ![5504, 2048]⟩
abbrev S4096x2048 : Shape := ⟨2, ![4096, 2048]⟩
abbrev S1x4096x2048 : Shape := ⟨3, ![1, 4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S1x4096x2048, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelLnFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceLnFwdIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelLnBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLnBwdIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x2048, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x2048, .f32⟩
  | .hbm, ⟨85, _⟩ => ⟨S4096x2048, .f32⟩
  | .hbm, ⟨86, _⟩ => ⟨S4096x2048, .bf16⟩
  | .hbm, ⟨87, _⟩ => ⟨S1x2048, .f32⟩
  | .hbm, ⟨88, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== KernelLossHead.lean ====
abbrev S4096x2048 : Shape := ⟨2, ![4096, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossHeadIdeal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== KernelSumDevices.lean ====
abbrev S8x1672x128 : Shape := ⟨3, ![8, 1672, 128]⟩
abbrev S1672x128 : Shape := ⟨2, ![1672, 128]⟩
abbrev S1x1672x128 : Shape := ⟨3, ![1, 1672, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1672x128, .f32⟩
  | .hbm, ⟨1, _⟩ => ⟨S1672x128, .f32⟩
  | .local _ .vmem, ⟨0, _⟩ => ⟨S8x1672x128, .f32⟩
  | .local _ .vmem, ⟨1, _⟩ => ⟨S1672x128, .f32⟩
  | _, _ => ⟨S8x1672x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1672x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1672x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSumDevicesIdeal.lean ====
abbrev S8x1672x128 : Shape := ⟨3, ![8, 1672, 128]⟩
abbrev S_ : Shape := ⟨0, ![]⟩
abbrev S1672x128 : Shape := ⟨2, ![1672, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1672x128, .f32⟩
  | .hbm, ⟨1, _⟩ => ⟨S_, .f32⟩
  | .hbm, ⟨2, _⟩ => ⟨S1672x128, .f32⟩
  | _, _ => ⟨S8x1672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAdamwDown.lean ====
abbrev S4x1376x2048 : Shape := ⟨3, ![4, 1376, 2048]⟩
abbrev S1x1376x2048 : Shape := ⟨3, ![1, 1376, 2048]⟩
abbrev S1x344x2048 : Shape := ⟨3, ![1, 344, 2048]⟩
abbrev S344x2048 : Shape := ⟨2, ![344, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4x1376x2048, .f32⟩
  | .hbm, ⟨1, _⟩ => ⟨S1x1376x2048, .f32⟩
  | .hbm, ⟨2, _⟩ => ⟨S4x1376x2048, .f32⟩
  | .hbm, ⟨3, _⟩ => ⟨S4x1376x2048, .f32⟩
  | .hbm, ⟨4, _⟩ => ⟨S4x1376x2048, .f32⟩
  | .hbm, ⟨5, _⟩ => ⟨S4x1376x2048, .f32⟩
  | .hbm, ⟨6, _⟩ => ⟨S4x1376x2048, .f32⟩
  | .hbm, ⟨7, _⟩ => ⟨S4x1376x2048, .f32⟩
  | .hbm, ⟨8, _⟩ => ⟨S4x1376x2048, .f32⟩
  | .hbm, ⟨9, _⟩ => ⟨S4x1376x2048, .f32⟩
  | .local _ .vmem, ⟨0, _⟩ => ⟨S1x344x2048, .f32⟩
  | .local _ .vmem, ⟨1, _⟩ => ⟨S1x344x2048, .f32⟩
  | .local _ .vmem, ⟨2, _⟩ => ⟨S1x344x2048, .f32⟩
  | .local _ .vmem, ⟨3, _⟩ => ⟨S1x344x2048, .f32⟩
  | .local _ .vmem, ⟨4, _⟩ => ⟨S1x344x2048, .f32⟩
  | .local _ .vmem, ⟨5, _⟩ => ⟨S1x344x2048, .f32⟩
  | .local _ .vmem, ⟨6, _⟩ => ⟨S1x344x2048, .f32⟩
  | .local _ .vmem, ⟨7, _⟩ => ⟨S1x344x2048, .f32⟩
  | .local _ .vmem, ⟨8, _⟩ => ⟨S1x344x2048, .f32⟩
  | .local _ .vmem, ⟨9, _⟩ => ⟨S1x344x2048, .f32⟩
  | .local _ .vmem, ⟨10, _⟩ => ⟨S1x344x2048, .f32⟩
  | .local _ .vmem, ⟨11, _⟩ => ⟨S1x344x2048, .f32⟩
  | .local _ .vmem, ⟨12, _⟩ => ⟨S1x344x2048, .f32⟩
  | .local _ .vmem, ⟨13, _⟩ => ⟨S1x344x2048, .f32⟩
  | _, _ => ⟨S4x1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x344x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x344x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamwDownIdeal.lean ====
abbrev S4x1376x2048 : Shape := ⟨3, ![4, 1376, 2048]⟩
abbrev S1x1376x2048 : Shape := ⟨3, ![1, 1376, 2048]⟩
abbrev S_ : Shape := ⟨0, ![]⟩
abbrev S3x1376x2048 : Shape := ⟨3, ![3, 1376, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x1376x2048, .f32⟩
  | .hbm, ⟨1, _⟩ => ⟨S1x1376x2048, .f32⟩
  | .hbm, ⟨2, _⟩ => ⟨S4x1376x2048, .f32⟩
  | .hbm, ⟨3, _⟩ => ⟨S4x1376x2048, .f32⟩
  | .hbm, ⟨4, _⟩ => ⟨S4x1376x2048, .f32⟩
  | .hbm, ⟨5, _⟩ => ⟨S4x1376x2048, .f32⟩
  | .hbm, ⟨6, _⟩ => ⟨S4x1376x2048, .f32⟩
  | .hbm, ⟨7, _⟩ => ⟨S1x1376x2048, .f32⟩
  | .hbm, ⟨8, _⟩ => ⟨S1x1376x2048, .f32⟩
  | .hbm, ⟨9, _⟩ => ⟨S1x1376x2048, .f32⟩
  | .hbm, ⟨10, _⟩ => ⟨S_, .f32⟩
  | .hbm, ⟨11, _⟩ => ⟨S1x1376x2048, .f32⟩
  | .hbm, ⟨12, _⟩ => ⟨S1x1376x2048, .f32⟩
  | .hbm, ⟨13, _⟩ => ⟨S_, .f32⟩
  | .hbm, ⟨14, _⟩ => ⟨S1x1376x2048, .f32⟩
  | .hbm, ⟨15, _⟩ => ⟨S1x1376x2048, .f32⟩
  | .hbm, ⟨16, _⟩ => ⟨S1x1376x2048, .f32⟩
  | .hbm, ⟨17, _⟩ => ⟨S_, .f32⟩
  | .hbm, ⟨18, _⟩ => ⟨S1x1376x2048, .f32⟩
  | .hbm, ⟨19, _⟩ => ⟨S1x1376x2048, .f32⟩
  | .hbm, ⟨20, _⟩ => ⟨S1x1376x2048, .f32⟩
  | .hbm, ⟨21, _⟩ => ⟨S_, .f32⟩
  | .hbm, ⟨22, _⟩ => ⟨S1x1376x2048, .f32⟩
  | .hbm, ⟨23, _⟩ => ⟨S1x1376x2048, .f32⟩
  | .hbm, ⟨24, _⟩ => ⟨S1x1376x2048, .f32⟩
  | .hbm, ⟨25, _⟩ => ⟨S_, .f32⟩
  | .hbm, ⟨26, _⟩ => ⟨S1x1376x2048, .f32⟩
  | .hbm, ⟨27, _⟩ => ⟨S1x1376x2048, .f32⟩
  | .hbm, ⟨28, _⟩ => ⟨S_, .f32⟩
  | .hbm, ⟨29, _⟩ => ⟨S1x1376x2048, .f32⟩
  | .hbm, ⟨30, _⟩ => ⟨S1x1376x2048, .f32⟩
  | .hbm, ⟨31, _⟩ => ⟨S1x1376x2048, .f32⟩
  | .hbm, ⟨32, _⟩ => ⟨S_, .f32⟩
  | .hbm, ⟨33, _⟩ => ⟨S1x1376x2048, .f32⟩
  | .hbm, ⟨34, _⟩ => ⟨S1x1376x2048, .f32⟩
  | .hbm, ⟨35, _⟩ => ⟨S1x1376x2048, .f32⟩
  | .hbm, ⟨36, _⟩ => ⟨S_, .f32⟩
  | .hbm, ⟨37, _⟩ => ⟨S1x1376x2048, .f32⟩
  | .hbm, ⟨38, _⟩ => ⟨S1x1376x2048, .f32⟩
  | .hbm, ⟨39, _⟩ => ⟨S1x1376x2048, .f32⟩
  | .hbm, ⟨40, _⟩ => ⟨S_, .f32⟩
  | .hbm, ⟨41, _⟩ => ⟨S1x1376x2048, .f32⟩
  | .hbm, ⟨42, _⟩ => ⟨S1x1376x2048, .f32⟩
  | .hbm, ⟨43, _⟩ => ⟨S3x1376x2048, .f32⟩
  | .hbm, ⟨44, _⟩ => ⟨S4x1376x2048, .f32⟩
  | .hbm, ⟨45, _⟩ => ⟨S3x1376x2048, .f32⟩
  | .hbm, ⟨46, _⟩ => ⟨S4x1376x2048, .f32⟩
  | .hbm, ⟨47, _⟩ => ⟨S3x1376x2048, .f32⟩
  | .hbm, ⟨48, _⟩ => ⟨S4x1376x2048, .f32⟩
  | _, _ => ⟨S4x1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== KernelAdamwDownLate.lean ====
abbrev S4x1376x2048 : Shape := ⟨3, ![4, 1376, 2048]⟩
abbrev S3x1376x2048 : Shape := ⟨3, ![3, 1376, 2048]⟩
abbrev S1x344x2048 : Shape := ⟨3, ![1, 344, 2048]⟩
abbrev S344x2048 : Shape := ⟨2, ![344, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4x1376x2048, .f32⟩
  | .hbm, ⟨1, _⟩ => ⟨S3x1376x2048, .f32⟩
  | .hbm, ⟨2, _⟩ => ⟨S4x1376x2048, .f32⟩
  | .hbm, ⟨3, _⟩ => ⟨S4x1376x2048, .f32⟩
  | .hbm, ⟨4, _⟩ => ⟨S4x1376x2048, .f32⟩
  | .hbm, ⟨5, _⟩ => ⟨S4x1376x2048, .f32⟩
  | .hbm, ⟨6, _⟩ => ⟨S4x1376x2048, .f32⟩
  | .hbm, ⟨7, _⟩ => ⟨S3x1376x2048, .f32⟩
  | .hbm, ⟨8, _⟩ => ⟨S3x1376x2048, .f32⟩
  | .hbm, ⟨9, _⟩ => ⟨S3x1376x2048, .f32⟩
  | .local _ .vmem, ⟨0, _⟩ => ⟨S1x344x2048, .f32⟩
  | .local _ .vmem, ⟨1, _⟩ => ⟨S1x344x2048, .f32⟩
  | .local _ .vmem, ⟨2, _⟩ => ⟨S1x344x2048, .f32⟩
  | .local _ .vmem, ⟨3, _⟩ => ⟨S1x344x2048, .f32⟩
  | .local _ .vmem, ⟨4, _⟩ => ⟨S1x344x2048, .f32⟩
  | .local _ .vmem, ⟨5, _⟩ => ⟨S1x344x2048, .f32⟩
  | .local _ .vmem, ⟨6, _⟩ => ⟨S1x344x2048, .f32⟩
  | .local _ .vmem, ⟨7, _⟩ => ⟨S1x344x2048, .f32⟩
  | .local _ .vmem, ⟨8, _⟩ => ⟨S1x344x2048, .f32⟩
  | .local _ .vmem, ⟨9, _⟩ => ⟨S1x344x2048, .f32⟩
  | .local _ .vmem, ⟨10, _⟩ => ⟨S1x344x2048, .f32⟩
  | .local _ .vmem, ⟨11, _⟩ => ⟨S1x344x2048, .f32⟩
  | .local _ .vmem, ⟨12, _⟩ => ⟨S1x344x2048, .f32⟩
  | .local _ .vmem, ⟨13, _⟩ => ⟨S1x344x2048, .f32⟩
  | _, _ => ⟨S4x1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x344x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x344x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamwDownLateIdeal.lean ====
abbrev S4x1376x2048 : Shape := ⟨3, ![4, 1376, 2048]⟩
abbrev S3x1376x2048 : Shape := ⟨3, ![3, 1376, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1376x2048, .f32⟩
  | .hbm, ⟨1, _⟩ => ⟨S3x1376x2048, .f32⟩
  | .hbm, ⟨2, _⟩ => ⟨S4x1376x2048, .f32⟩
  | .hbm, ⟨3, _⟩ => ⟨S4x1376x2048, .f32⟩
  | .hbm, ⟨4, _⟩ => ⟨S3x1376x2048, .f32⟩
  | .hbm, ⟨5, _⟩ => ⟨S3x1376x2048, .f32⟩
  | .hbm, ⟨6, _⟩ => ⟨S3x1376x2048, .f32⟩
  | .hbm, ⟨7, _⟩ => ⟨S_, .f32⟩
  | .hbm, ⟨8, _⟩ => ⟨S3x1376x2048, .f32⟩
  | .hbm, ⟨9, _⟩ => ⟨S3x1376x2048, .f32⟩
  | .hbm, ⟨10, _⟩ => ⟨S_, .f32⟩
  | .hbm, ⟨11, _⟩ => ⟨S3x1376x2048, .f32⟩
  | .hbm, ⟨12, _⟩ => ⟨S3x1376x2048, .f32⟩
  | .hbm, ⟨13, _⟩ => ⟨S3x1376x2048, .f32⟩
  | .hbm, ⟨14, _⟩ => ⟨S_, .f32⟩
  | .hbm, ⟨15, _⟩ => ⟨S3x1376x2048, .f32⟩
  | .hbm, ⟨16, _⟩ => ⟨S3x1376x2048, .f32⟩
  | .hbm, ⟨17, _⟩ => ⟨S3x1376x2048, .f32⟩
  | .hbm, ⟨18, _⟩ => ⟨S_, .f32⟩
  | .hbm, ⟨19, _⟩ => ⟨S3x1376x2048, .f32⟩
  | .hbm, ⟨20, _⟩ => ⟨S3x1376x2048, .f32⟩
  | .hbm, ⟨21, _⟩ => ⟨S3x1376x2048, .f32⟩
  | .hbm, ⟨22, _⟩ => ⟨S_, .f32⟩
  | .hbm, ⟨23, _⟩ => ⟨S3x1376x2048, .f32⟩
  | .hbm, ⟨24, _⟩ => ⟨S3x1376x2048, .f32⟩
  | .hbm, ⟨25, _⟩ => ⟨S_, .f32⟩
  | .hbm, ⟨26, _⟩ => ⟨S3x1376x2048, .f32⟩
  | .hbm, ⟨27, _⟩ => ⟨S3x1376x2048, .f32⟩
  | .hbm, ⟨28, _⟩ => ⟨S3x1376x2048, .f32⟩
  | .hbm, ⟨29, _⟩ => ⟨S_, .f32⟩
  | .hbm, ⟨30, _⟩ => ⟨S3x1376x2048, .f32⟩
  | .hbm, ⟨31, _⟩ => ⟨S3x1376x2048, .f32⟩
  | .hbm, ⟨32, _⟩ => ⟨S3x1376x2048, .f32⟩
  | .hbm, ⟨33, _⟩ => ⟨S_, .f32⟩
  | .hbm, ⟨34, _⟩ => ⟨S3x1376x2048, .f32⟩
  | .hbm, ⟨35, _⟩ => ⟨S3x1376x2048, .f32⟩
  | .hbm, ⟨36, _⟩ => ⟨S3x1376x2048, .f32⟩
  | .hbm, ⟨37, _⟩ => ⟨S_, .f32⟩
  | .hbm, ⟨38, _⟩ => ⟨S3x1376x2048, .f32⟩
  | .hbm, ⟨39, _⟩ => ⟨S3x1376x2048, .f32⟩
  | _, _ => ⟨S4x1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamwUp.lean ====
abbrev S4x2752x2048 : Shape := ⟨3, ![4, 2752, 2048]⟩
abbrev S1x2752x2048 : Shape := ⟨3, ![1, 2752, 2048]⟩
abbrev S1x344x2048 : Shape := ⟨3, ![1, 344, 2048]⟩
abbrev S344x2048 : Shape := ⟨2, ![344, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4x2752x2048, .f32⟩
  | .hbm, ⟨1, _⟩ => ⟨S1x2752x2048, .f32⟩
  | .hbm, ⟨2, _⟩ => ⟨S4x2752x2048, .f32⟩
  | .hbm, ⟨3, _⟩ => ⟨S4x2752x2048, .f32⟩
  | .hbm, ⟨4, _⟩ => ⟨S4x2752x2048, .f32⟩
  | .hbm, ⟨5, _⟩ => ⟨S4x2752x2048, .f32⟩
  | .hbm, ⟨6, _⟩ => ⟨S4x2752x2048, .f32⟩
  | .hbm, ⟨7, _⟩ => ⟨S4x2752x2048, .f32⟩
  | .hbm, ⟨8, _⟩ => ⟨S4x2752x2048, .f32⟩
  | .hbm, ⟨9, _⟩ => ⟨S4x2752x2048, .f32⟩
  | .local _ .vmem, ⟨0, _⟩ => ⟨S1x344x2048, .f32⟩
  | .local _ .vmem, ⟨1, _⟩ => ⟨S1x344x2048, .f32⟩
  | .local _ .vmem, ⟨2, _⟩ => ⟨S1x344x2048, .f32⟩
  | .local _ .vmem, ⟨3, _⟩ => ⟨S1x344x2048, .f32⟩
  | .local _ .vmem, ⟨4, _⟩ => ⟨S1x344x2048, .f32⟩
  | .local _ .vmem, ⟨5, _⟩ => ⟨S1x344x2048, .f32⟩
  | .local _ .vmem, ⟨6, _⟩ => ⟨S1x344x2048, .f32⟩
  | .local _ .vmem, ⟨7, _⟩ => ⟨S1x344x2048, .f32⟩
  | .local _ .vmem, ⟨8, _⟩ => ⟨S1x344x2048, .f32⟩
  | .local _ .vmem, ⟨9, _⟩ => ⟨S1x344x2048, .f32⟩
  | .local _ .vmem, ⟨10, _⟩ => ⟨S1x344x2048, .f32⟩
  | .local _ .vmem, ⟨11, _⟩ => ⟨S1x344x2048, .f32⟩
  | .local _ .vmem, ⟨12, _⟩ => ⟨S1x344x2048, .f32⟩
  | .local _ .vmem, ⟨13, _⟩ => ⟨S1x344x2048, .f32⟩
  | _, _ => ⟨S4x2752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x344x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x344x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamwUpIdeal.lean ====
abbrev S4x2752x2048 : Shape := ⟨3, ![4, 2752, 2048]⟩
abbrev S1x2752x2048 : Shape := ⟨3, ![1, 2752, 2048]⟩
abbrev S_ : Shape := ⟨0, ![]⟩
abbrev S3x2752x2048 : Shape := ⟨3, ![3, 2752, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2752x2048, .f32⟩
  | .hbm, ⟨1, _⟩ => ⟨S1x2752x2048, .f32⟩
  | .hbm, ⟨2, _⟩ => ⟨S4x2752x2048, .f32⟩
  | .hbm, ⟨3, _⟩ => ⟨S4x2752x2048, .f32⟩
  | .hbm, ⟨4, _⟩ => ⟨S4x2752x2048, .f32⟩
  | .hbm, ⟨5, _⟩ => ⟨S4x2752x2048, .f32⟩
  | .hbm, ⟨6, _⟩ => ⟨S4x2752x2048, .f32⟩
  | .hbm, ⟨7, _⟩ => ⟨S1x2752x2048, .f32⟩
  | .hbm, ⟨8, _⟩ => ⟨S1x2752x2048, .f32⟩
  | .hbm, ⟨9, _⟩ => ⟨S1x2752x2048, .f32⟩
  | .hbm, ⟨10, _⟩ => ⟨S_, .f32⟩
  | .hbm, ⟨11, _⟩ => ⟨S1x2752x2048, .f32⟩
  | .hbm, ⟨12, _⟩ => ⟨S1x2752x2048, .f32⟩
  | .hbm, ⟨13, _⟩ => ⟨S_, .f32⟩
  | .hbm, ⟨14, _⟩ => ⟨S1x2752x2048, .f32⟩
  | .hbm, ⟨15, _⟩ => ⟨S1x2752x2048, .f32⟩
  | .hbm, ⟨16, _⟩ => ⟨S1x2752x2048, .f32⟩
  | .hbm, ⟨17, _⟩ => ⟨S_, .f32⟩
  | .hbm, ⟨18, _⟩ => ⟨S1x2752x2048, .f32⟩
  | .hbm, ⟨19, _⟩ => ⟨S1x2752x2048, .f32⟩
  | .hbm, ⟨20, _⟩ => ⟨S1x2752x2048, .f32⟩
  | .hbm, ⟨21, _⟩ => ⟨S_, .f32⟩
  | .hbm, ⟨22, _⟩ => ⟨S1x2752x2048, .f32⟩
  | .hbm, ⟨23, _⟩ => ⟨S1x2752x2048, .f32⟩
  | .hbm, ⟨24, _⟩ => ⟨S1x2752x2048, .f32⟩
  | .hbm, ⟨25, _⟩ => ⟨S_, .f32⟩
  | .hbm, ⟨26, _⟩ => ⟨S1x2752x2048, .f32⟩
  | .hbm, ⟨27, _⟩ => ⟨S1x2752x2048, .f32⟩
  | .hbm, ⟨28, _⟩ => ⟨S_, .f32⟩
  | .hbm, ⟨29, _⟩ => ⟨S1x2752x2048, .f32⟩
  | .hbm, ⟨30, _⟩ => ⟨S1x2752x2048, .f32⟩
  | .hbm, ⟨31, _⟩ => ⟨S1x2752x2048, .f32⟩
  | .hbm, ⟨32, _⟩ => ⟨S_, .f32⟩
  | .hbm, ⟨33, _⟩ => ⟨S1x2752x2048, .f32⟩
  | .hbm, ⟨34, _⟩ => ⟨S1x2752x2048, .f32⟩
  | .hbm, ⟨35, _⟩ => ⟨S1x2752x2048, .f32⟩
  | .hbm, ⟨36, _⟩ => ⟨S_, .f32⟩
  | .hbm, ⟨37, _⟩ => ⟨S1x2752x2048, .f32⟩
  | .hbm, ⟨38, _⟩ => ⟨S1x2752x2048, .f32⟩
  | .hbm, ⟨39, _⟩ => ⟨S1x2752x2048, .f32⟩
  | .hbm, ⟨40, _⟩ => ⟨S_, .f32⟩
  | .hbm, ⟨41, _⟩ => ⟨S1x2752x2048, .f32⟩
  | .hbm, ⟨42, _⟩ => ⟨S1x2752x2048, .f32⟩
  | .hbm, ⟨43, _⟩ => ⟨S3x2752x2048, .f32⟩
  | .hbm, ⟨44, _⟩ => ⟨S4x2752x2048, .f32⟩
  | .hbm, ⟨45, _⟩ => ⟨S3x2752x2048, .f32⟩
  | .hbm, ⟨46, _⟩ => ⟨S4x2752x2048, .f32⟩
  | .hbm, ⟨47, _⟩ => ⟨S3x2752x2048, .f32⟩
  | .hbm, ⟨48, _⟩ => ⟨S4x2752x2048, .f32⟩
  | _, _ => ⟨S4x2752x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== KernelAdamwUpLate.lean ====
abbrev S4x2752x2048 : Shape := ⟨3, ![4, 2752, 2048]⟩
abbrev S3x2752x2048 : Shape := ⟨3, ![3, 2752, 2048]⟩
abbrev S1x344x2048 : Shape := ⟨3, ![1, 344, 2048]⟩
abbrev S344x2048 : Shape := ⟨2, ![344, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4x2752x2048, .f32⟩
  | .hbm, ⟨1, _⟩ => ⟨S3x2752x2048, .f32⟩
  | .hbm, ⟨2, _⟩ => ⟨S4x2752x2048, .f32⟩
  | .hbm, ⟨3, _⟩ => ⟨S4x2752x2048, .f32⟩
  | .hbm, ⟨4, _⟩ => ⟨S4x2752x2048, .f32⟩
  | .hbm, ⟨5, _⟩ => ⟨S4x2752x2048, .f32⟩
  | .hbm, ⟨6, _⟩ => ⟨S4x2752x2048, .f32⟩
  | .hbm, ⟨7, _⟩ => ⟨S3x2752x2048, .f32⟩
  | .hbm, ⟨8, _⟩ => ⟨S3x2752x2048, .f32⟩
  | .hbm, ⟨9, _⟩ => ⟨S3x2752x2048, .f32⟩
  | .local _ .vmem, ⟨0, _⟩ => ⟨S1x344x2048, .f32⟩
  | .local _ .vmem, ⟨1, _⟩ => ⟨S1x344x2048, .f32⟩
  | .local _ .vmem, ⟨2, _⟩ => ⟨S1x344x2048, .f32⟩
  | .local _ .vmem, ⟨3, _⟩ => ⟨S1x344x2048, .f32⟩
  | .local _ .vmem, ⟨4, _⟩ => ⟨S1x344x2048, .f32⟩
  | .local _ .vmem, ⟨5, _⟩ => ⟨S1x344x2048, .f32⟩
  | .local _ .vmem, ⟨6, _⟩ => ⟨S1x344x2048, .f32⟩
  | .local _ .vmem, ⟨7, _⟩ => ⟨S1x344x2048, .f32⟩
  | .local _ .vmem, ⟨8, _⟩ => ⟨S1x344x2048, .f32⟩
  | .local _ .vmem, ⟨9, _⟩ => ⟨S1x344x2048, .f32⟩
  | .local _ .vmem, ⟨10, _⟩ => ⟨S1x344x2048, .f32⟩
  | .local _ .vmem, ⟨11, _⟩ => ⟨S1x344x2048, .f32⟩
  | .local _ .vmem, ⟨12, _⟩ => ⟨S1x344x2048, .f32⟩
  | .local _ .vmem, ⟨13, _⟩ => ⟨S1x344x2048, .f32⟩
  | _, _ => ⟨S4x2752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x344x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x344x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamwUpLateIdeal.lean ====
abbrev S4x2752x2048 : Shape := ⟨3, ![4, 2752, 2048]⟩
abbrev S3x2752x2048 : Shape := ⟨3, ![3, 2752, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2752x2048, .f32⟩
  | .hbm, ⟨1, _⟩ => ⟨S3x2752x2048, .f32⟩
  | .hbm, ⟨2, _⟩ => ⟨S4x2752x2048, .f32⟩
  | .hbm, ⟨3, _⟩ => ⟨S4x2752x2048, .f32⟩
  | .hbm, ⟨4, _⟩ => ⟨S3x2752x2048, .f32⟩
  | .hbm, ⟨5, _⟩ => ⟨S3x2752x2048, .f32⟩
  | .hbm, ⟨6, _⟩ => ⟨S3x2752x2048, .f32⟩
  | .hbm, ⟨7, _⟩ => ⟨S_, .f32⟩
  | .hbm, ⟨8, _⟩ => ⟨S3x2752x2048, .f32⟩
  | .hbm, ⟨9, _⟩ => ⟨S3x2752x2048, .f32⟩
  | .hbm, ⟨10, _⟩ => ⟨S_, .f32⟩
  | .hbm, ⟨11, _⟩ => ⟨S3x2752x2048, .f32⟩
  | .hbm, ⟨12, _⟩ => ⟨S3x2752x2048, .f32⟩
  | .hbm, ⟨13, _⟩ => ⟨S3x2752x2048, .f32⟩
  | .hbm, ⟨14, _⟩ => ⟨S_, .f32⟩
  | .hbm, ⟨15, _⟩ => ⟨S3x2752x2048, .f32⟩
  | .hbm, ⟨16, _⟩ => ⟨S3x2752x2048, .f32⟩
  | .hbm, ⟨17, _⟩ => ⟨S3x2752x2048, .f32⟩
  | .hbm, ⟨18, _⟩ => ⟨S_, .f32⟩
  | .hbm, ⟨19, _⟩ => ⟨S3x2752x2048, .f32⟩
  | .hbm, ⟨20, _⟩ => ⟨S3x2752x2048, .f32⟩
  | .hbm, ⟨21, _⟩ => ⟨S3x2752x2048, .f32⟩
  | .hbm, ⟨22, _⟩ => ⟨S_, .f32⟩
  | .hbm, ⟨23, _⟩ => ⟨S3x2752x2048, .f32⟩
  | .hbm, ⟨24, _⟩ => ⟨S3x2752x2048, .f32⟩
  | .hbm, ⟨25, _⟩ => ⟨S_, .f32⟩
  | .hbm, ⟨26, _⟩ => ⟨S3x2752x2048, .f32⟩
  | .hbm, ⟨27, _⟩ => ⟨S3x2752x2048, .f32⟩
  | .hbm, ⟨28, _⟩ => ⟨S3x2752x2048, .f32⟩
  | .hbm, ⟨29, _⟩ => ⟨S_, .f32⟩
  | .hbm, ⟨30, _⟩ => ⟨S3x2752x2048, .f32⟩
  | .hbm, ⟨31, _⟩ => ⟨S3x2752x2048, .f32⟩
  | .hbm, ⟨32, _⟩ => ⟨S3x2752x2048, .f32⟩
  | .hbm, ⟨33, _⟩ => ⟨S_, .f32⟩
  | .hbm, ⟨34, _⟩ => ⟨S3x2752x2048, .f32⟩
  | .hbm, ⟨35, _⟩ => ⟨S3x2752x2048, .f32⟩
  | .hbm, ⟨36, _⟩ => ⟨S3x2752x2048, .f32⟩
  | .hbm, ⟨37, _⟩ => ⟨S_, .f32⟩
  | .hbm, ⟨38, _⟩ => ⟨S3x2752x2048, .f32⟩
  | .hbm, ⟨39, _⟩ => ⟨S3x2752x2048, .f32⟩
  | _, _ => ⟨S4x2752x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Sums.lean ====
module

public import Idealize.ShloMosaic.Lib.Pipeline.Value
public import Idealize.ShloMosaic.Lib.ValueIdx
public import Idealize.ShloMosaic.Lib.KernelVsHost
public import Idealize.ShloMosaic.Lib.MatmulPlain

@[expose] public section

noncomputable section

namespace Cert.Sums

open Idealize.ShloMosaic Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

/-- Both operands contracted along their rows. -/
def colDims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem colDims_sum (K M N : Nat) (f : (⟨2, ![K, M]⟩ : Shape).Idx → EReal) (g : (⟨2, ![K, N]⟩ : Shape).Idx → EReal)
    (a : Fin M) (b : Fin N) :
    ∑ k : (colDims K M N).contr.Idx, f ((colDims K M N).lhsIdx (ix2 a b) k) * g ((colDims K M N).rhsIdx (ix2 a b) k)
      = ∑ r : Fin K, f (ix2 r a) * g (ix2 r b) := by
  have h1 : (colDims K M N).contr.rank = 1 := rfl
  have h2 : (colDims K M N).contr.size ⟨0, by rw [h1]; exact Nat.one_pos⟩ = K := rfl
  rw [← Equiv.sum_comp (contrEquiv1 (colDims K M N) K h1 h2).symm]
  refine Finset.sum_congr rfl fun r _ => ?_
  have e := contrEquiv1_symm_val (colDims K M N) K h1 h2 r
  have el : (colDims K M N).lhsIdx (ix2 a b) ((contrEquiv1 (colDims K M N) K h1 h2).symm r) = ix2 r a := by
    funext d
    match d with
    | ⟨0, _⟩ => exact Fin.ext (((colDims K M N).lhsIdx_val_of_single rfl _ _).trans e)
    | ⟨1, _⟩ => exact Fin.ext rfl
  have er : (colDims K M N).rhsIdx (ix2 a b) ((contrEquiv1 (colDims K M N) K h1 h2).symm r) = ix2 r b := by
    funext d
    match d with
    | ⟨0, _⟩ => exact Fin.ext (((colDims K M N).rhsIdx_val_of_single rfl _ _).trans e)
    | ⟨1, _⟩ => exact Fin.ext rfl
  rw [el, er]

/-- Into a zero accumulator the product along the rows is the sum over the rows. -/
theorem matmul_col (K M N : Nat) {φ₁ φ₂ : FTy} (prec : Option ContractPrecision) (x : FVec Ideal ⟨2, ![K, M]⟩ φ₁)
    (y : FVec Ideal ⟨2, ![K, N]⟩ φ₂) (a : Fin M) (b : Fin N) :
    FloatOps.matmul (colDims K M N) prec x y (constant ⟨2, ![M, N]⟩ .f32 0x00000000#32) (ix2 a b)
      = ∑ r : Fin K, x (ix2 r a) * y (ix2 r b) := by
  rw [Ideal.matmul_constant_zero_apply]; exact colDims_sum K M N x y a b

/-- A contraction along both operands' columns. -/
theorem matmul_row (M K N : Nat) {φ₁ φ₂ : FTy} (prec : Option ContractPrecision) (x : FVec Ideal ⟨2, ![M, K]⟩ φ₁)
    (y : FVec Ideal ⟨2, ![N, K]⟩ φ₂) (a : Fin M) (b : Fin N) :
    FloatOps.matmul (DotDims.transposedRhs M K N) prec x y (constant ⟨2, ![M, N]⟩ .f32 0x00000000#32) (ix2 a b)
      = ∑ k : Fin K, x (ix2 a k) * y (ix2 b k) := by
  rw [Ideal.matmul_transposedRhs_apply]
  show Ideal.ofBits .f32 0x00000000#32 + _ = _
  rw [Ideal.ofBits_zero_f32, zero_add]

/-- The plain product. -/
theorem matmul_plain (M K N : Nat) {φ₁ φ₂ : FTy} (prec : Option ContractPrecision) (x : FVec Ideal ⟨2, ![M, K]⟩ φ₁)
    (y : FVec Ideal ⟨2, ![K, N]⟩ φ₂) (a : Fin M) (b : Fin N) :
    FloatOps.matmul (DotDims.plain M K N) prec x y (constant ⟨2, ![M, N]⟩ .f32 0x00000000#32) (ix2 a b)
      = ∑ k : Fin K, x (ix2 a k) * y (ix2 k b) := by
  rw [Ideal.matmul_plain_apply]
  show Ideal.ofBits .f32 0x00000000#32 + _ = _
  rw [Ideal.ofBits_zero_f32, zero_add]

theorem zeroWord : FloatOps.sitofp (F := Ideal) .f32 (0#32) = (0 : EReal) := by
  show (((0#32).toInt : ℝ) : EReal) = 0
  simp

/-- A wide array cut into `P` parts of `W` columns, each device's 1376 columns followed by 32 zeros. -/
theorem padded_apply (R P W : Nat) (hPW : P * W = 11264) (x : FVec Ideal ⟨2, ![R, 11008]⟩ .f32) (h1 h2 h3 h4) {u : Shape}
    (hu : 0 < u.numel) (z : FVec Ideal u .f32) (hz : z = sitofp .f32 (constantI u 32 0#32)) (hb : FTy.bits .bf16 < FTy.bits .f32)
    (p : Fin P) (r : Fin R) (k : Fin W) (f : Nat) (hf : f = p.val * W + k.val) (hlt : f < 11264) :
    transpose ⟨3, ![P, R, W]⟩ [1, 0, 2] (shapeCast ⟨3, ![R, P, W]⟩ (truncf .bf16
      (pad ⟨3, ![R, 8, 1408]⟩ ![0, 0, 0] ![0, 0, 32] ![0, 0, 0]
        (shapeCast ⟨3, ![R, 8, 1376]⟩ x h1) z h2 hu : FVec Ideal ⟨3, ![R, 8, 1408]⟩ .f32) hb) h3) h4 (ix3 p r k)
      = if h : f % 1408 < 1376 then x (ix2 r ⟨f / 1408 * 1376 + f % 1408, by omega⟩) else (0 : EReal) := by
  have hrow : (r.val * P + p.val) * W + k.val = r.val * 11264 + f := by rw [hf, ← hPW]; ring
  refine (transpose_apply [1, 0, 2] _ _ _ (ix3 r p k) fun b => by fin_cases b <;> rfl).trans ?_
  refine (shapeCast_apply _ _ _ (ix3 r ⟨f / 1408, by omega⟩ ⟨f % 1408, by omega⟩) ?_).trans ?_
  · rw [Shape.rowMajor_val_three, Shape.rowMajor_val_three]
    show (r.val * 8 + f / 1408) * 1408 + f % 1408 = (r.val * P + p.val) * W + k.val
    omega
  rw [truncf_apply]
  by_cases h : f % 1408 < 1376
  · rw [dif_pos h]
    refine (pad_apply_of_inside _ _ _ _ _ _ _ _ (ix3 r ⟨f / 1408, by omega⟩ ⟨f % 1408, h⟩) ?_).trans ?_
    · intro a
      match a with
      | ⟨0, _⟩ => show r.val = 0 + r.val * (0 + 1); omega
      | ⟨1, _⟩ => show f / 1408 = 0 + f / 1408 * (0 + 1); omega
      | ⟨2, _⟩ => show f % 1408 = 0 + f % 1408 * (0 + 1); omega
    · refine shapeCast_apply _ _ _ _ ?_
      rw [Shape.rowMajor_val_three, Shape.rowMajor_val_two]
      show r.val * 11008 + (f / 1408 * 1376 + f % 1408) = (r.val * 8 + f / 1408) * 1376 + f % 1408
      omega
  · rw [dif_neg h]
    refine (pad_apply_of_not_inside _ _ _ _ _ _ _ _ (2 : Fin 3) ?_).trans ?_
    · show ¬(0 ≤ f % 1408 ∧ (f % 1408 - 0) % (0 + 1) = 0 ∧ (f % 1408 - 0) / (0 + 1) < 1376)
      omega
    · rw [hz]; exact zeroWord

/-- A sum of `a * b` terms as `a` sums of `b`. -/
theorem sum_range_mul {M : Type} [AddCommMonoid M] (a b : Nat) (F : Nat → M) :
    ∑ f ∈ Finset.range (a * b), F f = ∑ i ∈ Finset.range a, ∑ j ∈ Finset.range b, F (i * b + j) := by
  induction a with
  | zero => simp
  | succ a ih => rw [Nat.succ_mul, Finset.sum_range_add, ih, Finset.sum_range_succ]

/-- A sum over eight padded chunks is the sum over what they hold. -/
theorem sum_padded (φ : Nat → EReal) :
    ∑ f ∈ Finset.range 11264, (if f % 1408 < 1376 then φ (f / 1408 * 1376 + f % 1408) else 0) = ∑ n ∈ Finset.range 11008, φ n := by
  rw [show 11264 = 8 * 1408 from rfl, show 11008 = 8 * 1376 from rfl, sum_range_mul, sum_range_mul]
  refine Finset.sum_congr rfl fun i _ => ?_
  rw [show 1408 = 1376 + 32 from rfl, Finset.sum_range_add]
  rw [Finset.sum_eq_zero (s := Finset.range 32) fun j hj => ?_, add_zero]
  · refine Finset.sum_congr rfl fun j hj => ?_
    have := Finset.mem_range.mp hj
    rw [if_pos (by omega)]
    congr 1; omega
  · have := Finset.mem_range.mp hj
    rw [if_neg (by omega)]

end Cert.Sums

end
-- ==== Proof.AdamwDown.lean ====
module

public import proofs.«01_k».proof.Defs
public import proofs.«01_k».proof.Proof.Gen.KernelAdamwDownIdeal.Value
public import proofs.«01_k».proof.Proof.Gen.ReferenceAdamwDownIdeal.Run
public import proofs.«01_k».proof.Proof.Gen.ReferenceAdamwDownIdeal.Read
public import proofs.«01_k».proof.Proof.Sums
public import Idealize.ShloMosaic.Lib.Pipeline.ValueKit.Tiles
public import Idealize.ShloMosaic.Lib.Pointwise

@[expose] public section

set_option maxRecDepth 16384

noncomputable section

/-! The optimiser's step of the first layer's down projection, over the later layers' results. -/

namespace Cert.AdamwDown

open Idealize.ShloMosaic Idealize.ShloMosaic.TcCoe Idealize.ShloMosaic.Tactic Idealize.SL.Sem
open Cert.Sums
open Idealize.ShloMosaic.Pipeline (Dat)
open Cert.KernelAdamwDownIdeal Cert.KernelAdamwDownIdeal.Gen

variable (m : (ℓ : Loc nD τ sig) → Buf (Elt Ideal) ℓ) (ρ : Dev nD → PrngReg)

/-! ## One entry -/

/-- The number a word stands for. -/
abbrev lit (b : BitVec 32) : EReal := FloatOps.ofBits (F := Ideal) .f32 b

/-- The moments of an entry, from its gradient and its moments before. -/
def mean' (g u : EReal) : EReal := lit 0x3F666666#32 * u + lit 0x3DCCCCCD#32 * g
def square' (g v : EReal) : EReal := lit 0x3F7FBE77#32 * v + lit 0x3A83126F#32 * (g * g)

abbrev over (a b : EReal) : EReal := FloatOps.divf (F := Ideal) (φ := .f32) a b
abbrev root (a : EReal) : EReal := FloatOps.sqrt (F := Ideal) (φ := .f32) a

/-- The step of an entry. -/
def delta' (w g u v : EReal) : EReal := lit 0xBA83126F#32 *
  (over (over (mean' g u) (lit 0x3F26BD02#32)) (root (over (square' g v) (lit 0x3C231ACC#32)) + lit 0x322BCC77#32)
    + lit 0x3C23D70A#32 * w)

section Body
variable (x0 x1 x2 x3 : Vec Ideal S1x344x2048 .f32) (r : Fin 344) (j : Fin 2048)

theorem mean_apply : k0_pay5 x1 x2 (ix2 r j) = mean' (x1 (ix3 0 r j)) (x2 (ix3 0 r j)) := by
  unfold mean'
  pointwise [k0_pay5, k0_pay4]

theorem square_apply : k0_pay6 x1 x3 (ix2 r j) = square' (x1 (ix3 0 r j)) (x3 (ix3 0 r j)) := by
  unfold square'
  pointwise [k0_pay6, k0_pay4]

theorem delta_apply : k0_pay7 x0 x1 x2 x3 (ix2 r j) = delta' (x0 (ix3 0 r j)) (x1 (ix3 0 r j)) (x2 (ix3 0 r j)) (x3 (ix3 0 r j)) := by
  unfold delta'
  rw [← mean_apply, ← square_apply]
  pointwise [k0_pay7]

theorem pay1_apply (y : Vec Ideal S344x2048 .f32) : k0_pay1 (F := Ideal) y (ix3 0 r j) = y (ix2 r j) := by
  pointwise [k0_pay1]
theorem pay2_apply (y : Vec Ideal S344x2048 .f32) : k0_pay2 (F := Ideal) y (ix3 0 r j) = y (ix2 r j) := by
  pointwise [k0_pay2]
theorem pay3_apply (y : Vec Ideal S344x2048 .f32) : k0_pay3 (F := Ideal) y (ix3 0 r j) = y (ix2 r j) := by
  pointwise [k0_pay3]

end Body

section Cases
variable (c : Dev nD) (i : grid0.Coords)
    (a1 : Memref sig .tc .vmem S1x344x2048 .f32) (h1 : a1.IsWhole) (a2 : Memref sig .tc .vmem S1x344x2048 .f32) (h2 : a2.IsWhole)
    (a3 : Memref sig .tc .vmem S1x344x2048 .f32) (h3 : a3.IsWhole) (a4 : Memref sig .tc .vmem S1x344x2048 .f32) (h4 : a4.IsWhole)
    (a5 : Memref sig .tc .vmem S1x344x2048 .f32) (h5 : a5.IsWhole) (a6 : Memref sig .tc .vmem S1x344x2048 .f32) (h6 : a6.IsWhole)
    (a7 : Memref sig .tc .vmem S1x344x2048 .f32) (h7 : a7.IsWhole) (x0 x1 x2 x3 : Vec Ideal S1x344x2048 .f32)

theorem out4 : out0_A_4 c i a1 h1 a2 h2 a3 h3 a4 h4 a5 h5 a6 h6 a7 h7 x0 x1 x2 x3 = k0_pay1 (k0_pay7 x0 x1 x2 x3) := by
  unfold out0_A_4
  rw [View.read_writes_eq_canon _ _ _ (cover0_A_4 c i a1 h1 a2 h2 a3 h3 a4 h4 a5 h5 a6 h6 a7 h7 x0 x1 x2 x3)]
  unfold kernelRun0_A
  dsimp only
  rw [View.canon_unit_zero zero3]
  simp only [kernelRun0_A.sl.r, kernelRun0_A.sl.r_1, kernelRun0_A.sl.r_2, View.readAt_eq_ld, h1.read_unread, h2.read_unread, h3.read_unread, h4.read_unread, View.ld_unit_zero (S := S1x344x2048) zero3]

theorem out5 : out0_A_5 c i a1 h1 a2 h2 a3 h3 a4 h4 a5 h5 a6 h6 a7 h7 x0 x1 x2 x3 = k0_pay2 (k0_pay5 x1 x2) := by
  unfold out0_A_5
  rw [View.read_writes_eq_canon _ _ _ (cover0_A_5 c i a1 h1 a2 h2 a3 h3 a4 h4 a5 h5 a6 h6 a7 h7 x0 x1 x2 x3)]
  unfold kernelRun0_A
  dsimp only
  rw [View.canon_unit_zero zero3]
  simp only [kernelRun0_A.sl.r, kernelRun0_A.sl.r_1, kernelRun0_A.sl.r_2, View.readAt_eq_ld, h1.read_unread, h2.read_unread, h3.read_unread, h4.read_unread, View.ld_unit_zero (S := S1x344x2048) zero3]

theorem out6 : out0_A_6 c i a1 h1 a2 h2 a3 h3 a4 h4 a5 h5 a6 h6 a7 h7 x0 x1 x2 x3 = k0_pay3 (k0_pay6 x1 x3) := by
  unfold out0_A_6
  rw [View.read_writes_eq_canon _ _ _ (cover0_A_6 c i a1 h1 a2 h2 a3 h3 a4 h4 a5 h5 a6 h6 a7 h7 x0 x1 x2 x3)]
  unfold kernelRun0_A
  dsimp only
  rw [View.canon_unit_zero zero3]
  simp only [kernelRun0_A.sl.r, kernelRun0_A.sl.r_1, kernelRun0_A.sl.r_2, View.readAt_eq_ld, h1.read_unread, h2.read_unread, h3.read_unread, h4.read_unread, View.ld_unit_zero (S := S1x344x2048) zero3]

end Cases

/-! ## The operands -/

/-- The arguments: weight, its first layer's gradient, the moments, and the later layers' results. -/
def W (c : Dev nD) : Vec Ideal S4x1376x2048 .f32 := m ((c : Thread nD τ).loc main_arg0)
def G (c : Dev nD) : Vec Ideal S1x1376x2048 .f32 := m ((c : Thread nD τ).loc main_arg1)
def U (c : Dev nD) : Vec Ideal S4x1376x2048 .f32 := m ((c : Thread nD τ).loc main_arg2)
def Q (c : Dev nD) : Vec Ideal S4x1376x2048 .f32 := m ((c : Thread nD τ).loc main_arg3)
def D4 (c : Dev nD) : Vec Ideal S4x1376x2048 .f32 := m ((c : Thread nD τ).loc main_arg4)
def D5 (c : Dev nD) : Vec Ideal S4x1376x2048 .f32 := m ((c : Thread nD τ).loc main_arg5)
def D6 (c : Dev nD) : Vec Ideal S4x1376x2048 .f32 := m ((c : Thread nD τ).loc main_arg6)

theorem carried4 (c : Dev nD) : V m c main_v0_0 = D4 m c := by
  unfold V
  simp only [hostOps0, StableHlo.unary]
  after_results <;> rfl

theorem carried5 (c : Dev nD) : V m c main_v0_1 = D5 m c := by
  unfold V
  simp only [hostOps0, StableHlo.unary]
  after_results <;> rfl

theorem carried6 (c : Dev nD) : V m c main_v0_2 = D6 m c := by
  unfold V
  simp only [hostOps0, StableHlo.unary]
  after_results <;> rfl

theorem index : ∀ t : Fin cfg0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0) :=
  (by decide +kernel : ∀ t : Fin grid0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0))

/-- Entry `(r, j)` of block `t` of the first layer. -/
def at4 (t : Fin cfg0.N) (r : Fin 344) (j : Fin 2048) : S4x1376x2048.Idx :=
  ix3 0 ⟨t.val * 344 + r.val, by have := t.isLt; have hN : cfg0.N = 4 := N_0; omega⟩ j
def at1 (t : Fin cfg0.N) (r : Fin 344) (j : Fin 2048) : S1x1376x2048.Idx :=
  ix3 0 ⟨t.val * 344 + r.val, by have := t.isLt; have hN : cfg0.N = 4 := N_0; omega⟩ j

theorem emb0 (t : Fin cfg0.N) (r : Fin 344) (j : Fin 2048) : (win0_0.blk t).view.emb (ix3 (0 : Fin 1) r j : S1x344x2048.Idx) = at4 t r j := by
  obtain ⟨⟨e0, e1, e2⟩, -⟩ := index t
  funext a; refine Fin.ext ?_
  match a with
  | ⟨0, _⟩ => show win0_0.index t 0 * 1 + 1 * 0 = 0; rw [e0]
  | ⟨1, _⟩ => show win0_0.index t 1 * 344 + 1 * r.val = t.val * 344 + r.val; rw [e1]; omega
  | ⟨2, _⟩ => show win0_0.index t 2 * 2048 + 1 * j.val = j.val; rw [e2]; omega

theorem emb1 (t : Fin cfg0.N) (r : Fin 344) (j : Fin 2048) : (win0_1.blk t).view.emb (ix3 (0 : Fin 1) r j : S1x344x2048.Idx) = at1 t r j := by
  obtain ⟨-, ⟨e0, e1, e2⟩, -⟩ := index t
  funext a; refine Fin.ext ?_
  match a with
  | ⟨0, _⟩ => show win0_1.index t 0 * 1 + 1 * 0 = 0; rw [e0]
  | ⟨1, _⟩ => show win0_1.index t 1 * 344 + 1 * r.val = t.val * 344 + r.val; rw [e1]; omega
  | ⟨2, _⟩ => show win0_1.index t 2 * 2048 + 1 * j.val = j.val; rw [e2]; omega

theorem emb2 (t : Fin cfg0.N) (r : Fin 344) (j : Fin 2048) : (win0_2.blk t).view.emb (ix3 (0 : Fin 1) r j : S1x344x2048.Idx) = at4 t r j := by
  obtain ⟨-, -, ⟨e0, e1, e2⟩, -⟩ := index t
  funext a; refine Fin.ext ?_
  match a with
  | ⟨0, _⟩ => show win0_2.index t 0 * 1 + 1 * 0 = 0; rw [e0]
  | ⟨1, _⟩ => show win0_2.index t 1 * 344 + 1 * r.val = t.val * 344 + r.val; rw [e1]; omega
  | ⟨2, _⟩ => show win0_2.index t 2 * 2048 + 1 * j.val = j.val; rw [e2]; omega

theorem emb3 (t : Fin cfg0.N) (r : Fin 344) (j : Fin 2048) : (win0_3.blk t).view.emb (ix3 (0 : Fin 1) r j : S1x344x2048.Idx) = at4 t r j := by
  obtain ⟨-, -, -, ⟨e0, e1, e2⟩, -⟩ := index t
  funext a; refine Fin.ext ?_
  match a with
  | ⟨0, _⟩ => show win0_3.index t 0 * 1 + 1 * 0 = 0; rw [e0]
  | ⟨1, _⟩ => show win0_3.index t 1 * 344 + 1 * r.val = t.val * 344 + r.val; rw [e1]; omega
  | ⟨2, _⟩ => show win0_3.index t 2 * 2048 + 1 * j.val = j.val; rw [e2]; omega

theorem emb4 (t : Fin cfg0.N) (r : Fin 344) (j : Fin 2048) : (win0_4.blk t).view.emb (ix3 (0 : Fin 1) r j : S1x344x2048.Idx) = at4 t r j := by
  obtain ⟨-, -, -, -, ⟨e0, e1, e2⟩, -⟩ := index t
  funext a; refine Fin.ext ?_
  match a with
  | ⟨0, _⟩ => show win0_4.index t 0 * 1 + 1 * 0 = 0; rw [e0]
  | ⟨1, _⟩ => show win0_4.index t 1 * 344 + 1 * r.val = t.val * 344 + r.val; rw [e1]; omega
  | ⟨2, _⟩ => show win0_4.index t 2 * 2048 + 1 * j.val = j.val; rw [e2]; omega

theorem emb5 (t : Fin cfg0.N) (r : Fin 344) (j : Fin 2048) : (win0_5.blk t).view.emb (ix3 (0 : Fin 1) r j : S1x344x2048.Idx) = at4 t r j := by
  obtain ⟨-, -, -, -, -, ⟨e0, e1, e2⟩, -⟩ := index t
  funext a; refine Fin.ext ?_
  match a with
  | ⟨0, _⟩ => show win0_5.index t 0 * 1 + 1 * 0 = 0; rw [e0]
  | ⟨1, _⟩ => show win0_5.index t 1 * 344 + 1 * r.val = t.val * 344 + r.val; rw [e1]; omega
  | ⟨2, _⟩ => show win0_5.index t 2 * 2048 + 1 * j.val = j.val; rw [e2]; omega

theorem emb6 (t : Fin cfg0.N) (r : Fin 344) (j : Fin 2048) : (win0_6.blk t).view.emb (ix3 (0 : Fin 1) r j : S1x344x2048.Idx) = at4 t r j := by
  obtain ⟨-, -, -, -, -, -, e0, e1, e2⟩ := index t
  funext a; refine Fin.ext ?_
  match a with
  | ⟨0, _⟩ => show win0_6.index t 0 * 1 + 1 * 0 = 0; rw [e0]
  | ⟨1, _⟩ => show win0_6.index t 1 * 344 + 1 * r.val = t.val * 344 + r.val; rw [e1]; omega
  | ⟨2, _⟩ => show win0_6.index t 2 * 2048 + 1 * j.val = j.val; rw [e2]; omega

theorem block0 (c : Dev nD) (t : Fin cfg0.N) (r : Fin 344) (j : Fin 2048) :
    (iblk m c 0 t : Vec Ideal S1x344x2048 .f32) (ix3 0 r j) = W m c (at4 t r j) := by
  have e : (iblk m c 0 t : Vec Ideal S1x344x2048 .f32) = (win0_0.blk t).view.read (Elt Ideal) (W m c : Buf (Elt Ideal) ((c : Thread nD τ).loc main_arg0)) :=
    congrArg ((win0_0.blk t).view.read (Elt Ideal)) (V_main_arg0 m c)
  rw [e, View.read_apply, emb0]
  exact cast_eq _ _

theorem block1 (c : Dev nD) (t : Fin cfg0.N) (r : Fin 344) (j : Fin 2048) :
    (iblk m c 1 t : Vec Ideal S1x344x2048 .f32) (ix3 0 r j) = G m c (at1 t r j) := by
  have e : (iblk m c 1 t : Vec Ideal S1x344x2048 .f32) = (win0_1.blk t).view.read (Elt Ideal) (G m c : Buf (Elt Ideal) ((c : Thread nD τ).loc main_arg1)) :=
    congrArg ((win0_1.blk t).view.read (Elt Ideal)) (V_main_arg1 m c)
  rw [e, View.read_apply, emb1]
  exact cast_eq _ _

theorem block2 (c : Dev nD) (t : Fin cfg0.N) (r : Fin 344) (j : Fin 2048) :
    (iblk m c 2 t : Vec Ideal S1x344x2048 .f32) (ix3 0 r j) = U m c (at4 t r j) := by
  have e : (iblk m c 2 t : Vec Ideal S1x344x2048 .f32) = (win0_2.blk t).view.read (Elt Ideal) (U m c : Buf (Elt Ideal) ((c : Thread nD τ).loc main_arg2)) :=
    congrArg ((win0_2.blk t).view.read (Elt Ideal)) (V_main_arg2 m c)
  rw [e, View.read_apply, emb2]
  exact cast_eq _ _

theorem block3 (c : Dev nD) (t : Fin cfg0.N) (r : Fin 344) (j : Fin 2048) :
    (iblk m c 3 t : Vec Ideal S1x344x2048 .f32) (ix3 0 r j) = Q m c (at4 t r j) := by
  have e : (iblk m c 3 t : Vec Ideal S1x344x2048 .f32) = (win0_3.blk t).view.read (Elt Ideal) (Q m c : Buf (Elt Ideal) ((c : Thread nD τ).loc main_arg3)) :=
    congrArg ((win0_3.blk t).view.read (Elt Ideal)) (V_main_arg3 m c)
  rw [e, View.read_apply, emb3]
  exact cast_eq _ _

/-! ## The results -/

def delta (c : Dev nD) : Vec Ideal S4x1376x2048 .f32 := fun i =>
  (if (i 0).val = 0 then delta' (W m c i) (G m c (ix3 0 (i 1) (i 2))) (U m c i) (Q m c i) else D4 m c i : EReal)
def mean (c : Dev nD) : Vec Ideal S4x1376x2048 .f32 := fun i =>
  (if (i 0).val = 0 then mean' (G m c (ix3 0 (i 1) (i 2))) (U m c i) else D5 m c i : EReal)
def square (c : Dev nD) : Vec Ideal S4x1376x2048 .f32 := fun i =>
  (if (i 0).val = 0 then square' (G m c (ix3 0 (i 1) (i 2))) (Q m c i) else D6 m c i : EReal)

theorem first4 (c : Dev nD) (t : Fin cfg0.N) (r : Fin 344) (j : Fin 2048) : (dats m 0 c).arrAt 4 cfg0.N (at4 t r j) = delta m c (at4 t r j) := by
  have h := congrFun (Value.blocks4 m c t (flush0_4 t)) (ix3 (0 : Fin 1) r j : S1x344x2048.Idx)
  have e : (win0_4.blk t).view.read (Elt Ideal) ((dats m 0 c).arrAt 4 cfg0.N) (ix3 (0 : Fin 1) r j : S1x344x2048.Idx)
      = (dats m 0 c).arrAt 4 cfg0.N (at4 t r j) := by
    rw [View.read_apply, emb4]; exact cast_eq _ _
  refine e.symm.trans (h.trans ?_)
  rw [Value.flushed4_A, out4]
  refine Eq.trans (b := k0_pay1 (k0_pay7 (iblk m c 0 t) (iblk m c 1 t) (iblk m c 2 t) (iblk m c 3 t)) (ix3 0 r j)) rfl ?_
  rw [pay1_apply, delta_apply]
  rw [block0, block1, block2, block3]
  rfl

theorem final4 (c : Dev nD) : (dats m 0 c).arrAt 4 cfg0.N = delta m c := by
  funext (i : S4x1376x2048.Idx)
  have h1 : (i 1).val < 1376 := (i 1).isLt
  by_cases h0 : (i 0).val = 0
  · have e : i = at4 ⟨(i 1).val / 344, by have hN : cfg0.N = 4 := N_0; omega⟩ ⟨(i 1).val % 344, by omega⟩ (i 2) := by
      funext a; refine Fin.ext ?_
      match a with
      | ⟨0, _⟩ => exact h0
      | ⟨1, _⟩ => show (i 1).val = (i 1).val / 344 * 344 + (i 1).val % 344; omega
      | ⟨2, _⟩ => rfl
    rw [e]; exact first4 m c _ _ _
  · refine (Value.entry4 m c i fun t _ hi => h0 ?_).trans ((congrFun (carried4 m c) i).trans (if_neg h0).symm)
    obtain ⟨-, -, -, -, ⟨e0, e1, e2⟩, -⟩ := index t
    have hi' : i ∈ ((View.whole main_v0_0).slice (win0_4.rect t)).set := hi
    rw [View.set_slice_whole, Rect.mem_set_unit] at hi'
    have h : win0_4.index t 0 * 1 ≤ (i 0).val ∧ (i 0).val < win0_4.index t 0 * 1 + 1 := hi' 0
    rw [e0] at h; omega

theorem first5 (c : Dev nD) (t : Fin cfg0.N) (r : Fin 344) (j : Fin 2048) : (dats m 0 c).arrAt 5 cfg0.N (at4 t r j) = mean m c (at4 t r j) := by
  have h := congrFun (Value.blocks5 m c t (flush0_5 t)) (ix3 (0 : Fin 1) r j : S1x344x2048.Idx)
  have e : (win0_5.blk t).view.read (Elt Ideal) ((dats m 0 c).arrAt 5 cfg0.N) (ix3 (0 : Fin 1) r j : S1x344x2048.Idx)
      = (dats m 0 c).arrAt 5 cfg0.N (at4 t r j) := by
    rw [View.read_apply, emb5]; exact cast_eq _ _
  refine e.symm.trans (h.trans ?_)
  rw [Value.flushed5_A, out5]
  refine Eq.trans (b := k0_pay2 (k0_pay5 (iblk m c 1 t) (iblk m c 2 t)) (ix3 0 r j)) rfl ?_
  rw [pay2_apply, mean_apply]
  rw [block1, block2]
  rfl

theorem final5 (c : Dev nD) : (dats m 0 c).arrAt 5 cfg0.N = mean m c := by
  funext (i : S4x1376x2048.Idx)
  have h1 : (i 1).val < 1376 := (i 1).isLt
  by_cases h0 : (i 0).val = 0
  · have e : i = at4 ⟨(i 1).val / 344, by have hN : cfg0.N = 4 := N_0; omega⟩ ⟨(i 1).val % 344, by omega⟩ (i 2) := by
      funext a; refine Fin.ext ?_
      match a with
      | ⟨0, _⟩ => exact h0
      | ⟨1, _⟩ => show (i 1).val = (i 1).val / 344 * 344 + (i 1).val % 344; omega
      | ⟨2, _⟩ => rfl
    rw [e]; exact first5 m c _ _ _
  · refine (Value.entry5 m c i fun t _ hi => h0 ?_).trans ((congrFun (carried5 m c) i).trans (if_neg h0).symm)
    obtain ⟨-, -, -, -, -, ⟨e0, e1, e2⟩, -⟩ := index t
    have hi' : i ∈ ((View.whole main_v0_1).slice (win0_5.rect t)).set := hi
    rw [View.set_slice_whole, Rect.mem_set_unit] at hi'
    have h : win0_5.index t 0 * 1 ≤ (i 0).val ∧ (i 0).val < win0_5.index t 0 * 1 + 1 := hi' 0
    rw [e0] at h; omega

theorem first6 (c : Dev nD) (t : Fin cfg0.N) (r : Fin 344) (j : Fin 2048) : (dats m 0 c).arrAt 6 cfg0.N (at4 t r j) = square m c (at4 t r j) := by
  have h := congrFun (Value.blocks6 m c t (flush0_6 t)) (ix3 (0 : Fin 1) r j : S1x344x2048.Idx)
  have e : (win0_6.blk t).view.read (Elt Ideal) ((dats m 0 c).arrAt 6 cfg0.N) (ix3 (0 : Fin 1) r j : S1x344x2048.Idx)
      = (dats m 0 c).arrAt 6 cfg0.N (at4 t r j) := by
    rw [View.read_apply, emb6]; exact cast_eq _ _
  refine e.symm.trans (h.trans ?_)
  rw [Value.flushed6_A, out6]
  refine Eq.trans (b := k0_pay3 (k0_pay6 (iblk m c 1 t) (iblk m c 3 t)) (ix3 0 r j)) rfl ?_
  rw [pay3_apply, square_apply]
  rw [block1, block3]
  rfl

theorem final6 (c : Dev nD) : (dats m 0 c).arrAt 6 cfg0.N = square m c := by
  funext (i : S4x1376x2048.Idx)
  have h1 : (i 1).val < 1376 := (i 1).isLt
  by_cases h0 : (i 0).val = 0
  · have e : i = at4 ⟨(i 1).val / 344, by have hN : cfg0.N = 4 := N_0; omega⟩ ⟨(i 1).val % 344, by omega⟩ (i 2) := by
      funext a; refine Fin.ext ?_
      match a with
      | ⟨0, _⟩ => exact h0
      | ⟨1, _⟩ => show (i 1).val = (i 1).val / 344 * 344 + (i 1).val % 344; omega
      | ⟨2, _⟩ => rfl
    rw [e]; exact first6 m c _ _ _
  · refine (Value.entry6 m c i fun t _ hi => h0 ?_).trans ((congrFun (carried6 m c) i).trans (if_neg h0).symm)
    obtain ⟨-, -, -, -, -, -, e0, e1, e2⟩ := index t
    have hi' : i ∈ ((View.whole main_v0_2).slice (win0_6.rect t)).set := hi
    rw [View.set_slice_whole, Rect.mem_set_unit] at hi'
    have h : win0_6.index t 0 * 1 ≤ (i 0).val ∧ (i 0).val < win0_6.index t 0 * 1 + 1 := hi' 0
    rw [e0] at h; omega

/-! ## The reference -/

section Reference
open Cert.ReferenceAdamwDownIdeal.Read

variable (c : Dev nD) (i : S1x1376x2048.Idx)

/-- The entry of the first layer. -/
def low (i : S1x1376x2048.Idx) : S4x1376x2048.Idx := ix3 0 (i 1) (i 2)

theorem idx0_eq : idx_main_v0 i = low i := by
  funext a; refine Fin.ext ?_
  match a with
  | ⟨0, _⟩ => have h : (i 0).val < 1 := (i 0).isLt; show (i 0).val = 0; omega
  | ⟨1, _⟩ => rfl
  | ⟨2, _⟩ => rfl

theorem mean_at : val_main_v7 (F := Ideal) (G m c) (U m c) i = mean' (G m c i) (U m c (low i)) := by
  rw [val_main_v7_apply, val_main_v4_apply, val_main_v6_apply, val_main_v1_apply, ← idx0_eq]
  rfl

theorem square_at : val_main_v13 (F := Ideal) (G m c) (Q m c) i = square' (G m c i) (Q m c (low i)) := by
  rw [val_main_v13_apply, val_main_v9_apply, val_main_v12_apply, val_main_v10_apply, val_main_v2_apply, ← idx0_eq]
  rfl

theorem delta_at : val_main_v26 (F := Ideal) (W m c) (G m c) (U m c) (Q m c) i
    = delta' (W m c (low i)) (G m c i) (U m c (low i)) (Q m c (low i)) := by
  rw [val_main_v26_apply, val_main_v24_apply, val_main_v21_apply, val_main_v15_apply, val_main_v20_apply, val_main_v18_apply, val_main_v17_apply,
    val_main_v23_apply, val_main_v0_apply, mean_at, square_at, idx0_eq]
  rfl

end Reference

/-- A joined array, entry by entry. -/
theorem joined (x : Vec Ideal S1x1376x2048 .f32) (d : Vec Ideal S4x1376x2048 .f32) (y : Vec Ideal Cert.ReferenceAdamwDownIdeal.S3x1376x2048 .f32) (h)
    (hy : ∀ k, y k = d (Cert.ReferenceAdamwDownIdeal.Read.idx_main_v27 k)) (i : S4x1376x2048.Idx) :
    concatenate S4x1376x2048 0 [⟨S1x1376x2048, x⟩, ⟨Cert.ReferenceAdamwDownIdeal.S3x1376x2048, y⟩] h i
      = if (i 0).val = 0 then x (ix3 0 (i 1) (i 2)) else d i := by
  have h0 : (i 0).val < 4 := (i 0).isLt
  by_cases e : (i 0).val = 0
  · rw [if_pos e]
    refine concatenate_pair_apply_left (s₁ := S1x1376x2048) 0 x y h i rfl _ fun b => ?_
    match b with
    | ⟨0, _⟩ => exact e.symm
    | ⟨1, _⟩ => rfl
    | ⟨2, _⟩ => rfl
  · rw [if_neg e]
    refine (concatenate_pair_apply_right (s₁ := S1x1376x2048) (s₂ := Cert.ReferenceAdamwDownIdeal.S3x1376x2048) 0 x y h i rfl rfl
      (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val; omega
    · rw [hy]
      refine congrArg d (funext fun a => Fin.ext ?_)
      match a with
      | ⟨0, _⟩ => show 1 + ((i 0).val - 1) = (i 0).val; omega
      | ⟨1, _⟩ => rfl
      | ⟨2, _⟩ => rfl

section Reference
open Cert.ReferenceAdamwDownIdeal.Read

theorem delta_eq (c : Dev nD) : delta m c = val_main_v28 (F := Ideal) (W m c) (G m c) (U m c) (Q m c) (D4 m c) := by
  funext (i : S4x1376x2048.Idx)
  unfold val_main_v28
  refine Eq.trans ?_ (joined _ (D4 m c) _ _ (fun k => val_main_v27_apply _ k) i).symm
  unfold delta
  by_cases h0 : (i 0).val = 0
  · have e : low (ix3 0 (i 1) (i 2)) = i := by
      funext a; refine Fin.ext ?_
      match a with
      | ⟨0, _⟩ => exact h0.symm
      | ⟨1, _⟩ => rfl
      | ⟨2, _⟩ => rfl
    rw [if_pos h0, if_pos h0, delta_at, e]
  · rw [if_neg h0, if_neg h0]

theorem mean_eq (c : Dev nD) : mean m c = val_main_v30 (F := Ideal) (G m c) (U m c) (D5 m c) := by
  funext (i : S4x1376x2048.Idx)
  unfold val_main_v30
  refine Eq.trans ?_ (joined _ (D5 m c) _ _ (fun k => val_main_v29_apply _ k) i).symm
  unfold mean
  by_cases h0 : (i 0).val = 0
  · have e : low (ix3 0 (i 1) (i 2)) = i := by
      funext a; refine Fin.ext ?_
      match a with
      | ⟨0, _⟩ => exact h0.symm
      | ⟨1, _⟩ => rfl
      | ⟨2, _⟩ => rfl
    rw [if_pos h0, if_pos h0, mean_at, e]
  · rw [if_neg h0, if_neg h0]

theorem square_eq (c : Dev nD) : square m c = val_main_v32 (F := Ideal) (G m c) (Q m c) (D6 m c) := by
  funext (i : S4x1376x2048.Idx)
  unfold val_main_v32
  refine Eq.trans ?_ (joined _ (D6 m c) _ _ (fun k => val_main_v31_apply _ k) i).symm
  unfold square
  by_cases h0 : (i 0).val = 0
  · have e : low (ix3 0 (i 1) (i 2)) = i := by
      funext a; refine Fin.ext ?_
      match a with
      | ⟨0, _⟩ => exact h0.symm
      | ⟨1, _⟩ => rfl
      | ⟨2, _⟩ => rfl
    rw [if_pos h0, if_pos h0, square_at, e]
  · rw [if_neg h0, if_neg h0]

end Reference

theorem algebraic : Cert.algebraic_KernelAdamwDownIdeal_ReferenceAdamwDownIdeal := by
  intro m ρ m' ρ' _ hagree
  refine ⟨fun c => delta m c, fun c => mean m c, fun c => square m c, (θ_run defs _ _).mono (fun _ h c =>
    ⟨(h c).1.trans (final4 m c), (h c).2.1.trans (final5 m c), (h c).2.2.1.trans (final6 m c), (h c).2.2.2⟩) (Value.run_blocks m ρ), ?_⟩
  refine (θ_run Cert.ReferenceAdamwDownIdeal.defs _ _).mono (fun _ h c => ?_) (Cert.ReferenceAdamwDownIdeal.Value.run (F := Ideal) m' ρ')
  obtain ⟨a0, a1, a2, a3, a4, a5, a6⟩ := hagree c
  obtain ⟨h0, h1, h2, ht⟩ := h c
  refine ⟨h0.trans ?_, h1.trans ?_, h2.trans ?_, ht⟩
  · refine (Cert.ReferenceAdamwDownIdeal.Read.val_main_v28_eq _ _ _ _ _).trans ?_
    rw [a0, a1, a2, a3, a4]
    exact (delta_eq m c).symm
  · refine (Cert.ReferenceAdamwDownIdeal.Read.val_main_v30_eq _ _ _).trans ?_
    rw [a1, a2, a5]
    exact (mean_eq m c).symm
  · refine (Cert.ReferenceAdamwDownIdeal.Read.val_main_v32_eq _ _ _).trans ?_
    rw [a1, a3, a6]
    exact (square_eq m c).symm

end Cert.AdamwDown

end
-- ==== Proof.AdamwDownLate.lean ====
module

public import proofs.«01_k».proof.Defs
public import proofs.«01_k».proof.Proof.Gen.KernelAdamwDownLateIdeal.Frame
public import proofs.«01_k».proof.Proof.Gen.ReferenceAdamwDownLateIdeal.Run
public import proofs.«01_k».proof.Proof.Gen.ReferenceAdamwDownLateIdeal.Read
public import proofs.«01_k».proof.Proof.AdamwDown
public import Idealize.ShloMosaic.Lib.Pipeline.Value

@[expose] public section

set_option maxRecDepth 16384

noncomputable section

/-! The optimiser's step of the later layers' down projection. -/

namespace Cert.AdamwDownLate

open Idealize.ShloMosaic Idealize.ShloMosaic.TcCoe Idealize.ShloMosaic.Tactic Idealize.SL.Sem
open Cert.Sums
open Cert.AdamwDown (mean' square' delta')
open Idealize.ShloMosaic.Pipeline (Dat)
open Cert.KernelAdamwDownLateIdeal Cert.KernelAdamwDownLateIdeal.Gen

variable (m : (ℓ : Loc nD τ sig) → Buf (Elt Ideal) ℓ) (ρ : Dev nD → PrngReg)

/-! ## One entry: the body is that of the first layer's call -/

section Body
variable (x0 x1 x2 x3 : Vec Ideal S1x344x2048 .f32) (r : Fin 344) (j : Fin 2048)

theorem out4 : out0_4 x0 x1 x2 x3 (ix3 0 r j) = delta' (x0 (ix3 0 r j)) (x1 (ix3 0 r j)) (x2 (ix3 0 r j)) (x3 (ix3 0 r j)) := by
  unfold out0_4
  rw [View.canon_unit_zero zero3]
  simp only [View.ld_unit_zero (S := S1x344x2048) zero3]
  exact (Cert.AdamwDown.pay1_apply r j _).trans (Cert.AdamwDown.delta_apply x0 x1 x2 x3 r j)

theorem out5 : out0_5 x0 x1 x2 x3 (ix3 0 r j) = mean' (x1 (ix3 0 r j)) (x2 (ix3 0 r j)) := by
  unfold out0_5
  rw [View.canon_unit_zero zero3]
  simp only [View.ld_unit_zero (S := S1x344x2048) zero3]
  exact (Cert.AdamwDown.pay2_apply r j _).trans (Cert.AdamwDown.mean_apply x1 x2 r j)

theorem out6 : out0_6 x0 x1 x2 x3 (ix3 0 r j) = square' (x1 (ix3 0 r j)) (x3 (ix3 0 r j)) := by
  unfold out0_6
  rw [View.canon_unit_zero zero3]
  simp only [View.ld_unit_zero (S := S1x344x2048) zero3]
  exact (Cert.AdamwDown.pay3_apply r j _).trans (Cert.AdamwDown.square_apply x1 x3 r j)

end Body

/-! ## The operands -/

/-- The arguments: weight, the later layers' gradients, and the moments. -/
def W (c : Dev nD) : Vec Ideal S4x1376x2048 .f32 := m ((c : Thread nD τ).loc main_arg0)
def G (c : Dev nD) : Vec Ideal S3x1376x2048 .f32 := m ((c : Thread nD τ).loc main_arg1)
def U (c : Dev nD) : Vec Ideal S4x1376x2048 .f32 := m ((c : Thread nD τ).loc main_arg2)
def Q (c : Dev nD) : Vec Ideal S4x1376x2048 .f32 := m ((c : Thread nD τ).loc main_arg3)

theorem index : ∀ t : Fin cfg0.N, (win0_0.index t 0 = 1 + t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = 1 + t.val / 4 ∧ win0_2.index t 1 = t.val % 4 ∧ win0_2.index t 2 = 0)
    ∧ (win0_3.index t 0 = 1 + t.val / 4 ∧ win0_3.index t 1 = t.val % 4 ∧ win0_3.index t 2 = 0)
    ∧ (win0_4.index t 0 = 1 + t.val / 4 ∧ win0_4.index t 1 = t.val % 4 ∧ win0_4.index t 2 = 0)
    ∧ (win0_5.index t 0 = 1 + t.val / 4 ∧ win0_5.index t 1 = t.val % 4 ∧ win0_5.index t 2 = 0)
    ∧ (win0_6.index t 0 = 1 + t.val / 4 ∧ win0_6.index t 1 = t.val % 4 ∧ win0_6.index t 2 = 0) :=
  (by decide +kernel : ∀ t : Fin grid0.N, (win0_0.index t 0 = 1 + t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = 1 + t.val / 4 ∧ win0_2.index t 1 = t.val % 4 ∧ win0_2.index t 2 = 0)
    ∧ (win0_3.index t 0 = 1 + t.val / 4 ∧ win0_3.index t 1 = t.val % 4 ∧ win0_3.index t 2 = 0)
    ∧ (win0_4.index t 0 = 1 + t.val / 4 ∧ win0_4.index t 1 = t.val % 4 ∧ win0_4.index t 2 = 0)
    ∧ (win0_5.index t 0 = 1 + t.val / 4 ∧ win0_5.index t 1 = t.val % 4 ∧ win0_5.index t 2 = 0)
    ∧ (win0_6.index t 0 = 1 + t.val / 4 ∧ win0_6.index t 1 = t.val % 4 ∧ win0_6.index t 2 = 0))

/-- Entry `(r, j)` of block `t` among the later layers, and among all. -/
def at1 (t : Fin cfg0.N) (r : Fin 344) (j : Fin 2048) : S3x1376x2048.Idx :=
  ix3 ⟨t.val / 4, by have := t.isLt; have hN : cfg0.N = 12 := N_0; omega⟩ ⟨t.val % 4 * 344 + r.val, by omega⟩ j
def up (i : S3x1376x2048.Idx) : S4x1376x2048.Idx :=
  ix3 ⟨1 + (i 0).val, by have h : (i 0).val < 3 := (i 0).isLt; omega⟩ (i 1) (i 2)
def at4 (t : Fin cfg0.N) (r : Fin 344) (j : Fin 2048) : S4x1376x2048.Idx := up (at1 t r j)

theorem emb0 (t : Fin cfg0.N) (r : Fin 344) (j : Fin 2048) : (win0_0.blk t).view.emb (ix3 (0 : Fin 1) r j : S1x344x2048.Idx) = at4 t r j := by
  obtain ⟨⟨e0, e1, e2⟩, -⟩ := index t
  funext a; refine Fin.ext ?_
  match a with
  | ⟨0, _⟩ => show win0_0.index t 0 * 1 + 1 * 0 = 1 + t.val / 4; rw [e0]; omega
  | ⟨1, _⟩ => show win0_0.index t 1 * 344 + 1 * r.val = t.val % 4 * 344 + r.val; rw [e1]; omega
  | ⟨2, _⟩ => show win0_0.index t 2 * 2048 + 1 * j.val = j.val; rw [e2]; omega

theorem emb1 (t : Fin cfg0.N) (r : Fin 344) (j : Fin 2048) : (win0_1.blk t).view.emb (ix3 (0 : Fin 1) r j : S1x344x2048.Idx) = at1 t r j := by
  obtain ⟨-, ⟨e0, e1, e2⟩, -⟩ := index t
  funext a; refine Fin.ext ?_
  match a with
  | ⟨0, _⟩ => show win0_1.index t 0 * 1 + 1 * 0 = t.val / 4; rw [e0]; omega
  | ⟨1, _⟩ => show win0_1.index t 1 * 344 + 1 * r.val = t.val % 4 * 344 + r.val; rw [e1]; omega
  | ⟨2, _⟩ => show win0_1.index t 2 * 2048 + 1 * j.val = j.val; rw [e2]; omega

theorem emb2 (t : Fin cfg0.N) (r : Fin 344) (j : Fin 2048) : (win0_2.blk t).view.emb (ix3 (0 : Fin 1) r j : S1x344x2048.Idx) = at4 t r j := by
  obtain ⟨-, -, ⟨e0, e1, e2⟩, -⟩ := index t
  funext a; refine Fin.ext ?_
  match a with
  | ⟨0, _⟩ => show win0_2.index t 0 * 1 + 1 * 0 = 1 + t.val / 4; rw [e0]; omega
  | ⟨1, _⟩ => show win0_2.index t 1 * 344 + 1 * r.val = t.val % 4 * 344 + r.val; rw [e1]; omega
  | ⟨2, _⟩ => show win0_2.index t 2 * 2048 + 1 * j.val = j.val; rw [e2]; omega

theorem emb3 (t : Fin cfg0.N) (r : Fin 344) (j : Fin 2048) : (win0_3.blk t).view.emb (ix3 (0 : Fin 1) r j : S1x344x2048.Idx) = at4 t r j := by
  obtain ⟨-, -, -, ⟨e0, e1, e2⟩, -⟩ := index t
  funext a; refine Fin.ext ?_
  match a with
  | ⟨0, _⟩ => show win0_3.index t 0 * 1 + 1 * 0 = 1 + t.val / 4; rw [e0]; omega
  | ⟨1, _⟩ => show win0_3.index t 1 * 344 + 1 * r.val = t.val % 4 * 344 + r.val; rw [e1]; omega
  | ⟨2, _⟩ => show win0_3.index t 2 * 2048 + 1 * j.val = j.val; rw [e2]; omega

theorem emb4 (t : Fin cfg0.N) (r : Fin 344) (j : Fin 2048) : (win0_4.blk t).view.emb (ix3 (0 : Fin 1) r j : S1x344x2048.Idx) = at4 t r j := by
  obtain ⟨-, -, -, -, ⟨e0, e1, e2⟩, -⟩ := index t
  funext a; refine Fin.ext ?_
  match a with
  | ⟨0, _⟩ => show win0_4.index t 0 * 1 + 1 * 0 = 1 + t.val / 4; rw [e0]; omega
  | ⟨1, _⟩ => show win0_4.index t 1 * 344 + 1 * r.val = t.val % 4 * 344 + r.val; rw [e1]; omega
  | ⟨2, _⟩ => show win0_4.index t 2 * 2048 + 1 * j.val = j.val; rw [e2]; omega

theorem emb5 (t : Fin cfg0.N) (r : Fin 344) (j : Fin 2048) : (win0_5.blk t).view.emb (ix3 (0 : Fin 1) r j : S1x344x2048.Idx) = at4 t r j := by
  obtain ⟨-, -, -, -, -, ⟨e0, e1, e2⟩, -⟩ := index t
  funext a; refine Fin.ext ?_
  match a with
  | ⟨0, _⟩ => show win0_5.index t 0 * 1 + 1 * 0 = 1 + t.val / 4; rw [e0]; omega
  | ⟨1, _⟩ => show win0_5.index t 1 * 344 + 1 * r.val = t.val % 4 * 344 + r.val; rw [e1]; omega
  | ⟨2, _⟩ => show win0_5.index t 2 * 2048 + 1 * j.val = j.val; rw [e2]; omega

theorem emb6 (t : Fin cfg0.N) (r : Fin 344) (j : Fin 2048) : (win0_6.blk t).view.emb (ix3 (0 : Fin 1) r j : S1x344x2048.Idx) = at4 t r j := by
  obtain ⟨-, -, -, -, -, -, e0, e1, e2⟩ := index t
  funext a; refine Fin.ext ?_
  match a with
  | ⟨0, _⟩ => show win0_6.index t 0 * 1 + 1 * 0 = 1 + t.val / 4; rw [e0]; omega
  | ⟨1, _⟩ => show win0_6.index t 1 * 344 + 1 * r.val = t.val % 4 * 344 + r.val; rw [e1]; omega
  | ⟨2, _⟩ => show win0_6.index t 2 * 2048 + 1 * j.val = j.val; rw [e2]; omega

theorem block0 (c : Dev nD) (t : Fin cfg0.N) (r : Fin 344) (j : Fin 2048) :
    (iblk m c 0 t : Vec Ideal S1x344x2048 .f32) (ix3 0 r j) = W m c (at4 t r j) := by
  have e : (iblk m c 0 t : Vec Ideal S1x344x2048 .f32) = (win0_0.blk t).view.read (Elt Ideal) (W m c : Buf (Elt Ideal) ((c : Thread nD τ).loc main_arg0)) :=
    congrArg ((win0_0.blk t).view.read (Elt Ideal)) (V_main_arg0 m c)
  rw [e, View.read_apply, emb0]
  exact cast_eq _ _

theorem block1 (c : Dev nD) (t : Fin cfg0.N) (r : Fin 344) (j : Fin 2048) :
    (iblk m c 1 t : Vec Ideal S1x344x2048 .f32) (ix3 0 r j) = G m c (at1 t r j) := by
  have e : (iblk m c 1 t : Vec Ideal S1x344x2048 .f32) = (win0_1.blk t).view.read (Elt Ideal) (G m c : Buf (Elt Ideal) ((c : Thread nD τ).loc main_arg1)) :=
    congrArg ((win0_1.blk t).view.read (Elt Ideal)) (V_main_arg1 m c)
  rw [e, View.read_apply, emb1]
  exact cast_eq _ _

theorem block2 (c : Dev nD) (t : Fin cfg0.N) (r : Fin 344) (j : Fin 2048) :
    (iblk m c 2 t : Vec Ideal S1x344x2048 .f32) (ix3 0 r j) = U m c (at4 t r j) := by
  have e : (iblk m c 2 t : Vec Ideal S1x344x2048 .f32) = (win0_2.blk t).view.read (Elt Ideal) (U m c : Buf (Elt Ideal) ((c : Thread nD τ).loc main_arg2)) :=
    congrArg ((win0_2.blk t).view.read (Elt Ideal)) (V_main_arg2 m c)
  rw [e, View.read_apply, emb2]
  exact cast_eq _ _

theorem block3 (c : Dev nD) (t : Fin cfg0.N) (r : Fin 344) (j : Fin 2048) :
    (iblk m c 3 t : Vec Ideal S1x344x2048 .f32) (ix3 0 r j) = Q m c (at4 t r j) := by
  have e : (iblk m c 3 t : Vec Ideal S1x344x2048 .f32) = (win0_3.blk t).view.read (Elt Ideal) (Q m c : Buf (Elt Ideal) ((c : Thread nD τ).loc main_arg3)) :=
    congrArg ((win0_3.blk t).view.read (Elt Ideal)) (V_main_arg3 m c)
  rw [e, View.read_apply, emb3]
  exact cast_eq _ _

/-! ## The results -/

def delta (c : Dev nD) : Vec Ideal S3x1376x2048 .f32 := fun i => (delta' (W m c (up i)) (G m c i) (U m c (up i)) (Q m c (up i)) : EReal)
def mean (c : Dev nD) : Vec Ideal S3x1376x2048 .f32 := fun i => (mean' (G m c i) (U m c (up i)) : EReal)
def square (c : Dev nD) : Vec Ideal S3x1376x2048 .f32 := fun i => (square' (G m c i) (Q m c (up i)) : EReal)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne ((by decide +kernel : ∀ t t' : Fin grid0.N, win0_4.index t = win0_4.index t' → t = t') t t' h)

theorem at4_eq (c : Dev nD) (t : Fin cfg0.N) (r : Fin 344) (j : Fin 2048) : (dats m 0 c).arrAt 4 cfg0.N (at4 t r j) = delta m c (at1 t r j) := by
  have h := congrFun ((dats m 0 c).read_blk_arrAt_eq_flushed 4 disjoint4 cfg0.N t t.isLt (flush0_4 t)) (ix3 (0 : Fin 1) r j : S1x344x2048.Idx)
  have e : (win0_4.blk t).view.read (Elt Ideal) ((dats m 0 c).arrAt 4 cfg0.N) (ix3 (0 : Fin 1) r j : S1x344x2048.Idx)
      = (dats m 0 c).arrAt 4 cfg0.N (at4 t r j) := by
    rw [View.read_apply, emb4]; exact cast_eq _ _
  refine e.symm.trans (h.trans ?_)
  have f : (dats m 0 c).flushed 4 t = (cfg0.win 4).cut (grid0.coords t) (out0_4 (iblk m c 0 t) (iblk m c 1 t) (iblk m c 2 t) (iblk m c 3 t)) := by
    show (cfg0.win 4).cut (grid0.coords t) ((dats m 0 c).after 4 t) = _
    rw [after0_4]
  rw [f]
  refine Eq.trans (b := out0_4 (iblk m c 0 t) (iblk m c 1 t) (iblk m c 2 t) (iblk m c 3 t) (ix3 0 r j)) rfl ?_
  rw [out4]
  rw [block0, block1, block2, block3]
  rfl

theorem final4 (c : Dev nD) (i : S3x1376x2048.Idx) : (dats m 0 c).arrAt 4 cfg0.N (up i) = delta m c i := by
  have h0 : (i 0).val < 3 := (i 0).isLt
  have h1 : (i 1).val < 1376 := (i 1).isLt
  have e : i = at1 ⟨(i 0).val * 4 + (i 1).val / 344, by have hN : cfg0.N = 12 := N_0; omega⟩ ⟨(i 1).val % 344, by omega⟩ (i 2) := by
    funext a; refine Fin.ext ?_
    match a with
    | ⟨0, _⟩ => show (i 0).val = ((i 0).val * 4 + (i 1).val / 344) / 4; omega
    | ⟨1, _⟩ => show (i 1).val = ((i 0).val * 4 + (i 1).val / 344) % 4 * 344 + (i 1).val % 344; omega
    | ⟨2, _⟩ => rfl
  rw [e]; exact at4_eq m c _ _ _

/-- What the last lines take of the array. -/
theorem tail4 (c : Dev nD) : (Pipeline.afterTail₀ cfgs (dats m) 0 (V0 m) [hostOps1] c main_v1 : Vec Ideal S3x1376x2048 .f32) = delta m c := by
  have e : (Pipeline.afterTail₀ cfgs (dats m) 0 (V0 m) [hostOps1] c main_v1 : Vec Ideal S3x1376x2048 .f32)
      = extractStridedSlice S3x1376x2048 ![1, 0, 0] ((dats m 0 c).arrAt 4 cfg0.N) slices_S4x1376x2048_S3x1376x2048_1_0_0 := by
    refine Eq.trans ?_ (congrArg (fun x : Vec Ideal S4x1376x2048 .f32 => extractStridedSlice S3x1376x2048 ![1, 0, 0] x slices_S4x1376x2048_S3x1376x2048_1_0_0)
      (Pipeline.withArrays_arr cfg0.spec launch0.win.arr_inj c (V0 m c) (fun w => (dats m 0 c).arrAt w cfg0.N) 4))
    show StableHlo.after hostOps1 (Pipeline.withArrays cfg0.spec c (V0 m c) fun w => (dats m 0 c).arrAt w cfg0.N) (Proc.devRef .tc main_v1) = _
    simp only [hostOps1, StableHlo.unary]
    after_results <;> rfl
  funext (i : S3x1376x2048.Idx)
  rw [e]
  refine (extractStridedSlice_apply ![1, 0, 0] _ slices_S4x1376x2048_S3x1376x2048_1_0_0 i (up i) fun a => ?_).trans (final4 m c i)
  match a with
  | ⟨0, _⟩ => rfl
  | ⟨1, _⟩ => show (i 1).val = 0 + (i 1).val; omega
  | ⟨2, _⟩ => show (i 2).val = 0 + (i 2).val; omega

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne ((by decide +kernel : ∀ t t' : Fin grid0.N, win0_5.index t = win0_5.index t' → t = t') t t' h)

theorem at5_eq (c : Dev nD) (t : Fin cfg0.N) (r : Fin 344) (j : Fin 2048) : (dats m 0 c).arrAt 5 cfg0.N (at4 t r j) = mean m c (at1 t r j) := by
  have h := congrFun ((dats m 0 c).read_blk_arrAt_eq_flushed 5 disjoint5 cfg0.N t t.isLt (flush0_5 t)) (ix3 (0 : Fin 1) r j : S1x344x2048.Idx)
  have e : (win0_5.blk t).view.read (Elt Ideal) ((dats m 0 c).arrAt 5 cfg0.N) (ix3 (0 : Fin 1) r j : S1x344x2048.Idx)
      = (dats m 0 c).arrAt 5 cfg0.N (at4 t r j) := by
    rw [View.read_apply, emb5]; exact cast_eq _ _
  refine e.symm.trans (h.trans ?_)
  have f : (dats m 0 c).flushed 5 t = (cfg0.win 5).cut (grid0.coords t) (out0_5 (iblk m c 0 t) (iblk m c 1 t) (iblk m c 2 t) (iblk m c 3 t)) := by
    show (cfg0.win 5).cut (grid0.coords t) ((dats m 0 c).after 5 t) = _
    rw [after0_5]
  rw [f]
  refine Eq.trans (b := out0_5 (iblk m c 0 t) (iblk m c 1 t) (iblk m c 2 t) (iblk m c 3 t) (ix3 0 r j)) rfl ?_
  rw [out5]
  rw [block1, block2]
  rfl

theorem final5 (c : Dev nD) (i : S3x1376x2048.Idx) : (dats m 0 c).arrAt 5 cfg0.N (up i) = mean m c i := by
  have h0 : (i 0).val < 3 := (i 0).isLt
  have h1 : (i 1).val < 1376 := (i 1).isLt
  have e : i = at1 ⟨(i 0).val * 4 + (i 1).val / 344, by have hN : cfg0.N = 12 := N_0; omega⟩ ⟨(i 1).val % 344, by omega⟩ (i 2) := by
    funext a; refine Fin.ext ?_
    match a with
    | ⟨0, _⟩ => show (i 0).val = ((i 0).val * 4 + (i 1).val / 344) / 4; omega
    | ⟨1, _⟩ => show (i 1).val = ((i 0).val * 4 + (i 1).val / 344) % 4 * 344 + (i 1).val % 344; omega
    | ⟨2, _⟩ => rfl
  rw [e]; exact at5_eq m c _ _ _

/-- What the last lines take of the array. -/
theorem tail5 (c : Dev nD) : (Pipeline.afterTail₀ cfgs (dats m) 0 (V0 m) [hostOps1] c main_v2 : Vec Ideal S3x1376x2048 .f32) = mean m c := by
  have e : (Pipeline.afterTail₀ cfgs (dats m) 0 (V0 m) [hostOps1] c main_v2 : Vec Ideal S3x1376x2048 .f32)
      = extractStridedSlice S3x1376x2048 ![1, 0, 0] ((dats m 0 c).arrAt 5 cfg0.N) slices_S4x1376x2048_S3x1376x2048_1_0_0 := by
    refine Eq.trans ?_ (congrArg (fun x : Vec Ideal S4x1376x2048 .f32 => extractStridedSlice S3x1376x2048 ![1, 0, 0] x slices_S4x1376x2048_S3x1376x2048_1_0_0)
      (Pipeline.withArrays_arr cfg0.spec launch0.win.arr_inj c (V0 m c) (fun w => (dats m 0 c).arrAt w cfg0.N) 5))
    show StableHlo.after hostOps1 (Pipeline.withArrays cfg0.spec c (V0 m c) fun w => (dats m 0 c).arrAt w cfg0.N) (Proc.devRef .tc main_v2) = _
    simp only [hostOps1, StableHlo.unary]
    after_results <;> rfl
  funext (i : S3x1376x2048.Idx)
  rw [e]
  refine (extractStridedSlice_apply ![1, 0, 0] _ slices_S4x1376x2048_S3x1376x2048_1_0_0 i (up i) fun a => ?_).trans (final5 m c i)
  match a with
  | ⟨0, _⟩ => rfl
  | ⟨1, _⟩ => show (i 1).val = 0 + (i 1).val; omega
  | ⟨2, _⟩ => show (i 2).val = 0 + (i 2).val; omega

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne ((by decide +kernel : ∀ t t' : Fin grid0.N, win0_6.index t = win0_6.index t' → t = t') t t' h)

theorem at6_eq (c : Dev nD) (t : Fin cfg0.N) (r : Fin 344) (j : Fin 2048) : (dats m 0 c).arrAt 6 cfg0.N (at4 t r j) = square m c (at1 t r j) := by
  have h := congrFun ((dats m 0 c).read_blk_arrAt_eq_flushed 6 disjoint6 cfg0.N t t.isLt (flush0_6 t)) (ix3 (0 : Fin 1) r j : S1x344x2048.Idx)
  have e : (win0_6.blk t).view.read (Elt Ideal) ((dats m 0 c).arrAt 6 cfg0.N) (ix3 (0 : Fin 1) r j : S1x344x2048.Idx)
      = (dats m 0 c).arrAt 6 cfg0.N (at4 t r j) := by
    rw [View.read_apply, emb6]; exact cast_eq _ _
  refine e.symm.trans (h.trans ?_)
  have f : (dats m 0 c).flushed 6 t = (cfg0.win 6).cut (grid0.coords t) (out0_6 (iblk m c 0 t) (iblk m c 1 t) (iblk m c 2 t) (iblk m c 3 t)) := by
    show (cfg0.win 6).cut (grid0.coords t) ((dats m 0 c).after 6 t) = _
    rw [after0_6]
  rw [f]
  refine Eq.trans (b := out0_6 (iblk m c 0 t) (iblk m c 1 t) (iblk m c 2 t) (iblk m c 3 t) (ix3 0 r j)) rfl ?_
  rw [out6]
  rw [block1, block3]
  rfl

theorem final6 (c : Dev nD) (i : S3x1376x2048.Idx) : (dats m 0 c).arrAt 6 cfg0.N (up i) = square m c i := by
  have h0 : (i 0).val < 3 := (i 0).isLt
  have h1 : (i 1).val < 1376 := (i 1).isLt
  have e : i = at1 ⟨(i 0).val * 4 + (i 1).val / 344, by have hN : cfg0.N = 12 := N_0; omega⟩ ⟨(i 1).val % 344, by omega⟩ (i 2) := by
    funext a; refine Fin.ext ?_
    match a with
    | ⟨0, _⟩ => show (i 0).val = ((i 0).val * 4 + (i 1).val / 344) / 4; omega
    | ⟨1, _⟩ => show (i 1).val = ((i 0).val * 4 + (i 1).val / 344) % 4 * 344 + (i 1).val % 344; omega
    | ⟨2, _⟩ => rfl
  rw [e]; exact at6_eq m c _ _ _

/-- What the last lines take of the array. -/
theorem tail6 (c : Dev nD) : (Pipeline.afterTail₀ cfgs (dats m) 0 (V0 m) [hostOps1] c main_v3 : Vec Ideal S3x1376x2048 .f32) = square m c := by
  have e : (Pipeline.afterTail₀ cfgs (dats m) 0 (V0 m) [hostOps1] c main_v3 : Vec Ideal S3x1376x2048 .f32)
      = extractStridedSlice S3x1376x2048 ![1, 0, 0] ((dats m 0 c).arrAt 6 cfg0.N) slices_S4x1376x2048_S3x1376x2048_1_0_0 := by
    refine Eq.trans ?_ (congrArg (fun x : Vec Ideal S4x1376x2048 .f32 => extractStridedSlice S3x1376x2048 ![1, 0, 0] x slices_S4x1376x2048_S3x1376x2048_1_0_0)
      (Pipeline.withArrays_arr cfg0.spec launch0.win.arr_inj c (V0 m c) (fun w => (dats m 0 c).arrAt w cfg0.N) 6))
    show StableHlo.after hostOps1 (Pipeline.withArrays cfg0.spec c (V0 m c) fun w => (dats m 0 c).arrAt w cfg0.N) (Proc.devRef .tc main_v3) = _
    simp only [hostOps1, StableHlo.unary]
    after_results <;> rfl
  funext (i : S3x1376x2048.Idx)
  rw [e]
  refine (extractStridedSlice_apply ![1, 0, 0] _ slices_S4x1376x2048_S3x1376x2048_1_0_0 i (up i) fun a => ?_).trans (final6 m c i)
  match a with
  | ⟨0, _⟩ => rfl
  | ⟨1, _⟩ => show (i 1).val = 0 + (i 1).val; omega
  | ⟨2, _⟩ => show (i 2).val = 0 + (i 2).val; omega

/-! ## The reference -/

section Reference
open Cert.ReferenceAdamwDownLateIdeal.Read

variable (c : Dev nD)

theorem idx0_eq (i : S3x1376x2048.Idx) : idx_main_v0 i = up i := by
  funext a; refine Fin.ext ?_
  match a with
  | ⟨0, _⟩ => rfl
  | ⟨1, _⟩ => rfl
  | ⟨2, _⟩ => rfl

theorem mean_at (i : S3x1376x2048.Idx) : val_main_v7 (F := Ideal) (G m c) (U m c) i = mean m c i := by
  rw [val_main_v7_apply, val_main_v4_apply, val_main_v6_apply, val_main_v1_apply]
  unfold mean; rw [← idx0_eq]
  rfl

theorem square_at (i : S3x1376x2048.Idx) : val_main_v13 (F := Ideal) (G m c) (Q m c) i = square m c i := by
  rw [val_main_v13_apply, val_main_v9_apply, val_main_v12_apply, val_main_v10_apply, val_main_v2_apply]
  unfold square; rw [← idx0_eq]
  rfl

theorem delta_at (i : S3x1376x2048.Idx) : val_main_v26 (F := Ideal) (W m c) (G m c) (U m c) (Q m c) i = delta m c i := by
  rw [val_main_v26_apply, val_main_v24_apply, val_main_v21_apply, val_main_v15_apply, val_main_v20_apply, val_main_v18_apply, val_main_v17_apply,
    val_main_v23_apply, val_main_v0_apply, mean_at, square_at, idx0_eq]
  rfl

end Reference

theorem algebraic : Cert.algebraic_KernelAdamwDownLateIdeal_ReferenceAdamwDownLateIdeal := by
  intro m ρ m' ρ' _ hagree
  refine ⟨fun c => delta m c, fun c => mean m c, fun c => square m c, (θ_run defs _ _).mono (fun _ h c =>
    ⟨((h c).2 main_v1 (by decide)).trans (tail4 m c), ((h c).2 main_v2 (by decide)).trans (tail5 m c), ((h c).2 main_v3 (by decide)).trans (tail6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ), ?_⟩
  refine (θ_run Cert.ReferenceAdamwDownLateIdeal.defs _ _).mono (fun _ h c => ?_) (Cert.ReferenceAdamwDownLateIdeal.Value.run (F := Ideal) m' ρ')
  obtain ⟨a0, a1, a2, a3⟩ := hagree c
  obtain ⟨h0, h1, h2, ht⟩ := h c
  refine ⟨h0.trans ?_, h1.trans ?_, h2.trans ?_, ht⟩
  · refine (Cert.ReferenceAdamwDownLateIdeal.Read.val_main_v26_eq _ _ _ _).trans ?_
    rw [a0, a1, a2, a3]
    exact funext (delta_at m c)
  · refine (Cert.ReferenceAdamwDownLateIdeal.Read.val_main_v7_eq _ _).trans ?_
    rw [a1, a2]
    exact funext (mean_at m c)
  · refine (Cert.ReferenceAdamwDownLateIdeal.Read.val_main_v13_eq _ _).trans ?_
    rw [a1, a3]
    exact funext (square_at m c)

end Cert.AdamwDownLate

end
-- ==== Proof.AdamwUp.lean ====
module

public import proofs.«01_k».proof.Defs
public import proofs.«01_k».proof.Proof.Gen.KernelAdamwUpIdeal.Value
public import proofs.«01_k».proof.Proof.Gen.ReferenceAdamwUpIdeal.Run
public import proofs.«01_k».proof.Proof.Gen.ReferenceAdamwUpIdeal.Read
public import proofs.«01_k».proof.Proof.AdamwDown
public import Idealize.ShloMosaic.Lib.Pipeline.ValueKit.Tiles
public import Idealize.ShloMosaic.Lib.Pointwise

@[expose] public section

set_option maxRecDepth 16384

noncomputable section

/-! The optimiser's step of the first layer's up projection, over the later layers' results. -/

namespace Cert.AdamwUp

open Idealize.ShloMosaic Idealize.ShloMosaic.TcCoe Idealize.ShloMosaic.Tactic Idealize.SL.Sem
open Cert.Sums
open Cert.AdamwDown (mean' square' delta' pay1_apply pay2_apply pay3_apply mean_apply square_apply delta_apply)
open Idealize.ShloMosaic.Pipeline (Dat)
open Cert.KernelAdamwUpIdeal Cert.KernelAdamwUpIdeal.Gen

variable (m : (ℓ : Loc nD τ sig) → Buf (Elt Ideal) ℓ) (ρ : Dev nD → PrngReg)

section Cases
variable (c : Dev nD) (i : grid0.Coords)
    (a1 : Memref sig .tc .vmem S1x344x2048 .f32) (h1 : a1.IsWhole) (a2 : Memref sig .tc .vmem S1x344x2048 .f32) (h2 : a2.IsWhole)
    (a3 : Memref sig .tc .vmem S1x344x2048 .f32) (h3 : a3.IsWhole) (a4 : Memref sig .tc .vmem S1x344x2048 .f32) (h4 : a4.IsWhole)
    (a5 : Memref sig .tc .vmem S1x344x2048 .f32) (h5 : a5.IsWhole) (a6 : Memref sig .tc .vmem S1x344x2048 .f32) (h6 : a6.IsWhole)
    (a7 : Memref sig .tc .vmem S1x344x2048 .f32) (h7 : a7.IsWhole) (x0 x1 x2 x3 : Vec Ideal S1x344x2048 .f32)

theorem out4 : out0_A_4 c i a1 h1 a2 h2 a3 h3 a4 h4 a5 h5 a6 h6 a7 h7 x0 x1 x2 x3 = k0_pay1 (k0_pay7 x0 x1 x2 x3) := by
  unfold out0_A_4
  rw [View.read_writes_eq_canon _ _ _ (cover0_A_4 c i a1 h1 a2 h2 a3 h3 a4 h4 a5 h5 a6 h6 a7 h7 x0 x1 x2 x3)]
  unfold kernelRun0_A
  dsimp only
  rw [View.canon_unit_zero zero3]
  simp only [kernelRun0_A.sl.r, kernelRun0_A.sl.r_1, kernelRun0_A.sl.r_2, View.readAt_eq_ld, h1.read_unread, h2.read_unread, h3.read_unread, h4.read_unread, View.ld_unit_zero (S := S1x344x2048) zero3]

theorem out5 : out0_A_5 c i a1 h1 a2 h2 a3 h3 a4 h4 a5 h5 a6 h6 a7 h7 x0 x1 x2 x3 = k0_pay2 (k0_pay5 x1 x2) := by
  unfold out0_A_5
  rw [View.read_writes_eq_canon _ _ _ (cover0_A_5 c i a1 h1 a2 h2 a3 h3 a4 h4 a5 h5 a6 h6 a7 h7 x0 x1 x2 x3)]
  unfold kernelRun0_A
  dsimp only
  rw [View.canon_unit_zero zero3]
  simp only [kernelRun0_A.sl.r, kernelRun0_A.sl.r_1, kernelRun0_A.sl.r_2, View.readAt_eq_ld, h1.read_unread, h2.read_unread, h3.read_unread, h4.read_unread, View.ld_unit_zero (S := S1x344x2048) zero3]

theorem out6 : out0_A_6 c i a1 h1 a2 h2 a3 h3 a4 h4 a5 h5 a6 h6 a7 h7 x0 x1 x2 x3 = k0_pay3 (k0_pay6 x1 x3) := by
  unfold out0_A_6
  rw [View.read_writes_eq_canon _ _ _ (cover0_A_6 c i a1 h1 a2 h2 a3 h3 a4 h4 a5 h5 a6 h6 a7 h7 x0 x1 x2 x3)]
  unfold kernelRun0_A
  dsimp only
  rw [View.canon_unit_zero zero3]
  simp only [kernelRun0_A.sl.r, kernelRun0_A.sl.r_1, kernelRun0_A.sl.r_2, View.readAt_eq_ld, h1.read_unread, h2.read_unread, h3.read_unread, h4.read_unread, View.ld_unit_zero (S := S1x344x2048) zero3]

end Cases

/-! ## The operands -/

/-- The arguments: weight, its first layer's gradient, the moments, and the later layers' results. -/
def W (c : Dev nD) : Vec Ideal S4x2752x2048 .f32 := m ((c : Thread nD τ).loc main_arg0)
def G (c : Dev nD) : Vec Ideal S1x2752x2048 .f32 := m ((c : Thread nD τ).loc main_arg1)
def U (c : Dev nD) : Vec Ideal S4x2752x2048 .f32 := m ((c : Thread nD τ).loc main_arg2)
def Q (c : Dev nD) : Vec Ideal S4x2752x2048 .f32 := m ((c : Thread nD τ).loc main_arg3)
def D4 (c : Dev nD) : Vec Ideal S4x2752x2048 .f32 := m ((c : Thread nD τ).loc main_arg4)
def D5 (c : Dev nD) : Vec Ideal S4x2752x2048 .f32 := m ((c : Thread nD τ).loc main_arg5)
def D6 (c : Dev nD) : Vec Ideal S4x2752x2048 .f32 := m ((c : Thread nD τ).loc main_arg6)

theorem carried4 (c : Dev nD) : V m c main_v0_0 = D4 m c := by
  unfold V
  simp only [hostOps0, StableHlo.unary]
  after_results <;> rfl

theorem carried5 (c : Dev nD) : V m c main_v0_1 = D5 m c := by
  unfold V
  simp only [hostOps0, StableHlo.unary]
  after_results <;> rfl

theorem carried6 (c : Dev nD) : V m c main_v0_2 = D6 m c := by
  unfold V
  simp only [hostOps0, StableHlo.unary]
  after_results <;> rfl

theorem index : ∀ t : Fin cfg0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0) :=
  (by decide +kernel : ∀ t : Fin grid0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0))

/-- Entry `(r, j)` of block `t` of the first layer. -/
def at4 (t : Fin cfg0.N) (r : Fin 344) (j : Fin 2048) : S4x2752x2048.Idx :=
  ix3 0 ⟨t.val * 344 + r.val, by have := t.isLt; have hN : cfg0.N = 8 := N_0; omega⟩ j
def at1 (t : Fin cfg0.N) (r : Fin 344) (j : Fin 2048) : S1x2752x2048.Idx :=
  ix3 0 ⟨t.val * 344 + r.val, by have := t.isLt; have hN : cfg0.N = 8 := N_0; omega⟩ j

theorem emb0 (t : Fin cfg0.N) (r : Fin 344) (j : Fin 2048) : (win0_0.blk t).view.emb (ix3 (0 : Fin 1) r j : S1x344x2048.Idx) = at4 t r j := by
  obtain ⟨⟨e0, e1, e2⟩, -⟩ := index t
  funext a; refine Fin.ext ?_
  match a with
  | ⟨0, _⟩ => show win0_0.index t 0 * 1 + 1 * 0 = 0; rw [e0]
  | ⟨1, _⟩ => show win0_0.index t 1 * 344 + 1 * r.val = t.val * 344 + r.val; rw [e1]; omega
  | ⟨2, _⟩ => show win0_0.index t 2 * 2048 + 1 * j.val = j.val; rw [e2]; omega

theorem emb1 (t : Fin cfg0.N) (r : Fin 344) (j : Fin 2048) : (win0_1.blk t).view.emb (ix3 (0 : Fin 1) r j : S1x344x2048.Idx) = at1 t r j := by
  obtain ⟨-, ⟨e0, e1, e2⟩, -⟩ := index t
  funext a; refine Fin.ext ?_
  match a with
  | ⟨0, _⟩ => show win0_1.index t 0 * 1 + 1 * 0 = 0; rw [e0]
  | ⟨1, _⟩ => show win0_1.index t 1 * 344 + 1 * r.val = t.val * 344 + r.val; rw [e1]; omega
  | ⟨2, _⟩ => show win0_1.index t 2 * 2048 + 1 * j.val = j.val; rw [e2]; omega

theorem emb2 (t : Fin cfg0.N) (r : Fin 344) (j : Fin 2048) : (win0_2.blk t).view.emb (ix3 (0 : Fin 1) r j : S1x344x2048.Idx) = at4 t r j := by
  obtain ⟨-, -, ⟨e0, e1, e2⟩, -⟩ := index t
  funext a; refine Fin.ext ?_
  match a with
  | ⟨0, _⟩ => show win0_2.index t 0 * 1 + 1 * 0 = 0; rw [e0]
  | ⟨1, _⟩ => show win0_2.index t 1 * 344 + 1 * r.val = t.val * 344 + r.val; rw [e1]; omega
  | ⟨2, _⟩ => show win0_2.index t 2 * 2048 + 1 * j.val = j.val; rw [e2]; omega

theorem emb3 (t : Fin cfg0.N) (r : Fin 344) (j : Fin 2048) : (win0_3.blk t).view.emb (ix3 (0 : Fin 1) r j : S1x344x2048.Idx) = at4 t r j := by
  obtain ⟨-, -, -, ⟨e0, e1, e2⟩, -⟩ := index t
  funext a; refine Fin.ext ?_
  match a with
  | ⟨0, _⟩ => show win0_3.index t 0 * 1 + 1 * 0 = 0; rw [e0]
  | ⟨1, _⟩ => show win0_3.index t 1 * 344 + 1 * r.val = t.val * 344 + r.val; rw [e1]; omega
  | ⟨2, _⟩ => show win0_3.index t 2 * 2048 + 1 * j.val = j.val; rw [e2]; omega

theorem emb4 (t : Fin cfg0.N) (r : Fin 344) (j : Fin 2048) : (win0_4.blk t).view.emb (ix3 (0 : Fin 1) r j : S1x344x2048.Idx) = at4 t r j := by
  obtain ⟨-, -, -, -, ⟨e0, e1, e2⟩, -⟩ := index t
  funext a; refine Fin.ext ?_
  match a with
  | ⟨0, _⟩ => show win0_4.index t 0 * 1 + 1 * 0 = 0; rw [e0]
  | ⟨1, _⟩ => show win0_4.index t 1 * 344 + 1 * r.val = t.val * 344 + r.val; rw [e1]; omega
  | ⟨2, _⟩ => show win0_4.index t 2 * 2048 + 1 * j.val = j.val; rw [e2]; omega

theorem emb5 (t : Fin cfg0.N) (r : Fin 344) (j : Fin 2048) : (win0_5.blk t).view.emb (ix3 (0 : Fin 1) r j : S1x344x2048.Idx) = at4 t r j := by
  obtain ⟨-, -, -, -, -, ⟨e0, e1, e2⟩, -⟩ := index t
  funext a; refine Fin.ext ?_
  match a with
  | ⟨0, _⟩ => show win0_5.index t 0 * 1 + 1 * 0 = 0; rw [e0]
  | ⟨1, _⟩ => show win0_5.index t 1 * 344 + 1 * r.val = t.val * 344 + r.val; rw [e1]; omega
  | ⟨2, _⟩ => show win0_5.index t 2 * 2048 + 1 * j.val = j.val; rw [e2]; omega

theorem emb6 (t : Fin cfg0.N) (r : Fin 344) (j : Fin 2048) : (win0_6.blk t).view.emb (ix3 (0 : Fin 1) r j : S1x344x2048.Idx) = at4 t r j := by
  obtain ⟨-, -, -, -, -, -, e0, e1, e2⟩ := index t
  funext a; refine Fin.ext ?_
  match a with
  | ⟨0, _⟩ => show win0_6.index t 0 * 1 + 1 * 0 = 0; rw [e0]
  | ⟨1, _⟩ => show win0_6.index t 1 * 344 + 1 * r.val = t.val * 344 + r.val; rw [e1]; omega
  | ⟨2, _⟩ => show win0_6.index t 2 * 2048 + 1 * j.val = j.val; rw [e2]; omega

theorem block0 (c : Dev nD) (t : Fin cfg0.N) (r : Fin 344) (j : Fin 2048) :
    (iblk m c 0 t : Vec Ideal S1x344x2048 .f32) (ix3 0 r j) = W m c (at4 t r j) := by
  have e : (iblk m c 0 t : Vec Ideal S1x344x2048 .f32) = (win0_0.blk t).view.read (Elt Ideal) (W m c : Buf (Elt Ideal) ((c : Thread nD τ).loc main_arg0)) :=
    congrArg ((win0_0.blk t).view.read (Elt Ideal)) (V_main_arg0 m c)
  rw [e, View.read_apply, emb0]
  exact cast_eq _ _

theorem block1 (c : Dev nD) (t : Fin cfg0.N) (r : Fin 344) (j : Fin 2048) :
    (iblk m c 1 t : Vec Ideal S1x344x2048 .f32) (ix3 0 r j) = G m c (at1 t r j) := by
  have e : (iblk m c 1 t : Vec Ideal S1x344x2048 .f32) = (win0_1.blk t).view.read (Elt Ideal) (G m c : Buf (Elt Ideal) ((c : Thread nD τ).loc main_arg1)) :=
    congrArg ((win0_1.blk t).view.read (Elt Ideal)) (V_main_arg1 m c)
  rw [e, View.read_apply, emb1]
  exact cast_eq _ _

theorem block2 (c : Dev nD) (t : Fin cfg0.N) (r : Fin 344) (j : Fin 2048) :
    (iblk m c 2 t : Vec Ideal S1x344x2048 .f32) (ix3 0 r j) = U m c (at4 t r j) := by
  have e : (iblk m c 2 t : Vec Ideal S1x344x2048 .f32) = (win0_2.blk t).view.read (Elt Ideal) (U m c : Buf (Elt Ideal) ((c : Thread nD τ).loc main_arg2)) :=
    congrArg ((win0_2.blk t).view.read (Elt Ideal)) (V_main_arg2 m c)
  rw [e, View.read_apply, emb2]
  exact cast_eq _ _

theorem block3 (c : Dev nD) (t : Fin cfg0.N) (r : Fin 344) (j : Fin 2048) :
    (iblk m c 3 t : Vec Ideal S1x344x2048 .f32) (ix3 0 r j) = Q m c (at4 t r j) := by
  have e : (iblk m c 3 t : Vec Ideal S1x344x2048 .f32) = (win0_3.blk t).view.read (Elt Ideal) (Q m c : Buf (Elt Ideal) ((c : Thread nD τ).loc main_arg3)) :=
    congrArg ((win0_3.blk t).view.read (Elt Ideal)) (V_main_arg3 m c)
  rw [e, View.read_apply, emb3]
  exact cast_eq _ _

/-! ## The results -/

def delta (c : Dev nD) : Vec Ideal S4x2752x2048 .f32 := fun i =>
  (if (i 0).val = 0 then delta' (W m c i) (G m c (ix3 0 (i 1) (i 2))) (U m c i) (Q m c i) else D4 m c i : EReal)
def mean (c : Dev nD) : Vec Ideal S4x2752x2048 .f32 := fun i =>
  (if (i 0).val = 0 then mean' (G m c (ix3 0 (i 1) (i 2))) (U m c i) else D5 m c i : EReal)
def square (c : Dev nD) : Vec Ideal S4x2752x2048 .f32 := fun i =>
  (if (i 0).val = 0 then square' (G m c (ix3 0 (i 1) (i 2))) (Q m c i) else D6 m c i : EReal)

theorem first4 (c : Dev nD) (t : Fin cfg0.N) (r : Fin 344) (j : Fin 2048) : (dats m 0 c).arrAt 4 cfg0.N (at4 t r j) = delta m c (at4 t r j) := by
  have h := congrFun (Value.blocks4 m c t (flush0_4 t)) (ix3 (0 : Fin 1) r j : S1x344x2048.Idx)
  have e : (win0_4.blk t).view.read (Elt Ideal) ((dats m 0 c).arrAt 4 cfg0.N) (ix3 (0 : Fin 1) r j : S1x344x2048.Idx)
      = (dats m 0 c).arrAt 4 cfg0.N (at4 t r j) := by
    rw [View.read_apply, emb4]; exact cast_eq _ _
  refine e.symm.trans (h.trans ?_)
  rw [Value.flushed4_A, out4]
  refine Eq.trans (b := k0_pay1 (k0_pay7 (iblk m c 0 t) (iblk m c 1 t) (iblk m c 2 t) (iblk m c 3 t)) (ix3 0 r j)) rfl ?_
  refine (pay1_apply r j _).trans ((delta_apply _ _ _ _ r j).trans ?_)
  rw [block0, block1, block2, block3]
  rfl

theorem final4 (c : Dev nD) : (dats m 0 c).arrAt 4 cfg0.N = delta m c := by
  funext (i : S4x2752x2048.Idx)
  have h1 : (i 1).val < 2752 := (i 1).isLt
  by_cases h0 : (i 0).val = 0
  · have e : i = at4 ⟨(i 1).val / 344, by have hN : cfg0.N = 8 := N_0; omega⟩ ⟨(i 1).val % 344, by omega⟩ (i 2) := by
      funext a; refine Fin.ext ?_
      match a with
      | ⟨0, _⟩ => exact h0
      | ⟨1, _⟩ => show (i 1).val = (i 1).val / 344 * 344 + (i 1).val % 344; omega
      | ⟨2, _⟩ => rfl
    rw [e]; exact first4 m c _ _ _
  · refine (Value.entry4 m c i fun t _ hi => h0 ?_).trans ((congrFun (carried4 m c) i).trans (if_neg h0).symm)
    obtain ⟨-, -, -, -, ⟨e0, e1, e2⟩, -⟩ := index t
    have hi' : i ∈ ((View.whole main_v0_0).slice (win0_4.rect t)).set := hi
    rw [View.set_slice_whole, Rect.mem_set_unit] at hi'
    have h : win0_4.index t 0 * 1 ≤ (i 0).val ∧ (i 0).val < win0_4.index t 0 * 1 + 1 := hi' 0
    rw [e0] at h; omega

theorem first5 (c : Dev nD) (t : Fin cfg0.N) (r : Fin 344) (j : Fin 2048) : (dats m 0 c).arrAt 5 cfg0.N (at4 t r j) = mean m c (at4 t r j) := by
  have h := congrFun (Value.blocks5 m c t (flush0_5 t)) (ix3 (0 : Fin 1) r j : S1x344x2048.Idx)
  have e : (win0_5.blk t).view.read (Elt Ideal) ((dats m 0 c).arrAt 5 cfg0.N) (ix3 (0 : Fin 1) r j : S1x344x2048.Idx)
      = (dats m 0 c).arrAt 5 cfg0.N (at4 t r j) := by
    rw [View.read_apply, emb5]; exact cast_eq _ _
  refine e.symm.trans (h.trans ?_)
  rw [Value.flushed5_A, out5]
  refine Eq.trans (b := k0_pay2 (k0_pay5 (iblk m c 1 t) (iblk m c 2 t)) (ix3 0 r j)) rfl ?_
  refine (pay2_apply r j _).trans ((mean_apply _ _ r j).trans ?_)
  rw [block1, block2]
  rfl

theorem final5 (c : Dev nD) : (dats m 0 c).arrAt 5 cfg0.N = mean m c := by
  funext (i : S4x2752x2048.Idx)
  have h1 : (i 1).val < 2752 := (i 1).isLt
  by_cases h0 : (i 0).val = 0
  · have e : i = at4 ⟨(i 1).val / 344, by have hN : cfg0.N = 8 := N_0; omega⟩ ⟨(i 1).val % 344, by omega⟩ (i 2) := by
      funext a; refine Fin.ext ?_
      match a with
      | ⟨0, _⟩ => exact h0
      | ⟨1, _⟩ => show (i 1).val = (i 1).val / 344 * 344 + (i 1).val % 344; omega
      | ⟨2, _⟩ => rfl
    rw [e]; exact first5 m c _ _ _
  · refine (Value.entry5 m c i fun t _ hi => h0 ?_).trans ((congrFun (carried5 m c) i).trans (if_neg h0).symm)
    obtain ⟨-, -, -, -, -, ⟨e0, e1, e2⟩, -⟩ := index t
    have hi' : i ∈ ((View.whole main_v0_1).slice (win0_5.rect t)).set := hi
    rw [View.set_slice_whole, Rect.mem_set_unit] at hi'
    have h : win0_5.index t 0 * 1 ≤ (i 0).val ∧ (i 0).val < win0_5.index t 0 * 1 + 1 := hi' 0
    rw [e0] at h; omega

theorem first6 (c : Dev nD) (t : Fin cfg0.N) (r : Fin 344) (j : Fin 2048) : (dats m 0 c).arrAt 6 cfg0.N (at4 t r j) = square m c (at4 t r j) := by
  have h := congrFun (Value.blocks6 m c t (flush0_6 t)) (ix3 (0 : Fin 1) r j : S1x344x2048.Idx)
  have e : (win0_6.blk t).view.read (Elt Ideal) ((dats m 0 c).arrAt 6 cfg0.N) (ix3 (0 : Fin 1) r j : S1x344x2048.Idx)
      = (dats m 0 c).arrAt 6 cfg0.N (at4 t r j) := by
    rw [View.read_apply, emb6]; exact cast_eq _ _
  refine e.symm.trans (h.trans ?_)
  rw [Value.flushed6_A, out6]
  refine Eq.trans (b := k0_pay3 (k0_pay6 (iblk m c 1 t) (iblk m c 3 t)) (ix3 0 r j)) rfl ?_
  refine (pay3_apply r j _).trans ((square_apply _ _ r j).trans ?_)
  rw [block1, block3]
  rfl

theorem final6 (c : Dev nD) : (dats m 0 c).arrAt 6 cfg0.N = square m c := by
  funext (i : S4x2752x2048.Idx)
  have h1 : (i 1).val < 2752 := (i 1).isLt
  by_cases h0 : (i 0).val = 0
  · have e : i = at4 ⟨(i 1).val / 344, by have hN : cfg0.N = 8 := N_0; omega⟩ ⟨(i 1).val % 344, by omega⟩ (i 2) := by
      funext a; refine Fin.ext ?_
      match a with
      | ⟨0, _⟩ => exact h0
      | ⟨1, _⟩ => show (i 1).val = (i 1).val / 344 * 344 + (i 1).val % 344; omega
      | ⟨2, _⟩ => rfl
    rw [e]; exact first6 m c _ _ _
  · refine (Value.entry6 m c i fun t _ hi => h0 ?_).trans ((congrFun (carried6 m c) i).trans (if_neg h0).symm)
    obtain ⟨-, -, -, -, -, -, e0, e1, e2⟩ := index t
    have hi' : i ∈ ((View.whole main_v0_2).slice (win0_6.rect t)).set := hi
    rw [View.set_slice_whole, Rect.mem_set_unit] at hi'
    have h : win0_6.index t 0 * 1 ≤ (i 0).val ∧ (i 0).val < win0_6.index t 0 * 1 + 1 := hi' 0
    rw [e0] at h; omega

/-! ## The reference -/

section Reference
open Cert.ReferenceAdamwUpIdeal.Read

variable (c : Dev nD) (i : S1x2752x2048.Idx)

/-- The entry of the first layer. -/
def low (i : S1x2752x2048.Idx) : S4x2752x2048.Idx := ix3 0 (i 1) (i 2)

theorem idx0_eq : idx_main_v0 i = low i := by
  funext a; refine Fin.ext ?_
  match a with
  | ⟨0, _⟩ => have h : (i 0).val < 1 := (i 0).isLt; show (i 0).val = 0; omega
  | ⟨1, _⟩ => rfl
  | ⟨2, _⟩ => rfl

theorem mean_at : val_main_v7 (F := Ideal) (G m c) (U m c) i = mean' (G m c i) (U m c (low i)) := by
  rw [val_main_v7_apply, val_main_v4_apply, val_main_v6_apply, val_main_v1_apply, ← idx0_eq]
  rfl

theorem square_at : val_main_v13 (F := Ideal) (G m c) (Q m c) i = square' (G m c i) (Q m c (low i)) := by
  rw [val_main_v13_apply, val_main_v9_apply, val_main_v12_apply, val_main_v10_apply, val_main_v2_apply, ← idx0_eq]
  rfl

theorem delta_at : val_main_v26 (F := Ideal) (W m c) (G m c) (U m c) (Q m c) i
    = delta' (W m c (low i)) (G m c i) (U m c (low i)) (Q m c (low i)) := by
  rw [val_main_v26_apply, val_main_v24_apply, val_main_v21_apply, val_main_v15_apply, val_main_v20_apply, val_main_v18_apply, val_main_v17_apply,
    val_main_v23_apply, val_main_v0_apply, mean_at, square_at, idx0_eq]
  rfl

end Reference

/-- A joined array, entry by entry. -/
theorem joined (x : Vec Ideal S1x2752x2048 .f32) (d : Vec Ideal S4x2752x2048 .f32) (y : Vec Ideal Cert.ReferenceAdamwUpIdeal.S3x2752x2048 .f32) (h)
    (hy : ∀ k, y k = d (Cert.ReferenceAdamwUpIdeal.Read.idx_main_v27 k)) (i : S4x2752x2048.Idx) :
    concatenate S4x2752x2048 0 [⟨S1x2752x2048, x⟩, ⟨Cert.ReferenceAdamwUpIdeal.S3x2752x2048, y⟩] h i
      = if (i 0).val = 0 then x (ix3 0 (i 1) (i 2)) else d i := by
  have h0 : (i 0).val < 4 := (i 0).isLt
  by_cases e : (i 0).val = 0
  · rw [if_pos e]
    refine concatenate_pair_apply_left (s₁ := S1x2752x2048) 0 x y h i rfl _ fun b => ?_
    match b with
    | ⟨0, _⟩ => exact e.symm
    | ⟨1, _⟩ => rfl
    | ⟨2, _⟩ => rfl
  · rw [if_neg e]
    refine (concatenate_pair_apply_right (s₁ := S1x2752x2048) (s₂ := Cert.ReferenceAdamwUpIdeal.S3x2752x2048) 0 x y h i rfl rfl
      (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val; omega
    · rw [hy]
      refine congrArg d (funext fun a => Fin.ext ?_)
      match a with
      | ⟨0, _⟩ => show 1 + ((i 0).val - 1) = (i 0).val; omega
      | ⟨1, _⟩ => rfl
      | ⟨2, _⟩ => rfl

section Reference
open Cert.ReferenceAdamwUpIdeal.Read

theorem delta_eq (c : Dev nD) : delta m c = val_main_v28 (F := Ideal) (W m c) (G m c) (U m c) (Q m c) (D4 m c) := by
  funext (i : S4x2752x2048.Idx)
  unfold val_main_v28
  refine Eq.trans ?_ (joined _ (D4 m c) _ _ (fun k => val_main_v27_apply _ k) i).symm
  unfold delta
  by_cases h0 : (i 0).val = 0
  · have e : low (ix3 0 (i 1) (i 2)) = i := by
      funext a; refine Fin.ext ?_
      match a with
      | ⟨0, _⟩ => exact h0.symm
      | ⟨1, _⟩ => rfl
      | ⟨2, _⟩ => rfl
    rw [if_pos h0, if_pos h0, delta_at, e]
  · rw [if_neg h0, if_neg h0]

theorem mean_eq (c : Dev nD) : mean m c = val_main_v30 (F := Ideal) (G m c) (U m c) (D5 m c) := by
  funext (i : S4x2752x2048.Idx)
  unfold val_main_v30
  refine Eq.trans ?_ (joined _ (D5 m c) _ _ (fun k => val_main_v29_apply _ k) i).symm
  unfold mean
  by_cases h0 : (i 0).val = 0
  · have e : low (ix3 0 (i 1) (i 2)) = i := by
      funext a; refine Fin.ext ?_
      match a with
      | ⟨0, _⟩ => exact h0.symm
      | ⟨1, _⟩ => rfl
      | ⟨2, _⟩ => rfl
    rw [if_pos h0, if_pos h0, mean_at, e]
  · rw [if_neg h0, if_neg h0]

theorem square_eq (c : Dev nD) : square m c = val_main_v32 (F := Ideal) (G m c) (Q m c) (D6 m c) := by
  funext (i : S4x2752x2048.Idx)
  unfold val_main_v32
  refine Eq.trans ?_ (joined _ (D6 m c) _ _ (fun k => val_main_v31_apply _ k) i).symm
  unfold square
  by_cases h0 : (i 0).val = 0
  · have e : low (ix3 0 (i 1) (i 2)) = i := by
      funext a; refine Fin.ext ?_
      match a with
      | ⟨0, _⟩ => exact h0.symm
      | ⟨1, _⟩ => rfl
      | ⟨2, _⟩ => rfl
    rw [if_pos h0, if_pos h0, square_at, e]
  · rw [if_neg h0, if_neg h0]

end Reference

theorem algebraic : Cert.algebraic_KernelAdamwUpIdeal_ReferenceAdamwUpIdeal := by
  intro m ρ m' ρ' _ hagree
  refine ⟨fun c => delta m c, fun c => mean m c, fun c => square m c, (θ_run defs _ _).mono (fun _ h c =>
    ⟨(h c).1.trans (final4 m c), (h c).2.1.trans (final5 m c), (h c).2.2.1.trans (final6 m c), (h c).2.2.2⟩) (Value.run_blocks m ρ), ?_⟩
  refine (θ_run Cert.ReferenceAdamwUpIdeal.defs _ _).mono (fun _ h c => ?_) (Cert.ReferenceAdamwUpIdeal.Value.run (F := Ideal) m' ρ')
  obtain ⟨a0, a1, a2, a3, a4, a5, a6⟩ := hagree c
  obtain ⟨h0, h1, h2, ht⟩ := h c
  refine ⟨h0.trans ?_, h1.trans ?_, h2.trans ?_, ht⟩
  · refine (Cert.ReferenceAdamwUpIdeal.Read.val_main_v28_eq _ _ _ _ _).trans ?_
    rw [a0, a1, a2, a3, a4]
    exact (delta_eq m c).symm
  · refine (Cert.ReferenceAdamwUpIdeal.Read.val_main_v30_eq _ _ _).trans ?_
    rw [a1, a2, a5]
    exact (mean_eq m c).symm
  · refine (Cert.ReferenceAdamwUpIdeal.Read.val_main_v32_eq _ _ _).trans ?_
    rw [a1, a3, a6]
    exact (square_eq m c).symm

end Cert.AdamwUp

end
-- ==== Proof.AdamwUpLate.lean ====
module

public import proofs.«01_k».proof.Defs
public import proofs.«01_k».proof.Proof.Gen.KernelAdamwUpLateIdeal.Frame
public import proofs.«01_k».proof.Proof.Gen.ReferenceAdamwUpLateIdeal.Run
public import proofs.«01_k».proof.Proof.Gen.ReferenceAdamwUpLateIdeal.Read
public import proofs.«01_k».proof.Proof.AdamwDown
public import Idealize.ShloMosaic.Lib.Pipeline.Value

@[expose] public section

set_option maxRecDepth 16384

noncomputable section

/-! The optimiser's step of the later layers' up projection. -/

namespace Cert.AdamwUpLate

open Idealize.ShloMosaic Idealize.ShloMosaic.TcCoe Idealize.ShloMosaic.Tactic Idealize.SL.Sem
open Cert.Sums
open Cert.AdamwDown (mean' square' delta')
open Idealize.ShloMosaic.Pipeline (Dat)
open Cert.KernelAdamwUpLateIdeal Cert.KernelAdamwUpLateIdeal.Gen

variable (m : (ℓ : Loc nD τ sig) → Buf (Elt Ideal) ℓ) (ρ : Dev nD → PrngReg)

/-! ## One entry: the body is that of the first layer's call -/

section Body
variable (x0 x1 x2 x3 : Vec Ideal S1x344x2048 .f32) (r : Fin 344) (j : Fin 2048)

theorem out4 : out0_4 x0 x1 x2 x3 (ix3 0 r j) = delta' (x0 (ix3 0 r j)) (x1 (ix3 0 r j)) (x2 (ix3 0 r j)) (x3 (ix3 0 r j)) := by
  unfold out0_4
  rw [View.canon_unit_zero zero3]
  simp only [View.ld_unit_zero (S := S1x344x2048) zero3]
  exact (Cert.AdamwDown.pay1_apply r j _).trans (Cert.AdamwDown.delta_apply x0 x1 x2 x3 r j)

theorem out5 : out0_5 x0 x1 x2 x3 (ix3 0 r j) = mean' (x1 (ix3 0 r j)) (x2 (ix3 0 r j)) := by
  unfold out0_5
  rw [View.canon_unit_zero zero3]
  simp only [View.ld_unit_zero (S := S1x344x2048) zero3]
  exact (Cert.AdamwDown.pay2_apply r j _).trans (Cert.AdamwDown.mean_apply x1 x2 r j)

theorem out6 : out0_6 x0 x1 x2 x3 (ix3 0 r j) = square' (x1 (ix3 0 r j)) (x3 (ix3 0 r j)) := by
  unfold out0_6
  rw [View.canon_unit_zero zero3]
  simp only [View.ld_unit_zero (S := S1x344x2048) zero3]
  exact (Cert.AdamwDown.pay3_apply r j _).trans (Cert.AdamwDown.square_apply x1 x3 r j)

end Body

/-! ## The operands -/

/-- The arguments: weight, the later layers' gradients, and the moments. -/
def W (c : Dev nD) : Vec Ideal S4x2752x2048 .f32 := m ((c : Thread nD τ).loc main_arg0)
def G (c : Dev nD) : Vec Ideal S3x2752x2048 .f32 := m ((c : Thread nD τ).loc main_arg1)
def U (c : Dev nD) : Vec Ideal S4x2752x2048 .f32 := m ((c : Thread nD τ).loc main_arg2)
def Q (c : Dev nD) : Vec Ideal S4x2752x2048 .f32 := m ((c : Thread nD τ).loc main_arg3)

theorem index : ∀ t : Fin cfg0.N, (win0_0.index t 0 = 1 + t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = 1 + t.val / 8 ∧ win0_2.index t 1 = t.val % 8 ∧ win0_2.index t 2 = 0)
    ∧ (win0_3.index t 0 = 1 + t.val / 8 ∧ win0_3.index t 1 = t.val % 8 ∧ win0_3.index t 2 = 0)
    ∧ (win0_4.index t 0 = 1 + t.val / 8 ∧ win0_4.index t 1 = t.val % 8 ∧ win0_4.index t 2 = 0)
    ∧ (win0_5.index t 0 = 1 + t.val / 8 ∧ win0_5.index t 1 = t.val % 8 ∧ win0_5.index t 2 = 0)
    ∧ (win0_6.index t 0 = 1 + t.val / 8 ∧ win0_6.index t 1 = t.val % 8 ∧ win0_6.index t 2 = 0) :=
  (by decide +kernel : ∀ t : Fin grid0.N, (win0_0.index t 0 = 1 + t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = 1 + t.val / 8 ∧ win0_2.index t 1 = t.val % 8 ∧ win0_2.index t 2 = 0)
    ∧ (win0_3.index t 0 = 1 + t.val / 8 ∧ win0_3.index t 1 = t.val % 8 ∧ win0_3.index t 2 = 0)
    ∧ (win0_4.index t 0 = 1 + t.val / 8 ∧ win0_4.index t 1 = t.val % 8 ∧ win0_4.index t 2 = 0)
    ∧ (win0_5.index t 0 = 1 + t.val / 8 ∧ win0_5.index t 1 = t.val % 8 ∧ win0_5.index t 2 = 0)
    ∧ (win0_6.index t 0 = 1 + t.val / 8 ∧ win0_6.index t 1 = t.val % 8 ∧ win0_6.index t 2 = 0))

/-- Entry `(r, j)` of block `t` among the later layers, and among all. -/
def at1 (t : Fin cfg0.N) (r : Fin 344) (j : Fin 2048) : S3x2752x2048.Idx :=
  ix3 ⟨t.val / 8, by have := t.isLt; have hN : cfg0.N = 24 := N_0; omega⟩ ⟨t.val % 8 * 344 + r.val, by omega⟩ j
def up (i : S3x2752x2048.Idx) : S4x2752x2048.Idx :=
  ix3 ⟨1 + (i 0).val, by have h : (i 0).val < 3 := (i 0).isLt; omega⟩ (i 1) (i 2)
def at4 (t : Fin cfg0.N) (r : Fin 344) (j : Fin 2048) : S4x2752x2048.Idx := up (at1 t r j)

theorem emb0 (t : Fin cfg0.N) (r : Fin 344) (j : Fin 2048) : (win0_0.blk t).view.emb (ix3 (0 : Fin 1) r j : S1x344x2048.Idx) = at4 t r j := by
  obtain ⟨⟨e0, e1, e2⟩, -⟩ := index t
  funext a; refine Fin.ext ?_
  match a with
  | ⟨0, _⟩ => show win0_0.index t 0 * 1 + 1 * 0 = 1 + t.val / 8; rw [e0]; omega
  | ⟨1, _⟩ => show win0_0.index t 1 * 344 + 1 * r.val = t.val % 8 * 344 + r.val; rw [e1]; omega
  | ⟨2, _⟩ => show win0_0.index t 2 * 2048 + 1 * j.val = j.val; rw [e2]; omega

theorem emb1 (t : Fin cfg0.N) (r : Fin 344) (j : Fin 2048) : (win0_1.blk t).view.emb (ix3 (0 : Fin 1) r j : S1x344x2048.Idx) = at1 t r j := by
  obtain ⟨-, ⟨e0, e1, e2⟩, -⟩ := index t
  funext a; refine Fin.ext ?_
  match a with
  | ⟨0, _⟩ => show win0_1.index t 0 * 1 + 1 * 0 = t.val / 8; rw [e0]; omega
  | ⟨1, _⟩ => show win0_1.index t 1 * 344 + 1 * r.val = t.val % 8 * 344 + r.val; rw [e1]; omega
  | ⟨2, _⟩ => show win0_1.index t 2 * 2048 + 1 * j.val = j.val; rw [e2]; omega

theorem emb2 (t : Fin cfg0.N) (r : Fin 344) (j : Fin 2048) : (win0_2.blk t).view.emb (ix3 (0 : Fin 1) r j : S1x344x2048.Idx) = at4 t r j := by
  obtain ⟨-, -, ⟨e0, e1, e2⟩, -⟩ := index t
  funext a; refine Fin.ext ?_
  match a with
  | ⟨0, _⟩ => show win0_2.index t 0 * 1 + 1 * 0 = 1 + t.val / 8; rw [e0]; omega
  | ⟨1, _⟩ => show win0_2.index t 1 * 344 + 1 * r.val = t.val % 8 * 344 + r.val; rw [e1]; omega
  | ⟨2, _⟩ => show win0_2.index t 2 * 2048 + 1 * j.val = j.val; rw [e2]; omega

theorem emb3 (t : Fin cfg0.N) (r : Fin 344) (j : Fin 2048) : (win0_3.blk t).view.emb (ix3 (0 : Fin 1) r j : S1x344x2048.Idx) = at4 t r j := by
  obtain ⟨-, -, -, ⟨e0, e1, e2⟩, -⟩ := index t
  funext a; refine Fin.ext ?_
  match a with
  | ⟨0, _⟩ => show win0_3.index t 0 * 1 + 1 * 0 = 1 + t.val / 8; rw [e0]; omega
  | ⟨1, _⟩ => show win0_3.index t 1 * 344 + 1 * r.val = t.val % 8 * 344 + r.val; rw [e1]; omega
  | ⟨2, _⟩ => show win0_3.index t 2 * 2048 + 1 * j.val = j.val; rw [e2]; omega

theorem emb4 (t : Fin cfg0.N) (r : Fin 344) (j : Fin 2048) : (win0_4.blk t).view.emb (ix3 (0 : Fin 1) r j : S1x344x2048.Idx) = at4 t r j := by
  obtain ⟨-, -, -, -, ⟨e0, e1, e2⟩, -⟩ := index t
  funext a; refine Fin.ext ?_
  match a with
  | ⟨0, _⟩ => show win0_4.index t 0 * 1 + 1 * 0 = 1 + t.val / 8; rw [e0]; omega
  | ⟨1, _⟩ => show win0_4.index t 1 * 344 + 1 * r.val = t.val % 8 * 344 + r.val; rw [e1]; omega
  | ⟨2, _⟩ => show win0_4.index t 2 * 2048 + 1 * j.val = j.val; rw [e2]; omega

theorem emb5 (t : Fin cfg0.N) (r : Fin 344) (j : Fin 2048) : (win0_5.blk t).view.emb (ix3 (0 : Fin 1) r j : S1x344x2048.Idx) = at4 t r j := by
  obtain ⟨-, -, -, -, -, ⟨e0, e1, e2⟩, -⟩ := index t
  funext a; refine Fin.ext ?_
  match a with
  | ⟨0, _⟩ => show win0_5.index t 0 * 1 + 1 * 0 = 1 + t.val / 8; rw [e0]; omega
  | ⟨1, _⟩ => show win0_5.index t 1 * 344 + 1 * r.val = t.val % 8 * 344 + r.val; rw [e1]; omega
  | ⟨2, _⟩ => show win0_5.index t 2 * 2048 + 1 * j.val = j.val; rw [e2]; omega

theorem emb6 (t : Fin cfg0.N) (r : Fin 344) (j : Fin 2048) : (win0_6.blk t).view.emb (ix3 (0 : Fin 1) r j : S1x344x2048.Idx) = at4 t r j := by
  obtain ⟨-, -, -, -, -, -, e0, e1, e2⟩ := index t
  funext a; refine Fin.ext ?_
  match a with
  | ⟨0, _⟩ => show win0_6.index t 0 * 1 + 1 * 0 = 1 + t.val / 8; rw [e0]; omega
  | ⟨1, _⟩ => show win0_6.index t 1 * 344 + 1 * r.val = t.val % 8 * 344 + r.val; rw [e1]; omega
  | ⟨2, _⟩ => show win0_6.index t 2 * 2048 + 1 * j.val = j.val; rw [e2]; omega

theorem block0 (c : Dev nD) (t : Fin cfg0.N) (r : Fin 344) (j : Fin 2048) :
    (iblk m c 0 t : Vec Ideal S1x344x2048 .f32) (ix3 0 r j) = W m c (at4 t r j) := by
  have e : (iblk m c 0 t : Vec Ideal S1x344x2048 .f32) = (win0_0.blk t).view.read (Elt Ideal) (W m c : Buf (Elt Ideal) ((c : Thread nD τ).loc main_arg0)) :=
    congrArg ((win0_0.blk t).view.read (Elt Ideal)) (V_main_arg0 m c)
  rw [e, View.read_apply, emb0]
  exact cast_eq _ _

theorem block1 (c : Dev nD) (t : Fin cfg0.N) (r : Fin 344) (j : Fin 2048) :
    (iblk m c 1 t : Vec Ideal S1x344x2048 .f32) (ix3 0 r j) = G m c (at1 t r j) := by
  have e : (iblk m c 1 t : Vec Ideal S1x344x2048 .f32) = (win0_1.blk t).view.read (Elt Ideal) (G m c : Buf (Elt Ideal) ((c : Thread nD τ).loc main_arg1)) :=
    congrArg ((win0_1.blk t).view.read (Elt Ideal)) (V_main_arg1 m c)
  rw [e, View.read_apply, emb1]
  exact cast_eq _ _

theorem block2 (c : Dev nD) (t : Fin cfg0.N) (r : Fin 344) (j : Fin 2048) :
    (iblk m c 2 t : Vec Ideal S1x344x2048 .f32) (ix3 0 r j) = U m c (at4 t r j) := by
  have e : (iblk m c 2 t : Vec Ideal S1x344x2048 .f32) = (win0_2.blk t).view.read (Elt Ideal) (U m c : Buf (Elt Ideal) ((c : Thread nD τ).loc main_arg2)) :=
    congrArg ((win0_2.blk t).view.read (Elt Ideal)) (V_main_arg2 m c)
  rw [e, View.read_apply, emb2]
  exact cast_eq _ _

theorem block3 (c : Dev nD) (t : Fin cfg0.N) (r : Fin 344) (j : Fin 2048) :
    (iblk m c 3 t : Vec Ideal S1x344x2048 .f32) (ix3 0 r j) = Q m c (at4 t r j) := by
  have e : (iblk m c 3 t : Vec Ideal S1x344x2048 .f32) = (win0_3.blk t).view.read (Elt Ideal) (Q m c : Buf (Elt Ideal) ((c : Thread nD τ).loc main_arg3)) :=
    congrArg ((win0_3.blk t).view.read (Elt Ideal)) (V_main_arg3 m c)
  rw [e, View.read_apply, emb3]
  exact cast_eq _ _

/-! ## The results -/

def delta (c : Dev nD) : Vec Ideal S3x2752x2048 .f32 := fun i => (delta' (W m c (up i)) (G m c i) (U m c (up i)) (Q m c (up i)) : EReal)
def mean (c : Dev nD) : Vec Ideal S3x2752x2048 .f32 := fun i => (mean' (G m c i) (U m c (up i)) : EReal)
def square (c : Dev nD) : Vec Ideal S3x2752x2048 .f32 := fun i => (square' (G m c i) (Q m c (up i)) : EReal)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne ((by decide +kernel : ∀ t t' : Fin grid0.N, win0_4.index t = win0_4.index t' → t = t') t t' h)

theorem at4_eq (c : Dev nD) (t : Fin cfg0.N) (r : Fin 344) (j : Fin 2048) : (dats m 0 c).arrAt 4 cfg0.N (at4 t r j) = delta m c (at1 t r j) := by
  have h := congrFun ((dats m 0 c).read_blk_arrAt_eq_flushed 4 disjoint4 cfg0.N t t.isLt (flush0_4 t)) (ix3 (0 : Fin 1) r j : S1x344x2048.Idx)
  have e : (win0_4.blk t).view.read (Elt Ideal) ((dats m 0 c).arrAt 4 cfg0.N) (ix3 (0 : Fin 1) r j : S1x344x2048.Idx)
      = (dats m 0 c).arrAt 4 cfg0.N (at4 t r j) := by
    rw [View.read_apply, emb4]; exact cast_eq _ _
  refine e.symm.trans (h.trans ?_)
  have f : (dats m 0 c).flushed 4 t = (cfg0.win 4).cut (grid0.coords t) (out0_4 (iblk m c 0 t) (iblk m c 1 t) (iblk m c 2 t) (iblk m c 3 t)) := by
    show (cfg0.win 4).cut (grid0.coords t) ((dats m 0 c).after 4 t) = _
    rw [after0_4]
  rw [f]
  refine Eq.trans (b := out0_4 (iblk m c 0 t) (iblk m c 1 t) (iblk m c 2 t) (iblk m c 3 t) (ix3 0 r j)) rfl ?_
  rw [out4]
  rw [block0, block1, block2, block3]
  rfl

theorem final4 (c : Dev nD) (i : S3x2752x2048.Idx) : (dats m 0 c).arrAt 4 cfg0.N (up i) = delta m c i := by
  have h0 : (i 0).val < 3 := (i 0).isLt
  have h1 : (i 1).val < 2752 := (i 1).isLt
  have e : i = at1 ⟨(i 0).val * 8 + (i 1).val / 344, by have hN : cfg0.N = 24 := N_0; omega⟩ ⟨(i 1).val % 344, by omega⟩ (i 2) := by
    funext a; refine Fin.ext ?_
    match a with
    | ⟨0, _⟩ => show (i 0).val = ((i 0).val * 8 + (i 1).val / 344) / 8; omega
    | ⟨1, _⟩ => show (i 1).val = ((i 0).val * 8 + (i 1).val / 344) % 8 * 344 + (i 1).val % 344; omega
    | ⟨2, _⟩ => rfl
  rw [e]; exact at4_eq m c _ _ _

/-- What the last lines take of the array. -/
theorem tail4 (c : Dev nD) : (Pipeline.afterTail₀ cfgs (dats m) 0 (V0 m) [hostOps1] c main_v1 : Vec Ideal S3x2752x2048 .f32) = delta m c := by
  have e : (Pipeline.afterTail₀ cfgs (dats m) 0 (V0 m) [hostOps1] c main_v1 : Vec Ideal S3x2752x2048 .f32)
      = extractStridedSlice S3x2752x2048 ![1, 0, 0] ((dats m 0 c).arrAt 4 cfg0.N) slices_S4x2752x2048_S3x2752x2048_1_0_0 := by
    refine Eq.trans ?_ (congrArg (fun x : Vec Ideal S4x2752x2048 .f32 => extractStridedSlice S3x2752x2048 ![1, 0, 0] x slices_S4x2752x2048_S3x2752x2048_1_0_0)
      (Pipeline.withArrays_arr cfg0.spec launch0.win.arr_inj c (V0 m c) (fun w => (dats m 0 c).arrAt w cfg0.N) 4))
    show StableHlo.after hostOps1 (Pipeline.withArrays cfg0.spec c (V0 m c) fun w => (dats m 0 c).arrAt w cfg0.N) (Proc.devRef .tc main_v1) = _
    simp only [hostOps1, StableHlo.unary]
    after_results <;> rfl
  funext (i : S3x2752x2048.Idx)
  rw [e]
  refine (extractStridedSlice_apply ![1, 0, 0] _ slices_S4x2752x2048_S3x2752x2048_1_0_0 i (up i) fun a => ?_).trans (final4 m c i)
  match a with
  | ⟨0, _⟩ => rfl
  | ⟨1, _⟩ => show (i 1).val = 0 + (i 1).val; omega
  | ⟨2, _⟩ => show (i 2).val = 0 + (i 2).val; omega

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne ((by decide +kernel : ∀ t t' : Fin grid0.N, win0_5.index t = win0_5.index t' → t = t') t t' h)

theorem at5_eq (c : Dev nD) (t : Fin cfg0.N) (r : Fin 344) (j : Fin 2048) : (dats m 0 c).arrAt 5 cfg0.N (at4 t r j) = mean m c (at1 t r j) := by
  have h := congrFun ((dats m 0 c).read_blk_arrAt_eq_flushed 5 disjoint5 cfg0.N t t.isLt (flush0_5 t)) (ix3 (0 : Fin 1) r j : S1x344x2048.Idx)
  have e : (win0_5.blk t).view.read (Elt Ideal) ((dats m 0 c).arrAt 5 cfg0.N) (ix3 (0 : Fin 1) r j : S1x344x2048.Idx)
      = (dats m 0 c).arrAt 5 cfg0.N (at4 t r j) := by
    rw [View.read_apply, emb5]; exact cast_eq _ _
  refine e.symm.trans (h.trans ?_)
  have f : (dats m 0 c).flushed 5 t = (cfg0.win 5).cut (grid0.coords t) (out0_5 (iblk m c 0 t) (iblk m c 1 t) (iblk m c 2 t) (iblk m c 3 t)) := by
    show (cfg0.win 5).cut (grid0.coords t) ((dats m 0 c).after 5 t) = _
    rw [after0_5]
  rw [f]
  refine Eq.trans (b := out0_5 (iblk m c 0 t) (iblk m c 1 t) (iblk m c 2 t) (iblk m c 3 t) (ix3 0 r j)) rfl ?_
  rw [out5]
  rw [block1, block2]
  rfl

theorem final5 (c : Dev nD) (i : S3x2752x2048.Idx) : (dats m 0 c).arrAt 5 cfg0.N (up i) = mean m c i := by
  have h0 : (i 0).val < 3 := (i 0).isLt
  have h1 : (i 1).val < 2752 := (i 1).isLt
  have e : i = at1 ⟨(i 0).val * 8 + (i 1).val / 344, by have hN : cfg0.N = 24 := N_0; omega⟩ ⟨(i 1).val % 344, by omega⟩ (i 2) := by
    funext a; refine Fin.ext ?_
    match a with
    | ⟨0, _⟩ => show (i 0).val = ((i 0).val * 8 + (i 1).val / 344) / 8; omega
    | ⟨1, _⟩ => show (i 1).val = ((i 0).val * 8 + (i 1).val / 344) % 8 * 344 + (i 1).val % 344; omega
    | ⟨2, _⟩ => rfl
  rw [e]; exact at5_eq m c _ _ _

/-- What the last lines take of the array. -/
theorem tail5 (c : Dev nD) : (Pipeline.afterTail₀ cfgs (dats m) 0 (V0 m) [hostOps1] c main_v2 : Vec Ideal S3x2752x2048 .f32) = mean m c := by
  have e : (Pipeline.afterTail₀ cfgs (dats m) 0 (V0 m) [hostOps1] c main_v2 : Vec Ideal S3x2752x2048 .f32)
      = extractStridedSlice S3x2752x2048 ![1, 0, 0] ((dats m 0 c).arrAt 5 cfg0.N) slices_S4x2752x2048_S3x2752x2048_1_0_0 := by
    refine Eq.trans ?_ (congrArg (fun x : Vec Ideal S4x2752x2048 .f32 => extractStridedSlice S3x2752x2048 ![1, 0, 0] x slices_S4x2752x2048_S3x2752x2048_1_0_0)
      (Pipeline.withArrays_arr cfg0.spec launch0.win.arr_inj c (V0 m c) (fun w => (dats m 0 c).arrAt w cfg0.N) 5))
    show StableHlo.after hostOps1 (Pipeline.withArrays cfg0.spec c (V0 m c) fun w => (dats m 0 c).arrAt w cfg0.N) (Proc.devRef .tc main_v2) = _
    simp only [hostOps1, StableHlo.unary]
    after_results <;> rfl
  funext (i : S3x2752x2048.Idx)
  rw [e]
  refine (extractStridedSlice_apply ![1, 0, 0] _ slices_S4x2752x2048_S3x2752x2048_1_0_0 i (up i) fun a => ?_).trans (final5 m c i)
  match a with
  | ⟨0, _⟩ => rfl
  | ⟨1, _⟩ => show (i 1).val = 0 + (i 1).val; omega
  | ⟨2, _⟩ => show (i 2).val = 0 + (i 2).val; omega

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne ((by decide +kernel : ∀ t t' : Fin grid0.N, win0_6.index t = win0_6.index t' → t = t') t t' h)

theorem at6_eq (c : Dev nD) (t : Fin cfg0.N) (r : Fin 344) (j : Fin 2048) : (dats m 0 c).arrAt 6 cfg0.N (at4 t r j) = square m c (at1 t r j) := by
  have h := congrFun ((dats m 0 c).read_blk_arrAt_eq_flushed 6 disjoint6 cfg0.N t t.isLt (flush0_6 t)) (ix3 (0 : Fin 1) r j : S1x344x2048.Idx)
  have e : (win0_6.blk t).view.read (Elt Ideal) ((dats m 0 c).arrAt 6 cfg0.N) (ix3 (0 : Fin 1) r j : S1x344x2048.Idx)
      = (dats m 0 c).arrAt 6 cfg0.N (at4 t r j) := by
    rw [View.read_apply, emb6]; exact cast_eq _ _
  refine e.symm.trans (h.trans ?_)
  have f : (dats m 0 c).flushed 6 t = (cfg0.win 6).cut (grid0.coords t) (out0_6 (iblk m c 0 t) (iblk m c 1 t) (iblk m c 2 t) (iblk m c 3 t)) := by
    show (cfg0.win 6).cut (grid0.coords t) ((dats m 0 c).after 6 t) = _
    rw [after0_6]
  rw [f]
  refine Eq.trans (b := out0_6 (iblk m c 0 t) (iblk m c 1 t) (iblk m c 2 t) (iblk m c 3 t) (ix3 0 r j)) rfl ?_
  rw [out6]
  rw [block1, block3]
  rfl

theorem final6 (c : Dev nD) (i : S3x2752x2048.Idx) : (dats m 0 c).arrAt 6 cfg0.N (up i) = square m c i := by
  have h0 : (i 0).val < 3 := (i 0).isLt
  have h1 : (i 1).val < 2752 := (i 1).isLt
  have e : i = at1 ⟨(i 0).val * 8 + (i 1).val / 344, by have hN : cfg0.N = 24 := N_0; omega⟩ ⟨(i 1).val % 344, by omega⟩ (i 2) := by
    funext a; refine Fin.ext ?_
    match a with
    | ⟨0, _⟩ => show (i 0).val = ((i 0).val * 8 + (i 1).val / 344) / 8; omega
    | ⟨1, _⟩ => show (i 1).val = ((i 0).val * 8 + (i 1).val / 344) % 8 * 344 + (i 1).val % 344; omega
    | ⟨2, _⟩ => rfl
  rw [e]; exact at6_eq m c _ _ _

/-- What the last lines take of the array. -/
theorem tail6 (c : Dev nD) : (Pipeline.afterTail₀ cfgs (dats m) 0 (V0 m) [hostOps1] c main_v3 : Vec Ideal S3x2752x2048 .f32) = square m c := by
  have e : (Pipeline.afterTail₀ cfgs (dats m) 0 (V0 m) [hostOps1] c main_v3 : Vec Ideal S3x2752x2048 .f32)
      = extractStridedSlice S3x2752x2048 ![1, 0, 0] ((dats m 0 c).arrAt 6 cfg0.N) slices_S4x2752x2048_S3x2752x2048_1_0_0 := by
    refine Eq.trans ?_ (congrArg (fun x : Vec Ideal S4x2752x2048 .f32 => extractStridedSlice S3x2752x2048 ![1, 0, 0] x slices_S4x2752x2048_S3x2752x2048_1_0_0)
      (Pipeline.withArrays_arr cfg0.spec launch0.win.arr_inj c (V0 m c) (fun w => (dats m 0 c).arrAt w cfg0.N) 6))
    show StableHlo.after hostOps1 (Pipeline.withArrays cfg0.spec c (V0 m c) fun w => (dats m 0 c).arrAt w cfg0.N) (Proc.devRef .tc main_v3) = _
    simp only [hostOps1, StableHlo.unary]
    after_results <;> rfl
  funext (i : S3x2752x2048.Idx)
  rw [e]
  refine (extractStridedSlice_apply ![1, 0, 0] _ slices_S4x2752x2048_S3x2752x2048_1_0_0 i (up i) fun a => ?_).trans (final6 m c i)
  match a with
  | ⟨0, _⟩ => rfl
  | ⟨1, _⟩ => show (i 1).val = 0 + (i 1).val; omega
  | ⟨2, _⟩ => show (i 2).val = 0 + (i 2).val; omega

/-! ## The reference -/

section Reference
open Cert.ReferenceAdamwUpLateIdeal.Read

variable (c : Dev nD)

theorem idx0_eq (i : S3x2752x2048.Idx) : idx_main_v0 i = up i := by
  funext a; refine Fin.ext ?_
  match a with
  | ⟨0, _⟩ => rfl
  | ⟨1, _⟩ => rfl
  | ⟨2, _⟩ => rfl

theorem mean_at (i : S3x2752x2048.Idx) : val_main_v7 (F := Ideal) (G m c) (U m c) i = mean m c i := by
  rw [val_main_v7_apply, val_main_v4_apply, val_main_v6_apply, val_main_v1_apply]
  unfold mean; rw [← idx0_eq]
  rfl

theorem square_at (i : S3x2752x2048.Idx) : val_main_v13 (F := Ideal) (G m c) (Q m c) i = square m c i := by
  rw [val_main_v13_apply, val_main_v9_apply, val_main_v12_apply, val_main_v10_apply, val_main_v2_apply]
  unfold square; rw [← idx0_eq]
  rfl

theorem delta_at (i : S3x2752x2048.Idx) : val_main_v26 (F := Ideal) (W m c) (G m c) (U m c) (Q m c) i = delta m c i := by
  rw [val_main_v26_apply, val_main_v24_apply, val_main_v21_apply, val_main_v15_apply, val_main_v20_apply, val_main_v18_apply, val_main_v17_apply,
    val_main_v23_apply, val_main_v0_apply, mean_at, square_at, idx0_eq]
  rfl

end Reference

theorem algebraic : Cert.algebraic_KernelAdamwUpLateIdeal_ReferenceAdamwUpLateIdeal := by
  intro m ρ m' ρ' _ hagree
  refine ⟨fun c => delta m c, fun c => mean m c, fun c => square m c, (θ_run defs _ _).mono (fun _ h c =>
    ⟨((h c).2 main_v1 (by decide)).trans (tail4 m c), ((h c).2 main_v2 (by decide)).trans (tail5 m c), ((h c).2 main_v3 (by decide)).trans (tail6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ), ?_⟩
  refine (θ_run Cert.ReferenceAdamwUpLateIdeal.defs _ _).mono (fun _ h c => ?_) (Cert.ReferenceAdamwUpLateIdeal.Value.run (F := Ideal) m' ρ')
  obtain ⟨a0, a1, a2, a3⟩ := hagree c
  obtain ⟨h0, h1, h2, ht⟩ := h c
  refine ⟨h0.trans ?_, h1.trans ?_, h2.trans ?_, ht⟩
  · refine (Cert.ReferenceAdamwUpLateIdeal.Read.val_main_v26_eq _ _ _ _).trans ?_
    rw [a0, a1, a2, a3]
    exact funext (delta_at m c)
  · refine (Cert.ReferenceAdamwUpLateIdeal.Read.val_main_v7_eq _ _).trans ?_
    rw [a1, a2]
    exact funext (mean_at m c)
  · refine (Cert.ReferenceAdamwUpLateIdeal.Read.val_main_v13_eq _ _).trans ?_
    rw [a1, a3]
    exact funext (square_at m c)

end Cert.AdamwUpLate

end
-- ==== Proof.AttnRun.lean ====
module

public import proofs.«01_k».proof.Proof.Gen.KernelIdeal.Skeleton
public import proofs.«01_k».proof.Proof.Gen.KernelIdeal.Frame

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body first clears its running outputs. -/
abbrev cond0_0 (i : grid0.Coords) : Prop :=
  Scalar.cmpi .ne (Scalar.extui (Scalar.cmpi .eq (BitVec.ofNat 32 (i 0).val) 0#32) : BitVec 32) 0#32 = 1#1

/-- The pieces a body writes into its five outputs. -/
abbrev Pieces (F : FTy → Type) := List (View.Piece (Elt F) S128x1024 .bf16) × List (View.Piece (Elt F) S256x4352 .f32) × List (View.Piece (Elt F) S256x4352 .f32) × List (View.Piece (Elt F) S16x128x384 .f32) × List (View.Piece (Elt F) S1x16 .f32)

set_option maxHeartbeats 4000000 in
/-- The body's run where `cond0_0 i`: the inputs' buffers as they were, each output's with its pieces written over what it held. -/
def runFirst (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S16x128x384 .f32) (harg9 : arg9.IsWhole) (arg10 : Memref sig .tc .vmem S1x16 .f32) (harg10 : arg10.IsWhole) (arg11 : Memref sig .tc .vmem S16x128x384 .f32) (harg11 : arg11.IsWhole) (arg12 : Memref sig .tc .vmem S128x1024 .bf16) (harg12 : arg12.IsWhole) (arg13 : Memref sig .tc .vmem S256x4352 .f32) (harg13 : arg13.IsWhole) (arg14 : Memref sig .tc .vmem S256x4352 .f32) (harg14 : arg14.IsWhole) (arg15 : Memref sig .tc .vmem S16x128x384 .f32) (harg15 : arg15.IsWhole) (arg16 : Memref sig .tc .smem S1x16 .f32) (harg16 : arg16.IsWhole) (hc0 : cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S16x128x384 .f32) (x9 : Vec F S1x16 .f32) (x10 : Vec F S16x128x384 .f32)  :
    { L : Pieces F //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ f, arg12.view.loc (c : Thread nD τ) ↦[arg12.view.set]{fullShare} arg12.view.writes (Elt F) f L.1)
            ∗ (arg13.view.loc (c : Thread nD τ) ↦[arg13.view.set]{fullShare} arg13.view.writes (Elt F) arg13.view.junk L.2.1)
            ∗ (arg14.view.loc (c : Thread nD τ) ↦[arg14.view.set]{fullShare} arg14.view.writes (Elt F) arg14.view.junk L.2.2.1)
            ∗ (∃ f, arg15.view.loc (c : Thread nD τ) ↦[arg15.view.set]{fullShare} arg15.view.writes (Elt F) f L.2.2.2.1)
            ∗ (∃ f, arg16.view.loc (c : Thread nD τ) ↦[arg16.view.set]{fullShare} arg16.view.writes (Elt F) f L.2.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_, ?_⟩, fun E K => ?run⟩
  case run =>
    simp only [cc0_attn_bwd_eq_skeleton]; unfold cc0_attn_bwd_skel
    simp only [k0_part16_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexact H12
    isplitl [H13]
    · iexact H13
    isplitl [H14]
    · iexists _; iexact H14
    iexists _; iexact H15

set_option maxHeartbeats 4000000 in
/-- The body's run where `¬cond0_0 i`: the inputs' buffers as they were, each output's with its pieces written over what it held. -/
def runLater (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S16x128x384 .f32) (harg9 : arg9.IsWhole) (arg10 : Memref sig .tc .vmem S1x16 .f32) (harg10 : arg10.IsWhole) (arg11 : Memref sig .tc .vmem S16x128x384 .f32) (harg11 : arg11.IsWhole) (arg12 : Memref sig .tc .vmem S128x1024 .bf16) (harg12 : arg12.IsWhole) (arg13 : Memref sig .tc .vmem S256x4352 .f32) (harg13 : arg13.IsWhole) (arg14 : Memref sig .tc .vmem S256x4352 .f32) (harg14 : arg14.IsWhole) (arg15 : Memref sig .tc .vmem S16x128x384 .f32) (harg15 : arg15.IsWhole) (arg16 : Memref sig .tc .smem S1x16 .f32) (harg16 : arg16.IsWhole) (hc0 : ¬cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S16x128x384 .f32) (x9 : Vec F S1x16 .f32) (x10 : Vec F S16x128x384 .f32) (x12 : Vec F S256x4352 .f32) (x13 : Vec F S256x4352 .f32) (x14 : Vec F S16x128x384 .f32) (x15 : Vec F S1x16 .f32) :
    { L : Pieces F //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ d, owns (c : Thread nD τ) arg12 fullShare d)
            ∗ owns (c : Thread nD τ) arg13 fullShare x12
            ∗ owns (c : Thread nD τ) arg14 fullShare x13
            ∗ owns (c : Thread nD τ) arg15 fullShare x14
            ∗ owns (c : Thread nD τ) arg16 fullShare x15
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ f, arg12.view.loc (c : Thread nD τ) ↦[arg12.view.set]{fullShare} arg12.view.writes (Elt F) f L.1)
            ∗ (arg13.view.loc (c : Thread nD τ) ↦[arg13.view.set]{fullShare} arg13.view.writes (Elt F) (harg13.unread x12) L.2.1)
            ∗ (arg14.view.loc (c : Thread nD τ) ↦[arg14.view.set]{fullShare} arg14.view.writes (Elt F) (harg14.unread x13) L.2.2.1)
            ∗ (arg15.view.loc (c : Thread nD τ) ↦[arg15.view.set]{fullShare} arg15.view.writes (Elt F) (harg15.unread x14) L.2.2.2.1)
            ∗ (arg16.view.loc (c : Thread nD τ) ↦[arg16.view.set]{fullShare} arg16.view.writes (Elt F) (harg16.unread x15) L.2.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_, ?_⟩, fun E K => ?run⟩
  case run =>
    simp only [cc0_attn_bwd_eq_skeleton]; unfold cc0_attn_bwd_skel
    simp only [k0_part16_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexact H12
    isplitl [H13]
    · iexact H13
    isplitl [H14]
    · iexact H14
    iexact H15

end Cert.KernelIdeal.Attn

end
-- ==== Proof.AttnFrame.lean ====
module

public import proofs.«01_k».proof.Proof.AttnRun
public import Idealize.ShloMosaic.Lib.Claim
public import Idealize.ShloMosaic.Lib.Ring
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The running outputs are cleared at the first point, and nowhere else. -/
theorem hcond0_0 : ∀ t : Fin cfg0.N, cond0_0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have h32 : t.val = 0 ↔ t.val % 32 = 0 := by omega
    rw [h32]
    simp only [cond0_0, e0]
    word_cmp
   : ∀ t : Fin grid0.N, cond0_0 (grid0.coords t) ↔ t.val = 0)

/-! ## The staging memrefs of a point -/

abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x128x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x128x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x4352 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x4352 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x128x384 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .smem S1x16 .f32 := win0_15.stage (cfg0.slots t 15)
abbrev hs0_15 (t : Fin cfg0.N) : (ms0_15 t).IsWhole := hstage0_15 ((cfg0.slots t 15).cast nbuf0_15)

/-! ## What the outputs hold after each point -/

/-- The pieces of the first point. -/
abbrev first (c : Dev nD) (t : Fin cfg0.N) (h : t.val = 0) : Pieces F :=
  (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h) (X0_0 m c t) (iblk m c 1 t) (iblk m c 2 t) (iblk m c 3 t) (iblk m c 4 t) (iblk m c 5 t) (iblk m c 6 t) (iblk m c 7 t) (iblk m c 8 t) (iblk m c 9 t) (iblk m c 10 t)).1

/-- The pieces of a later point, from what the running outputs hold. -/
abbrev later (c : Dev nD) (t : Fin cfg0.N) (h : ¬t.val = 0) (x12 x13 : Vec F S256x4352 .f32) (x14 : Vec F S16x128x384 .f32)
    (x15 : Vec F S1x16 .f32) : Pieces F :=
  (runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun e => h ((hcond0_0 t).mp e)) (X0_0 m c t) (iblk m c 1 t) (iblk m c 2 t) (iblk m c 3 t) (iblk m c 4 t) (iblk m c 5 t) (iblk m c 6 t) (iblk m c 7 t) (iblk m c 8 t) (iblk m c 9 t) (iblk m c 10 t) x12 x13 x14 x15).1

/-- The five outputs' contents. -/
structure Outs (F : FTy → Type) where
  dq : Vec F S128x1024 .bf16
  dk : Vec F S256x4352 .f32
  dv : Vec F S256x4352 .f32
  db : Vec F S16x128x384 .f32
  ds : Vec F S1x16 .f32

/-- The outputs after the first point: the pieces written. -/
def outsFirst (c : Dev nD) (t : Fin cfg0.N) (h : t.val = 0) : Outs F where
  dq := View.canon (first m c t h).1
  dk := View.canon (first m c t h).2.1
  dv := View.canon (first m c t h).2.2.1
  db := View.canon (first m c t h).2.2.2.1
  ds := View.canon (first m c t h).2.2.2.2

/-- The outputs after a later point: the pieces written over what the running outputs held. -/
def outsLater (c : Dev nD) (t : Fin cfg0.N) (h : ¬t.val = 0) (x : Outs F) : Outs F where
  dq := View.canon (later m c t h x.dk x.dv x.db x.ds).1
  dk := (ms0_12 t).view.read (Elt F) ((ms0_12 t).view.writes (Elt F) ((hs0_12 t).unread x.dk) (later m c t h x.dk x.dv x.db x.ds).2.1)
  dv := (ms0_13 t).view.read (Elt F) ((ms0_13 t).view.writes (Elt F) ((hs0_13 t).unread x.dv) (later m c t h x.dk x.dv x.db x.ds).2.2.1)
  db := (ms0_14 t).view.read (Elt F) ((ms0_14 t).view.writes (Elt F) ((hs0_14 t).unread x.db) (later m c t h x.dk x.dv x.db x.ds).2.2.2.1)
  ds := (ms0_15 t).view.read (Elt F) ((ms0_15 t).view.writes (Elt F) ((hs0_15 t).unread x.ds) (later m c t h x.dk x.dv x.db x.ds).2.2.2.2)

/-- The outputs after point `n`. -/
def outsAt (c : Dev nD) : (n : ℕ) → n < cfg0.N → Outs F
  | 0, hn => outsFirst m c ⟨0, hn⟩ rfl
  | n + 1, hn => outsLater m c ⟨n + 1, hn⟩ (Nat.succ_ne_zero n) (outsAt c n (Nat.lt_of_succ_lt hn))

/-- The outputs before a later point. -/
abbrev prior (c : Dev nD) (t : Fin cfg0.N) : Outs F := outsAt m c (t.val - 1) (Nat.lt_of_le_of_lt (Nat.sub_le _ _) t.isLt)

theorem outsAt_first (c : Dev nD) (t : Fin cfg0.N) (h : t.val = 0) : outsAt m c t.val t.isLt = outsFirst m c t h := by
  obtain ⟨n, hn⟩ := t
  cases n with
  | zero => rfl
  | succ n => exact absurd h (Nat.succ_ne_zero n)

theorem outsAt_later (c : Dev nD) (t : Fin cfg0.N) (h : ¬t.val = 0) : outsAt m c t.val t.isLt = outsLater m c t h (prior m c t) := by
  obtain ⟨n, hn⟩ := t
  cases n with
  | zero => exact absurd rfl h
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).dq
    | ⟨12, _⟩ => (outsAt m c t.val t.isLt).dk
    | ⟨13, _⟩ => (outsAt m c t.val t.isLt).dv
    | ⟨14, _⟩ => (outsAt m c t.val t.isLt).db
    | ⟨15, _⟩ => (outsAt m c t.val t.isLt).ds
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt m c t.val t.isLt).dq := by dsimp only [dats]
theorem after0_12 (c : Dev nD) (t : Fin cfg0.N) : (dats m 0 c).after 12 t = (outsAt m c t.val t.isLt).dk := by dsimp only [dats]
theorem after0_13 (c : Dev nD) (t : Fin cfg0.N) : (dats m 0 c).after 13 t = (outsAt m c t.val t.isLt).dv := by dsimp only [dats]
theorem after0_14 (c : Dev nD) (t : Fin cfg0.N) : (dats m 0 c).after 14 t = (outsAt m c t.val t.isLt).db := by dsimp only [dats]
theorem after0_15 (c : Dev nD) (t : Fin cfg0.N) : (dats m 0 c).after 15 t = (outsAt m c t.val t.isLt).ds := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- A running output's buffer is fresh at the first point only. -/
def freshTab : ℕ → Bool
  | 0 => true
  | n + 1 => decide (n % 32 = 31)

theorem freshTab_step12 : ∀ t : Fin cfg0.N,
    freshTab (t.val + 1) = ((cfg0.win 12).flush t || (cfg0.idle 12 (cfg0.grid.coords t) && freshTab t.val)) := by decide +kernel

theorem before0_12 (c : Dev nD) (t : Fin cfg0.N) (h : ¬t.val = 0) (d) : (dats m 0 c).before 12 t d = (prior m c t).dk := by
  have hN : t.val < 32 := lt_of_lt_of_eq t.isLt (show cfg0.N = 32 from N_0)
  have hf : cfg0.fresh 12 t.val = false := by
    rw [Pipeline.Cfg.fresh_tab cfg0 12 freshTab rfl freshTab_step12 t.val (Nat.le_of_lt t.isLt)]
    obtain ⟨n, hn⟩ := t
    cases n with
    | zero => exact absurd rfl h
    | succ n => exact decide_eq_false (by dsimp only at hN; omega)
  rw [Dat.before_out_traj _ 12 rfl (fun _ _ => rfl) (fun t _ hi _ => absurd (show cfg0.idle 12 (grid0.coords t) = true from hi) Bool.false_ne_true) t.val t rfl d,
    if_neg (by rw [hf]; exact Bool.false_ne_true)]
  dsimp only [dats]

theorem freshTab_step13 : ∀ t : Fin cfg0.N,
    freshTab (t.val + 1) = ((cfg0.win 13).flush t || (cfg0.idle 13 (cfg0.grid.coords t) && freshTab t.val)) := by decide +kernel

theorem before0_13 (c : Dev nD) (t : Fin cfg0.N) (h : ¬t.val = 0) (d) : (dats m 0 c).before 13 t d = (prior m c t).dv := by
  have hN : t.val < 32 := lt_of_lt_of_eq t.isLt (show cfg0.N = 32 from N_0)
  have hf : cfg0.fresh 13 t.val = false := by
    rw [Pipeline.Cfg.fresh_tab cfg0 13 freshTab rfl freshTab_step13 t.val (Nat.le_of_lt t.isLt)]
    obtain ⟨n, hn⟩ := t
    cases n with
    | zero => exact absurd rfl h
    | succ n => exact decide_eq_false (by dsimp only at hN; omega)
  rw [Dat.before_out_traj _ 13 rfl (fun _ _ => rfl) (fun t _ hi _ => absurd (show cfg0.idle 13 (grid0.coords t) = true from hi) Bool.false_ne_true) t.val t rfl d,
    if_neg (by rw [hf]; exact Bool.false_ne_true)]
  dsimp only [dats]

theorem freshTab_step14 : ∀ t : Fin cfg0.N,
    freshTab (t.val + 1) = ((cfg0.win 14).flush t || (cfg0.idle 14 (cfg0.grid.coords t) && freshTab t.val)) := by decide +kernel

theorem before0_14 (c : Dev nD) (t : Fin cfg0.N) (h : ¬t.val = 0) (d) : (dats m 0 c).before 14 t d = (prior m c t).db := by
  have hN : t.val < 32 := lt_of_lt_of_eq t.isLt (show cfg0.N = 32 from N_0)
  have hf : cfg0.fresh 14 t.val = false := by
    rw [Pipeline.Cfg.fresh_tab cfg0 14 freshTab rfl freshTab_step14 t.val (Nat.le_of_lt t.isLt)]
    obtain ⟨n, hn⟩ := t
    cases n with
    | zero => exact absurd rfl h
    | succ n => exact decide_eq_false (by dsimp only at hN; omega)
  rw [Dat.before_out_traj _ 14 rfl (fun _ _ => rfl) (fun t _ hi _ => absurd (show cfg0.idle 14 (grid0.coords t) = true from hi) Bool.false_ne_true) t.val t rfl d,
    if_neg (by rw [hf]; exact Bool.false_ne_true)]
  dsimp only [dats]

theorem freshTab_step15 : ∀ t : Fin cfg0.N,
    freshTab (t.val + 1) = ((cfg0.win 15).flush t || (cfg0.idle 15 (cfg0.grid.coords t) && freshTab t.val)) := by decide +kernel

theorem before0_15 (c : Dev nD) (t : Fin cfg0.N) (h : ¬t.val = 0) (d) : (dats m 0 c).before 15 t d = (prior m c t).ds := by
  have hN : t.val < 32 := lt_of_lt_of_eq t.isLt (show cfg0.N = 32 from N_0)
  have hf : cfg0.fresh 15 t.val = false := by
    rw [Pipeline.Cfg.fresh_tab cfg0 15 freshTab rfl freshTab_step15 t.val (Nat.le_of_lt t.isLt)]
    obtain ⟨n, hn⟩ := t
    cases n with
    | zero => exact absurd rfl h
    | succ n => exact decide_eq_false (by dsimp only at hN; omega)
  rw [Dat.before_out_traj _ 15 rfl (fun _ _ => rfl) (fun t _ hi _ => absurd (show cfg0.idle 15 (grid0.coords t) = true from hi) Bool.false_ne_true) t.val t rfl d,
    if_neg (by rw [hf]; exact Bool.false_ne_true)]
  dsimp only [dats]

/-! ## The pieces cover what is stated without a base -/

theorem cover_first_dq (c : Dev nD) (t : Fin cfg0.N) (h : t.val = 0) : ∀ y, ∃ p ∈ (first m c t h).1, y ∈ p.1.set := fun y =>
  View.cover_of_tiledL (first m c t h).1 S128x256.size (by sl_kernel_rfl) y
theorem cover_later_dq (c : Dev nD) (t : Fin cfg0.N) (h : ¬t.val = 0) (x12 x13 x14 x15) :
    ∀ y, ∃ p ∈ (later m c t h x12 x13 x14 x15).1, y ∈ p.1.set := fun y =>
  View.cover_of_tiledL (later m c t h x12 x13 x14 x15).1 S128x256.size (by sl_kernel_rfl) y
theorem cover_first_db (c : Dev nD) (t : Fin cfg0.N) (h : t.val = 0) : ∀ y, ∃ p ∈ (first m c t h).2.2.2.1, y ∈ p.1.set := fun y =>
  View.cover_of_tiledL (first m c t h).2.2.2.1 S4x128x384.size (by sl_kernel_rfl) y
theorem cover_first_ds (c : Dev nD) (t : Fin cfg0.N) (h : t.val = 0) : ∀ y, ∃ p ∈ (first m c t h).2.2.2.2, y ∈ p.1.set := fun y =>
  View.cover_of_tiledL (first m c t h).2.2.2.2 ![1, 1] (by sl_kernel_rfl) y

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  by_cases h0 : t.val = 0
  · rw [outsAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runFirst c (grid0.coords t) _ _ _ _ _ _ _ _ _ _ _ _ _ _ _ _ _ _ _ _ _ _ _ _ _ _ _ _ _ _ _ _ ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, H8, H9, H10, ⟨%e11, H11⟩, H12, H13, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr; swap; · iexact H11
      ipureintro; exact View.read_writes_eq_canon _ _ _ (cover_first_dq m c t h0)
    isplitl [H12]
    · unfold owns; iexists _; isplitr; swap; · iexact H12
      ipureintro; exact View.read_writes_junk_eq_canon _ _
    isplitl [H13]
    · unfold owns; iexists _; isplitr; swap; · iexact H13
      ipureintro; exact View.read_writes_junk_eq_canon _ _
    isplitl [H14]
    · unfold owns; iexists _; isplitr; swap; · iexact H14
      ipureintro; exact View.read_writes_eq_canon _ _ _ (cover_first_db m c t h0)
    · unfold owns; iexists _; isplitr; swap; · iexact H15
      ipureintro; exact View.read_writes_eq_canon _ _ _ (cover_first_ds m c t h0)
  · rw [outsAt_later m c t h0]
    simp only [before0_12 m c t h0, before0_13 m c t h0, before0_14 m c t h0, before0_15 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runLater c (grid0.coords t) _ _ _ _ _ _ _ _ _ _ _ _ _ _ _ _ _ _ _ _ _ _ _ _ _ _ _ _ _ _ _ _ (fun e => h0 ((hcond0_0 t).mp e)) (X0_0 m c t) (iblk m c 1 t) (iblk m c 2 t) (iblk m c 3 t) (iblk m c 4 t) (iblk m c 5 t) (iblk m c 6 t) (iblk m c 7 t) (iblk m c 8 t) (iblk m c 9 t) (iblk m c 10 t) _ _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    iintro ⟨H0, H1, H2, H3, H4, H5, H6, H7, H8, H9, H10, ⟨%e11, H11⟩, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr; swap; · iexact H11
      ipureintro; exact View.read_writes_eq_canon _ _ _ (cover_later_dq m c t h0 _ _ _ _)
    isplitl [H12]
    · unfold owns; iexists _; isplitr; swap; · iexact H12
      ipureintro; exact rfl
    isplitl [H13]
    · unfold owns; iexists _; isplitr; swap; · iexact H13
      ipureintro; exact rfl
    isplitl [H14]
    · unfold owns; iexists _; isplitr; swap; · iexact H14
      ipureintro; exact rfl
    · unfold owns; iexists _; isplitr; swap; · iexact H15
      ipureintro; exact rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged, and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Attn

end
-- ==== Proof.AttnHead.lean ====
module

public import proofs.«01_k».proof.Proof.AttnFrame
public import Idealize.ShloMosaic.Lib.WritesUnit

@[expose] public section

set_option maxRecDepth 65536

noncomputable section

namespace Cert.KernelIdeal.Attn

open Cert.KernelIdeal.Gen
open Idealize.ShloMosaic Idealize.ShloMosaic.TcCoe Idealize.ShloMosaic.Tactic

variable {F : FTy → Type} [FloatOps F] [Named F]

/-! ## A group of four query heads sharing a key head, as the body computes it -/

/-- What the body reads for one group: the key mask, the packed queries and output gradients, the group's keys and values,
its bias and its column of sinks. -/
structure Grp (F : FTy → Type) where
  mask : IVec S1x384 1
  q : FVec F S512x64 .bf16
  k : FVec F S384x64 .bf16
  v : FVec F S384x64 .bf16
  o : FVec F S512x64 .bf16
  b : FVec F S4x128x384 .f32
  s : FVec F S512x1 .f32

namespace Grp

variable (g : Grp F)

def score : FVec F S512x384 .f32 :=
  select (broadcastTo S512x384 (shapeCast S1x384 g.mask shapeCasts_S1x384_S1x384) broadcasts_S1x384_S512x384)
    (addf (mulf (matmul dot_S512x64_S384x64_S512x384_1_1_0_0_n_n none g.q g.k (constant S512x384 .f32 0x00000000#32))
        (broadcast S512x384 (Scalar.ofBits .f32 0x3E000000#32)))
      (shapeCast S512x384 (shapeCast S4x128x384 g.b shapeCasts_S4x128x384_S4x128x384) shapeCasts_S4x128x384_S512x384))
    (broadcast S512x384 (Named.named κ "mask" 0xF149F2CA#32))

def top : FVec F S512x1 .f32 :=
  maximumf (shapeCast S512x1 (multiReduction .maximumf [1] S512 g.score 0xFF800000#32 reduces_S512x384_S512 (.inl rfl) rfl) shapeCasts_S512_S512x1) g.s

def p : FVec F S512x384 .f32 := exp (subf g.score (broadcastTo S512x384 g.top broadcasts_S512x1_S512x384))

def ps : FVec F S512x1 .f32 := exp (subf g.s g.top)

def inv : FVec F S512x1 .f32 :=
  divf (broadcast S512x1 (Scalar.ofBits .f32 0x3F800000#32))
    (addf (shapeCast S512x1 (multiReduction .add [1] S512 g.p 0x00000000#32 reduces_S512x384_S512 (.inl rfl) rfl) shapeCasts_S512_S512x1) g.ps)

def probs : FVec F S512x384 .f32 := mulf g.p (broadcastTo S512x384 g.inv broadcasts_S512x1_S512x384)

def dp : FVec F S512x384 .f32 :=
  matmul dot_S512x64_S384x64_S512x384_1_1_0_0_n_n none g.o g.v (constant S512x384 .f32 0x00000000#32)

def rs : FVec F S512x1 .f32 :=
  shapeCast S512x1 (multiReduction .add [1] S512 (mulf g.probs g.dp) 0x00000000#32 reduces_S512x384_S512 (.inl rfl) rfl) shapeCasts_S512_S512x1

def ds : FVec F S512x384 .f32 := mulf g.probs (subf g.dp (broadcastTo S512x384 g.rs broadcasts_S512x1_S512x384))

def dss : FVec F S512x384 .bf16 := truncf .bf16 (mulf g.ds (broadcast S512x384 (Scalar.ofBits .f32 0x3E000000#32))) bitsLt_bf16_f32

def dq : FVec F S512x64 .f32 :=
  matmul dot_S512x384_S384x64_S512x64_1_0_0_1_n_n none g.dss g.k (constant S512x64 .f32 0x00000000#32)

def dv : FVec F S64x384 .f32 :=
  matmul dot_S512x64_S512x384_S64x384_0_0_1_1_n_n none g.o (truncf .bf16 g.probs bitsLt_bf16_f32) (constant S64x384 .f32 0x00000000#32)

def dk : FVec F S64x384 .f32 :=
  matmul dot_S512x64_S512x384_S64x384_0_0_1_1_n_n none g.q g.dss (constant S64x384 .f32 0x00000000#32)

def sinkRows : FVec F S512x1 .f32 :=
  mulf (subf (broadcast S512x1 (Scalar.ofBits .f32 0x00000000#32)) (mulf g.ps g.inv)) g.rs

/-- The sum of one head's 128 rows. -/
def sinkSum (off : Fin 2 → Nat) (h : S512x1.Slices off S128x1) : F .f32 :=
  extractAt ![0, 0, 0] (shapeCast S1x1x1 (multiReduction .add [1, 2] S1
    (shapeCast S1x128x1 (extractStridedSlice S128x1 off g.sinkRows h) shapeCasts_S128x1_S1x128x1) 0x00000000#32
      reduces_S1x128x1_S1 (.inl rfl) rfl) shapeCasts_S1_S1x1x1) inpos_S1x1x1_p0_0_0

/-- The four heads' gradients of the queries side by side. -/
def dqBlock : FVec F S128x256 .bf16 :=
  truncf .bf16 (concatenate S128x256 1 [
    ⟨S128x64, extractStridedSlice S128x64 ![0, 0] g.dq slices_S512x64_o0_0_S128x64⟩,
    ⟨S128x64, extractStridedSlice S128x64 ![128, 0] g.dq slices_S512x64_o128_0_S128x64⟩,
    ⟨S128x64, extractStridedSlice S128x64 ![256, 0] g.dq slices_S512x64_o256_0_S128x64⟩,
    ⟨S128x64, extractStridedSlice S128x64 ![384, 0] g.dq slices_S512x64_o384_0_S128x64⟩]
    concatenates_S128x64_S128x64_S128x64_S128x64_S128x256_d1) bitsLt_bf16_f32

end Grp

/-! ## The rectangles of the four groups -/

theorem inb_q (kk g : Fin 4) : ∀ a, (![0, 256 * kk.val + 64 * g.val] : Fin 2 → Nat) a + S128x64.size a ≤ S128x1024.size a :=
  Fin.forall_fin_two.mpr ⟨by show 0 + 128 ≤ 128; omega, by show 256 * kk.val + 64 * g.val + 64 ≤ 1024; omega⟩
theorem inb_o (kk : Fin 4) : ∀ a, (![0, 256 * kk.val] : Fin 2 → Nat) a + S128x256.size a ≤ S128x1024.size a :=
  Fin.forall_fin_two.mpr ⟨by show 0 + 128 ≤ 128; omega, by show 256 * kk.val + 256 ≤ 1024; omega⟩
theorem inb_b (kk : Fin 4) : ∀ a, (![4 * kk.val, 0, 0] : Fin 3 → Nat) a + S4x128x384.size a ≤ S16x128x384.size a := by
  revert kk; decide
theorem inb_s (h : Fin 16) : ∀ a, (![0, h.val] : Fin 2 → Nat) a + S1x1.size a ≤ S1x16.size a := by revert h; decide
theorem slices_k (kk : Fin 4) : S384x256.Slices ![0, 64 * kk.val] S384x64 := by revert kk; decide
theorem slices_r (g : Fin 4) : S512x1.Slices ![128 * g.val, 0] S128x1 := by revert g; decide

def slabOff (i : grid0.Coords) : Fin 4 → Fin 2 → Nat
  | ⟨0, _⟩ => k0_off1 i
  | ⟨1, _⟩ => k0_off2 i
  | ⟨2, _⟩ => k0_off3 i
  | ⟨3, _⟩ => k0_off4 i

theorem inb_slab (i : grid0.Coords) : ∀ kk a, slabOff i kk a + S64x384.size a ≤ S256x4352.size a
  | ⟨0, _⟩ => k0_off1_inb i
  | ⟨1, _⟩ => k0_off2_inb i
  | ⟨2, _⟩ => k0_off3_inb i
  | ⟨3, _⟩ => k0_off4_inb i

/-- What a load reads of a buffer that holds `x`. -/
def rd {sp : Space} {s : Shape} {e : EltTy} (a : Memref sig .tc sp s e) (ha : a.IsWhole) (x : s.Idx → Elt F e) (r : Rect s) :
    r.shape.Idx → Elt F e := View.readAt (Elt F) a.view r.toLoadRect (ha.unread x)

theorem rd_eq {sp : Space} {s : Shape} {e : EltTy} (a : Memref sig .tc sp s e) (ha : a.IsWhole) (x : s.Idx → Elt F e) (r : Rect s) :
    rd a ha x r = fun y => x (r.idx y) := by
  unfold rd
  rw [View.readAt_eq_ld, ha.read_unread]

variable (m : (ℓ : Loc nD τ sig) → Buf (Elt F) ℓ)

/-- The group `kk` at point `t`. -/
def grp (c : Dev nD) (t : Fin cfg0.N) (kk : Fin 4) : Grp F where
  mask := k0_pay4 (grid0.coords t)
  q := k0_pay7 (rd (ms0_0 t) (hs0_0 t) (X0_0 m c t) (Rect.unit ![0, 256 * kk.val + 64 * (0 : Fin 4).val] S128x64.size (inb_q kk 0)))
    (rd (ms0_0 t) (hs0_0 t) (X0_0 m c t) (Rect.unit ![0, 256 * kk.val + 64 * (1 : Fin 4).val] S128x64.size (inb_q kk 1)))
    (rd (ms0_0 t) (hs0_0 t) (X0_0 m c t) (Rect.unit ![0, 256 * kk.val + 64 * (2 : Fin 4).val] S128x64.size (inb_q kk 2)))
    (rd (ms0_0 t) (hs0_0 t) (X0_0 m c t) (Rect.unit ![0, 256 * kk.val + 64 * (3 : Fin 4).val] S128x64.size (inb_q kk 3)))
  k := extractStridedSlice S384x64 ![0, 64 * kk.val] (k0_pay5
    (rd (ms0_1 t) (hs0_1 t) (iblk m c 1 t) (Rect.unit ![0, 0] S128x256.size inb_S128x256_S128x256_0_0))
    (rd (ms0_2 t) (hs0_2 t) (iblk m c 2 t) (Rect.unit ![0, 0] S128x256.size inb_S128x256_S128x256_0_0))
    (rd (ms0_3 t) (hs0_3 t) (iblk m c 3 t) (Rect.unit ![0, 0] S128x256.size inb_S128x256_S128x256_0_0))) (slices_k kk)
  v := extractStridedSlice S384x64 ![0, 64 * kk.val] (k0_pay6
    (rd (ms0_4 t) (hs0_4 t) (iblk m c 4 t) (Rect.unit ![0, 0] S128x256.size inb_S128x256_S128x256_0_0))
    (rd (ms0_5 t) (hs0_5 t) (iblk m c 5 t) (Rect.unit ![0, 0] S128x256.size inb_S128x256_S128x256_0_0))
    (rd (ms0_6 t) (hs0_6 t) (iblk m c 6 t) (Rect.unit ![0, 0] S128x256.size inb_S128x256_S128x256_0_0))) (slices_k kk)
  o := k0_pay7 (rd (ms0_7 t) (hs0_7 t) (iblk m c 7 t) (Rect.unit ![0, 256 * kk.val + 64 * (0 : Fin 4).val] S128x64.size (inb_q kk 0)))
    (rd (ms0_7 t) (hs0_7 t) (iblk m c 7 t) (Rect.unit ![0, 256 * kk.val + 64 * (1 : Fin 4).val] S128x64.size (inb_q kk 1)))
    (rd (ms0_7 t) (hs0_7 t) (iblk m c 7 t) (Rect.unit ![0, 256 * kk.val + 64 * (2 : Fin 4).val] S128x64.size (inb_q kk 2)))
    (rd (ms0_7 t) (hs0_7 t) (iblk m c 7 t) (Rect.unit ![0, 256 * kk.val + 64 * (3 : Fin 4).val] S128x64.size (inb_q kk 3)))
  b := rd (ms0_8 t) (hs0_8 t) (iblk m c 8 t) (Rect.unit ![4 * kk.val, 0, 0] S4x128x384.size (inb_b kk))
  s := concatenate S512x1 0 [
    ⟨S128x1, k0_pay11 (rd (ms0_9 t) (hs0_9 t) (iblk m c 9 t) (Rect.unit ![0, 4 * kk.val + 0] S1x1.size (inb_s ⟨4 * kk.val + 0, by omega⟩)))⟩,
    ⟨S128x1, k0_pay11 (rd (ms0_9 t) (hs0_9 t) (iblk m c 9 t) (Rect.unit ![0, 4 * kk.val + 1] S1x1.size (inb_s ⟨4 * kk.val + 1, by omega⟩)))⟩,
    ⟨S128x1, k0_pay11 (rd (ms0_9 t) (hs0_9 t) (iblk m c 9 t) (Rect.unit ![0, 4 * kk.val + 2] S1x1.size (inb_s ⟨4 * kk.val + 2, by omega⟩)))⟩,
    ⟨S128x1, k0_pay11 (rd (ms0_9 t) (hs0_9 t) (iblk m c 9 t) (Rect.unit ![0, 4 * kk.val + 3] S1x1.size (inb_s ⟨4 * kk.val + 3, by omega⟩)))⟩]
    concatenates_S128x1_S128x1_S128x1_S128x1_S512x1_d0

/-! ## What each point adds to the running outputs -/

/-- A slab of a running output with a group's gradient added to it. -/
abbrev addSlab (x y : FVec F S64x384 .f32) : FVec F S64x384 .f32 := addf (shapeCast S64x384 x shapeCasts_S64x384_S64x384) y

/-- Four heads' bias gradients with a group's added to them. -/
abbrev addBias (x : FVec F S4x128x384 .f32) (y : FVec F S512x384 .f32) : FVec F S4x128x384 .f32 :=
  addf (shapeCast S4x128x384 x shapeCasts_S4x128x384_S4x128x384) (shapeCast S4x128x384 y shapeCasts_S512x384_S4x128x384)

/-- One head's share of the sinks' gradient at point `t`. -/
def sinkAt (c : Dev nD) (t : Fin cfg0.N) (h : Fin 16) : F .f32 :=
  (grp m c t ⟨h.val / 4, by omega⟩).sinkSum ![128 * (⟨h.val % 4, by omega⟩ : Fin 4).val, 0] (slices_r ⟨h.val % 4, by omega⟩)

/-- One head's share of the sinks' gradient added to what the running output holds. -/
abbrev addSink (x : FVec F S1x1 .f32) (y : F .f32) : FVec F S1x1 .f32 := fun _ => Scalar.addf (x (Shape.Idx.first (Nat.lt_of_lt_of_eq Nat.one_pos numel1_S1x1.symm))) y

section Acc

variable {sp : Space} {s : Shape} {e : EltTy} {NT : ℕ} (v : View sig .tc sp s e) (f : v.ty.Contents (Elt F)) (tsz : Fin s.rank → ℕ)
  (off : Fin NT → Fin s.rank → ℕ) (inb : ∀ i a, off i a + tsz a ≤ s.size a)
  (G : Fin NT → ((⟨s.rank, tsz⟩ : Shape).Idx → Elt F e) → (⟨s.rank, tsz⟩ : Shape).Idx → Elt F e)

/-- Tiles rewritten one after another, each from what it holds by then. -/
def accPieces : (j : ℕ) → j ≤ NT → List (View.Piece (Elt F) s e)
  | 0, _ => []
  | j + 1, hj =>
    ⟨Rect.unit (off ⟨j, hj⟩) tsz (inb ⟨j, hj⟩), G ⟨j, hj⟩ (v.readAt (Elt F) (Rect.unit (off ⟨j, hj⟩) tsz (inb ⟨j, hj⟩)).toLoadRect
      (v.writes (Elt F) f (accPieces j (Nat.le_of_succ_le hj))))⟩ :: accPieces j (Nat.le_of_succ_le hj)

/-- Tiles that one axis keeps apart are each rewritten from what was there before the first. -/
theorem accPieces_eq (ax : Fin s.rank) (hd : ∀ i i' : Fin NT, i'.val < i.val → off i' ax + tsz ax ≤ off i ax) (j : ℕ) (hj : j ≤ NT) :
    accPieces v f tsz off inb G j hj = View.tilePieces tsz off inb
      (fun i => G i (v.readAt (Elt F) (Rect.unit (off i) tsz (inb i)).toLoadRect f)) j hj := by
  induction j with
  | zero => rfl
  | succ j ih =>
    unfold accPieces
    rw [View.tilePieces_succ, ih]
    congr 3
    rw [View.readAt_eq_ld, View.readAt_eq_ld]
    funext y
    refine View.read_tilePieces_miss v f tsz off inb _ j _ _ ax fun i' hi' => .inr ?_
    refine (hd ⟨j, hj⟩ i' hi').trans ?_
    show _ ≤ off ⟨j, hj⟩ ax + 1 * (y ax).val
    omega

end Acc

abbrev slabRect (t : Fin cfg0.N) (kk : Fin 4) : Rect S256x4352 := Rect.unit (slabOff (grid0.coords t) kk) S64x384.size (inb_slab _ kk)
abbrev biasRect (kk : Fin 4) : Rect S16x128x384 := Rect.unit ![4 * kk.val, 0, 0] S4x128x384.size (inb_b kk)
abbrev sinkRect (h : Fin 16) : Rect S1x16 := Rect.unit ![0, h.val] S1x1.size (inb_s h)

variable (c : Dev nD) (t : Fin cfg0.N)

section Later

variable (h : ¬t.val = 0) (x12 x13 : Vec F S256x4352 .f32) (x14 : Vec F S16x128x384 .f32) (x15 : Vec F S1x16 .f32)

theorem later_dq : (later m c t h x12 x13 x14 x15).1
      = View.tilePieces (s := S128x1024) (e := .bf16) S128x256.size (fun kk : Fin 4 => ![0, 256 * kk.val]) inb_o
        (fun kk => (grp m c t kk).dqBlock) 4 le_rfl := by
  sl_kernel_rfl

theorem later_dk : (later m c t h x12 x13 x14 x15).2.1
      = View.tilePieces (s := S256x4352) (e := .f32) S64x384.size (slabOff (grid0.coords t)) (inb_slab _)
        (fun kk => addSlab (rd (ms0_12 t) (hs0_12 t) x12 (slabRect t kk)) (grp m c t kk).dk) 4 le_rfl := by
  sl_kernel_rfl

theorem later_dv : (later m c t h x12 x13 x14 x15).2.2.1
      = View.tilePieces (s := S256x4352) (e := .f32) S64x384.size (slabOff (grid0.coords t)) (inb_slab _)
        (fun kk => addSlab (rd (ms0_13 t) (hs0_13 t) x13 (slabRect t kk)) (grp m c t kk).dv) 4 le_rfl := by
  sl_kernel_rfl

theorem later_db : (later m c t h x12 x13 x14 x15).2.2.2.1
      = View.tilePieces (s := S16x128x384) (e := .f32) S4x128x384.size (fun kk : Fin 4 => ![4 * kk.val, 0, 0]) inb_b
        (fun kk => addBias (rd (ms0_14 t) (hs0_14 t) x14 (biasRect kk)) (grp m c t kk).ds) 4 le_rfl := by
  sl_kernel_rfl

theorem later_ds : (later m c t h x12 x13 x14 x15).2.2.2.2
      = View.tilePieces (s := S1x16) (e := .f32) S1x1.size (fun k : Fin 16 => ![0, k.val]) inb_s
        (fun k => addSink (rd (ms0_15 t) (hs0_15 t) x15 (sinkRect k)) (sinkAt m c t k)) 16 le_rfl := by
  sl_kernel_rfl

end Later

section First

variable (h : t.val = 0)

theorem first_dq : (first m c t h).1
      = View.tilePieces (s := S128x1024) (e := .bf16) S128x256.size (fun kk : Fin 4 => ![0, 256 * kk.val]) inb_o
        (fun kk => (grp m c t kk).dqBlock) 4 le_rfl := by
  sl_kernel_rfl

/-- The running output of the keys, cleared. -/
abbrev clear12 : View.Piece (Elt F) S256x4352 .f32 := ⟨Rect.unit ![0, 0] S256x4352.size inb_S256x4352_S256x4352_0_0, k0_pay2⟩
/-- The running output of the values, cleared. -/
abbrev clear13 : View.Piece (Elt F) S256x4352 .f32 := ⟨Rect.unit ![0, 0] S256x4352.size inb_S256x4352_S256x4352_0_0, k0_pay3⟩
/-- The running bias gradient, started from what is handed in. -/
abbrev start14 : View.Piece (Elt F) S16x128x384 .f32 := ⟨Rect.unit ![0, 0, 0] S16x128x384.size inb_S16x128x384_S16x128x384_0_0_0,
  rd (ms0_10 t) (hs0_10 t) (iblk m c 10 t) (Rect.unit ![0, 0, 0] S16x128x384.size inb_S16x128x384_S16x128x384_0_0_0)⟩

theorem first_dk : (first m c t h).2.1
      = accPieces (ms0_12 t).view ((ms0_12 t).view.writes (Elt F) (ms0_12 t).view.junk [clear12]) S64x384.size (slabOff (grid0.coords t)) (inb_slab _)
        (fun kk x => addSlab x (grp m c t kk).dk) 4 le_rfl ++ [clear12] := by
  sl_kernel_rfl

theorem first_dv : (first m c t h).2.2.1
      = accPieces (ms0_13 t).view ((ms0_13 t).view.writes (Elt F) (ms0_13 t).view.junk [clear13]) S64x384.size (slabOff (grid0.coords t)) (inb_slab _)
        (fun kk x => addSlab x (grp m c t kk).dv) 4 le_rfl ++ [clear13] := by
  sl_kernel_rfl

theorem first_db : (first m c t h).2.2.2.1
      = accPieces (ms0_14 t).view ((ms0_14 t).view.writes (Elt F) (ms0_14 t).view.junk [start14 m c t]) S4x128x384.size (fun kk : Fin 4 => ![4 * kk.val, 0, 0]) inb_b
        (fun kk x => addBias x (grp m c t kk).ds) 4 le_rfl ++ [start14 m c t] := by
  sl_kernel_rfl

theorem first_ds : ∃ L, (first m c t h).2.2.2.2
      = View.tilePieces (s := S1x16) (e := .f32) S1x1.size (fun k : Fin 16 => ![0, k.val]) inb_s
        (fun k => addSink (broadcast S1x1 (Scalar.ofBits .f32 0x00000000#32)) (sinkAt m c t k)) 16 le_rfl ++ L :=
  ⟨View.tilePieces (s := S1x16) (e := .f32) S1x1.size (fun k : Fin 16 => ![0, k.val]) inb_s
    (fun k _ => Scalar.ofBits .f32 0x00000000#32) 16 le_rfl, by sl_kernel_rfl⟩

end First

end Cert.KernelIdeal.Attn

end
-- ==== Proof.AttnRow.lean ====
module

public import Idealize.ShloMosaic.Lib.IdealHost

@[expose] public section

noncomputable section

namespace Cert.Row

open Idealize.ShloMosaic

/-! ## One row of the attention's gradient over the extended reals -/

variable (S : Fin 384 → EReal) (sk : EReal) (dp : Fin 384 → EReal)

/-- The row's largest score, the sink among them. -/
def top : EReal := max (Finset.univ.fold max ⊥ S) sk
def p (j : Fin 384) : EReal := Ideal.exp (S j - top S sk)
def ps : EReal := Ideal.exp (sk - top S sk)
def total : EReal := ∑ j, p S sk j + ps S sk
def inv : EReal := Ideal.div 1 (total S sk)
def probs (j : Fin 384) : EReal := p S sk j * inv S sk
def rs : EReal := ∑ j, probs S sk j * dp j
def ds (j : Fin 384) : EReal := probs S sk j * (dp j - rs S sk dp)
def sinkRow : EReal := (0 - ps S sk * inv S sk) * rs S sk dp

/-! ### A masked score takes no part -/

theorem p_bot {j : Fin 384} (h : S j = ⊥) : p S sk j = 0 := by
  unfold p
  rw [h, EReal.bot_sub, Ideal.exp_bot]

theorem probs_bot {j : Fin 384} (h : S j = ⊥) : probs S sk j = 0 := by
  unfold probs
  rw [p_bot S sk h, zero_mul]

theorem ds_bot {j : Fin 384} (h : S j = ⊥) : ds S sk dp j = 0 := by
  unfold ds
  rw [probs_bot S sk h, zero_mul]

variable {dp} {dp' : Fin 384 → EReal} (hd : ∀ j, S j ≠ ⊥ → dp j = dp' j)
include hd

theorem rs_congr : rs S sk dp = rs S sk dp' :=
  Finset.sum_congr rfl fun j _ => by
    by_cases h : S j = ⊥
    · rw [probs_bot S sk h, zero_mul, zero_mul]
    · rw [hd j h]

theorem ds_congr : ds S sk dp = ds S sk dp' := funext fun j => by
  by_cases h : S j = ⊥
  · rw [ds_bot S sk dp h, ds_bot S sk dp' h]
  · unfold ds
    rw [hd j h, rs_congr S sk hd]

theorem sinkRow_congr : sinkRow S sk dp = sinkRow S sk dp' := by
  unfold sinkRow
  rw [rs_congr S sk hd]

omit hd

/-! ### The same row by the rules of differentiation -/

variable (dp)

/-- The gradient of the reciprocal of the denominator, summed over the row. -/
def dTotal : EReal := -∑ j, dp j * Ideal.div 1 (total S sk * total S sk) * p S sk j
/-- The gradient of a score before what its maximum passes back, -/
def dScore (j : Fin 384) : EReal := (Ideal.div (dp j) (total S sk) + dTotal S sk dp) * p S sk j
/-- the gradient of the sink's difference to the top, -/
def dSink : EReal := dTotal S sk dp * ps S sk
/-- and the gradient of the top, which is none. -/
def dTop : EReal := -dSink S sk dp + ∑ j, -dScore S sk dp j

theorem coe_sum {n : ℕ} (f : Fin n → ℝ) : ∑ j, (f j : EReal) = ((∑ j, f j : ℝ) : EReal) := by
  generalize (Finset.univ : Finset (Fin n)) = s
  induction s using Finset.induction_on with
  | empty => simp
  | insert a s ha ih => rw [Finset.sum_insert ha, Finset.sum_insert ha, ih, EReal.coe_add]

variable {S sk dp}

/-- The largest score is one of them, or there is none above `⊥`. -/
theorem fold_mem (s : Finset (Fin 384)) : s.fold max ⊥ S = ⊥ ∨ ∃ j ∈ s, s.fold max ⊥ S = S j := by
  induction s using Finset.induction_on with
  | empty => exact .inl rfl
  | insert a s ha ih =>
    rw [Finset.fold_insert ha]
    rcases max_choice (S a) (s.fold max ⊥ S) with h | h
    · exact .inr ⟨a, Finset.mem_insert_self a s, h⟩
    · rcases ih with e | ⟨j, hj, e⟩
      · exact .inl (h.trans e)
      · exact .inr ⟨j, Finset.mem_insert_of_mem hj, h.trans e⟩

/-- Some score attains the largest. -/
theorem fold_attained : ∃ j, S j = Finset.univ.fold max ⊥ S := by
  rcases fold_mem (S := S) Finset.univ with h | ⟨j, _, h⟩
  · have hle : S 0 ≤ Finset.univ.fold max ⊥ S := by
      rw [← Finset.insert_erase (Finset.mem_univ (0 : Fin 384)), Finset.fold_insert (Finset.notMem_erase _ _)]
      exact le_max_left _ _
    exact ⟨0, (le_bot_iff.mp (h ▸ hle)).trans h.symm⟩
  · exact ⟨j, h.symm⟩

theorem top_real (hS : ∀ j, S j ≠ ⊤) (hk : ∃ k : ℝ, sk = k) : ∃ T : ℝ, top S sk = T := by
  obtain ⟨k, rfl⟩ := hk
  have h1 : top S k ≠ ⊤ := by
    unfold top
    obtain ⟨j, hj⟩ := fold_attained (S := S)
    rw [← hj]
    exact ne_of_lt (max_lt (lt_top_iff_ne_top.mpr (hS j)) (EReal.coe_lt_top k))
  have h2 : top S k ≠ ⊥ := ne_of_gt (lt_of_lt_of_le (EReal.bot_lt_coe k) (le_max_right _ _))
  exact ⟨(top S k).toReal, (EReal.coe_toReal h1 h2).symm⟩

theorem p_real (hS : ∀ j, S j ≠ ⊤) (hk : ∃ k : ℝ, sk = k) : ∃ P : Fin 384 → ℝ, ∀ j, p S sk j = P j ∧ 0 ≤ P j := by
  obtain ⟨T, hT⟩ := top_real hS hk
  have h : ∀ j, ∃ x : ℝ, p S sk j = x ∧ 0 ≤ x := fun j => by
    by_cases hj : S j = ⊥
    · exact ⟨0, by rw [p_bot S sk hj]; rfl, le_rfl⟩
    · have e : ((S j).toReal : EReal) = S j := EReal.coe_toReal (hS j) hj
      refine ⟨Real.exp ((S j).toReal - T), ?_, (Real.exp_pos _).le⟩
      unfold p
      rw [hT, ← e, ← EReal.coe_sub, Ideal.exp_coe, EReal.toReal_coe]
  exact ⟨fun j => (h j).choose, fun j => (h j).choose_spec⟩

theorem ps_real (hS : ∀ j, S j ≠ ⊤) (hk : ∃ k : ℝ, sk = k) : ∃ q : ℝ, ps S sk = q ∧ 0 < q := by
  obtain ⟨T, hT⟩ := top_real hS hk
  obtain ⟨k, rfl⟩ := hk
  refine ⟨Real.exp (k - T), ?_, Real.exp_pos _⟩
  unfold ps
  rw [hT, ← EReal.coe_sub, Ideal.exp_coe]

/-- Differentiating step by step gives the same row. -/
theorem rules (hS : ∀ j, S j ≠ ⊤) (hk : ∃ k : ℝ, sk = k) (hd : ∀ j, ∃ x : ℝ, dp j = x) :
    (∀ j, Ideal.div (p S sk j) (total S sk) = probs S sk j) ∧ (∀ j, dScore S sk dp j = ds S sk dp j)
      ∧ dTop S sk dp = 0 ∧ dSink S sk dp = sinkRow S sk dp := by
  obtain ⟨P, hP⟩ := p_real hS hk
  obtain ⟨q, hq, hq0⟩ := ps_real hS hk
  choose d hd using hd
  have hD0 : 0 < ∑ j, P j + q := add_pos_of_nonneg_of_pos (Finset.sum_nonneg fun j _ => (hP j).2) hq0
  generalize hDe : ∑ j, P j + q = D at hD0
  have ht : total S sk = (D : EReal) := by
    unfold total
    rw [hq, ← hDe, EReal.coe_add, ← coe_sum]
    simp only [(hP _).1]
  have hD : D ≠ 0 := hD0.ne'
  have hDD : D * D ≠ 0 := mul_ne_zero hD hD
  have hdiv : ∀ x : EReal, Ideal.div x (total S sk) = x * ((1 / D : ℝ) : EReal) := fun x => by rw [ht, Ideal.div_coe hD]
  have hinv : inv S sk = ((1 / D : ℝ) : EReal) := by unfold inv; rw [hdiv, one_mul]
  have hw : Ideal.div 1 (total S sk * total S sk) = ((1 / (D * D) : ℝ) : EReal) := by
    rw [ht, ← EReal.coe_mul, Ideal.div_coe hDD, one_mul]
  have hprobs : ∀ j, probs S sk j = ((P j * (1 / D) : ℝ) : EReal) := fun j => by
    unfold probs; rw [hinv, (hP j).1, EReal.coe_mul]
  have hrs : rs S sk dp = ((∑ j, P j * (1 / D) * d j : ℝ) : EReal) := by
    unfold rs; rw [← coe_sum]; refine Finset.sum_congr rfl fun j _ => ?_; rw [hprobs, hd, ← EReal.coe_mul]
  have hds : ∀ j, ds S sk dp j = ((P j * (1 / D) * (d j - ∑ j, P j * (1 / D) * d j) : ℝ) : EReal) := fun j => by
    unfold ds; rw [hprobs, hd, hrs, ← EReal.coe_sub, ← EReal.coe_mul]
  have hT : dTotal S sk dp = ((-∑ j, d j * (1 / (D * D)) * P j : ℝ) : EReal) := by
    unfold dTotal
    rw [EReal.coe_neg, ← coe_sum]
    refine congrArg _ (Finset.sum_congr rfl fun j _ => ?_)
    rw [hw, hd, (hP j).1, ← EReal.coe_mul, ← EReal.coe_mul]
  have hSc : ∀ j, dScore S sk dp j = (((d j * (1 / D) + -∑ j, d j * (1 / (D * D)) * P j) * P j : ℝ) : EReal) := fun j => by
    unfold dScore
    rw [hdiv, hd, hT, (hP j).1, ← EReal.coe_mul, ← EReal.coe_add, ← EReal.coe_mul]
  have hSi : dSink S sk dp = (((-∑ j, d j * (1 / (D * D)) * P j) * q : ℝ) : EReal) := by
    unfold dSink
    rw [hT, hq, ← EReal.coe_mul]
  have hsum : ∑ j, d j * (1 / (D * D)) * P j = (1 / D) * ∑ j, P j * (1 / D) * d j := by
    rw [Finset.mul_sum]
    refine Finset.sum_congr rfl fun j _ => ?_
    field_simp
  refine ⟨fun j => ?_, fun j => ?_, ?_, ?_⟩
  · rw [hdiv, hprobs, (hP j).1, EReal.coe_mul]
  · rw [hSc, hds, hsum]
    refine congrArg _ ?_
    ring
  · unfold dTop
    simp only [hSi, hSc, ← EReal.coe_neg]
    rw [coe_sum, ← EReal.coe_add, ← EReal.coe_zero]
    refine congrArg _ ?_
    rw [Finset.sum_neg_distrib]
    have e1 : ∑ j, (d j * (1 / D) + -∑ j, d j * (1 / (D * D)) * P j) * P j
        = ∑ j, P j * (1 / D) * d j - (∑ j, d j * (1 / (D * D)) * P j) * ∑ j, P j := by
      rw [Finset.mul_sum, ← Finset.sum_sub_distrib]
      refine Finset.sum_congr rfl fun j _ => ?_
      ring
    rw [e1, hsum]
    have e2 : ∑ j, P j = D - q := by rw [← hDe]; ring
    rw [e2]
    field_simp
    ring
  · rw [hSi, hsum]
    unfold sinkRow
    rw [hrs, hinv, hq, ← EReal.coe_mul, ← EReal.coe_zero, ← EReal.coe_sub, ← EReal.coe_mul]
    refine congrArg _ ?_
    ring

end Cert.Row

end
-- ==== Proof.AttnSpec.lean ====
module

public import Idealize.ShloMosaic.Lib.Pointwise
public import proofs.«01_k».proof.Proof.AttnRow

@[expose] public section

noncomputable section

namespace Cert.Spec

open Idealize.ShloMosaic

/-! ## The gradient of the windowed attention, entry by entry -/

/-- One eighth, the scale of the scores. -/
abbrev eighth : EReal := Ideal.ofBits .f32 0x3E000000#32

/-- The projection, the sinks, the position bias and the gradient of the output. -/
structure Args where
  proj : (⟨2, ![4096, 2560]⟩ : Shape).Idx → EReal
  sink : (⟨1, ![16]⟩ : Shape).Idx → EReal
  bias : (⟨3, ![16, 128, 384]⟩ : Shape).Idx → EReal
  dcat : (⟨2, ![4096, 2048]⟩ : Shape).Idx → EReal

/-- Token `i` of block `n`. -/
abbrev row (n : Fin 32) (i : Fin 128) : Fin 4096 := ⟨128 * n.val + i.val, by omega⟩
/-- Query head `g` of key head `kk`. -/
abbrev head (kk g : Fin 4) : Fin 16 := ⟨4 * kk.val + g.val, by omega⟩
/-- Key `j` of block `n`'s band is a token. -/
abbrev isKey (n : Fin 32) (j : Fin 384) : Prop := 128 ≤ 128 * n.val + j.val ∧ 128 * n.val + j.val < 4224
/-- Key `j` is within the window of token `i`. -/
abbrev near (i : Fin 128) (j : Fin 384) : Prop := i.val ≤ j.val ∧ j.val ≤ i.val + 256

namespace Args

variable (A : Args) (n : Fin 32) (kk g : Fin 4) (i : Fin 128) (j : Fin 384) (d : Fin 64)

def query : EReal := A.proj (ix2 (row n i) (⟨(4 * kk.val + g.val) * 64 + d.val, by omega⟩ : Fin 2560))
def dout : EReal := A.dcat (ix2 (row n i) (⟨(4 * kk.val + g.val) * 64 + d.val, by omega⟩ : Fin 2048))

def key : EReal :=
  if h : isKey n j then A.proj (ix2 (⟨128 * n.val + j.val - 128, by omega⟩ : Fin 4096) (⟨1024 + 64 * kk.val + d.val, by omega⟩ : Fin 2560)) else 0
def value : EReal :=
  if h : isKey n j then A.proj (ix2 (⟨128 * n.val + j.val - 128, by omega⟩ : Fin 4096) (⟨1280 + 64 * kk.val + d.val, by omega⟩ : Fin 2560)) else 0

def score : EReal :=
  if near i j ∧ isKey n j then (∑ d : Fin 64, A.query n kk g i d * A.key n kk j d) * eighth + A.bias (ix3 (head kk g) i j) else ⊥

def sk : EReal := A.sink (ix1 (head kk g))

def dp : EReal := ∑ d : Fin 64, A.dout n kk g i d * A.value n kk j d

def probs : EReal := Row.probs (A.score n kk g i) (A.sk kk g) j
def ds : EReal := Row.ds (A.score n kk g i) (A.sk kk g) (A.dp n kk g i) j
def sinkRow : EReal := Row.sinkRow (A.score n kk g i) (A.sk kk g) (A.dp n kk g i)

def dq : EReal := ∑ j : Fin 384, A.ds n kk g i j * eighth * A.key n kk j d
def dkPart : EReal := ∑ g : Fin 4, ∑ i : Fin 128, A.query n kk g i d * (A.ds n kk g i j * eighth)
def dvPart : EReal := ∑ g : Fin 4, ∑ i : Fin 128, A.dout n kk g i d * A.probs n kk g i j

end Args

/-- What the blocks whose bands hold column `a` give it. -/
def slide (f : Fin 32 → Fin 384 → EReal) (a : Fin 4352) : EReal :=
  ∑ n : Fin 32, if h : 128 * n.val ≤ a.val ∧ a.val < 128 * n.val + 384 then f n ⟨a.val - 128 * n.val, by omega⟩ else 0

variable (A : Args)

/-! ### The results -/

def gradQ : (⟨2, ![4096, 1024]⟩ : Shape).Idx → EReal := fun x =>
  have h0 : (x 0).val < 4096 := (x 0).isLt
  have h1 : (x 1).val < 1024 := (x 1).isLt
  A.dq ⟨(x 0).val / 128, by omega⟩ ⟨(x 1).val / 256, by omega⟩ ⟨(x 1).val / 64 % 4, by omega⟩ ⟨(x 0).val % 128, by omega⟩
    ⟨(x 1).val % 64, by omega⟩
def gradK : (⟨2, ![256, 4352]⟩ : Shape).Idx → EReal := fun x =>
  have h0 : (x 0).val < 256 := (x 0).isLt
  slide (fun n j => A.dkPart n ⟨(x 0).val / 64, by omega⟩ j ⟨(x 0).val % 64, by omega⟩) (x 1)
def gradV : (⟨2, ![256, 4352]⟩ : Shape).Idx → EReal := fun x =>
  have h0 : (x 0).val < 256 := (x 0).isLt
  slide (fun n j => A.dvPart n ⟨(x 0).val / 64, by omega⟩ j ⟨(x 0).val % 64, by omega⟩) (x 1)
def gradB (b : (⟨3, ![16, 128, 384]⟩ : Shape).Idx → EReal) : (⟨3, ![16, 128, 384]⟩ : Shape).Idx → EReal := fun x =>
  have h0 : (x 0).val < 16 := (x 0).isLt
  b x + ∑ n : Fin 32, A.ds n ⟨(x 0).val / 4, by omega⟩ ⟨(x 0).val % 4, by omega⟩ (x 1) (x 2)
def gradS : (⟨2, ![1, 16]⟩ : Shape).Idx → EReal := fun x =>
  have h1 : (x 1).val < 16 := (x 1).isLt
  ∑ n : Fin 32, ∑ i : Fin 128, A.sinkRow n ⟨(x 1).val / 4, by omega⟩ ⟨(x 1).val % 4, by omega⟩ i

end Cert.Spec

end
-- ==== Proof.AttnEntry.lean ====
module

public import proofs.«01_k».proof.Proof.AttnHead
public import proofs.«01_k».proof.Proof.AttnSpec
public import Idealize.ShloMosaic.Lib.Pointwise

@[expose] public section

set_option maxRecDepth 16384

noncomputable section

namespace Cert.KernelIdeal.Attn

open Cert.KernelIdeal.Gen
open Idealize.ShloMosaic

/-- The scale of the scores. -/
abbrev eighth : EReal := Spec.eighth

theorem negInf : Ideal.ofBits .f32 0xFF800000#32 = (⊥ : EReal) := by simp [Ideal.ofBits, Ideal.ieee]

theorem maskWord : Named.named (F := Ideal) (φ := .f32) κ "mask" 0xF149F2CA#32 = (⊥ : EReal) :=
  (IdealRules.named_const.statement κ "mask" .f32 0xF149F2CA#32 ⊥ rfl).2.2

namespace Grp

variable (g : Grp Ideal) (r : Fin 512) (j : Fin 384)

/-- The row's scores. -/
abbrev rowS (j : Fin 384) : EReal := g.score (ix2 r j)
/-- The row's sink. -/
abbrev rowK : EReal := g.s (ix2 r (0 : Fin 1))
/-- The row's gradients of the probabilities. -/
abbrev rowD (j : Fin 384) : EReal := g.dp (ix2 r j)

theorem top_apply : g.top (ix2 r (0 : Fin 1)) = Row.top (g.rowS r) (g.rowK r) := by
  unfold Row.top
  pointwise [Grp.top]
  rw [negInf]

theorem p_apply : g.p (ix2 r j) = Row.p (g.rowS r) (g.rowK r) j := by
  unfold Row.p
  rw [← top_apply]
  pointwise [Grp.p]

theorem ps_apply : g.ps (ix2 r (0 : Fin 1)) = Row.ps (g.rowS r) (g.rowK r) := by
  unfold Row.ps
  rw [← top_apply]
  pointwise [Grp.ps]

theorem inv_apply : g.inv (ix2 r (0 : Fin 1)) = Row.inv (g.rowS r) (g.rowK r) := by
  unfold Row.inv Row.total
  simp only [← p_apply, ← ps_apply]
  pointwise [Grp.inv]

theorem probs_apply : g.probs (ix2 r j) = Row.probs (g.rowS r) (g.rowK r) j := by
  unfold Row.probs
  rw [← p_apply, ← inv_apply]
  pointwise [Grp.probs]

theorem rs_apply : g.rs (ix2 r (0 : Fin 1)) = Row.rs (g.rowS r) (g.rowK r) (g.rowD r) := by
  unfold Row.rs
  simp only [← probs_apply]
  pointwise [Grp.rs]

theorem ds_apply : g.ds (ix2 r j) = Row.ds (g.rowS r) (g.rowK r) (g.rowD r) j := by
  unfold Row.ds
  rw [← probs_apply, ← rs_apply]
  pointwise [Grp.ds]

theorem sinkRows_apply : g.sinkRows (ix2 r (0 : Fin 1)) = Row.sinkRow (g.rowS r) (g.rowK r) (g.rowD r) := by
  unfold Row.sinkRow
  rw [← ps_apply, ← inv_apply, ← rs_apply]
  pointwise [Grp.sinkRows]

theorem score_apply : g.score (ix2 r j) = if g.mask (ix2 (0 : Fin 1) j) = 1#1 then
    (∑ d : Fin 64, g.q (ix2 r d) * g.k (ix2 j d)) * eighth + g.b (ix3 (⟨r.val / 128, by omega⟩ : Fin 4) (⟨r.val % 128, by omega⟩ : Fin 128) j) else ⊥ := by
  pointwise [Grp.score]
  by_cases h : g.mask (ix2 (0 : Fin 1) j) = 1#1
  · rw [if_pos h, h]; rfl
  · rw [if_neg h]; exact (if_neg h).trans maskWord

theorem dp_apply : g.dp (ix2 r j) = ∑ d : Fin 64, g.o (ix2 r d) * g.v (ix2 j d) := by
  pointwise [Grp.dp]

theorem dq_apply (d : Fin 64) : g.dq (ix2 r d) = ∑ j : Fin 384, g.ds (ix2 r j) * eighth * g.k (ix2 j d) := by
  pointwise [Grp.dq, Grp.dss]

theorem dk_apply (d : Fin 64) : g.dk (ix2 d j) = ∑ r : Fin 512, g.q (ix2 r d) * (g.ds (ix2 r j) * eighth) := by
  pointwise [Grp.dk, Grp.dss]

theorem dv_apply (d : Fin 64) : g.dv (ix2 d j) = ∑ r : Fin 512, g.o (ix2 r d) * g.probs (ix2 r j) := by
  pointwise [Grp.dv]

theorem dqBlock_apply (i : Fin 128) (a : Fin 256) :
    g.dqBlock (ix2 i a) = g.dq (ix2 (⟨a.val / 64 * 128 + i.val, by omega⟩ : Fin 512) (⟨a.val % 64, by omega⟩ : Fin 64)) := by
  pointwise [Grp.dqBlock]
  split_ifs <;> refine congrArg₂ (fun u v => g.dq (ix2 u v)) (Fin.ext ?_) (Fin.ext ?_) <;> dsimp only <;> omega

theorem sinkSum_apply (a : Fin 4) :
    g.sinkSum ![128 * a.val, 0] (slices_r a) = ∑ i : Fin 128, g.sinkRows (ix2 (⟨a.val * 128 + i.val, by omega⟩ : Fin 512) (0 : Fin 1)) := by
  pointwise [Grp.sinkSum]
  refine Finset.sum_congr rfl fun i _ => ?_
  rw [Finset.sum_const]
  simp [Nat.mul_comm]

end Grp

end Cert.KernelIdeal.Attn

end
-- ==== Proof.AttnWords.lean ====
module

public import proofs.«01_k».proof.Proof.AttnSpec

@[expose] public section

namespace Cert.Spec

open Idealize.ShloMosaic

/-! ## The masks' integer comparisons -/

theorem near_word : ∀ (i : Fin 128) (j : Fin 384), IntOp.cmpi CmpIPredicate.sle
    (IntOp.absi (IntOp.subi (IntOp.subi (BitVec.ofNat 32 j.val) 128#32) (BitVec.ofNat 32 i.val))) 128#32 = 1#1 ↔ near i j := by
  decide +kernel

theorem isKey_word : ∀ (n : Fin 32) (j : Fin 384), IntOp.andi
    (IntOp.cmpi .sge (IntOp.addi (Scalar.muli (Scalar.subi (BitVec.ofNat 32 n.val) 1#32) 128#32) (BitVec.ofNat 32 j.val)) 0#32)
    (IntOp.cmpi .slt (IntOp.addi (Scalar.muli (Scalar.subi (BitVec.ofNat 32 n.val) 1#32) 128#32) (BitVec.ofNat 32 j.val)) 4096#32) = 1#1
      ↔ isKey n j := by
  decide +kernel

theorem isKey_word' : ∀ (n : Fin 32) (j : Fin 384), IntOp.andi
    (IntOp.cmpi .sge (IntOp.addi (IntOp.muli (BitVec.ofNat 32 n.val) 128#32) (IntOp.subi (BitVec.ofNat 32 j.val) 128#32)) 0#32)
    (IntOp.cmpi .slt (IntOp.addi (IntOp.muli (BitVec.ofNat 32 n.val) 128#32) (IntOp.subi (BitVec.ofNat 32 j.val) 128#32)) 4096#32) = 1#1
      ↔ isKey n j := by
  decide +kernel

theorem and_word : ∀ a b : BitVec 1, IntOp.andi a b = 1#1 ↔ a = 1#1 ∧ b = 1#1 := by decide

end Cert.Spec
-- ==== Proof.AttnBlocks.lean ====
module

public import proofs.«01_k».proof.Proof.AttnEntry
public import proofs.«01_k».proof.Proof.AttnWords

@[expose] public section

set_option maxRecDepth 16384

noncomputable section

namespace Cert.KernelIdeal.Attn

open Cert.KernelIdeal.Gen
open Idealize.ShloMosaic Idealize.ShloMosaic.TcCoe

variable (m : (ℓ : Loc nD τ sig) → Buf (Elt Ideal) ℓ) (c : Dev nD)

/-- The arguments as launched. -/
def args : Spec.Args where
  proj := m ((c : Thread nD τ).loc main_arg0)
  sink := m ((c : Thread nD τ).loc main_arg1)
  bias := m ((c : Thread nD τ).loc main_arg2)
  dcat := m ((c : Thread nD τ).loc main_arg3)

/-- The block that point `t` takes. -/
abbrev blkOf (t : Fin cfg0.N) : Fin 32 := ⟨t.val, by have h := t.isLt; have hN : cfg0.N = 32 := N_0; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val - 1 ∧ win0_1.index t 1 = 4 :=
  (by decide +kernel : ∀ t : Fin grid0.N, win0_1.index t 0 = t.val - 1 ∧ win0_1.index t 1 = 4)
theorem index2 : ∀ t : Fin cfg0.N, win0_2.index t 0 = t.val ∧ win0_2.index t 1 = 4 :=
  (by decide +kernel : ∀ t : Fin grid0.N, win0_2.index t 0 = t.val ∧ win0_2.index t 1 = 4)
theorem index3 : ∀ t : Fin cfg0.N, win0_3.index t 0 = min (t.val + 1) 31 ∧ win0_3.index t 1 = 4 :=
  (by decide +kernel : ∀ t : Fin grid0.N, win0_3.index t 0 = min (t.val + 1) 31 ∧ win0_3.index t 1 = 4)
theorem index4 : ∀ t : Fin cfg0.N, win0_4.index t 0 = t.val - 1 ∧ win0_4.index t 1 = 5 :=
  (by decide +kernel : ∀ t : Fin grid0.N, win0_4.index t 0 = t.val - 1 ∧ win0_4.index t 1 = 5)
theorem index5 : ∀ t : Fin cfg0.N, win0_5.index t 0 = t.val ∧ win0_5.index t 1 = 5 :=
  (by decide +kernel : ∀ t : Fin grid0.N, win0_5.index t 0 = t.val ∧ win0_5.index t 1 = 5)
theorem index6 : ∀ t : Fin cfg0.N, win0_6.index t 0 = min (t.val + 1) 31 ∧ win0_6.index t 1 = 5 :=
  (by decide +kernel : ∀ t : Fin grid0.N, win0_6.index t 0 = min (t.val + 1) 31 ∧ win0_6.index t 1 = 5)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)

/-! ### The blocks the body reads -/

theorem q_blk (t : Fin cfg0.N) (i : Fin 128) (a : Fin 1024) :
    (X0_0 m c t : Vec Ideal S128x1024 .f32) (ix2 i a) = (args m c).proj (ix2 (Spec.row (blkOf t) i) (⟨a.val, by omega⟩ : Fin 2560)) := by
  obtain ⟨e0, e1⟩ := index0 t
  unfold X0_0 Pipeline.Window.fill
  rw [dif_pos (moved0_0 t _)]
  unfold iblk
  rw [View.read_apply]
  refine (congrFun (V_main_arg0 m c) _).trans ?_
  show (args m c).proj _ = (args m c).proj _
  refine congrArg _ (funext fun d => Fin.ext ?_)
  match d with
  | ⟨0, _⟩ => show win0_0.index t 0 * 128 + 1 * i.val = 128 * t.val + i.val; rw [e0]; omega
  | ⟨1, _⟩ => show win0_0.index t 1 * 1024 + 1 * a.val = a.val; rw [e1]; omega

theorem kp_blk (t : Fin cfg0.N) (i : Fin 128) (a : Fin 256) :
    (iblk m c 1 t : Vec Ideal S128x256 .f32) (ix2 i a)
      = (args m c).proj (ix2 (⟨128 * (t.val - 1) + i.val, by have h := (blkOf t).isLt; dsimp only at h; omega⟩ : Fin 4096) (⟨1024 + a.val, by omega⟩ : Fin 2560)) := by
  obtain ⟨e0, e1⟩ := index1 t
  unfold iblk
  rw [View.read_apply]
  refine (congrFun (V_main_arg0 m c) _).trans ?_
  show (args m c).proj _ = (args m c).proj _
  refine congrArg _ (funext fun d => Fin.ext ?_)
  match d with
  | ⟨0, _⟩ => show win0_1.index t 0 * 128 + 1 * i.val = 128 * (t.val - 1) + i.val; rw [e0]; omega
  | ⟨1, _⟩ => show win0_1.index t 1 * 256 + 1 * a.val = 1024 + a.val; rw [e1]; omega

theorem kc_blk (t : Fin cfg0.N) (i : Fin 128) (a : Fin 256) :
    (iblk m c 2 t : Vec Ideal S128x256 .f32) (ix2 i a)
      = (args m c).proj (ix2 (⟨128 * (t.val) + i.val, by have h := (blkOf t).isLt; dsimp only at h; omega⟩ : Fin 4096) (⟨1024 + a.val, by omega⟩ : Fin 2560)) := by
  obtain ⟨e0, e1⟩ := index2 t
  unfold iblk
  rw [View.read_apply]
  refine (congrFun (V_main_arg0 m c) _).trans ?_
  show (args m c).proj _ = (args m c).proj _
  refine congrArg _ (funext fun d => Fin.ext ?_)
  match d with
  | ⟨0, _⟩ => show win0_2.index t 0 * 128 + 1 * i.val = 128 * (t.val) + i.val; rw [e0]; omega
  | ⟨1, _⟩ => show win0_2.index t 1 * 256 + 1 * a.val = 1024 + a.val; rw [e1]; omega

theorem kn_blk (t : Fin cfg0.N) (i : Fin 128) (a : Fin 256) :
    (iblk m c 3 t : Vec Ideal S128x256 .f32) (ix2 i a)
      = (args m c).proj (ix2 (⟨128 * (min (t.val + 1) 31) + i.val, by have h := (blkOf t).isLt; dsimp only at h; omega⟩ : Fin 4096) (⟨1024 + a.val, by omega⟩ : Fin 2560)) := by
  obtain ⟨e0, e1⟩ := index3 t
  unfold iblk
  rw [View.read_apply]
  refine (congrFun (V_main_arg0 m c) _).trans ?_
  show (args m c).proj _ = (args m c).proj _
  refine congrArg _ (funext fun d => Fin.ext ?_)
  match d with
  | ⟨0, _⟩ => show win0_3.index t 0 * 128 + 1 * i.val = 128 * (min (t.val + 1) 31) + i.val; rw [e0]; omega
  | ⟨1, _⟩ => show win0_3.index t 1 * 256 + 1 * a.val = 1024 + a.val; rw [e1]; omega

theorem vp_blk (t : Fin cfg0.N) (i : Fin 128) (a : Fin 256) :
    (iblk m c 4 t : Vec Ideal S128x256 .f32) (ix2 i a)
      = (args m c).proj (ix2 (⟨128 * (t.val - 1) + i.val, by have h := (blkOf t).isLt; dsimp only at h; omega⟩ : Fin 4096) (⟨1280 + a.val, by omega⟩ : Fin 2560)) := by
  obtain ⟨e0, e1⟩ := index4 t
  unfold iblk
  rw [View.read_apply]
  refine (congrFun (V_main_arg0 m c) _).trans ?_
  show (args m c).proj _ = (args m c).proj _
  refine congrArg _ (funext fun d => Fin.ext ?_)
  match d with
  | ⟨0, _⟩ => show win0_4.index t 0 * 128 + 1 * i.val = 128 * (t.val - 1) + i.val; rw [e0]; omega
  | ⟨1, _⟩ => show win0_4.index t 1 * 256 + 1 * a.val = 1280 + a.val; rw [e1]; omega

theorem vc_blk (t : Fin cfg0.N) (i : Fin 128) (a : Fin 256) :
    (iblk m c 5 t : Vec Ideal S128x256 .f32) (ix2 i a)
      = (args m c).proj (ix2 (⟨128 * (t.val) + i.val, by have h := (blkOf t).isLt; dsimp only at h; omega⟩ : Fin 4096) (⟨1280 + a.val, by omega⟩ : Fin 2560)) := by
  obtain ⟨e0, e1⟩ := index5 t
  unfold iblk
  rw [View.read_apply]
  refine (congrFun (V_main_arg0 m c) _).trans ?_
  show (args m c).proj _ = (args m c).proj _
  refine congrArg _ (funext fun d => Fin.ext ?_)
  match d with
  | ⟨0, _⟩ => show win0_5.index t 0 * 128 + 1 * i.val = 128 * (t.val) + i.val; rw [e0]; omega
  | ⟨1, _⟩ => show win0_5.index t 1 * 256 + 1 * a.val = 1280 + a.val; rw [e1]; omega

theorem vn_blk (t : Fin cfg0.N) (i : Fin 128) (a : Fin 256) :
    (iblk m c 6 t : Vec Ideal S128x256 .f32) (ix2 i a)
      = (args m c).proj (ix2 (⟨128 * (min (t.val + 1) 31) + i.val, by have h := (blkOf t).isLt; dsimp only at h; omega⟩ : Fin 4096) (⟨1280 + a.val, by omega⟩ : Fin 2560)) := by
  obtain ⟨e0, e1⟩ := index6 t
  unfold iblk
  rw [View.read_apply]
  refine (congrFun (V_main_arg0 m c) _).trans ?_
  show (args m c).proj _ = (args m c).proj _
  refine congrArg _ (funext fun d => Fin.ext ?_)
  match d with
  | ⟨0, _⟩ => show win0_6.index t 0 * 128 + 1 * i.val = 128 * (min (t.val + 1) 31) + i.val; rw [e0]; omega
  | ⟨1, _⟩ => show win0_6.index t 1 * 256 + 1 * a.val = 1280 + a.val; rw [e1]; omega

theorem o_blk (t : Fin cfg0.N) (i : Fin 128) (a : Fin 1024) :
    (iblk m c 7 t : Vec Ideal S128x1024 .f32) (ix2 i a) = (args m c).dcat (ix2 (Spec.row (blkOf t) i) (⟨a.val, by omega⟩ : Fin 2048)) := by
  obtain ⟨e0, e1⟩ := index7 t
  unfold iblk
  rw [View.read_apply]
  refine (congrFun (V_main_arg3 m c) _).trans ?_
  show (args m c).dcat _ = (args m c).dcat _
  refine congrArg _ (funext fun d => Fin.ext ?_)
  match d with
  | ⟨0, _⟩ => show win0_7.index t 0 * 128 + 1 * i.val = 128 * t.val + i.val; rw [e0]; omega
  | ⟨1, _⟩ => show win0_7.index t 1 * 1024 + 1 * a.val = a.val; rw [e1]; omega

/-- The bias as the host masks it, and the sinks as a row. -/
def maskedBias : Vec Ideal S16x128x384 .f32 := V m c main_v13
def sinkRowOf : Vec Ideal S1x16 .f32 := V m c main_v14
def biasIn : Vec Ideal S16x128x384 .f32 := m ((c : Thread nD τ).loc main_arg4)

theorem b_blk (t : Fin cfg0.N) : (iblk m c 8 t : Vec Ideal S16x128x384 .f32) = maskedBias m c := by
  obtain ⟨e0, e1, e2⟩ := index8 t
  unfold iblk
  funext x
  rw [View.read_apply]
  show maskedBias m c _ = maskedBias m c x
  refine congrArg _ (funext fun d => Fin.ext ?_)
  match d with
  | ⟨0, _⟩ => show win0_8.index t 0 * 16 + 1 * (x 0).val = (x 0).val; rw [e0]; omega
  | ⟨1, _⟩ => show win0_8.index t 1 * 128 + 1 * (x 1).val = (x 1).val; rw [e1]; omega
  | ⟨2, _⟩ => show win0_8.index t 2 * 384 + 1 * (x 2).val = (x 2).val; rw [e2]; omega

theorem s_blk (t : Fin cfg0.N) : (iblk m c 9 t : Vec Ideal S1x16 .f32) = sinkRowOf m c := by
  obtain ⟨e0, e1⟩ := index9 t
  unfold iblk
  funext x
  rw [View.read_apply]
  show sinkRowOf m c _ = sinkRowOf m c x
  refine congrArg _ (funext fun d => Fin.ext ?_)
  match d with
  | ⟨0, _⟩ => show win0_9.index t 0 * 1 + 1 * (x 0).val = (x 0).val; rw [e0]; omega
  | ⟨1, _⟩ => show win0_9.index t 1 * 16 + 1 * (x 1).val = (x 1).val; rw [e1]; omega

theorem d_blk (t : Fin cfg0.N) : (iblk m c 10 t : Vec Ideal S16x128x384 .f32) = biasIn m c := by
  obtain ⟨e0, e1, e2⟩ := index10 t
  unfold iblk
  funext x
  rw [View.read_apply]
  refine (congrFun (V_main_arg4 m c) _).trans ?_
  show biasIn m c _ = biasIn m c x
  refine congrArg _ (funext fun d => Fin.ext ?_)
  match d with
  | ⟨0, _⟩ => show win0_10.index t 0 * 16 + 1 * (x 0).val = (x 0).val; rw [e0]; omega
  | ⟨1, _⟩ => show win0_10.index t 1 * 128 + 1 * (x 1).val = (x 1).val; rw [e1]; omega
  | ⟨2, _⟩ => show win0_10.index t 2 * 384 + 1 * (x 2).val = (x 2).val; rw [e2]; omega

/-! ### What the host prepares -/

theorem bias_eq (h : Fin 16) (i : Fin 128) (j : Fin 384) :
    maskedBias m c (ix3 h i j) = if Spec.near i j then (args m c).bias (ix3 h i j) else ⊥ := by
  have e : maskedBias m c = select (broadcastInDim S16x128x384 ![0, 1, 2] bcast_S1x128x384_S16x128x384_0_1_2
      (broadcastInDim S1x128x384 ![1, 2] bcast_S128x384_S1x128x384_1_2
        (cmpi .sle (absi (subi
            (broadcastInDim S128x384 ![0, 1] bcast_S1x384_S128x384_0_1 (subi (broadcastInDim S1x384 ![1] bcast_S384_S1x384_1 (iotaInDim S384 32 0))
              (broadcastInDim S1x384 ![] bcast_S_S1x384 (constantI S_ 32 128#32))))
            (broadcastInDim S128x384 ![0, 1] bcast_S128x1_S128x384_0_1 (broadcastInDim S128x1 ![0] bcast_S128_S128x1_0 (iotaInDim S128 32 0)))))
          (broadcastInDim S128x384 ![] bcast_S_S128x384 (constantI S_ 32 128#32)))))
      (m ((c : Thread nD τ).loc main_arg2) : Vec Ideal S16x128x384 .f32)
      (broadcastInDim S16x128x384 ![] bcast_S_S16x128x384 (id (constant (F := Ideal) S_ .f32 0xFF800000#32))) := by
    unfold maskedBias V
    simp only [hostOps0, hostOps0_1, hostOps0_2, List.flatten_cons, List.flatten_nil, List.append_nil, List.cons_append, List.nil_append,
      StableHlo.TRef.unary, StableHlo.TRef.ternary, StableHlo.TRef.toBuf, StableHlo.TRef.ofBuf, cast_eq]
    after_results <;> rfl
  rw [e]
  pointwise
  show (if _ = 1#1 then (args m c).bias (ix3 h i j) else Ideal.ofBits .f32 0xFF800000#32) = _
  rw [negInf]
  exact if_congr (Spec.near_word i j) rfl rfl

theorem sink_eq (h : Fin 16) : sinkRowOf m c (ix2 (0 : Fin 1) h) = (args m c).sink (ix1 h) := by
  have e : sinkRowOf m c = shapeCast S1x16 (m ((c : Thread nD τ).loc main_arg1) : Vec Ideal S16 .f32) shapeCasts_S16_S1x16 := by
    unfold sinkRowOf V
    simp only [hostOps0, hostOps0_1, hostOps0_2, List.flatten_cons, List.flatten_nil, List.append_nil, List.cons_append, List.nil_append,
      StableHlo.TRef.unary, StableHlo.TRef.ternary, StableHlo.TRef.toBuf, StableHlo.TRef.ofBuf, cast_eq]
    after_results <;> rfl
  rw [e]
  pointwise
  rfl

end Cert.KernelIdeal.Attn

end
-- ==== Proof.RefAttn.lean ====
module

public import proofs.«01_k».proof.Proof.Gen.ReferenceIdeal.Read
public import proofs.«01_k».proof.Proof.AttnWords
public import Idealize.ShloMosaic.Lib.Pointwise

@[expose] public section

set_option maxRecDepth 16384

noncomputable section

namespace Cert.ReferenceIdeal.Attn

open Cert.ReferenceIdeal Cert.ReferenceIdeal.Read
open Idealize.ShloMosaic

variable (x0 : Vec Ideal S4096x2560 .f32) (x1 : Vec Ideal S16 .f32) (x2 : Vec Ideal S16x128x384 .f32) (x3 : Vec Ideal S4096x2048 .f32)
  (x4 : Vec Ideal S16x128x384 .f32)

/-- The arguments as launched. -/
abbrev args : Spec.Args := ⟨x0, x1, x2, x3⟩

variable (n : Fin 32) (kk g : Fin 4) (i : Fin 128) (j : Fin 384) (d : Fin 64)

theorem mask_apply : val_main_v67_1 (F := Ideal) (ix6 (0 : Fin 1) n kk g i j) = 1#1 ↔ Spec.near i j ∧ Spec.isKey n j := by
  pointwise [val_main_v67_1, val_main_v66, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2, val_main_c_3, val_main_c_4]
  rw [Spec.and_word]
  exact and_congr (Spec.near_word i j) (Spec.isKey_word' n j)

theorem query_apply : val_main_v39 (F := Ideal) x0 (ix6 (0 : Fin 1) n i kk g d) = (args x0 x1 x2 x3).query n kk g i d := by
  pointwise [val_main_v39, val_main_v34, val_main_v33]
  unfold Spec.Args.query
  exact congrArg₂ (fun u v => x0 (ix2 u v)) (Fin.ext (by dsimp only; omega)) (Fin.ext (by dsimp only; omega))

/-- A padded row, by its place in the padded array. -/
theorem pick (p : Nat) (a b : Fin 2560) (hp : p = 128 * n.val + j.val) (hb : a.val = b.val) :
    (if h : p < 128 then (0 : EReal) else if h' : p - 128 < 4096 then x0 (ix2 (⟨p - 128, h'⟩ : Fin 4096) a) else 0)
      = if h : Spec.isKey n j then x0 (ix2 (⟨128 * n.val + j.val - 128, by omega⟩ : Fin 4096) b) else 0 := by
  subst hp
  obtain rfl := Fin.ext hb
  by_cases h : 128 * n.val + j.val < 128
  · rw [dif_pos h, dif_neg fun hk => by omega]
  · rw [dif_neg h]
    by_cases h' : 128 * n.val + j.val - 128 < 4096
    · rw [dif_pos h', dif_pos (⟨by omega, by omega⟩ : Spec.isKey n j)]
    · rw [dif_neg h', dif_neg fun hk => by omega]

theorem key_apply : val_main_v48 (F := Ideal) x0 (ix5 (0 : Fin 1) n j kk d) = (args x0 x1 x2 x3).key n kk j d := by
  pointwise [val_main_v48, val_main_v47, val_main_v46, val_main_v45, val_main_v44, val_main_v41, val_main_v40, val_main_v42, val_main_v43, val_main_cst, val_main_cst_5, val_main_cst_6, val_main_v36, val_main_v35]
  unfold Spec.Args.key
  dsimp only
  by_cases ha : j.val < 128
  · rw [dif_pos ha]
    refine pick x0 n j (n.val * 128 + j.val) ⟨1024 + (kk.val * 64 + d.val), by omega⟩ _ ?_ ?_ <;> (try dsimp only) <;> omega
  rw [dif_neg ha]
  by_cases hb : j.val - 128 < 128
  · rw [dif_pos hb]
    refine pick x0 n j ((1 + n.val) * 128 + (j.val - 128)) ⟨1024 + (kk.val * 64 + d.val), by omega⟩ _ ?_ ?_ <;> (try dsimp only) <;> omega
  · rw [dif_neg hb]
    refine pick x0 n j ((2 + n.val) * 128 + (j.val - 128 - 128)) ⟨1024 + (kk.val * 64 + d.val), by omega⟩ _ ?_ ?_ <;> (try dsimp only) <;> omega

theorem value_apply : val_main_v57 (F := Ideal) x0 (ix5 (0 : Fin 1) n j kk d) = (args x0 x1 x2 x3).value n kk j d := by
  pointwise [val_main_v57, val_main_v56, val_main_v55, val_main_v54, val_main_v53, val_main_v50, val_main_v49, val_main_v51, val_main_v52, val_main_cst_7, val_main_cst_8, val_main_cst_9, val_main_v38, val_main_v37]
  unfold Spec.Args.value
  dsimp only
  by_cases ha : j.val < 128
  · rw [dif_pos ha]
    refine pick x0 n j (n.val * 128 + j.val) ⟨1280 + (kk.val * 64 + d.val), by omega⟩ _ ?_ ?_ <;> (try dsimp only) <;> omega
  rw [dif_neg ha]
  by_cases hb : j.val - 128 < 128
  · rw [dif_pos hb]
    refine pick x0 n j ((1 + n.val) * 128 + (j.val - 128)) ⟨1280 + (kk.val * 64 + d.val), by omega⟩ _ ?_ ?_ <;> (try dsimp only) <;> omega
  · rw [dif_neg hb]
    refine pick x0 n j ((2 + n.val) * 128 + (j.val - 128 - 128)) ⟨1280 + (kk.val * 64 + d.val), by omega⟩ _ ?_ ?_ <;> (try dsimp only) <;> omega

theorem dout_apply : val_main_v117 (F := Ideal) x3 (ix6 (0 : Fin 1) n kk d g i) = (args x0 x1 x2 x3).dout n kk g i d := by
  pointwise [val_main_v117, val_main_v116, val_main_v115, val_main_v114]
  unfold Spec.Args.dout
  exact congrArg₂ (fun u v => x3 (ix2 u v)) (Fin.ext (by dsimp only; omega)) (Fin.ext (by dsimp only; omega))

theorem sink_apply (a b : Fin 1): val_main_v69 (F := Ideal) x1 (ix6 a b kk g (0 : Fin 1) (0 : Fin 1)) = (args x0 x1 x2 x3).sk kk g := by
  pointwise [val_main_v69, val_main_v68]
  unfold Spec.Args.sk
  exact congrArg (fun u => x1 (ix1 u)) (Fin.ext (by dsimp only; omega))

theorem score_apply : val_main_v67_0 (F := Ideal) x0 x2 (ix6 (0 : Fin 1) n kk g i j) = (args x0 x1 x2 x3).score n kk g i j := by
  pointwise [val_main_v67_0, val_main_call0_v2, val_main_call0_v0, val_main_cst_11, val_main_v65, val_main_v64, val_main_v63, val_main_v62, val_main_v61, val_main_v60, val_main_cst_10, val_main_v59, val_main_v58]
  show (if _ = 1#1 then _ else Ideal.ofBits .f32 0xFF800000#32) = _
  unfold Spec.Args.score
  refine (if_congr (mask_apply n kk g i j) ?_ ?_)
  · simp only [key_apply x0 x1 x2 x3, query_apply x0 x1 x2 x3]
    refine congrArg₂ (fun u v : EReal => u * Spec.eighth + v) (Finset.sum_congr rfl fun d _ => mul_comm _ _)
      (congrArg (fun u => x2 (ix3 u i j)) (Fin.ext (by dsimp only; omega)))
  · simp [Ideal.ofBits, Ideal.ieee]

theorem lift_apply (h : S1x32x4x4x128x384.Reduces [5] S1x32x4x4x128) :
    h.lift (ix5 (0 : Fin 1) n kk g i) j = ix6 (0 : Fin 1) n kk g i j := by
  funext a
  match a with
  | ⟨0, _⟩ => rfl
  | ⟨1, _⟩ => rfl
  | ⟨2, _⟩ => rfl
  | ⟨3, _⟩ => rfl
  | ⟨4, _⟩ => rfl
  | ⟨5, _⟩ => rfl

theorem rowMax_apply : val_main_v70 (F := Ideal) x0 x2 (ix5 (0 : Fin 1) n kk g i)
    = Finset.univ.fold max ⊥ ((args x0 x1 x2 x3).score n kk g i) := by
  unfold val_main_v70
  have h : S1x32x4x4x128x384.Reduces [5] S1x32x4x4x128 := by decide
  rw [Host.reduce_eq_fold_single (FloatOps.maximumf (F := Ideal) (φ := .f32)) _ _ _ h]
  have hi : val_main_cst_12 (F := Ideal) (Shape.Idx.first Gen.h_S_) = (⊥ : EReal) := by
    show Ideal.ofBits FTy.f32 0xFF800000#32 = ⊥
    simp [Ideal.ofBits, Ideal.ieee]
  have hf : (val_main_v67_0 x0 x2 ∘ h.lift (ix5 0 n kk g i)) = (args x0 x1 x2 x3).score n kk g i :=
    funext fun (j : Fin 384) =>
      (congrArg (val_main_v67_0 x0 x2) (lift_apply n kk g i j h)).trans (score_apply x0 x1 x2 x3 n kk g i j)
  rw [hi, hf]
  rfl

end Cert.ReferenceIdeal.Attn

end
-- ==== Proof.RefRow.lean ====
module

public import proofs.«01_k».proof.Proof.RefAttn

@[expose] public section

set_option maxRecDepth 16384
set_option maxHeartbeats 1600000

noncomputable section

namespace Cert.ReferenceIdeal.Attn

open Cert.ReferenceIdeal Cert.ReferenceIdeal.Read
open Idealize.ShloMosaic

variable (x0 : Vec Ideal S4096x2560 .f32) (x1 : Vec Ideal S16 .f32) (x2 : Vec Ideal S16x128x384 .f32) (x3 : Vec Ideal S4096x2048 .f32)
  (x4 : Vec Ideal S16x128x384 .f32)

variable (n : Fin 32) (kk g : Fin 4) (i : Fin 128) (j : Fin 384) (d : Fin 64)

/-! ### Sums over axes -/

theorem sum_keys (h : S1x32x4x4x128x384.ReducesTo [5] S1x32x4x4x128) (v : S1x32x4x4x128x384.Idx → EReal) (c : EReal) :
    Ideal.hostReduceAdd h v c (ix5 (0 : Fin 1) n kk g i) = c + ∑ j : Fin 384, v (ix6 (0 : Fin 1) n kk g i j) := by
  have h' : S1x32x4x4x128x384.Reduces [5] S1x32x4x4x128 := by decide
  rw [Ideal.hostReduceAdd_single h h']
  exact congrArg (c + ·) (Finset.sum_congr rfl fun (j : Fin 384) _ => congrArg v (lift_apply n kk g i j h'))

theorem sum_ends (h : S1x32x4x4x128x1.ReducesTo [0, 5] S32x4x4x128) (v : S1x32x4x4x128x1.Idx → EReal) (c : EReal) :
    Ideal.hostReduceAdd h v c (ix4 n kk g i) = c + v (ix6 (0 : Fin 1) n kk g i (0 : Fin 1)) := by
  refine congrArg (c + ·) ((Finset.sum_filter_eq_sum_of_fiber _ (fun _ : Unit => ix6 (0 : Fin 1) n kk g i (0 : Fin 1))
    (fun _ _ _ => rfl) (fun x => ?_) v).trans (Fintype.sum_unique _))
  constructor
  · intro e
    refine ⟨(), ?_⟩
    funext a
    match a with
    | ⟨0, _⟩ => exact (Subsingleton.elim (α := Fin 1) _ _)
    | ⟨1, _⟩ => exact (congrFun e 0).symm
    | ⟨2, _⟩ => exact (congrFun e 1).symm
    | ⟨3, _⟩ => exact (congrFun e 2).symm
    | ⟨4, _⟩ => exact (congrFun e 3).symm
    | ⟨5, _⟩ => exact (Subsingleton.elim (α := Fin 1) _ _)
  · rintro ⟨_, rfl⟩
    funext a
    match a with
    | ⟨0, _⟩ => rfl
    | ⟨1, _⟩ => rfl
    | ⟨2, _⟩ => rfl
    | ⟨3, _⟩ => rfl

theorem sum_tokens (h : S1x32x4x4x128x1.ReducesTo [1, 4] S1x4x4x1) (v : S1x32x4x4x128x1.Idx → EReal) (c : EReal) :
    Ideal.hostReduceAdd h v c (ix4 (0 : Fin 1) kk g (0 : Fin 1))
      = c + ∑ n : Fin 32, ∑ i : Fin 128, v (ix6 (0 : Fin 1) n kk g i (0 : Fin 1)) := by
  refine congrArg (c + ·) ((Finset.sum_filter_eq_sum_of_fiber _ (fun p : Fin 32 × Fin 128 => ix6 (0 : Fin 1) p.1 kk g p.2 (0 : Fin 1))
    (fun _ _ e => Prod.ext (congrFun e 1) (congrFun e 4)) (fun x => ?_) v).trans (Fintype.sum_prod_type _))
  constructor
  · intro e
    refine ⟨(x 1, x 4), ?_⟩
    funext a
    match a with
    | ⟨0, _⟩ => exact (Subsingleton.elim (α := Fin 1) _ _)
    | ⟨1, _⟩ => rfl
    | ⟨2, _⟩ => exact (congrFun e 1).symm
    | ⟨3, _⟩ => exact (congrFun e 2).symm
    | ⟨4, _⟩ => rfl
    | ⟨5, _⟩ => exact (Subsingleton.elim (α := Fin 1) _ _)
  · rintro ⟨_, rfl⟩
    funext a
    match a with
    | ⟨0, _⟩ => rfl
    | ⟨1, _⟩ => rfl
    | ⟨2, _⟩ => rfl
    | ⟨3, _⟩ => rfl

theorem sum_heads (h : S1x1x4x4x1x1.ReducesTo [0, 1, 4, 5] S4x4) (v : S1x1x4x4x1x1.Idx → EReal) (c : EReal) :
    Ideal.hostReduceAdd h v c (ix2 kk g) = c + v (ix6 (0 : Fin 1) (0 : Fin 1) kk g (0 : Fin 1) (0 : Fin 1)) := by
  refine congrArg (c + ·) ((Finset.sum_filter_eq_sum_of_fiber _ (fun _ : Unit => ix6 (0 : Fin 1) (0 : Fin 1) kk g (0 : Fin 1) (0 : Fin 1))
    (fun _ _ _ => rfl) (fun x => ?_) v).trans (Fintype.sum_unique _))
  constructor
  · intro e
    refine ⟨(), ?_⟩
    funext a
    match a with
    | ⟨0, _⟩ => exact (Subsingleton.elim (α := Fin 1) _ _)
    | ⟨1, _⟩ => exact (Subsingleton.elim (α := Fin 1) _ _)
    | ⟨2, _⟩ => exact (congrFun e 0).symm
    | ⟨3, _⟩ => exact (congrFun e 1).symm
    | ⟨4, _⟩ => exact (Subsingleton.elim (α := Fin 1) _ _)
    | ⟨5, _⟩ => exact (Subsingleton.elim (α := Fin 1) _ _)
  · rintro ⟨_, rfl⟩
    funext a
    match a with
    | ⟨0, _⟩ => rfl
    | ⟨1, _⟩ => rfl

theorem sum_pair (h : S1x1x4x4x128x384.ReducesTo [0, 1] S4x4x128x384) (v : S1x1x4x4x128x384.Idx → EReal) (c : EReal) :
    Ideal.hostReduceAdd h v c (ix4 kk g i j) = c + v (ix6 (0 : Fin 1) (0 : Fin 1) kk g i j) := by
  refine congrArg (c + ·) ((Finset.sum_filter_eq_sum_of_fiber _ (fun _ : Unit => ix6 (0 : Fin 1) (0 : Fin 1) kk g i j)
    (fun _ _ _ => rfl) (fun x => ?_) v).trans (Fintype.sum_unique _))
  constructor
  · intro e
    refine ⟨(), ?_⟩
    funext a
    match a with
    | ⟨0, _⟩ => exact (Subsingleton.elim (α := Fin 1) _ _)
    | ⟨1, _⟩ => exact (Subsingleton.elim (α := Fin 1) _ _)
    | ⟨2, _⟩ => exact (congrFun e 0).symm
    | ⟨3, _⟩ => exact (congrFun e 1).symm
    | ⟨4, _⟩ => exact (congrFun e 2).symm
    | ⟨5, _⟩ => exact (congrFun e 3).symm
  · rintro ⟨_, rfl⟩
    funext a
    match a with
    | ⟨0, _⟩ => rfl
    | ⟨1, _⟩ => rfl
    | ⟨2, _⟩ => rfl
    | ⟨3, _⟩ => rfl

theorem sum_blocks (h : S1x32x4x4x128x384.ReducesTo [1] S1x4x4x128x384) (v : S1x32x4x4x128x384.Idx → EReal) (c : EReal) :
    Ideal.hostReduceAdd h v c (ix5 (0 : Fin 1) kk g i j) = c + ∑ n : Fin 32, v (ix6 (0 : Fin 1) n kk g i j) := by
  have h' : S1x32x4x4x128x384.Reduces [1] S1x4x4x128x384 := by decide
  rw [Ideal.hostReduceAdd_single h h']
  refine congrArg (c + ·) (Finset.sum_congr rfl fun (n : Fin 32) _ => congrArg v ?_)
  funext a
  match a with
  | ⟨0, _⟩ => rfl
  | ⟨1, _⟩ => rfl
  | ⟨2, _⟩ => rfl
  | ⟨3, _⟩ => rfl
  | ⟨4, _⟩ => rfl
  | ⟨5, _⟩ => rfl

/-! ### A row of the reference -/

theorem max_apply (y z : FVec Ideal S1x32x4x4x128x1 .f32) (w : S1x32x4x4x128x1.Idx) :
    maximumf (F := Ideal) (φ := .f32) y z w = max (y w : EReal) (z w : EReal) := rfl

theorem rowMax_keep : val_main_v76 x0 x2 (ix6 (0 : Fin 1) n kk g i (0 : Fin 1)) = val_main_v70 x0 x2 (ix5 (0 : Fin 1) n kk g i) := by
  unfold val_main_v76
  generalize val_main_v70 x0 x2 = y
  pointwise

theorem sink_keep : val_main_v77 x1 (ix6 (0 : Fin 1) n kk g i (0 : Fin 1)) = ((args x0 x1 x2 x3).sk kk g) := by
  pointwise [val_main_v77]
  exact sink_apply x0 x1 x2 x3 kk g 0 0

theorem top_max : val_main_v78 x0 x1 x2 (ix6 (0 : Fin 1) n kk g i (0 : Fin 1)) = max (Finset.univ.fold max ⊥ ((args x0 x1 x2 x3).score n kk g i)) ((args x0 x1 x2 x3).sk kk g) :=
  (max_apply _ _ _).trans (congrArg₂ (max : EReal → EReal → EReal)
    ((rowMax_keep x0 x2 n kk g i).trans (rowMax_apply x0 x1 x2 x3 n kk g i)) (sink_keep x0 x1 x2 x3 n kk g i))

theorem top_eq (f : Fin 384 → EReal) (k : EReal) : Row.top f k = max (Finset.univ.fold max ⊥ f) k := rfl

theorem top_apply : val_main_v78 x0 x1 x2 (ix6 (0 : Fin 1) n kk g i (0 : Fin 1)) = Row.top ((args x0 x1 x2 x3).score n kk g i) ((args x0 x1 x2 x3).sk kk g) :=
  (top_max x0 x1 x2 x3 n kk g i).trans (top_eq _ _).symm

theorem p_apply : val_main_v99 x0 x1 x2 (ix6 (0 : Fin 1) n kk g i j) = Row.p ((args x0 x1 x2 x3).score n kk g i) ((args x0 x1 x2 x3).sk kk g) j := by
  pointwise [val_main_v99, val_main_v98, val_main_v97]
  rw [top_apply x0 x1 x2 x3, score_apply x0 x1 x2 x3]
  rfl

theorem ps_apply : val_main_v104 x0 x1 x2 (ix6 (0 : Fin 1) n kk g i (0 : Fin 1)) = Row.ps ((args x0 x1 x2 x3).score n kk g i) ((args x0 x1 x2 x3).sk kk g) := by
  pointwise [val_main_v104, val_main_v103, val_main_v102]
  rw [top_apply x0 x1 x2 x3, sink_apply x0 x1 x2 x3]
  rfl

theorem total_apply : val_main_v105 x0 x1 x2 (ix6 (0 : Fin 1) n kk g i (0 : Fin 1)) = Row.total ((args x0 x1 x2 x3).score n kk g i) ((args x0 x1 x2 x3).sk kk g) := by
  have h1 : val_main_v101 x0 x1 x2 (ix6 (0 : Fin 1) n kk g i (0 : Fin 1)) = ∑ j, Row.p ((args x0 x1 x2 x3).score n kk g i) ((args x0 x1 x2 x3).sk kk g) j := by
    rw [← Finset.sum_congr rfl fun j _ => p_apply x0 x1 x2 x3 n kk g i j]
    unfold val_main_v101 val_main_v100
    generalize val_main_v99 x0 x1 x2 = y
    pointwise [val_main_cst_20]
    rw [sum_keys, zero_add]
  unfold val_main_v105 Row.total
  exact congrArg₂ (fun u v : EReal => u + v) h1 (ps_apply x0 x1 x2 x3 n kk g i)

theorem quotient_apply : val_main_v107 x0 x1 x2 (ix6 (0 : Fin 1) n kk g i j) = Ideal.div (Row.p ((args x0 x1 x2 x3).score n kk g i) ((args x0 x1 x2 x3).sk kk g) j) (Row.total ((args x0 x1 x2 x3).score n kk g i) ((args x0 x1 x2 x3).sk kk g)) := by
  rw [← p_apply x0 x1 x2 x3, ← total_apply x0 x1 x2 x3]
  unfold val_main_v107 val_main_v106
  generalize val_main_v99 x0 x1 x2 = y
  generalize val_main_v105 x0 x1 x2 = z
  pointwise

theorem square_apply : val_main_v110 x0 x1 x2 (ix6 (0 : Fin 1) n kk g i (0 : Fin 1))
    = Ideal.div 1 (Row.total ((args x0 x1 x2 x3).score n kk g i) ((args x0 x1 x2 x3).sk kk g) * Row.total ((args x0 x1 x2 x3).score n kk g i) ((args x0 x1 x2 x3).sk kk g)) := by
  rw [← total_apply x0 x1 x2 x3]
  unfold val_main_v110 val_main_v109 val_main_v108
  generalize val_main_v105 x0 x1 x2 = z
  pointwise [val_main_cst_21]

theorem dp_apply : val_main_v118 x0 x3 (ix6 (0 : Fin 1) n kk g i j) = ((args x0 x1 x2 x3).dp n kk g i) j := by
  pointwise [val_main_v118]
  exact Finset.sum_congr rfl fun d _ => congrArg₂ (fun u v : EReal => u * v) (dout_apply x0 x1 x2 x3 n kk g i d) (value_apply x0 x1 x2 x3 n kk j d)

theorem dTotal_apply : val_main_v126 x0 x1 x2 x3 (ix6 (0 : Fin 1) n kk g i (0 : Fin 1)) = Row.dTotal ((args x0 x1 x2 x3).score n kk g i) ((args x0 x1 x2 x3).sk kk g) ((args x0 x1 x2 x3).dp n kk g i) := by
  unfold Row.dTotal
  rw [← Finset.sum_congr rfl fun j _ => congrArg₂ (fun u v : EReal => u * v)
    (congrArg₂ (fun u v : EReal => u * v) (dp_apply x0 x1 x2 x3 n kk g i j) (square_apply x0 x1 x2 x3 n kk g i))
    (p_apply x0 x1 x2 x3 n kk g i j)]
  unfold val_main_v126 val_main_v125 val_main_v124 val_main_v123 val_main_v122 val_main_v121
  generalize val_main_v118 x0 x3 = y
  generalize val_main_v110 x0 x1 x2 = z
  generalize val_main_v99 x0 x1 x2 = w
  pointwise [val_main_cst_22]
  rw [sum_keys, zero_add]
  pointwise

theorem dScore_apply : val_main_v137 x0 x1 x2 x3 (ix6 (0 : Fin 1) n kk g i j) = Row.dScore ((args x0 x1 x2 x3).score n kk g i) ((args x0 x1 x2 x3).sk kk g) ((args x0 x1 x2 x3).dp n kk g i) j := by
  unfold Row.dScore
  rw [← dTotal_apply, ← dp_apply, ← total_apply x0 x1 x2 x3, ← p_apply x0 x1 x2 x3]
  unfold val_main_v137 val_main_v136 val_main_v135 val_main_v134 val_main_v133 val_main_v128 val_main_v127
  generalize val_main_v118 x0 x3 = y
  generalize val_main_v126 x0 x1 x2 x3 = z
  generalize val_main_v105 x0 x1 x2 = u
  generalize val_main_v99 x0 x1 x2 = w
  pointwise [val_main_cst_24]
  rw [sum_ends]
  exact congrArg (fun t : EReal => (_ + t) * _) (zero_add _)

theorem dSink_apply : val_main_v129 x0 x1 x2 x3 (ix6 (0 : Fin 1) n kk g i (0 : Fin 1)) = Row.dSink ((args x0 x1 x2 x3).score n kk g i) ((args x0 x1 x2 x3).sk kk g) ((args x0 x1 x2 x3).dp n kk g i) := by
  unfold Row.dSink
  rw [← dTotal_apply, ← ps_apply x0 x1 x2 x3]
  rfl

theorem dTop_apply : val_main_v141 x0 x1 x2 x3 (ix6 (0 : Fin 1) n kk g i (0 : Fin 1)) = Row.dTop ((args x0 x1 x2 x3).score n kk g i) ((args x0 x1 x2 x3).sk kk g) ((args x0 x1 x2 x3).dp n kk g i) := by
  unfold Row.dTop
  rw [← dSink_apply, ← Finset.sum_congr rfl fun j _ => congrArg (fun u : EReal => -u) (dScore_apply x0 x1 x2 x3 n kk g i j)]
  unfold val_main_v141 val_main_v140 val_main_v139 val_main_v138 val_main_v132
  generalize val_main_v129 x0 x1 x2 x3 = y
  generalize val_main_v137 x0 x1 x2 x3 = z
  pointwise [val_main_cst_25]
  rw [sum_keys, zero_add]
  pointwise

end Cert.ReferenceIdeal.Attn

end
-- ==== Proof.RefGrad.lean ====
module

public import proofs.«01_k».proof.Proof.RefRow
public import proofs.«01_k».proof.Proof.Sums

@[expose] public section

set_option maxRecDepth 16384
set_option maxHeartbeats 1600000

noncomputable section

namespace Cert.ReferenceIdeal.Attn

open Cert.ReferenceIdeal Cert.ReferenceIdeal.Read
open Idealize.ShloMosaic

variable (x0 : Vec Ideal S4096x2560 .f32) (x1 : Vec Ideal S16 .f32) (x2 : Vec Ideal S16x128x384 .f32) (x3 : Vec Ideal S4096x2048 .f32)
  (x4 : Vec Ideal S16x128x384 .f32)

variable (n : Fin 32) (kk g : Fin 4) (i : Fin 128) (j : Fin 384) (d : Fin 64)

/-- Inputs at which no score is infinite, and the sinks and the products with the gradient are real. -/
structure Fine (A : Spec.Args) : Prop where
  score : ∀ n kk g i j, A.score n kk g i j ≠ ⊤
  sink : ∀ kk g, ∃ k : ℝ, A.sk kk g = k
  dp : ∀ n kk g i j, ∃ r : ℝ, A.dp n kk g i j = r

variable {x0 x1 x2 x3} (hA : Fine (args x0 x1 x2 x3))
include hA

theorem probs_apply : val_main_v107 x0 x1 x2 (ix6 (0 : Fin 1) n kk g i j) = (args x0 x1 x2 x3).probs n kk g i j := by
  rw [quotient_apply x0 x1 x2 x3]
  exact (Row.rules (hA.score n kk g i) (hA.sink kk g) (hA.dp n kk g i)).1 j

theorem top_zero : val_main_v141 x0 x1 x2 x3 (ix6 (0 : Fin 1) n kk g i (0 : Fin 1)) = 0 := by
  rw [dTop_apply]
  exact (Row.rules (hA.score n kk g i) (hA.sink kk g) (hA.dp n kk g i)).2.2.1

theorem score_term : val_main_v137 x0 x1 x2 x3 (ix6 (0 : Fin 1) n kk g i j) = (args x0 x1 x2 x3).ds n kk g i j := by
  rw [dScore_apply]
  exact (Row.rules (hA.score n kk g i) (hA.sink kk g) (hA.dp n kk g i)).2.1 j

theorem sink_term : val_main_v129 x0 x1 x2 x3 (ix6 (0 : Fin 1) n kk g i (0 : Fin 1)) = (args x0 x1 x2 x3).sinkRow n kk g i := by
  rw [dSink_apply]
  exact (Row.rules (hA.score n kk g i) (hA.sink kk g) (hA.dp n kk g i)).2.2.2

omit hA

/-- Some key attains the row's largest score. -/
theorem count_ne : val_main_v75 x0 x2 (ix5 (0 : Fin 1) n kk g i) ≠ 0 := by
  have h1 : ∀ j, val_main_v74 x0 x2 (ix6 (0 : Fin 1) n kk g i j)
      = if val_main_v67_0 x0 x2 (ix6 (0 : Fin 1) n kk g i j) = val_main_v70 x0 x2 (ix5 (0 : Fin 1) n kk g i) then 1 else 0 := fun j => by
    unfold val_main_v74 val_main_v73 val_main_v72 val_main_v71
    generalize val_main_v70 x0 x2 = y
    generalize val_main_v67_0 x0 x2 = z
    pointwise
    show (((BitVec.ofBool (decide _)).toNat : ℝ) : EReal) = _
    split_ifs with h
    · rw [decide_eq_true h]; simp
    · rw [decide_eq_false h]; simp
  have h2 : val_main_v75 x0 x2 (ix5 (0 : Fin 1) n kk g i) = ∑ j, val_main_v74 x0 x2 (ix6 (0 : Fin 1) n kk g i j) := by
    unfold val_main_v75
    generalize val_main_v74 x0 x2 = y
    pointwise [val_main_cst_13]
    rw [sum_keys, zero_add]
  obtain ⟨j, hj⟩ := Row.fold_attained (S := (args x0 (fun _ => 0) x2 (fun _ => 0)).score n kk g i)
  rw [← rowMax_apply x0 (fun _ => 0) x2 (fun _ => 0), ← score_apply x0 (fun _ => 0) x2 (fun _ => 0)] at hj
  rw [h2]
  intro h0
  have h3 := (Finset.sum_eq_zero_iff_of_nonneg fun j _ => by
    rw [h1 j]
    split_ifs
    · exact zero_le_one
    · exact le_rfl).mp h0 j (Finset.mem_univ j)
  rw [h1 j, if_pos hj] at h3
  exact one_ne_zero h3

include hA

theorem pass_zero : val_main_v151 x0 x1 x2 x3 (ix6 (0 : Fin 1) n kk g i j) = 0 := by
  have h0 := top_zero n kk g i hA
  have hc := count_ne (x0 := x0) (x2 := x2) n kk g i
  unfold val_main_v151 val_main_v150 val_main_v149 val_main_v148 val_main_v147 val_main_v146
  generalize val_main_v141 x0 x1 x2 x3 = y at *
  generalize val_main_v87 x0 x1 x2 = z
  generalize val_main_v75 x0 x2 = c at *
  generalize val_main_v74 x0 x2 = w
  pointwise [val_main_cst_27]
  rw [sum_ends]
  have h1 : mulf (F := Ideal) (φ := .f32) y z (ix6 (0 : Fin 1) n kk g i (0 : Fin 1)) = (0 : EReal) :=
    (congrArg (fun u : EReal => u * z (ix6 (0 : Fin 1) n kk g i (0 : Fin 1))) h0).trans (zero_mul _)
  have h2 : Ideal.div (0 : EReal) (c (ix5 (0 : Fin 1) n kk g i)) = 0 := by
    unfold Ideal.div
    rw [if_neg hc, zero_mul]
  rw [h1]
  refine (congrArg (fun u : EReal => Ideal.div u (c (ix5 (0 : Fin 1) n kk g i)) * w (ix6 (0 : Fin 1) n kk g i j)) (add_zero (0 : EReal))).trans ?_
  exact (congrArg (fun u : EReal => u * w (ix6 (0 : Fin 1) n kk g i j)) h2).trans (zero_mul _)

theorem ds_apply : val_main_v155 x0 x1 x2 x3 (ix6 (0 : Fin 1) n kk g i j) = (args x0 x1 x2 x3).ds n kk g i j := by
  have h1 := score_term n kk g i j hA
  have h2 := pass_zero n kk g i j hA
  have h3 := mask_apply n kk g i j
  unfold val_main_v155 val_main_v152
  generalize val_main_v137 x0 x1 x2 x3 = y at *
  generalize val_main_v151 x0 x1 x2 x3 = z at *
  generalize val_main_v67_1 (F := Ideal) = w at *
  pointwise [val_main_call1_v0, val_main_call1_cst]
  rw [h1, h2, add_zero]
  show (if _ = 1#1 then _ else _) = _
  split_ifs with h
  · rfl
  · refine (Row.ds_bot _ _ _ (if_neg fun h' => h (h3.mpr h'))).symm

theorem sinks_apply : val_main_v153 x0 x1 x2 x3 (ix2 kk g) = ∑ n : Fin 32, ∑ i : Fin 128, (args x0 x1 x2 x3).sinkRow n kk g i := by
  have h0 : ∀ n i, val_main_v142 x0 x1 x2 x3 (ix6 (0 : Fin 1) n kk g i (0 : Fin 1)) = 0 := fun n i =>
    (congrArg (fun u : EReal => u * _) (top_zero n kk g i hA)).trans (zero_mul _)
  have h1 := fun n i => sink_term n kk g i hA
  unfold val_main_v153 val_main_v145 val_main_v144 val_main_v143 val_main_v131 val_main_v130
  generalize val_main_v142 x0 x1 x2 x3 = y at *
  generalize val_main_v129 x0 x1 x2 x3 = z at *
  pointwise [val_main_cst_28, val_main_cst_26, val_main_cst_23]
  rw [sum_heads, zero_add]
  pointwise [val_main_cst_26, val_main_cst_23]
  rw [sum_tokens, sum_tokens, zero_add, zero_add]
  simp only [h0, h1, Finset.sum_const_zero, add_zero]

theorem bias_apply (b : Fin 16) : val_main_v159 x0 x1 x2 x3 (ix3 b i j)
    = ∑ n : Fin 32, (args x0 x1 x2 x3).ds n ⟨b.val / 4, by omega⟩ ⟨b.val % 4, by omega⟩ i j := by
  rw [← Finset.sum_congr rfl fun n _ => ds_apply n _ _ i j hA]
  unfold val_main_v159 val_main_v158 val_main_v157 val_main_v156
  generalize val_main_v155 x0 x1 x2 x3 = y at *
  pointwise [val_main_cst_30]
  rw [sum_pair, zero_add]
  pointwise [val_main_cst_29]
  rw [sum_blocks, zero_add]

theorem dq_apply : val_main_v164 x0 x1 x2 x3 (ix6 (0 : Fin 1) n i kk g d) = (args x0 x1 x2 x3).dq n kk g i d := by
  have h1 := fun j => ds_apply n kk g i j hA
  have h2 := fun j => key_apply x0 x1 x2 x3 n kk j d
  unfold val_main_v164 val_main_v163 val_main_v162 val_main_v161 val_main_v160
  generalize val_main_v155 x0 x1 x2 x3 = y at *
  generalize val_main_v48 x0 = z at *
  pointwise [val_main_cst_31]
  exact Finset.sum_congr rfl fun j _ => congrArg₂ (fun u v : EReal => u * Spec.eighth * v) (h1 j) (h2 j)

theorem dk_apply : val_main_v166 x0 x1 x2 x3 (ix5 (0 : Fin 1) n j kk d) = (args x0 x1 x2 x3).dkPart n kk j d := by
  have h1 := fun g i => ds_apply n kk g i j hA
  have h2 := fun g i => query_apply x0 x1 x2 x3 n kk g i d
  unfold val_main_v166 val_main_v165 val_main_v162 val_main_v161 val_main_v160
  generalize val_main_v155 x0 x1 x2 x3 = y at *
  generalize val_main_v39 x0 = z at *
  pointwise [val_main_cst_31]
  rw [Finset.sum_comm]
  exact Finset.sum_congr rfl fun g _ => Finset.sum_congr rfl fun i _ =>
    (congrArg₂ (fun u v : EReal => u * Spec.eighth * v) (h1 g i) (h2 g i)).trans (mul_comm _ _)

theorem dv_apply : val_main_v120 x0 x1 x2 x3 (ix5 (0 : Fin 1) n j kk d) = (args x0 x1 x2 x3).dvPart n kk j d := by
  have h1 := fun g i => probs_apply n kk g i j hA
  have h2 := fun g i => dout_apply x0 x1 x2 x3 n kk g i d
  unfold val_main_v120 val_main_v119
  generalize val_main_v107 x0 x1 x2 = y at *
  generalize val_main_v117 x3 = z at *
  pointwise
  exact Finset.sum_congr rfl fun g _ => Finset.sum_congr rfl fun i _ =>
    congrArg₂ (fun u v : EReal => u * v) (h2 g i) (h1 g i)

omit hA

/-! ### Adding up the bands -/

theorem sum_pick (k b : Nat) (h : Fin 32 → EReal) :
    ∑ n : Fin 32, (if n.val + k = b then h n else 0) = if e : k ≤ b ∧ b - k < 32 then h ⟨b - k, e.2⟩ else 0 := by
  split_ifs with e
  · rw [Finset.sum_eq_single (⟨b - k, e.2⟩ : Fin 32), if_pos (by dsimp only; omega)]
    · exact fun n _ hn => if_neg fun h' => hn (Fin.ext (by show n.val = b - k; omega))
    · exact fun h' => absurd (Finset.mem_univ _) h'
  · exact Finset.sum_eq_zero fun n _ => if_neg fun h' => e (by omega)

theorem slide_eq (f : Fin 32 → Fin 384 → EReal) (a : Fin 4352) : Spec.slide f a
    = (if e : 2 ≤ a.val / 128 ∧ a.val / 128 - 2 < 32 then f ⟨a.val / 128 - 2, e.2⟩ ⟨256 + a.val % 128, by omega⟩ else 0)
      + (if e : 1 ≤ a.val / 128 ∧ a.val / 128 - 1 < 32 then f ⟨a.val / 128 - 1, e.2⟩ ⟨128 + a.val % 128, by omega⟩ else 0)
      + (if e : 0 ≤ a.val / 128 ∧ a.val / 128 - 0 < 32 then f ⟨a.val / 128 - 0, e.2⟩ ⟨a.val % 128, by omega⟩ else 0) := by
  rw [← sum_pick 2 _ fun n => f n ⟨256 + a.val % 128, by omega⟩, ← sum_pick 1 _ fun n => f n ⟨128 + a.val % 128, by omega⟩,
    ← sum_pick 0 _ fun n => f n ⟨a.val % 128, by omega⟩, ← Finset.sum_add_distrib, ← Finset.sum_add_distrib]
  refine Finset.sum_congr rfl fun n _ => ?_
  by_cases h2 : n.val + 2 = a.val / 128
  · rw [dif_pos ⟨by omega, by omega⟩, if_pos h2, if_neg (by omega), if_neg (by omega), add_zero, add_zero]
    exact congrArg (f n) (Fin.ext (by dsimp only; omega))
  by_cases h1 : n.val + 1 = a.val / 128
  · rw [dif_pos ⟨by omega, by omega⟩, if_neg h2, if_pos h1, if_neg (by omega), add_zero, zero_add]
    exact congrArg (f n) (Fin.ext (by dsimp only; omega))
  by_cases h0 : n.val + 0 = a.val / 128
  · rw [dif_pos ⟨by omega, by omega⟩, if_neg h2, if_neg h1, if_pos h0, add_zero, zero_add]
    exact congrArg (f n) (Fin.ext (by dsimp only; omega))
  · rw [dif_neg fun h => by omega, if_neg h2, if_neg h1, if_neg h0, add_zero, add_zero]

theorem slide_out (f : Fin 32 → Fin 384 → EReal) (hf : ∀ n j, ¬ Spec.isKey n j → f n j = 0) (a : Fin 4352)
    (ha : ¬ (128 ≤ a.val ∧ a.val - 128 < 4096)) : Spec.slide f a = 0 :=
  Finset.sum_eq_zero fun n _ => by
    split_ifs with h
    · exact hf _ _ fun hk => ha (by
        have e : 128 ≤ 128 * n.val + (a.val - 128 * n.val) ∧ 128 * n.val + (a.val - 128 * n.val) < 4224 := hk
        omega)
    · rfl

theorem term_eq (f : Fin 32 → Fin 384 → EReal) {P : Prop} [Decidable P] (k b : Nat) (j : Fin 384) (q : P → Fin 32) (r : P → Fin 384)
    (hP : P ↔ k ≤ b ∧ b - k < 32) (hq : ∀ h, (q h).val = b - k) (hr : ∀ h, (r h).val = j.val) :
    (if h : P then f (q h) (r h) else 0) = if e : k ≤ b ∧ b - k < 32 then f ⟨b - k, e.2⟩ j else 0 := by
  by_cases h : P
  · rw [dif_pos h, dif_pos (hP.mp h)]
    exact congrArg₂ f (Fin.ext (hq h)) (Fin.ext (hr h))
  · rw [dif_neg h, dif_neg fun e => h (hP.mpr e)]

/-- The three places of a band, added up over the blocks and cut to the tokens. -/
theorem bands_eq (f : Fin 32 → Fin 384 → EReal) (hf : ∀ n j, ¬ Spec.isKey n j → f n j = 0) (a : Fin 4352) (r : Fin 256) (z : EReal) (hz : z = 0) :
    (if h : 128 ≤ a.val ∧ a.val - 128 < 4096 then
      ((if h_1 : (2 ≤ (128 + (a.val - 128)) / 128 ∧ (128 + (a.val - 128)) / 128 - 2 < 32) ∧
                (128 + (a.val - 128)) % 128 < 128 ∧ r.val / 64 < 4 ∧ r.val % 64 < 64 then
            f ⟨(128 + (a.val - 128)) / 128 - 2, h_1.1.2⟩ ⟨256 + (128 + (a.val - 128)) % 128, by omega⟩
          else 0) +
          if h_1 : (1 ≤ (128 + (a.val - 128)) / 128 ∧ (128 + (a.val - 128)) / 128 - 1 < 32) ∧
                (128 + (a.val - 128)) % 128 < 128 ∧ r.val / 64 < 4 ∧ r.val % 64 < 64 then
            f ⟨(128 + (a.val - 128)) / 128 - 1, h_1.1.2⟩ ⟨128 + (128 + (a.val - 128)) % 128, by omega⟩
          else 0) +
        if h_1 : (128 + (a.val - 128)) / 128 < 32 ∧ (128 + (a.val - 128)) % 128 < 128 ∧ r.val / 64 < 4 ∧ r.val % 64 < 64 then
          f ⟨(128 + (a.val - 128)) / 128, h_1.1⟩ ⟨(128 + (a.val - 128)) % 128, by omega⟩
        else 0
    else z) = Spec.slide f a := by
  by_cases h : 128 ≤ a.val ∧ a.val - 128 < 4096
  · rw [dif_pos h, slide_eq]
    refine congrArg₂ (fun u v : EReal => u + v) (congrArg₂ (fun u v : EReal => u + v) ?_ ?_) ?_
    · exact term_eq f 2 (a.val / 128) ⟨256 + a.val % 128, by omega⟩ _ _ (by omega) (fun _ => by dsimp only; omega) (fun _ => by dsimp only; omega)
    · exact term_eq f 1 (a.val / 128) ⟨128 + a.val % 128, by omega⟩ _ _ (by omega) (fun _ => by dsimp only; omega) (fun _ => by dsimp only; omega)
    · exact term_eq f 0 (a.val / 128) ⟨a.val % 128, by omega⟩ _ _ (by omega) (fun _ => by dsimp only; omega) (fun _ => by dsimp only; omega)
  · rw [dif_neg h, hz, slide_out f hf a h]

theorem ds_out (A : Spec.Args) (h : ¬ Spec.isKey n j) : A.ds n kk g i j = 0 :=
  Row.ds_bot _ _ _ (if_neg fun h' => h h'.2)

theorem probs_out (A : Spec.Args) (h : ¬ Spec.isKey n j) : A.probs n kk g i j = 0 :=
  Row.probs_bot _ _ (if_neg fun h' => h h'.2)

theorem dkPart_out (A : Spec.Args) (h : ¬ Spec.isKey n j) : A.dkPart n kk j d = 0 :=
  Finset.sum_eq_zero fun g _ => Finset.sum_eq_zero fun i _ => by rw [ds_out n kk g i j A h, zero_mul, mul_zero]

theorem dvPart_out (A : Spec.Args) (h : ¬ Spec.isKey n j) : A.dvPart n kk j d = 0 :=
  Finset.sum_eq_zero fun g _ => Finset.sum_eq_zero fun i _ => by rw [probs_out n kk g i j A h, mul_zero]

include hA

theorem valueGrad_apply (r : Fin 256) (a : Fin 4352) : val_main_v199 x0 x1 x2 x3 (ix2 r a)
    = Spec.slide (fun n j => (args x0 x1 x2 x3).dvPart n ⟨r.val / 64, by omega⟩ j ⟨r.val % 64, by omega⟩) a := by
  rw [← bands_eq _ (fun n j h => dvPart_out n _ j _ _ h) a r _ Sums.zeroWord]
  simp only [← dv_apply _ _ _ _ hA]
  unfold val_main_v199 val_main_v198 val_main_v197 val_main_v177 val_main_v175 val_main_v174 val_main_v173 val_main_v172 val_main_v171 val_main_v170 val_main_v169 val_main_v168 val_main_v167
  generalize val_main_v120 x0 x1 x2 x3 = y
  pointwise [val_main_call3_v0, val_main_c_39, val_main_cst_32, val_main_cst_33, val_main_cst_34]

theorem keyGrad_apply (r : Fin 256) (a : Fin 4352) : val_main_v196 x0 x1 x2 x3 (ix2 r a)
    = Spec.slide (fun n j => (args x0 x1 x2 x3).dkPart n ⟨r.val / 64, by omega⟩ j ⟨r.val % 64, by omega⟩) a := by
  rw [← bands_eq _ (fun n j h => dkPart_out n _ j _ _ h) a r _ Sums.zeroWord]
  simp only [← dk_apply _ _ _ _ hA]
  unfold val_main_v196 val_main_v195 val_main_v194 val_main_v189 val_main_v187 val_main_v186 val_main_v185 val_main_v184 val_main_v183 val_main_v182 val_main_v181 val_main_v180 val_main_v179
  generalize val_main_v166 x0 x1 x2 x3 = y
  pointwise [val_main_call2_v0, val_main_c_38, val_main_cst_35, val_main_cst_36, val_main_cst_37]

/-! ### The results -/

theorem resultQ : val_main_v193 x0 x1 x2 x3 = Spec.gradQ (args x0 x1 x2 x3) := by
  funext x
  idx_vars x
  have h1 := fun n i kk g d => dq_apply n kk g i d hA
  unfold val_main_v193 val_main_v192 val_main_v191 Spec.gradQ
  generalize val_main_v164 (F := Ideal) _ _ _ _ = y at *
  pointwise
  rw [h1]

theorem resultK : val_main_v196 x0 x1 x2 x3 = Spec.gradK (args x0 x1 x2 x3) := by
  funext x
  idx_vars x
  exact keyGrad_apply hA x0 x1

theorem resultV : val_main_v199 x0 x1 x2 x3 = Spec.gradV (args x0 x1 x2 x3) := by
  funext x
  idx_vars x
  exact valueGrad_apply hA x0 x1

theorem resultB (x4 : Vec Ideal S16x128x384 .f32) : val_main_v200 x0 x1 x2 x3 x4 = Spec.gradB (args x0 x1 x2 x3) x4 := by
  funext x
  idx_vars x
  exact congrArg (fun u : EReal => x4 (ix3 x0 x1 x2) + u) (bias_apply x1 x2 hA x0)

theorem resultS : val_main_v201 x0 x1 x2 x3 = Spec.gradS (args x0 x1 x2 x3) := by
  funext x
  idx_vars x
  have h1 := fun kk g => sinks_apply kk g hA
  unfold val_main_v201 val_main_v154 Spec.gradS
  generalize val_main_v153 (F := Ideal) _ _ _ _ = y at *
  pointwise
  rw [h1]

end Cert.ReferenceIdeal.Attn

end
-- ==== Proof.AttnFine.lean ====
module

public import proofs.«01_k».proof.Defs
public import proofs.«01_k».proof.Proof.AttnBlocks
public import proofs.«01_k».proof.Proof.RefGrad

@[expose] public section

set_option maxRecDepth 16384

noncomputable section

namespace Cert.Attn

open Idealize.ShloMosaic Idealize.ShloMosaic.TcCoe

/-! ## Finite inputs -/

instance andi_comm : Std.Commutative (IntOp.andi : BitVec 1 → BitVec 1 → BitVec 1) := ⟨by decide⟩
instance andi_assoc : Std.Associative (IntOp.andi : BitVec 1 → BitVec 1 → BitVec 1) := ⟨by decide⟩

theorem fold_and {ι : Type} [DecidableEq ι] (b : BitVec 1) (x : ι → BitVec 1) (T : Finset ι) (h : T.fold IntOp.andi b x = 1#1) :
    ∀ i ∈ T, x i = 1#1 := by
  induction T using Finset.induction_on with
  | empty => exact fun i hi => absurd hi (Finset.notMem_empty i)
  | insert a T ha ih =>
    rw [Finset.fold_insert ha, Spec.and_word] at h
    intro i hi
    rcases Finset.mem_insert.mp hi with rfl | hi
    · exact h.1
    · exact ih h.2 i hi

theorem all_of {s : Shape} {axes : List (Fin s.rank)} (x : IVec s 1) (b : IVec ⟨0, ![]⟩ 1) (h : s.ReducesTo axes ⟨0, ![]⟩)
    (hu : 0 < (⟨0, ![]⟩ : Shape).numel) (j : (⟨0, ![]⟩ : Shape).Idx) (e : Host.reduce IntOp.andi x b h hu j = 1#1) (i : s.Idx) : x i = 1#1 := by
  rw [Host.reduce_eq_fold] at e
  exact fold_and _ _ _ e i (Finset.mem_filter.mpr ⟨Finset.mem_univ i, funext fun a => a.elim0⟩)

theorem real_of (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have h1 : max x (-x) < ⊤ := by
    by_contra hn
    unfold Ideal.cmp at h
    simp [hn] at h
  rw [max_lt_iff] at h1
  refine ⟨x.toReal, (EReal.coe_toReal h1.1.ne fun hb => ?_).symm⟩
  rw [hb] at h1
  exact absurd h1.2 (by simp)

theorem reals_of {s : Shape} {axes : List (Fin s.rank)} (x : FVec Ideal s .f32) (hb : (⟨0, ![]⟩ : Shape).BroadcastsInDim s ![])
    (b : IVec ⟨0, ![]⟩ 1) (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32))) b h hu j = 1#1)
    (i : s.Idx) : ∃ r : ℝ, (x i : EReal) = r :=
  real_of (x i) (all_of _ _ _ _ _ e i)

theorem sum_real {n : ℕ} (f : Fin n → EReal) (h : ∀ i, ∃ r : ℝ, f i = r) : ∃ r : ℝ, ∑ i, f i = r := by
  choose r hr using h
  refine ⟨∑ i, r i, ?_⟩
  rw [← Row.coe_sum]
  exact Finset.sum_congr rfl fun i _ => hr i

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem eighth_real : ∃ r : ℝ, Spec.eighth = r := by
  refine ⟨8388608 * (2 ^ 26)⁻¹, ?_⟩
  unfold Spec.eighth
  rw [EReal.coe_mul]
  simp [Ideal.ofBits, Ideal.ieee]

open Cert.ReferenceIdeal.Attn in
theorem fine_of (A : Spec.Args) (h0 : ∀ i, ∃ r : ℝ, A.proj i = r) (h1 : ∀ i, ∃ r : ℝ, A.sink i = r) (h2 : ∀ i, ∃ r : ℝ, A.bias i = r)
    (h3 : ∀ i, ∃ r : ℝ, A.dcat i = r) : Fine A := by
  refine ⟨fun n kk g i j => ?_, fun kk g => h1 _, fun n kk g i j => ?_⟩
  · unfold Spec.Args.score
    split_ifs with h
    · obtain ⟨r, hr⟩ := add_real (mul_real (sum_real _ fun d => mul_real (h0 _) (y := A.key n kk j d) (by
        unfold Spec.Args.key
        split_ifs
        · exact h0 _
        · exact ⟨0, rfl⟩)) eighth_real) (h2 (ix3 (Spec.head kk g) i j))
      exact fun e => EReal.coe_ne_top r (hr.symm.trans e)
    · exact bot_ne_top
  · exact sum_real _ fun d => mul_real (h3 _) (by
      unfold Spec.Args.value
      split_ifs
      · exact h0 _
      · exact ⟨0, rfl⟩)

theorem fine [Cert.Pre_finite.Facts] (m : (ℓ : Loc Cert.KernelIdeal.nD Cert.KernelIdeal.τ Cert.KernelIdeal.sig) → Buf (Elt Ideal) ℓ)
    (h : Pre_KernelIdeal_finite m) (c : Dev Cert.KernelIdeal.nD) : Cert.ReferenceIdeal.Attn.Fine (Cert.KernelIdeal.Attn.args m c) := by
  have e := congrFun (h c) (fun a => a.elim0)
  unfold Cert.Pre_finite.fn Cert.Pre_finite.fn_part1 at e
  dsimp only at e
  have e3 := (Spec.and_word _ _).mp e
  have e2 := (Spec.and_word _ _).mp e3.1
  have e1 := (Spec.and_word _ _).mp e2.1
  exact fine_of _ (reals_of _ _ _ _ _ _ e1.1) (reals_of _ _ _ _ _ _ e1.2) (reals_of _ _ _ _ _ _ e2.2) (reals_of _ _ _ _ _ _ e3.2)

end Cert.Attn

end
-- ==== Proof.AttnGrp.lean ====
module

public import proofs.«01_k».proof.Proof.AttnBlocks

@[expose] public section

set_option maxRecDepth 16384

noncomputable section

namespace Cert.KernelIdeal.Attn

open Cert.KernelIdeal.Gen
open Idealize.ShloMosaic Idealize.ShloMosaic.TcCoe

variable (m : (ℓ : Loc nD τ sig) → Buf (Elt Ideal) ℓ) (c : Dev nD)

theorem rd_ld {sp : Space} {s : Shape} {e : EltTy} (a : Memref sig .tc sp s e) (ha : a.IsWhole) (x : s.Idx → Elt Ideal e) (r : Rect s) :
    rd a ha x r = View.ld x r := rd_eq a ha x r

theorem coords_eq : ∀ t : Fin cfg0.N, (grid0.coords t 0).val = t.val :=
  (by decide +kernel : ∀ t : Fin grid0.N, (grid0.coords t 0).val = t.val)

/-- The row of a group's stack that holds token `i` of query head `g`. -/
abbrev stack (g : Fin 4) (i : Fin 128) : Fin 512 := ⟨128 * g.val + i.val, by omega⟩

variable (t : Fin cfg0.N) (kk g : Fin 4) (i : Fin 128) (j : Fin 384) (d : Fin 64)

/-! ### A group's operands -/

theorem grp_mask : (grp m c t kk).mask (ix2 0 j) = 1#1 ↔ Spec.isKey (blkOf t) j := by
  have e := coords_eq t
  unfold grp
  dsimp only
  unfold k0_pay4
  rw [e]
  pointwise
  exact Spec.isKey_word (blkOf t) j

theorem q_at (x : Fin 128) (y : Fin 1024) (hx : x.val = i.val) (hy : y.val = (4 * kk.val + g.val) * 64 + d.val) :
    X0_0 m c t (ix2 x y) = (args m c).query (blkOf t) kk g i d := by
  refine (q_blk m c t x y).trans ?_
  unfold Spec.Args.query
  exact congrArg₂ (fun u v => (args m c).proj (ix2 u v)) (Fin.ext (by dsimp only; omega)) (Fin.ext (by dsimp only; omega))

theorem o_at (x : Fin 128) (y : Fin 1024) (hx : x.val = i.val) (hy : y.val = (4 * kk.val + g.val) * 64 + d.val) :
    (iblk m c 7 t : Vec Ideal S128x1024 .f32) (ix2 x y) = (args m c).dout (blkOf t) kk g i d := by
  refine (o_blk m c t x y).trans ?_
  unfold Spec.Args.dout
  exact congrArg₂ (fun u v => (args m c).dcat (ix2 u v)) (Fin.ext (by dsimp only; omega)) (Fin.ext (by dsimp only; omega))

theorem grp_q : (grp m c t kk).q (ix2 (stack g i) d) = (args m c).query (blkOf t) kk g i d := by
  unfold grp
  dsimp only
  rw [rd_ld, rd_ld, rd_ld, rd_ld]
  pointwise [k0_pay7]
  split_ifs <;> exact q_at m c t kk g i d _ _ (by dsimp only; omega) (by dsimp only; omega)

theorem grp_o : (grp m c t kk).o (ix2 (stack g i) d) = (args m c).dout (blkOf t) kk g i d := by
  unfold grp
  dsimp only
  rw [rd_ld, rd_ld, rd_ld, rd_ld]
  pointwise [k0_pay7]
  split_ifs <;> exact o_at m c t kk g i d _ _ (by dsimp only; omega) (by dsimp only; omega)

theorem kp_at (x : Fin 128) (y : Fin 256) (p : Fin 4096) (b : Fin 2560) (hp : p.val = 128 * (t.val - 1) + x.val) (hb : b.val = 1024 + y.val) :
    (iblk m c 1 t : Vec Ideal S128x256 .f32) (ix2 x y) = (args m c).proj (ix2 p b) := by
  refine (kp_blk m c t x y).trans ?_
  exact congrArg₂ (fun u v => (args m c).proj (ix2 u v)) (Fin.ext hp.symm) (Fin.ext hb.symm)

theorem kc_at (x : Fin 128) (y : Fin 256) (p : Fin 4096) (b : Fin 2560) (hp : p.val = 128 * (t.val) + x.val) (hb : b.val = 1024 + y.val) :
    (iblk m c 2 t : Vec Ideal S128x256 .f32) (ix2 x y) = (args m c).proj (ix2 p b) := by
  refine (kc_blk m c t x y).trans ?_
  exact congrArg₂ (fun u v => (args m c).proj (ix2 u v)) (Fin.ext hp.symm) (Fin.ext hb.symm)

theorem vp_at (x : Fin 128) (y : Fin 256) (p : Fin 4096) (b : Fin 2560) (hp : p.val = 128 * (t.val - 1) + x.val) (hb : b.val = 1280 + y.val) :
    (iblk m c 4 t : Vec Ideal S128x256 .f32) (ix2 x y) = (args m c).proj (ix2 p b) := by
  refine (vp_blk m c t x y).trans ?_
  exact congrArg₂ (fun u v => (args m c).proj (ix2 u v)) (Fin.ext hp.symm) (Fin.ext hb.symm)

theorem vc_at (x : Fin 128) (y : Fin 256) (p : Fin 4096) (b : Fin 2560) (hp : p.val = 128 * (t.val) + x.val) (hb : b.val = 1280 + y.val) :
    (iblk m c 5 t : Vec Ideal S128x256 .f32) (ix2 x y) = (args m c).proj (ix2 p b) := by
  refine (vc_blk m c t x y).trans ?_
  exact congrArg₂ (fun u v => (args m c).proj (ix2 u v)) (Fin.ext hp.symm) (Fin.ext hb.symm)

theorem kn_at (x : Fin 128) (y : Fin 256) (p : Fin 4096) (b : Fin 2560) (hp : p.val = 128 * (min (t.val + 1) 31) + x.val) (hb : b.val = 1024 + y.val) :
    (iblk m c 3 t : Vec Ideal S128x256 .f32) (ix2 x y) = (args m c).proj (ix2 p b) := by
  refine (kn_blk m c t x y).trans ?_
  exact congrArg₂ (fun u v => (args m c).proj (ix2 u v)) (Fin.ext hp.symm) (Fin.ext hb.symm)

theorem vn_at (x : Fin 128) (y : Fin 256) (p : Fin 4096) (b : Fin 2560) (hp : p.val = 128 * (min (t.val + 1) 31) + x.val) (hb : b.val = 1280 + y.val) :
    (iblk m c 6 t : Vec Ideal S128x256 .f32) (ix2 x y) = (args m c).proj (ix2 p b) := by
  refine (vn_blk m c t x y).trans ?_
  exact congrArg₂ (fun u v => (args m c).proj (ix2 u v)) (Fin.ext hp.symm) (Fin.ext hb.symm)

theorem grp_k (h : Spec.isKey (blkOf t) j) : (grp m c t kk).k (ix2 j d) = (args m c).key (blkOf t) kk j d := by
  obtain ⟨h1, h2⟩ := h
  dsimp only at h1 h2
  unfold Spec.Args.key
  rw [dif_pos ⟨h1, h2⟩]
  unfold grp
  dsimp only
  rw [rd_ld, rd_ld, rd_ld]
  pointwise [k0_pay5]
  by_cases ha : j.val < 128
  · rw [dif_pos ha]
    exact kp_at m c t _ _ _ _ (by dsimp only; omega) (by dsimp only; omega)
  rw [dif_neg ha]
  by_cases hb : j.val - 128 < 128
  · rw [dif_pos hb]
    exact kc_at m c t _ _ _ _ (by dsimp only; omega) (by dsimp only; omega)
  · rw [dif_neg hb]
    exact kn_at m c t _ _ _ _ (by dsimp only; omega) (by dsimp only; omega)

theorem grp_v (h : Spec.isKey (blkOf t) j) : (grp m c t kk).v (ix2 j d) = (args m c).value (blkOf t) kk j d := by
  obtain ⟨h1, h2⟩ := h
  dsimp only at h1 h2
  unfold Spec.Args.value
  rw [dif_pos ⟨h1, h2⟩]
  unfold grp
  dsimp only
  rw [rd_ld, rd_ld, rd_ld]
  pointwise [k0_pay6]
  by_cases ha : j.val < 128
  · rw [dif_pos ha]
    exact vp_at m c t _ _ _ _ (by dsimp only; omega) (by dsimp only; omega)
  rw [dif_neg ha]
  by_cases hb : j.val - 128 < 128
  · rw [dif_pos hb]
    exact vc_at m c t _ _ _ _ (by dsimp only; omega) (by dsimp only; omega)
  · rw [dif_neg hb]
    exact vn_at m c t _ _ _ _ (by dsimp only; omega) (by dsimp only; omega)

theorem s_at (x : Fin 16) (hx : x.val = 4 * kk.val + g.val) : (iblk m c 9 t : Vec Ideal S1x16 .f32) (ix2 (0 : Fin 1) x) = (args m c).sk kk g := by
  rw [s_blk, sink_eq]
  exact congrArg (fun u => (args m c).sink (ix1 u)) (Fin.ext hx)

theorem grp_s : (grp m c t kk).s (ix2 (stack g i) 0) = (args m c).sk kk g := by
  unfold grp
  dsimp only
  rw [rd_ld, rd_ld, rd_ld, rd_ld]
  pointwise [k0_pay11]
  split_ifs <;> exact s_at m c t kk g _ (by dsimp only; omega)

theorem grp_b : (grp m c t kk).b (ix3 g i j) = if Spec.near i j then (args m c).bias (ix3 (Spec.head kk g) i j) else ⊥ := by
  unfold grp
  dsimp only
  rw [rd_ld, b_blk, ← bias_eq]
  pointwise

/-! ### A row of a group -/

theorem row_score : (grp m c t kk).rowS (stack g i) = (args m c).score (blkOf t) kk g i := by
  funext j
  unfold Spec.Args.score Grp.rowS
  rw [Grp.score_apply]
  have hg : (⟨(stack g i).val / 128, by omega⟩ : Fin 4) = g := Fin.ext (by dsimp only; omega)
  have hi : (⟨(stack g i).val % 128, by omega⟩ : Fin 128) = i := Fin.ext (by dsimp only; omega)
  rw [hg, hi, grp_b]
  by_cases hk : Spec.isKey (blkOf t) j
  · rw [if_pos ((grp_mask m c t kk j).mpr hk)]
    simp only [grp_q, grp_k m c t kk j _ hk]
    by_cases hn : Spec.near i j
    · rw [if_pos hn, if_pos ⟨hn, hk⟩]
    · rw [if_neg hn, if_neg (fun h => hn h.1), EReal.add_bot]
  · rw [if_neg (fun h => hk ((grp_mask m c t kk j).mp h)), if_neg (fun h => hk h.2)]

theorem row_sink : (grp m c t kk).rowK (stack g i) = (args m c).sk kk g := grp_s m c t kk g i

theorem score_bot {A : Spec.Args} {n : Fin 32} (h : ¬Spec.isKey n j) : A.score n kk g i j = ⊥ := by
  unfold Spec.Args.score
  exact if_neg fun h' => h h'.2

theorem row_dp (h : (args m c).score (blkOf t) kk g i j ≠ ⊥) : (grp m c t kk).rowD (stack g i) j = (args m c).dp (blkOf t) kk g i j := by
  have hk : Spec.isKey (blkOf t) j := by
    by_contra hk
    exact h (score_bot kk g i j hk)
  unfold Spec.Args.dp Grp.rowD
  rw [Grp.dp_apply]
  simp only [grp_o, grp_v m c t kk j _ hk]

theorem grp_probs : (grp m c t kk).probs (ix2 (stack g i) j) = (args m c).probs (blkOf t) kk g i j := by
  unfold Spec.Args.probs
  rw [Grp.probs_apply, row_score, row_sink]

theorem grp_ds : (grp m c t kk).ds (ix2 (stack g i) j) = (args m c).ds (blkOf t) kk g i j := by
  unfold Spec.Args.ds
  rw [Grp.ds_apply, row_score, row_sink]
  exact congrFun (Row.ds_congr _ _ fun j => row_dp m c t kk g i j) j

theorem grp_sinkRows : (grp m c t kk).sinkRows (ix2 (stack g i) 0) = (args m c).sinkRow (blkOf t) kk g i := by
  unfold Spec.Args.sinkRow
  rw [Grp.sinkRows_apply, row_score, row_sink]
  exact Row.sinkRow_congr _ _ fun j => row_dp m c t kk g i j

theorem ds_zero {A : Spec.Args} {n : Fin 32} (h : ¬Spec.isKey n j) : A.ds n kk g i j = 0 :=
  Row.ds_bot _ _ _ (score_bot kk g i j h)

/-! ### A group's gradients -/

theorem grp_dq : (grp m c t kk).dq (ix2 (stack g i) d) = (args m c).dq (blkOf t) kk g i d := by
  unfold Spec.Args.dq
  rw [Grp.dq_apply]
  refine Finset.sum_congr rfl fun j _ => ?_
  rw [grp_ds]
  by_cases hk : Spec.isKey (blkOf t) j
  · rw [grp_k m c t kk j d hk]
  · rw [ds_zero kk g i j hk, zero_mul, zero_mul, zero_mul]

/-- A sum over a group's rows, head by head. -/
theorem sum_stack (f : Fin 512 → EReal) : ∑ r : Fin 512, f r = ∑ g : Fin 4, ∑ i : Fin 128, f (stack g i) := by
  rw [← Fintype.sum_prod_type' (f := fun g i => f (stack g i)), ← (finProdFinEquiv (m := 4) (n := 128)).sum_comp]
  refine Finset.sum_congr rfl fun x _ => congrArg f (Fin.ext ?_)
  show x.2.val + 128 * x.1.val = 128 * x.1.val + x.2.val
  omega

theorem grp_dk : (grp m c t kk).dk (ix2 d j) = (args m c).dkPart (blkOf t) kk j d := by
  unfold Spec.Args.dkPart
  rw [Grp.dk_apply, sum_stack]
  simp only [grp_q, grp_ds]

theorem grp_dv : (grp m c t kk).dv (ix2 d j) = (args m c).dvPart (blkOf t) kk j d := by
  unfold Spec.Args.dvPart
  rw [Grp.dv_apply, sum_stack]
  simp only [grp_o, grp_probs]

theorem grp_dqBlock (a : Fin 256) :
    (grp m c t kk).dqBlock (ix2 i a) = (args m c).dq (blkOf t) kk ⟨a.val / 64, by omega⟩ i ⟨a.val % 64, by omega⟩ := by
  rw [Grp.dqBlock_apply, ← grp_dq]
  exact congrArg (fun u => (grp m c t kk).dq (ix2 u _)) (Fin.ext (by dsimp only; omega))

theorem sinkAt_eq (h : Fin 16) :
    sinkAt m c t h = ∑ i : Fin 128, (args m c).sinkRow (blkOf t) ⟨h.val / 4, by omega⟩ ⟨h.val % 4, by omega⟩ i := by
  unfold sinkAt
  rw [Grp.sinkSum_apply]
  refine Finset.sum_congr rfl fun i _ => ?_
  rw [← grp_sinkRows]
  exact congrArg (fun u => (grp m c t _).sinkRows (ix2 u 0)) (Fin.ext (by dsimp only; omega))

end Cert.KernelIdeal.Attn

end
-- ==== Proof.AttnStep.lean ====
module

public import proofs.«01_k».proof.Proof.AttnGrp

@[expose] public section

set_option maxRecDepth 16384

noncomputable section

namespace Cert.Spec

/-- A sum over the blocks before `k`. -/
def upTo (k : ℕ) (f : Fin 32 → EReal) : EReal := ∑ n : Fin 32, if n.val < k then f n else 0

theorem upTo_zero (f : Fin 32 → EReal) : upTo 0 f = 0 :=
  Finset.sum_eq_zero fun n _ => if_neg (Nat.not_lt_zero _)

theorem upTo_succ (k : ℕ) (hk : k < 32) (f : Fin 32 → EReal) : upTo (k + 1) f = upTo k f + f ⟨k, hk⟩ := by
  unfold upTo
  have e : f ⟨k, hk⟩ = ∑ n : Fin 32, if n = ⟨k, hk⟩ then f n else 0 := by rw [Finset.sum_ite_eq' Finset.univ (⟨k, hk⟩ : Fin 32) f, if_pos (Finset.mem_univ _)]
  rw [e, ← Finset.sum_add_distrib]
  refine Finset.sum_congr rfl fun n _ => ?_
  by_cases h1 : n.val < k
  · rw [if_pos (by omega), if_pos h1, if_neg (fun h => by rw [h] at h1; exact absurd h1 (Nat.lt_irrefl k)), add_zero]
  · by_cases h2 : n.val = k
    · rw [if_pos (by omega), if_neg h1, if_pos (Fin.ext h2), zero_add]
    · rw [if_neg (by omega), if_neg h1, if_neg (fun h => h2 (congrArg Fin.val h)), add_zero]

theorem upTo_all (f : Fin 32 → EReal) : upTo 32 f = ∑ n : Fin 32, f n :=
  Finset.sum_congr rfl fun n _ => if_pos n.isLt

end Cert.Spec

namespace Cert.KernelIdeal.Attn

open Cert.KernelIdeal.Gen
open Idealize.ShloMosaic Idealize.ShloMosaic.TcCoe

variable (m : (ℓ : Loc nD τ sig) → Buf (Elt Ideal) ℓ) (c : Dev nD)

/-! ## One point's pieces, read at an index -/

theorem slabOff_eq : ∀ (t : Fin cfg0.N) (kk : Fin 4), slabOff (grid0.coords t) kk = ![64 * kk.val, 128 * t.val] :=
  (by decide +kernel : ∀ (t : Fin grid0.N) (kk : Fin 4), slabOff (grid0.coords t) kk = ![64 * kk.val, 128 * t.val])

section Slab

variable {sp : Space} (v : View sig .tc sp S256x4352 .f32) (f : v.ty.Contents (Elt Ideal)) (t : Fin cfg0.N)
  (G : Fin 4 → FVec Ideal S64x384 .f32) (u : Fin 256) (a : Fin 4352)

/-- Slabs rewritten with something added to what they held. -/
theorem slab_step (old : Vec Ideal S256x4352 .f32) (hf : v.read (Elt Ideal) f = old) :
    v.read (Elt Ideal) (v.writes (Elt Ideal) f (View.tilePieces (s := S256x4352) (e := .f32) S64x384.size (slabOff (grid0.coords t)) (inb_slab _)
      (fun kk => addSlab (View.ld old (slabRect t kk)) (G kk)) 4 le_rfl)) (ix2 u a)
      = (old (ix2 u a) : EReal) + if h : 128 * t.val ≤ a.val ∧ a.val < 128 * t.val + 384 then
          (G ⟨u.val / 64, by omega⟩ (ix2 (⟨u.val % 64, by omega⟩ : Fin 64) (⟨a.val - 128 * t.val, by omega⟩ : Fin 384)) : EReal) else 0 := by
  by_cases h : 128 * t.val ≤ a.val ∧ a.val < 128 * t.val + 384
  · rw [dif_pos h]
    refine (View.read_tilePieces v f _ _ _ _ 4 le_rfl (ix2 u a) ⟨u.val / 64, by omega⟩ (by dsimp only; omega)
      (ix2 (⟨u.val % 64, by omega⟩ : Fin 64) (⟨a.val - 128 * t.val, by omega⟩ : Fin 384)) ?_ 0 ?_).trans ?_
    · intro d
      rw [slabOff_eq]
      match d with
      | ⟨0, _⟩ => show u.val = 64 * (u.val / 64) + u.val % 64; omega
      | ⟨1, _⟩ => show a.val = 128 * t.val + (a.val - 128 * t.val); omega
    · intro i' hi
      rw [slabOff_eq]
      have hi' : i'.val ≠ u.val / 64 := fun e => hi (Fin.ext e)
      show u.val < 64 * i'.val ∨ 64 * i'.val + 64 ≤ u.val
      omega
    · have e : (slabRect t ⟨u.val / 64, by omega⟩).idx (ix2 (⟨u.val % 64, by omega⟩ : Fin 64) (⟨a.val - 128 * t.val, by omega⟩ : Fin 384)) = ix2 u a := by
        funext d
        refine Fin.ext ?_
        show slabOff (grid0.coords t) ⟨u.val / 64, by omega⟩ d + 1 * _ = _
        rw [slabOff_eq]
        match d with
        | ⟨0, _⟩ => show 64 * (u.val / 64) + 1 * (u.val % 64) = u.val; omega
        | ⟨1, _⟩ => show 128 * t.val + 1 * (a.val - 128 * t.val) = a.val; omega
      show (addSlab (F := Ideal) (View.ld old (slabRect t _)) (G _) _ : EReal) = _
      unfold addSlab
      rw [shapeCast_id]
      exact congrArg (fun y => (old y : EReal) + _) e
  · rw [dif_neg h, add_zero, ← hf]
    refine View.read_tilePieces_miss v f _ _ _ _ 4 le_rfl (ix2 u a) 1 fun i' _ => ?_
    rw [slabOff_eq]
    show a.val < 128 * t.val ∨ 128 * t.val + 384 ≤ a.val
    omega

end Slab

section Bias

variable {sp : Space} (v : View sig .tc sp S16x128x384 .f32) (f : v.ty.Contents (Elt Ideal))
  (G : Fin 4 → FVec Ideal S512x384 .f32) (h : Fin 16) (i : Fin 128) (j : Fin 384)

/-- Four heads at a time rewritten with something added to what they held. -/
theorem bias_step (old : Vec Ideal S16x128x384 .f32) :
    v.read (Elt Ideal) (v.writes (Elt Ideal) f (View.tilePieces (s := S16x128x384) (e := .f32) S4x128x384.size (fun kk : Fin 4 => ![4 * kk.val, 0, 0]) inb_b
      (fun kk => addBias (View.ld old (biasRect kk)) (G kk)) 4 le_rfl)) (ix3 h i j)
      = (old (ix3 h i j) : EReal) + (G ⟨h.val / 4, by omega⟩ (ix2 (stack ⟨h.val % 4, by omega⟩ i) j) : EReal) := by
  refine (View.read_tilePieces v f _ _ _ _ 4 le_rfl (ix3 h i j) ⟨h.val / 4, by omega⟩ (by dsimp only; omega)
    (ix3 (⟨h.val % 4, by omega⟩ : Fin 4) i j) ?_ 0 ?_).trans ?_
  · intro d
    match d with
    | ⟨0, _⟩ => show h.val = 4 * (h.val / 4) + h.val % 4; omega
    | ⟨1, _⟩ => show i.val = 0 + i.val; omega
    | ⟨2, _⟩ => show j.val = 0 + j.val; omega
  · intro i' hi
    have hi' : i'.val ≠ h.val / 4 := fun e => hi (Fin.ext e)
    show h.val < 4 * i'.val ∨ 4 * i'.val + 4 ≤ h.val
    omega
  · pointwise
    refine congrArg₂ (fun x y : EReal => x + y) (congrArg (fun x => old (ix3 x i j)) (Fin.ext ?_)) (congrArg (fun x => G _ (ix2 x j)) (Fin.ext ?_)) <;> dsimp only <;> omega

end Bias

section Sinks

variable {sp : Space} (v : View sig .tc sp S1x16 .f32) (f : v.ty.Contents (Elt Ideal)) (old : Fin 16 → FVec Ideal S1x1 .f32)
  (G : Fin 16 → EReal) (h : Fin 16)

theorem sink_step :
    v.read (Elt Ideal) (v.writes (Elt Ideal) f (View.tilePieces (s := S1x16) (e := .f32) S1x1.size (fun k : Fin 16 => ![0, k.val]) inb_s
      (fun k => addSink (F := Ideal) (old k) (G k)) 16 le_rfl)) (ix2 0 h) = (old h (ix2 0 0) : EReal) + G h := by
  refine (View.read_tilePieces v f _ _ _ _ 16 le_rfl (ix2 0 h) h h.isLt (ix2 (0 : Fin 1) (0 : Fin 1)) ?_ 1 ?_).trans ?_
  · intro d
    match d with
    | ⟨0, _⟩ => rfl
    | ⟨1, _⟩ => show h.val = h.val + 0; omega
  · intro i' hi
    have hi' : i'.val ≠ h.val := fun e => hi (Fin.ext e)
    show h.val < i'.val ∨ i'.val + 1 ≤ h.val
    omega
  · show (old h _ : EReal) + G h = _
    refine congrArg (fun x => (old h x : EReal) + G h) ?_
    funext d
    match d with
    | ⟨0, _⟩ => exact Subsingleton.elim (α := Fin 1) _ _
    | ⟨1, _⟩ => exact Subsingleton.elim (α := Fin 1) _ _

end Sinks

theorem dq_read (t : Fin cfg0.N) (i : Fin 128) (a : Fin 1024) :
    (View.canon (View.tilePieces (s := S128x1024) (e := .bf16) S128x256.size (fun kk : Fin 4 => ![0, 256 * kk.val]) inb_o
      (fun kk => (grp m c t kk).dqBlock) 4 le_rfl) : Vec Ideal S128x1024 .bf16) (ix2 i a)
      = (args m c).dq (blkOf t) ⟨a.val / 256, by omega⟩ ⟨a.val / 64 % 4, by omega⟩ i ⟨a.val % 64, by omega⟩ := by
  rw [← View.read_writes_junk_eq_canon (ms0_11 t).view]
  refine (View.read_tilePieces _ _ _ _ _ _ 4 le_rfl (ix2 i a) ⟨a.val / 256, by omega⟩ (by dsimp only; omega)
    (ix2 i (⟨a.val % 256, by omega⟩ : Fin 256)) ?_ 1 ?_).trans ?_
  · intro d
    match d with
    | ⟨0, _⟩ => show i.val = 0 + i.val; omega
    | ⟨1, _⟩ => show a.val = 256 * (a.val / 256) + a.val % 256; omega
  · intro i' hi
    have hi' : i'.val ≠ a.val / 256 := fun e => hi (Fin.ext e)
    show a.val < 256 * i'.val ∨ 256 * i'.val + 256 ≤ a.val
    omega
  · rw [grp_dqBlock]
    exact congrArg₂ (fun x y => (args m c).dq (blkOf t) _ x i y) (Fin.ext (by dsimp only; omega)) (Fin.ext (by dsimp only; omega))

end Cert.KernelIdeal.Attn

end
-- ==== Proof.AttnOut.lean ====
module

public import proofs.«01_k».proof.Proof.AttnStep
public import proofs.«01_k».proof.Proof.Sums

@[expose] public section

set_option maxRecDepth 16384

noncomputable section

namespace Cert.KernelIdeal.Attn

open Cert.KernelIdeal.Gen
open Idealize.ShloMosaic Idealize.ShloMosaic.TcCoe

variable (m : (ℓ : Loc nD τ sig) → Buf (Elt Ideal) ℓ) (c : Dev nD)

/-! ## The outputs after each point -/

theorem slab_apart (t : Fin cfg0.N) (i i' : Fin 4) (h : i'.val < i.val) :
    slabOff (grid0.coords t) i' 0 + S64x384.size 0 ≤ slabOff (grid0.coords t) i 0 := by
  rw [slabOff_eq, slabOff_eq]
  show 64 * i'.val + 64 ≤ 64 * i.val
  omega

theorem bias_apart (i i' : Fin 4) (h : i'.val < i.val) :
    (![4 * i'.val, 0, 0] : Fin 3 → ℕ) 0 + S4x128x384.size 0 ≤ (![4 * i.val, 0, 0] : Fin 3 → ℕ) 0 := by
  show 4 * i'.val + 4 ≤ 4 * i.val
  omega

theorem whole_read {sp : Space} {s : Shape} {e : EltTy} (v : View sig .tc sp s e) (f : v.ty.Contents (Elt Ideal)) (o : Fin s.rank → ℕ)
    (ho : ∀ a, o a = 0) (hb : ∀ a, o a + s.size a ≤ s.size a) (w : s.Idx → Elt Ideal e) (y : s.Idx) :
    v.read (Elt Ideal) (v.writes (Elt Ideal) f [⟨Rect.unit o s.size hb, w⟩]) y = w y :=
  View.read_writes_cons_unit_of_mem v f hb w [] y y rfl fun a => by rw [ho a, Nat.zero_add]

/-- What block `n` gives column `a` of the keys' gradient. -/
def dkTerm (u : Fin 256) (a : Fin 4352) (n : Fin 32) : EReal :=
  if h : 128 * n.val ≤ a.val ∧ a.val < 128 * n.val + 384 then
    (args m c).dkPart n ⟨u.val / 64, by omega⟩ ⟨a.val - 128 * n.val, by omega⟩ ⟨u.val % 64, by omega⟩ else 0
/-- What block `n` gives column `a` of the values' gradient. -/
def dvTerm (u : Fin 256) (a : Fin 4352) (n : Fin 32) : EReal :=
  if h : 128 * n.val ≤ a.val ∧ a.val < 128 * n.val + 384 then
    (args m c).dvPart n ⟨u.val / 64, by omega⟩ ⟨a.val - 128 * n.val, by omega⟩ ⟨u.val % 64, by omega⟩ else 0

theorem first_dk_apply (t : Fin cfg0.N) (h : t.val = 0) (u : Fin 256) (a : Fin 4352) :
    ((outsFirst m c t h).dk : Vec Ideal S256x4352 .f32) (ix2 u a) = dkTerm m c u a (blkOf t) := by
  unfold outsFirst
  dsimp only
  rw [first_dk, accPieces_eq _ _ _ _ _ _ 0 (slab_apart t), ← View.read_writes_junk_eq_canon (ms0_12 t).view]
  refine (slab_step (ms0_12 t).view ((ms0_12 t).view.writes (Elt Ideal) (ms0_12 t).view.junk [clear12]) t (fun kk => (grp m c t kk).dk) u a _ rfl).trans ?_
  rw [whole_read _ _ _ (by decide)]
  simp only [grp_dk]
  show (Ideal.ofBits .f32 0x00000000#32 : EReal) + _ = _
  rw [Ideal.ofBits_zero_f32, zero_add]
  rfl

theorem first_dv_apply (t : Fin cfg0.N) (h : t.val = 0) (u : Fin 256) (a : Fin 4352) :
    ((outsFirst m c t h).dv : Vec Ideal S256x4352 .f32) (ix2 u a) = dvTerm m c u a (blkOf t) := by
  unfold outsFirst
  dsimp only
  rw [first_dv, accPieces_eq _ _ _ _ _ _ 0 (slab_apart t), ← View.read_writes_junk_eq_canon (ms0_13 t).view]
  refine (slab_step (ms0_13 t).view ((ms0_13 t).view.writes (Elt Ideal) (ms0_13 t).view.junk [clear13]) t (fun kk => (grp m c t kk).dv) u a _ rfl).trans ?_
  rw [whole_read _ _ _ (by decide)]
  simp only [grp_dv]
  show (Ideal.ofBits .f32 0x00000000#32 : EReal) + _ = _
  rw [Ideal.ofBits_zero_f32, zero_add]
  rfl

theorem later_dk_apply (t : Fin cfg0.N) (h : ¬t.val = 0) (x : Outs Ideal) (u : Fin 256) (a : Fin 4352) :
    ((outsLater m c t h x).dk : Vec Ideal S256x4352 .f32) (ix2 u a) = (x.dk (ix2 u a) : EReal) + dkTerm m c u a (blkOf t) := by
  unfold outsLater
  dsimp only
  rw [later_dk]
  simp only [rd_ld]
  refine (slab_step (ms0_12 t).view _ t (fun kk => (grp m c t kk).dk) u a x.dk ((hs0_12 t).read_unread _)).trans ?_
  simp only [grp_dk]
  rfl

theorem later_dv_apply (t : Fin cfg0.N) (h : ¬t.val = 0) (x : Outs Ideal) (u : Fin 256) (a : Fin 4352) :
    ((outsLater m c t h x).dv : Vec Ideal S256x4352 .f32) (ix2 u a) = (x.dv (ix2 u a) : EReal) + dvTerm m c u a (blkOf t) := by
  unfold outsLater
  dsimp only
  rw [later_dv]
  simp only [rd_ld]
  refine (slab_step (ms0_13 t).view _ t (fun kk => (grp m c t kk).dv) u a x.dv ((hs0_13 t).read_unread _)).trans ?_
  simp only [grp_dv]
  rfl

theorem first_db_apply (t : Fin cfg0.N) (h : t.val = 0) (k : Fin 16) (i : Fin 128) (j : Fin 384) :
    ((outsFirst m c t h).db : Vec Ideal S16x128x384 .f32) (ix3 k i j)
      = (biasIn m c (ix3 k i j) : EReal) + (args m c).ds (blkOf t) ⟨k.val / 4, by omega⟩ ⟨k.val % 4, by omega⟩ i j := by
  unfold outsFirst
  dsimp only
  rw [first_db, accPieces_eq _ _ _ _ _ _ 0 bias_apart, ← View.read_writes_junk_eq_canon (ms0_14 t).view, View.writes_append]
  simp only [View.readAt_eq_ld]
  generalize hf : (ms0_14 t).view.writes (Elt Ideal) (ms0_14 t).view.junk [start14 m c t] = f
  refine (bias_step (ms0_14 t).view f (fun kk => (grp m c t kk).ds) k i j ((ms0_14 t).view.read (Elt Ideal) f)).trans ?_
  rw [← hf, whole_read _ _ _ (by decide), grp_ds, rd_ld, d_blk]
  refine congrArg (fun x => (biasIn m c x : EReal) + _) (funext fun d => Fin.ext ?_)
  match d with
  | ⟨0, _⟩ => show 0 + 1 * k.val = k.val; omega
  | ⟨1, _⟩ => show 0 + 1 * i.val = i.val; omega
  | ⟨2, _⟩ => show 0 + 1 * j.val = j.val; omega

theorem later_db_apply (t : Fin cfg0.N) (h : ¬t.val = 0) (x : Outs Ideal) (k : Fin 16) (i : Fin 128) (j : Fin 384) :
    ((outsLater m c t h x).db : Vec Ideal S16x128x384 .f32) (ix3 k i j)
      = (x.db (ix3 k i j) : EReal) + (args m c).ds (blkOf t) ⟨k.val / 4, by omega⟩ ⟨k.val % 4, by omega⟩ i j := by
  unfold outsLater
  dsimp only
  rw [later_db]
  simp only [rd_ld]
  refine (bias_step (ms0_14 t).view _ (fun kk => (grp m c t kk).ds) k i j x.db).trans ?_
  rw [grp_ds]

theorem first_ds_apply (t : Fin cfg0.N) (h : t.val = 0) (k : Fin 16) :
    ((outsFirst m c t h).ds : Vec Ideal S1x16 .f32) (ix2 0 k) = ∑ i : Fin 128, (args m c).sinkRow (blkOf t) ⟨k.val / 4, by omega⟩ ⟨k.val % 4, by omega⟩ i := by
  unfold outsFirst
  dsimp only
  obtain ⟨L, hL⟩ := first_ds m c t h
  rw [hL, ← View.read_writes_junk_eq_canon (ms0_15 t).view]
  refine (sink_step (ms0_15 t).view ((ms0_15 t).view.writes (Elt Ideal) (ms0_15 t).view.junk L) (fun _ => _) (fun k => sinkAt m c t k) k).trans ?_
  rw [sinkAt_eq]
  show (Ideal.ofBits .f32 0x00000000#32 : EReal) + _ = _
  rw [Ideal.ofBits_zero_f32, zero_add]

theorem later_ds_apply (t : Fin cfg0.N) (h : ¬t.val = 0) (x : Outs Ideal) (k : Fin 16) :
    ((outsLater m c t h x).ds : Vec Ideal S1x16 .f32) (ix2 0 k)
      = (x.ds (ix2 0 k) : EReal) + ∑ i : Fin 128, (args m c).sinkRow (blkOf t) ⟨k.val / 4, by omega⟩ ⟨k.val % 4, by omega⟩ i := by
  unfold outsLater
  dsimp only
  rw [later_ds]
  simp only [rd_ld]
  refine (sink_step (ms0_15 t).view _ (fun k => View.ld x.ds (sinkRect k)) (fun k => sinkAt m c t k) k).trans ?_
  rw [sinkAt_eq]
  refine congrArg (fun y => (x.ds y : EReal) + _) (funext fun d => Fin.ext ?_)
  match d with
  | ⟨0, _⟩ => rfl
  | ⟨1, _⟩ => show k.val + 1 * 0 = k.val; omega

theorem outs_dq (t : Fin cfg0.N) (i : Fin 128) (a : Fin 1024) :
    ((outsAt m c t.val t.isLt).dq : Vec Ideal S128x1024 .bf16) (ix2 i a)
      = (args m c).dq (blkOf t) ⟨a.val / 256, by omega⟩ ⟨a.val / 64 % 4, by omega⟩ i ⟨a.val % 64, by omega⟩ := by
  rw [← dq_read]
  by_cases h : t.val = 0
  · rw [outsAt_first m c t h]
    unfold outsFirst
    dsimp only
    rw [first_dq]
  · rw [outsAt_later m c t h]
    unfold outsLater
    dsimp only
    rw [later_dq]

theorem outs_dk (u : Fin 256) (a : Fin 4352) : (n : ℕ) → (hn : n < cfg0.N) →
    ((outsAt m c n hn).dk : Vec Ideal S256x4352 .f32) (ix2 u a) = Spec.upTo (n + 1) (dkTerm m c u a)
  | 0, hn => by
    rw [Spec.upTo_succ 0 (by omega), Spec.upTo_zero, zero_add]
    exact first_dk_apply m c ⟨0, hn⟩ rfl u a
  | n + 1, hn => by
    rw [Spec.upTo_succ (n + 1) (lt_of_lt_of_eq hn N_0), ← outs_dk u a n (Nat.lt_of_succ_lt hn)]
    exact later_dk_apply m c ⟨n + 1, hn⟩ (Nat.succ_ne_zero n) _ u a

theorem outs_dv (u : Fin 256) (a : Fin 4352) : (n : ℕ) → (hn : n < cfg0.N) →
    ((outsAt m c n hn).dv : Vec Ideal S256x4352 .f32) (ix2 u a) = Spec.upTo (n + 1) (dvTerm m c u a)
  | 0, hn => by
    rw [Spec.upTo_succ 0 (by omega), Spec.upTo_zero, zero_add]
    exact first_dv_apply m c ⟨0, hn⟩ rfl u a
  | n + 1, hn => by
    rw [Spec.upTo_succ (n + 1) (lt_of_lt_of_eq hn N_0), ← outs_dv u a n (Nat.lt_of_succ_lt hn)]
    exact later_dv_apply m c ⟨n + 1, hn⟩ (Nat.succ_ne_zero n) _ u a

theorem outs_db (k : Fin 16) (i : Fin 128) (j : Fin 384) : (n : ℕ) → (hn : n < cfg0.N) →
    ((outsAt m c n hn).db : Vec Ideal S16x128x384 .f32) (ix3 k i j)
      = (biasIn m c (ix3 k i j) : EReal) + Spec.upTo (n + 1) fun b => (args m c).ds b ⟨k.val / 4, by omega⟩ ⟨k.val % 4, by omega⟩ i j
  | 0, hn => by
    rw [Spec.upTo_succ 0 (by omega), Spec.upTo_zero, zero_add]
    exact first_db_apply m c ⟨0, hn⟩ rfl k i j
  | n + 1, hn => by
    rw [Spec.upTo_succ (n + 1) (lt_of_lt_of_eq hn N_0), ← add_assoc, ← outs_db k i j n (Nat.lt_of_succ_lt hn)]
    exact later_db_apply m c ⟨n + 1, hn⟩ (Nat.succ_ne_zero n) _ k i j

theorem outs_ds (k : Fin 16) : (n : ℕ) → (hn : n < cfg0.N) →
    ((outsAt m c n hn).ds : Vec Ideal S1x16 .f32) (ix2 0 k)
      = Spec.upTo (n + 1) fun b => ∑ i : Fin 128, (args m c).sinkRow b ⟨k.val / 4, by omega⟩ ⟨k.val % 4, by omega⟩ i
  | 0, hn => by
    rw [Spec.upTo_succ 0 (by omega), Spec.upTo_zero, zero_add]
    exact first_ds_apply m c ⟨0, hn⟩ rfl k
  | n + 1, hn => by
    rw [Spec.upTo_succ (n + 1) (lt_of_lt_of_eq hn N_0), ← outs_ds k n (Nat.lt_of_succ_lt hn)]
    exact later_ds_apply m c ⟨n + 1, hn⟩ (Nat.succ_ne_zero n) _ k

/-! ## The arrays at the end -/

theorem index11 : ∀ t : Fin cfg0.N, win0_11.index t 0 = t.val ∧ win0_11.index t 1 = 0 :=
  (by decide +kernel : ∀ t : Fin grid0.N, win0_11.index t 0 = t.val ∧ win0_11.index t 1 = 0)
theorem index12 : ∀ t : Fin cfg0.N, win0_12.index t 0 = 0 ∧ win0_12.index t 1 = 0 :=
  (by decide +kernel : ∀ t : Fin grid0.N, win0_12.index t 0 = 0 ∧ win0_12.index t 1 = 0)
theorem index13 : ∀ t : Fin cfg0.N, win0_13.index t 0 = 0 ∧ win0_13.index t 1 = 0 :=
  (by decide +kernel : ∀ t : Fin grid0.N, win0_13.index t 0 = 0 ∧ win0_13.index t 1 = 0)
theorem index14 : ∀ t : Fin cfg0.N, win0_14.index t 0 = 0 ∧ win0_14.index t 1 = 0 ∧ win0_14.index t 2 = 0 :=
  (by decide +kernel : ∀ t : Fin grid0.N, win0_14.index t 0 = 0 ∧ win0_14.index t 1 = 0 ∧ win0_14.index t 2 = 0)
theorem index15 : ∀ t : Fin cfg0.N, win0_15.index t 0 = 0 ∧ win0_15.index t 1 = 0 :=
  (by decide +kernel : ∀ t : Fin grid0.N, win0_15.index t 0 = 0 ∧ win0_15.index t 1 = 0)

theorem last_point (t : Fin cfg0.N) (h : t.val % 32 = 31) : t.val + 1 = 32 := by
  have hN : cfg0.N = 32 := N_0
  have := t.isLt
  omega

def lastPoint : Fin cfg0.N := ⟨31, by have hN : cfg0.N = 32 := N_0; omega⟩

theorem final_dq : (dats m 0 c).arrAt 11 cfg0.N = (Spec.gradQ (args m c) : Vec Ideal S4096x1024 .bf16) := by
  refine (dats m 0 c).arrAt_eq_of_cover 11 _ (fun t _ => ?_) fun (i : S4096x1024.Idx) => ?_
  · obtain ⟨e0, e1⟩ := index11 t
    show (cfg0.win 11).cut (grid0.coords t) ((dats m 0 c).after 11 t) = _
    rw [after0_11]
    funext (j : S128x1024.Idx)
    have h0 : (j 0).val < 128 := (j 0).isLt
    have h1 : (j 1).val < 1024 := (j 1).isLt
    have hb := (blkOf t).isLt
    show ((outsAt m c t.val t.isLt).dq : Vec Ideal S128x1024 .bf16) j = Spec.gradQ (args m c) ((win0_11.blk t).view.emb j)
    have key : (win0_11.blk t).view.emb j = (ix2 (⟨128 * t.val + (j 0).val, by dsimp only at hb; omega⟩ : Fin 4096) (⟨(j 1).val, h1⟩ : Fin 1024) : S4096x1024.Idx) := by
      funext a
      refine Fin.ext ?_
      match a with
      | ⟨0, _⟩ => show win0_11.index t 0 * 128 + 1 * (j 0).val = 128 * t.val + (j 0).val; rw [e0]; omega
      | ⟨1, _⟩ => show win0_11.index t 1 * 1024 + 1 * (j 1).val = (j 1).val; rw [e1]; omega
    rw [key]
    have ej : j = ix2 (⟨(j 0).val, h0⟩ : Fin 128) (⟨(j 1).val, h1⟩ : Fin 1024) := eq_ix2 j
    refine (congrArg ((outsAt m c t.val t.isLt).dq : Vec Ideal S128x1024 .bf16) ej).trans ((outs_dq m c t _ _).trans ?_)
    unfold Spec.gradQ
    dsimp only
    congr 1 <;> refine Fin.ext ?_
    · show t.val = (128 * t.val + (j 0).val) / 128; omega
    · show (j 0).val = (128 * t.val + (j 0).val) % 128; omega
  · have h0 : (i 0).val < 4096 := (i 0).isLt
    have h1 : (i 1).val < 1024 := (i 1).isLt
    have hN : cfg0.N = 32 := N_0
    obtain ⟨t, ht⟩ : ∃ t : Fin cfg0.N, t.val = (i 0).val / 128 := ⟨⟨(i 0).val / 128, by omega⟩, rfl⟩
    refine ⟨t, flush0_11 t, ?_⟩
    obtain ⟨e0, e1⟩ := index11 t
    show i ∈ ((View.whole main_v15_0).slice (win0_11.rect t)).set
    rw [View.set_slice_whole, Rect.mem_set_unit]
    intro a
    match a with
    | ⟨0, _⟩ => show win0_11.index t 0 * 128 ≤ (i 0).val ∧ (i 0).val < win0_11.index t 0 * 128 + 128; rw [e0]; omega
    | ⟨1, _⟩ => show win0_11.index t 1 * 1024 ≤ (i 1).val ∧ (i 1).val < win0_11.index t 1 * 1024 + 1024; rw [e1]; omega

theorem final_dk : (dats m 0 c).arrAt 12 cfg0.N = (Spec.gradK (args m c) : Vec Ideal S256x4352 .f32) := by
  refine (dats m 0 c).arrAt_eq_of_cover 12 _ (fun t hf => ?_) fun (i : S256x4352.Idx) => ?_
  · obtain ⟨e0, e1⟩ := index12 t
    show (cfg0.win 12).cut (grid0.coords t) ((dats m 0 c).after 12 t) = _
    rw [after0_12]
    funext (j : S256x4352.Idx)
    show ((outsAt m c t.val t.isLt).dk : Vec Ideal S256x4352 .f32) j = Spec.gradK (args m c) ((win0_12.blk t).view.emb j)
    have key : (win0_12.blk t).view.emb j = j := by
      funext a
      refine Fin.ext ?_
      match a with
      | ⟨0, _⟩ => show win0_12.index t 0 * 256 + 1 * (j 0).val = (j 0).val; rw [e0]; omega
      | ⟨1, _⟩ => show win0_12.index t 1 * 4352 + 1 * (j 1).val = (j 1).val; rw [e1]; omega
    rw [key]
    have ej : j = ix2 (j 0) (j 1) := eq_ix2 j
    refine (congrArg ((outsAt m c t.val t.isLt).dk : Vec Ideal S256x4352 .f32) ej).trans ((outs_dk m c _ _ t.val t.isLt).trans ?_)
    rw [last_point t ((flush0_12 t).mp hf), Spec.upTo_all]
    rfl
  · refine ⟨lastPoint, (flush0_12 _).mpr rfl, ?_⟩
    obtain ⟨e0, e1⟩ := index12 lastPoint
    have h0 : (i 0).val < 256 := (i 0).isLt
    have h1 : (i 1).val < 4352 := (i 1).isLt
    show i ∈ ((View.whole main_v15_1).slice (win0_12.rect lastPoint)).set
    rw [View.set_slice_whole, Rect.mem_set_unit]
    intro a
    match a with
    | ⟨0, _⟩ => show win0_12.index lastPoint 0 * 256 ≤ (i 0).val ∧ (i 0).val < win0_12.index lastPoint 0 * 256 + 256; rw [e0]; omega
    | ⟨1, _⟩ => show win0_12.index lastPoint 1 * 4352 ≤ (i 1).val ∧ (i 1).val < win0_12.index lastPoint 1 * 4352 + 4352; rw [e1]; omega

theorem final_dv : (dats m 0 c).arrAt 13 cfg0.N = (Spec.gradV (args m c) : Vec Ideal S256x4352 .f32) := by
  refine (dats m 0 c).arrAt_eq_of_cover 13 _ (fun t hf => ?_) fun (i : S256x4352.Idx) => ?_
  · obtain ⟨e0, e1⟩ := index13 t
    show (cfg0.win 13).cut (grid0.coords t) ((dats m 0 c).after 13 t) = _
    rw [after0_13]
    funext (j : S256x4352.Idx)
    show ((outsAt m c t.val t.isLt).dv : Vec Ideal S256x4352 .f32) j = Spec.gradV (args m c) ((win0_13.blk t).view.emb j)
    have key : (win0_13.blk t).view.emb j = j := by
      funext a
      refine Fin.ext ?_
      match a with
      | ⟨0, _⟩ => show win0_13.index t 0 * 256 + 1 * (j 0).val = (j 0).val; rw [e0]; omega
      | ⟨1, _⟩ => show win0_13.index t 1 * 4352 + 1 * (j 1).val = (j 1).val; rw [e1]; omega
    rw [key]
    have ej : j = ix2 (j 0) (j 1) := eq_ix2 j
    refine (congrArg ((outsAt m c t.val t.isLt).dv : Vec Ideal S256x4352 .f32) ej).trans ((outs_dv m c _ _ t.val t.isLt).trans ?_)
    rw [last_point t ((flush0_13 t).mp hf), Spec.upTo_all]
    rfl
  · refine ⟨lastPoint, (flush0_13 _).mpr rfl, ?_⟩
    obtain ⟨e0, e1⟩ := index13 lastPoint
    have h0 : (i 0).val < 256 := (i 0).isLt
    have h1 : (i 1).val < 4352 := (i 1).isLt
    show i ∈ ((View.whole main_v15_2).slice (win0_13.rect lastPoint)).set
    rw [View.set_slice_whole, Rect.mem_set_unit]
    intro a
    match a with
    | ⟨0, _⟩ => show win0_13.index lastPoint 0 * 256 ≤ (i 0).val ∧ (i 0).val < win0_13.index lastPoint 0 * 256 + 256; rw [e0]; omega
    | ⟨1, _⟩ => show win0_13.index lastPoint 1 * 4352 ≤ (i 1).val ∧ (i 1).val < win0_13.index lastPoint 1 * 4352 + 4352; rw [e1]; omega

theorem final_ds : (dats m 0 c).arrAt 15 cfg0.N = (Spec.gradS (args m c) : Vec Ideal S1x16 .f32) := by
  refine (dats m 0 c).arrAt_eq_of_cover 15 _ (fun t hf => ?_) fun (i : S1x16.Idx) => ?_
  · obtain ⟨e0, e1⟩ := index15 t
    show (cfg0.win 15).cut (grid0.coords t) ((dats m 0 c).after 15 t) = _
    rw [after0_15]
    funext (j : S1x16.Idx)
    show ((outsAt m c t.val t.isLt).ds : Vec Ideal S1x16 .f32) j = Spec.gradS (args m c) ((win0_15.blk t).view.emb j)
    have key : (win0_15.blk t).view.emb j = j := by
      funext a
      refine Fin.ext ?_
      match a with
      | ⟨0, _⟩ => show win0_15.index t 0 * 1 + 1 * (j 0).val = (j 0).val; rw [e0]; omega
      | ⟨1, _⟩ => show win0_15.index t 1 * 16 + 1 * (j 1).val = (j 1).val; rw [e1]; omega
    rw [key]
    have ej : j = ix2 (0 : Fin 1) (j 1) := (eq_ix2 j).trans (congrArg (fun z => ix2 z (j 1)) (Subsingleton.elim (α := Fin 1) _ _))
    refine (congrArg ((outsAt m c t.val t.isLt).ds : Vec Ideal S1x16 .f32) ej).trans ((outs_ds m c _ t.val t.isLt).trans ?_)
    rw [last_point t ((flush0_15 t).mp hf), Spec.upTo_all]
    rfl
  · refine ⟨lastPoint, (flush0_15 _).mpr rfl, ?_⟩
    obtain ⟨e0, e1⟩ := index15 lastPoint
    have h0 : (i 0).val < 1 := (i 0).isLt
    have h1 : (i 1).val < 16 := (i 1).isLt
    show i ∈ ((View.whole main_v15_4).slice (win0_15.rect lastPoint)).set
    rw [View.set_slice_whole, Rect.mem_set_unit]
    intro a
    match a with
    | ⟨0, _⟩ => show win0_15.index lastPoint 0 * 1 ≤ (i 0).val ∧ (i 0).val < win0_15.index lastPoint 0 * 1 + 1; rw [e0]; omega
    | ⟨1, _⟩ => show win0_15.index lastPoint 1 * 16 ≤ (i 1).val ∧ (i 1).val < win0_15.index lastPoint 1 * 16 + 16; rw [e1]; omega

theorem final_db : (dats m 0 c).arrAt 14 cfg0.N = (Spec.gradB (args m c) (biasIn m c) : Vec Ideal S16x128x384 .f32) := by
  refine (dats m 0 c).arrAt_eq_of_cover 14 _ (fun t hf => ?_) fun (i : S16x128x384.Idx) => ?_
  · obtain ⟨e0, e1, e2⟩ := index14 t
    show (cfg0.win 14).cut (grid0.coords t) ((dats m 0 c).after 14 t) = _
    rw [after0_14]
    funext (j : S16x128x384.Idx)
    show ((outsAt m c t.val t.isLt).db : Vec Ideal S16x128x384 .f32) j = Spec.gradB (args m c) (biasIn m c) ((win0_14.blk t).view.emb j)
    have key : (win0_14.blk t).view.emb j = j := by
      funext a
      refine Fin.ext ?_
      match a with
      | ⟨0, _⟩ => show win0_14.index t 0 * 16 + 1 * (j 0).val = (j 0).val; rw [e0]; omega
      | ⟨1, _⟩ => show win0_14.index t 1 * 128 + 1 * (j 1).val = (j 1).val; rw [e1]; omega
      | ⟨2, _⟩ => show win0_14.index t 2 * 384 + 1 * (j 2).val = (j 2).val; rw [e2]; omega
    rw [key]
    have ej : j = ix3 (j 0) (j 1) (j 2) := eq_ix3 j
    refine (congrArg ((outsAt m c t.val t.isLt).db : Vec Ideal S16x128x384 .f32) ej).trans ((outs_db m c _ _ _ t.val t.isLt).trans ?_)
    rw [last_point t ((flush0_14 t).mp hf), Spec.upTo_all]
    unfold Spec.gradB
    exact congrArg (fun y => (biasIn m c y : EReal) + _) ej.symm
  · refine ⟨lastPoint, (flush0_14 _).mpr rfl, ?_⟩
    obtain ⟨e0, e1, e2⟩ := index14 lastPoint
    have h0 : (i 0).val < 16 := (i 0).isLt
    have h1 : (i 1).val < 128 := (i 1).isLt
    have h2 : (i 2).val < 384 := (i 2).isLt
    show i ∈ ((View.whole main_v15_3).slice (win0_14.rect lastPoint)).set
    rw [View.set_slice_whole, Rect.mem_set_unit]
    intro a
    match a with
    | ⟨0, _⟩ => show win0_14.index lastPoint 0 * 16 ≤ (i 0).val ∧ (i 0).val < win0_14.index lastPoint 0 * 16 + 16; rw [e0]; omega
    | ⟨1, _⟩ => show win0_14.index lastPoint 1 * 128 ≤ (i 1).val ∧ (i 1).val < win0_14.index lastPoint 1 * 128 + 128; rw [e1]; omega
    | ⟨2, _⟩ => show win0_14.index lastPoint 2 * 384 ≤ (i 2).val ∧ (i 2).val < win0_14.index lastPoint 2 * 384 + 384; rw [e2]; omega

end Cert.KernelIdeal.Attn

end
-- ==== Proof.Attn.lean ====
module

public import proofs.«01_k».proof.Defs
public import proofs.«01_k».proof.Proof.AttnFine
public import proofs.«01_k».proof.Proof.AttnOut
public import proofs.«01_k».proof.Proof.RefGrad
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

set_option maxRecDepth 65536

noncomputable section

namespace Cert.Attn

open Idealize.ShloMosaic Idealize.ShloMosaic.TcCoe Idealize.SL.Sem

variable [hPre_finite : Cert.Pre_finite.Facts]

/-! ## The kernel at a bit float semantics

The two texts differ in the name of one constant, which the bit semantics reads as its bits. -/

instance atBits : Named Bits := ⟨fun _ _ {_} w => Scalar.ofBits _ w⟩

set_option maxHeartbeats 4000000 in
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  match l, hl, a with
  | 0, _, (t, s) => rfl

set_option maxHeartbeats 4000000 in
theorem defs_eq : Cert.Kernel.defs (F := Bits) = Cert.KernelIdeal.defs (F := Bits) :=
  congrArg (Pipeline.defs Cert.Kernel.pcfgs) defs₀_eq

set_option maxHeartbeats 4000000 in
theorem frame_kernel : quiescent_Kernel := by
  intro m g _
  rw [defs_eq]
  exact Cert.KernelIdeal.Attn.frame_run (F := Bits) m g

/-! ## The other frames -/

theorem frame_kernelIdeal : quiescent_KernelIdeal :=
  fun m g _ => Cert.KernelIdeal.Attn.frame_run (F := Ideal) m g

theorem frame_kernelIdeal_finite : quiescent_KernelIdeal_pre_finite :=
  fun m g _ => Cert.KernelIdeal.Attn.frame_run (F := Ideal) m g

theorem frame_reference : quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem frame_reference_finite : quiescent_ReferenceIdeal_pre_finite :=
  fun m g _ => frame_reference m g trivial

/-! ## The named constant -/

theorem preserves : preserves_Kernel_KernelIdeal :=
  IdealRules.named_const.statement Cert.KernelIdeal.κ "mask" .f32 0xF149F2CA#32 ⊥ rfl

/-! ## The five gradients -/

section Kernel
open Cert.KernelIdeal Cert.KernelIdeal.Gen Cert.KernelIdeal.Attn
variable (m : (ℓ : Loc Cert.KernelIdeal.nD Cert.KernelIdeal.τ Cert.KernelIdeal.sig) → Buf (Elt Ideal) ℓ) (ρ : Dev Cert.KernelIdeal.nD → PrngReg)

theorem run_out : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v15_0) = (Spec.gradQ (args m c) : Vec Ideal S4096x1024 .bf16)
      ∧ r.2.mem ((c.tc : Thread Cert.KernelIdeal.nD Cert.KernelIdeal.τ).loc Cert.KernelIdeal.main_v15_1) = (Spec.gradK (args m c) : Vec Ideal S256x4352 .f32)
      ∧ r.2.mem ((c.tc : Thread Cert.KernelIdeal.nD Cert.KernelIdeal.τ).loc Cert.KernelIdeal.main_v15_2) = (Spec.gradV (args m c) : Vec Ideal S256x4352 .f32)
      ∧ r.2.mem ((c.tc : Thread Cert.KernelIdeal.nD Cert.KernelIdeal.τ).loc Cert.KernelIdeal.main_v15_3) = (Spec.gradB (args m c) (biasIn m c) : Vec Ideal S16x128x384 .f32)
      ∧ r.2.mem ((c.tc : Thread Cert.KernelIdeal.nD Cert.KernelIdeal.τ).loc Cert.KernelIdeal.main_v15_4) = (Spec.gradS (args m c) : Vec Ideal S1x16 .f32)) :=
  (θ_run _ _ _).mono (fun r h c => ⟨((h c).1 11).trans (final_dq m c), ((h c).1 12).trans (final_dk m c), ((h c).1 13).trans (final_dv m c),
    ((h c).1 14).trans (final_db m c), ((h c).1 15).trans (final_ds m c)⟩) (run_main m ρ)

end Kernel

theorem algebraic : algebraic_KernelIdeal_ReferenceIdeal_pre_finite := by
  intro m g m' g' hpre hagree
  refine ⟨fun c => Spec.gradQ (Cert.KernelIdeal.Attn.args m c), fun c => Spec.gradK (Cert.KernelIdeal.Attn.args m c),
    fun c => Spec.gradV (Cert.KernelIdeal.Attn.args m c), fun c => Spec.gradB (Cert.KernelIdeal.Attn.args m c) (Cert.KernelIdeal.Attn.biasIn m c),
    fun c => Spec.gradS (Cert.KernelIdeal.Attn.args m c), ?_, ?_⟩
  · refine (θ_run _ _ _).mono (fun r h c => ?_) (θ_run_and (run_out m g) (Cert.KernelIdeal.Attn.unchanged m g))
    exact ⟨(h.1 c).1, (h.1 c).2.1, (h.1 c).2.2.1, (h.1 c).2.2.2.1, (h.1 c).2.2.2.2, h.2 c⟩
  · refine (θ_run _ _ _).mono (fun r h c => ?_) (Cert.ReferenceIdeal.Value.run (F := Ideal) m' g')
    have hA := fine m hpre c
    obtain ⟨a0, a1, a2, a3, a4⟩ := hagree c
    obtain ⟨h0, h1, h2, h3, h4, ht⟩ := h c
    refine ⟨?_, ?_, ?_, ?_, ?_, ht⟩
    · refine h0.trans ((Cert.ReferenceIdeal.Read.val_main_v193_eq _).trans ?_)
      exact (congr (congr (congr (congrArg _ a0) a1) a2) a3).trans (Cert.ReferenceIdeal.Attn.resultQ hA)
    · refine h1.trans ((Cert.ReferenceIdeal.Read.val_main_v196_eq _).trans ?_)
      exact (congr (congr (congr (congrArg _ a0) a1) a2) a3).trans (Cert.ReferenceIdeal.Attn.resultK hA)
    · refine h2.trans ((Cert.ReferenceIdeal.Read.val_main_v199_eq _).trans ?_)
      exact (congr (congr (congr (congrArg _ a0) a1) a2) a3).trans (Cert.ReferenceIdeal.Attn.resultV hA)
    · refine h3.trans ((Cert.ReferenceIdeal.Read.val_main_v200_eq _).trans ?_)
      exact (congr (congr (congr (congr (congrArg _ a0) a1) a2) a3) a4).trans (Cert.ReferenceIdeal.Attn.resultB hA _)
    · refine h4.trans ((Cert.ReferenceIdeal.Read.val_main_v201_eq _).trans ?_)
      exact (congr (congr (congr (congrArg _ a0) a1) a2) a3).trans (Cert.ReferenceIdeal.Attn.resultS hA)

end Cert.Attn

end
-- ==== Proof.Products.lean ====
module

public import proofs.«01_k».proof.Proof.Sums

@[expose] public section

noncomputable section

/-! Matrix products in one step: the entries of an array by natural positions, the block products and the layouts. -/

namespace Cert.Products

open Idealize.ShloMosaic Idealize.ShloMosaic.ValueIdx Cert.Sums

/-- The entry of a matrix at a position, 0 outside. -/
def at2 {R C : Nat} (x : (⟨2, ![R, C]⟩ : Shape).Idx → EReal) (a b : Nat) : EReal :=
  if h : a < R ∧ b < C then x (ix2 ⟨a, h.1⟩ ⟨b, h.2⟩) else 0

theorem at2_eq {R C : Nat} (x : (⟨2, ![R, C]⟩ : Shape).Idx → EReal) (i : (⟨2, ![R, C]⟩ : Shape).Idx) (a b : Nat)
    (ha : (i 0).val = a) (hb : (i 1).val = b) : x i = at2 x a b := by
  subst ha hb
  unfold at2
  rw [dif_pos ⟨(i 0).isLt, (i 1).isLt⟩]
  exact congrArg x (eq_ix2 i)

/-- An axis of chunks of 1376, each followed by 32 zeros. -/
def chunked (φ : Nat → EReal) (f : Nat) : EReal := if f % 1408 < 1376 then φ (f / 1408 * 1376 + f % 1408) else 0

/-- Product of rows with rows, with a leading unit axis on both operands. -/
theorem rows_rows (M K N : Nat) {φ₁ φ₂ : FTy} (prec : Option ContractPrecision) (x : FVec Ideal ⟨3, ![1, M, K]⟩ φ₁)
    (y : FVec Ideal ⟨3, ![1, N, K]⟩ φ₂) (h1 h2) (a : Fin M) (b : Fin N) :
    FloatOps.matmul (DotDims.transposedRhs M K N) prec (shapeCast ⟨2, ![M, K]⟩ x h1) (shapeCast ⟨2, ![N, K]⟩ y h2)
      (constant ⟨2, ![M, N]⟩ .f32 0x00000000#32) (ix2 a b) = ∑ k : Fin K, x (ix3 0 a k) * y (ix3 0 b k) := by
  refine (matmul_row M K N prec _ _ a b).trans (Finset.sum_congr rfl fun k _ => ?_)
  rw [shapeCast_dropUnit_apply (n := 2) ![M, K], shapeCast_dropUnit_apply (n := 2) ![N, K]]
  refine congrArg₂ (fun u v : EReal => u * v) (congrArg x (funext fun d => ?_)) (congrArg y (funext fun d => ?_))
  · match d with
    | ⟨0, _⟩ => rfl
    | ⟨1, _⟩ => rfl
    | ⟨2, _⟩ => rfl
  · match d with
    | ⟨0, _⟩ => rfl
    | ⟨1, _⟩ => rfl
    | ⟨2, _⟩ => rfl

/-- Product of columns with columns; the right operand and the result have a leading unit axis. -/
theorem cols_cols (K M N : Nat) {φ₁ φ₂ : FTy} (prec : Option ContractPrecision) (x : FVec Ideal ⟨2, ![K, M]⟩ φ₁)
    (y : FVec Ideal ⟨3, ![1, K, N]⟩ φ₂) (h2 h3) (j : (⟨3, ![1, M, N]⟩ : Shape).Idx) :
    shapeCast ⟨3, ![1, M, N]⟩ (FloatOps.matmul (colDims K M N) prec x (shapeCast ⟨2, ![K, N]⟩ y h2)
      (constant ⟨2, ![M, N]⟩ .f32 0x00000000#32)) h3 j = ∑ r : Fin K, x (ix2 r (j 1)) * y (ix3 0 r (j 2)) := by
  rw [shapeCast_addUnit_apply (n := 2) ![M, N]]
  have e : (fun a : Fin 2 => j a.succ) = ix2 (j 1) (j 2) := by
    funext a; match a with
    | ⟨0, _⟩ => rfl
    | ⟨1, _⟩ => rfl
  rw [e]
  refine (matmul_col K M N prec _ _ (j 1) (j 2)).trans (Finset.sum_congr rfl fun r _ => ?_)
  rw [shapeCast_dropUnit_apply (n := 2) ![K, N]]
  refine congrArg (fun z => x _ * y z) (funext fun d => ?_)
  match d with
  | ⟨0, _⟩ => rfl
  | ⟨1, _⟩ => rfl
  | ⟨2, _⟩ => rfl

/-- Product of rows with columns; the right operand and the result have a leading unit axis. -/
theorem rows_cols (M K N : Nat) {φ₁ φ₂ : FTy} (prec : Option ContractPrecision) (x : FVec Ideal ⟨2, ![M, K]⟩ φ₁)
    (y : FVec Ideal ⟨3, ![1, K, N]⟩ φ₂) (h2 h3) (j : (⟨3, ![1, M, N]⟩ : Shape).Idx) :
    shapeCast ⟨3, ![1, M, N]⟩ (FloatOps.matmul (DotDims.plain M K N) prec x (shapeCast ⟨2, ![K, N]⟩ y h2)
      (constant ⟨2, ![M, N]⟩ .f32 0x00000000#32)) h3 j = ∑ k : Fin K, x (ix2 (j 1) k) * y (ix3 0 k (j 2)) := by
  rw [shapeCast_addUnit_apply (n := 2) ![M, N]]
  have e : (fun a : Fin 2 => j a.succ) = ix2 (j 1) (j 2) := by
    funext a; match a with
    | ⟨0, _⟩ => rfl
    | ⟨1, _⟩ => rfl
  rw [e]
  refine (matmul_plain M K N prec _ _ (j 1) (j 2)).trans (Finset.sum_congr rfl fun r _ => ?_)
  rw [shapeCast_dropUnit_apply (n := 2) ![K, N]]
  refine congrArg (fun z => x _ * y z) (funext fun d => ?_)
  match d with
  | ⟨0, _⟩ => rfl
  | ⟨1, _⟩ => rfl
  | ⟨2, _⟩ => rfl

/-! ### Layouts, at natural positions -/

theorem split_rows (n q C R : Nat) (x : (⟨2, ![R, C]⟩ : Shape).Idx → EReal) (hR : n * q = R) (h) (i : (⟨3, ![n, q, C]⟩ : Shape).Idx) :
    shapeCast ⟨3, ![n, q, C]⟩ x h i = at2 x ((i 0).val * q + (i 1).val) (i 2).val := by
  have h0 : (i 0).val < n := (i 0).isLt
  have h1 : (i 1).val < q := (i 1).isLt
  have hlt : (i 0).val * q + (i 1).val < R := by
    rw [← hR]
    calc (i 0).val * q + (i 1).val < (i 0).val * q + q := by omega
      _ = ((i 0).val + 1) * q := by ring
      _ ≤ n * q := Nat.mul_le_mul_right q h0
  refine (shapeCast_apply _ _ _ (ix2 ⟨(i 0).val * q + (i 1).val, hlt⟩ (i 2)) ?_).trans (at2_eq _ _ _ _ rfl rfl)
  rw [Shape.rowMajor_val_three, Shape.rowMajor_val_two]
  rfl

theorem split_cols (n q R M : Nat) (x : (⟨2, ![R, M]⟩ : Shape).Idx → EReal) (hM : n * q = M) (h) (i : (⟨3, ![R, n, q]⟩ : Shape).Idx) :
    shapeCast ⟨3, ![R, n, q]⟩ x h i = at2 x (i 0).val ((i 1).val * q + (i 2).val) := by
  have h0 : (i 1).val < n := (i 1).isLt
  have h1 : (i 2).val < q := (i 2).isLt
  have hlt : (i 1).val * q + (i 2).val < M := by
    rw [← hM]
    calc (i 1).val * q + (i 2).val < (i 1).val * q + q := by omega
      _ = ((i 1).val + 1) * q := by ring
      _ ≤ n * q := Nat.mul_le_mul_right q h0
  refine (shapeCast_apply _ _ _ (ix2 (i 0) ⟨(i 1).val * q + (i 2).val, hlt⟩) ?_).trans (at2_eq _ _ _ _ rfl rfl)
  rw [Shape.rowMajor_val_three, Shape.rowMajor_val_two]
  show (i 0).val * M + ((i 1).val * q + (i 2).val) = ((i 0).val * n + (i 1).val) * q + (i 2).val
  rw [← hM]; ring

theorem merge_rows (n q C M : Nat) (y : (⟨3, ![n, q, C]⟩ : Shape).Idx → EReal) (φ : Nat → Nat → EReal)
    (hy : ∀ i, y i = φ ((i 0).val * q + (i 1).val) (i 2).val) (hM : n * q = M) (h) (i : (⟨3, ![1, M, C]⟩ : Shape).Idx) :
    shapeCast ⟨3, ![1, M, C]⟩ y h i = φ (i 1).val (i 2).val := by
  have h0 : (i 0).val < 1 := (i 0).isLt
  have h1 : (i 1).val < M := (i 1).isLt
  have hq : 0 < q := by
    rcases Nat.eq_zero_or_pos q with hq | hq
    · rw [hq, Nat.mul_zero] at hM; omega
    · exact hq
  refine (shapeCast_apply _ _ _ (ix3 ⟨(i 1).val / q, Nat.div_lt_of_lt_mul (by rw [Nat.mul_comm, hM]; exact h1)⟩ ⟨(i 1).val % q, Nat.mod_lt _ hq⟩ (i 2)) ?_).trans
    ((hy _).trans (congrArg (fun f => φ f (i 2).val) (Nat.div_add_mod' _ _)))
  rw [Shape.rowMajor_val_three, Shape.rowMajor_val_three]
  show ((i 1).val / q * q + (i 1).val % q) * C + (i 2).val = ((i 0).val * M + (i 1).val) * C + (i 2).val
  rw [Nat.div_add_mod', show (i 0).val = 0 by omega, Nat.zero_mul, Nat.zero_add]

theorem merge_cols (n q R M : Nat) (y : (⟨3, ![R, n, q]⟩ : Shape).Idx → EReal) (φ : Nat → Nat → EReal)
    (hy : ∀ i, y i = φ (i 0).val ((i 1).val * q + (i 2).val)) (hM : n * q = M) (h) (i : (⟨2, ![R, M]⟩ : Shape).Idx) :
    shapeCast ⟨2, ![R, M]⟩ y h i = φ (i 0).val (i 1).val := by
  have h1 : (i 1).val < M := (i 1).isLt
  have hq : 0 < q := by
    rcases Nat.eq_zero_or_pos q with hq | hq
    · rw [hq, Nat.mul_zero] at hM; omega
    · exact hq
  refine (shapeCast_apply _ _ _ (ix3 (i 0) ⟨(i 1).val / q, Nat.div_lt_of_lt_mul (by rw [Nat.mul_comm, hM]; exact h1)⟩ ⟨(i 1).val % q, Nat.mod_lt _ hq⟩) ?_).trans
    ((hy _).trans (congrArg (fun f => φ (i 0).val f) (Nat.div_add_mod' _ _)))
  rw [Shape.rowMajor_val_three, Shape.rowMajor_val_two]
  show ((i 0).val * n + (i 1).val / q) * q + (i 1).val % q = (i 0).val * M + (i 1).val
  calc ((i 0).val * n + (i 1).val / q) * q + (i 1).val % q
      = (i 0).val * (n * q) + ((i 1).val / q * q + (i 1).val % q) := by ring
    _ = (i 0).val * M + (i 1).val := by rw [hM, Nat.div_add_mod']

theorem regroup_cols (n q n' q' R : Nat) (y : (⟨3, ![R, n, q]⟩ : Shape).Idx → EReal) (φ : Nat → Nat → EReal)
    (hy : ∀ i, y i = φ (i 0).val ((i 1).val * q + (i 2).val)) (hM : n * q = n' * q') (h) (i : (⟨3, ![R, n', q']⟩ : Shape).Idx) :
    shapeCast ⟨3, ![R, n', q']⟩ y h i = φ (i 0).val ((i 1).val * q' + (i 2).val) := by
  have h1 : (i 1).val < n' := (i 1).isLt
  have h2 : (i 2).val < q' := (i 2).isLt
  have hlt : (i 1).val * q' + (i 2).val < n * q := by
    rw [hM]
    calc (i 1).val * q' + (i 2).val < (i 1).val * q' + q' := by omega
      _ = ((i 1).val + 1) * q' := by ring
      _ ≤ n' * q' := Nat.mul_le_mul_right q' h1
  have hq : 0 < q := by
    rcases Nat.eq_zero_or_pos q with hq | hq
    · rw [hq, Nat.mul_zero] at hlt; omega
    · exact hq
  refine (shapeCast_apply _ _ _ (ix3 (i 0) ⟨((i 1).val * q' + (i 2).val) / q, Nat.div_lt_of_lt_mul (by rw [Nat.mul_comm q n]; exact hlt)⟩
    ⟨((i 1).val * q' + (i 2).val) % q, Nat.mod_lt _ hq⟩) ?_).trans ((hy _).trans (congrArg (fun f => φ (i 0).val f) (Nat.div_add_mod' _ _)))
  rw [Shape.rowMajor_val_three, Shape.rowMajor_val_three]
  show ((i 0).val * n + ((i 1).val * q' + (i 2).val) / q) * q + ((i 1).val * q' + (i 2).val) % q = ((i 0).val * n' + (i 1).val) * q' + (i 2).val
  calc ((i 0).val * n + ((i 1).val * q' + (i 2).val) / q) * q + ((i 1).val * q' + (i 2).val) % q
      = (i 0).val * (n * q) + (((i 1).val * q' + (i 2).val) / q * q + ((i 1).val * q' + (i 2).val) % q) := by ring
    _ = ((i 0).val * n' + (i 1).val) * q' + (i 2).val := by rw [hM, Nat.div_add_mod']; ring

/-- The two leading axes exchanged. -/
theorem swap_apply (n R q : Nat) (y : (⟨3, ![R, n, q]⟩ : Shape).Idx → EReal) (h) (i : (⟨3, ![n, R, q]⟩ : Shape).Idx) :
    transpose ⟨3, ![n, R, q]⟩ [1, 0, 2] y h i = y (ix3 (i 1) (i 0) (i 2)) :=
  transpose_apply [1, 0, 2] y h i (ix3 (i 1) (i 0) (i 2)) (fun b => match b with
    | ⟨0, _⟩ => rfl
    | ⟨1, _⟩ => rfl
    | ⟨2, _⟩ => rfl)

/-- Zeros after each chunk of rows. -/
theorem pad_rows (n C : Nat) (y : FVec Ideal ⟨3, ![n, 1376, C]⟩ .f32) (φ : Nat → Nat → EReal)
    (hy : ∀ i, y i = φ ((i 0).val * 1376 + (i 1).val) (i 2).val) {u : Shape} (hu : 0 < u.numel) (z : FVec Ideal u .f32)
    (hz : z = sitofp .f32 (constantI u 32 0#32)) (h) (i : (⟨3, ![n, 1408, C]⟩ : Shape).Idx) :
    pad ⟨3, ![n, 1408, C]⟩ ![0, 0, 0] ![0, 32, 0] ![0, 0, 0] y z h hu i
      = chunked (fun s => φ s (i 2).val) ((i 0).val * 1408 + (i 1).val) := by
  have h1 : (i 1).val < 1408 := (i 1).isLt
  have hm : ((i 0).val * 1408 + (i 1).val) % 1408 = (i 1).val := by omega
  have hd : ((i 0).val * 1408 + (i 1).val) / 1408 = (i 0).val := by omega
  unfold chunked
  rw [hm, hd]
  by_cases hc : (i 1).val < 1376
  · rw [if_pos hc]
    refine (pad_apply_of_inside _ _ _ _ _ _ _ _ (ix3 (i 0) ⟨(i 1).val, hc⟩ (i 2)) fun a => ?_).trans (hy _)
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
  · rw [if_neg hc]
    refine (pad_apply_of_not_inside _ _ _ _ _ _ _ _ (1 : Fin 3) ?_).trans (by rw [hz]; exact zeroWord)
    show ¬(0 ≤ (i 1).val ∧ ((i 1).val - 0) % (0 + 1) = 0 ∧ ((i 1).val - 0) / (0 + 1) < 1376)
    omega

/-- Zeros after each chunk of columns. -/
theorem pad_cols (n R : Nat) (y : FVec Ideal ⟨3, ![R, n, 1376]⟩ .f32) (φ : Nat → Nat → EReal)
    (hy : ∀ i, y i = φ (i 0).val ((i 1).val * 1376 + (i 2).val)) {u : Shape} (hu : 0 < u.numel) (z : FVec Ideal u .f32)
    (hz : z = sitofp .f32 (constantI u 32 0#32)) (h) (i : (⟨3, ![R, n, 1408]⟩ : Shape).Idx) :
    pad ⟨3, ![R, n, 1408]⟩ ![0, 0, 0] ![0, 0, 32] ![0, 0, 0] y z h hu i
      = chunked (φ (i 0).val) ((i 1).val * 1408 + (i 2).val) := by
  have h1 : (i 2).val < 1408 := (i 2).isLt
  have hm : ((i 1).val * 1408 + (i 2).val) % 1408 = (i 2).val := by omega
  have hd : ((i 1).val * 1408 + (i 2).val) / 1408 = (i 1).val := by omega
  unfold chunked
  rw [hm, hd]
  by_cases hc : (i 2).val < 1376
  · rw [if_pos hc]
    refine (pad_apply_of_inside _ _ _ _ _ _ _ _ (ix3 (i 0) (i 1) ⟨(i 2).val, hc⟩) fun a => ?_).trans (hy _)
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
  · rw [if_neg hc]
    refine (pad_apply_of_not_inside _ _ _ _ _ _ _ _ (2 : Fin 3) ?_).trans (by rw [hz]; exact zeroWord)
    show ¬(0 ≤ (i 2).val ∧ ((i 2).val - 0) % (0 + 1) = 0 ∧ ((i 2).val - 0) / (0 + 1) < 1376)
    omega

/-- A sum of products with a chunked factor. -/
theorem sum_chunked {K : Nat} (g : Fin K → EReal) (φ : Nat → Fin K → EReal) (f : Nat) :
    ∑ k, g k * chunked (fun n => φ n k) f = chunked (fun n => ∑ k, g k * φ n k) f := by
  unfold chunked
  by_cases h : f % 1408 < 1376
  · rw [if_pos h]; exact Finset.sum_congr rfl fun k _ => by rw [if_pos h]
  · rw [if_neg h]; exact Finset.sum_eq_zero fun k _ => by rw [if_neg h]; exact mul_zero _

theorem sum_chunked' {K : Nat} (g : Fin K → EReal) (φ : Nat → Fin K → EReal) (f : Nat) :
    ∑ k, chunked (fun n => φ n k) f * g k = chunked (fun n => ∑ k, φ n k * g k) f := by
  simp only [mul_comm _ (g _)]
  exact sum_chunked g φ f

/-- A contraction over a chunked axis is the contraction over what the chunks hold. -/
theorem sum_chunks (n : Nat) (φ ψ : Nat → EReal) (P Q : Nat) (hP : n * 1408 = P) (hQ : n * 1376 = Q) :
    ∑ k : Fin P, chunked φ k * chunked ψ k = ∑ k : Fin Q, φ k * ψ k := by
  rw [← hP, ← hQ, Fin.sum_univ_eq_sum_range (fun k => chunked φ k * chunked ψ k) (n * 1408), Fin.sum_univ_eq_sum_range (fun k => φ k * ψ k) (n * 1376),
    sum_range_mul, sum_range_mul]
  refine Finset.sum_congr rfl fun i _ => ?_
  rw [show 1408 = 1376 + 32 from rfl, Finset.sum_range_add]
  rw [Finset.sum_eq_zero (s := Finset.range 32) fun j hj => ?_, add_zero]
  · refine Finset.sum_congr rfl fun j hj => ?_
    have := Finset.mem_range.mp hj
    unfold chunked
    rw [if_pos (by omega), if_pos (by omega), show (i * (1376 + 32) + j) / 1408 * 1376 + (i * (1376 + 32) + j) % 1408 = i * 1376 + j by omega]
  · have := Finset.mem_range.mp hj
    unfold chunked
    rw [if_neg (by omega), zero_mul]

end Cert.Products

end
-- ==== Proof.Da.lean ====
module

public import proofs.«01_k».proof.Defs
public import proofs.«01_k».proof.Proof.Gen.KernelDaIdeal.Value
public import proofs.«01_k».proof.Proof.Gen.ReferenceDaIdeal.Run
public import proofs.«01_k».proof.Proof.Gen.ReferenceDaIdeal.Read
public import proofs.«01_k».proof.Proof.Products

@[expose] public section

set_option maxRecDepth 16384

noncomputable section

/-! The input gradient of the down projection. -/

namespace Cert.Da

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelDaIdeal Cert.KernelDaIdeal.Gen

variable (m : (ℓ : Loc nD τ sig) → Buf (Elt Ideal) ℓ) (ρ : Dev nD → PrngReg)

/-- One block of the product. -/
def block (x0 : Vec Ideal S1x1024x2048 .bf16) (x1 : Vec Ideal S1x1408x2048 .bf16) (j : S1024x1408.Idx) : EReal :=
  ∑ k : Fin 2048, x0 (ix3 0 (j 0) k) * x1 (ix3 0 (j 1) k)

theorem out_apply (c : Dev nD) (i : grid0.Coords) (a3 : Memref sig .tc .vmem S1x1024x2048 .bf16) (h3 : a3.IsWhole)
    (a4 : Memref sig .tc .vmem S1x1408x2048 .bf16) (h4 : a4.IsWhole) (a5 : Memref sig .tc .vmem S1024x1408 .f32) (h5 : a5.IsWhole)
    (hc0 : cond0_0 i) (hc1 : ¬cond0_1 i) (x0 : Vec Ideal S1x1024x2048 .bf16) (x1 : Vec Ideal S1x1408x2048 .bf16) (j : S1024x1408.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero2]
  unfold k0_pay1
  simp only [View.readAt_eq_ld, h3.read_unread, h4.read_unread, View.ld_unit_zero (S := S1x1024x2048) zero3,
    View.ld_unit_zero (S := S1x1408x2048) zero3]
  exact (congrArg _ (eq_ix2 j)).trans (rows_rows 1024 2048 1408 none x0 x1 _ _ (j 0) (j 1))

theorem index0 : ∀ t : Fin cfg0.N, win0_0.index t 0 = 0 ∧ win0_0.index t 1 = t.val / 4 ∧ win0_0.index t 2 = 0 :=
  (by decide +kernel : ∀ t : Fin grid0.N, win0_0.index t 0 = 0 ∧ win0_0.index t 1 = t.val / 4 ∧ win0_0.index t 2 = 0)
theorem index1 : ∀ t : Fin cfg0.N, win0_1.index t 0 = 0 ∧ win0_1.index t 1 = t.val % 4 ∧ win0_1.index t 2 = 0 :=
  (by decide +kernel : ∀ t : Fin grid0.N, win0_1.index t 0 = 0 ∧ win0_1.index t 1 = t.val % 4 ∧ win0_1.index t 2 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The arguments. -/
def X (c : Dev nD) : Vec Ideal S4096x2048 .f32 := m ((c : Thread nD τ).loc main_arg0)
def W (c : Dev nD) : Vec Ideal S5504x2048 .f32 := m ((c : Thread nD τ).loc main_arg1)

/-- The host's preparation of the operands. -/
def left (c : Dev nD) : Vec Ideal S1x4096x2048 .bf16 := V m c main_v5
def right (c : Dev nD) : Vec Ideal S1x5632x2048 .bf16 := V m c main_v3

theorem left_eq (c : Dev nD) (i : S1x4096x2048.Idx) (r k : Nat) (hr : (i 1).val = r) (hk : (i 2).val = k) : left m c i = at2 (X m c) r k := by
  have e : left m c = broadcastInDim S1x4096x2048 ![1, 2] bcast_S4096x2048_S1x4096x2048_1_2
      (truncf .bf16 (X m c : FVec Ideal S4096x2048 .f32) bitsLt_bf16_f32 : FVec Ideal S4096x2048 .bf16) := by
    unfold left V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e]
  exact at2_eq (X m c) _ _ _ hr hk

theorem right_eq (c : Dev nD) (i : S1x5632x2048.Idx) (f k : Nat) (hf : (i 1).val = f) (hk : (i 2).val = k) :
    right m c i = chunked (fun n => at2 (W m c) n k) f := by
  have e : right m c = shapeCast S1x5632x2048 (truncf .bf16
      (pad S4x1408x2048 ![0, 0, 0] ![0, 32, 0] ![0, 0, 0]
        (shapeCast S4x1376x2048 (W m c) shapeCasts_S5504x2048_S4x1376x2048)
        (sitofp .f32 (constantI S_ 32 0#32)) pads_S4x1376x2048_S4x1408x2048_000_0320_000 h_S_ : FVec Ideal S4x1408x2048 .f32) bitsLt_bf16_f32)
      shapeCasts_S4x1408x2048_S1x5632x2048 := by
    unfold right V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hf, ← hk]
  exact merge_rows 4 1408 2048 5632 _ (fun f k => chunked (fun n => at2 (W m c) n k) f)
    (pad_rows 4 2048 (shapeCast S4x1376x2048 (W m c) shapeCasts_S5504x2048_S4x1376x2048) (at2 (W m c))
      (split_rows 4 1376 2048 5504 _ rfl _) h_S_ (sitofp .f32 (constantI S_ 32 0#32)) rfl pads_S4x1376x2048_S4x1408x2048_000_0320_000) rfl _ i

/-- The result. -/
def result (c : Dev nD) : Buf (Elt Ideal) ((c : Thread nD τ).loc main_v6) := fun i : S4096x5632.Idx =>
  (∑ k : Fin 2048, at2 (X m c) (i 0) k * chunked (fun n => at2 (W m c) n k) (i 1) : EReal)

/-- The blocks of the operands. -/
theorem left_apply (c : Dev nD) (t : Fin cfg0.N) (i : S1x1024x2048.Idx) :
    (iblk m c 0 t : Vec Ideal S1x1024x2048 .bf16) i = at2 (X m c) (t.val / 4 * 1024 + (i 1).val) (i 2) := by
  obtain ⟨a0, a1, a2⟩ := index0 t
  have e : (iblk m c 0 t : Vec Ideal S1x1024x2048 .bf16)
      = (win0_0.blk t).view.read (Elt Ideal) (left m c : Buf (Elt Ideal) ((c : Thread nD τ).loc main_v5)) := rfl
  rw [e, View.read_apply]
  refine (cast_eq _ _).trans (left_eq m c _ _ _ ?_ ?_)
  · show win0_0.index t 1 * 1024 + 1 * (i 1).val = _; rw [a1]; omega
  · show win0_0.index t 2 * 2048 + 1 * (i 2).val = _; rw [a2]; omega

theorem right_apply (c : Dev nD) (t : Fin cfg0.N) (i : S1x1408x2048.Idx) :
    (iblk m c 1 t : Vec Ideal S1x1408x2048 .bf16) i = chunked (fun n => at2 (W m c) n (i 2)) (t.val % 4 * 1408 + (i 1).val) := by
  obtain ⟨a0, a1, a2⟩ := index1 t
  have e : (iblk m c 1 t : Vec Ideal S1x1408x2048 .bf16)
      = (win0_1.blk t).view.read (Elt Ideal) (right m c : Buf (Elt Ideal) ((c : Thread nD τ).loc main_v3)) := rfl
  rw [e, View.read_apply]
  refine (cast_eq _ _).trans (right_eq m c _ _ _ ?_ ?_)
  · show win0_1.index t 1 * 1408 + 1 * (i 1).val = _; rw [a1]; omega
  · show win0_1.index t 2 * 2048 + 1 * (i 2).val = _; rw [a2]; omega

theorem flushed_eq (c : Dev nD) (t : Fin cfg0.N) :
    (dats m 0 c).flushed 2 t = (win0_2.blk t).view.read (Elt Ideal) (result m c) := by
  obtain ⟨e0, e1⟩ := index2 t
  refine (Value.flushed2_A m c t).trans ?_
  funext (j : S1024x1408.Idx)
  refine (out_apply c _ _ _ _ _ _ _ _ _ _ _ j).trans ?_
  rw [View.read_apply]
  have key : ∀ e : S4096x5632.Idx, (e 0).val = t.val / 4 * 1024 + (j 0).val → (e 1).val = t.val % 4 * 1408 + (j 1).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 0 * 1024 + 1 * (j 0).val = _; rw [e0]; omega
  · show win0_2.index t 1 * 1408 + 1 * (j 1).val = _; rw [e1]; omega

theorem mem_blk (t : Fin cfg0.N) (i : S4096x5632.Idx) (h0 : (i 0).val / 1024 = t.val / 4) (h1 : (i 1).val / 1408 = t.val % 4) :
    i ∈ ((cfg0.win 2).blk t).view.set := by
  obtain ⟨e0, e1⟩ := index2 t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1408 ≤ (i 1).val ∧ (i 1).val < win0_2.index t 1 * 1408 + 1408; omega

theorem final (c : Dev nD) : (dats m 0 c).arrAt 2 cfg0.N = result m c :=
  (dats m 0 c).arrAt_eq_of_cover 2 (result m c) (fun t _ => flushed_eq m c t) fun (i : S4096x5632.Idx) => by
    have h0 : (i 0).val < 4096 := (i 0).isLt
    have h1 : (i 1).val < 5632 := (i 1).isLt
    have hN : cfg0.N = 16 := N_0
    exact ⟨⟨(i 0).val / 1024 * 4 + (i 1).val / 1408, by omega⟩, flush0_2 _, mem_blk _ i (by dsimp only; omega) (by dsimp only; omega)⟩

/-- The reference's array. -/
theorem result_eq (c : Dev nD) : result m c = Cert.ReferenceDaIdeal.Read.val_main_v5 (F := Ideal) (X m c) (W m c) := by
  funext (i : S4096x5632.Idx)
  refine (sum_chunked (fun k : Fin 2048 => at2 (X m c) (i 0) k) (fun n k => at2 (W m c) n k) (i 1)).trans (Eq.symm ?_)
  refine merge_cols 4 1408 4096 5632 _ (fun r f => chunked (fun n => ∑ k : Fin 2048, at2 (X m c) r k * at2 (W m c) n k) f)
    (pad_cols 4 4096 _ (fun r n => ∑ k : Fin 2048, at2 (X m c) r k * at2 (W m c) n k) (fun i => ?_) _ _ rfl _) rfl _ i
  rw [Cert.ReferenceDaIdeal.Read.val_main_v3_apply, Cert.ReferenceDaIdeal.Read.val_main_v2_apply]
  have h0 : (i 0).val < 4096 := (i 0).isLt
  have h1 : (i 1).val < 4 := (i 1).isLt
  have h2 : (i 2).val < 1376 := (i 2).isLt
  refine @Finset.sum_congr _ EReal _ _ _ _ _ rfl fun k _ => congrArg₂ (fun u v : EReal => u * v) (at2_eq (X m c) _ _ _ ?_ rfl) (at2_eq (W m c) _ _ _ ?_ rfl)
  · show (((i 0).val * 4 + (i 1).val) * 1376 + (i 2).val) / 5504 = (i 0).val; omega
  · show (((i 0).val * 4 + (i 1).val) * 1376 + (i 2).val) % 5504 = _; omega

theorem algebraic : Cert.algebraic_KernelDaIdeal_ReferenceDaIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceDaIdeal.defs _ _).mono (fun _ h c => ?_) (Cert.ReferenceDaIdeal.Value.run (F := Ideal) m' ρ')
  refine ⟨(h c).1.trans ?_, (h c).2⟩
  refine (Cert.ReferenceDaIdeal.Read.val_main_v5_eq _ _).trans ?_
  rw [(hagree c).1, (hagree c).2]
  exact (result_eq m c).symm

end Cert.Da

end
-- ==== Proof.Dcat.lean ====
module

public import proofs.«01_k».proof.Defs
public import proofs.«01_k».proof.Proof.Gen.KernelDcatIdeal.Value
public import proofs.«01_k».proof.Proof.Gen.ReferenceDcatIdeal.Run
public import proofs.«01_k».proof.Proof.Gen.ReferenceDcatIdeal.Read
public import proofs.«01_k».proof.Proof.Products

@[expose] public section

set_option maxRecDepth 16384

noncomputable section

/-! The input gradient of the output projection. -/

namespace Cert.Dcat

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelDcatIdeal Cert.KernelDcatIdeal.Gen

variable (m : (ℓ : Loc nD τ sig) → Buf (Elt Ideal) ℓ) (ρ : Dev nD → PrngReg)

/-- One block of the product. -/
def block (x0 : Vec Ideal S1x1024x2048 .bf16) (x1 : Vec Ideal S1x1024x2048 .bf16) (j : S1024x1024.Idx) : EReal :=
  ∑ k : Fin 2048, x0 (ix3 0 (j 0) k) * x1 (ix3 0 (j 1) k)

theorem out_apply (c : Dev nD) (i : grid0.Coords) (a3 : Memref sig .tc .vmem S1x1024x2048 .bf16) (h3 : a3.IsWhole)
    (a4 : Memref sig .tc .vmem S1x1024x2048 .bf16) (h4 : a4.IsWhole) (a5 : Memref sig .tc .vmem S1024x1024 .f32) (h5 : a5.IsWhole)
    (hc0 : cond0_0 i) (hc1 : ¬cond0_1 i) (x0 : Vec Ideal S1x1024x2048 .bf16) (x1 : Vec Ideal S1x1024x2048 .bf16) (j : S1024x1024.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero2]
  unfold k0_pay1
  simp only [View.readAt_eq_ld, h3.read_unread, h4.read_unread, View.ld_unit_zero (S := S1x1024x2048) zero3,
    View.ld_unit_zero (S := S1x1024x2048) zero3]
  exact (congrArg _ (eq_ix2 j)).trans (rows_rows 1024 2048 1024 none x0 x1 _ _ (j 0) (j 1))

theorem index0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem index1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The arguments. -/
def X (c : Dev nD) : Vec Ideal S4096x2048 .f32 := m ((c : Thread nD τ).loc main_arg0)
def W (c : Dev nD) : Vec Ideal S2048x2048 .f32 := m ((c : Thread nD τ).loc main_arg1)

/-- The host's preparation of the operands. -/
def left (c : Dev nD) : Vec Ideal S1x4096x2048 .bf16 := V m c main_v1
def right (c : Dev nD) : Vec Ideal S1x2048x2048 .bf16 := V m c main_v3

theorem left_eq (c : Dev nD) (i : S1x4096x2048.Idx) (r k : Nat) (hr : (i 1).val = r) (hk : (i 2).val = k) :
    left m c i = at2 (X m c) r k := by
  have e : left m c = broadcastInDim S1x4096x2048 ![1, 2] bcast_S4096x2048_S1x4096x2048_1_2
      (truncf .bf16 (X m c : FVec Ideal S4096x2048 .f32) bitsLt_bf16_f32 : FVec Ideal S4096x2048 .bf16) := by
    unfold left V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hr hk

theorem right_eq (c : Dev nD) (i : S1x2048x2048.Idx) (n k : Nat) (hn : (i 1).val = n) (hk : (i 2).val = k) :
    right m c i = at2 (W m c) n k := by
  have e : right m c = broadcastInDim S1x2048x2048 ![1, 2] bcast_S2048x2048_S1x2048x2048_1_2
      (truncf .bf16 (W m c : FVec Ideal S2048x2048 .f32) bitsLt_bf16_f32 : FVec Ideal S2048x2048 .bf16) := by
    unfold right V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (W m c) _ _ _ hn hk

/-- The blocks of the operands. -/
theorem left_apply (c : Dev nD) (t : Fin cfg0.N) (i : S1x1024x2048.Idx) :
    (iblk m c 0 t : Vec Ideal S1x1024x2048 .bf16) i = at2 (X m c) (t.val / 2 * 1024 + (i 1).val) (i 2) := by
  obtain ⟨a0, a1, a2⟩ := index0 t
  have e : (iblk m c 0 t : Vec Ideal S1x1024x2048 .bf16)
      = (win0_0.blk t).view.read (Elt Ideal) (left m c : Buf (Elt Ideal) ((c : Thread nD τ).loc main_v1)) := rfl
  rw [e, View.read_apply]
  refine (cast_eq _ _).trans (left_eq m c _ _ _ ?_ ?_)
  · show win0_0.index t 1 * 1024 + 1 * (i 1).val = _; rw [a1]; omega
  · show win0_0.index t 2 * 2048 + 1 * (i 2).val = _; rw [a2]; omega

theorem right_apply (c : Dev nD) (t : Fin cfg0.N) (i : S1x1024x2048.Idx) :
    (iblk m c 1 t : Vec Ideal S1x1024x2048 .bf16) i = at2 (W m c) (t.val % 2 * 1024 + (i 1).val) (i 2) := by
  obtain ⟨a0, a1, a2⟩ := index1 t
  have e : (iblk m c 1 t : Vec Ideal S1x1024x2048 .bf16)
      = (win0_1.blk t).view.read (Elt Ideal) (right m c : Buf (Elt Ideal) ((c : Thread nD τ).loc main_v3)) := rfl
  rw [e, View.read_apply]
  refine (cast_eq _ _).trans (right_eq m c _ _ _ ?_ ?_)
  · show win0_1.index t 1 * 1024 + 1 * (i 1).val = _; rw [a1]; omega
  · show win0_1.index t 2 * 2048 + 1 * (i 2).val = _; rw [a2]; omega

/-- The result. -/
def result (c : Dev nD) : Buf (Elt Ideal) ((c : Thread nD τ).loc main_v4) := fun i : S4096x2048.Idx =>
  (∑ k : Fin 2048, at2 (X m c) (i 0) k * at2 (W m c) (i 1) k : EReal)

theorem flushed_eq (c : Dev nD) (t : Fin cfg0.N) :
    (dats m 0 c).flushed 2 t = (win0_2.blk t).view.read (Elt Ideal) (result m c) := by
  obtain ⟨e0, e1⟩ := index2 t
  refine (Value.flushed2_A m c t).trans ?_
  funext (j : S1024x1024.Idx)
  refine (out_apply c _ _ _ _ _ _ _ _ _ _ _ j).trans ?_
  rw [View.read_apply]
  have key : ∀ e : S4096x2048.Idx, (e 0).val = t.val / 2 * 1024 + (j 0).val → (e 1).val = t.val % 2 * 1024 + (j 1).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 0 * 1024 + 1 * (j 0).val = _; rw [e0]; omega
  · show win0_2.index t 1 * 1024 + 1 * (j 1).val = _; rw [e1]; omega

theorem mem_blk (t : Fin cfg0.N) (i : S4096x2048.Idx) (h0 : (i 0).val / 1024 = t.val / 2) (h1 : (i 1).val / 1024 = t.val % 2) :
    i ∈ ((cfg0.win 2).blk t).view.set := by
  obtain ⟨e0, e1⟩ := index2 t
  have b0 : (i 0).val < 4096 := (i 0).isLt
  have b1 : (i 1).val < 2048 := (i 1).isLt
  show i ∈ ((View.whole main_v4).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

theorem final (c : Dev nD) : (dats m 0 c).arrAt 2 cfg0.N = result m c :=
  (dats m 0 c).arrAt_eq_of_cover 2 (result m c) (fun t _ => flushed_eq m c t) fun (i : S4096x2048.Idx) => by
    have h0 : (i 0).val < 4096 := (i 0).isLt
    have h1 : (i 1).val < 2048 := (i 1).isLt
    have hN : cfg0.N = 8 := N_0
    exact ⟨⟨(i 0).val / 1024 * 2 + (i 1).val / 1024, by omega⟩, flush0_2 _, mem_blk _ i (by dsimp only; omega) (by dsimp only; omega)⟩

/-- The reference's array. -/
theorem result_eq (c : Dev nD) : result m c = Cert.ReferenceDcatIdeal.Read.val_main_v2 (F := Ideal) (X m c) (W m c) := by
  funext (i : S4096x2048.Idx)
  rw [Cert.ReferenceDcatIdeal.Read.val_main_v2_apply]
  refine Eq.symm (@Finset.sum_congr _ EReal _ _ _ _ _ rfl fun k _ => congrArg₂ (fun u v : EReal => u * v) (at2_eq (X m c) _ _ _ rfl rfl) (at2_eq (W m c) _ _ _ rfl rfl))

theorem algebraic : Cert.algebraic_KernelDcatIdeal_ReferenceDcatIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceDcatIdeal.defs _ _).mono (fun _ h c => ?_) (Cert.ReferenceDcatIdeal.Value.run (F := Ideal) m' ρ')
  refine ⟨(h c).1.trans ?_, (h c).2⟩
  refine (Cert.ReferenceDcatIdeal.Read.val_main_v2_eq _ _).trans ?_
  rw [(hagree c).1, (hagree c).2]
  exact (result_eq m c).symm

end Cert.Dcat

end
-- ==== Proof.DwDown.lean ====
module

public import proofs.«01_k».proof.Defs
public import proofs.«01_k».proof.Proof.Gen.KernelDwDownIdeal.Value
public import proofs.«01_k».proof.Proof.Gen.ReferenceDwDownIdeal.Run
public import proofs.«01_k».proof.Proof.Gen.ReferenceDwDownIdeal.Read
public import proofs.«01_k».proof.Proof.Products

@[expose] public section

set_option maxRecDepth 16384

noncomputable section

/-! The gradient of the down projection. -/

namespace Cert.DwDown

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelDwDownIdeal Cert.KernelDwDownIdeal.Gen

variable (m : (ℓ : Loc nD τ sig) → Buf (Elt Ideal) ℓ) (ρ : Dev nD → PrngReg)

/-- One block of the product. -/
def block (x0 : Vec Ideal S4096x512 .bf16) (x1 : Vec Ideal S1x4096x1024 .bf16) (j : S1x512x1024.Idx) : EReal :=
  ∑ k : Fin 4096, x0 (ix2 k (j 1)) * x1 (ix3 0 k (j 2))

theorem out_apply (c : Dev nD) (i : grid0.Coords) (a3 : Memref sig .tc .vmem S4096x512 .bf16) (h3 : a3.IsWhole)
    (a4 : Memref sig .tc .vmem S1x4096x1024 .bf16) (h4 : a4.IsWhole) (a5 : Memref sig .tc .vmem S1x512x1024 .f32) (h5 : a5.IsWhole)
    (hc0 : cond0_0 i) (hc1 : ¬cond0_1 i) (x0 : Vec Ideal S4096x512 .bf16) (x1 : Vec Ideal S1x4096x1024 .bf16) (j : S1x512x1024.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S4096x512) zero2,
    View.ld_unit_zero (S := S1x4096x1024) zero3, shapeCast_self]
  exact cols_cols 4096 512 1024 none x0 x1 _ _ j

theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

/-- The arguments. -/
def X (c : Dev nD) : Vec Ideal S4096x5504 .f32 := m ((c : Thread nD τ).loc main_arg0)
def W (c : Dev nD) : Vec Ideal S4096x2048 .f32 := m ((c : Thread nD τ).loc main_arg1)

/-- The host's preparation of the operands. -/
def left (c : Dev nD) : Vec Ideal S4096x5632 .bf16 := V m c main_v3
def right (c : Dev nD) : Vec Ideal S1x4096x2048 .bf16 := V m c main_v5

theorem left_eq (c : Dev nD) (i : S4096x5632.Idx) (k f : Nat) (hk : (i 0).val = k) (hf : (i 1).val = f) :
    left m c i = chunked (at2 (X m c) k) f := by
  have e : left m c = shapeCast S4096x5632 (truncf .bf16
      (pad S4096x4x1408 ![0, 0, 0] ![0, 0, 32] ![0, 0, 0]
        (shapeCast S4096x4x1376 (X m c) shapeCasts_S4096x5504_S4096x4x1376)
        (sitofp .f32 (constantI S_ 32 0#32)) pads_S4096x4x1376_S4096x4x1408_000_000_0320 h_S_ : FVec Ideal S4096x4x1408 .f32) bitsLt_bf16_f32)
      shapeCasts_S4096x4x1408_S4096x5632 := by
    unfold left V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hk, ← hf]
  exact merge_cols 4 1408 4096 5632 _ (fun r f => chunked (at2 (X m c) r) f)
    (pad_cols 4 4096 (shapeCast S4096x4x1376 (X m c) shapeCasts_S4096x5504_S4096x4x1376) (at2 (X m c))
      (split_cols 4 1376 4096 5504 _ rfl _) h_S_ (sitofp .f32 (constantI S_ 32 0#32)) rfl pads_S4096x4x1376_S4096x4x1408_000_000_0320) rfl _ i

theorem right_eq (c : Dev nD) (i : S1x4096x2048.Idx) (k n : Nat) (hk : (i 1).val = k) (hn : (i 2).val = n) :
    right m c i = at2 (W m c) k n := by
  have e : right m c = broadcastInDim S1x4096x2048 ![1, 2] bcast_S4096x2048_S1x4096x2048_1_2
      (truncf .bf16 (W m c : FVec Ideal S4096x2048 .f32) bitsLt_bf16_f32 : FVec Ideal S4096x2048 .bf16) := by
    unfold right V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (W m c) _ _ _ hk hn

/-- The blocks of the operands. -/
theorem left_apply (c : Dev nD) (t : Fin cfg0.N) (i : S4096x512.Idx) :
    (iblk m c 0 t : Vec Ideal S4096x512 .bf16) i = chunked (at2 (X m c) (i 0)) (t.val / 2 * 512 + (i 1).val) := by
  obtain ⟨a0, a1⟩ := index0 t
  have e : (iblk m c 0 t : Vec Ideal S4096x512 .bf16)
      = (win0_0.blk t).view.read (Elt Ideal) (left m c : Buf (Elt Ideal) ((c : Thread nD τ).loc main_v3)) := rfl
  rw [e, View.read_apply]
  refine (cast_eq _ _).trans (left_eq m c _ _ _ ?_ ?_)
  · show win0_0.index t 0 * 4096 + 1 * (i 0).val = _; rw [a0]; omega
  · show win0_0.index t 1 * 512 + 1 * (i 1).val = _; rw [a1]; omega

theorem right_apply (c : Dev nD) (t : Fin cfg0.N) (i : S1x4096x1024.Idx) :
    (iblk m c 1 t : Vec Ideal S1x4096x1024 .bf16) i = at2 (W m c) (i 1) (t.val % 2 * 1024 + (i 2).val) := by
  obtain ⟨a0, a1, a2⟩ := index1 t
  have e : (iblk m c 1 t : Vec Ideal S1x4096x1024 .bf16)
      = (win0_1.blk t).view.read (Elt Ideal) (right m c : Buf (Elt Ideal) ((c : Thread nD τ).loc main_v5)) := rfl
  rw [e, View.read_apply]
  refine (cast_eq _ _).trans (right_eq m c _ _ _ ?_ ?_)
  · show win0_1.index t 1 * 4096 + 1 * (i 1).val = _; rw [a1]; omega
  · show win0_1.index t 2 * 1024 + 1 * (i 2).val = _; rw [a2]; omega

/-- The result. -/
def result (c : Dev nD) : Buf (Elt Ideal) ((c : Thread nD τ).loc main_v6) := fun i : S1x5632x2048.Idx =>
  (∑ k : Fin 4096, chunked (at2 (X m c) k) (i 1) * at2 (W m c) k (i 2) : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x512x1024.Idx)
  refine (out_apply c _ _ _ _ _ _ _ _ _ _ _ j).trans ?_
  rw [View.read_apply]
  have key : ∀ e : S1x5632x2048.Idx, (e 1).val = t.val / 2 * 512 + (j 1).val → (e 2).val = t.val % 2 * 1024 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 512 + 1 * (j 1).val = _; rw [e1]; omega
  · show win0_2.index t 2 * 1024 + 1 * (j 2).val = _; rw [e2]; omega

theorem mem_blk (t : Fin cfg0.N) (i : S1x5632x2048.Idx) (h1 : (i 1).val / 512 = t.val / 2) (h2 : (i 2).val / 1024 = t.val % 2) :
    i ∈ ((cfg0.win 2).blk t).view.set := by
  obtain ⟨e0, e1, e2⟩ := index2 t
  have b0 : (i 0).val < 1 := (i 0).isLt
  have b1 : (i 1).val < 5632 := (i 1).isLt
  have b2 : (i 2).val < 2048 := (i 2).isLt
  show i ∈ ((View.whole main_v6).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 512 ≤ (i 1).val ∧ (i 1).val < win0_2.index t 1 * 512 + 512; rw [e1]; omega
  | ⟨2, _⟩ => show win0_2.index t 2 * 1024 ≤ (i 2).val ∧ (i 2).val < win0_2.index t 2 * 1024 + 1024; rw [e2]; omega

theorem final (c : Dev nD) : (dats m 0 c).arrAt 2 cfg0.N = result m c :=
  (dats m 0 c).arrAt_eq_of_cover 2 (result m c) (fun t _ => flushed_eq m c t) fun (i : S1x5632x2048.Idx) => by
    have h0 : (i 0).val < 1 := (i 0).isLt
    have h1 : (i 1).val < 5632 := (i 1).isLt
    have h2 : (i 2).val < 2048 := (i 2).isLt
    have hN : cfg0.N = 22 := N_0
    exact ⟨⟨(i 1).val / 512 * 2 + (i 2).val / 1024, by omega⟩, flush0_2 _, mem_blk _ i (by dsimp only; omega) (by dsimp only; omega)⟩

/-- The reference's array. -/
theorem result_eq (c : Dev nD) : result m c = Cert.ReferenceDwDownIdeal.Read.val_main_v6 (F := Ideal) (X m c) (W m c) := by
  funext (i : S1x5632x2048.Idx)
  refine (sum_chunked' (fun k : Fin 4096 => at2 (W m c) k (i 2)) (fun n k => at2 (X m c) k n) (i 1)).trans (Eq.symm ?_)
  refine merge_rows 4 1408 2048 5632 _ (fun f n => chunked (fun r => ∑ k : Fin 4096, at2 (X m c) k r * at2 (W m c) k n) f)
    (pad_rows 4 2048 (Cert.ReferenceDwDownIdeal.Read.val_main_v4 (F := Ideal) (X m c) (W m c))
      (fun r n => ∑ k : Fin 4096, at2 (X m c) k r * at2 (W m c) k n) (fun i => ?_) Cert.ReferenceDwDownIdeal.Facts₀.h_S_ _ rfl _) rfl _ i
  rw [Cert.ReferenceDwDownIdeal.Read.val_main_v4_apply, Cert.ReferenceDwDownIdeal.Read.val_main_v3_apply, Cert.ReferenceDwDownIdeal.Read.val_main_v2_apply]
  have h0 : (i 0).val < 4 := (i 0).isLt
  have h1 : (i 1).val < 1376 := (i 1).isLt
  have h2 : (i 2).val < 2048 := (i 2).isLt
  refine @Finset.sum_congr _ EReal _ _ _ _ _ rfl fun k _ => (mul_comm _ _).trans
    (congrArg₂ (fun u v : EReal => u * v) (at2_eq (X m c) _ _ _ rfl ?_) (at2_eq (W m c) _ _ _ rfl ?_))
  · show (((i 0).val * 1376 + (i 1).val) * 2048 + (i 2).val) / 2048 = (i 0).val * 1376 + (i 1).val; omega
  · show (((i 0).val * 1376 + (i 1).val) * 2048 + (i 2).val) % 2048 = (i 2).val; omega

theorem algebraic : Cert.algebraic_KernelDwDownIdeal_ReferenceDwDownIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceDwDownIdeal.defs _ _).mono (fun _ h c => ?_) (Cert.ReferenceDwDownIdeal.Value.run (F := Ideal) m' ρ')
  refine ⟨(h c).1.trans ?_, (h c).2⟩
  refine (Cert.ReferenceDwDownIdeal.Read.val_main_v6_eq _ _).trans ?_
  rw [(hagree c).1, (hagree c).2]
  exact (result_eq m c).symm

end Cert.DwDown

end
-- ==== Proof.DwIn.lean ====
module

public import proofs.«01_k».proof.Defs
public import proofs.«01_k».proof.Proof.Gen.KernelDwInIdeal.Value
public import proofs.«01_k».proof.Proof.Gen.ReferenceDwInIdeal.Run
public import proofs.«01_k».proof.Proof.Gen.ReferenceDwInIdeal.Read
public import proofs.«01_k».proof.Proof.Products

@[expose] public section

set_option maxRecDepth 16384

noncomputable section

/-! The gradient of the input projection. -/

namespace Cert.DwIn

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelDwInIdeal Cert.KernelDwInIdeal.Gen

variable (m : (ℓ : Loc nD τ sig) → Buf (Elt Ideal) ℓ) (ρ : Dev nD → PrngReg)

/-- One block of the product. -/
def block (x0 : Vec Ideal S4096x1024 .bf16) (x1 : Vec Ideal S1x4096x640 .bf16) (j : S1x1024x640.Idx) : EReal :=
  ∑ k : Fin 4096, x0 (ix2 k (j 1)) * x1 (ix3 0 k (j 2))

theorem out_apply (c : Dev nD) (i : grid0.Coords) (a3 : Memref sig .tc .vmem S4096x1024 .bf16) (h3 : a3.IsWhole)
    (a4 : Memref sig .tc .vmem S1x4096x640 .bf16) (h4 : a4.IsWhole) (a5 : Memref sig .tc .vmem S1x1024x640 .f32) (h5 : a5.IsWhole)
    (hc0 : cond0_0 i) (hc1 : ¬cond0_1 i) (x0 : Vec Ideal S4096x1024 .bf16) (x1 : Vec Ideal S1x4096x640 .bf16) (j : S1x1024x640.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S4096x1024) zero2,
    View.ld_unit_zero (S := S1x4096x640) zero3, shapeCast_self]
  exact cols_cols 4096 1024 640 none x0 x1 _ _ j

theorem index0 : ∀ t : Fin cfg0.N, win0_0.index t 0 = 0 ∧ win0_0.index t 1 = t.val / 4 :=
  (by decide +kernel : ∀ t : Fin grid0.N, win0_0.index t 0 = 0 ∧ win0_0.index t 1 = t.val / 4)
theorem index1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)
theorem index2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

/-- The arguments. -/
def X (c : Dev nD) : Vec Ideal S4096x2048 .f32 := m ((c : Thread nD τ).loc main_arg0)
def W (c : Dev nD) : Vec Ideal S4096x2560 .f32 := m ((c : Thread nD τ).loc main_arg1)

/-- The host's preparation of the operands. -/
def left (c : Dev nD) : Vec Ideal S4096x2048 .bf16 := V m c main_v0
def right (c : Dev nD) : Vec Ideal S1x4096x2560 .bf16 := V m c main_v2

theorem left_eq (c : Dev nD) (i : S4096x2048.Idx) (k r : Nat) (hk : (i 0).val = k) (hr : (i 1).val = r) :
    left m c i = at2 (X m c) k r := by
  have e : left m c = (truncf .bf16 (X m c : FVec Ideal S4096x2048 .f32) bitsLt_bf16_f32 : FVec Ideal S4096x2048 .bf16) := by
    unfold left V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hk hr

theorem right_eq (c : Dev nD) (i : S1x4096x2560.Idx) (k n : Nat) (hk : (i 1).val = k) (hn : (i 2).val = n) :
    right m c i = at2 (W m c) k n := by
  have e : right m c = broadcastInDim S1x4096x2560 ![1, 2] bcast_S4096x2560_S1x4096x2560_1_2
      (truncf .bf16 (W m c : FVec Ideal S4096x2560 .f32) bitsLt_bf16_f32 : FVec Ideal S4096x2560 .bf16) := by
    unfold right V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (W m c) _ _ _ hk hn

/-- The blocks of the operands. -/
theorem left_apply (c : Dev nD) (t : Fin cfg0.N) (i : S4096x1024.Idx) :
    (iblk m c 0 t : Vec Ideal S4096x1024 .bf16) i = at2 (X m c) (i 0) (t.val / 4 * 1024 + (i 1).val) := by
  obtain ⟨a0, a1⟩ := index0 t
  have e : (iblk m c 0 t : Vec Ideal S4096x1024 .bf16)
      = (win0_0.blk t).view.read (Elt Ideal) (left m c : Buf (Elt Ideal) ((c : Thread nD τ).loc main_v0)) := rfl
  rw [e, View.read_apply]
  refine (cast_eq _ _).trans (left_eq m c _ _ _ ?_ ?_)
  · show win0_0.index t 0 * 4096 + 1 * (i 0).val = _; rw [a0]; omega
  · show win0_0.index t 1 * 1024 + 1 * (i 1).val = _; rw [a1]; omega

theorem right_apply (c : Dev nD) (t : Fin cfg0.N) (i : S1x4096x640.Idx) :
    (iblk m c 1 t : Vec Ideal S1x4096x640 .bf16) i = at2 (W m c) (i 1) (t.val % 4 * 640 + (i 2).val) := by
  obtain ⟨a0, a1, a2⟩ := index1 t
  have e : (iblk m c 1 t : Vec Ideal S1x4096x640 .bf16)
      = (win0_1.blk t).view.read (Elt Ideal) (right m c : Buf (Elt Ideal) ((c : Thread nD τ).loc main_v2)) := rfl
  rw [e, View.read_apply]
  refine (cast_eq _ _).trans (right_eq m c _ _ _ ?_ ?_)
  · show win0_1.index t 1 * 4096 + 1 * (i 1).val = _; rw [a1]; omega
  · show win0_1.index t 2 * 640 + 1 * (i 2).val = _; rw [a2]; omega

/-- The result. -/
def result (c : Dev nD) : Buf (Elt Ideal) ((c : Thread nD τ).loc main_v3) := fun i : S4x2048x640.Idx =>
  (∑ k : Fin 4096, at2 (X m c) k (i 1) * at2 (W m c) k ((i 0).val * 640 + (i 2).val) : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x1024x640.Idx)
  refine (out_apply c _ _ _ _ _ _ _ _ _ _ _ j).trans ?_
  rw [View.read_apply]
  have key : ∀ e : S4x2048x640.Idx, (e 1).val = t.val / 4 * 1024 + (j 1).val → (e 0).val * 640 + (e 2).val = t.val % 4 * 640 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 1024 + 1 * (j 1).val = _; rw [e1]; omega
  · have b0 : (j 0).val < 1 := (j 0).isLt
    show (win0_2.index t 0 * 1 + 1 * (j 0).val) * 640 + (win0_2.index t 2 * 640 + 1 * (j 2).val) = _; rw [e0, e2]; omega

theorem mem_blk (t : Fin cfg0.N) (i : S4x2048x640.Idx) (h0 : (i 0).val = t.val % 4) (h1 : (i 1).val / 1024 = t.val / 4) :
    i ∈ ((cfg0.win 2).blk t).view.set := by
  obtain ⟨e0, e1, e2⟩ := index2 t
  have b0 : (i 0).val < 4 := (i 0).isLt
  have b1 : (i 1).val < 2048 := (i 1).isLt
  have b2 : (i 2).val < 640 := (i 2).isLt
  show i ∈ ((View.whole main_v3).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 1024 ≤ (i 1).val ∧ (i 1).val < win0_2.index t 1 * 1024 + 1024; rw [e1]; omega
  | ⟨2, _⟩ => show win0_2.index t 2 * 640 ≤ (i 2).val ∧ (i 2).val < win0_2.index t 2 * 640 + 640; rw [e2]; omega

theorem final (c : Dev nD) : (dats m 0 c).arrAt 2 cfg0.N = result m c :=
  (dats m 0 c).arrAt_eq_of_cover 2 (result m c) (fun t _ => flushed_eq m c t) fun (i : S4x2048x640.Idx) => by
    have h0 : (i 0).val < 4 := (i 0).isLt
    have h1 : (i 1).val < 2048 := (i 1).isLt
    have h2 : (i 2).val < 640 := (i 2).isLt
    have hN : cfg0.N = 8 := N_0
    exact ⟨⟨(i 1).val / 1024 * 4 + (i 0).val, by omega⟩, flush0_2 _, mem_blk _ i (by dsimp only; omega) (by dsimp only; omega)⟩

/-- The reference's array. -/
theorem result_eq (c : Dev nD) : result m c = Cert.ReferenceDwInIdeal.Read.val_main_v5 (F := Ideal) (X m c) (W m c) := by
  funext (i : S4x2048x640.Idx)
  rw [Cert.ReferenceDwInIdeal.Read.val_main_v5_apply, Cert.ReferenceDwInIdeal.Read.val_main_v4_apply, Cert.ReferenceDwInIdeal.Read.val_main_v3_apply,
    Cert.ReferenceDwInIdeal.Read.val_main_v2_apply]
  have h0 : (i 0).val < 4 := (i 0).isLt
  have h1 : (i 1).val < 2048 := (i 1).isLt
  have h2 : (i 2).val < 640 := (i 2).isLt
  refine Eq.symm (@Finset.sum_congr _ EReal _ _ _ _ _ rfl fun k _ => (mul_comm _ _).trans (congrArg₂ (fun u v : EReal => u * v) (at2_eq (X m c) _ _ _ rfl ?_) (at2_eq (W m c) _ _ _ rfl ?_)))
  · show (((i 1).val * 4 + (i 0).val) * 640 + (i 2).val) / 2560 = (i 1).val; omega
  · show (((i 1).val * 4 + (i 0).val) * 640 + (i 2).val) % 2560 = (i 0).val * 640 + (i 2).val; omega

theorem algebraic : Cert.algebraic_KernelDwInIdeal_ReferenceDwInIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceDwInIdeal.defs _ _).mono (fun _ h c => ?_) (Cert.ReferenceDwInIdeal.Value.run (F := Ideal) m' ρ')
  refine ⟨(h c).1.trans ?_, (h c).2⟩
  refine (Cert.ReferenceDwInIdeal.Read.val_main_v5_eq _ _).trans ?_
  rw [(hagree c).1, (hagree c).2]
  exact (result_eq m c).symm

end Cert.DwIn

end
-- ==== Proof.DwOut.lean ====
module

public import proofs.«01_k».proof.Defs
public import proofs.«01_k».proof.Proof.Gen.KernelDwOutIdeal.Value
public import proofs.«01_k».proof.Proof.Gen.ReferenceDwOutIdeal.Run
public import proofs.«01_k».proof.Proof.Gen.ReferenceDwOutIdeal.Read
public import proofs.«01_k».proof.Proof.Products

@[expose] public section

set_option maxRecDepth 16384

noncomputable section

/-! The gradient of the output projection. -/

namespace Cert.DwOut

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelDwOutIdeal Cert.KernelDwOutIdeal.Gen

variable (m : (ℓ : Loc nD τ sig) → Buf (Elt Ideal) ℓ) (ρ : Dev nD → PrngReg)

/-- One block of the product. -/
def block (x0 : Vec Ideal S4096x512 .bf16) (x1 : Vec Ideal S1x4096x1024 .bf16) (j : S1x512x1024.Idx) : EReal :=
  ∑ k : Fin 4096, x0 (ix2 k (j 1)) * x1 (ix3 0 k (j 2))

theorem out_apply (c : Dev nD) (i : grid0.Coords) (a3 : Memref sig .tc .vmem S4096x512 .bf16) (h3 : a3.IsWhole)
    (a4 : Memref sig .tc .vmem S1x4096x1024 .bf16) (h4 : a4.IsWhole) (a5 : Memref sig .tc .vmem S1x512x1024 .f32) (h5 : a5.IsWhole)
    (hc0 : cond0_0 i) (hc1 : ¬cond0_1 i) (x0 : Vec Ideal S4096x512 .bf16) (x1 : Vec Ideal S1x4096x1024 .bf16) (j : S1x512x1024.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S4096x512) zero2,
    View.ld_unit_zero (S := S1x4096x1024) zero3, shapeCast_self]
  exact cols_cols 4096 512 1024 none x0 x1 _ _ j

theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

/-- The arguments. -/
def X (c : Dev nD) : Vec Ideal S4096x2048 .f32 := m ((c : Thread nD τ).loc main_arg0)
def W (c : Dev nD) : Vec Ideal S4096x2048 .f32 := m ((c : Thread nD τ).loc main_arg1)

/-- The host's preparation of the operands. -/
def left (c : Dev nD) : Vec Ideal S4096x2048 .bf16 := V m c main_v0
def right (c : Dev nD) : Vec Ideal S1x4096x2048 .bf16 := V m c main_v2

theorem left_eq (c : Dev nD) (i : S4096x2048.Idx) (k r : Nat) (hk : (i 0).val = k) (hr : (i 1).val = r) :
    left m c i = at2 (X m c) k r := by
  have e : left m c = (truncf .bf16 (X m c : FVec Ideal S4096x2048 .f32) bitsLt_bf16_f32 : FVec Ideal S4096x2048 .bf16) := by
    unfold left V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hk hr

theorem right_eq (c : Dev nD) (i : S1x4096x2048.Idx) (k n : Nat) (hk : (i 1).val = k) (hn : (i 2).val = n) :
    right m c i = at2 (W m c) k n := by
  have e : right m c = broadcastInDim S1x4096x2048 ![1, 2] bcast_S4096x2048_S1x4096x2048_1_2
      (truncf .bf16 (W m c : FVec Ideal S4096x2048 .f32) bitsLt_bf16_f32 : FVec Ideal S4096x2048 .bf16) := by
    unfold right V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (W m c) _ _ _ hk hn

/-- The blocks of the operands. -/
theorem left_apply (c : Dev nD) (t : Fin cfg0.N) (i : S4096x512.Idx) :
    (iblk m c 0 t : Vec Ideal S4096x512 .bf16) i = at2 (X m c) (i 0) (t.val / 2 * 512 + (i 1).val) := by
  obtain ⟨a0, a1⟩ := index0 t
  have e : (iblk m c 0 t : Vec Ideal S4096x512 .bf16)
      = (win0_0.blk t).view.read (Elt Ideal) (left m c : Buf (Elt Ideal) ((c : Thread nD τ).loc main_v0)) := rfl
  rw [e, View.read_apply]
  refine (cast_eq _ _).trans (left_eq m c _ _ _ ?_ ?_)
  · show win0_0.index t 0 * 4096 + 1 * (i 0).val = _; rw [a0]; omega
  · show win0_0.index t 1 * 512 + 1 * (i 1).val = _; rw [a1]; omega

theorem right_apply (c : Dev nD) (t : Fin cfg0.N) (i : S1x4096x1024.Idx) :
    (iblk m c 1 t : Vec Ideal S1x4096x1024 .bf16) i = at2 (W m c) (i 1) (t.val % 2 * 1024 + (i 2).val) := by
  obtain ⟨a0, a1, a2⟩ := index1 t
  have e : (iblk m c 1 t : Vec Ideal S1x4096x1024 .bf16)
      = (win0_1.blk t).view.read (Elt Ideal) (right m c : Buf (Elt Ideal) ((c : Thread nD τ).loc main_v2)) := rfl
  rw [e, View.read_apply]
  refine (cast_eq _ _).trans (right_eq m c _ _ _ ?_ ?_)
  · show win0_1.index t 1 * 4096 + 1 * (i 1).val = _; rw [a1]; omega
  · show win0_1.index t 2 * 1024 + 1 * (i 2).val = _; rw [a2]; omega

/-- The result. -/
def result (c : Dev nD) : Buf (Elt Ideal) ((c : Thread nD τ).loc main_v3) := fun i : S1x2048x2048.Idx =>
  (∑ k : Fin 4096, at2 (X m c) k (i 1) * at2 (W m c) k (i 2) : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x512x1024.Idx)
  refine (out_apply c _ _ _ _ _ _ _ _ _ _ _ j).trans ?_
  rw [View.read_apply]
  have key : ∀ e : S1x2048x2048.Idx, (e 1).val = t.val / 2 * 512 + (j 1).val → (e 2).val = t.val % 2 * 1024 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 512 + 1 * (j 1).val = _; rw [e1]; omega
  · show win0_2.index t 2 * 1024 + 1 * (j 2).val = _; rw [e2]; omega

theorem mem_blk (t : Fin cfg0.N) (i : S1x2048x2048.Idx) (h1 : (i 1).val / 512 = t.val / 2) (h2 : (i 2).val / 1024 = t.val % 2) :
    i ∈ ((cfg0.win 2).blk t).view.set := by
  obtain ⟨e0, e1, e2⟩ := index2 t
  have b0 : (i 0).val < 1 := (i 0).isLt
  have b1 : (i 1).val < 2048 := (i 1).isLt
  have b2 : (i 2).val < 2048 := (i 2).isLt
  show i ∈ ((View.whole main_v3).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 512 ≤ (i 1).val ∧ (i 1).val < win0_2.index t 1 * 512 + 512; rw [e1]; omega
  | ⟨2, _⟩ => show win0_2.index t 2 * 1024 ≤ (i 2).val ∧ (i 2).val < win0_2.index t 2 * 1024 + 1024; rw [e2]; omega

theorem final (c : Dev nD) : (dats m 0 c).arrAt 2 cfg0.N = result m c :=
  (dats m 0 c).arrAt_eq_of_cover 2 (result m c) (fun t _ => flushed_eq m c t) fun (i : S1x2048x2048.Idx) => by
    have h0 : (i 0).val < 1 := (i 0).isLt
    have h1 : (i 1).val < 2048 := (i 1).isLt
    have h2 : (i 2).val < 2048 := (i 2).isLt
    have hN : cfg0.N = 8 := N_0
    exact ⟨⟨(i 1).val / 512 * 2 + (i 2).val / 1024, by omega⟩, flush0_2 _, mem_blk _ i (by dsimp only; omega) (by dsimp only; omega)⟩

/-- The reference's array. -/
theorem result_eq (c : Dev nD) : result m c = Cert.ReferenceDwOutIdeal.Read.val_main_v4 (F := Ideal) (X m c) (W m c) := by
  funext (i : S1x2048x2048.Idx)
  rw [Cert.ReferenceDwOutIdeal.Read.val_main_v4_apply, Cert.ReferenceDwOutIdeal.Read.val_main_v3_apply, Cert.ReferenceDwOutIdeal.Read.val_main_v2_apply]
  refine Eq.symm (@Finset.sum_congr _ EReal _ _ _ _ _ rfl fun k _ => (mul_comm _ _).trans (congrArg₂ (fun u v : EReal => u * v) (at2_eq (X m c) _ _ _ rfl rfl) (at2_eq (W m c) _ _ _ rfl rfl)))

theorem algebraic : Cert.algebraic_KernelDwOutIdeal_ReferenceDwOutIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceDwOutIdeal.defs _ _).mono (fun _ h c => ?_) (Cert.ReferenceDwOutIdeal.Value.run (F := Ideal) m' ρ')
  refine ⟨(h c).1.trans ?_, (h c).2⟩
  refine (Cert.ReferenceDwOutIdeal.Read.val_main_v4_eq _ _).trans ?_
  rw [(hagree c).1, (hagree c).2]
  exact (result_eq m c).symm

end Cert.DwOut

end
-- ==== Proof.DwUp.lean ====
module

public import proofs.«01_k».proof.Defs
public import proofs.«01_k».proof.Proof.Gen.KernelDwUpIdeal.Value
public import proofs.«01_k».proof.Proof.Gen.ReferenceDwUpIdeal.Run
public import proofs.«01_k».proof.Proof.Gen.ReferenceDwUpIdeal.Read
public import proofs.«01_k».proof.Proof.Sums

@[expose] public section

set_option maxRecDepth 16384

noncomputable section

namespace Cert.DwUp

open Idealize.ShloMosaic Idealize.ShloMosaic.TcCoe Idealize.ShloMosaic.Tactic Idealize.SL.Sem
open Idealize.ShloMosaic.ValueIdx Cert.Sums
open Idealize.ShloMosaic.Pipeline (Dat)
open Cert.KernelDwUpIdeal Cert.KernelDwUpIdeal.Gen

variable (m : (ℓ : Loc nD τ sig) → Buf (Elt Ideal) ℓ) (ρ : Dev nD → PrngReg)

/-- The product of one block: row `k` of the transposed left block against the right operand. -/
theorem out_apply (c : Dev nD) (i : grid0.Coords) (a3 : Memref sig .tc .vmem S1x4096x256 .bf16) (h3 : a3.IsWhole)
    (a4 : Memref sig .tc .vmem S4096x2048 .bf16) (h4 : a4.IsWhole) (a5 : Memref sig .tc .vmem S1x256x2048 .f32) (h5 : a5.IsWhole)
    (hc0 : cond0_0 i) (hc1 : ¬cond0_1 i) (x0 : Vec Ideal S1x4096x256 .bf16) (x1 : Vec Ideal S4096x2048 .bf16) (j : S1x256x2048.Idx) :
    out0_A_2 c i a3 h3 a4 h4 a5 h5 hc0 hc1 x0 x1 j = ∑ r : Fin 4096, x0 (ix3 0 r (j 1)) * x1 (ix2 r (j 2)) := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S1x4096x256) zero3,
    View.ld_unit_zero (S := S4096x2048) zero2, shapeCast_self]
  rw [shapeCast_addUnit_apply (n := 2) ![256, 2048]]
  have e : (fun a : Fin 2 => j a.succ) = ix2 (j 1) (j 2) := by
    funext a; match a with
    | ⟨0, _⟩ => rfl
    | ⟨1, _⟩ => rfl
  rw [e]
  refine (matmul_col (φ₁ := .bf16) (φ₂ := .bf16) 4096 256 2048 none _ _ (j 1) (j 2)).trans (Finset.sum_congr rfl fun r _ => ?_)
  rw [shapeCast_dropUnit_apply (n := 2) ![4096, 256]]
  refine congrArg (fun z => x0 z * _) (funext fun a => ?_)
  match a with
  | ⟨0, _⟩ => rfl
  | ⟨1, _⟩ => rfl
  | ⟨2, _⟩ => rfl

/-- Where the blocks of grid point `t` lie. -/
theorem index0 : ∀ t : Fin cfg0.N, win0_0.index t 0 = t.val / 22 ∧ win0_0.index t 1 = 0 ∧ win0_0.index t 2 = t.val % 22 :=
  (by decide +kernel : ∀ t : Fin grid0.N, win0_0.index t 0 = t.val / 22 ∧ win0_0.index t 1 = 0 ∧ win0_0.index t 2 = t.val % 22)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val / 11 ∧ win0_2.index t 1 = t.val % 11 ∧ win0_2.index t 2 = 0 :=
  (by decide +kernel : ∀ t : Fin grid0.N, win0_2.index t 0 = t.val / 11 ∧ win0_2.index t 1 = t.val % 11 ∧ win0_2.index t 2 = 0)

theorem points (t : Fin cfg0.N) : t.val < 44 := by have h := t.isLt; have hN : cfg0.N = 44 := N_0; omega

/-- The operands as the kernel finds them. -/
def left (c : Dev nD) : Vec Ideal S2x4096x5632 .bf16 := V m c main_v4
def right (c : Dev nD) : Vec Ideal S4096x2048 .bf16 := V m c main_v5

/-- The left operand's block: 256 columns of one half. -/
theorem left_apply (c : Dev nD) (t : Fin cfg0.N) (r : Fin 4096) (k : Fin 256) :
    (iblk m c 0 t : Vec Ideal S1x4096x256 .bf16) (ix3 0 r k)
      = left m c (ix3 ⟨t.val / 22, by have := points t; omega⟩ r ⟨t.val % 22 * 256 + k.val, by omega⟩) := by
  obtain ⟨e0, e1, e2⟩ := index0 t
  unfold iblk
  rw [View.read_apply]
  show left m c _ = left m c _
  refine congrArg _ (funext fun a => Fin.ext ?_)
  match a with
  | ⟨0, _⟩ => show win0_0.index t 0 * 1 + 1 * 0 = t.val / 22; rw [e0]; omega
  | ⟨1, _⟩ => show win0_0.index t 1 * 4096 + 1 * r.val = r.val; rw [e1]; omega
  | ⟨2, _⟩ => show win0_0.index t 2 * 256 + 1 * k.val = t.val % 22 * 256 + k.val; rw [e2]; omega

/-- The right operand's block is all of it. -/
theorem right_apply (c : Dev nD) (t : Fin cfg0.N) (r : Fin 4096) (k : Fin 2048) :
    (iblk m c 1 t : Vec Ideal S4096x2048 .bf16) (ix2 r k) = right m c (ix2 r k) := by
  obtain ⟨e0, e1⟩ := index1 t
  unfold iblk
  rw [View.read_apply]
  show right m c _ = right m c _
  refine congrArg _ (funext fun a => Fin.ext ?_)
  match a with
  | ⟨0, _⟩ => show win0_1.index t 0 * 4096 + 1 * r.val = r.val; rw [e0]; omega
  | ⟨1, _⟩ => show win0_1.index t 1 * 2048 + 1 * k.val = k.val; rw [e1]; omega

theorem i0_lt (i : S4x2816x2048.Idx) : (i 0).val < 4 := (i 0).isLt
theorem i1_lt (i : S4x2816x2048.Idx) : (i 1).val < 2816 := (i 1).isLt

/-- The result over the prepared operands: `flat` numbers the rows of all four slabs. -/
abbrev flat (i : S4x2816x2048.Idx) : Nat := (i 0).val * 2816 + (i 1).val
theorem flat_lt (i : S4x2816x2048.Idx) : flat i < 11264 := by have := i0_lt i; have := i1_lt i; unfold flat; omega
def result (c : Dev nD) : Buf (Elt Ideal) ((c : Thread nD τ).loc main_v6) := fun i : S4x2816x2048.Idx =>
  (∑ r : Fin 4096, left m c
      (ix3 ⟨flat i / 5632, by have := flat_lt i; omega⟩ r ⟨flat i % 5632, by omega⟩)
    * right m c (ix2 r (i 2)) : EReal)

theorem flushed_eq (c : Dev nD) (t : Fin cfg0.N) :
    (dats m 0 c).flushed 2 t = (win0_2.blk t).view.read (Elt Ideal) (result m c) := by
  obtain ⟨e0, e1, e2⟩ := index2 t
  have hp := points t
  refine (Value.flushed2_A m c t).trans ?_
  funext (j : S1x256x2048.Idx)
  have hj0 : (j 0).val < 1 := (j 0).isLt
  have hj1 : (j 1).val < 256 := (j 1).isLt
  have hj2 : (j 2).val < 2048 := (j 2).isLt
  refine (out_apply c _ _ _ _ _ _ _ _ _ _ _ j).trans ?_
  rw [View.read_apply]
  have key : (win0_2.blk t).view.emb j = ((ix3 ⟨t.val / 11, by omega⟩ ⟨t.val % 11 * 256 + (j 1).val, by omega⟩ (j 2) : S4x2816x2048.Idx)) := by
    funext a; refine Fin.ext ?_
    match a with
    | ⟨0, _⟩ => show win0_2.index t 0 * 1 + 1 * (j 0).val = t.val / 11; rw [e0]; omega
    | ⟨1, _⟩ => show win0_2.index t 1 * 256 + 1 * (j 1).val = t.val % 11 * 256 + (j 1).val; rw [e1]; omega
    | ⟨2, _⟩ => show win0_2.index t 2 * 2048 + 1 * (j 2).val = (j 2).val; rw [e2]; omega
  show _ = result m c ((win0_2.blk t).view.emb j)
  rw [key]
  refine @Finset.sum_congr _ EReal _ _ _ _ _ rfl fun r _ => ?_
  refine (congrArg₂ (fun x y : EReal => x * y) (left_apply m c t r (j 1)) (right_apply m c t r (j 2))).trans ?_
  refine congrArg (fun z => left m c z * right m c (ix2 r (j 2))) (funext fun a => Fin.ext ?_)
  match a with
  | ⟨0, _⟩ => show t.val / 22 = (t.val / 11 * 2816 + (t.val % 11 * 256 + (j 1).val)) / 5632; omega
  | ⟨1, _⟩ => rfl
  | ⟨2, _⟩ => show t.val % 22 * 256 + (j 1).val = (t.val / 11 * 2816 + (t.val % 11 * 256 + (j 1).val)) % 5632; omega

theorem mem_blk (t : Fin cfg0.N) (i : S4x2816x2048.Idx) (h0 : (i 0).val = t.val / 11) (h1 : (i 1).val / 256 = t.val % 11) :
    i ∈ ((cfg0.win 2).blk t).view.set := by
  obtain ⟨e0, e1, e2⟩ := index2 t
  show i ∈ ((View.whole main_v6).slice (win0_2.rect t)).set
  rw [View.set_slice_whole, Rect.mem_set_unit]
  have h2 : (i 2).val < 2048 := (i 2).isLt
  intro a
  match a with
  | ⟨0, _⟩ => show win0_2.index t 0 * 1 ≤ (i 0).val ∧ (i 0).val < win0_2.index t 0 * 1 + 1; rw [e0]; omega
  | ⟨1, _⟩ => show win0_2.index t 1 * 256 ≤ (i 1).val ∧ (i 1).val < win0_2.index t 1 * 256 + 256; rw [e1]; omega
  | ⟨2, _⟩ => show win0_2.index t 2 * 2048 ≤ (i 2).val ∧ (i 2).val < win0_2.index t 2 * 2048 + 2048; rw [e2]; omega

theorem final (c : Dev nD) : (dats m 0 c).arrAt 2 cfg0.N = result m c :=
  (dats m 0 c).arrAt_eq_of_cover 2 (result m c) (fun t _ => flushed_eq m c t) fun (i : S4x2816x2048.Idx) => by
    have := i0_lt i; have := i1_lt i
    have hN : cfg0.N = 44 := N_0
    exact ⟨⟨(i 0).val * 11 + (i 1).val / 256, by omega⟩, flush0_2 _, mem_blk _ i (by dsimp only; omega) (by dsimp only; omega)⟩

/-- The host's preparation of the left operand, entry by entry: each device's 1376 columns are followed by 32 zeros. -/
theorem left_eq (c : Dev nD) (p : Fin 2) (r : Fin 4096) (k : Fin 5632) :
    left m c (ix3 p r k) = if h : (p.val * 5632 + k.val) % 1408 < 1376 then
      (m ((c : Thread nD τ).loc main_arg0) : Vec Ideal S4096x11008 .f32)
        (ix2 r ⟨(p.val * 5632 + k.val) / 1408 * 1376 + (p.val * 5632 + k.val) % 1408, by omega⟩) else (0 : EReal) := by
  have e : left m c = transpose S2x4096x5632 [1, 0, 2] (shapeCast S4096x2x5632 (truncf .bf16
      (pad S4096x8x1408 ![0, 0, 0] ![0, 0, 32] ![0, 0, 0]
        (shapeCast S4096x8x1376 (m ((c : Thread nD τ).loc main_arg0) : Vec Ideal S4096x11008 .f32) shapeCasts_S4096x11008_S4096x8x1376)
        (sitofp .f32 (constantI S_ 32 0#32)) pads_S4096x8x1376_S4096x8x1408_000_000_0320 h_S_ : FVec Ideal S4096x8x1408 .f32) bitsLt_bf16_f32)
      shapeCasts_S4096x8x1408_S4096x2x5632) transposes_S4096x2x5632_S2x4096x5632_1_0_2 := by
    unfold left V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact padded_apply 4096 2 5632 rfl _ _ _ _ _ _ _ rfl _ p r k _ rfl (by omega)

theorem right_eq (c : Dev nD) (r : Fin 4096) (k : Fin 2048) :
    right m c (ix2 r k) = (m ((c : Thread nD τ).loc main_arg1) : Vec Ideal S4096x2048 .f32) (ix2 r k) := by
  have e : right m c = (truncf .bf16 (m ((c : Thread nD τ).loc main_arg1) : FVec Ideal S4096x2048 .f32) bitsLt_bf16_f32 : FVec Ideal S4096x2048 .bf16) := by
    unfold right V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e]; rfl

/-- What the reference computes from the same two arrays. -/
abbrev spec (x : Vec Ideal S4096x11008 .f32) (y : Vec Ideal S4096x2048 .f32) : Vec Ideal S4x2816x2048 .f32 :=
  Cert.ReferenceDwUpIdeal.Read.val_main_v7 (F := Ideal) x y

theorem spec_apply (x : Vec Ideal S4096x11008 .f32) (y : Vec Ideal S4096x2048 .f32) (i : S4x2816x2048.Idx) :
    spec x y i = if h : flat i % 1408 < 1376 then
      ∑ r : Fin 4096, x (ix2 r ⟨flat i / 1408 * 1376 + flat i % 1408, by have := flat_lt i; omega⟩) * y (ix2 r (i 2)) else (0 : EReal) := by
  have h0 := i0_lt i; have h1 := i1_lt i
  have h2 : (i 2).val < 2048 := (i 2).isLt
  have hf : flat i = (i 0).val * 2816 + (i 1).val := rfl
  unfold spec
  rw [Cert.ReferenceDwUpIdeal.Read.val_main_v7_apply]
  unfold Cert.ReferenceDwUpIdeal.Read.val_main_v6
  by_cases h : flat i % 1408 < 1376
  · rw [dif_pos h]
    refine (pad_apply_of_inside _ _ _ _ _ _ _ _ (ix3 ⟨flat i / 1408, by omega⟩ ⟨flat i % 1408, h⟩ (i 2) : Cert.ReferenceDwUpIdeal.S8x1376x2048.Idx) ?_).trans ?_
    · intro a
      match a with
      | ⟨0, _⟩ => show (((i 0).val * 2816 + (i 1).val) * 2048 + (i 2).val) / 2883584 = 0 + flat i / 1408 * (0 + 1); omega
      | ⟨1, _⟩ => show (((i 0).val * 2816 + (i 1).val) * 2048 + (i 2).val) / 2048 % 1408 = 0 + flat i % 1408 * (0 + 1); omega
      | ⟨2, _⟩ => show (((i 0).val * 2816 + (i 1).val) * 2048 + (i 2).val) % 2048 = 0 + (i 2).val * (0 + 1); omega
    · rw [Cert.ReferenceDwUpIdeal.Read.val_main_v5_apply, Cert.ReferenceDwUpIdeal.Read.val_main_v4_apply,
        Cert.ReferenceDwUpIdeal.Read.val_main_v3_apply, Cert.ReferenceDwUpIdeal.Read.val_main_v2_apply]
      refine Finset.sum_congr rfl fun r _ => ?_
      refine congrArg₂ (fun a b : EReal => a * b) (congrArg x (funext fun a => Fin.ext ?_)) (congrArg y (funext fun a => Fin.ext ?_))
      · match a with
        | ⟨0, _⟩ => rfl
        | ⟨1, _⟩ => show ((flat i / 1408 * 1376 + flat i % 1408) * 2048 + (i 2).val) / 2048 = flat i / 1408 * 1376 + flat i % 1408; omega
      · match a with
        | ⟨0, _⟩ => rfl
        | ⟨1, _⟩ => show ((flat i / 1408 * 1376 + flat i % 1408) * 2048 + (i 2).val) % 2048 = (i 2).val; omega
  · rw [dif_neg h]
    refine (pad_apply_of_not_inside _ _ _ _ _ _ _ _ (1 : Fin 3) ?_).trans ?_
    · show ¬(0 ≤ (((i 0).val * 2816 + (i 1).val) * 2048 + (i 2).val) / 2048 % 1408
        ∧ ((((i 0).val * 2816 + (i 1).val) * 2048 + (i 2).val) / 2048 % 1408 - 0) % (0 + 1) = 0
        ∧ ((((i 0).val * 2816 + (i 1).val) * 2048 + (i 2).val) / 2048 % 1408 - 0) / (0 + 1) < 1376)
      omega
    · exact zeroWord

/-- The kernel's array is the reference's. -/
theorem result_eq (c : Dev nD) : result m c = spec (m ((c : Thread nD τ).loc main_arg0)) (m ((c : Thread nD τ).loc main_arg1)) := by
  funext (i : S4x2816x2048.Idx)
  have hl := flat_lt i
  refine Eq.trans ?_ (spec_apply _ _ i).symm
  unfold result
  have hd : flat i / 5632 * 5632 + flat i % 5632 = flat i := by omega
  by_cases h : flat i % 1408 < 1376
  · rw [dif_pos h]
    refine @Finset.sum_congr _ EReal _ _ _ _ _ rfl fun r _ => ?_
    refine congrArg₂ (fun a b : EReal => a * b) ?_ (right_eq m c r (i 2))
    rw [left_eq, dif_pos (by show (flat i / 5632 * 5632 + flat i % 5632) % 1408 < 1376; rw [hd]; exact h)]
    refine congrArg _ (funext fun a => Fin.ext ?_)
    match a with
    | ⟨0, _⟩ => rfl
    | ⟨1, _⟩ => show (flat i / 5632 * 5632 + flat i % 5632) / 1408 * 1376 + (flat i / 5632 * 5632 + flat i % 5632) % 1408 = _; rw [hd]
  · rw [dif_neg h]
    refine @Finset.sum_eq_zero _ EReal _ _ _ fun r _ => ?_
    rw [left_eq, dif_neg (by show ¬(flat i / 5632 * 5632 + flat i % 5632) % 1408 < 1376; rw [hd]; exact h)]
    exact zero_mul _

theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem algebraic : Cert.algebraic_KernelDwUpIdeal_ReferenceDwUpIdeal := by
  intro m ρ m' ρ' _ hagree
  refine ⟨fun c => result m c, run m ρ, ?_⟩
  refine (θ_run Cert.ReferenceDwUpIdeal.defs _ _).mono (fun _ h c => ?_) (Cert.ReferenceDwUpIdeal.Value.run (F := Ideal) m' ρ')
  refine ⟨(h c).1.trans ?_, (h c).2⟩
  refine (Cert.ReferenceDwUpIdeal.Read.val_main_v7_eq _ _).trans ?_
  rw [(hagree c).1, (hagree c).2]
  exact (result_eq m c).symm

theorem frame : Cert.quiescent_KernelDwUpIdeal := fun m ρ _ => Cert.KernelDwUpIdeal.Gen.frame m ρ

end Cert.DwUp

end
-- ==== Proof.Dx0.lean ====
module

public import proofs.«01_k».proof.Defs
public import proofs.«01_k».proof.Proof.Gen.KernelDx0Ideal.Value
public import proofs.«01_k».proof.Proof.Gen.ReferenceDx0Ideal.Run
public import proofs.«01_k».proof.Proof.Gen.ReferenceDx0Ideal.Read
public import proofs.«01_k».proof.Proof.Products
public import Idealize.ShloMosaic.Lib.Pipeline.ValueKit.Tiles

@[expose] public section

set_option maxRecDepth 16384

noncomputable section

/-! The input gradient of the input projection, onto what reaches it around the block. -/

namespace Cert.Dx0

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelDx0Ideal Cert.KernelDx0Ideal.Gen

variable (m : (ℓ : Loc nD τ sig) → Buf (Elt Ideal) ℓ) (ρ : Dev nD → PrngReg)

/-- The residual's scale. -/
abbrev α : EReal := FloatOps.ofBits (F := Ideal) .f32 0x3FD744FD#32

/-- One block: the contraction in four parts of 640, and the scaled residual. -/
def part (x0 : Vec Ideal S1x1024x2560 .bf16) (x1 : Vec Ideal S4x1024x640 .bf16) (j : S1024x1024.Idx) (p : Fin 4) : EReal :=
  ∑ k : Fin 640, x0 (ix3 0 (j 0) ⟨p.val * 640 + k.val, by omega⟩) * x1 (ix3 p (j 1) k)
def block (x0 : Vec Ideal S1x1024x2560 .bf16) (x1 : Vec Ideal S4x1024x640 .bf16) (x2 : Vec Ideal S1024x1024 .f32) (j : S1024x1024.Idx) : EReal :=
  part x0 x1 j 0 + part x0 x1 j 1 + part x0 x1 j 2 + part x0 x1 j 3 + α * x2 j

/-- The product of the loads of one part. -/
theorem part_apply (x0 : Vec Ideal S1x1024x2560 .bf16) (x1 : Vec Ideal S4x1024x640 .bf16) (j : S1024x1024.Idx) (p : Fin 4)
    (off0 off1 : Fin 3 → Nat) (h0 : off0 = ![0, 0, p.val * 640]) (h1 : off1 = ![p.val, 0, 0]) (inb0) (inb1)
    (c : S1x1024x640.ShapeCasts S1024x640) (u0 u1 : FVec Ideal S1x1024x640 .bf16)
    (e0 : u0 = View.ld x0 (Rect.unit off0 S1x1024x640.size inb0)) (e1 : u1 = View.ld x1 (Rect.unit off1 S1x1024x640.size inb1)) :
    FloatOps.matmul (F := Ideal) (DotDims.transposedRhs 1024 640 1024) none
      (shapeCast S1024x640 u0 c) (shapeCast S1024x640 u1 c)
      (constant S1024x1024 .f32 0x00000000#32) j = part x0 x1 j p := by
  subst h0 h1 e0 e1
  refine (congrArg _ (eq_ix2 j)).trans ((rows_rows 1024 640 1024 none _ _ _ _ (j 0) (j 1)).trans (Finset.sum_congr rfl fun k _ => ?_))
  refine congrArg₂ (fun u v : EReal => u * v) (View.ld_unit_apply_of x0 _ _ _ _ _ fun a => ?_) (View.ld_unit_apply_of x1 _ _ _ _ _ fun a => ?_)
  · match a with
    | ⟨0, _⟩ => rfl
    | ⟨1, _⟩ => show (j 0).val = 0 + (j 0).val; omega
    | ⟨2, _⟩ => rfl
  · match a with
    | ⟨0, _⟩ => rfl
    | ⟨1, _⟩ => show (j 1).val = 0 + (j 1).val; omega
    | ⟨2, _⟩ => show k.val = 0 + k.val; omega

theorem out_apply (c : Dev nD) (i : grid0.Coords) (a3 : Memref sig .tc .vmem S1x1024x2560 .bf16) (h3 : a3.IsWhole)
    (a4 : Memref sig .tc .vmem S4x1024x640 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i) (x0 : Vec Ideal S1x1024x2560 .bf16)
    (x1 : Vec Ideal S4x1024x640 .bf16) (x2 : Vec Ideal S1024x1024 .f32) (j : S1024x1024.Idx) :
    out0_A_3 c i a3 h3 a4 h4 a5 h5 a6 h6 hc0 hc1 x0 x1 x2 j = block x0 x1 x2 j := by
  unfold out0_A_3
  rw [View.read_writes_eq_canon _ _ _ (cover0_A_3 c i a3 h3 a4 h4 a5 h5 a6 h6 hc0 hc1 x0 x1 x2)]
  unfold kernelRun0_A
  dsimp only
  rw [View.canon_unit_zero zero2]
  unfold k0_pay3 k0_pay2
  simp only [View.readAt_eq_ld, h3.read_unread, h4.read_unread, h5.read_unread, View.ld_unit_zero (S := S1024x1024) zero2]
  refine congrArg₂ (fun u v : EReal => u + v) (congrArg₂ (fun u v : EReal => u + v) (congrArg₂ (fun u v : EReal => u + v)
    (congrArg₂ (fun u v : EReal => u + v) ?_ ?_) ?_) ?_) rfl
  · exact part_apply x0 x1 j 0 _ _ rfl rfl _ _ _ _ _ rfl rfl
  · exact part_apply x0 x1 j 1 _ _ rfl rfl _ _ _ _ _ rfl rfl
  · exact part_apply x0 x1 j 2 _ _ rfl rfl _ _ _ _ _ rfl rfl
  · exact part_apply x0 x1 j 3 _ _ rfl rfl _ _ _ _ _ rfl rfl

theorem index0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem index1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- The arguments. -/
def X (c : Dev nD) : Vec Ideal S4096x2560 .f32 := m ((c : Thread nD τ).loc main_arg0)
def W (c : Dev nD) : Vec Ideal S2048x2560 .f32 := m ((c : Thread nD τ).loc main_arg1)
def Y (c : Dev nD) : Vec Ideal S4096x2048 .f32 := m ((c : Thread nD τ).loc main_arg2)

/-- The host's preparation of the operands. -/
def left (c : Dev nD) : Vec Ideal S1x4096x2560 .bf16 := V m c main_v1
def right (c : Dev nD) : Vec Ideal S4x2048x640 .bf16 := V m c main_v4
def rest (c : Dev nD) : Vec Ideal S4096x2048 .f32 := V m c main_arg2

theorem left_eq (c : Dev nD) (i : S1x4096x2560.Idx) (r k : Nat) (hr : (i 1).val = r) (hk : (i 2).val = k) : left m c i = at2 (X m c) r k := by
  have e : left m c = broadcastInDim S1x4096x2560 ![1, 2] bcast_S4096x2560_S1x4096x2560_1_2
      (truncf .bf16 (X m c : FVec Ideal S4096x2560 .f32) bitsLt_bf16_f32 : FVec Ideal S4096x2560 .bf16) := by
    unfold left V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hr hk

theorem right_eq (c : Dev nD) (i : S4x2048x640.Idx) (n k : Nat) (hn : (i 1).val = n) (hk : (i 0).val * 640 + (i 2).val = k) :
    right m c i = at2 (W m c) n k := by
  have e : right m c = transpose S4x2048x640 [1, 0, 2] (shapeCast S2048x4x640
      (truncf .bf16 (W m c : FVec Ideal S2048x2560 .f32) bitsLt_bf16_f32 : FVec Ideal S2048x2560 .bf16) shapeCasts_S2048x2560_S2048x4x640)
      transposes_S2048x4x640_S4x2048x640_1_0_2 := by
    unfold right V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hn, ← hk]
  exact (swap_apply 4 2048 640 _ _ i).trans (split_cols 4 640 2048 2560 (W m c) rfl _ _)

theorem rest_eq (c : Dev nD) (i : S4096x2048.Idx) (r n : Nat) (hr : (i 0).val = r) (hn : (i 1).val = n) : rest m c i = at2 (Y m c) r n := by
  have e : rest m c = Y m c := by
    unfold rest V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (Y m c) _ _ _ hr hn

/-- The blocks of the operands. -/
theorem left_apply (c : Dev nD) (t : Fin cfg0.N) (i : S1x1024x2560.Idx) :
    (iblk m c 0 t : Vec Ideal S1x1024x2560 .bf16) i = at2 (X m c) (t.val / 2 * 1024 + (i 1).val) (i 2) := by
  obtain ⟨a0, a1, a2⟩ := index0 t
  have e : (iblk m c 0 t : Vec Ideal S1x1024x2560 .bf16)
      = (win0_0.blk t).view.read (Elt Ideal) (left m c : Buf (Elt Ideal) ((c : Thread nD τ).loc main_v1)) := rfl
  rw [e, View.read_apply]
  refine (cast_eq _ _).trans (left_eq m c _ _ _ ?_ ?_)
  · show win0_0.index t 1 * 1024 + 1 * (i 1).val = _; rw [a1]; omega
  · show win0_0.index t 2 * 2560 + 1 * (i 2).val = _; rw [a2]; omega

theorem right_apply (c : Dev nD) (t : Fin cfg0.N) (i : S4x1024x640.Idx) :
    (iblk m c 1 t : Vec Ideal S4x1024x640 .bf16) i = at2 (W m c) (t.val % 2 * 1024 + (i 1).val) ((i 0).val * 640 + (i 2).val) := by
  obtain ⟨a0, a1, a2⟩ := index1 t
  have e : (iblk m c 1 t : Vec Ideal S4x1024x640 .bf16)
      = (win0_1.blk t).view.read (Elt Ideal) (right m c : Buf (Elt Ideal) ((c : Thread nD τ).loc main_v4)) := rfl
  rw [e, View.read_apply]
  refine (cast_eq _ _).trans (right_eq m c _ _ _ ?_ ?_)
  · show win0_1.index t 1 * 1024 + 1 * (i 1).val = _; rw [a1]; omega
  · show (win0_1.index t 0 * 4 + 1 * (i 0).val) * 640 + (win0_1.index t 2 * 640 + 1 * (i 2).val) = _; rw [a0, a2]; omega

theorem rest_apply (c : Dev nD) (t : Fin cfg0.N) (i : S1024x1024.Idx) :
    (iblk m c 2 t : Vec Ideal S1024x1024 .f32) i = at2 (Y m c) (t.val / 2 * 1024 + (i 0).val) (t.val % 2 * 1024 + (i 1).val) := by
  obtain ⟨a0, a1⟩ := index2 t
  have e : (iblk m c 2 t : Vec Ideal S1024x1024 .f32)
      = (win0_2.blk t).view.read (Elt Ideal) (rest m c : Buf (Elt Ideal) ((c : Thread nD τ).loc main_arg2)) := rfl
  rw [e, View.read_apply]
  refine (cast_eq _ _).trans (rest_eq m c _ _ _ ?_ ?_)
  · show win0_2.index t 0 * 1024 + 1 * (i 0).val = _; rw [a0]; omega
  · show win0_2.index t 1 * 1024 + 1 * (i 1).val = _; rw [a1]; omega

/-- The result. -/
def sums (c : Dev nD) (r n p : Nat) : EReal := ∑ k : Fin 640, at2 (X m c) r (p * 640 + k.val) * at2 (W m c) n (p * 640 + k.val)
def result (c : Dev nD) : Buf (Elt Ideal) ((c : Thread nD τ).loc main_v5) := fun i : S4096x2048.Idx =>
  (sums m c (i 0) (i 1) 0 + sums m c (i 0) (i 1) 1 + sums m c (i 0) (i 1) 2 + sums m c (i 0) (i 1) 3 + α * at2 (Y m c) (i 0) (i 1) : EReal)

theorem part_sums (c : Dev nD) (t : Fin cfg0.N) (j : S1024x1024.Idx) (p : Fin 4) :
    part (iblk m c 0 t) (iblk m c 1 t) j p = sums m c (t.val / 2 * 1024 + (j 0).val) (t.val % 2 * 1024 + (j 1).val) p.val :=
  @Finset.sum_congr _ EReal _ _ _ _ _ rfl fun _ _ => congrArg₂ (fun u v : EReal => u * v) (left_apply m c t _) (right_apply m c t _)

theorem flushed_eq (c : Dev nD) (t : Fin cfg0.N) :
    (dats m 0 c).flushed 3 t = (win0_3.blk t).view.read (Elt Ideal) (result m c) := by
  obtain ⟨e0, e1⟩ := index3 t
  refine (Value.flushed3_A m c t).trans ?_
  funext (j : S1024x1024.Idx)
  refine (out_apply c _ _ _ _ _ _ _ _ _ _ _ _ _ _ j).trans ?_
  rw [View.read_apply]
  have key : ∀ e : S4096x2048.Idx, (e 0).val = t.val / 2 * 1024 + (j 0).val → (e 1).val = t.val % 2 * 1024 + (j 1).val →
      block (iblk m c 0 t) (iblk m c 1 t) (iblk m c 2 t) j = result m c e := by
    intro e h0 h1
    unfold block
    rw [part_sums, part_sums, part_sums, part_sums, rest_apply, ← h0, ← h1]
    rfl
  refine key ((win0_3.blk t).view.emb j) ?_ ?_
  · show win0_3.index t 0 * 1024 + 1 * (j 0).val = _; rw [e0]; omega
  · show win0_3.index t 1 * 1024 + 1 * (j 1).val = _; rw [e1]; omega

theorem mem_blk (t : Fin cfg0.N) (i : S4096x2048.Idx) (h0 : (i 0).val / 1024 = t.val / 2) (h1 : (i 1).val / 1024 = t.val % 2) :
    i ∈ ((cfg0.win 3).blk t).view.set := by
  obtain ⟨e0, e1⟩ := index3 t
  have b0 : (i 0).val < 4096 := (i 0).isLt
  have b1 : (i 1).val < 2048 := (i 1).isLt
  show i ∈ ((View.whole main_v5).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [e0]; omega
  | ⟨1, _⟩ => show win0_3.index t 1 * 1024 ≤ (i 1).val ∧ (i 1).val < win0_3.index t 1 * 1024 + 1024; rw [e1]; omega

theorem final (c : Dev nD) : (dats m 0 c).arrAt 3 cfg0.N = result m c :=
  (dats m 0 c).arrAt_eq_of_cover 3 (result m c) (fun t _ => flushed_eq m c t) fun (i : S4096x2048.Idx) => by
    have h0 : (i 0).val < 4096 := (i 0).isLt
    have h1 : (i 1).val < 2048 := (i 1).isLt
    have hN : cfg0.N = 8 := N_0
    exact ⟨⟨(i 0).val / 1024 * 2 + (i 1).val / 1024, by omega⟩, flush0_3 _, mem_blk _ i (by dsimp only; omega) (by dsimp only; omega)⟩

/-- The four parts are the whole contraction. -/
theorem sums_eq (c : Dev nD) (r n : Nat) : ∑ k : Fin 2560, at2 (X m c) r k * at2 (W m c) n k
    = sums m c r n 0 + sums m c r n 1 + sums m c r n 2 + sums m c r n 3 := by
  have h : ∀ p, sums m c r n p = ∑ k ∈ Finset.range 640, at2 (X m c) r (p * 640 + k) * at2 (W m c) n (p * 640 + k) := fun p =>
    Fin.sum_univ_eq_sum_range (fun k => at2 (X m c) r (p * 640 + k) * at2 (W m c) n (p * 640 + k)) 640
  rw [h, h, h, h, Fin.sum_univ_eq_sum_range (fun k => at2 (X m c) r k * at2 (W m c) n k) 2560]
  refine (sum_range_mul 4 640 (fun k => at2 (X m c) r k * at2 (W m c) n k)).trans ?_
  rw [Finset.sum_range_succ, Finset.sum_range_succ, Finset.sum_range_succ, Finset.sum_range_succ, Finset.sum_range_zero, zero_add]

/-- The reference's array. -/
theorem result_eq (c : Dev nD) : result m c = Cert.ReferenceDx0Ideal.Read.val_main_v5 (F := Ideal) (X m c) (W m c) (Y m c) := by
  funext (i : S4096x2048.Idx)
  rw [Cert.ReferenceDx0Ideal.Read.val_main_v5_apply, Cert.ReferenceDx0Ideal.Read.val_main_v2_apply, Cert.ReferenceDx0Ideal.Read.val_main_v1_apply,
    Cert.ReferenceDx0Ideal.Read.val_main_v4_apply]
  refine (add_comm (_ : EReal) _).trans (congrArg₂ (fun u v : EReal => α * u + v) (at2_eq (Y m c) i _ _ rfl rfl).symm ((sums_eq m c _ _).symm.trans
    (Eq.symm (@Finset.sum_congr _ EReal _ _ _ _ _ rfl fun k _ => ?_))))
  exact congrArg₂ (fun u v : EReal => u * v) (at2_eq (X m c) _ _ _ rfl rfl) (at2_eq (W m c) _ _ _ rfl rfl)

theorem algebraic : Cert.algebraic_KernelDx0Ideal_ReferenceDx0Ideal := by
  intro m ρ m' ρ' _ hagree
  refine ⟨fun c => result m c, (θ_run defs _ _).mono (fun _ h c => ⟨(h c).1.trans (final m c), (h c).2⟩) (Value.run_blocks m ρ), ?_⟩
  refine (θ_run Cert.ReferenceDx0Ideal.defs _ _).mono (fun _ h c => ?_) (Cert.ReferenceDx0Ideal.Value.run (F := Ideal) m' ρ')
  refine ⟨(h c).1.trans ?_, (h c).2⟩
  refine (Cert.ReferenceDx0Ideal.Read.val_main_v5_eq _ _ _).trans ?_
  rw [(hagree c).1, (hagree c).2.1, (hagree c).2.2]
  exact (result_eq m c).symm

end Cert.Dx0

end
-- ==== Proof.Dx1.lean ====
module

public import proofs.«01_k».proof.Defs
public import proofs.«01_k».proof.Proof.Gen.KernelDx1Ideal.Value
public import proofs.«01_k».proof.Proof.Gen.ReferenceDx1Ideal.Run
public import proofs.«01_k».proof.Proof.Gen.ReferenceDx1Ideal.Read
public import proofs.«01_k».proof.Proof.Sums

@[expose] public section

set_option maxRecDepth 16384

noncomputable section

namespace Cert.Dx1

open Idealize.ShloMosaic Idealize.ShloMosaic.TcCoe Idealize.ShloMosaic.Tactic Idealize.SL.Sem
open Idealize.ShloMosaic.ValueIdx Cert.Sums
open Idealize.ShloMosaic.Pipeline (Dat)
open Cert.KernelDx1Ideal Cert.KernelDx1Ideal.Gen

variable (m : (ℓ : Loc nD τ sig) → Buf (Elt Ideal) ℓ) (ρ : Dev nD → PrngReg)

/-- The residual's factor. -/
abbrev α : EReal := FloatOps.ofBits (F := Ideal) .f32 0x3FD744FD#32

/-- One block product. -/
theorem product_apply (x0 x1 : Vec Ideal S1x1024x2816 .bf16) (a b : Fin 1024) :
    k0_pay1 x0 x1 (ix2 a b) = ∑ k : Fin 2816, x0 (ix3 0 a k) * x1 (ix3 0 b k) := by
  unfold k0_pay1
  refine (matmul_row (φ₁ := .bf16) (φ₂ := .bf16) 1024 2816 1024 none _ _ a b).trans (Finset.sum_congr rfl fun k _ => ?_)
  rw [shapeCast_dropUnit_apply (n := 2) ![1024, 2816], shapeCast_dropUnit_apply (n := 2) ![1024, 2816]]
  refine congrArg₂ (fun u v : EReal => u * v) (congrArg x0 (funext fun d => ?_)) (congrArg x1 (funext fun d => ?_))
  · match d with
    | ⟨0, _⟩ => rfl
    | ⟨1, _⟩ => rfl
    | ⟨2, _⟩ => rfl
  · match d with
    | ⟨0, _⟩ => rfl
    | ⟨1, _⟩ => rfl
    | ⟨2, _⟩ => rfl

/-- The first step adds the scaled residual, -/
theorem first_apply (c : Dev nD) (i : grid0.Coords) (a3 : Memref sig .tc .vmem S1x1024x2816 .bf16) (h3 : a3.IsWhole)
    (a4 : Memref sig .tc .vmem S1x1024x2816 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec Ideal S1x1024x2816 .bf16) (x2 : Vec Ideal S1024x1024 .f32) (a b : Fin 1024) :
    out0_A_3 c i a3 h3 a4 h4 a5 h5 a6 h6 hc0 hc1 x0 x1 x2 (ix2 a b)
      = (∑ k : Fin 2816, x0 (ix3 0 a k) * x1 (ix3 0 b k)) + α * x2 (ix2 a b) := by
  unfold out0_A_3
  rw [View.read_writes_eq_canon _ _ _ (cover0_A_3 c i a3 h3 a4 h4 a5 h5 a6 h6 hc0 hc1 x0 x1 x2)]
  unfold kernelRun0_A
  dsimp only
  rw [View.canon_unit_zero zero2]
  unfold k0_pay2
  simp only [View.readAt_eq_ld, h3.read_unread, h4.read_unread, h5.read_unread, View.ld_unit_zero (S := S1x1024x2816) zero3,
    View.ld_unit_zero (S := S1024x1024) zero2, shapeCast_self]
  exact congrArg (fun z : EReal => z + α * x2 (ix2 a b)) (product_apply x0 x1 a b)

/-- and every later step adds its product to what is there. -/
theorem later_apply (c : Dev nD) (i : grid0.Coords) (a3 : Memref sig .tc .vmem S1x1024x2816 .bf16) (h3 : a3.IsWhole)
    (a4 : Memref sig .tc .vmem S1x1024x2816 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec Ideal S1x1024x2816 .bf16) (x2 xo : Vec Ideal S1024x1024 .f32) (a b : Fin 1024) :
    out0_B_3 c i a3 h3 a4 h4 a5 h5 a6 h6 hc0 hc1 x0 x1 x2 xo (ix2 a b)
      = xo (ix2 a b) + ∑ k : Fin 2816, x0 (ix3 0 a k) * x1 (ix3 0 b k) := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero zero2]
  unfold k0_pay3
  simp only [View.readAt_eq_ld, h3.read_unread, h4.read_unread, h6.read_unread, View.ld_unit_zero (S := S1x1024x2816) zero3,
    View.ld_unit_zero (S := S1024x1024) zero2, shapeCast_self]
  exact congrArg (fun z : EReal => xo (ix2 a b) + z) (product_apply x0 x1 a b)

/-- Where the blocks of grid point `t` lie. -/
theorem index0 : ∀ t : Fin cfg0.N, win0_0.index t 0 = t.val % 4 / 2 ∧ win0_0.index t 1 = t.val / 8 ∧ win0_0.index t 2 = t.val % 2 :=
  (by decide +kernel : ∀ t : Fin grid0.N, win0_0.index t 0 = t.val % 4 / 2 ∧ win0_0.index t 1 = t.val / 8 ∧ win0_0.index t 2 = t.val % 2)
theorem index1 : ∀ t : Fin cfg0.N, win0_1.index t 0 = t.val % 4 ∧ win0_1.index t 1 = t.val / 4 % 2 ∧ win0_1.index t 2 = 0 :=
  (by decide +kernel : ∀ t : Fin grid0.N, win0_1.index t 0 = t.val % 4 ∧ win0_1.index t 1 = t.val / 4 % 2 ∧ win0_1.index t 2 = 0)
theorem index2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)
theorem index3 : ∀ t : Fin cfg0.N, win0_3.index t 0 = t.val / 8 ∧ win0_3.index t 1 = t.val / 4 % 2 :=
  (by decide +kernel : ∀ t : Fin grid0.N, win0_3.index t 0 = t.val / 8 ∧ win0_3.index t 1 = t.val / 4 % 2)

theorem points (t : Fin cfg0.N) : t.val < 32 := by have h := t.isLt; have hN : cfg0.N = 32 := N_0; omega

/-- The operands as the kernel finds them. -/
def left (c : Dev nD) : Vec Ideal S2x4096x5632 .bf16 := V m c main_v4
def right (c : Dev nD) : Vec Ideal S4x2048x2816 .bf16 := V m c main_v9
def rest (c : Dev nD) : Vec Ideal S4096x2048 .f32 := m ((c : Thread nD τ).loc main_arg2)

theorem left_blk (c : Dev nD) (t : Fin cfg0.N) (r : Fin 1024) (k : Fin 2816) :
    (iblk m c 0 t : Vec Ideal S1x1024x2816 .bf16) (ix3 0 r k)
      = left m c (ix3 ⟨t.val % 4 / 2, by omega⟩ ⟨t.val / 8 * 1024 + r.val, by have := points t; omega⟩ ⟨t.val % 2 * 2816 + k.val, by omega⟩) := by
  obtain ⟨e0, e1, e2⟩ := index0 t
  unfold iblk
  rw [View.read_apply]
  show left m c _ = left m c _
  refine congrArg _ (funext fun a => Fin.ext ?_)
  match a with
  | ⟨0, _⟩ => show win0_0.index t 0 * 1 + 1 * 0 = t.val % 4 / 2; rw [e0]; omega
  | ⟨1, _⟩ => show win0_0.index t 1 * 1024 + 1 * r.val = t.val / 8 * 1024 + r.val; rw [e1]; omega
  | ⟨2, _⟩ => show win0_0.index t 2 * 2816 + 1 * k.val = t.val % 2 * 2816 + k.val; rw [e2]; omega

theorem right_blk (c : Dev nD) (t : Fin cfg0.N) (r : Fin 1024) (k : Fin 2816) :
    (iblk m c 1 t : Vec Ideal S1x1024x2816 .bf16) (ix3 0 r k)
      = right m c (ix3 ⟨t.val % 4, by omega⟩ ⟨t.val / 4 % 2 * 1024 + r.val, by omega⟩ k) := by
  obtain ⟨e0, e1, e2⟩ := index1 t
  unfold iblk
  rw [View.read_apply]
  show right m c _ = right m c _
  refine congrArg _ (funext fun a => Fin.ext ?_)
  match a with
  | ⟨0, _⟩ => show win0_1.index t 0 * 1 + 1 * 0 = t.val % 4; rw [e0]; omega
  | ⟨1, _⟩ => show win0_1.index t 1 * 1024 + 1 * r.val = t.val / 4 % 2 * 1024 + r.val; rw [e1]; omega
  | ⟨2, _⟩ => show win0_1.index t 2 * 2816 + 1 * k.val = k.val; rw [e2]; omega

theorem rest_blk (c : Dev nD) (t : Fin cfg0.N) (r k : Fin 1024) :
    (iblk m c 2 t : Vec Ideal S1024x1024 .f32) (ix2 r k)
      = rest m c (ix2 ⟨t.val / 8 * 1024 + r.val, by have := points t; omega⟩ ⟨t.val / 4 % 2 * 1024 + k.val, by omega⟩) := by
  obtain ⟨e0, e1⟩ := index2 t
  unfold iblk
  rw [View.read_apply]
  refine (congrFun (V_main_arg2 m c) _).trans ?_
  show rest m c _ = rest m c _
  refine congrArg _ (funext fun a => Fin.ext ?_)
  match a with
  | ⟨0, _⟩ => show win0_2.index t 0 * 1024 + 1 * r.val = t.val / 8 * 1024 + r.val; rw [e0]; omega
  | ⟨1, _⟩ => show win0_2.index t 1 * 1024 + 1 * k.val = t.val / 4 % 2 * 1024 + k.val; rw [e1]; omega

/-- Step `n`'s share of the entry `(a, b)`. -/
def part (c : Dev nD) (a : Fin 4096) (b : Fin 2048) (n : Nat) : EReal :=
  ∑ k : Fin 2816, left m c (ix3 ⟨n % 4 / 2, by omega⟩ a ⟨n % 2 * 2816 + k.val, by omega⟩) * right m c (ix3 ⟨n % 4, by omega⟩ b k)

/-- The entry `(a, b)` after step `n`. -/
def partial_ (c : Dev nD) (a : Fin 4096) (b : Fin 2048) : Nat → EReal
  | 0 => part m c a b 0 + α * rest m c (ix2 a b)
  | n + 1 => partial_ c a b n + part m c a b (n + 1)

theorem part_mod (c : Dev nD) (a : Fin 4096) (b : Fin 2048) (n : Nat) : part m c a b (n % 4) = part m c a b n := by
  unfold part
  refine Finset.sum_congr rfl fun k _ => ?_
  refine congrArg₂ (fun u v : EReal => u * v) (congrArg (left m c) (funext fun d => Fin.ext ?_)) (congrArg (right m c) (funext fun d => Fin.ext ?_))
  · match d with
    | ⟨0, _⟩ => show n % 4 % 4 / 2 = n % 4 / 2; omega
    | ⟨1, _⟩ => rfl
    | ⟨2, _⟩ => show n % 4 % 2 * 2816 + k.val = n % 2 * 2816 + k.val; omega
  · match d with
    | ⟨0, _⟩ => show n % 4 % 4 = n % 4; omega
    | ⟨1, _⟩ => rfl
    | ⟨2, _⟩ => rfl

/-- The two blocks a product reads at point `t`. -/
def lblk (c : Dev nD) (t : Fin cfg0.N) : Vec Ideal S1x1024x2816 .bf16 := iblk m c 0 t
def rblk (c : Dev nD) (t : Fin cfg0.N) : Vec Ideal S1x1024x2816 .bf16 := iblk m c 1 t

theorem blocks_part (c : Dev nD) (t : Fin cfg0.N) (a b : Fin 1024) (p : Fin 4096) (q : Fin 2048)
    (hp : p.val = t.val / 8 * 1024 + a.val) (hq : q.val = t.val / 4 % 2 * 1024 + b.val) :
    ∑ k : Fin 2816, lblk m c t (ix3 0 a k) * rblk m c t (ix3 0 b k)
      = part m c p q t.val := by
  unfold part
  refine Finset.sum_congr rfl fun k _ => ?_
  refine congrArg₂ (fun u v : EReal => u * v) ((left_blk m c t a k).trans (congrArg (left m c) (funext fun d => Fin.ext ?_)))
    ((right_blk m c t b k).trans (congrArg (right m c) (funext fun d => Fin.ext ?_)))
  · match d with
    | ⟨0, _⟩ => rfl
    | ⟨1, _⟩ => exact hp.symm
    | ⟨2, _⟩ => rfl
  · match d with
    | ⟨0, _⟩ => rfl
    | ⟨1, _⟩ => exact hq.symm
    | ⟨2, _⟩ => rfl

/-- What the output block holds after each point. -/
theorem outs_apply (c : Dev nD) : ∀ (n : Nat) (h : n < cfg0.N) (a b : Fin 1024) (p : Fin 4096) (q : Fin 2048)
    (_ : p.val = n / 8 * 1024 + a.val) (_ : q.val = n / 4 % 2 * 1024 + b.val),
    outsAt0 m c n h (ix2 a b) = partial_ m c p q (n % 4) := by
  intro n
  induction n with
  | zero =>
    intro h a b p q hp hq
    rw [outsAt0_A m c ⟨0, h⟩ rfl (by show ¬1 ≤ 0 % 4; decide)]
    refine (first_apply c _ _ _ _ _ _ _ _ _ _ _ _ _ _ a b).trans ?_
    refine congrArg₂ (fun u v : EReal => u + α * v) (blocks_part m c ⟨0, h⟩ a b p q hp hq) ((rest_blk m c ⟨0, h⟩ a b).trans ?_)
    refine congrArg (rest m c) (funext fun d => Fin.ext ?_)
    match d with
    | ⟨0, _⟩ => exact hp.symm
    | ⟨1, _⟩ => exact hq.symm
  | succ n ih =>
    intro h a b p q hp hq
    by_cases h0 : (n + 1) % 4 = 0
    · rw [outsAt0_A m c ⟨n + 1, h⟩ h0 (by show ¬1 ≤ (n + 1) % 4; omega)]
      refine Eq.trans ?_ (congrArg (partial_ m c p q) h0).symm
      refine (first_apply c _ _ _ _ _ _ _ _ _ _ _ _ _ _ a b).trans ?_
      refine congrArg₂ (fun u v : EReal => u + α * v) ((blocks_part m c ⟨n + 1, h⟩ a b p q hp hq).trans ?_) ((rest_blk m c ⟨n + 1, h⟩ a b).trans ?_)
      · rw [← part_mod]; show part m c p q ((n + 1) % 4) = _; rw [h0]
      · refine congrArg (rest m c) (funext fun d => Fin.ext ?_)
        match d with
        | ⟨0, _⟩ => exact hp.symm
        | ⟨1, _⟩ => exact hq.symm
    · rw [outsAt0_B m c ⟨n + 1, h⟩ h0 (by show 1 ≤ (n + 1) % 4; omega)]
      refine (later_apply c _ _ _ _ _ _ _ _ _ _ _ _ _ _ _ a b).trans ?_
      refine Eq.trans ?_ (congrArg (partial_ m c p q) (show (n + 1) % 4 = n % 4 + 1 by omega)).symm
      refine congrArg₂ (fun u v : EReal => u + v) (ih _ a b p q (by rw [hp]; omega) (by rw [hq]; omega))
        ((blocks_part m c ⟨n + 1, h⟩ a b p q hp hq).trans ?_)
      rw [← part_mod]; show part m c p q ((n + 1) % 4) = _
      rw [show (n + 1) % 4 = n % 4 + 1 by omega]

def result (c : Dev nD) : Buf (Elt Ideal) ((c : Thread nD τ).loc main_v10) := fun i : S4096x2048.Idx => partial_ m c (i 0) (i 1) 3

theorem flushed_eq (c : Dev nD) (t : Fin cfg0.N) (hf : (cfg0.win 3).flush t = true) :
    (dats m 0 c).flushed 3 t = (win0_3.blk t).view.read (Elt Ideal) (result m c) := by
  obtain ⟨e0, e1⟩ := index3 t
  have hp := points t
  have h3 : t.val % 4 = 3 := by have := (flush0_3 t).mp hf; omega
  refine (Value.flushed3 m c t).trans ?_
  funext (j : S1024x1024.Idx)
  have hj0 : (j 0).val < 1024 := (j 0).isLt
  have hj1 : (j 1).val < 1024 := (j 1).isLt
  have e : j = ix2 (j 0) (j 1) := eq_ix2 j
  show outsAt0 m c t.val t.isLt j = result m c ((win0_3.blk t).view.emb j)
  have key : (win0_3.blk t).view.emb j = ((ix2 ⟨t.val / 8 * 1024 + (j 0).val, by omega⟩ ⟨t.val / 4 % 2 * 1024 + (j 1).val, by omega⟩ : S4096x2048.Idx)) := by
    funext a; refine Fin.ext ?_
    match a with
    | ⟨0, _⟩ => show win0_3.index t 0 * 1024 + 1 * (j 0).val = t.val / 8 * 1024 + (j 0).val; rw [e0]; omega
    | ⟨1, _⟩ => show win0_3.index t 1 * 1024 + 1 * (j 1).val = t.val / 4 % 2 * 1024 + (j 1).val; rw [e1]; omega
  rw [key]
  refine (congrArg (outsAt0 m c t.val t.isLt) e).trans ((outs_apply m c t.val t.isLt (j 0) (j 1) ⟨t.val / 8 * 1024 + (j 0).val, by omega⟩ ⟨t.val / 4 % 2 * 1024 + (j 1).val, by omega⟩ rfl rfl).trans ?_)
  rw [h3]; rfl

theorem mem_blk (t : Fin cfg0.N) (i : S4096x2048.Idx) (h0 : (i 0).val / 1024 = t.val / 8) (h1 : (i 1).val / 1024 = t.val / 4 % 2) :
    i ∈ ((cfg0.win 3).blk t).view.set := by
  obtain ⟨e0, e1⟩ := index3 t
  show i ∈ ((View.whole main_v10).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [e0]; omega
  | ⟨1, _⟩ => show win0_3.index t 1 * 1024 ≤ (i 1).val ∧ (i 1).val < win0_3.index t 1 * 1024 + 1024; rw [e1]; omega

theorem final (c : Dev nD) : (dats m 0 c).arrAt 3 cfg0.N = result m c :=
  (dats m 0 c).arrAt_eq_of_cover 3 (result m c) (fun t hf => flushed_eq m c t hf) fun (i : S4096x2048.Idx) => by
    have h0 : (i 0).val < 4096 := (i 0).isLt
    have h1 : (i 1).val < 2048 := (i 1).isLt
    have hN : cfg0.N = 32 := N_0
    exact ⟨⟨(i 0).val / 1024 * 8 + (i 1).val / 1024 * 4 + 3, by omega⟩, (flush0_3 _).mpr (by dsimp only; omega),
      mem_blk _ i (by dsimp only; omega) (by dsimp only; omega)⟩

/-- The host's preparation of the operands, entry by entry. -/
theorem left_eq (c : Dev nD) (p : Fin 2) (r : Fin 4096) (k : Fin 5632) (f : Nat) (hf : f = p.val * 5632 + k.val) (hlt : f < 11264) :
    left m c (ix3 p r k) = if h : f % 1408 < 1376 then
      (m ((c : Thread nD τ).loc main_arg0) : Vec Ideal S4096x11008 .f32) (ix2 r ⟨f / 1408 * 1376 + f % 1408, by omega⟩) else (0 : EReal) := by
  have e : left m c = transpose S2x4096x5632 [1, 0, 2] (shapeCast S4096x2x5632 (truncf .bf16
      (pad S4096x8x1408 ![0, 0, 0] ![0, 0, 32] ![0, 0, 0]
        (shapeCast S4096x8x1376 (m ((c : Thread nD τ).loc main_arg0) : Vec Ideal S4096x11008 .f32) shapeCasts_S4096x11008_S4096x8x1376)
        (sitofp .f32 (constantI S_ 32 0#32)) pads_S4096x8x1376_S4096x8x1408_000_000_0320 h_S_ : FVec Ideal S4096x8x1408 .f32) bitsLt_bf16_f32)
      shapeCasts_S4096x8x1408_S4096x2x5632) transposes_S4096x2x5632_S2x4096x5632_1_0_2 := by
    unfold left V
    simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results <;> rfl
  rw [e]; exact padded_apply 4096 2 5632 rfl _ _ _ _ _ _ _ rfl _ p r k f hf hlt

theorem right_eq (c : Dev nD) (p : Fin 4) (r : Fin 2048) (k : Fin 2816) (f : Nat) (hf : f = p.val * 2816 + k.val) (hlt : f < 11264) :
    right m c (ix3 p r k) = if h : f % 1408 < 1376 then
      (m ((c : Thread nD τ).loc main_arg1) : Vec Ideal S2048x11008 .f32) (ix2 r ⟨f / 1408 * 1376 + f % 1408, by omega⟩) else (0 : EReal) := by
  have e : right m c = transpose S4x2048x2816 [1, 0, 2] (shapeCast S2048x4x2816 (truncf .bf16
      (pad S2048x8x1408 ![0, 0, 0] ![0, 0, 32] ![0, 0, 0]
        (shapeCast S2048x8x1376 (m ((c : Thread nD τ).loc main_arg1) : Vec Ideal S2048x11008 .f32) shapeCasts_S2048x11008_S2048x8x1376)
        (sitofp .f32 (constantI S_ 32 0#32)) pads_S2048x8x1376_S2048x8x1408_000_000_0320 h_S_ : FVec Ideal S2048x8x1408 .f32) bitsLt_bf16_f32)
      shapeCasts_S2048x8x1408_S2048x4x2816) transposes_S2048x4x2816_S4x2048x2816_1_0_2 := by
    unfold right V
    simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results <;> rfl
  rw [e]; exact padded_apply 2048 4 2816 rfl _ _ _ _ _ _ _ rfl _ p r k f hf hlt

/-- Term `n` of the whole contraction. -/
def term (x : Vec Ideal S4096x11008 .f32) (w : Vec Ideal S2048x11008 .f32) (a : Fin 4096) (b : Fin 2048) (n : Nat) : EReal :=
  if h : n < 11008 then x (ix2 a ⟨n, h⟩) * w (ix2 b ⟨n, h⟩) else 0

theorem part_eq (c : Dev nD) (a : Fin 4096) (b : Fin 2048) (n : Nat) (hn : n < 4) :
    part m c a b n = ∑ k ∈ Finset.range 2816, (fun f => if f % 1408 < 1376 then
      term (m ((c : Thread nD τ).loc main_arg0)) (m ((c : Thread nD τ).loc main_arg1)) a b (f / 1408 * 1376 + f % 1408) else 0) (n * 2816 + k) := by
  unfold part
  rw [Finset.sum_range]
  refine Finset.sum_congr rfl fun k _ => ?_
  have hk := k.isLt
  rw [left_eq m c _ a _ (n * 2816 + k.val) (by dsimp only; omega) (by omega), right_eq m c _ b _ (n * 2816 + k.val) (by dsimp only; omega) (by omega)]
  by_cases h : (n * 2816 + k.val) % 1408 < 1376
  · rw [dif_pos h, dif_pos h]
    dsimp only
    rw [if_pos h]
    unfold term
    rw [dif_pos (by omega)]
  · rw [dif_neg h, dif_neg h]
    dsimp only
    rw [if_neg h]; exact zero_mul _

/-- What the reference computes from the same three arrays. -/
abbrev spec (x : Vec Ideal S4096x11008 .f32) (w : Vec Ideal S2048x11008 .f32) (y : Vec Ideal S4096x2048 .f32) : Vec Ideal S4096x2048 .f32 :=
  Cert.ReferenceDx1Ideal.Read.val_main_v5 (F := Ideal) x w y

theorem spec_apply (x : Vec Ideal S4096x11008 .f32) (w : Vec Ideal S2048x11008 .f32) (y : Vec Ideal S4096x2048 .f32) (i : S4096x2048.Idx) :
    spec x w y i = α * y (ix2 (i 0) (i 1)) + ∑ n ∈ Finset.range 11008, term x w (i 0) (i 1) n := by
  unfold spec
  rw [Cert.ReferenceDx1Ideal.Read.val_main_v5_apply, Cert.ReferenceDx1Ideal.Read.val_main_v4_apply, Cert.ReferenceDx1Ideal.Read.val_main_v2_apply,
    Cert.ReferenceDx1Ideal.Read.val_main_v1_apply, Cert.ReferenceDx1Ideal.Read.val_main_cst_0_apply]
  rw [Finset.sum_range]
  refine congrArg₂ (fun u v : EReal => α * u + v) (congrArg y (eq_ix2 i)) (Finset.sum_congr rfl fun k _ => ?_)
  unfold term
  rw [dif_pos k.isLt]
  refine congrArg₂ (fun u v : EReal => u * v) (congrArg x (funext fun d => ?_)) (congrArg w (funext fun d => ?_))
  · match d with
    | ⟨0, _⟩ => rfl
    | ⟨1, _⟩ => rfl
  · match d with
    | ⟨0, _⟩ => rfl
    | ⟨1, _⟩ => rfl

theorem partial_eq (c : Dev nD) (a : Fin 4096) (b : Fin 2048) : partial_ m c a b 3 = α * rest m c (ix2 a b)
    + ∑ n ∈ Finset.range 11008, term (m ((c : Thread nD τ).loc main_arg0)) (m ((c : Thread nD τ).loc main_arg1)) a b n := by
  have h : partial_ m c a b 3 = part m c a b 0 + α * rest m c (ix2 a b) + part m c a b 1 + part m c a b 2 + part m c a b 3 := rfl
  rw [h, ← sum_padded, show 11264 = 4 * 2816 from rfl, sum_range_mul, part_eq m c _ _ 0 (by omega), part_eq m c _ _ 1 (by omega),
    part_eq m c _ _ 2 (by omega), part_eq m c _ _ 3 (by omega)]
  have hs : ∀ f : Nat → EReal, ∑ n ∈ Finset.range 4, f n = f 0 + f 1 + f 2 + f 3 := fun f => by
    rw [Finset.sum_range_succ, Finset.sum_range_succ, Finset.sum_range_succ, Finset.sum_range_one]
  have hc : ∀ p0 p1 p2 p3 r : EReal, p0 + r + p1 + p2 + p3 = r + (p0 + p1 + p2 + p3) := by
    intro p0 p1 p2 p3 r
    rw [add_comm p0 r]; simp only [add_assoc]
  rw [hs]
  exact hc _ _ _ _ _

theorem result_eq (c : Dev nD) : result m c
    = spec (m ((c : Thread nD τ).loc main_arg0)) (m ((c : Thread nD τ).loc main_arg1)) (m ((c : Thread nD τ).loc main_arg2)) := by
  funext (i : S4096x2048.Idx)
  exact (partial_eq m c (i 0) (i 1)).trans (spec_apply _ _ _ i).symm

theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

theorem algebraic : Cert.algebraic_KernelDx1Ideal_ReferenceDx1Ideal := by
  intro m ρ m' ρ' _ hagree
  refine ⟨fun c => result m c, run m ρ, ?_⟩
  refine (θ_run Cert.ReferenceDx1Ideal.defs _ _).mono (fun _ h c => ?_) (Cert.ReferenceDx1Ideal.Value.run (F := Ideal) m' ρ')
  refine ⟨(h c).1.trans ?_, (h c).2⟩
  refine (Cert.ReferenceDx1Ideal.Read.val_main_v5_eq _ _ _).trans ?_
  rw [(hagree c).1, (hagree c).2.1, (hagree c).2.2]
  exact (result_eq m c).symm

end Cert.Dx1

end
-- ==== Proof.LnRow.lean ====
module

public import proofs.«01_k».proof.Proof.Products

@[expose] public section

noncomputable section

/-! The statistics of a row of 2048. -/

namespace Cert.LnRow

open Idealize.ShloMosaic

/-- The row's length and the variance's offset. -/
abbrev size : EReal := FloatOps.ofBits (F := Ideal) .f32 0x45000000#32
abbrev eps : EReal := FloatOps.ofBits (F := Ideal) .f32 0x3727C5AC#32

/-- The entry of a vector at a position, 0 outside. -/
def at1 {C : Nat} (x : (⟨1, ![C]⟩ : Shape).Idx → EReal) (b : Nat) : EReal := if h : b < C then x (ValueIdx.ix1 ⟨b, h⟩) else 0

theorem at1_eq {C : Nat} (x : (⟨1, ![C]⟩ : Shape).Idx → EReal) (i : (⟨1, ![C]⟩ : Shape).Idx) (b : Nat) (hb : (i 0).val = b) :
    x i = at1 x b := by
  subst hb
  unfold at1
  have h : (i 0).val < C := (i 0).isLt
  rw [dif_pos h]
  refine congrArg x (funext fun a => ?_)
  match a with
  | ⟨0, _⟩ => rfl

/-- A vector laid out as one row. -/
theorem asRow {C : Nat} (x : (⟨1, ![C]⟩ : Shape).Idx → EReal) (h) (i : (⟨2, ![1, C]⟩ : Shape).Idx) :
    shapeCast ⟨2, ![1, C]⟩ x h i = at1 x (i 1).val := by
  refine (shapeCast_apply _ _ _ (ValueIdx.ix1 (i 1)) ?_).trans (at1_eq x _ _ rfl)
  have h0 : (i 0).val = 0 := Nat.lt_one_iff.mp (i 0).isLt
  rw [Shape.rowMajor_val_one, Shape.rowMajor_val_two, h0]
  show (i 1).val = 0 * C + (i 1).val
  omega

/-- The sum of a vector's entries. -/
theorem sum_vector {C : Nat} (x : (⟨1, ![C]⟩ : Shape).Idx → EReal) (f : Nat → EReal) (h : ∀ i, x i = f (i 0).val) :
    ∑ i, x i = ∑ k ∈ Finset.range C, f k := by
  rw [Finset.sum_range]
  exact Fintype.sum_equiv ⟨fun i => i 0, fun k => ValueIdx.ix1 k, fun i => funext fun a => match a with | ⟨0, _⟩ => rfl, fun _ => rfl⟩
    _ _ fun i => h i

/-- The word of zeros. -/
theorem zeroBits : FloatOps.ofBits (F := Ideal) .f32 0x00000000#32 = (0 : EReal) :=
  Ideal.ofBits_zero_f32

def mean (h : Fin 2048 → EReal) : EReal := FloatOps.divf (F := Ideal) (φ := .f32) (∑ k, h k) size
def var (h : Fin 2048 → EReal) : EReal := mean fun k => (h k - mean h) * (h k - mean h)
def rstd (h : Fin 2048 → EReal) : EReal := FloatOps.rsqrt (F := Ideal) (φ := .f32) (var h + eps)
def normed (h : Fin 2048 → EReal) (j : Fin 2048) : EReal := (h j - mean h) * rstd h

end Cert.LnRow

end
-- ==== Proof.LnGrad.lean ====
module

public import proofs.«01_k».proof.Proof.LnRow
public import proofs.«01_k».proof.Proof.AttnFine

@[expose] public section

noncomputable section

/-! The layer norm's gradient along a row of 2048: the kernel's form and the derivative's. -/

namespace Cert.LnRow

open Idealize.ShloMosaic

abbrev two : EReal := Ideal.ofBits .f32 0x40000000#32
abbrev mhalf : EReal := Ideal.ofBits .f32 0xBF000000#32

/-- The kernel's form, `a` the incoming gradient times the scale. -/
def grad (h a : Fin 2048 → EReal) (j : Fin 2048) : EReal :=
  rstd h * (a j - mean a - normed h j * mean fun k => a k * normed h k)

/-- The derivative's: the variance's share, and the whole. -/
def share (h a : Fin 2048 → EReal) : EReal :=
  Ideal.div ((∑ k, (h k - mean h) * a k) * (mhalf * Ideal.div (rstd h) (var h + eps))) size
def vjp (h a : Fin 2048 → EReal) (j : Fin 2048) : EReal :=
  a j * rstd h + share h a * (two * (h j - mean h))
    + Ideal.div ((∑ k, -(a k * rstd h)) + ∑ k, -(share h a * (two * (h k - mean h)))) size

theorem size_coe : size = ((2048 : ℝ) : EReal) := by
  show Ideal.ofBits .f32 0x45000000#32 = _
  simp [Ideal.ofBits, Ideal.ieee, ← EReal.coe_mul]; norm_num
theorem two_coe : two = ((2 : ℝ) : EReal) := by simp [Ideal.ofBits, Ideal.ieee, ← EReal.coe_mul]; norm_num
theorem mhalf_coe : mhalf = ((-1 / 2 : ℝ) : EReal) := by simp [Ideal.ofBits, Ideal.ieee, ← EReal.coe_mul]; norm_num
theorem eps_coe : ∃ e : ℝ, 0 < e ∧ eps = (e : EReal) := by
  refine ⟨(8388608 + 2606508) * (2 ^ 40)⁻¹, by positivity, ?_⟩
  show Ideal.ofBits .f32 0x3727C5AC#32 = _
  simp [Ideal.ofBits, Ideal.ieee, ← EReal.coe_mul]; norm_num

theorem mean_coe (f : Fin 2048 → ℝ) : (mean fun k => (f k : EReal)) = (((∑ k, f k) / 2048 : ℝ) : EReal) := by
  show Ideal.div (∑ k, (f k : EReal)) size = _
  rw [size_coe, Ideal.div_coe (by norm_num), Cert.Row.coe_sum, ← EReal.coe_mul]
  congr 1; ring

/-- A real sum has real terms. -/
theorem real_of_add {x y : EReal} (h : ∃ r : ℝ, x + y = r) : (∃ r : ℝ, x = r) ∧ ∃ r : ℝ, y = r := by
  obtain ⟨r, hr⟩ := h
  induction x <;> induction y <;> simp_all

theorem real_of_sum (f : Fin 2048 → EReal) (s : Finset (Fin 2048)) (h : ∃ r : ℝ, ∑ k ∈ s, f k = r) : ∀ k ∈ s, ∃ r : ℝ, f k = r := by
  induction s using Finset.induction_on with
  | empty => exact fun k hk => absurd hk (Finset.notMem_empty k)
  | insert a s ha ih =>
    rw [Finset.sum_insert ha] at h
    obtain ⟨h1, h2⟩ := real_of_add h
    intro k hk
    rcases Finset.mem_insert.mp hk with rfl | hk
    · exact h1
    · exact ih h2 k hk

theorem mean_infinite (h : Fin 2048 → EReal) (hn : ¬∀ k, ∃ r : ℝ, h k = r) : mean h = ⊤ ∨ mean h = ⊥ := by
  have hs : ∑ k, h k = ⊤ ∨ ∑ k, h k = ⊥ := by
    generalize e : ∑ k, h k = x
    induction x with
    | bot => exact .inr rfl
    | top => exact .inl rfl
    | coe r => exact absurd (fun k => real_of_sum h Finset.univ ⟨r, e⟩ k (Finset.mem_univ k)) hn
  have hp : (0 : ℝ) < 1 / 2048 := by norm_num
  show Ideal.div (∑ k, h k) size = ⊤ ∨ Ideal.div (∑ k, h k) size = ⊥
  rw [size_coe, Ideal.div_coe (by norm_num)]
  rcases hs with e | e <;> rw [e]
  · exact .inl (EReal.top_mul_coe_of_pos hp)
  · exact .inr (EReal.bot_mul_coe_of_pos hp)

theorem var_infinite (h : Fin 2048 → EReal) (hn : ¬∀ k, ∃ r : ℝ, h k = r) : var h = ⊤ := by
  have hp : (0 : ℝ) < 1 / 2048 := by norm_num
  have hd : ∀ k, (h k - mean h) * (h k - mean h) = ⊤ := by
    intro k
    rcases mean_infinite h hn with e | e <;> rw [e] <;> induction h k <;> simp
  have hs : ∑ k : Fin 2048, (h k - mean h) * (h k - mean h) = ⊤ := by
    rw [Finset.sum_congr rfl fun k _ => hd k]
    simp only [Finset.sum_const, Finset.card_univ, Fintype.card_fin]
    simp
    exact EReal.mul_top_of_pos (by norm_num)
  show Ideal.div (∑ k, (h k - mean h) * (h k - mean h)) size = ⊤
  rw [hs, size_coe, Ideal.div_coe (by norm_num)]
  exact EReal.top_mul_coe_of_pos hp

theorem rstd_infinite (h : Fin 2048 → EReal) (hn : ¬∀ k, ∃ r : ℝ, h k = r) : rstd h = 0 ∧ var h + eps = ⊤ := by
  obtain ⟨e, -, he⟩ := eps_coe
  have hv : var h + eps = ⊤ := by rw [var_infinite h hn, he]; exact EReal.top_add_coe e
  refine ⟨?_, hv⟩
  show Ideal.rsqrt (var h + eps) = 0
  rw [hv]; rfl

theorem div_zero_size : Ideal.div 0 size = 0 := by
  rw [size_coe, Ideal.div_coe (by norm_num), zero_mul]

theorem grad_eq_infinite (h a : Fin 2048 → EReal) (hn : ¬∀ k, ∃ r : ℝ, h k = r) (j : Fin 2048) : grad h a j = vjp h a j := by
  obtain ⟨hr, hv⟩ := rstd_infinite h hn
  have hw : share h a = 0 := by
    unfold share
    rw [hr, hv]
    have : Ideal.div 0 ⊤ = 0 := by unfold Ideal.div; simp
    rw [this, mul_zero, mul_zero, div_zero_size]
  unfold grad vjp
  rw [hw, hr]
  simp
  exact div_zero_size.symm

theorem grad_eq_real (b c : Fin 2048 → ℝ) (j : Fin 2048) :
    grad (fun k => (b k : EReal)) (fun k => (c k : EReal)) j = vjp (fun k => (b k : EReal)) (fun k => (c k : EReal)) j := by
  obtain ⟨e, hpos, he⟩ := eps_coe
  set M : ℝ := (∑ k, b k) / 2048 with hM
  have hm : (mean fun k => (b k : EReal)) = (M : EReal) := mean_coe b
  set V : ℝ := (∑ k, (b k - M) * (b k - M)) / 2048 with hV
  have hv : (var fun k => (b k : EReal)) = (V : EReal) := by
    unfold var
    rw [hm]
    simp only [← EReal.coe_sub, ← EReal.coe_mul]
    exact mean_coe fun k => (b k - M) * (b k - M)
  have hV0 : 0 ≤ V := div_nonneg (Finset.sum_nonneg fun k _ => mul_self_nonneg _) (by norm_num)
  have hD : 0 < V + e := by linarith
  set R : ℝ := (Real.sqrt (V + e))⁻¹ with hR
  have hr : (rstd fun k => (b k : EReal)) = (R : EReal) := by
    show Ideal.rsqrt ((var fun k => (b k : EReal)) + eps) = _
    rw [hv, he, ← EReal.coe_add, Ideal.rsqrt_coe, if_neg (not_lt.mpr hD.le), if_neg hD.ne']
  have hRR : R * R * (V + e) = 1 := by
    rw [hR, ← mul_inv, Real.mul_self_sqrt hD.le, inv_mul_cancel₀ hD.ne']
  have hq : R * (1 / (V + e)) = R * R * R := by
    rw [eq_comm, ← mul_right_inj' hD.ne']
    have h1 : (V + e) * (R * (1 / (V + e))) = R := by field_simp
    rw [h1]
    calc (V + e) * (R * R * R) = R * R * (V + e) * R := by ring
      _ = R := by rw [hRR, one_mul]
  have hcenter : ∑ k, (b k - M) = 0 := by
    rw [Finset.sum_sub_distrib, hM]
    simp
    ring
  set W : ℝ := (∑ k, (b k - M) * c k) * (-1 / 2 * (R * R * R)) / 2048 with hW
  have hw : share (fun k => (b k : EReal)) (fun k => (c k : EReal)) = (W : EReal) := by
    unfold share
    rw [hm, hr, hv, he, mhalf_coe, size_coe, ← EReal.coe_add, Ideal.div_coe hD.ne', Ideal.div_coe (by norm_num)]
    simp only [← EReal.coe_sub, ← EReal.coe_mul, Cert.Row.coe_sum]
    rw [hq]
    exact congrArg _ (by rw [hW]; ring)
  have hl : grad (fun k => (b k : EReal)) (fun k => (c k : EReal)) j
      = ((R * (c j - (∑ k, c k) / 2048 - (b j - M) * R * ((∑ k, c k * ((b k - M) * R)) / 2048)) : ℝ) : EReal) := by
    unfold grad normed
    rw [hm, hr, mean_coe c]
    simp only [← EReal.coe_sub, ← EReal.coe_mul]
    rw [mean_coe fun k => c k * ((b k - M) * R)]
    simp only [← EReal.coe_sub, ← EReal.coe_mul]
  have hg : vjp (fun k => (b k : EReal)) (fun k => (c k : EReal)) j
      = ((c j * R + W * (2 * (b j - M)) + ((∑ k, -(c k * R)) + ∑ k, -(W * (2 * (b k - M)))) * (1 / 2048) : ℝ) : EReal) := by
    unfold vjp
    rw [hm, hr, hw, two_coe, size_coe, Ideal.div_coe (by norm_num)]
    simp only [← EReal.coe_sub, ← EReal.coe_mul, ← EReal.coe_neg, Cert.Row.coe_sum, ← EReal.coe_add]
  rw [hl, hg]
  congr 1
  have h1 : ∑ k, c k * ((b k - M) * R) = (∑ k, (b k - M) * c k) * R := by
    rw [Finset.sum_mul]; exact Finset.sum_congr rfl fun k _ => by ring
  have h2 : ∑ k, -(c k * R) = -((∑ k, c k) * R) := by rw [Finset.sum_neg_distrib, Finset.sum_mul]
  have h3 : ∑ k, -(W * (2 * (b k - M))) = 0 := by
    rw [Finset.sum_neg_distrib, ← Finset.mul_sum, ← Finset.mul_sum, hcenter]; ring
  rw [h1, h2, h3, hW]
  ring

/-- The two forms agree where the incoming gradient times the scale is real. -/
theorem grad_eq (h a : Fin 2048 → EReal) (ha : ∀ k, ∃ r : ℝ, a k = r) (j : Fin 2048) : grad h a j = vjp h a j := by
  by_cases hn : ∀ k, ∃ r : ℝ, h k = r
  · choose b hb using hn
    choose c hc using ha
    rw [show h = fun k => (b k : EReal) from funext hb, show a = fun k => (c k : EReal) from funext hc]
    exact grad_eq_real b c j
  · exact grad_eq_infinite h a hn j

end Cert.LnRow

end
-- ==== Proof.LnBwd.lean ====
module

public import proofs.«01_k».proof.Defs
public import proofs.«01_k».proof.Proof.Gen.KernelLnBwdIdeal.Value
public import proofs.«01_k».proof.Proof.Gen.ReferenceLnBwdIdeal.Run
public import proofs.«01_k».proof.Proof.Gen.ReferenceLnBwdIdeal.Read
public import proofs.«01_k».proof.Proof.LnGrad
public import Idealize.ShloMosaic.Lib.Pipeline.ValueKit.Tiles
public import Idealize.ShloMosaic.Lib.Pointwise

@[expose] public section

set_option maxRecDepth 16384

noncomputable section

/-! The layer norm's gradient. -/

namespace Cert.LnBwd

open Idealize.ShloMosaic Idealize.ShloMosaic.TcCoe Idealize.ShloMosaic.Tactic Idealize.SL.Sem
open Cert.Sums Cert.Products Cert.LnRow
open Idealize.ShloMosaic.Pipeline (Dat)
open Cert.KernelLnBwdIdeal Cert.KernelLnBwdIdeal.Gen

variable (m : (ℓ : Loc nD τ sig) → Buf (Elt Ideal) ℓ) (ρ : Dev nD → PrngReg)

/-! ## The body -/

section Body
variable (x0 x1 : Vec Ideal S512x2048 .f32) (x2 : Vec Ideal S1x2048 .f32) (r : Fin 512) (j : Fin 2048)

/-- A row of the incoming gradient times the scale. -/
abbrev times (k : Fin 2048) : EReal := x0 (ix2 r k) * x2 (ix2 0 k)

theorem pay5_apply : k0_pay5 x1 (ix2 r j) = x1 (ix2 r j) - mean fun k => x1 (ix2 r k) := by
  unfold mean
  pointwise [k0_pay5]

theorem pay6_apply : k0_pay6 x1 (ix2 r 0) = rstd fun k => x1 (ix2 r k) := by
  unfold rstd var
  pointwise [k0_pay6]
  simp only [pay5_apply]
  rfl

theorem pay7_apply : k0_pay7 x1 (ix2 r j) = normed (fun k => x1 (ix2 r k)) j := by
  unfold normed
  pointwise [k0_pay7]
  simp only [pay5_apply, pay6_apply]

theorem pay8_apply : k0_pay8 x1 x0 x2 (ix2 r j) = grad (fun k => x1 (ix2 r k)) (times x0 x2 r) j := by
  unfold grad
  pointwise [k0_pay8]
  simp only [pay7_apply, pay6_apply]
  rfl

theorem pay1_apply : k0_pay1 (k0_pay7 x1) x0 (ix2 0 j) = ∑ r : Fin 512, x0 (ix2 r j) * normed (fun k => x1 (ix2 r k)) j := by
  pointwise [k0_pay1]
  simp only [pay7_apply]

theorem pay2_apply : k0_pay2 x0 (ix2 0 j) = ∑ r : Fin 512, x0 (ix2 r j) := by
  pointwise [k0_pay2]

end Body

/-! ## The cases -/

section Cases
variable (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .bf16) (h5 : a5.IsWhole)
    (a6 : Memref sig .tc .vmem S1x2048 .f32) (h6 : a6.IsWhole) (a7 : Memref sig .tc .vmem S1x2048 .f32) (h7 : a7.IsWhole)
    (x0 x1 : Vec Ideal S512x2048 .f32) (x2 : Vec Ideal S1x2048 .f32)

theorem first3 (hc0 : cond0_0 i) (hc1 : ¬cond0_1 i) : out0_A_3 c i a1 h1 a2 h2 a3 h3 a4 h4 a5 h5 a6 h6 a7 h7 hc0 hc1 x0 x1 x2 = k0_pay8 x1 x0 x2 := by
  unfold out0_A_3
  rw [View.read_writes_eq_canon _ _ _ (cover0_A_3 c i a1 h1 a2 h2 a3 h3 a4 h4 a5 h5 a6 h6 a7 h7 hc0 hc1 x0 x1 x2)]
  unfold kernelRun0_A
  dsimp only
  rw [View.canon_unit_zero zero2]
  simp only [View.readAt_eq_ld, h1.read_unread, h2.read_unread, h3.read_unread, View.ld_unit_zero (S := S512x2048) zero2,
    View.ld_unit_zero (S := S1x2048) zero2]

theorem first4 (hc0 : cond0_0 i) (hc1 : ¬cond0_1 i) : out0_A_4 c i a1 h1 a2 h2 a3 h3 a4 h4 a5 h5 a6 h6 a7 h7 hc0 hc1 x0 x1 x2 = k0_pay9 x1 x0 x2 := by
  unfold out0_A_4
  rw [View.read_writes_eq_canon _ _ _ (cover0_A_4 c i a1 h1 a2 h2 a3 h3 a4 h4 a5 h5 a6 h6 a7 h7 hc0 hc1 x0 x1 x2)]
  unfold kernelRun0_A
  dsimp only
  rw [View.canon_unit_zero zero2]
  simp only [kernelRun0_A.sl.r_2, View.readAt_eq_ld, h1.read_unread, h2.read_unread, h3.read_unread, View.ld_unit_zero (S := S512x2048) zero2,
    View.ld_unit_zero (S := S1x2048) zero2]

theorem first5 (hc0 : cond0_0 i) (hc1 : ¬cond0_1 i) : out0_A_5 c i a1 h1 a2 h2 a3 h3 a4 h4 a5 h5 a6 h6 a7 h7 hc0 hc1 x0 x1 x2 = k0_pay1 (k0_pay7 x1) x0 := by
  unfold out0_A_5
  rw [View.read_writes_eq_canon _ _ _ (cover0_A_5 c i a1 h1 a2 h2 a3 h3 a4 h4 a5 h5 a6 h6 a7 h7 hc0 hc1 x0 x1 x2)]
  unfold kernelRun0_A
  dsimp only
  rw [View.canon_unit_zero zero2]
  simp only [kernelRun0_A.sl.r, kernelRun0_A.sl.r_1, View.readAt_eq_ld, h1.read_unread, h2.read_unread, h3.read_unread, View.ld_unit_zero (S := S512x2048) zero2,
    View.ld_unit_zero (S := S1x2048) zero2]

theorem first6 (hc0 : cond0_0 i) (hc1 : ¬cond0_1 i) : out0_A_6 c i a1 h1 a2 h2 a3 h3 a4 h4 a5 h5 a6 h6 a7 h7 hc0 hc1 x0 x1 x2 = k0_pay2 x0 := by
  unfold out0_A_6
  rw [View.read_writes_eq_canon _ _ _ (cover0_A_6 c i a1 h1 a2 h2 a3 h3 a4 h4 a5 h5 a6 h6 a7 h7 hc0 hc1 x0 x1 x2)]
  unfold kernelRun0_A
  dsimp only
  rw [View.canon_unit_zero zero2]
  simp only [kernelRun0_A.sl.r_1, View.readAt_eq_ld, h1.read_unread, h2.read_unread, h3.read_unread, View.ld_unit_zero (S := S512x2048) zero2,
    View.ld_unit_zero (S := S1x2048) zero2]

theorem later3 (hc0 : ¬cond0_0 i) (hc1 : cond0_1 i) (xo yo : Vec Ideal S1x2048 .f32) : out0_B_3 c i a1 h1 a2 h2 a3 h3 a4 h4 a5 h5 a6 h6 a7 h7 hc0 hc1 x0 x1 x2 xo yo = k0_pay8 x1 x0 x2 := by
  unfold out0_B_3
  rw [View.read_writes_eq_canon _ _ _ (cover0_B_3 c i a1 h1 a2 h2 a3 h3 a4 h4 a5 h5 a6 h6 a7 h7 hc0 hc1 x0 x1 x2 xo yo)]
  unfold kernelRun0_B
  dsimp only
  rw [View.canon_unit_zero zero2]
  simp only [View.readAt_eq_ld, h1.read_unread, h2.read_unread, h3.read_unread, View.ld_unit_zero (S := S512x2048) zero2,
    View.ld_unit_zero (S := S1x2048) zero2]

theorem later4 (hc0 : ¬cond0_0 i) (hc1 : cond0_1 i) (xo yo : Vec Ideal S1x2048 .f32) : out0_B_4 c i a1 h1 a2 h2 a3 h3 a4 h4 a5 h5 a6 h6 a7 h7 hc0 hc1 x0 x1 x2 xo yo = k0_pay9 x1 x0 x2 := by
  unfold out0_B_4
  rw [View.read_writes_eq_canon _ _ _ (cover0_B_4 c i a1 h1 a2 h2 a3 h3 a4 h4 a5 h5 a6 h6 a7 h7 hc0 hc1 x0 x1 x2 xo yo)]
  unfold kernelRun0_B
  dsimp only
  rw [View.canon_unit_zero zero2]
  simp only [kernelRun0_B.sl.r_2, View.readAt_eq_ld, h1.read_unread, h2.read_unread, h3.read_unread, View.ld_unit_zero (S := S512x2048) zero2,
    View.ld_unit_zero (S := S1x2048) zero2]

theorem later5 (hc0 : ¬cond0_0 i) (hc1 : cond0_1 i) (xo yo : Vec Ideal S1x2048 .f32) : out0_B_5 c i a1 h1 a2 h2 a3 h3 a4 h4 a5 h5 a6 h6 a7 h7 hc0 hc1 x0 x1 x2 xo yo = addf xo (k0_pay1 (k0_pay7 x1) x0) := by
  unfold out0_B_5
  rw [View.read_writes_eq_canon _ _ _ (cover0_B_5 c i a1 h1 a2 h2 a3 h3 a4 h4 a5 h5 a6 h6 a7 h7 hc0 hc1 x0 x1 x2 xo yo)]
  unfold kernelRun0_B
  dsimp only
  rw [View.canon_unit_zero zero2]
  unfold k0_pay3
  simp only [kernelRun0_B.sl.r, kernelRun0_B.sl.r_1, View.readAt_eq_ld, h1.read_unread, h2.read_unread, h3.read_unread, View.ld_unit_zero (S := S512x2048) zero2,
    View.ld_unit_zero (S := S1x2048) zero2, h6.read_unread, shapeCast_self]

theorem later6 (hc0 : ¬cond0_0 i) (hc1 : cond0_1 i) (xo yo : Vec Ideal S1x2048 .f32) : out0_B_6 c i a1 h1 a2 h2 a3 h3 a4 h4 a5 h5 a6 h6 a7 h7 hc0 hc1 x0 x1 x2 xo yo = addf yo (k0_pay2 x0) := by
  unfold out0_B_6
  rw [View.read_writes_eq_canon _ _ _ (cover0_B_6 c i a1 h1 a2 h2 a3 h3 a4 h4 a5 h5 a6 h6 a7 h7 hc0 hc1 x0 x1 x2 xo yo)]
  unfold kernelRun0_B
  dsimp only
  rw [View.canon_unit_zero zero2]
  unfold k0_pay4
  simp only [kernelRun0_B.sl.r_1, View.readAt_eq_ld, h1.read_unread, h2.read_unread, h3.read_unread, View.ld_unit_zero (S := S512x2048) zero2,
    View.ld_unit_zero (S := S1x2048) zero2, h7.read_unread, shapeCast_self]

end Cases

/-! ## The operands -/

/-- The arguments. -/
def D (c : Dev nD) : Vec Ideal S4096x2048 .f32 := m ((c : Thread nD τ).loc main_arg0)
def H (c : Dev nD) : Vec Ideal S4096x2048 .f32 := m ((c : Thread nD τ).loc main_arg1)
def G (c : Dev nD) : Vec Ideal S2048 .f32 := m ((c : Thread nD τ).loc main_arg2)

/-- The host's preparation of the scales. -/
def scales (c : Dev nD) : Vec Ideal S1x2048 .f32 := V m c main_v0

theorem scales_eq (c : Dev nD) (i : S1x2048.Idx) (k : Nat) (hk : (i 1).val = k) : scales m c i = at1 (G m c) k := by
  have e : scales m c = shapeCast S1x2048 (G m c) shapeCasts_S2048_S1x2048 := by
    unfold scales V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hk]; exact asRow (G m c) _ i

theorem index : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) ∧ (win0_6.index t 0 = 0 ∧ win0_6.index t 1 = 0) :=
  (by decide +kernel : ∀ t : Fin grid0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) ∧ (win0_6.index t 0 = 0 ∧ win0_6.index t 1 = 0))

theorem d_apply (c : Dev nD) (t : Fin cfg0.N) (i : S512x2048.Idx) :
    (iblk m c 0 t : Vec Ideal S512x2048 .f32) i = at2 (D m c) (t.val * 512 + (i 0).val) (i 1).val := by
  obtain ⟨⟨a0, a1⟩, -⟩ := index t
  have e : (iblk m c 0 t : Vec Ideal S512x2048 .f32) = (win0_0.blk t).view.read (Elt Ideal) (D m c : Buf (Elt Ideal) ((c : Thread nD τ).loc main_arg0)) :=
    congrArg ((win0_0.blk t).view.read (Elt Ideal)) (V_main_arg0 m c)
  rw [e, View.read_apply]
  refine (cast_eq _ _).trans (at2_eq _ _ _ _ ?_ ?_)
  · show win0_0.index t 0 * 512 + 1 * (i 0).val = _; rw [a0]; omega
  · show win0_0.index t 1 * 2048 + 1 * (i 1).val = _; rw [a1]; omega

theorem h_apply (c : Dev nD) (t : Fin cfg0.N) (i : S512x2048.Idx) :
    (iblk m c 1 t : Vec Ideal S512x2048 .f32) i = at2 (H m c) (t.val * 512 + (i 0).val) (i 1).val := by
  obtain ⟨-, ⟨a0, a1⟩, -⟩ := index t
  have e : (iblk m c 1 t : Vec Ideal S512x2048 .f32) = (win0_1.blk t).view.read (Elt Ideal) (H m c : Buf (Elt Ideal) ((c : Thread nD τ).loc main_arg1)) :=
    congrArg ((win0_1.blk t).view.read (Elt Ideal)) (V_main_arg1 m c)
  rw [e, View.read_apply]
  refine (cast_eq _ _).trans (at2_eq _ _ _ _ ?_ ?_)
  · show win0_1.index t 0 * 512 + 1 * (i 0).val = _; rw [a0]; omega
  · show win0_1.index t 1 * 2048 + 1 * (i 1).val = _; rw [a1]; omega

theorem g_apply (c : Dev nD) (t : Fin cfg0.N) (i : S1x2048.Idx) : (iblk m c 2 t : Vec Ideal S1x2048 .f32) i = at1 (G m c) (i 1).val := by
  obtain ⟨-, -, ⟨a0, a1⟩, -⟩ := index t
  have e : (iblk m c 2 t : Vec Ideal S1x2048 .f32) = (win0_2.blk t).view.read (Elt Ideal) (scales m c : Buf (Elt Ideal) ((c : Thread nD τ).loc main_v0)) := rfl
  rw [e, View.read_apply]
  refine (cast_eq _ _).trans (scales_eq m c _ _ ?_)
  show win0_2.index t 1 * 2048 + 1 * (i 1).val = _; rw [a1]; omega

/-! ## The results -/

/-- A row of the layer norm's input, and of the incoming gradient times the scale. -/
def input (c : Dev nD) (r : Nat) (k : Fin 2048) : EReal := at2 (H m c) r k.val
def scaled (c : Dev nD) (r : Nat) (k : Fin 2048) : EReal := at2 (D m c) r k.val * at1 (G m c) k.val

/-- A row's part of the scale's gradient. -/
def part (c : Dev nD) (k : Fin 2048) (r : Nat) : EReal := at2 (D m c) r k.val * normed (input m c r) k

def dInput (c : Dev nD) : Vec Ideal S4096x2048 .f32 := fun i => grad (input m c (i 0).val) (scaled m c (i 0).val) (i 1)
def dScale (c : Dev nD) : Vec Ideal S1x2048 .f32 := fun i => (∑ r ∈ Finset.range 4096, part m c (i 1) r : EReal)
def dBias (c : Dev nD) : Vec Ideal S1x2048 .f32 := fun i => (∑ r ∈ Finset.range 4096, at2 (D m c) r (i 1).val : EReal)

theorem input_eq (c : Dev nD) (t : Fin cfg0.N) (r : Fin 512) :
    (fun k => (iblk m c 1 t : Vec Ideal S512x2048 .f32) (ix2 r k)) = input m c (t.val * 512 + r.val) :=
  funext fun _ => h_apply m c t _

theorem scaled_eq (c : Dev nD) (t : Fin cfg0.N) (r : Fin 512) :
    times (iblk m c 0 t) (iblk m c 2 t) r = scaled m c (t.val * 512 + r.val) :=
  funext fun _ => congrArg₂ (fun u v : EReal => u * v) (d_apply m c t _) (g_apply m c t _)

theorem dInput_block (c : Dev nD) (t : Fin cfg0.N) (j : S512x2048.Idx) (e : S4096x2048.Idx) (h0 : (e 0).val = t.val * 512 + (j 0).val)
    (h1 : (e 1).val = (j 1).val) : k0_pay8 (iblk m c 1 t) (iblk m c 0 t) (iblk m c 2 t) j = dInput m c e := by
  have key : ∀ (r : Nat) (q : Fin 2048), (e 0).val = r → e 1 = q → grad (input m c r) (scaled m c r) q = dInput m c e := by rintro _ _ rfl rfl; rfl
  refine (congrArg _ (eq_ix2 j)).trans ((pay8_apply _ _ _ (j 0) (j 1)).trans (Eq.trans ?_ (key _ (j 1) h0 (Fin.ext h1))))
  exact congrArg₂ (fun h a => grad h a (j 1)) (input_eq m c t (j 0)) (scaled_eq m c t (j 0))

theorem oneRow (j : S1x2048.Idx) : j = ix2 0 (j 1) := funext fun a => match a with
  | ⟨0, _⟩ => Fin.ext (Nat.lt_one_iff.mp (j 0).isLt)
  | ⟨1, _⟩ => rfl

theorem dScale_block (c : Dev nD) (t : Fin cfg0.N) (j : S1x2048.Idx) :
    k0_pay1 (k0_pay7 (iblk m c 1 t)) (iblk m c 0 t) j = ∑ r ∈ Finset.range 512, part m c (j 1) (t.val * 512 + r) := by
  rw [Finset.sum_range]
  refine (congrArg _ (oneRow j)).trans ((pay1_apply _ _ (j 1)).trans (Finset.sum_congr rfl fun r _ => ?_))
  exact congrArg₂ (fun (u : EReal) h => u * normed h (j 1)) (d_apply m c t _) (input_eq m c t r)

theorem dBias_block (c : Dev nD) (t : Fin cfg0.N) (j : S1x2048.Idx) :
    k0_pay2 (iblk m c 0 t) j = ∑ r ∈ Finset.range 512, at2 (D m c) (t.val * 512 + r) (j 1).val := by
  rw [Finset.sum_range]
  exact (congrArg _ (oneRow j)).trans ((pay2_apply _ (j 1)).trans (Finset.sum_congr rfl fun r _ => d_apply m c t _))

theorem outs3 (c : Dev nD) (t : Fin cfg0.N) :
    (outsAt0 m c t.val t.isLt).1 = k0_pay8 (iblk m c 1 t) (iblk m c 0 t) (iblk m c 2 t) := by
  have hN : cfg0.N = 8 := N_0
  have ht := t.isLt
  by_cases h : t.val = 0
  · rw [outsAt0_A m c t (by omega) (by omega)]
    dsimp only
    rw [first3]
  · rw [outsAt0_B m c t (by omega) (by omega)]
    dsimp only
    rw [later3]

theorem outs4 (c : Dev nD) (t : Fin cfg0.N) :
    (outsAt0 m c t.val t.isLt).2.1 = k0_pay9 (iblk m c 1 t) (iblk m c 0 t) (iblk m c 2 t) := by
  have hN : cfg0.N = 8 := N_0
  have ht := t.isLt
  by_cases h : t.val = 0
  · rw [outsAt0_A m c t (by omega) (by omega)]
    dsimp only
    rw [first4]
  · rw [outsAt0_B m c t (by omega) (by omega)]
    dsimp only
    rw [later4]

theorem outs5 (c : Dev nD) : ∀ (n : Nat) (h : n < cfg0.N) (j : S1x2048.Idx),
    (outsAt0 m c n h).2.2.1 j = ∑ r ∈ Finset.range ((n + 1) * 512), part m c (j 1) r := by
  intro n
  induction n with
  | zero =>
    intro h j
    rw [outsAt0_A m c ⟨0, h⟩ rfl (by show ¬1 ≤ 0; decide)]
    dsimp only
    rw [first5]
    refine (dScale_block m c ⟨0, h⟩ j).trans ?_
    refine Finset.sum_congr rfl fun r _ => congrArg (part m c (j 1)) ?_
    show 0 * 512 + r = r; omega
  | succ n ih =>
    intro h j
    have hN : cfg0.N = 8 := N_0
    rw [outsAt0_B m c ⟨n + 1, h⟩ (by show ¬(n + 1) % 8 = 0; omega) (by show 1 ≤ n + 1; omega)]
    dsimp only
    rw [later5]
    rw [Nat.succ_mul (n + 1), Finset.sum_range_add]
    exact congrArg₂ (fun u v : EReal => u + v) (ih _ j) (dScale_block m c ⟨n + 1, h⟩ j)

theorem outs6 (c : Dev nD) : ∀ (n : Nat) (h : n < cfg0.N) (j : S1x2048.Idx),
    (outsAt0 m c n h).2.2.2 j = ∑ r ∈ Finset.range ((n + 1) * 512), at2 (D m c) r (j 1).val := by
  intro n
  induction n with
  | zero =>
    intro h j
    rw [outsAt0_A m c ⟨0, h⟩ rfl (by show ¬1 ≤ 0; decide)]
    dsimp only
    rw [first6]
    refine (dBias_block m c ⟨0, h⟩ j).trans ?_
    refine Finset.sum_congr rfl fun r _ => congrArg (fun r => at2 (D m c) r (j 1).val) ?_
    show 0 * 512 + r = r; omega
  | succ n ih =>
    intro h j
    have hN : cfg0.N = 8 := N_0
    rw [outsAt0_B m c ⟨n + 1, h⟩ (by show ¬(n + 1) % 8 = 0; omega) (by show 1 ≤ n + 1; omega)]
    dsimp only
    rw [later6]
    rw [Nat.succ_mul (n + 1), Finset.sum_range_add]
    exact congrArg₂ (fun u v : EReal => u + v) (ih _ j) (dBias_block m c ⟨n + 1, h⟩ j)

theorem flushed3_eq (c : Dev nD) (t : Fin cfg0.N) :
    (dats m 0 c).flushed 3 t = (win0_3.blk t).view.read (Elt Ideal) (dInput m c : Buf (Elt Ideal) ((c : Thread nD τ).loc main_v1_0)) := by
  obtain ⟨-, -, -, ⟨e0, e1⟩, -⟩ := index t
  refine (Value.flushed3 m c t).trans ?_
  rw [outs3]
  funext (j : S512x2048.Idx)
  rw [View.read_apply]
  refine dInput_block m c t j ((win0_3.blk t).view.emb j) ?_ ?_
  · show win0_3.index t 0 * 512 + 1 * (j 0).val = _; rw [e0]; omega
  · show win0_3.index t 1 * 2048 + 1 * (j 1).val = _; rw [e1]; omega

theorem flushed4_eq (c : Dev nD) (t : Fin cfg0.N) :
    (dats m 0 c).flushed 4 t = (win0_4.blk t).view.read (Elt Ideal) (dInput m c : Buf (Elt Ideal) ((c : Thread nD τ).loc main_v1_1)) := by
  obtain ⟨-, -, -, -, ⟨e0, e1⟩, -⟩ := index t
  refine (Value.flushed4 m c t).trans ?_
  rw [outs4]
  funext (j : S512x2048.Idx)
  rw [View.read_apply]
  refine dInput_block m c t j ((win0_4.blk t).view.emb j) ?_ ?_
  · show win0_4.index t 0 * 512 + 1 * (j 0).val = _; rw [e0]; omega
  · show win0_4.index t 1 * 2048 + 1 * (j 1).val = _; rw [e1]; omega

theorem flushed5_eq (c : Dev nD) (t : Fin cfg0.N) (hf : (cfg0.win 5).flush t = true) :
    (dats m 0 c).flushed 5 t = (win0_5.blk t).view.read (Elt Ideal) (dScale m c : Buf (Elt Ideal) ((c : Thread nD τ).loc main_v1_2)) := by
  have h7 : t.val = 7 := by have := (flush0_5 t).mp hf; have := t.isLt; have hN : cfg0.N = 8 := N_0; omega
  obtain ⟨-, -, -, -, -, ⟨e0, e1⟩, -⟩ := index t
  refine (Value.flushed5 m c t).trans ?_
  funext (j : S1x2048.Idx)
  rw [View.read_apply]
  refine (outs5 m c t.val t.isLt j).trans ?_
  have key : ∀ q : Fin 2048, j 1 = q → (∑ r ∈ Finset.range ((t.val + 1) * 512), part m c (j 1) r : EReal) = ∑ r ∈ Finset.range 4096, part m c q r := by
    rintro _ rfl; rw [h7]
  refine key _ (Fin.ext ?_)
  show (j 1).val = win0_5.index t 1 * 2048 + 1 * (j 1).val
  rw [e1]; omega

theorem flushed6_eq (c : Dev nD) (t : Fin cfg0.N) (hf : (cfg0.win 6).flush t = true) :
    (dats m 0 c).flushed 6 t = (win0_6.blk t).view.read (Elt Ideal) (dBias m c : Buf (Elt Ideal) ((c : Thread nD τ).loc main_v1_3)) := by
  have h7 : t.val = 7 := by have := (flush0_6 t).mp hf; have := t.isLt; have hN : cfg0.N = 8 := N_0; omega
  obtain ⟨-, -, -, -, -, -, e0, e1⟩ := index t
  refine (Value.flushed6 m c t).trans ?_
  funext (j : S1x2048.Idx)
  rw [View.read_apply]
  refine (outs6 m c t.val t.isLt j).trans ?_
  have key : ∀ q : Fin 2048, j 1 = q → (∑ r ∈ Finset.range ((t.val + 1) * 512), at2 (D m c) r (j 1).val : EReal) = ∑ r ∈ Finset.range 4096, at2 (D m c) r q.val := by
    rintro _ rfl; rw [h7]
  refine key _ (Fin.ext ?_)
  show (j 1).val = win0_6.index t 1 * 2048 + 1 * (j 1).val
  rw [e1]; omega

/-- The grid point that writes a row, and the last. -/
def point (i : S4096x2048.Idx) : Fin cfg0.N := ⟨(i 0).val / 512, by
  have h0 : (i 0).val < 4096 := (i 0).isLt
  have hN : cfg0.N = 8 := N_0
  omega⟩
def last : Fin cfg0.N := ⟨7, by have hN : cfg0.N = 8 := N_0; omega⟩

theorem final3 (c : Dev nD) : (dats m 0 c).arrAt 3 cfg0.N = dInput m c :=
  (dats m 0 c).arrAt_eq_of_cover 3 (dInput m c : Buf (Elt Ideal) ((c : Thread nD τ).loc main_v1_0)) (fun t _ => flushed3_eq m c t) fun (i : S4096x2048.Idx) => by
    obtain ⟨-, -, -, ⟨e0, e1⟩, -⟩ := index (point i)
    have h1 : (i 1).val < 2048 := (i 1).isLt
    refine ⟨point i, flush0_3 _, ?_⟩
    show i ∈ ((View.whole main_v1_0).slice (win0_3.rect (point i))).set
    rw [View.set_slice_whole, Rect.mem_set_unit]
    intro a
    match a with
    | ⟨0, _⟩ => show win0_3.index (point i) 0 * 512 ≤ (i 0).val ∧ (i 0).val < win0_3.index (point i) 0 * 512 + 512; rw [e0]; unfold point; dsimp only; omega
    | ⟨1, _⟩ => show win0_3.index (point i) 1 * 2048 ≤ (i 1).val ∧ (i 1).val < win0_3.index (point i) 1 * 2048 + 2048; rw [e1]; omega

theorem final4 (c : Dev nD) : (dats m 0 c).arrAt 4 cfg0.N = dInput m c :=
  (dats m 0 c).arrAt_eq_of_cover 4 (dInput m c : Buf (Elt Ideal) ((c : Thread nD τ).loc main_v1_1)) (fun t _ => flushed4_eq m c t) fun (i : S4096x2048.Idx) => by
    obtain ⟨-, -, -, -, ⟨e0, e1⟩, -⟩ := index (point i)
    have h1 : (i 1).val < 2048 := (i 1).isLt
    refine ⟨point i, flush0_4 _, ?_⟩
    show i ∈ ((View.whole main_v1_1).slice (win0_4.rect (point i))).set
    rw [View.set_slice_whole, Rect.mem_set_unit]
    intro a
    match a with
    | ⟨0, _⟩ => show win0_4.index (point i) 0 * 512 ≤ (i 0).val ∧ (i 0).val < win0_4.index (point i) 0 * 512 + 512; rw [e0]; unfold point; dsimp only; omega
    | ⟨1, _⟩ => show win0_4.index (point i) 1 * 2048 ≤ (i 1).val ∧ (i 1).val < win0_4.index (point i) 1 * 2048 + 2048; rw [e1]; omega

theorem final5 (c : Dev nD) : (dats m 0 c).arrAt 5 cfg0.N = dScale m c :=
  (dats m 0 c).arrAt_eq_of_cover 5 (dScale m c : Buf (Elt Ideal) ((c : Thread nD τ).loc main_v1_2)) (fun t h => flushed5_eq m c t h) fun (i : S1x2048.Idx) => by
    have h0 : (i 0).val < 1 := (i 0).isLt
    have h1 : (i 1).val < 2048 := (i 1).isLt
    obtain ⟨-, -, -, -, -, ⟨e0, e1⟩, -⟩ := index last
    refine ⟨last, (flush0_5 _).mpr rfl, ?_⟩
    show i ∈ ((View.whole main_v1_2).slice (win0_5.rect last)).set
    rw [View.set_slice_whole, Rect.mem_set_unit]
    intro a
    match a with
    | ⟨0, _⟩ => show win0_5.index last 0 * 1 ≤ (i 0).val ∧ (i 0).val < win0_5.index last 0 * 1 + 1; rw [e0]; omega
    | ⟨1, _⟩ => show win0_5.index last 1 * 2048 ≤ (i 1).val ∧ (i 1).val < win0_5.index last 1 * 2048 + 2048; rw [e1]; omega

theorem final6 (c : Dev nD) : (dats m 0 c).arrAt 6 cfg0.N = dBias m c :=
  (dats m 0 c).arrAt_eq_of_cover 6 (dBias m c : Buf (Elt Ideal) ((c : Thread nD τ).loc main_v1_3)) (fun t h => flushed6_eq m c t h) fun (i : S1x2048.Idx) => by
    have h0 : (i 0).val < 1 := (i 0).isLt
    have h1 : (i 1).val < 2048 := (i 1).isLt
    obtain ⟨-, -, -, -, -, -, e0, e1⟩ := index last
    refine ⟨last, (flush0_6 _).mpr rfl, ?_⟩
    show i ∈ ((View.whole main_v1_3).slice (win0_6.rect last)).set
    rw [View.set_slice_whole, Rect.mem_set_unit]
    intro a
    match a with
    | ⟨0, _⟩ => show win0_6.index last 0 * 1 ≤ (i 0).val ∧ (i 0).val < win0_6.index last 0 * 1 + 1; rw [e0]; omega
    | ⟨1, _⟩ => show win0_6.index last 1 * 2048 ≤ (i 1).val ∧ (i 1).val < win0_6.index last 1 * 2048 + 2048; rw [e1]; omega

/-! ## The reference -/

section Reference
open Cert.ReferenceLnBwdIdeal.Read

theorem input_at (c : Dev nD) (i : S4096x2048.Idx) (r : Nat) (k : Fin 2048) (h0 : (i 0).val = r) (h1 : i 1 = k) : H m c i = input m c r k := by
  subst h1
  exact at2_eq (H m c) i _ _ h0 rfl

theorem mean_at (c : Dev nD) (i : (⟨2, ![4096, 1]⟩ : Shape).Idx) : val_main_v4 (F := Ideal) (H m c) i = mean (input m c (i 0).val) := by
  rw [val_main_v4_apply, val_main_v2_apply, val_main_v1_apply]
  refine congrArg (fun u : EReal => FloatOps.divf (F := Ideal) (φ := .f32) u size) ?_
  exact (congrArg₂ (fun u v : EReal => u + v) zeroBits (Finset.sum_congr rfl fun k _ => input_at m c _ _ k rfl rfl)).trans (zero_add _)

theorem centred_at (c : Dev nD) (i : S4096x2048.Idx) (r : Nat) (k : Fin 2048) (h0 : (i 0).val = r) (h1 : i 1 = k) :
    val_main_v6 (F := Ideal) (H m c) i = input m c r k - mean (input m c r) := by
  rw [val_main_v6_apply, val_main_v5_apply, mean_at, input_at m c i r k h0 h1]
  subst h0
  rfl

theorem var_at (c : Dev nD) (i : (⟨2, ![4096, 1]⟩ : Shape).Idx) : val_main_v13 (F := Ideal) (H m c) i = var (input m c (i 0).val) := by
  rw [val_main_v13_apply, val_main_v11_apply, val_main_v10_apply]
  refine congrArg (fun u : EReal => FloatOps.divf (F := Ideal) (φ := .f32) u size) ?_
  refine (congrArg₂ (fun u v : EReal => u + v) zeroBits (Finset.sum_congr rfl fun k _ => ?_)).trans (zero_add _)
  rw [val_main_v7_apply, centred_at m c _ _ k rfl rfl]
  rfl

theorem rstd_at (c : Dev nD) (i : (⟨2, ![4096, 1]⟩ : Shape).Idx) : val_main_v18 (F := Ideal) (H m c) i = rstd (input m c (i 0).val) := by
  rw [val_main_v18_apply, val_main_v17_apply, var_at]
  rfl

theorem normed_at (c : Dev nD) (i : S4096x2048.Idx) (r : Nat) (k : Fin 2048) (h0 : (i 0).val = r) (h1 : i 1 = k) :
    val_main_v23 (F := Ideal) (H m c) i = normed (input m c r) k := by
  rw [val_main_v23_apply, val_main_v15_apply, val_main_v14_apply, mean_at, input_at m c i r k h0 h1, val_main_v22_apply, rstd_at]
  subst h0
  rfl

theorem incoming_at (c : Dev nD) (i : S4096x2048.Idx) (r : Nat) (k : Fin 2048) (h0 : (i 0).val = r) (h1 : i 1 = k) :
    val_main_v30 (F := Ideal) (D m c) i = at2 (D m c) r k.val := by
  have b : (i 1).val < 2048 := (i 1).isLt
  subst h0 h1
  rw [val_main_v30_apply]
  refine at2_eq (D m c) _ _ _ ?_ ?_
  · dsimp only; omega
  · dsimp only; omega

theorem scaled_at (c : Dev nD) (i : S4096x2048.Idx) (r : Nat) (k : Fin 2048) (h0 : (i 0).val = r) (h1 : i 1 = k) :
    val_main_v38 (F := Ideal) (D m c) (G m c) i = scaled m c r k := by
  rw [val_main_v38_apply, incoming_at m c i r k h0 h1, val_main_v37_apply, val_main_v24_apply]
  exact congrArg (fun u : EReal => at2 (D m c) r k.val * u) (at1_eq (G m c) _ _ (congrArg Fin.val h1))

theorem dot_at (c : Dev nD) (i : (⟨1, ![4096]⟩ : Shape).Idx) (r : Nat) (h0 : (i 0).val = r) :
    val_main_v41 (F := Ideal) (D m c) (H m c) (G m c) i = ∑ k, (input m c r k - mean (input m c r)) * scaled m c r k := by
  rw [val_main_v41_apply]
  refine (congrArg₂ (fun u v : EReal => u + v) zeroBits (Finset.sum_congr rfl fun k _ => ?_)).trans (zero_add _)
  rw [val_main_v40_apply, scaled_at m c _ r k h0 rfl]
  exact congrArg (fun u : EReal => u * scaled m c r k) (centred_at m c _ r k h0 rfl)

theorem share_at (c : Dev nD) (i : (⟨1, ![4096]⟩ : Shape).Idx) :
    val_main_v51 (F := Ideal) (D m c) (H m c) (G m c) i = share (input m c (i 0).val) (scaled m c (i 0).val) := by
  rw [val_main_v51_apply]
  refine (congrArg₂ (fun u v : EReal => u + v) zeroBits (Fin.sum_univ_one _)).trans ((zero_add _).trans ?_)
  rw [val_main_v50_apply, val_main_v45_apply, val_main_v42_apply, dot_at m c _ (i 0).val (by dsimp only; omega), val_main_v21_apply, val_main_v19_apply,
    rstd_at, val_main_v17_apply, var_at]
  rfl

theorem direct_at (c : Dev nD) (i : S4096x2048.Idx) (r : Nat) (k : Fin 2048) (h0 : (i 0).val = r) (h1 : i 1 = k) :
    val_main_v44 (F := Ideal) (D m c) (H m c) (G m c) i = scaled m c r k * rstd (input m c r) := by
  rw [val_main_v44_apply, scaled_at m c i r k h0 h1, val_main_v43_apply, rstd_at]
  subst h0
  rfl

theorem spread_at (c : Dev nD) (i : S4096x2048.Idx) (r : Nat) (k : Fin 2048) (h0 : (i 0).val = r) (h1 : i 1 = k) :
    val_main_v53 (F := Ideal) (D m c) (H m c) (G m c) i
      = share (input m c r) (scaled m c r) * (two * (input m c r k - mean (input m c r))) := by
  rw [val_main_v53_apply, val_main_v52_apply, share_at, val_main_v9_apply, centred_at m c i r k h0 h1]
  subst h0
  rfl

theorem directs_at (c : Dev nD) (i : (⟨1, ![4096]⟩ : Shape).Idx) (r : Nat) (h0 : (i 0).val = r) :
    val_main_v47 (F := Ideal) (D m c) (H m c) (G m c) i = ∑ k, -(scaled m c r k * rstd (input m c r)) := by
  rw [val_main_v47_apply]
  refine (congrArg₂ (fun u v : EReal => u + v) zeroBits (Finset.sum_congr rfl fun k _ => ?_)).trans (zero_add _)
  rw [val_main_v46_apply, direct_at m c _ r k h0 rfl]
  rfl

theorem spreads_at (c : Dev nD) (i : (⟨1, ![4096]⟩ : Shape).Idx) (r : Nat) (h0 : (i 0).val = r) :
    val_main_v55 (F := Ideal) (D m c) (H m c) (G m c) i
      = ∑ k, -(share (input m c r) (scaled m c r) * (two * (input m c r k - mean (input m c r)))) := by
  rw [val_main_v55_apply]
  refine (congrArg₂ (fun u v : EReal => u + v) zeroBits (Finset.sum_congr rfl fun k _ => ?_)).trans (zero_add _)
  rw [val_main_v54_apply, spread_at m c _ r k h0 rfl]
  rfl

theorem meanShare_at (c : Dev nD) (i : (⟨1, ![4096]⟩ : Shape).Idx) : val_main_v61 (F := Ideal) (D m c) (H m c) (G m c) i
    = Ideal.div ((∑ k, -(scaled m c (i 0).val k * rstd (input m c (i 0).val))) + ∑ k, -(share (input m c (i 0).val) (scaled m c (i 0).val)
      * (two * (input m c (i 0).val k - mean (input m c (i 0).val))))) size := by
  rw [val_main_v61_apply]
  refine (congrArg₂ (fun u v : EReal => u + v) zeroBits (Fin.sum_univ_one _)).trans ((zero_add _).trans ?_)
  rw [val_main_v60_apply, val_main_v58_apply, val_main_v48_apply, val_main_v56_apply, directs_at m c _ (i 0).val (by dsimp only; omega),
    spreads_at m c _ (i 0).val (by dsimp only; omega)]
  rfl

theorem vjp_at (c : Dev nD) (i : S4096x2048.Idx) :
    val_main_v63 (F := Ideal) (D m c) (H m c) (G m c) i = vjp (input m c (i 0).val) (scaled m c (i 0).val) (i 1) := by
  rw [val_main_v63_apply, val_main_v57_apply, direct_at m c i _ (i 1) rfl rfl, spread_at m c i _ (i 1) rfl rfl, val_main_v62_apply, meanShare_at]
  rfl

theorem dInput_eq (c : Dev nD) (h : ∀ r k, ∃ x : ℝ, scaled m c r k = x) :
    dInput m c = val_main_v63 (F := Ideal) (D m c) (H m c) (G m c) :=
  funext fun (i : S4096x2048.Idx) => (grad_eq _ _ (h (i 0).val) (i 1)).trans (vjp_at m c i).symm

theorem dScale_eq (c : Dev nD) : dScale m c = val_main_v65 (F := Ideal) (D m c) (H m c) := by
  funext (i : S1x2048.Idx)
  rw [val_main_v65_apply, val_main_v39_apply]
  refine Eq.symm ((congrArg₂ (fun u v : EReal => u + v) zeroBits (Fin.sum_univ_one _)).trans ((zero_add _).trans ?_))
  rw [val_main_v36_apply, val_main_v35_apply]
  refine (congrArg₂ (fun u v : EReal => u + v) zeroBits ?_).trans ((zero_add _).trans (Finset.sum_range _).symm)
  refine Finset.sum_congr rfl fun r _ => ?_
  rw [val_main_v34_apply, normed_at m c _ r.val (i 1) rfl (Fin.ext (by dsimp only; omega)), incoming_at m c _ r.val (i 1) rfl (Fin.ext (by dsimp only; omega))]
  exact mul_comm (normed (input m c r.val) (i 1)) (at2 (D m c) r.val (i 1).val)

theorem dBias_eq (c : Dev nD) : dBias m c = val_main_v66 (F := Ideal) (D m c) := by
  funext (i : S1x2048.Idx)
  rw [val_main_v66_apply, val_main_v33_apply]
  refine Eq.symm ((congrArg₂ (fun u v : EReal => u + v) zeroBits (Fin.sum_univ_one _)).trans ((zero_add _).trans ?_))
  rw [val_main_v32_apply, val_main_v31_apply]
  refine (congrArg₂ (fun u v : EReal => u + v) zeroBits ?_).trans ((zero_add _).trans (Finset.sum_range _).symm)
  exact Finset.sum_congr rfl fun r _ => at2_eq (D m c) _ r.val (i 1).val rfl (by dsimp only; omega)

end Reference

/-- Of finite arguments the scaled gradient is finite. -/
theorem scaled_real [Cert.Pre_finite_ln.Facts] (h : Cert.Pre_KernelLnBwdIdeal_finite_ln m) (c : Dev nD) (r : Nat) (k : Fin 2048) :
    ∃ x : ℝ, scaled m c r k = x := by
  have e := congrFun (h c) (fun a => a.elim0)
  unfold Cert.Pre_finite_ln.fn at e
  dsimp only at e
  have e1 := (Spec.and_word _ _).mp e
  refine Attn.mul_real ?_ ?_
  · unfold at2
    split_ifs
    · exact Attn.reals_of _ _ _ _ _ _ e1.1 _
    all_goals exact ⟨0, rfl⟩
  · unfold at1
    split_ifs
    · exact Attn.reals_of _ _ _ _ _ _ e1.2 _
    all_goals exact ⟨0, rfl⟩

theorem algebraic [Cert.Pre_finite_ln.Facts] : Cert.algebraic_KernelLnBwdIdeal_ReferenceLnBwdIdeal_pre_finite_ln := by
  intro m ρ m' ρ' hpre hagree
  refine ⟨fun c => dInput m c, fun c => dInput m c, fun c => dScale m c, fun c => dBias m c, (θ_run defs _ _).mono (fun _ h c =>
    ⟨(h c).1.trans (final3 m c), (h c).2.1.trans (final4 m c), (h c).2.2.1.trans (final5 m c), (h c).2.2.2.1.trans (final6 m c), (h c).2.2.2.2⟩)
    (Value.run_blocks m ρ), ?_⟩
  refine (θ_run Cert.ReferenceLnBwdIdeal.defs _ _).mono (fun _ h c => ?_) (Cert.ReferenceLnBwdIdeal.Value.run (F := Ideal) m' ρ')
  obtain ⟨a0, a1, a2⟩ := hagree c
  obtain ⟨h0, h1, h2, h3, ht⟩ := h c
  refine ⟨h0.trans ?_, h1.trans ?_, h2.trans ?_, h3.trans ?_, ht⟩
  · refine (Cert.ReferenceLnBwdIdeal.Read.val_main_v63_eq _ _).trans ?_
    rw [a0, a1, a2]
    exact (dInput_eq m c (scaled_real m hpre c)).symm
  · refine (Cert.ReferenceLnBwdIdeal.Read.val_main_v64_eq _ _).trans ?_
    rw [a0, a1, a2]
    exact (dInput_eq m c (scaled_real m hpre c)).symm
  · refine (Cert.ReferenceLnBwdIdeal.Read.val_main_v65_eq _ _).trans ?_
    rw [a0, a1]
    exact (dScale_eq m c).symm
  · refine (Cert.ReferenceLnBwdIdeal.Read.val_main_v66_eq _).trans ?_
    rw [a0]
    exact (dBias_eq m c).symm

end Cert.LnBwd

end
-- ==== Proof.LnFwd.lean ====
module

public import proofs.«01_k».proof.Defs
public import proofs.«01_k».proof.Proof.Gen.KernelLnFwdIdeal.Value
public import proofs.«01_k».proof.Proof.Gen.ReferenceLnFwdIdeal.Run
public import proofs.«01_k».proof.Proof.Gen.ReferenceLnFwdIdeal.Read
public import proofs.«01_k».proof.Proof.LnRow
public import Idealize.ShloMosaic.Lib.Pipeline.ValueKit.Tiles
public import Idealize.ShloMosaic.Lib.Pointwise

@[expose] public section

set_option maxRecDepth 16384

noncomputable section

/-! The residual sum and its layer norm, rows at a time. -/

namespace Cert.LnFwd

open Idealize.ShloMosaic Idealize.ShloMosaic.TcCoe Idealize.ShloMosaic.Tactic Idealize.SL.Sem
open Cert.Sums Cert.Products Cert.LnRow
open Idealize.ShloMosaic.Pipeline (Dat)
open Cert.KernelLnFwdIdeal Cert.KernelLnFwdIdeal.Gen

variable (m : (ℓ : Loc nD τ sig) → Buf (Elt Ideal) ℓ) (ρ : Dev nD → PrngReg)

/-- The residual's scale. -/
abbrev α : EReal := FloatOps.ofBits (F := Ideal) .f32 0x3FD744FD#32

/-! ## The body -/

section Body
variable (x0 x1 : Vec Ideal S512x2048 .f32) (x2 x3 : Vec Ideal S1x2048 .f32) (r : Fin 512) (j : Fin 2048)

/-- A row of the sum. -/
abbrev row (k : Fin 2048) : EReal := α * x0 (ix2 r k) + x1 (ix2 r k)

theorem pay1_apply : k0_pay1 x0 x1 (ix2 r j) = row x0 x1 r j := by
  pointwise [k0_pay1]
  rfl

theorem pay2_apply : k0_pay2 x0 x1 x2 x3 (ix2 r j) = normed (row x0 x1 r) j * x2 (ix2 0 j) + x3 (ix2 0 j) := by
  unfold normed rstd var mean
  pointwise [k0_pay2]
  simp only [pay1_apply]

end Body

/-! ## The operands -/

/-- The arguments. -/
def X (c : Dev nD) : Vec Ideal S4096x2048 .f32 := m ((c : Thread nD τ).loc main_arg0)
def Y (c : Dev nD) : Vec Ideal S4096x2048 .f32 := m ((c : Thread nD τ).loc main_arg1)
def G (c : Dev nD) : Vec Ideal S2048 .f32 := m ((c : Thread nD τ).loc main_arg2)
def B (c : Dev nD) : Vec Ideal S2048 .f32 := m ((c : Thread nD τ).loc main_arg3)

/-- The host's preparation of the operands. -/
def scales (c : Dev nD) : Vec Ideal S1x2048 .f32 := V m c main_v0
def biases (c : Dev nD) : Vec Ideal S1x2048 .f32 := V m c main_v1

theorem scales_eq (c : Dev nD) (i : S1x2048.Idx) (k : Nat) (hk : (i 1).val = k) : scales m c i = at1 (G m c) k := by
  have e : scales m c = shapeCast S1x2048 (G m c) shapeCasts_S2048_S1x2048 := by
    unfold scales V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hk]; exact asRow (G m c) _ i

theorem biases_eq (c : Dev nD) (i : S1x2048.Idx) (k : Nat) (hk : (i 1).val = k) : biases m c i = at1 (B m c) k := by
  have e : biases m c = shapeCast S1x2048 (B m c) shapeCasts_S2048_S1x2048 := by
    unfold biases V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hk]; exact asRow (B m c) _ i

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0))

theorem x_apply (c : Dev nD) (t : Fin cfg0.N) (i : S512x2048.Idx) :
    (iblk m c 0 t : Vec Ideal S512x2048 .f32) i = at2 (X m c) (t.val * 512 + (i 0).val) (i 1).val := by
  obtain ⟨⟨a0, a1⟩, -⟩ := index t
  have e : (iblk m c 0 t : Vec Ideal S512x2048 .f32) = (win0_0.blk t).view.read (Elt Ideal) (X m c : Buf (Elt Ideal) ((c : Thread nD τ).loc main_arg0)) :=
    congrArg ((win0_0.blk t).view.read (Elt Ideal)) (V_main_arg0 m c)
  rw [e, View.read_apply]
  refine (cast_eq _ _).trans (at2_eq _ _ _ _ ?_ ?_)
  · show win0_0.index t 0 * 512 + 1 * (i 0).val = _; rw [a0]; omega
  · show win0_0.index t 1 * 2048 + 1 * (i 1).val = _; rw [a1]; omega

theorem y_apply (c : Dev nD) (t : Fin cfg0.N) (i : S512x2048.Idx) :
    (iblk m c 1 t : Vec Ideal S512x2048 .f32) i = at2 (Y m c) (t.val * 512 + (i 0).val) (i 1).val := by
  obtain ⟨-, ⟨a0, a1⟩, -⟩ := index t
  have e : (iblk m c 1 t : Vec Ideal S512x2048 .f32) = (win0_1.blk t).view.read (Elt Ideal) (Y m c : Buf (Elt Ideal) ((c : Thread nD τ).loc main_arg1)) :=
    congrArg ((win0_1.blk t).view.read (Elt Ideal)) (V_main_arg1 m c)
  rw [e, View.read_apply]
  refine (cast_eq _ _).trans (at2_eq _ _ _ _ ?_ ?_)
  · show win0_1.index t 0 * 512 + 1 * (i 0).val = _; rw [a0]; omega
  · show win0_1.index t 1 * 2048 + 1 * (i 1).val = _; rw [a1]; omega

theorem g_apply (c : Dev nD) (t : Fin cfg0.N) (i : S1x2048.Idx) : (iblk m c 2 t : Vec Ideal S1x2048 .f32) i = at1 (G m c) (i 1).val := by
  obtain ⟨-, -, ⟨a0, a1⟩, -⟩ := index t
  have e : (iblk m c 2 t : Vec Ideal S1x2048 .f32) = (win0_2.blk t).view.read (Elt Ideal) (scales m c : Buf (Elt Ideal) ((c : Thread nD τ).loc main_v0)) := rfl
  rw [e, View.read_apply]
  refine (cast_eq _ _).trans (scales_eq m c _ _ ?_)
  show win0_2.index t 1 * 2048 + 1 * (i 1).val = _; rw [a1]; omega

theorem b_apply (c : Dev nD) (t : Fin cfg0.N) (i : S1x2048.Idx) : (iblk m c 3 t : Vec Ideal S1x2048 .f32) i = at1 (B m c) (i 1).val := by
  obtain ⟨-, -, -, ⟨a0, a1⟩, -⟩ := index t
  have e : (iblk m c 3 t : Vec Ideal S1x2048 .f32) = (win0_3.blk t).view.read (Elt Ideal) (biases m c : Buf (Elt Ideal) ((c : Thread nD τ).loc main_v1)) := rfl
  rw [e, View.read_apply]
  refine (cast_eq _ _).trans (biases_eq m c _ _ ?_)
  show win0_3.index t 1 * 2048 + 1 * (i 1).val = _; rw [a1]; omega

/-! ## The results -/

/-- A row of the sum. -/
def sum (c : Dev nD) (r : Nat) (k : Fin 2048) : EReal := α * at2 (X m c) r k.val + at2 (Y m c) r k.val

def normal (c : Dev nD) : Vec Ideal S4096x2048 .f32 := fun i =>
  (normed (sum m c (i 0).val) (i 1) * at1 (G m c) (i 1).val + at1 (B m c) (i 1).val : EReal)
def total (c : Dev nD) : Vec Ideal S4096x2048 .f32 := fun i => sum m c (i 0).val (i 1)

theorem row_eq (c : Dev nD) (t : Fin cfg0.N) (r : Fin 512) :
    row (iblk m c 0 t) (iblk m c 1 t) r = sum m c (t.val * 512 + r.val) :=
  funext fun _ => congrArg₂ (fun u v : EReal => α * u + v) (x_apply m c t _) (y_apply m c t _)

theorem normal_block (c : Dev nD) (t : Fin cfg0.N) (j : S512x2048.Idx) (e : S4096x2048.Idx) (h0 : (e 0).val = t.val * 512 + (j 0).val)
    (h1 : (e 1).val = (j 1).val) : k0_pay2 (iblk m c 0 t) (iblk m c 1 t) (iblk m c 2 t) (iblk m c 3 t) j = normal m c e := by
  have key : ∀ (r : Nat) (q : Fin 2048), (e 0).val = r → e 1 = q →
      (normed (sum m c r) q * at1 (G m c) q.val + at1 (B m c) q.val : EReal) = normal m c e := by rintro _ _ rfl rfl; rfl
  refine (congrArg _ (eq_ix2 j)).trans ((pay2_apply _ _ _ _ (j 0) (j 1)).trans (Eq.trans ?_ (key _ (j 1) h0 (Fin.ext h1))))
  exact congrArg₂ (fun u v : EReal => u + v) (congrArg₂ (fun u v : EReal => u * v)
    (congrArg (fun h => normed h (j 1)) (row_eq m c t (j 0))) (g_apply m c t _)) (b_apply m c t _)

theorem total_block (c : Dev nD) (t : Fin cfg0.N) (j : S512x2048.Idx) (e : S4096x2048.Idx) (h0 : (e 0).val = t.val * 512 + (j 0).val)
    (h1 : (e 1).val = (j 1).val) : k0_pay1 (iblk m c 0 t) (iblk m c 1 t) j = total m c e := by
  have key : ∀ (r : Nat) (q : Fin 2048), (e 0).val = r → e 1 = q → sum m c r q = total m c e := by rintro _ _ rfl rfl; rfl
  refine (congrArg _ (eq_ix2 j)).trans ((pay1_apply _ _ (j 0) (j 1)).trans (Eq.trans ?_ (key _ (j 1) h0 (Fin.ext h1))))
  exact congrFun (row_eq m c t (j 0)) (j 1)

theorem flushed4_eq (c : Dev nD) (t : Fin cfg0.N) :
    (dats m 0 c).flushed 4 t = (win0_4.blk t).view.read (Elt Ideal) (normal m c : Buf (Elt Ideal) ((c : Thread nD τ).loc main_v2_0)) := by
  obtain ⟨-, -, -, -, ⟨e0, e1⟩, -⟩ := index t
  refine (Value.flushed4 m c t).trans ?_
  unfold out0_4
  rw [View.canon_unit_zero zero2]
  simp only [View.ld_unit_zero (S := S512x2048) zero2, View.ld_unit_zero (S := S1x2048) zero2]
  funext (j : S512x2048.Idx)
  rw [View.read_apply]
  refine normal_block m c t j ((win0_4.blk t).view.emb j) ?_ ?_
  · show win0_4.index t 0 * 512 + 1 * (j 0).val = _; rw [e0]; omega
  · show win0_4.index t 1 * 2048 + 1 * (j 1).val = _; rw [e1]; omega

theorem flushed5_eq (c : Dev nD) (t : Fin cfg0.N) :
    (dats m 0 c).flushed 5 t = (win0_5.blk t).view.read (Elt Ideal) (normal m c : Buf (Elt Ideal) ((c : Thread nD τ).loc main_v2_1)) := by
  obtain ⟨-, -, -, -, -, ⟨e0, e1⟩, -⟩ := index t
  refine (Value.flushed5 m c t).trans ?_
  unfold out0_5
  rw [View.canon_unit_zero zero2]
  simp only [View.ld_unit_zero (S := S512x2048) zero2, View.ld_unit_zero (S := S1x2048) zero2]
  funext (j : S512x2048.Idx)
  rw [View.read_apply]
  refine normal_block m c t j ((win0_5.blk t).view.emb j) ?_ ?_
  · show win0_5.index t 0 * 512 + 1 * (j 0).val = _; rw [e0]; omega
  · show win0_5.index t 1 * 2048 + 1 * (j 1).val = _; rw [e1]; omega

theorem flushed6_eq (c : Dev nD) (t : Fin cfg0.N) :
    (dats m 0 c).flushed 6 t = (win0_6.blk t).view.read (Elt Ideal) (total m c : Buf (Elt Ideal) ((c : Thread nD τ).loc main_v2_2)) := by
  obtain ⟨-, -, -, -, -, -, e0, e1⟩ := index t
  refine (Value.flushed6 m c t).trans ?_
  unfold out0_6
  rw [View.canon_unit_zero zero2]
  simp only [View.ld_unit_zero (S := S512x2048) zero2]
  funext (j : S512x2048.Idx)
  rw [View.read_apply]
  refine total_block m c t j ((win0_6.blk t).view.emb j) ?_ ?_
  · show win0_6.index t 0 * 512 + 1 * (j 0).val = _; rw [e0]; omega
  · show win0_6.index t 1 * 2048 + 1 * (j 1).val = _; rw [e1]; omega

/-- The grid point that writes a row. -/
def point (i : S4096x2048.Idx) : Fin cfg0.N := ⟨(i 0).val / 512, by
  have h0 : (i 0).val < 4096 := (i 0).isLt
  have hN : cfg0.N = 8 := N_0
  omega⟩

theorem final4 (c : Dev nD) : (dats m 0 c).arrAt 4 cfg0.N = normal m c :=
  (dats m 0 c).arrAt_eq_of_cover 4 (normal m c : Buf (Elt Ideal) ((c : Thread nD τ).loc main_v2_0)) (fun t _ => flushed4_eq m c t) fun (i : S4096x2048.Idx) => by
    obtain ⟨-, -, -, -, ⟨e0, e1⟩, -⟩ := index (point i)
    have h1 : (i 1).val < 2048 := (i 1).isLt
    refine ⟨point i, flush0_4 _, ?_⟩
    show i ∈ ((View.whole main_v2_0).slice (win0_4.rect (point i))).set
    rw [View.set_slice_whole, Rect.mem_set_unit]
    intro a
    match a with
    | ⟨0, _⟩ => show win0_4.index (point i) 0 * 512 ≤ (i 0).val ∧ (i 0).val < win0_4.index (point i) 0 * 512 + 512; rw [e0]; unfold point; dsimp only; omega
    | ⟨1, _⟩ => show win0_4.index (point i) 1 * 2048 ≤ (i 1).val ∧ (i 1).val < win0_4.index (point i) 1 * 2048 + 2048; rw [e1]; omega

theorem final5 (c : Dev nD) : (dats m 0 c).arrAt 5 cfg0.N = normal m c :=
  (dats m 0 c).arrAt_eq_of_cover 5 (normal m c : Buf (Elt Ideal) ((c : Thread nD τ).loc main_v2_1)) (fun t _ => flushed5_eq m c t) fun (i : S4096x2048.Idx) => by
    obtain ⟨-, -, -, -, -, ⟨e0, e1⟩, -⟩ := index (point i)
    have h1 : (i 1).val < 2048 := (i 1).isLt
    refine ⟨point i, flush0_5 _, ?_⟩
    show i ∈ ((View.whole main_v2_1).slice (win0_5.rect (point i))).set
    rw [View.set_slice_whole, Rect.mem_set_unit]
    intro a
    match a with
    | ⟨0, _⟩ => show win0_5.index (point i) 0 * 512 ≤ (i 0).val ∧ (i 0).val < win0_5.index (point i) 0 * 512 + 512; rw [e0]; unfold point; dsimp only; omega
    | ⟨1, _⟩ => show win0_5.index (point i) 1 * 2048 ≤ (i 1).val ∧ (i 1).val < win0_5.index (point i) 1 * 2048 + 2048; rw [e1]; omega

theorem final6 (c : Dev nD) : (dats m 0 c).arrAt 6 cfg0.N = total m c :=
  (dats m 0 c).arrAt_eq_of_cover 6 (total m c : Buf (Elt Ideal) ((c : Thread nD τ).loc main_v2_2)) (fun t _ => flushed6_eq m c t) fun (i : S4096x2048.Idx) => by
    obtain ⟨-, -, -, -, -, -, e0, e1⟩ := index (point i)
    have h1 : (i 1).val < 2048 := (i 1).isLt
    refine ⟨point i, flush0_6 _, ?_⟩
    show i ∈ ((View.whole main_v2_2).slice (win0_6.rect (point i))).set
    rw [View.set_slice_whole, Rect.mem_set_unit]
    intro a
    match a with
    | ⟨0, _⟩ => show win0_6.index (point i) 0 * 512 ≤ (i 0).val ∧ (i 0).val < win0_6.index (point i) 0 * 512 + 512; rw [e0]; unfold point; dsimp only; omega
    | ⟨1, _⟩ => show win0_6.index (point i) 1 * 2048 ≤ (i 1).val ∧ (i 1).val < win0_6.index (point i) 1 * 2048 + 2048; rw [e1]; omega

/-! ## The reference -/

section Reference
open Cert.ReferenceLnFwdIdeal.Read

theorem total_eq (c : Dev nD) : total m c = val_main_v2 (F := Ideal) (X m c) (Y m c) := by
  funext (i : S4096x2048.Idx)
  rw [val_main_v2_apply, val_main_v1_apply]
  exact (congrArg₂ (fun u v : EReal => α * u + v) (at2_eq (X m c) i _ _ rfl rfl) (at2_eq (Y m c) i _ _ rfl rfl)).symm

theorem sum_at (c : Dev nD) (i : S4096x2048.Idx) (r : Nat) (k : Fin 2048) (h0 : (i 0).val = r) (h1 : i 1 = k) :
    val_main_v2 (F := Ideal) (X m c) (Y m c) i = sum m c r k := by
  subst h0 h1
  exact (congrFun (total_eq m c) i).symm

theorem mean_at (c : Dev nD) (i : (⟨2, ![4096, 1]⟩ : Shape).Idx) : val_main_v6 (F := Ideal) (X m c) (Y m c) i = mean (sum m c (i 0).val) := by
  rw [val_main_v6_apply, val_main_v4_apply, val_main_v3_apply]
  refine congrArg (fun u : EReal => FloatOps.divf (F := Ideal) (φ := .f32) u size) ?_
  refine (congrArg₂ (fun u v : EReal => u + v) zeroBits (Finset.sum_congr rfl fun k _ => sum_at m c _ _ k rfl rfl)).trans (zero_add _)

theorem var_at (c : Dev nD) (i : (⟨2, ![4096, 1]⟩ : Shape).Idx) : val_main_v13 (F := Ideal) (X m c) (Y m c) i = var (sum m c (i 0).val) := by
  rw [val_main_v13_apply, val_main_v11_apply, val_main_v10_apply]
  refine congrArg (fun u : EReal => FloatOps.divf (F := Ideal) (φ := .f32) u size) ?_
  refine (congrArg₂ (fun u v : EReal => u + v) zeroBits (Finset.sum_congr rfl fun k _ => ?_)).trans (zero_add _)
  rw [val_main_v9_apply, val_main_v8_apply, val_main_v7_apply, mean_at, sum_at m c _ _ k rfl rfl]
  rfl

theorem normal_eq (c : Dev nD) : normal m c = val_main_v26 (F := Ideal) (X m c) (Y m c) (G m c) (B m c) := by
  funext (i : S4096x2048.Idx)
  rw [val_main_v26_apply, val_main_v23_apply, val_main_v20_apply, val_main_v15_apply, val_main_v14_apply, val_main_v19_apply, val_main_v18_apply,
    val_main_v17_apply, val_main_v22_apply, val_main_v21_apply, val_main_v25_apply, val_main_v24_apply, mean_at, var_at,
    sum_at m c i _ (i 1) rfl rfl, at1_eq (G m c) _ (i 1).val rfl, at1_eq (B m c) _ (i 1).val rfl]
  rfl

end Reference

theorem algebraic : Cert.algebraic_KernelLnFwdIdeal_ReferenceLnFwdIdeal := by
  intro m ρ m' ρ' _ hagree
  refine ⟨fun c => normal m c, fun c => normal m c, fun c => total m c, (θ_run defs _ _).mono (fun _ h c =>
    ⟨(h c).1.trans (final4 m c), (h c).2.1.trans (final5 m c), (h c).2.2.1.trans (final6 m c), (h c).2.2.2⟩) (Value.run_blocks m ρ), ?_⟩
  refine (θ_run Cert.ReferenceLnFwdIdeal.defs _ _).mono (fun _ h c => ?_) (Cert.ReferenceLnFwdIdeal.Value.run (F := Ideal) m' ρ')
  obtain ⟨a0, a1, a2, a3⟩ := hagree c
  obtain ⟨h0, h1, h2, ht⟩ := h c
  refine ⟨h0.trans ?_, h1.trans ?_, h2.trans ?_, ht⟩
  · refine (Cert.ReferenceLnFwdIdeal.Read.val_main_v26_eq _ _ _ _).trans ?_
    rw [a0, a1, a2, a3]
    exact (normal_eq m c).symm
  · refine (Cert.ReferenceLnFwdIdeal.Read.val_main_v27_eq _ _ _ _).trans ?_
    rw [a0, a1, a2, a3]
    exact (normal_eq m c).symm
  · refine (Cert.ReferenceLnFwdIdeal.Read.val_main_v2_eq _ _).trans ?_
    rw [a0, a1]
    exact (total_eq m c).symm

end Cert.LnFwd

end
-- ==== Proof.LossHead.lean ====
module

public import proofs.«01_k».proof.Defs
public import proofs.«01_k».proof.Proof.Gen.KernelLossHeadIdeal.Value
public import proofs.«01_k».proof.Proof.Gen.ReferenceLossHeadIdeal.Run
public import proofs.«01_k».proof.Proof.Gen.ReferenceLossHeadIdeal.Read
public import proofs.«01_k».proof.Proof.LnRow
public import Idealize.ShloMosaic.Lib.Pipeline.ValueKit.Tiles
public import Idealize.ShloMosaic.Lib.Pointwise

@[expose] public section

set_option maxRecDepth 16384

noncomputable section

/-! The loss over the rows and its gradient. -/

namespace Cert.LossHead

open Idealize.ShloMosaic Idealize.ShloMosaic.TcCoe Idealize.ShloMosaic.Tactic Idealize.SL.Sem
open Cert.Sums Cert.Products Cert.LnRow
open Idealize.ShloMosaic.Pipeline (Dat)
open Cert.KernelLossHeadIdeal Cert.KernelLossHeadIdeal.Gen

variable (m : (ℓ : Loc nD τ sig) → Buf (Elt Ideal) ℓ) (ρ : Dev nD → PrngReg)

/-- 1/2048. -/
abbrev part : EReal := FloatOps.ofBits (F := Ideal) .f32 0x3A000000#32

/-! ## The body -/

section Body
variable (x0 x1 : Vec Ideal S256x2048 .f32) (r : Fin 256) (j : Fin 2048)

/-- A row of squares. -/
abbrev row (k : Fin 2048) : EReal := (x0 (ix2 r k) - x1 (ix2 r k)) * (x0 (ix2 r k) - x1 (ix2 r k))

theorem pay1_apply : k0_pay1 x0 x1 (ix2 r j) = x0 (ix2 r j) - x1 (ix2 r j) := by
  pointwise [k0_pay1]

theorem pay2_apply : k0_pay2 x0 x1 (ix2 r j) = (x0 (ix2 r j) - x1 (ix2 r j)) * part := by
  pointwise [k0_pay2, k0_pay1]

theorem pay3_apply : k0_pay3 x0 x1 (ix2 0 0) = ∑ r : Fin 256, mean (row x0 x1 r) := by
  unfold mean
  pointwise [k0_pay3]
  simp only [pay1_apply]

end Body

/-! ## The cases -/

section Cases
variable (c : Dev nD) (i : grid0.Coords) (a1 : Memref sig .tc .vmem S256x2048 .f32) (h1 : a1.IsWhole)
    (a2 : Memref sig .tc .vmem S256x2048 .f32) (h2 : a2.IsWhole) (a3 : Memref sig .tc .vmem S256x2048 .f32) (h3 : a3.IsWhole)
    (a4 : Memref sig .tc .vmem S1x1 .f32) (h4 : a4.IsWhole) (x0 x1 : Vec Ideal S256x2048 .f32)

theorem first2 (hc0 : cond0_0 i) (hc1 : ¬cond0_1 i) : out0_A_2 c i a1 h1 a2 h2 a3 h3 a4 h4 hc0 hc1 x0 x1 = k0_pay2 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero zero2]
  simp only [View.readAt_eq_ld, h1.read_unread, h2.read_unread, View.ld_unit_zero (S := S256x2048) zero2]

theorem first3 (hc0 : cond0_0 i) (hc1 : ¬cond0_1 i) : out0_A_3 c i a1 h1 a2 h2 a3 h3 a4 h4 hc0 hc1 x0 x1 = k0_pay3 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero zero2]
  simp only [View.readAt_eq_ld, h1.read_unread, h2.read_unread, View.ld_unit_zero (S := S256x2048) zero2]

theorem later2 (hc0 : ¬cond0_0 i) (hc1 : cond0_1 i) (xo : Vec Ideal S1x1 .f32) :
    out0_B_2 c i a1 h1 a2 h2 a3 h3 a4 h4 hc0 hc1 x0 x1 xo = k0_pay2 x0 x1 := by
  unfold out0_B_2
  rw [View.read_writes_eq_canon _ _ _ (cover0_B_2 c i a1 h1 a2 h2 a3 h3 a4 h4 hc0 hc1 x0 x1 xo)]
  unfold kernelRun0_B
  dsimp only
  rw [View.canon_unit_zero zero2]
  simp only [View.readAt_eq_ld, h1.read_unread, h2.read_unread, View.ld_unit_zero (S := S256x2048) zero2]

theorem later3 (hc0 : ¬cond0_0 i) (hc1 : cond0_1 i) (xo : Vec Ideal S1x1 .f32) :
    out0_B_3 c i a1 h1 a2 h2 a3 h3 a4 h4 hc0 hc1 x0 x1 xo = addf xo (k0_pay3 x0 x1) := by
  unfold out0_B_3
  rw [View.read_writes_eq_canon _ _ _ (cover0_B_3 c i a1 h1 a2 h2 a3 h3 a4 h4 hc0 hc1 x0 x1 xo)]
  unfold kernelRun0_B
  dsimp only
  rw [View.canon_unit_zero zero2]
  unfold k0_pay4
  simp only [View.readAt_eq_ld, h1.read_unread, h2.read_unread, h4.read_unread, View.ld_unit_zero (S := S256x2048) zero2,
    View.ld_unit_zero (S := S1x1) zero2, shapeCast_self]

end Cases

/-! ## The operands -/

/-- The arguments. -/
def Y (c : Dev nD) : Vec Ideal S4096x2048 .f32 := m ((c : Thread nD τ).loc main_arg0)
def T (c : Dev nD) : Vec Ideal S4096x2048 .f32 := m ((c : Thread nD τ).loc main_arg1)

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0))

theorem y_apply (c : Dev nD) (t : Fin cfg0.N) (i : S256x2048.Idx) :
    (iblk m c 0 t : Vec Ideal S256x2048 .f32) i = at2 (Y m c) (t.val * 256 + (i 0).val) (i 1).val := by
  obtain ⟨⟨a0, a1⟩, -⟩ := index t
  have e : (iblk m c 0 t : Vec Ideal S256x2048 .f32) = (win0_0.blk t).view.read (Elt Ideal) (Y m c : Buf (Elt Ideal) ((c : Thread nD τ).loc main_arg0)) :=
    congrArg ((win0_0.blk t).view.read (Elt Ideal)) (V_main_arg0 m c)
  rw [e, View.read_apply]
  refine (cast_eq _ _).trans (at2_eq _ _ _ _ ?_ ?_)
  · show win0_0.index t 0 * 256 + 1 * (i 0).val = _; rw [a0]; omega
  · show win0_0.index t 1 * 2048 + 1 * (i 1).val = _; rw [a1]; omega

theorem t_apply (c : Dev nD) (t : Fin cfg0.N) (i : S256x2048.Idx) :
    (iblk m c 1 t : Vec Ideal S256x2048 .f32) i = at2 (T m c) (t.val * 256 + (i 0).val) (i 1).val := by
  obtain ⟨-, ⟨a0, a1⟩, -⟩ := index t
  have e : (iblk m c 1 t : Vec Ideal S256x2048 .f32) = (win0_1.blk t).view.read (Elt Ideal) (T m c : Buf (Elt Ideal) ((c : Thread nD τ).loc main_arg1)) :=
    congrArg ((win0_1.blk t).view.read (Elt Ideal)) (V_main_arg1 m c)
  rw [e, View.read_apply]
  refine (cast_eq _ _).trans (at2_eq _ _ _ _ ?_ ?_)
  · show win0_1.index t 0 * 256 + 1 * (i 0).val = _; rw [a0]; omega
  · show win0_1.index t 1 * 2048 + 1 * (i 1).val = _; rw [a1]; omega

/-! ## The results -/

/-- The difference, and a row's mean square. -/
def diff (c : Dev nD) (r k : Nat) : EReal := at2 (Y m c) r k - at2 (T m c) r k
def square (c : Dev nD) (r : Nat) : EReal := mean fun k => diff m c r k.val * diff m c r k.val

def slope (c : Dev nD) : Vec Ideal S4096x2048 .f32 := fun i => (diff m c (i 0).val (i 1).val * part : EReal)
def loss (c : Dev nD) : Vec Ideal S1x1 .f32 := fun _ => (∑ r ∈ Finset.range 4096, square m c r : EReal)

theorem slope_block (c : Dev nD) (t : Fin cfg0.N) (j : S256x2048.Idx) (e : S4096x2048.Idx) (h0 : (e 0).val = t.val * 256 + (j 0).val)
    (h1 : (e 1).val = (j 1).val) : k0_pay2 (iblk m c 0 t) (iblk m c 1 t) j = slope m c e := by
  have key : ∀ r q : Nat, (e 0).val = r → (e 1).val = q → diff m c r q * part = slope m c e := by rintro _ _ rfl rfl; rfl
  refine (congrArg _ (eq_ix2 j)).trans ((pay2_apply _ _ (j 0) (j 1)).trans (Eq.trans ?_ (key _ (j 1).val h0 h1)))
  exact congrArg₂ (fun u v : EReal => (u - v) * part) (y_apply m c t _) (t_apply m c t _)

theorem loss_block (c : Dev nD) (t : Fin cfg0.N) (j : S1x1.Idx) :
    k0_pay3 (iblk m c 0 t) (iblk m c 1 t) j = ∑ r ∈ Finset.range 256, square m c (t.val * 256 + r) := by
  have e : j = ix2 0 0 := funext fun a => match a with
    | ⟨0, _⟩ => Fin.ext (Nat.lt_one_iff.mp (j 0).isLt)
    | ⟨1, _⟩ => Fin.ext (Nat.lt_one_iff.mp (j 1).isLt)
  rw [Finset.sum_range]
  refine (congrArg _ e).trans ((pay3_apply _ _).trans (Finset.sum_congr rfl fun r _ => congrArg mean (funext fun k => ?_)))
  exact congrArg₂ (fun u v : EReal => (u - v) * (u - v)) (y_apply m c t _) (t_apply m c t _)

theorem outs2 (c : Dev nD) (t : Fin cfg0.N) : (outsAt0 m c t.val t.isLt).1 = k0_pay2 (iblk m c 0 t) (iblk m c 1 t) := by
  have hN : cfg0.N = 16 := N_0
  have ht := t.isLt
  by_cases h : t.val = 0
  · rw [outsAt0_A m c t (by omega) (by omega)]
    dsimp only
    rw [first2]
  · rw [outsAt0_B m c t (by omega) (by omega)]
    dsimp only
    rw [later2]

theorem outs3 (c : Dev nD) : ∀ (n : Nat) (h : n < cfg0.N) (j : S1x1.Idx),
    (outsAt0 m c n h).2 j = ∑ r ∈ Finset.range ((n + 1) * 256), square m c r := by
  intro n
  induction n with
  | zero =>
    intro h j
    rw [outsAt0_A m c ⟨0, h⟩ rfl (by show ¬1 ≤ 0; decide)]
    dsimp only
    rw [first3]
    refine (loss_block m c ⟨0, h⟩ j).trans ?_
    refine Finset.sum_congr rfl fun r _ => congrArg (square m c) ?_
    show 0 * 256 + r = r; omega
  | succ n ih =>
    intro h j
    have hN : cfg0.N = 16 := N_0
    rw [outsAt0_B m c ⟨n + 1, h⟩ (by show ¬(n + 1) % 16 = 0; omega) (by show 1 ≤ n + 1; omega)]
    dsimp only
    rw [later3]
    rw [Nat.succ_mul (n + 1), Finset.sum_range_add]
    exact congrArg₂ (fun u v : EReal => u + v) (ih _ j) (loss_block m c ⟨n + 1, h⟩ j)

theorem flushed2_eq (c : Dev nD) (t : Fin cfg0.N) :
    (dats m 0 c).flushed 2 t = (win0_2.blk t).view.read (Elt Ideal) (slope m c : Buf (Elt Ideal) ((c : Thread nD τ).loc main_v0_0)) := by
  obtain ⟨-, -, ⟨e0, e1⟩, -⟩ := index t
  refine (Value.flushed2 m c t).trans ?_
  rw [outs2]
  funext (j : S256x2048.Idx)
  rw [View.read_apply]
  refine slope_block m c t j ((win0_2.blk t).view.emb j) ?_ ?_
  · show win0_2.index t 0 * 256 + 1 * (j 0).val = _; rw [e0]; omega
  · show win0_2.index t 1 * 2048 + 1 * (j 1).val = _; rw [e1]; omega

theorem flushed3_eq (c : Dev nD) (t : Fin cfg0.N) (hf : (cfg0.win 3).flush t = true) :
    (dats m 0 c).flushed 3 t = (win0_3.blk t).view.read (Elt Ideal) (loss m c : Buf (Elt Ideal) ((c : Thread nD τ).loc main_v0_1)) := by
  have h3 : t.val = 15 := by have := (flush0_3 t).mp hf; have := t.isLt; have hN : cfg0.N = 16 := N_0; omega
  refine (Value.flushed3 m c t).trans ?_
  funext (j : S1x1.Idx)
  refine (outs3 m c t.val t.isLt j).trans ?_
  rw [h3]; rfl

/-- The grid point that writes a row. -/
def point (i : S4096x2048.Idx) : Fin cfg0.N := ⟨(i 0).val / 256, by
  have h0 : (i 0).val < 4096 := (i 0).isLt
  have hN : cfg0.N = 16 := N_0
  omega⟩

theorem final2 (c : Dev nD) : (dats m 0 c).arrAt 2 cfg0.N = slope m c :=
  (dats m 0 c).arrAt_eq_of_cover 2 (slope m c : Buf (Elt Ideal) ((c : Thread nD τ).loc main_v0_0)) (fun t _ => flushed2_eq m c t) fun (i : S4096x2048.Idx) => by
    obtain ⟨-, -, ⟨e0, e1⟩, -⟩ := index (point i)
    have h1 : (i 1).val < 2048 := (i 1).isLt
    refine ⟨point i, flush0_2 _, ?_⟩
    show i ∈ ((View.whole main_v0_0).slice (win0_2.rect (point i))).set
    rw [View.set_slice_whole, Rect.mem_set_unit]
    intro a
    match a with
    | ⟨0, _⟩ => show win0_2.index (point i) 0 * 256 ≤ (i 0).val ∧ (i 0).val < win0_2.index (point i) 0 * 256 + 256; rw [e0]; unfold point; dsimp only; omega
    | ⟨1, _⟩ => show win0_2.index (point i) 1 * 2048 ≤ (i 1).val ∧ (i 1).val < win0_2.index (point i) 1 * 2048 + 2048; rw [e1]; omega

/-- The last grid point. -/
def last : Fin cfg0.N := ⟨15, by have hN : cfg0.N = 16 := N_0; omega⟩

theorem final3 (c : Dev nD) : (dats m 0 c).arrAt 3 cfg0.N = loss m c :=
  (dats m 0 c).arrAt_eq_of_cover 3 (loss m c : Buf (Elt Ideal) ((c : Thread nD τ).loc main_v0_1)) (fun t h => flushed3_eq m c t h) fun (i : S1x1.Idx) => by
    have h0 : (i 0).val < 1 := (i 0).isLt
    have h1 : (i 1).val < 1 := (i 1).isLt
    obtain ⟨-, -, -, e0, e1⟩ := index last
    refine ⟨last, (flush0_3 _).mpr rfl, ?_⟩
    show i ∈ ((View.whole main_v0_1).slice (win0_3.rect last)).set
    rw [View.set_slice_whole, Rect.mem_set_unit]
    intro a
    match a with
    | ⟨0, _⟩ => show win0_3.index last 0 * 1 ≤ (i 0).val ∧ (i 0).val < win0_3.index last 0 * 1 + 1; rw [e0]; omega
    | ⟨1, _⟩ => show win0_3.index last 1 * 1 ≤ (i 1).val ∧ (i 1).val < win0_3.index last 1 * 1 + 1; rw [e1]; omega

/-! ## The reference -/

/-- Half over 2048, of a double. -/
theorem halved (x : EReal) : Ideal.div (Ideal.ofBits .f32 0x3F000000#32 * Ideal.ofBits .f32 0x3F800000#32) (Ideal.ofBits .f32 0x45000000#32)
    * (Ideal.ofBits .f32 0x40000000#32 * x) = x * part := by
  have e1 : Ideal.ofBits .f32 0x3F000000#32 = ((1 / 2 : ℝ) : EReal) := by simp [Ideal.ofBits, Ideal.ieee, ← EReal.coe_mul]; norm_num
  have e2 : Ideal.ofBits .f32 0x3F800000#32 = ((1 : ℝ) : EReal) := by simp [Ideal.ofBits, Ideal.ieee, ← EReal.coe_mul]; norm_num
  have e3 : Ideal.ofBits .f32 0x45000000#32 = ((2048 : ℝ) : EReal) := by simp [Ideal.ofBits, Ideal.ieee, ← EReal.coe_mul]; norm_num
  have e4 : Ideal.ofBits .f32 0x40000000#32 = ((2 : ℝ) : EReal) := by simp [Ideal.ofBits, Ideal.ieee, ← EReal.coe_mul]; norm_num
  have e5 : part = ((1 / 2048 : ℝ) : EReal) := by
    show Ideal.ofBits .f32 0x3A000000#32 = _; simp [Ideal.ofBits, Ideal.ieee, ← EReal.coe_mul]; norm_num
  rw [e1, e2, e3, e4, e5, Ideal.div_coe (by norm_num), ← mul_assoc, ← EReal.coe_mul, ← EReal.coe_mul, ← EReal.coe_mul, mul_comm]
  norm_num

section Reference
open Cert.ReferenceLossHeadIdeal.Read

theorem diff_at (c : Dev nD) (i : S4096x2048.Idx) (r k : Nat) (h0 : (i 0).val = r) (h1 : (i 1).val = k) :
    Y m c i - T m c i = diff m c r k :=
  congrArg₂ (fun u v : EReal => u - v) (at2_eq (Y m c) i _ _ h0 h1) (at2_eq (T m c) i _ _ h0 h1)

theorem slope_eq (c : Dev nD) : slope m c = val_main_v14 (F := Ideal) (Y m c) (T m c) := by
  funext (i : S4096x2048.Idx)
  rw [val_main_v14_apply, val_main_v13_apply, val_main_v12_apply, val_main_v3_apply, val_main_v0_apply]
  exact ((halved _).trans (congrArg (fun u : EReal => u * part) (diff_at m c i _ _ rfl rfl))).symm

theorem square_at (c : Dev nD) (i : (⟨1, ![4096]⟩ : Shape).Idx) : val_main_v19 (F := Ideal) (Y m c) (T m c) i = square m c (i 0).val := by
  rw [val_main_v19_apply, val_main_v17_apply]
  refine congrArg (fun u : EReal => FloatOps.divf (F := Ideal) (φ := .f32) u size) ?_
  refine (congrArg₂ (fun u v : EReal => u + v) zeroBits (Finset.sum_congr rfl fun k _ => ?_)).trans (zero_add _)
  rw [val_main_v16_apply, val_main_v15_apply]
  exact congrArg (fun u : EReal => u * u) (diff_at m c _ _ _ rfl rfl)

theorem total_at (c : Dev nD) (i : (⟨0, ![]⟩ : Shape).Idx) :
    val_main_v20 (F := Ideal) (Y m c) (T m c) i = ∑ r ∈ Finset.range 4096, square m c r := by
  rw [val_main_v20_apply]
  exact (congrArg₂ (fun u v : EReal => u + v) zeroBits (sum_vector _ (square m c) (square_at m c))).trans (zero_add _)

theorem loss_eq (c : Dev nD) : loss m c = val_main_v21 (F := Ideal) (Y m c) (T m c) := by
  unfold loss val_main_v21
  rw [show val_main_v20 (F := Ideal) (Y m c) (T m c) = fun _ => ∑ r ∈ Finset.range 4096, square m c r from funext (total_at m c)]
  generalize (∑ r ∈ Finset.range 4096, square m c r : EReal) = z
  rfl

end Reference

theorem algebraic : Cert.algebraic_KernelLossHeadIdeal_ReferenceLossHeadIdeal := by
  intro m ρ m' ρ' _ hagree
  refine ⟨fun c => slope m c, fun c => loss m c, (θ_run defs _ _).mono (fun _ h c =>
    ⟨(h c).1.trans (final2 m c), (h c).2.1.trans (final3 m c), (h c).2.2⟩) (Value.run_blocks m ρ), ?_⟩
  refine (θ_run Cert.ReferenceLossHeadIdeal.defs _ _).mono (fun _ h c => ?_) (Cert.ReferenceLossHeadIdeal.Value.run (F := Ideal) m' ρ')
  obtain ⟨a0, a1⟩ := hagree c
  obtain ⟨h0, h1, ht⟩ := h c
  refine ⟨h0.trans ?_, h1.trans ?_, ht⟩
  · refine (Cert.ReferenceLossHeadIdeal.Read.val_main_v14_eq _ _).trans ?_
    rw [a0, a1]
    exact (slope_eq m c).symm
  · refine (Cert.ReferenceLossHeadIdeal.Read.val_main_v21_eq _ _).trans ?_
    rw [a0, a1]
    exact (loss_eq m c).symm

end Cert.LossHead

end
-- ==== Proof.MmDown.lean ====
module

public import proofs.«01_k».proof.Defs
public import proofs.«01_k».proof.Proof.Gen.KernelMmDownIdeal.Value
public import proofs.«01_k».proof.Proof.Gen.ReferenceMmDownIdeal.Run
public import proofs.«01_k».proof.Proof.Gen.ReferenceMmDownIdeal.Read
public import proofs.«01_k».proof.Proof.Products

@[expose] public section

set_option maxRecDepth 16384

noncomputable section

/-! The down projection. -/

namespace Cert.MmDown

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelMmDownIdeal Cert.KernelMmDownIdeal.Gen

variable (m : (ℓ : Loc nD τ sig) → Buf (Elt Ideal) ℓ) (ρ : Dev nD → PrngReg)

/-- One block of the product. -/
def block (x0 : Vec Ideal S512x5632 .bf16) (x1 : Vec Ideal S1x5632x1024 .bf16) (j : S1x512x1024.Idx) : EReal :=
  ∑ k : Fin 5632, x0 (ix2 (j 1) k) * x1 (ix3 0 k (j 2))

theorem out_apply (c : Dev nD) (i : grid0.Coords) (a3 : Memref sig .tc .vmem S512x5632 .bf16) (h3 : a3.IsWhole)
    (a4 : Memref sig .tc .vmem S1x5632x1024 .bf16) (h4 : a4.IsWhole) (a5 : Memref sig .tc .vmem S1x512x1024 .f32) (h5 : a5.IsWhole)
    (hc0 : cond0_0 i) (hc1 : ¬cond0_1 i) (x0 : Vec Ideal S512x5632 .bf16) (x1 : Vec Ideal S1x5632x1024 .bf16) (j : S1x512x1024.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S512x5632) zero2,
    View.ld_unit_zero (S := S1x5632x1024) zero3, shapeCast_self]
  exact rows_cols 512 5632 1024 none x0 x1 _ _ j

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

/-- The arguments. -/
def X (c : Dev nD) : Vec Ideal S4096x5504 .f32 := m ((c : Thread nD τ).loc main_arg0)
def W (c : Dev nD) : Vec Ideal S5504x2048 .f32 := m ((c : Thread nD τ).loc main_arg1)

/-- The host's preparation of the operands. -/
def left (c : Dev nD) : Vec Ideal S4096x5632 .bf16 := V m c main_v3
def right (c : Dev nD) : Vec Ideal S1x5632x2048 .bf16 := V m c main_v7

theorem left_eq (c : Dev nD) (i : S4096x5632.Idx) (r f : Nat) (hr : (i 0).val = r) (hf : (i 1).val = f) :
    left m c i = chunked (at2 (X m c) r) f := by
  have e : left m c = shapeCast S4096x5632 (truncf .bf16
      (pad S4096x4x1408 ![0, 0, 0] ![0, 0, 32] ![0, 0, 0]
        (shapeCast S4096x4x1376 (X m c) shapeCasts_S4096x5504_S4096x4x1376)
        (sitofp .f32 (constantI S_ 32 0#32)) pads_S4096x4x1376_S4096x4x1408_000_000_0320 h_S_ : FVec Ideal S4096x4x1408 .f32) bitsLt_bf16_f32)
      shapeCasts_S4096x4x1408_S4096x5632 := by
    unfold left V
    simp only [hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hr, ← hf]
  exact merge_cols 4 1408 4096 5632 _ (fun r f => chunked (at2 (X m c) r) f)
    (pad_cols 4 4096 (shapeCast S4096x4x1376 (X m c) shapeCasts_S4096x5504_S4096x4x1376) (at2 (X m c))
      (split_cols 4 1376 4096 5504 _ rfl _) h_S_ (sitofp .f32 (constantI S_ 32 0#32)) rfl pads_S4096x4x1376_S4096x4x1408_000_000_0320) rfl _ i

theorem right_eq (c : Dev nD) (i : S1x5632x2048.Idx) (f n : Nat) (hf : (i 1).val = f) (hn : (i 2).val = n) :
    right m c i = chunked (fun k => at2 (W m c) k n) f := by
  have e : right m c = shapeCast S1x5632x2048 (truncf .bf16
      (pad S4x1408x2048 ![0, 0, 0] ![0, 32, 0] ![0, 0, 0]
        (shapeCast S4x1376x2048 (W m c) shapeCasts_S5504x2048_S4x1376x2048)
        (sitofp .f32 (constantI S_ 32 0#32)) pads_S4x1376x2048_S4x1408x2048_000_0320_000 h_S_ : FVec Ideal S4x1408x2048 .f32) bitsLt_bf16_f32)
      shapeCasts_S4x1408x2048_S1x5632x2048 := by
    unfold right V
    simp only [hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hf, ← hn]
  exact merge_rows 4 1408 2048 5632 _ (fun f n => chunked (fun k => at2 (W m c) k n) f)
    (pad_rows 4 2048 (shapeCast S4x1376x2048 (W m c) shapeCasts_S5504x2048_S4x1376x2048) (at2 (W m c))
      (split_rows 4 1376 2048 5504 _ rfl _) h_S_ (sitofp .f32 (constantI S_ 32 0#32)) rfl pads_S4x1376x2048_S4x1408x2048_000_0320_000) rfl _ i

/-- The blocks of the operands. -/
theorem left_apply (c : Dev nD) (t : Fin cfg0.N) (i : S512x5632.Idx) :
    (iblk m c 0 t : Vec Ideal S512x5632 .bf16) i = chunked (at2 (X m c) (t.val / 2 * 512 + (i 0).val)) (i 1) := by
  obtain ⟨a0, a1⟩ := index0 t
  have e : (iblk m c 0 t : Vec Ideal S512x5632 .bf16)
      = (win0_0.blk t).view.read (Elt Ideal) (left m c : Buf (Elt Ideal) ((c : Thread nD τ).loc main_v3)) := rfl
  rw [e, View.read_apply]
  refine (cast_eq _ _).trans (left_eq m c _ _ _ ?_ ?_)
  · show win0_0.index t 0 * 512 + 1 * (i 0).val = _; rw [a0]; omega
  · show win0_0.index t 1 * 5632 + 1 * (i 1).val = _; rw [a1]; omega

theorem right_apply (c : Dev nD) (t : Fin cfg0.N) (i : S1x5632x1024.Idx) :
    (iblk m c 1 t : Vec Ideal S1x5632x1024 .bf16) i = chunked (fun k => at2 (W m c) k (t.val % 2 * 1024 + (i 2).val)) (i 1) := by
  obtain ⟨a0, a1, a2⟩ := index1 t
  have e : (iblk m c 1 t : Vec Ideal S1x5632x1024 .bf16)
      = (win0_1.blk t).view.read (Elt Ideal) (right m c : Buf (Elt Ideal) ((c : Thread nD τ).loc main_v7)) := rfl
  rw [e, View.read_apply]
  refine (cast_eq _ _).trans (right_eq m c _ _ _ ?_ ?_)
  · show win0_1.index t 1 * 5632 + 1 * (i 1).val = _; rw [a1]; omega
  · show win0_1.index t 2 * 1024 + 1 * (i 2).val = _; rw [a2]; omega

/-- The result. -/
def result (c : Dev nD) : Buf (Elt Ideal) ((c : Thread nD τ).loc main_v8) := fun i : S1x4096x2048.Idx =>
  (∑ k : Fin 5632, chunked (at2 (X m c) (i 1)) k * chunked (fun n => at2 (W m c) n (i 2)) k : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x512x1024.Idx)
  refine (out_apply c _ _ _ _ _ _ _ _ _ _ _ j).trans ?_
  rw [View.read_apply]
  have key : ∀ e : S1x4096x2048.Idx, (e 1).val = t.val / 2 * 512 + (j 1).val → (e 2).val = t.val % 2 * 1024 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 512 + 1 * (j 1).val = _; rw [e1]; omega
  · show win0_2.index t 2 * 1024 + 1 * (j 2).val = _; rw [e2]; omega

theorem mem_blk (t : Fin cfg0.N) (i : S1x4096x2048.Idx) (h1 : (i 1).val / 512 = t.val / 2) (h2 : (i 2).val / 1024 = t.val % 2) :
    i ∈ ((cfg0.win 2).blk t).view.set := by
  obtain ⟨e0, e1, e2⟩ := index2 t
  have b0 : (i 0).val < 1 := (i 0).isLt
  have b1 : (i 1).val < 4096 := (i 1).isLt
  have b2 : (i 2).val < 2048 := (i 2).isLt
  show i ∈ ((View.whole main_v8).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 512 ≤ (i 1).val ∧ (i 1).val < win0_2.index t 1 * 512 + 512; rw [e1]; omega
  | ⟨2, _⟩ => show win0_2.index t 2 * 1024 ≤ (i 2).val ∧ (i 2).val < win0_2.index t 2 * 1024 + 1024; rw [e2]; omega

theorem final (c : Dev nD) : (dats m 0 c).arrAt 2 cfg0.N = result m c :=
  (dats m 0 c).arrAt_eq_of_cover 2 (result m c) (fun t _ => flushed_eq m c t) fun (i : S1x4096x2048.Idx) => by
    have h0 : (i 0).val < 1 := (i 0).isLt
    have h1 : (i 1).val < 4096 := (i 1).isLt
    have h2 : (i 2).val < 2048 := (i 2).isLt
    have hN : cfg0.N = 16 := N_0
    exact ⟨⟨(i 1).val / 512 * 2 + (i 2).val / 1024, by omega⟩, flush0_2 _, mem_blk _ i (by dsimp only; omega) (by dsimp only; omega)⟩

/-- The reference's array. -/
theorem result_eq (c : Dev nD) : result m c = Cert.ReferenceMmDownIdeal.Read.val_main_v1 (F := Ideal) (X m c) (W m c) := by
  funext (i : S1x4096x2048.Idx)
  refine (sum_chunks 4 (at2 (X m c) (i 1)) (fun n => at2 (W m c) n (i 2)) 5632 5504 rfl rfl).trans ?_
  rw [Cert.ReferenceMmDownIdeal.Read.val_main_v1_apply, Cert.ReferenceMmDownIdeal.Read.val_main_v0_apply]
  refine Eq.symm (@Finset.sum_congr _ EReal _ _ _ _ _ rfl fun k _ => congrArg₂ (fun u v : EReal => u * v) (at2_eq (X m c) _ _ _ rfl rfl) (at2_eq (W m c) _ _ _ rfl rfl))

theorem algebraic : Cert.algebraic_KernelMmDownIdeal_ReferenceMmDownIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceMmDownIdeal.defs _ _).mono (fun _ h c => ?_) (Cert.ReferenceMmDownIdeal.Value.run (F := Ideal) m' ρ')
  refine ⟨(h c).1.trans ?_, (h c).2⟩
  refine (Cert.ReferenceMmDownIdeal.Read.val_main_v1_eq _ _).trans ?_
  rw [(hagree c).1, (hagree c).2]
  exact (result_eq m c).symm

end Cert.MmDown

end
-- ==== Proof.MmIn.lean ====
module

public import proofs.«01_k».proof.Defs
public import proofs.«01_k».proof.Proof.Gen.KernelMmInIdeal.Value
public import proofs.«01_k».proof.Proof.Gen.ReferenceMmInIdeal.Run
public import proofs.«01_k».proof.Proof.Gen.ReferenceMmInIdeal.Read
public import proofs.«01_k».proof.Proof.Products

@[expose] public section

set_option maxRecDepth 16384

noncomputable section

/-! The input projection. -/

namespace Cert.MmIn

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelMmInIdeal Cert.KernelMmInIdeal.Gen

variable (m : (ℓ : Loc nD τ sig) → Buf (Elt Ideal) ℓ) (ρ : Dev nD → PrngReg)

/-- One block of the product. -/
def block (x0 : Vec Ideal S1024x2048 .bf16) (x1 : Vec Ideal S1x2048x640 .bf16) (j : S1x1024x640.Idx) : EReal :=
  ∑ k : Fin 2048, x0 (ix2 (j 1) k) * x1 (ix3 0 k (j 2))

theorem out_apply (c : Dev nD) (i : grid0.Coords) (a3 : Memref sig .tc .vmem S1024x2048 .bf16) (h3 : a3.IsWhole)
    (a4 : Memref sig .tc .vmem S1x2048x640 .bf16) (h4 : a4.IsWhole) (a5 : Memref sig .tc .vmem S1x1024x640 .f32) (h5 : a5.IsWhole)
    (hc0 : cond0_0 i) (hc1 : ¬cond0_1 i) (x0 : Vec Ideal S1024x2048 .bf16) (x1 : Vec Ideal S1x2048x640 .bf16) (j : S1x1024x640.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S1024x2048) zero2,
    View.ld_unit_zero (S := S1x2048x640) zero3, shapeCast_self]
  exact rows_cols 1024 2048 640 none x0 x1 _ _ j

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem index2 : ∀ t : Fin cfg0.N, win0_2.index t 0 = 0 ∧ win0_2.index t 1 = t.val / 4 ∧ win0_2.index t 2 = t.val % 4 :=
  (by decide +kernel : ∀ t : Fin grid0.N, win0_2.index t 0 = 0 ∧ win0_2.index t 1 = t.val / 4 ∧ win0_2.index t 2 = t.val % 4)

/-- The arguments. -/
def X (c : Dev nD) : Vec Ideal S4096x2048 .f32 := m ((c : Thread nD τ).loc main_arg0)
def W (c : Dev nD) : Vec Ideal S2048x2560 .f32 := m ((c : Thread nD τ).loc main_arg1)

/-- The host's preparation of the operands. -/
def left (c : Dev nD) : Vec Ideal S4096x2048 .bf16 := V m c main_v0
def right (c : Dev nD) : Vec Ideal S4x2048x640 .bf16 := V m c main_v3

theorem left_eq (c : Dev nD) (i : S4096x2048.Idx) (r k : Nat) (hr : (i 0).val = r) (hk : (i 1).val = k) :
    left m c i = at2 (X m c) r k := by
  have e : left m c = (truncf .bf16 (X m c : FVec Ideal S4096x2048 .f32) bitsLt_bf16_f32 : FVec Ideal S4096x2048 .bf16) := by
    unfold left V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hr hk

theorem right_eq (c : Dev nD) (i : S4x2048x640.Idx) (k n : Nat) (hk : (i 1).val = k) (hn : (i 0).val * 640 + (i 2).val = n) :
    right m c i = at2 (W m c) k n := by
  have e : right m c = transpose S4x2048x640 [1, 0, 2] (shapeCast S2048x4x640
      (truncf .bf16 (W m c : FVec Ideal S2048x2560 .f32) bitsLt_bf16_f32 : FVec Ideal S2048x2560 .bf16) shapeCasts_S2048x2560_S2048x4x640)
      transposes_S2048x4x640_S4x2048x640_1_0_2 := by
    unfold right V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hk, ← hn]
  exact (swap_apply 4 2048 640 _ _ i).trans (split_cols 4 640 2048 2560 (W m c) rfl _ _)

/-- The blocks of the operands. -/
theorem left_apply (c : Dev nD) (t : Fin cfg0.N) (i : S1024x2048.Idx) :
    (iblk m c 0 t : Vec Ideal S1024x2048 .bf16) i = at2 (X m c) (t.val / 4 * 1024 + (i 0).val) (i 1) := by
  obtain ⟨a0, a1⟩ := index0 t
  have e : (iblk m c 0 t : Vec Ideal S1024x2048 .bf16)
      = (win0_0.blk t).view.read (Elt Ideal) (left m c : Buf (Elt Ideal) ((c : Thread nD τ).loc main_v0)) := rfl
  rw [e, View.read_apply]
  refine (cast_eq _ _).trans (left_eq m c _ _ _ ?_ ?_)
  · show win0_0.index t 0 * 1024 + 1 * (i 0).val = _; rw [a0]; omega
  · show win0_0.index t 1 * 2048 + 1 * (i 1).val = _; rw [a1]; omega

theorem right_apply (c : Dev nD) (t : Fin cfg0.N) (i : S1x2048x640.Idx) :
    (iblk m c 1 t : Vec Ideal S1x2048x640 .bf16) i = at2 (W m c) (i 1) (t.val % 4 * 640 + (i 2).val) := by
  obtain ⟨a0, a1, a2⟩ := index1 t
  have e : (iblk m c 1 t : Vec Ideal S1x2048x640 .bf16)
      = (win0_1.blk t).view.read (Elt Ideal) (right m c : Buf (Elt Ideal) ((c : Thread nD τ).loc main_v3)) := rfl
  rw [e, View.read_apply]
  refine (cast_eq _ _).trans (right_eq m c _ _ _ ?_ ?_)
  · show win0_1.index t 1 * 2048 + 1 * (i 1).val = _; rw [a1]; omega
  · show (win0_1.index t 0 * 1 + 1 * (i 0).val) * 640 + (win0_1.index t 2 * 640 + 1 * (i 2).val) = _; rw [a0, a2]; have b0 : (i 0).val < 1 := (i 0).isLt; omega

/-- The result. -/
def result (c : Dev nD) : Buf (Elt Ideal) ((c : Thread nD τ).loc main_v4) := fun i : S1x4096x2560.Idx =>
  (∑ k : Fin 2048, at2 (X m c) (i 1) k * at2 (W m c) k (i 2) : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x1024x640.Idx)
  refine (out_apply c _ _ _ _ _ _ _ _ _ _ _ j).trans ?_
  rw [View.read_apply]
  have key : ∀ e : S1x4096x2560.Idx, (e 1).val = t.val / 4 * 1024 + (j 1).val → (e 2).val = t.val % 4 * 640 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 1024 + 1 * (j 1).val = _; rw [e1]; omega
  · show win0_2.index t 2 * 640 + 1 * (j 2).val = _; rw [e2]; omega

theorem mem_blk (t : Fin cfg0.N) (i : S1x4096x2560.Idx) (h1 : (i 1).val / 1024 = t.val / 4) (h2 : (i 2).val / 640 = t.val % 4) :
    i ∈ ((cfg0.win 2).blk t).view.set := by
  obtain ⟨e0, e1, e2⟩ := index2 t
  have b0 : (i 0).val < 1 := (i 0).isLt
  have b1 : (i 1).val < 4096 := (i 1).isLt
  have b2 : (i 2).val < 2560 := (i 2).isLt
  show i ∈ ((View.whole main_v4).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 1024 ≤ (i 1).val ∧ (i 1).val < win0_2.index t 1 * 1024 + 1024; rw [e1]; omega
  | ⟨2, _⟩ => show win0_2.index t 2 * 640 ≤ (i 2).val ∧ (i 2).val < win0_2.index t 2 * 640 + 640; rw [e2]; omega

theorem final (c : Dev nD) : (dats m 0 c).arrAt 2 cfg0.N = result m c :=
  (dats m 0 c).arrAt_eq_of_cover 2 (result m c) (fun t _ => flushed_eq m c t) fun (i : S1x4096x2560.Idx) => by
    have h0 : (i 0).val < 1 := (i 0).isLt
    have h1 : (i 1).val < 4096 := (i 1).isLt
    have h2 : (i 2).val < 2560 := (i 2).isLt
    have hN : cfg0.N = 16 := N_0
    exact ⟨⟨(i 1).val / 1024 * 4 + (i 2).val / 640, by omega⟩, flush0_2 _, mem_blk _ i (by dsimp only; omega) (by dsimp only; omega)⟩

/-- The reference's array. -/
theorem result_eq (c : Dev nD) : result m c = Cert.ReferenceMmInIdeal.Read.val_main_v1 (F := Ideal) (X m c) (W m c) := by
  funext (i : S1x4096x2560.Idx)
  rw [Cert.ReferenceMmInIdeal.Read.val_main_v1_apply, Cert.ReferenceMmInIdeal.Read.val_main_v0_apply]
  refine Eq.symm (@Finset.sum_congr _ EReal _ _ _ _ _ rfl fun k _ => congrArg₂ (fun u v : EReal => u * v) (at2_eq (X m c) _ _ _ rfl rfl) (at2_eq (W m c) _ _ _ rfl rfl))

theorem algebraic : Cert.algebraic_KernelMmInIdeal_ReferenceMmInIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceMmInIdeal.defs _ _).mono (fun _ h c => ?_) (Cert.ReferenceMmInIdeal.Value.run (F := Ideal) m' ρ')
  refine ⟨(h c).1.trans ?_, (h c).2⟩
  refine (Cert.ReferenceMmInIdeal.Read.val_main_v1_eq _ _).trans ?_
  rw [(hagree c).1, (hagree c).2]
  exact (result_eq m c).symm

end Cert.MmIn

end
-- ==== Proof.MmOut.lean ====
module

public import proofs.«01_k».proof.Defs
public import proofs.«01_k».proof.Proof.Gen.KernelMmOutIdeal.Value
public import proofs.«01_k».proof.Proof.Gen.ReferenceMmOutIdeal.Run
public import proofs.«01_k».proof.Proof.Gen.ReferenceMmOutIdeal.Read
public import proofs.«01_k».proof.Proof.Products

@[expose] public section

set_option maxRecDepth 16384

noncomputable section

/-! The output projection. -/

namespace Cert.MmOut

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelMmOutIdeal Cert.KernelMmOutIdeal.Gen

variable (m : (ℓ : Loc nD τ sig) → Buf (Elt Ideal) ℓ) (ρ : Dev nD → PrngReg)

/-- One block of the product. -/
def block (x0 : Vec Ideal S1024x2048 .bf16) (x1 : Vec Ideal S1x2048x1024 .bf16) (j : S1x1024x1024.Idx) : EReal :=
  ∑ k : Fin 2048, x0 (ix2 (j 1) k) * x1 (ix3 0 k (j 2))

theorem out_apply (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1x1024x1024 .f32) (h5 : a5.IsWhole)
    (hc0 : cond0_0 i) (hc1 : ¬cond0_1 i) (x0 : Vec Ideal S1024x2048 .bf16) (x1 : Vec Ideal S1x2048x1024 .bf16) (j : S1x1024x1024.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S1024x2048) zero2,
    View.ld_unit_zero (S := S1x2048x1024) zero3, shapeCast_self]
  exact rows_cols 1024 2048 1024 none x0 x1 _ _ j

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

/-- The arguments. -/
def X (c : Dev nD) : Vec Ideal S4096x2048 .f32 := m ((c : Thread nD τ).loc main_arg0)
def W (c : Dev nD) : Vec Ideal S2048x2048 .f32 := m ((c : Thread nD τ).loc main_arg1)

/-- The host's preparation of the operands. -/
def left (c : Dev nD) : Vec Ideal S4096x2048 .bf16 := V m c main_v0
def right (c : Dev nD) : Vec Ideal S1x2048x2048 .bf16 := V m c main_v2

theorem left_eq (c : Dev nD) (i : S4096x2048.Idx) (r k : Nat) (hr : (i 0).val = r) (hk : (i 1).val = k) :
    left m c i = at2 (X m c) r k := by
  have e : left m c = (truncf .bf16 (X m c : FVec Ideal S4096x2048 .f32) bitsLt_bf16_f32 : FVec Ideal S4096x2048 .bf16) := by
    unfold left V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hr hk

theorem right_eq (c : Dev nD) (i : S1x2048x2048.Idx) (k n : Nat) (hk : (i 1).val = k) (hn : (i 2).val = n) :
    right m c i = at2 (W m c) k n := by
  have e : right m c = broadcastInDim S1x2048x2048 ![1, 2] bcast_S2048x2048_S1x2048x2048_1_2
      (truncf .bf16 (W m c : FVec Ideal S2048x2048 .f32) bitsLt_bf16_f32 : FVec Ideal S2048x2048 .bf16) := by
    unfold right V
    simp only [hostOps0, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (W m c) _ _ _ hk hn

/-- The blocks of the operands. -/
theorem left_apply (c : Dev nD) (t : Fin cfg0.N) (i : S1024x2048.Idx) :
    (iblk m c 0 t : Vec Ideal S1024x2048 .bf16) i = at2 (X m c) (t.val / 2 * 1024 + (i 0).val) (i 1) := by
  obtain ⟨a0, a1⟩ := index0 t
  have e : (iblk m c 0 t : Vec Ideal S1024x2048 .bf16)
      = (win0_0.blk t).view.read (Elt Ideal) (left m c : Buf (Elt Ideal) ((c : Thread nD τ).loc main_v0)) := rfl
  rw [e, View.read_apply]
  refine (cast_eq _ _).trans (left_eq m c _ _ _ ?_ ?_)
  · show win0_0.index t 0 * 1024 + 1 * (i 0).val = _; rw [a0]; omega
  · show win0_0.index t 1 * 2048 + 1 * (i 1).val = _; rw [a1]; omega

theorem right_apply (c : Dev nD) (t : Fin cfg0.N) (i : S1x2048x1024.Idx) :
    (iblk m c 1 t : Vec Ideal S1x2048x1024 .bf16) i = at2 (W m c) (i 1) (t.val % 2 * 1024 + (i 2).val) := by
  obtain ⟨a0, a1, a2⟩ := index1 t
  have e : (iblk m c 1 t : Vec Ideal S1x2048x1024 .bf16)
      = (win0_1.blk t).view.read (Elt Ideal) (right m c : Buf (Elt Ideal) ((c : Thread nD τ).loc main_v2)) := rfl
  rw [e, View.read_apply]
  refine (cast_eq _ _).trans (right_eq m c _ _ _ ?_ ?_)
  · show win0_1.index t 1 * 2048 + 1 * (i 1).val = _; rw [a1]; omega
  · show win0_1.index t 2 * 1024 + 1 * (i 2).val = _; rw [a2]; omega

/-- The result. -/
def result (c : Dev nD) : Buf (Elt Ideal) ((c : Thread nD τ).loc main_v3) := fun i : S1x4096x2048.Idx =>
  (∑ k : Fin 2048, at2 (X m c) (i 1) k * at2 (W m c) k (i 2) : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x1024x1024.Idx)
  refine (out_apply c _ _ _ _ _ _ _ _ _ _ _ j).trans ?_
  rw [View.read_apply]
  have key : ∀ e : S1x4096x2048.Idx, (e 1).val = t.val / 2 * 1024 + (j 1).val → (e 2).val = t.val % 2 * 1024 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 1024 + 1 * (j 1).val = _; rw [e1]; omega
  · show win0_2.index t 2 * 1024 + 1 * (j 2).val = _; rw [e2]; omega

theorem mem_blk (t : Fin cfg0.N) (i : S1x4096x2048.Idx) (h1 : (i 1).val / 1024 = t.val / 2) (h2 : (i 2).val / 1024 = t.val % 2) :
    i ∈ ((cfg0.win 2).blk t).view.set := by
  obtain ⟨e0, e1, e2⟩ := index2 t
  have b0 : (i 0).val < 1 := (i 0).isLt
  have b1 : (i 1).val < 4096 := (i 1).isLt
  have b2 : (i 2).val < 2048 := (i 2).isLt
  show i ∈ ((View.whole main_v3).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 1024 ≤ (i 1).val ∧ (i 1).val < win0_2.index t 1 * 1024 + 1024; rw [e1]; omega
  | ⟨2, _⟩ => show win0_2.index t 2 * 1024 ≤ (i 2).val ∧ (i 2).val < win0_2.index t 2 * 1024 + 1024; rw [e2]; omega

theorem final (c : Dev nD) : (dats m 0 c).arrAt 2 cfg0.N = result m c :=
  (dats m 0 c).arrAt_eq_of_cover 2 (result m c) (fun t _ => flushed_eq m c t) fun (i : S1x4096x2048.Idx) => by
    have h0 : (i 0).val < 1 := (i 0).isLt
    have h1 : (i 1).val < 4096 := (i 1).isLt
    have h2 : (i 2).val < 2048 := (i 2).isLt
    have hN : cfg0.N = 8 := N_0
    exact ⟨⟨(i 1).val / 1024 * 2 + (i 2).val / 1024, by omega⟩, flush0_2 _, mem_blk _ i (by dsimp only; omega) (by dsimp only; omega)⟩

/-- The reference's array. -/
theorem result_eq (c : Dev nD) : result m c = Cert.ReferenceMmOutIdeal.Read.val_main_v1 (F := Ideal) (X m c) (W m c) := by
  funext (i : S1x4096x2048.Idx)
  rw [Cert.ReferenceMmOutIdeal.Read.val_main_v1_apply, Cert.ReferenceMmOutIdeal.Read.val_main_v0_apply]
  refine Eq.symm (@Finset.sum_congr _ EReal _ _ _ _ _ rfl fun k _ => congrArg₂ (fun u v : EReal => u * v) (at2_eq (X m c) _ _ _ rfl rfl) (at2_eq (W m c) _ _ _ rfl rfl))

theorem algebraic : Cert.algebraic_KernelMmOutIdeal_ReferenceMmOutIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceMmOutIdeal.defs _ _).mono (fun _ h c => ?_) (Cert.ReferenceMmOutIdeal.Value.run (F := Ideal) m' ρ')
  refine ⟨(h c).1.trans ?_, (h c).2⟩
  refine (Cert.ReferenceMmOutIdeal.Read.val_main_v1_eq _ _).trans ?_
  rw [(hagree c).1, (hagree c).2]
  exact (result_eq m c).symm

end Cert.MmOut

end
-- ==== Proof.MmUp.lean ====
module

public import proofs.«01_k».proof.Defs
public import proofs.«01_k».proof.Proof.Gen.KernelMmUpIdeal.Value
public import proofs.«01_k».proof.Proof.Gen.ReferenceMmUpIdeal.Run
public import proofs.«01_k».proof.Proof.Gen.ReferenceMmUpIdeal.Read
public import proofs.«01_k».proof.Proof.Products

@[expose] public section

set_option maxRecDepth 16384

noncomputable section

/-! The up projection. -/

namespace Cert.MmUp

open Idealize.ShloMosaic Idealize.ShloMosaic.TcCoe Idealize.ShloMosaic.Tactic Idealize.SL.Sem
open Idealize.ShloMosaic.ValueIdx Cert.Sums Cert.Products
open Idealize.ShloMosaic.Pipeline (Dat)
open Cert.KernelMmUpIdeal Cert.KernelMmUpIdeal.Gen

variable (m : (ℓ : Loc nD τ sig) → Buf (Elt Ideal) ℓ) (ρ : Dev nD → PrngReg)

/-- One block of the product. -/
def block (x0 : Vec Ideal S1024x2048 .bf16) (x1 : Vec Ideal S1x2048x1408 .bf16) (j : S1x1024x1408.Idx) : EReal :=
  ∑ k : Fin 2048, x0 (ix2 (j 1) k) * x1 (ix3 0 k (j 2))

theorem out_apply (c : Dev nD) (i : grid0.Coords) (a3 : Memref sig .tc .vmem S1024x2048 .bf16) (h3 : a3.IsWhole)
    (a4 : Memref sig .tc .vmem S1x2048x1408 .bf16) (h4 : a4.IsWhole) (a5 : Memref sig .tc .vmem S1x1024x1408 .f32) (h5 : a5.IsWhole)
    (hc0 : cond0_0 i) (hc1 : ¬cond0_1 i) (x0 : Vec Ideal S1024x2048 .bf16) (x1 : Vec Ideal S1x2048x1408 .bf16) (j : S1x1024x1408.Idx) :
    out0_A_2 c i a3 h3 a4 h4 a5 h5 hc0 hc1 x0 x1 j = block x0 x1 j := by
  unfold out0_A_2
  rw [View.read_writes_eq_canon _ _ _ (cover0_A_2 c i a3 h3 a4 h4 a5 h5 hc0 hc1 x0 x1)]
  unfold kernelRun0_A
  dsimp only
  rw [View.canon_unit_zero zero3]
  unfold k0_pay2 k0_pay1
  simp only [View.readAt_eq_ld, h3.read_unread, h4.read_unread, View.ld_unit_zero (S := S1024x2048) zero2,
    View.ld_unit_zero (S := S1x2048x1408) zero3, shapeCast_self]
  exact rows_cols 1024 2048 1408 none x0 x1 _ _ j

theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val % 8 / 2 ∧ win0_1.index t 1 = 0 ∧ win0_1.index t 2 = t.val % 2 :=
  (by decide +kernel : ∀ t : Fin grid0.N, win0_1.index t 0 = t.val % 8 / 2 ∧ win0_1.index t 1 = 0 ∧ win0_1.index t 2 = t.val % 2)
theorem index2 : ∀ t : Fin cfg0.N, win0_2.index t 0 = t.val % 8 / 4 ∧ win0_2.index t 1 = t.val / 8 ∧ win0_2.index t 2 = t.val % 4 :=
  (by decide +kernel : ∀ t : Fin grid0.N, win0_2.index t 0 = t.val % 8 / 4 ∧ win0_2.index t 1 = t.val / 8 ∧ win0_2.index t 2 = t.val % 4)

/-- The arguments. -/
def X (c : Dev nD) : Vec Ideal S4096x2048 .f32 := m ((c : Thread nD τ).loc main_arg0)
def W (c : Dev nD) : Vec Ideal S2048x11008 .f32 := m ((c : Thread nD τ).loc main_arg1)

/-- The host's preparation of the operands. -/
def left (c : Dev nD) : Vec Ideal S4096x2048 .bf16 := V m c main_v5
def right (c : Dev nD) : Vec Ideal S4x2048x2816 .bf16 := V m c main_v4

theorem left_eq (c : Dev nD) (i : S4096x2048.Idx) (r k : Nat) (hr : (i 0).val = r) (hk : (i 1).val = k) :
    left m c i = at2 (X m c) r k := by
  have e : left m c = (truncf .bf16 (X m c : FVec Ideal S4096x2048 .f32) bitsLt_bf16_f32 : FVec Ideal S4096x2048 .bf16) := by
    unfold left V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e]; exact at2_eq (X m c) _ _ _ hr hk

theorem right_eq (c : Dev nD) (i : S4x2048x2816.Idx) (k f : Nat) (hk : (i 1).val = k) (hf : (i 0).val * 2816 + (i 2).val = f) :
    right m c i = chunked (at2 (W m c) k) f := by
  have e : right m c = transpose S4x2048x2816 [1, 0, 2] (shapeCast S2048x4x2816 (truncf .bf16
      (pad S2048x8x1408 ![0, 0, 0] ![0, 0, 32] ![0, 0, 0]
        (shapeCast S2048x8x1376 (W m c) shapeCasts_S2048x11008_S2048x8x1376)
        (sitofp .f32 (constantI S_ 32 0#32)) pads_S2048x8x1376_S2048x8x1408_000_000_0320 h_S_ : FVec Ideal S2048x8x1408 .f32) bitsLt_bf16_f32)
      shapeCasts_S2048x8x1408_S2048x4x2816) transposes_S2048x4x2816_S4x2048x2816_1_0_2 := by
    unfold right V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  rw [e, ← hk, ← hf]
  exact (swap_apply 4 2048 2816 _ _ i).trans (regroup_cols 8 1408 4 2816 2048 _ (fun r f => chunked (at2 (W m c) r) f)
    (pad_cols 8 2048 (shapeCast S2048x8x1376 (W m c) shapeCasts_S2048x11008_S2048x8x1376) (at2 (W m c))
      (split_cols 8 1376 2048 11008 _ rfl _) h_S_ (sitofp .f32 (constantI S_ 32 0#32)) rfl pads_S2048x8x1376_S2048x8x1408_000_000_0320) rfl _ _)

/-- The blocks of the operands. -/
theorem left_apply (c : Dev nD) (t : Fin cfg0.N) (i : S1024x2048.Idx) :
    (iblk m c 0 t : Vec Ideal S1024x2048 .bf16) i = at2 (X m c) (t.val / 8 * 1024 + (i 0).val) (i 1) := by
  obtain ⟨a0, a1⟩ := index0 t
  have e : (iblk m c 0 t : Vec Ideal S1024x2048 .bf16)
      = (win0_0.blk t).view.read (Elt Ideal) (left m c : Buf (Elt Ideal) ((c : Thread nD τ).loc main_v5)) := rfl
  rw [e, View.read_apply]
  refine (cast_eq _ _).trans (left_eq m c _ _ _ ?_ ?_)
  · show win0_0.index t 0 * 1024 + 1 * (i 0).val = _; rw [a0]; omega
  · show win0_0.index t 1 * 2048 + 1 * (i 1).val = _; rw [a1]; omega

theorem right_apply (c : Dev nD) (t : Fin cfg0.N) (i : S1x2048x1408.Idx) :
    (iblk m c 1 t : Vec Ideal S1x2048x1408 .bf16) i = chunked (at2 (W m c) (i 1)) (t.val % 8 * 1408 + (i 2).val) := by
  obtain ⟨a0, a1, a2⟩ := index1 t
  have e : (iblk m c 1 t : Vec Ideal S1x2048x1408 .bf16)
      = (win0_1.blk t).view.read (Elt Ideal) (right m c : Buf (Elt Ideal) ((c : Thread nD τ).loc main_v4)) := rfl
  rw [e, View.read_apply]
  refine (cast_eq _ _).trans (right_eq m c _ _ _ ?_ ?_)
  · show win0_1.index t 1 * 2048 + 1 * (i 1).val = _; rw [a1]; omega
  · show (win0_1.index t 0 * 1 + 1 * (i 0).val) * 2816 + (win0_1.index t 2 * 1408 + 1 * (i 2).val) = _; rw [a0, a2]; have b0 : (i 0).val < 1 := (i 0).isLt; omega

/-- The result. -/
def result (c : Dev nD) : Buf (Elt Ideal) ((c : Thread nD τ).loc main_v6) := fun i : S2x4096x5632.Idx =>
  (∑ k : Fin 2048, at2 (X m c) (i 1) k * chunked (at2 (W m c) k) ((i 0).val * 5632 + (i 2).val) : EReal)

theorem flushed_eq (c : Dev nD) (t : Fin cfg0.N) :
    (dats m 0 c).flushed 2 t = (win0_2.blk t).view.read (Elt Ideal) (result m c) := by
  obtain ⟨e0, e1, e2⟩ := index2 t
  refine (Value.flushed2_A m c t).trans ?_
  funext (j : S1x1024x1408.Idx)
  refine (out_apply c _ _ _ _ _ _ _ _ _ _ _ j).trans ?_
  rw [View.read_apply]
  have key : ∀ e : S2x4096x5632.Idx, (e 1).val = t.val / 8 * 1024 + (j 1).val → (e 0).val * 5632 + (e 2).val = t.val % 8 * 1408 + (j 2).val →
      block (iblk m c 0 t) (iblk m c 1 t) j = result m c e := by
    intro e h0 h1
    refine @Finset.sum_congr _ EReal _ _ _ _ _ rfl fun k _ => ?_
    refine (congrArg₂ (fun u v : EReal => u * v) (left_apply m c t _) (right_apply m c t _)).trans ?_
    rw [h0, h1]
  refine key ((win0_2.blk t).view.emb j) ?_ ?_
  · show win0_2.index t 1 * 1024 + 1 * (j 1).val = _; rw [e1]; omega
  · have b0 : (j 0).val < 1 := (j 0).isLt
    show (win0_2.index t 0 * 1 + 1 * (j 0).val) * 5632 + (win0_2.index t 2 * 1408 + 1 * (j 2).val) = _; rw [e0, e2]; omega

theorem mem_blk (t : Fin cfg0.N) (i : S2x4096x5632.Idx) (h0 : (i 0).val = t.val % 8 / 4) (h1 : (i 1).val / 1024 = t.val / 8) (h2 : (i 2).val / 1408 = t.val % 4) :
    i ∈ ((cfg0.win 2).blk t).view.set := by
  obtain ⟨e0, e1, e2⟩ := index2 t
  have b0 : (i 0).val < 2 := (i 0).isLt
  have b1 : (i 1).val < 4096 := (i 1).isLt
  have b2 : (i 2).val < 5632 := (i 2).isLt
  show i ∈ ((View.whole main_v6).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 1024 ≤ (i 1).val ∧ (i 1).val < win0_2.index t 1 * 1024 + 1024; rw [e1]; omega
  | ⟨2, _⟩ => show win0_2.index t 2 * 1408 ≤ (i 2).val ∧ (i 2).val < win0_2.index t 2 * 1408 + 1408; rw [e2]; omega

theorem final (c : Dev nD) : (dats m 0 c).arrAt 2 cfg0.N = result m c :=
  (dats m 0 c).arrAt_eq_of_cover 2 (result m c) (fun t _ => flushed_eq m c t) fun (i : S2x4096x5632.Idx) => by
    have h0 : (i 0).val < 2 := (i 0).isLt
    have h1 : (i 1).val < 4096 := (i 1).isLt
    have h2 : (i 2).val < 5632 := (i 2).isLt
    have hN : cfg0.N = 32 := N_0
    exact ⟨⟨(i 1).val / 1024 * 8 + (i 0).val * 4 + (i 2).val / 1408, by omega⟩, flush0_2 _, mem_blk _ i (by dsimp only; omega) (by dsimp only; omega) (by dsimp only; omega)⟩

/-- The reference's array. -/
theorem result_eq (c : Dev nD) : result m c = Cert.ReferenceMmUpIdeal.Read.val_main_v4 (F := Ideal) (X m c) (W m c) := by
  funext (i : S2x4096x5632.Idx)
  refine (sum_chunked (fun k : Fin 2048 => at2 (X m c) (i 1) k) (fun n k => at2 (W m c) k n) _).trans (Eq.symm ?_)
  refine (swap_apply 2 4096 5632 _ _ i).trans (regroup_cols 8 1408 2 5632 4096 _
    (fun r f => chunked (fun n => ∑ k : Fin 2048, at2 (X m c) r k * at2 (W m c) k n) f)
    (pad_cols 8 4096 (Cert.ReferenceMmUpIdeal.Read.val_main_v1 (F := Ideal) (X m c) (W m c))
      (fun r n => ∑ k : Fin 2048, at2 (X m c) r k * at2 (W m c) k n) (fun i => ?_) Cert.ReferenceMmUpIdeal.Facts₀.h_S_ _ rfl _) rfl _ _)
  rw [Cert.ReferenceMmUpIdeal.Read.val_main_v1_apply, Cert.ReferenceMmUpIdeal.Read.val_main_v0_apply]
  have h0 : (i 0).val < 4096 := (i 0).isLt
  have h1 : (i 1).val < 8 := (i 1).isLt
  have h2 : (i 2).val < 1376 := (i 2).isLt
  refine @Finset.sum_congr _ EReal _ _ _ _ _ rfl fun k _ => congrArg₂ (fun u v : EReal => u * v) (at2_eq (X m c) _ _ _ ?_ rfl) (at2_eq (W m c) _ _ _ rfl ?_)
  · show (((i 0).val * 8 + (i 1).val) * 1376 + (i 2).val) / 11008 = (i 0).val; omega
  · show (((i 0).val * 8 + (i 1).val) * 1376 + (i 2).val) % 11008 = (i 1).val * 1376 + (i 2).val; omega

theorem algebraic : Cert.algebraic_KernelMmUpIdeal_ReferenceMmUpIdeal := by
  intro m ρ m' ρ' _ hagree
  refine ⟨fun c => result m c, (θ_run defs _ _).mono (fun _ h c => ⟨(h c).1.trans (final m c), (h c).2⟩) (Value.run_blocks m ρ), ?_⟩
  refine (θ_run Cert.ReferenceMmUpIdeal.defs _ _).mono (fun _ h c => ?_) (Cert.ReferenceMmUpIdeal.Value.run (F := Ideal) m' ρ')
  refine ⟨(h c).1.trans ?_, (h c).2⟩
  refine (Cert.ReferenceMmUpIdeal.Read.val_main_v4_eq _ _).trans ?_
  rw [(hagree c).1, (hagree c).2]
  exact (result_eq m c).symm

end Cert.MmUp

end
-- ==== Proof.ReferenceFrames.lean ====
module

public import proofs.«01_k».proof.Defs
public import Idealize.ShloMosaic.Lib.Quiescent
public import proofs.«01_k».proof.Proof.Gen.ReferenceDx1Ideal.Run
public import proofs.«01_k».proof.Proof.Gen.ReferenceDwUpIdeal.Run
public import proofs.«01_k».proof.Proof.Gen.ReferenceDaIdeal.Run
public import proofs.«01_k».proof.Proof.Gen.ReferenceDwDownIdeal.Run
public import proofs.«01_k».proof.Proof.Gen.ReferenceDcatIdeal.Run
public import proofs.«01_k».proof.Proof.Gen.ReferenceDwOutIdeal.Run
public import proofs.«01_k».proof.Proof.Gen.ReferenceDx0Ideal.Run
public import proofs.«01_k».proof.Proof.Gen.ReferenceDwInIdeal.Run
public import proofs.«01_k».proof.Proof.Gen.ReferenceMmInIdeal.Run
public import proofs.«01_k».proof.Proof.Gen.ReferenceMmOutIdeal.Run
public import proofs.«01_k».proof.Proof.Gen.ReferenceMmUpIdeal.Run
public import proofs.«01_k».proof.Proof.Gen.ReferenceMmDownIdeal.Run
public import proofs.«01_k».proof.Proof.Gen.ReferenceLnFwdIdeal.Run
public import proofs.«01_k».proof.Proof.Gen.ReferenceLnBwdIdeal.Run
public import proofs.«01_k».proof.Proof.Gen.ReferenceLossHeadIdeal.Run
public import proofs.«01_k».proof.Proof.Gen.ReferenceSumDevicesIdeal.Run
public import proofs.«01_k».proof.Proof.Gen.ReferenceAdamwDownIdeal.Run
public import proofs.«01_k».proof.Proof.Gen.ReferenceAdamwDownLateIdeal.Run
public import proofs.«01_k».proof.Proof.Gen.ReferenceAdamwUpIdeal.Run
public import proofs.«01_k».proof.Proof.Gen.ReferenceAdamwUpLateIdeal.Run

@[expose] public section

noncomputable section

/-! The references' frames, from their runs. -/

namespace Cert.ReferenceFrames

open Idealize.ShloMosaic Idealize.SL.Sem

theorem referenceDx1Ideal : Cert.quiescent_ReferenceDx1Ideal := fun m ρ _ =>
  (θ_run Cert.ReferenceDx1Ideal.defs _ _).mono (fun r h => ⟨fun c => (h c).2, sem_eq_zero_of_no_sems (by decide) r.2⟩)
    (Cert.ReferenceDx1Ideal.Value.run (F := Ideal) m ρ)

theorem referenceDwUpIdeal : Cert.quiescent_ReferenceDwUpIdeal := fun m ρ _ =>
  (θ_run Cert.ReferenceDwUpIdeal.defs _ _).mono (fun r h => ⟨fun c => (h c).2, sem_eq_zero_of_no_sems (by decide) r.2⟩)
    (Cert.ReferenceDwUpIdeal.Value.run (F := Ideal) m ρ)

theorem referenceDaIdeal : Cert.quiescent_ReferenceDaIdeal := fun m ρ _ =>
  (θ_run Cert.ReferenceDaIdeal.defs _ _).mono (fun r h => ⟨fun c => (h c).2, sem_eq_zero_of_no_sems (by decide) r.2⟩)
    (Cert.ReferenceDaIdeal.Value.run (F := Ideal) m ρ)

theorem referenceDwDownIdeal : Cert.quiescent_ReferenceDwDownIdeal := fun m ρ _ =>
  (θ_run Cert.ReferenceDwDownIdeal.defs _ _).mono (fun r h => ⟨fun c => (h c).2, sem_eq_zero_of_no_sems (by decide) r.2⟩)
    (Cert.ReferenceDwDownIdeal.Value.run (F := Ideal) m ρ)

theorem referenceDcatIdeal : Cert.quiescent_ReferenceDcatIdeal := fun m ρ _ =>
  (θ_run Cert.ReferenceDcatIdeal.defs _ _).mono (fun r h => ⟨fun c => (h c).2, sem_eq_zero_of_no_sems (by decide) r.2⟩)
    (Cert.ReferenceDcatIdeal.Value.run (F := Ideal) m ρ)

theorem referenceDwOutIdeal : Cert.quiescent_ReferenceDwOutIdeal := fun m ρ _ =>
  (θ_run Cert.ReferenceDwOutIdeal.defs _ _).mono (fun r h => ⟨fun c => (h c).2, sem_eq_zero_of_no_sems (by decide) r.2⟩)
    (Cert.ReferenceDwOutIdeal.Value.run (F := Ideal) m ρ)

theorem referenceDx0Ideal : Cert.quiescent_ReferenceDx0Ideal := fun m ρ _ =>
  (θ_run Cert.ReferenceDx0Ideal.defs _ _).mono (fun r h => ⟨fun c => (h c).2, sem_eq_zero_of_no_sems (by decide) r.2⟩)
    (Cert.ReferenceDx0Ideal.Value.run (F := Ideal) m ρ)

theorem referenceDwInIdeal : Cert.quiescent_ReferenceDwInIdeal := fun m ρ _ =>
  (θ_run Cert.ReferenceDwInIdeal.defs _ _).mono (fun r h => ⟨fun c => (h c).2, sem_eq_zero_of_no_sems (by decide) r.2⟩)
    (Cert.ReferenceDwInIdeal.Value.run (F := Ideal) m ρ)

theorem referenceMmInIdeal : Cert.quiescent_ReferenceMmInIdeal := fun m ρ _ =>
  (θ_run Cert.ReferenceMmInIdeal.defs _ _).mono (fun r h => ⟨fun c => (h c).2, sem_eq_zero_of_no_sems (by decide) r.2⟩)
    (Cert.ReferenceMmInIdeal.Value.run (F := Ideal) m ρ)

theorem referenceMmOutIdeal : Cert.quiescent_ReferenceMmOutIdeal := fun m ρ _ =>
  (θ_run Cert.ReferenceMmOutIdeal.defs _ _).mono (fun r h => ⟨fun c => (h c).2, sem_eq_zero_of_no_sems (by decide) r.2⟩)
    (Cert.ReferenceMmOutIdeal.Value.run (F := Ideal) m ρ)

theorem referenceMmUpIdeal : Cert.quiescent_ReferenceMmUpIdeal := fun m ρ _ =>
  (θ_run Cert.ReferenceMmUpIdeal.defs _ _).mono (fun r h => ⟨fun c => (h c).2, sem_eq_zero_of_no_sems (by decide) r.2⟩)
    (Cert.ReferenceMmUpIdeal.Value.run (F := Ideal) m ρ)

theorem referenceMmDownIdeal : Cert.quiescent_ReferenceMmDownIdeal := fun m ρ _ =>
  (θ_run Cert.ReferenceMmDownIdeal.defs _ _).mono (fun r h => ⟨fun c => (h c).2, sem_eq_zero_of_no_sems (by decide) r.2⟩)
    (Cert.ReferenceMmDownIdeal.Value.run (F := Ideal) m ρ)

theorem referenceLnFwdIdeal : Cert.quiescent_ReferenceLnFwdIdeal := fun m ρ _ =>
  (θ_run Cert.ReferenceLnFwdIdeal.defs _ _).mono (fun r h => ⟨fun c => (h c).2.2.2, sem_eq_zero_of_no_sems (by decide) r.2⟩)
    (Cert.ReferenceLnFwdIdeal.Value.run (F := Ideal) m ρ)

theorem referenceLnBwdIdeal : Cert.quiescent_ReferenceLnBwdIdeal := fun m ρ _ =>
  (θ_run Cert.ReferenceLnBwdIdeal.defs _ _).mono (fun r h => ⟨fun c => (h c).2.2.2.2, sem_eq_zero_of_no_sems (by decide) r.2⟩)
    (Cert.ReferenceLnBwdIdeal.Value.run (F := Ideal) m ρ)

theorem referenceLossHeadIdeal : Cert.quiescent_ReferenceLossHeadIdeal := fun m ρ _ =>
  (θ_run Cert.ReferenceLossHeadIdeal.defs _ _).mono (fun r h => ⟨fun c => (h c).2.2, sem_eq_zero_of_no_sems (by decide) r.2⟩)
    (Cert.ReferenceLossHeadIdeal.Value.run (F := Ideal) m ρ)

theorem referenceSumDevicesIdeal : Cert.quiescent_ReferenceSumDevicesIdeal := fun m ρ _ =>
  (θ_run Cert.ReferenceSumDevicesIdeal.defs _ _).mono (fun r h => ⟨fun c => (h c).2, sem_eq_zero_of_no_sems (by decide) r.2⟩)
    (Cert.ReferenceSumDevicesIdeal.Value.run (F := Ideal) m ρ)

theorem referenceAdamwDownIdeal : Cert.quiescent_ReferenceAdamwDownIdeal := fun m ρ _ =>
  (θ_run Cert.ReferenceAdamwDownIdeal.defs _ _).mono (fun r h => ⟨fun c => (h c).2.2.2, sem_eq_zero_of_no_sems (by decide) r.2⟩)
    (Cert.ReferenceAdamwDownIdeal.Value.run (F := Ideal) m ρ)

theorem referenceAdamwDownLateIdeal : Cert.quiescent_ReferenceAdamwDownLateIdeal := fun m ρ _ =>
  (θ_run Cert.ReferenceAdamwDownLateIdeal.defs _ _).mono (fun r h => ⟨fun c => (h c).2.2.2, sem_eq_zero_of_no_sems (by decide) r.2⟩)
    (Cert.ReferenceAdamwDownLateIdeal.Value.run (F := Ideal) m ρ)

theorem referenceAdamwUpIdeal : Cert.quiescent_ReferenceAdamwUpIdeal := fun m ρ _ =>
  (θ_run Cert.ReferenceAdamwUpIdeal.defs _ _).mono (fun r h => ⟨fun c => (h c).2.2.2, sem_eq_zero_of_no_sems (by decide) r.2⟩)
    (Cert.ReferenceAdamwUpIdeal.Value.run (F := Ideal) m ρ)

theorem referenceAdamwUpLateIdeal : Cert.quiescent_ReferenceAdamwUpLateIdeal := fun m ρ _ =>
  (θ_run Cert.ReferenceAdamwUpLateIdeal.defs _ _).mono (fun r h => ⟨fun c => (h c).2.2.2, sem_eq_zero_of_no_sems (by decide) r.2⟩)
    (Cert.ReferenceAdamwUpLateIdeal.Value.run (F := Ideal) m ρ)

end Cert.ReferenceFrames

end
-- ==== Proof.SumDevices.lean ====
module

public import proofs.«01_k».proof.Defs
public import proofs.«01_k».proof.Proof.Gen.KernelSumDevicesIdeal.Value
public import proofs.«01_k».proof.Proof.Gen.ReferenceSumDevicesIdeal.Run
public import proofs.«01_k».proof.Proof.Gen.ReferenceSumDevicesIdeal.Read
public import proofs.«01_k».proof.Proof.LnRow
public import Idealize.ShloMosaic.Lib.Pipeline.ValueKit.Tiles

@[expose] public section

set_option maxRecDepth 16384

noncomputable section

/-! The sum of the devices' small gradients. -/

namespace Cert.SumDevices

open Idealize.ShloMosaic Idealize.ShloMosaic.TcCoe Idealize.SL.Sem
open Cert.LnRow
open Cert.KernelSumDevicesIdeal Cert.KernelSumDevicesIdeal.Gen

/-- A device's slab, read at an entry. -/
theorem slab (x : Vec Ideal S8x1672x128 .f32) (k : Fin 8) (h) (i : S1672x128.Idx) (j : S1x1672x128.Idx)
    (h1 : (j 1).val = (i 0).val) (h2 : (j 2).val = (i 1).val) :
    View.ld x (Rect.unit (s := S8x1672x128) ![k.val, 0, 0] S1x1672x128.size h) j
      = x (Cert.ReferenceSumDevicesIdeal.Read.idx_main_v0 i k) := by
  refine congrArg x (funext fun a => Fin.ext ?_)
  match a with
  | ⟨0, _⟩ => have h0 : (j 0).val < 1 := (j 0).isLt; show k.val + 1 * (j 0).val = k.val; omega
  | ⟨1, _⟩ => show 0 + 1 * (j 1).val = (i 0).val; omega
  | ⟨2, _⟩ => show 0 + 1 * (j 2).val = (i 1).val; omega

theorem e0 (i : S1672x128.Idx) : 0 + 1 * (i 0).val = (i 0).val := by omega
theorem e1 (i : S1672x128.Idx) : 0 + 1 * (i 1).val = (i 1).val := by omega

theorem sum_eq (x : Vec Ideal S8x1672x128 .f32) : Value.G1 x = Cert.ReferenceSumDevicesIdeal.Read.val_main_v0 (F := Ideal) x := by
  funext (i : S1672x128.Idx)
  rw [Cert.ReferenceSumDevicesIdeal.Read.val_main_v0_apply]
  refine Eq.trans ?_ (congrArg₂ (fun u v : EReal => u + v) zeroBits rfl).symm
  rw [zero_add, Fin.sum_univ_eight]
  refine (Value.piece1_0 _ _ _ _ _ _ _ _ i).trans ?_
  refine congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v)
    (congrArg₂ (fun u v : EReal => u + v) ?_ ?_) ?_) ?_) ?_) ?_) ?_) ?_
  · exact slab x 0 _ i _ (e0 i) (e1 i)
  · exact slab x 1 _ i _ (e0 i) (e1 i)
  · exact slab x 2 _ i _ (e0 i) (e1 i)
  · exact slab x 3 _ i _ (e0 i) (e1 i)
  · exact slab x 4 _ i _ (e0 i) (e1 i)
  · exact slab x 5 _ i _ (e0 i) (e1 i)
  · exact slab x 6 _ i _ (e0 i) (e1 i)
  · exact slab x 7 _ i _ (e0 i) (e1 i)

theorem algebraic : Cert.algebraic_KernelSumDevicesIdeal_ReferenceSumDevicesIdeal := by
  intro m ρ m' ρ' _ hagree
  refine ⟨fun c => Value.G1 (m ((c : Thread nD τ).loc main_arg0)), Value.run m ρ, ?_⟩
  refine (θ_run Cert.ReferenceSumDevicesIdeal.defs _ _).mono (fun _ h c => ?_) (Cert.ReferenceSumDevicesIdeal.Value.run (F := Ideal) m' ρ')
  have a0 := hagree c
  refine ⟨(h c).1.trans ?_, (h c).2⟩
  refine (Cert.ReferenceSumDevicesIdeal.Read.val_main_v0_eq _).trans ?_
  rw [a0]
  exact (sum_eq _).symm

end Cert.SumDevices

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelDx1
public import proofs.«01_k».proof.Proof.Gen.KernelDx1.Skeleton
public import proofs.«01_k».proof.Proof.Gen.KernelDx1.Launch
public import proofs.«01_k».proof.Proof.Gen.KernelDx1.Points
public import proofs.«01_k».proof.Proof.Gen.KernelDx1.Frame
public import proofs.«01_k».proof.Proof.Gen.KernelDx1Ideal
public import proofs.«01_k».proof.Proof.Gen.KernelDx1Ideal.Skeleton
public import proofs.«01_k».proof.Proof.Gen.KernelDx1Ideal.Launch
public import proofs.«01_k».proof.Proof.Gen.KernelDx1Ideal.Points
public import proofs.«01_k».proof.Proof.Gen.KernelDx1Ideal.Frame
public import proofs.«01_k».proof.Proof.Gen.KernelDx1Ideal.Value
public import proofs.«01_k».proof.Proof.Gen.ReferenceDx1Ideal
public import proofs.«01_k».proof.Proof.Gen.ReferenceDx1Ideal.Run
public import proofs.«01_k».proof.Proof.Gen.ReferenceDx1Ideal.Read
public import proofs.«01_k».proof.Proof.Gen.KernelDwUp
public import proofs.«01_k».proof.Proof.Gen.KernelDwUp.Skeleton
public import proofs.«01_k».proof.Proof.Gen.KernelDwUp.Launch
public import proofs.«01_k».proof.Proof.Gen.KernelDwUp.Points
public import proofs.«01_k».proof.Proof.Gen.KernelDwUp.Frame
public import proofs.«01_k».proof.Proof.Gen.KernelDwUpIdeal
public import proofs.«01_k».proof.Proof.Gen.KernelDwUpIdeal.Skeleton
public import proofs.«01_k».proof.Proof.Gen.KernelDwUpIdeal.Launch
public import proofs.«01_k».proof.Proof.Gen.KernelDwUpIdeal.Points
public import proofs.«01_k».proof.Proof.Gen.KernelDwUpIdeal.Frame
public import proofs.«01_k».proof.Proof.Gen.KernelDwUpIdeal.Value
public import proofs.«01_k».proof.Proof.Gen.ReferenceDwUpIdeal
public import proofs.«01_k».proof.Proof.Gen.ReferenceDwUpIdeal.Run
public import proofs.«01_k».proof.Proof.Gen.ReferenceDwUpIdeal.Read
public import proofs.«01_k».proof.Proof.Gen.KernelDa
public import proofs.«01_k».proof.Proof.Gen.KernelDa.Skeleton
public import proofs.«01_k».proof.Proof.Gen.KernelDa.Launch
public import proofs.«01_k».proof.Proof.Gen.KernelDa.Points
public import proofs.«01_k».proof.Proof.Gen.KernelDa.Frame
public import proofs.«01_k».proof.Proof.Gen.KernelDaIdeal
public import proofs.«01_k».proof.Proof.Gen.KernelDaIdeal.Skeleton
public import proofs.«01_k».proof.Proof.Gen.KernelDaIdeal.Launch
public import proofs.«01_k».proof.Proof.Gen.KernelDaIdeal.Points
public import proofs.«01_k».proof.Proof.Gen.KernelDaIdeal.Frame
public import proofs.«01_k».proof.Proof.Gen.KernelDaIdeal.Value
public import proofs.«01_k».proof.Proof.Gen.ReferenceDaIdeal
public import proofs.«01_k».proof.Proof.Gen.ReferenceDaIdeal.Run
public import proofs.«01_k».proof.Proof.Gen.ReferenceDaIdeal.Read
public import proofs.«01_k».proof.Proof.Gen.KernelDwDown
public import proofs.«01_k».proof.Proof.Gen.KernelDwDown.Skeleton
public import proofs.«01_k».proof.Proof.Gen.KernelDwDown.Launch
public import proofs.«01_k».proof.Proof.Gen.KernelDwDown.Points
public import proofs.«01_k».proof.Proof.Gen.KernelDwDown.Frame
public import proofs.«01_k».proof.Proof.Gen.KernelDwDownIdeal
public import proofs.«01_k».proof.Proof.Gen.KernelDwDownIdeal.Skeleton
public import proofs.«01_k».proof.Proof.Gen.KernelDwDownIdeal.Launch
public import proofs.«01_k».proof.Proof.Gen.KernelDwDownIdeal.Points
public import proofs.«01_k».proof.Proof.Gen.KernelDwDownIdeal.Frame
public import proofs.«01_k».proof.Proof.Gen.KernelDwDownIdeal.Value
public import proofs.«01_k».proof.Proof.Gen.ReferenceDwDownIdeal
public import proofs.«01_k».proof.Proof.Gen.ReferenceDwDownIdeal.Run
public import proofs.«01_k».proof.Proof.Gen.ReferenceDwDownIdeal.Read
public import proofs.«01_k».proof.Proof.Gen.KernelDcat
public import proofs.«01_k».proof.Proof.Gen.KernelDcat.Skeleton
public import proofs.«01_k».proof.Proof.Gen.KernelDcat.Launch
public import proofs.«01_k».proof.Proof.Gen.KernelDcat.Points
public import proofs.«01_k».proof.Proof.Gen.KernelDcat.Frame
public import proofs.«01_k».proof.Proof.Gen.KernelDcatIdeal
public import proofs.«01_k».proof.Proof.Gen.KernelDcatIdeal.Skeleton
public import proofs.«01_k».proof.Proof.Gen.KernelDcatIdeal.Launch
public import proofs.«01_k».proof.Proof.Gen.KernelDcatIdeal.Points
public import proofs.«01_k».proof.Proof.Gen.KernelDcatIdeal.Frame
public import proofs.«01_k».proof.Proof.Gen.KernelDcatIdeal.Value
public import proofs.«01_k».proof.Proof.Gen.ReferenceDcatIdeal
public import proofs.«01_k».proof.Proof.Gen.ReferenceDcatIdeal.Run
public import proofs.«01_k».proof.Proof.Gen.ReferenceDcatIdeal.Read
public import proofs.«01_k».proof.Proof.Gen.KernelDwOut
public import proofs.«01_k».proof.Proof.Gen.KernelDwOut.Skeleton
public import proofs.«01_k».proof.Proof.Gen.KernelDwOut.Launch
public import proofs.«01_k».proof.Proof.Gen.KernelDwOut.Points
public import proofs.«01_k».proof.Proof.Gen.KernelDwOut.Frame
public import proofs.«01_k».proof.Proof.Gen.KernelDwOutIdeal
public import proofs.«01_k».proof.Proof.Gen.KernelDwOutIdeal.Skeleton
public import proofs.«01_k».proof.Proof.Gen.KernelDwOutIdeal.Launch
public import proofs.«01_k».proof.Proof.Gen.KernelDwOutIdeal.Points
public import proofs.«01_k».proof.Proof.Gen.KernelDwOutIdeal.Frame
public import proofs.«01_k».proof.Proof.Gen.KernelDwOutIdeal.Value
public import proofs.«01_k».proof.Proof.Gen.ReferenceDwOutIdeal
public import proofs.«01_k».proof.Proof.Gen.ReferenceDwOutIdeal.Run
public import proofs.«01_k».proof.Proof.Gen.ReferenceDwOutIdeal.Read
public import proofs.«01_k».proof.Proof.Gen.KernelDx0
public import proofs.«01_k».proof.Proof.Gen.KernelDx0.Skeleton
public import proofs.«01_k».proof.Proof.Gen.KernelDx0.Launch
public import proofs.«01_k».proof.Proof.Gen.KernelDx0.Points
public import proofs.«01_k».proof.Proof.Gen.KernelDx0.Frame
public import proofs.«01_k».proof.Proof.Gen.KernelDx0Ideal
public import proofs.«01_k».proof.Proof.Gen.KernelDx0Ideal.Skeleton
public import proofs.«01_k».proof.Proof.Gen.KernelDx0Ideal.Launch
public import proofs.«01_k».proof.Proof.Gen.KernelDx0Ideal.Points
public import proofs.«01_k».proof.Proof.Gen.KernelDx0Ideal.Frame
public import proofs.«01_k».proof.Proof.Gen.KernelDx0Ideal.Value
public import proofs.«01_k».proof.Proof.Gen.ReferenceDx0Ideal
public import proofs.«01_k».proof.Proof.Gen.ReferenceDx0Ideal.Run
public import proofs.«01_k».proof.Proof.Gen.ReferenceDx0Ideal.Read
public import proofs.«01_k».proof.Proof.Gen.KernelDwIn
public import proofs.«01_k».proof.Proof.Gen.KernelDwIn.Skeleton
public import proofs.«01_k».proof.Proof.Gen.KernelDwIn.Launch
public import proofs.«01_k».proof.Proof.Gen.KernelDwIn.Points
public import proofs.«01_k».proof.Proof.Gen.KernelDwIn.Frame
public import proofs.«01_k».proof.Proof.Gen.KernelDwInIdeal
public import proofs.«01_k».proof.Proof.Gen.KernelDwInIdeal.Skeleton
public import proofs.«01_k».proof.Proof.Gen.KernelDwInIdeal.Launch
public import proofs.«01_k».proof.Proof.Gen.KernelDwInIdeal.Points
public import proofs.«01_k».proof.Proof.Gen.KernelDwInIdeal.Frame
public import proofs.«01_k».proof.Proof.Gen.KernelDwInIdeal.Value
public import proofs.«01_k».proof.Proof.Gen.ReferenceDwInIdeal
public import proofs.«01_k».proof.Proof.Gen.ReferenceDwInIdeal.Run
public import proofs.«01_k».proof.Proof.Gen.ReferenceDwInIdeal.Read
public import proofs.«01_k».proof.Proof.Gen.KernelMmIn
public import proofs.«01_k».proof.Proof.Gen.KernelMmIn.Skeleton
public import proofs.«01_k».proof.Proof.Gen.KernelMmIn.Launch
public import proofs.«01_k».proof.Proof.Gen.KernelMmIn.Points
public import proofs.«01_k».proof.Proof.Gen.KernelMmIn.Frame
public import proofs.«01_k».proof.Proof.Gen.KernelMmInIdeal
public import proofs.«01_k».proof.Proof.Gen.KernelMmInIdeal.Skeleton
public import proofs.«01_k».proof.Proof.Gen.KernelMmInIdeal.Launch
public import proofs.«01_k».proof.Proof.Gen.KernelMmInIdeal.Points
public import proofs.«01_k».proof.Proof.Gen.KernelMmInIdeal.Frame
public import proofs.«01_k».proof.Proof.Gen.KernelMmInIdeal.Value
public import proofs.«01_k».proof.Proof.Gen.ReferenceMmInIdeal
public import proofs.«01_k».proof.Proof.Gen.ReferenceMmInIdeal.Run
public import proofs.«01_k».proof.Proof.Gen.ReferenceMmInIdeal.Read
public import proofs.«01_k».proof.Proof.Gen.KernelMmOut
public import proofs.«01_k».proof.Proof.Gen.KernelMmOut.Skeleton
public import proofs.«01_k».proof.Proof.Gen.KernelMmOut.Launch
public import proofs.«01_k».proof.Proof.Gen.KernelMmOut.Points
public import proofs.«01_k».proof.Proof.Gen.KernelMmOut.Frame
public import proofs.«01_k».proof.Proof.Gen.KernelMmOutIdeal
public import proofs.«01_k».proof.Proof.Gen.KernelMmOutIdeal.Skeleton
public import proofs.«01_k».proof.Proof.Gen.KernelMmOutIdeal.Launch
public import proofs.«01_k».proof.Proof.Gen.KernelMmOutIdeal.Points
public import proofs.«01_k».proof.Proof.Gen.KernelMmOutIdeal.Frame
public import proofs.«01_k».proof.Proof.Gen.KernelMmOutIdeal.Value
public import proofs.«01_k».proof.Proof.Gen.ReferenceMmOutIdeal
public import proofs.«01_k».proof.Proof.Gen.ReferenceMmOutIdeal.Run
public import proofs.«01_k».proof.Proof.Gen.ReferenceMmOutIdeal.Read
public import proofs.«01_k».proof.Proof.Gen.KernelMmUp
public import proofs.«01_k».proof.Proof.Gen.KernelMmUp.Skeleton
public import proofs.«01_k».proof.Proof.Gen.KernelMmUp.Launch
public import proofs.«01_k».proof.Proof.Gen.KernelMmUp.Points
public import proofs.«01_k».proof.Proof.Gen.KernelMmUp.Frame
public import proofs.«01_k».proof.Proof.Gen.KernelMmUpIdeal
public import proofs.«01_k».proof.Proof.Gen.KernelMmUpIdeal.Skeleton
public import proofs.«01_k».proof.Proof.Gen.KernelMmUpIdeal.Launch
public import proofs.«01_k».proof.Proof.Gen.KernelMmUpIdeal.Points
public import proofs.«01_k».proof.Proof.Gen.KernelMmUpIdeal.Frame
public import proofs.«01_k».proof.Proof.Gen.KernelMmUpIdeal.Value
public import proofs.«01_k».proof.Proof.Gen.ReferenceMmUpIdeal
public import proofs.«01_k».proof.Proof.Gen.ReferenceMmUpIdeal.Run
public import proofs.«01_k».proof.Proof.Gen.ReferenceMmUpIdeal.Read
public import proofs.«01_k».proof.Proof.Gen.KernelMmDown
public import proofs.«01_k».proof.Proof.Gen.KernelMmDown.Skeleton
public import proofs.«01_k».proof.Proof.Gen.KernelMmDown.Launch
public import proofs.«01_k».proof.Proof.Gen.KernelMmDown.Points
public import proofs.«01_k».proof.Proof.Gen.KernelMmDown.Frame
public import proofs.«01_k».proof.Proof.Gen.KernelMmDownIdeal
public import proofs.«01_k».proof.Proof.Gen.KernelMmDownIdeal.Skeleton
public import proofs.«01_k».proof.Proof.Gen.KernelMmDownIdeal.Launch
public import proofs.«01_k».proof.Proof.Gen.KernelMmDownIdeal.Points
public import proofs.«01_k».proof.Proof.Gen.KernelMmDownIdeal.Frame
public import proofs.«01_k».proof.Proof.Gen.KernelMmDownIdeal.Value
public import proofs.«01_k».proof.Proof.Gen.ReferenceMmDownIdeal
public import proofs.«01_k».proof.Proof.Gen.ReferenceMmDownIdeal.Run
public import proofs.«01_k».proof.Proof.Gen.ReferenceMmDownIdeal.Read
public import proofs.«01_k».proof.Proof.Gen.KernelLnFwd
public import proofs.«01_k».proof.Proof.Gen.KernelLnFwd.Skeleton
public import proofs.«01_k».proof.Proof.Gen.KernelLnFwd.Launch
public import proofs.«01_k».proof.Proof.Gen.KernelLnFwd.Points
public import proofs.«01_k».proof.Proof.Gen.KernelLnFwd.Frame
public import proofs.«01_k».proof.Proof.Gen.KernelLnFwdIdeal
public import proofs.«01_k».proof.Proof.Gen.KernelLnFwdIdeal.Skeleton
public import proofs.«01_k».proof.Proof.Gen.KernelLnFwdIdeal.Launch
public import proofs.«01_k».proof.Proof.Gen.KernelLnFwdIdeal.Points
public import proofs.«01_k».proof.Proof.Gen.KernelLnFwdIdeal.Frame
public import proofs.«01_k».proof.Proof.Gen.KernelLnFwdIdeal.Value
public import proofs.«01_k».proof.Proof.Gen.ReferenceLnFwdIdeal
public import proofs.«01_k».proof.Proof.Gen.ReferenceLnFwdIdeal.Run
public import proofs.«01_k».proof.Proof.Gen.ReferenceLnFwdIdeal.Read
public import proofs.«01_k».proof.Proof.Gen.KernelLnBwd
public import proofs.«01_k».proof.Proof.Gen.KernelLnBwd.Skeleton
public import proofs.«01_k».proof.Proof.Gen.KernelLnBwd.Launch
public import proofs.«01_k».proof.Proof.Gen.KernelLnBwd.Points
public import proofs.«01_k».proof.Proof.Gen.KernelLnBwd.Frame
public import proofs.«01_k».proof.Proof.Gen.KernelLnBwdIdeal
public import proofs.«01_k».proof.Proof.Gen.KernelLnBwdIdeal.Skeleton
public import proofs.«01_k».proof.Proof.Gen.KernelLnBwdIdeal.Launch
public import proofs.«01_k».proof.Proof.Gen.KernelLnBwdIdeal.Points
public import proofs.«01_k».proof.Proof.Gen.KernelLnBwdIdeal.Frame
public import proofs.«01_k».proof.Proof.Gen.KernelLnBwdIdeal.Value
public import proofs.«01_k».proof.Proof.Gen.ReferenceLnBwdIdeal
public import proofs.«01_k».proof.Proof.Gen.ReferenceLnBwdIdeal.Run
public import proofs.«01_k».proof.Proof.Gen.ReferenceLnBwdIdeal.Read
public import proofs.«01_k».proof.Proof.Gen.KernelLossHead
public import proofs.«01_k».proof.Proof.Gen.KernelLossHead.Skeleton
public import proofs.«01_k».proof.Proof.Gen.KernelLossHead.Launch
public import proofs.«01_k».proof.Proof.Gen.KernelLossHead.Points
public import proofs.«01_k».proof.Proof.Gen.KernelLossHead.Frame
public import proofs.«01_k».proof.Proof.Gen.KernelLossHeadIdeal
public import proofs.«01_k».proof.Proof.Gen.KernelLossHeadIdeal.Skeleton
public import proofs.«01_k».proof.Proof.Gen.KernelLossHeadIdeal.Launch
public import proofs.«01_k».proof.Proof.Gen.KernelLossHeadIdeal.Points
public import proofs.«01_k».proof.Proof.Gen.KernelLossHeadIdeal.Frame
public import proofs.«01_k».proof.Proof.Gen.KernelLossHeadIdeal.Value
public import proofs.«01_k».proof.Proof.Gen.ReferenceLossHeadIdeal
public import proofs.«01_k».proof.Proof.Gen.ReferenceLossHeadIdeal.Run
public import proofs.«01_k».proof.Proof.Gen.ReferenceLossHeadIdeal.Read
public import proofs.«01_k».proof.Proof.Gen.KernelSumDevices
public import proofs.«01_k».proof.Proof.Gen.KernelSumDevices.Skeleton
public import proofs.«01_k».proof.Proof.Gen.KernelSumDevices.Launch
public import proofs.«01_k».proof.Proof.Gen.KernelSumDevices.Points
public import proofs.«01_k».proof.Proof.Gen.KernelSumDevices.Frame
public import proofs.«01_k».proof.Proof.Gen.KernelSumDevicesIdeal
public import proofs.«01_k».proof.Proof.Gen.KernelSumDevicesIdeal.Skeleton
public import proofs.«01_k».proof.Proof.Gen.KernelSumDevicesIdeal.Launch
public import proofs.«01_k».proof.Proof.Gen.KernelSumDevicesIdeal.Points
public import proofs.«01_k».proof.Proof.Gen.KernelSumDevicesIdeal.Frame
public import proofs.«01_k».proof.Proof.Gen.KernelSumDevicesIdeal.Value
public import proofs.«01_k».proof.Proof.Gen.ReferenceSumDevicesIdeal
public import proofs.«01_k».proof.Proof.Gen.ReferenceSumDevicesIdeal.Run
public import proofs.«01_k».proof.Proof.Gen.ReferenceSumDevicesIdeal.Read
public import proofs.«01_k».proof.Proof.Gen.KernelAdamwDown
public import proofs.«01_k».proof.Proof.Gen.KernelAdamwDown.Skeleton
public import proofs.«01_k».proof.Proof.Gen.KernelAdamwDown.Launch
public import proofs.«01_k».proof.Proof.Gen.KernelAdamwDown.Points
public import proofs.«01_k».proof.Proof.Gen.KernelAdamwDown.Frame
public import proofs.«01_k».proof.Proof.Gen.KernelAdamwDownIdeal
public import proofs.«01_k».proof.Proof.Gen.KernelAdamwDownIdeal.Skeleton
public import proofs.«01_k».proof.Proof.Gen.KernelAdamwDownIdeal.Launch
public import proofs.«01_k».proof.Proof.Gen.KernelAdamwDownIdeal.Points
public import proofs.«01_k».proof.Proof.Gen.KernelAdamwDownIdeal.Frame
public import proofs.«01_k».proof.Proof.Gen.KernelAdamwDownIdeal.Value
public import proofs.«01_k».proof.Proof.Gen.ReferenceAdamwDownIdeal
public import proofs.«01_k».proof.Proof.Gen.ReferenceAdamwDownIdeal.Run
public import proofs.«01_k».proof.Proof.Gen.ReferenceAdamwDownIdeal.Read
public import proofs.«01_k».proof.Proof.Gen.KernelAdamwDownLate
public import proofs.«01_k».proof.Proof.Gen.KernelAdamwDownLate.Skeleton
public import proofs.«01_k».proof.Proof.Gen.KernelAdamwDownLate.Launch
public import proofs.«01_k».proof.Proof.Gen.KernelAdamwDownLate.Points
public import proofs.«01_k».proof.Proof.Gen.KernelAdamwDownLate.Frame
public import proofs.«01_k».proof.Proof.Gen.KernelAdamwDownLateIdeal
public import proofs.«01_k».proof.Proof.Gen.KernelAdamwDownLateIdeal.Skeleton
public import proofs.«01_k».proof.Proof.Gen.KernelAdamwDownLateIdeal.Launch
public import proofs.«01_k».proof.Proof.Gen.KernelAdamwDownLateIdeal.Points
public import proofs.«01_k».proof.Proof.Gen.KernelAdamwDownLateIdeal.Frame
public import proofs.«01_k».proof.Proof.Gen.ReferenceAdamwDownLateIdeal
public import proofs.«01_k».proof.Proof.Gen.ReferenceAdamwDownLateIdeal.Run
public import proofs.«01_k».proof.Proof.Gen.ReferenceAdamwDownLateIdeal.Read
public import proofs.«01_k».proof.Proof.Gen.KernelAdamwUp
public import proofs.«01_k».proof.Proof.Gen.KernelAdamwUp.Skeleton
public import proofs.«01_k».proof.Proof.Gen.KernelAdamwUp.Launch
public import proofs.«01_k».proof.Proof.Gen.KernelAdamwUp.Points
public import proofs.«01_k».proof.Proof.Gen.KernelAdamwUp.Frame
public import proofs.«01_k».proof.Proof.Gen.KernelAdamwUpIdeal
public import proofs.«01_k».proof.Proof.Gen.KernelAdamwUpIdeal.Skeleton
public import proofs.«01_k».proof.Proof.Gen.KernelAdamwUpIdeal.Launch
public import proofs.«01_k».proof.Proof.Gen.KernelAdamwUpIdeal.Points
public import proofs.«01_k».proof.Proof.Gen.KernelAdamwUpIdeal.Frame
public import proofs.«01_k».proof.Proof.Gen.KernelAdamwUpIdeal.Value
public import proofs.«01_k».proof.Proof.Gen.ReferenceAdamwUpIdeal
public import proofs.«01_k».proof.Proof.Gen.ReferenceAdamwUpIdeal.Run
public import proofs.«01_k».proof.Proof.Gen.ReferenceAdamwUpIdeal.Read
public import proofs.«01_k».proof.Proof.Gen.KernelAdamwUpLate
public import proofs.«01_k».proof.Proof.Gen.KernelAdamwUpLate.Skeleton
public import proofs.«01_k».proof.Proof.Gen.KernelAdamwUpLate.Launch
public import proofs.«01_k».proof.Proof.Gen.KernelAdamwUpLate.Points
public import proofs.«01_k».proof.Proof.Gen.KernelAdamwUpLate.Frame
public import proofs.«01_k».proof.Proof.Gen.KernelAdamwUpLateIdeal
public import proofs.«01_k».proof.Proof.Gen.KernelAdamwUpLateIdeal.Skeleton
public import proofs.«01_k».proof.Proof.Gen.KernelAdamwUpLateIdeal.Launch
public import proofs.«01_k».proof.Proof.Gen.KernelAdamwUpLateIdeal.Points
public import proofs.«01_k».proof.Proof.Gen.KernelAdamwUpLateIdeal.Frame
public import proofs.«01_k».proof.Proof.Gen.ReferenceAdamwUpLateIdeal
public import proofs.«01_k».proof.Proof.Gen.ReferenceAdamwUpLateIdeal.Run
public import proofs.«01_k».proof.Proof.Gen.ReferenceAdamwUpLateIdeal.Read
public import proofs.«01_k».proof.Proof.Gen.Pre_finite
public import proofs.«01_k».proof.Proof.Gen.Pre_finite_ln
public import proofs.«01_k».proof.Proof.AdamwDown
public import proofs.«01_k».proof.Proof.AdamwDownLate
public import proofs.«01_k».proof.Proof.AdamwUp
public import proofs.«01_k».proof.Proof.AdamwUpLate
public import proofs.«01_k».proof.Proof.Attn
public import proofs.«01_k».proof.Proof.Da
public import proofs.«01_k».proof.Proof.Dcat
public import proofs.«01_k».proof.Proof.DwDown
public import proofs.«01_k».proof.Proof.DwIn
public import proofs.«01_k».proof.Proof.DwOut
public import proofs.«01_k».proof.Proof.DwUp
public import proofs.«01_k».proof.Proof.Dx0
public import proofs.«01_k».proof.Proof.Dx1
public import proofs.«01_k».proof.Proof.LnBwd
public import proofs.«01_k».proof.Proof.LnFwd
public import proofs.«01_k».proof.Proof.LossHead
public import proofs.«01_k».proof.Proof.MmDown
public import proofs.«01_k».proof.Proof.MmIn
public import proofs.«01_k».proof.Proof.MmOut
public import proofs.«01_k».proof.Proof.MmUp
public import proofs.«01_k».proof.Proof.ReferenceFrames
public import proofs.«01_k».proof.Proof.SumDevices
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.KernelDx1.Gen.facts, Cert.KernelDx1Ideal.Gen.facts, Cert.ReferenceDx1Ideal.Gen.facts, Cert.KernelDwUp.Gen.facts, Cert.KernelDwUpIdeal.Gen.facts, Cert.ReferenceDwUpIdeal.Gen.facts, Cert.KernelDa.Gen.facts, Cert.KernelDaIdeal.Gen.facts, Cert.ReferenceDaIdeal.Gen.facts, Cert.KernelDwDown.Gen.facts, Cert.KernelDwDownIdeal.Gen.facts, Cert.ReferenceDwDownIdeal.Gen.facts, Cert.KernelDcat.Gen.facts, Cert.KernelDcatIdeal.Gen.facts, Cert.ReferenceDcatIdeal.Gen.facts, Cert.KernelDwOut.Gen.facts, Cert.KernelDwOutIdeal.Gen.facts, Cert.ReferenceDwOutIdeal.Gen.facts, Cert.KernelDx0.Gen.facts, Cert.KernelDx0Ideal.Gen.facts, Cert.ReferenceDx0Ideal.Gen.facts, Cert.KernelDwIn.Gen.facts, Cert.KernelDwInIdeal.Gen.facts, Cert.ReferenceDwInIdeal.Gen.facts, Cert.KernelMmIn.Gen.facts, Cert.KernelMmInIdeal.Gen.facts, Cert.ReferenceMmInIdeal.Gen.facts, Cert.KernelMmOut.Gen.facts, Cert.KernelMmOutIdeal.Gen.facts, Cert.ReferenceMmOutIdeal.Gen.facts, Cert.KernelMmUp.Gen.facts, Cert.KernelMmUpIdeal.Gen.facts, Cert.ReferenceMmUpIdeal.Gen.facts, Cert.KernelMmDown.Gen.facts, Cert.KernelMmDownIdeal.Gen.facts, Cert.ReferenceMmDownIdeal.Gen.facts, Cert.KernelLnFwd.Gen.facts, Cert.KernelLnFwdIdeal.Gen.facts, Cert.ReferenceLnFwdIdeal.Gen.facts, Cert.KernelLnBwd.Gen.facts, Cert.KernelLnBwdIdeal.Gen.facts, Cert.ReferenceLnBwdIdeal.Gen.facts, Cert.KernelLossHead.Gen.facts, Cert.KernelLossHeadIdeal.Gen.facts, Cert.ReferenceLossHeadIdeal.Gen.facts, Cert.KernelSumDevices.Gen.facts, Cert.KernelSumDevicesIdeal.Gen.facts, Cert.ReferenceSumDevicesIdeal.Gen.facts, Cert.KernelAdamwDown.Gen.facts, Cert.KernelAdamwDownIdeal.Gen.facts, Cert.ReferenceAdamwDownIdeal.Gen.facts, Cert.KernelAdamwDownLate.Gen.facts, Cert.KernelAdamwDownLateIdeal.Gen.facts, Cert.ReferenceAdamwDownLateIdeal.Gen.facts, Cert.KernelAdamwUp.Gen.facts, Cert.KernelAdamwUpIdeal.Gen.facts, Cert.ReferenceAdamwUpIdeal.Gen.facts, Cert.KernelAdamwUpLate.Gen.facts, Cert.KernelAdamwUpLateIdeal.Gen.facts, Cert.ReferenceAdamwUpLateIdeal.Gen.facts, Cert.Pre_finite.Gen.facts, Cert.Pre_finite_ln.Gen.facts,
  Cert.Attn.frame_kernel,
  Cert.Attn.frame_kernelIdeal,
  Cert.Attn.frame_kernelIdeal_finite,
  Cert.Attn.frame_reference,
  Cert.Attn.frame_reference_finite,
  fun m ρ _ => Cert.KernelDx1.Gen.frame m ρ,
  fun m ρ _ => Cert.KernelDx1Ideal.Gen.frame m ρ,
  Cert.ReferenceFrames.referenceDx1Ideal,
  fun m ρ _ => Cert.KernelDwUp.Gen.frame m ρ,
  fun m ρ _ => Cert.KernelDwUpIdeal.Gen.frame m ρ,
  Cert.ReferenceFrames.referenceDwUpIdeal,
  fun m ρ _ => Cert.KernelDa.Gen.frame m ρ,
  fun m ρ _ => Cert.KernelDaIdeal.Gen.frame m ρ,
  Cert.ReferenceFrames.referenceDaIdeal,
  fun m ρ _ => Cert.KernelDwDown.Gen.frame m ρ,
  fun m ρ _ => Cert.KernelDwDownIdeal.Gen.frame m ρ,
  Cert.ReferenceFrames.referenceDwDownIdeal,
  fun m ρ _ => Cert.KernelDcat.Gen.frame m ρ,
  fun m ρ _ => Cert.KernelDcatIdeal.Gen.frame m ρ,
  Cert.ReferenceFrames.referenceDcatIdeal,
  fun m ρ _ => Cert.KernelDwOut.Gen.frame m ρ,
  fun m ρ _ => Cert.KernelDwOutIdeal.Gen.frame m ρ,
  Cert.ReferenceFrames.referenceDwOutIdeal,
  fun m ρ _ => Cert.KernelDx0.Gen.frame m ρ,
  fun m ρ _ => Cert.KernelDx0Ideal.Gen.frame m ρ,
  Cert.ReferenceFrames.referenceDx0Ideal,
  fun m ρ _ => Cert.KernelDwIn.Gen.frame m ρ,
  fun m ρ _ => Cert.KernelDwInIdeal.Gen.frame m ρ,
  Cert.ReferenceFrames.referenceDwInIdeal,
  fun m ρ _ => Cert.KernelMmIn.Gen.frame m ρ,
  fun m ρ _ => Cert.KernelMmInIdeal.Gen.frame m ρ,
  Cert.ReferenceFrames.referenceMmInIdeal,
  fun m ρ _ => Cert.KernelMmOut.Gen.frame m ρ,
  fun m ρ _ => Cert.KernelMmOutIdeal.Gen.frame m ρ,
  Cert.ReferenceFrames.referenceMmOutIdeal,
  fun m ρ _ => Cert.KernelMmUp.Gen.frame m ρ,
  fun m ρ _ => Cert.KernelMmUpIdeal.Gen.frame m ρ,
  Cert.ReferenceFrames.referenceMmUpIdeal,
  fun m ρ _ => Cert.KernelMmDown.Gen.frame m ρ,
  fun m ρ _ => Cert.KernelMmDownIdeal.Gen.frame m ρ,
  Cert.ReferenceFrames.referenceMmDownIdeal,
  fun m ρ _ => Cert.KernelLnFwd.Gen.frame m ρ,
  fun m ρ _ => Cert.KernelLnFwdIdeal.Gen.frame m ρ,
  Cert.ReferenceFrames.referenceLnFwdIdeal,
  fun m ρ _ => Cert.KernelLnBwd.Gen.frame m ρ,
  fun m ρ _ => Cert.KernelLnBwdIdeal.Gen.frame m ρ,
  fun m ρ _ => Cert.KernelLnBwdIdeal.Gen.frame m ρ,
  Cert.ReferenceFrames.referenceLnBwdIdeal,
  fun m ρ _ => Cert.ReferenceFrames.referenceLnBwdIdeal m ρ trivial,
  fun m ρ _ => Cert.KernelLossHead.Gen.frame m ρ,
  fun m ρ _ => Cert.KernelLossHeadIdeal.Gen.frame m ρ,
  Cert.ReferenceFrames.referenceLossHeadIdeal,
  fun m ρ _ => Cert.KernelSumDevices.Gen.frame m ρ,
  fun m ρ _ => Cert.KernelSumDevicesIdeal.Gen.frame m ρ,
  Cert.ReferenceFrames.referenceSumDevicesIdeal,
  fun m ρ _ => Cert.KernelAdamwDown.Gen.frame m ρ,
  fun m ρ _ => Cert.KernelAdamwDownIdeal.Gen.frame m ρ,
  Cert.ReferenceFrames.referenceAdamwDownIdeal,
  fun m ρ _ => Cert.KernelAdamwDownLate.Gen.frame m ρ,
  fun m ρ _ => Cert.KernelAdamwDownLateIdeal.Gen.frame m ρ,
  Cert.ReferenceFrames.referenceAdamwDownLateIdeal,
  fun m ρ _ => Cert.KernelAdamwUp.Gen.frame m ρ,
  fun m ρ _ => Cert.KernelAdamwUpIdeal.Gen.frame m ρ,
  Cert.ReferenceFrames.referenceAdamwUpIdeal,
  fun m ρ _ => Cert.KernelAdamwUpLate.Gen.frame m ρ,
  fun m ρ _ => Cert.KernelAdamwUpLateIdeal.Gen.frame m ρ,
  Cert.ReferenceFrames.referenceAdamwUpLateIdeal,
  Cert.Attn.preserves,
  Cert.Attn.algebraic,
  trivial,
  Cert.Dx1.algebraic,
  trivial,
  Cert.DwUp.algebraic,
  trivial,
  Cert.Da.algebraic,
  trivial,
  Cert.DwDown.algebraic,
  trivial,
  Cert.Dcat.algebraic,
  trivial,
  Cert.DwOut.algebraic,
  trivial,
  Cert.Dx0.algebraic,
  trivial,
  Cert.DwIn.algebraic,
  trivial,
  Cert.MmIn.algebraic,
  trivial,
  Cert.MmOut.algebraic,
  trivial,
  Cert.MmUp.algebraic,
  trivial,
  Cert.MmDown.algebraic,
  trivial,
  Cert.LnFwd.algebraic,
  trivial,
  Cert.LnBwd.algebraic,
  trivial,
  Cert.LossHead.algebraic,
  trivial,
  Cert.SumDevices.algebraic,
  trivial,
  Cert.AdamwDown.algebraic,
  trivial,
  Cert.AdamwDownLate.algebraic,
  trivial,
  Cert.AdamwUp.algebraic,
  trivial,
  Cert.AdamwUpLate.algebraic⟩

end Cert.Proof

end
